-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_attention_finite [hPre_attention_finite : Cert.Pre_attention_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_attention_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_attention_finite [hPre_attention_finite : Cert.Pre_attention_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_attention_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_heads_finite [hPre_heads_finite : Cert.Pre_heads_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_heads_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_heads_finite [hPre_heads_finite : Cert.Pre_heads_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_heads_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_block_finite [hPre_block_finite : Cert.Pre_block_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_block_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_block_finite [hPre_block_finite : Cert.Pre_block_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_block_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_attention_finite [hKernel2Ideal : Cert.Kernel2Ideal.Facts] [hPre_attention_finite : Cert.Pre_attention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_attention_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_attention_finite [hReference2Ideal : Cert.Reference2Ideal.Facts] [hPre_attention_finite : Cert.Pre_attention_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_attention_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_heads_finite [hKernel3Ideal : Cert.Kernel3Ideal.Facts] [hPre_heads_finite : Cert.Pre_heads_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_heads_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_heads_finite [hReference3Ideal : Cert.Reference3Ideal.Facts] [hPre_heads_finite : Cert.Pre_heads_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_heads_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Kernel4Ideal_pre_block_finite [hKernel4Ideal : Cert.Kernel4Ideal.Facts] [hPre_block_finite : Cert.Pre_block_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_block_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Reference4Ideal_pre_block_finite [hReference4Ideal : Cert.Reference4Ideal.Facts] [hPre_block_finite : Cert.Pre_block_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_block_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8)
      ∧ r.2.mem ((c.tc : Thread Cert.Kernel7.nD Cert.Kernel7.τ).loc Cert.Kernel7.main_arg9) = m ((c.tc : Thread Cert.Kernel7.nD Cert.Kernel7.τ).loc Cert.Kernel7.main_arg9))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8)
      ∧ r.2.mem ((c.tc : Thread Cert.Kernel7Ideal.nD Cert.Kernel7Ideal.τ).loc Cert.Kernel7Ideal.main_arg9) = m ((c.tc : Thread Cert.Kernel7Ideal.nD Cert.Kernel7Ideal.τ).loc Cert.Kernel7Ideal.main_arg9))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8)
      ∧ r.2.mem ((c.tc : Thread Cert.Kernel9.nD Cert.Kernel9.τ).loc Cert.Kernel9.main_arg9) = m ((c.tc : Thread Cert.Kernel9.nD Cert.Kernel9.τ).loc Cert.Kernel9.main_arg9)
      ∧ r.2.mem ((c.tc : Thread Cert.Kernel9.nD Cert.Kernel9.τ).loc Cert.Kernel9.main_arg10) = m ((c.tc : Thread Cert.Kernel9.nD Cert.Kernel9.τ).loc Cert.Kernel9.main_arg10)
      ∧ r.2.mem ((c.tc : Thread Cert.Kernel9.nD Cert.Kernel9.τ).loc Cert.Kernel9.main_arg11) = m ((c.tc : Thread Cert.Kernel9.nD Cert.Kernel9.τ).loc Cert.Kernel9.main_arg11))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
      ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
      ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
      ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8)
      ∧ r.2.mem ((c.tc : Thread Cert.Reference9Ideal.nD Cert.Reference9Ideal.τ).loc Cert.Reference9Ideal.main_arg9) = m ((c.tc : Thread Cert.Reference9Ideal.nD Cert.Reference9Ideal.τ).loc Cert.Reference9Ideal.main_arg9)
      ∧ r.2.mem ((c.tc : Thread Cert.Reference9Ideal.nD Cert.Reference9Ideal.τ).loc Cert.Reference9Ideal.main_arg10) = m ((c.tc : Thread Cert.Reference9Ideal.nD Cert.Reference9Ideal.τ).loc Cert.Reference9Ideal.main_arg10)
      ∧ r.2.mem ((c.tc : Thread Cert.Reference9Ideal.nD Cert.Reference9Ideal.τ).loc Cert.Reference9Ideal.main_arg11) = m ((c.tc : Thread Cert.Reference9Ideal.nD Cert.Reference9Ideal.τ).loc Cert.Reference9Ideal.main_arg11))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_pre_attention_finite [hKernel2Ideal : Cert.Kernel2Ideal.Facts] [hReference2Ideal : Cert.Reference2Ideal.Facts] [hPre_attention_finite : Cert.Pre_attention_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_attention_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v59_0)) (v1 : (c : Dev Cert.Kernel2Ideal.nD) → Buf (Elt Ideal) ((c.tc : Thread Cert.Kernel2Ideal.nD Cert.Kernel2Ideal.τ).loc Cert.Kernel2Ideal.main_v59_1)) (v2 : (c : Dev Cert.Kernel2Ideal.nD) → Buf (Elt Ideal) ((c.tc : Thread Cert.Kernel2Ideal.nD Cert.Kernel2Ideal.τ).loc Cert.Kernel2Ideal.main_v59_2)) (v3 : (c : Dev Cert.Kernel2Ideal.nD) → Buf (Elt Ideal) ((c.tc : Thread Cert.Kernel2Ideal.nD Cert.Kernel2Ideal.τ).loc Cert.Kernel2Ideal.main_v59_3)) (v4 : (c : Dev Cert.Kernel2Ideal.nD) → Buf (Elt Ideal) ((c.tc : Thread Cert.Kernel2Ideal.nD Cert.Kernel2Ideal.τ).loc Cert.Kernel2Ideal.main_v59_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v59_0) = v0 c
          ∧ r.2.mem ((c.tc : Thread Cert.Kernel2Ideal.nD Cert.Kernel2Ideal.τ).loc Cert.Kernel2Ideal.main_v59_1) = v1 c
          ∧ r.2.mem ((c.tc : Thread Cert.Kernel2Ideal.nD Cert.Kernel2Ideal.τ).loc Cert.Kernel2Ideal.main_v59_2) = v2 c
          ∧ r.2.mem ((c.tc : Thread Cert.Kernel2Ideal.nD Cert.Kernel2Ideal.τ).loc Cert.Kernel2Ideal.main_v59_3) = v3 c
          ∧ r.2.mem ((c.tc : Thread Cert.Kernel2Ideal.nD Cert.Kernel2Ideal.τ).loc Cert.Kernel2Ideal.main_v59_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v68) = v0 c
          ∧ r.2.mem ((c.tc : Thread Cert.Reference2Ideal.nD Cert.Reference2Ideal.τ).loc Cert.Reference2Ideal.main_v71) = v1 c
          ∧ r.2.mem ((c.tc : Thread Cert.Reference2Ideal.nD Cert.Reference2Ideal.τ).loc Cert.Reference2Ideal.main_v74) = v2 c
          ∧ r.2.mem ((c.tc : Thread Cert.Reference2Ideal.nD Cert.Reference2Ideal.τ).loc Cert.Reference2Ideal.main_v76) = v3 c
          ∧ r.2.mem ((c.tc : Thread Cert.Reference2Ideal.nD Cert.Reference2Ideal.τ).loc Cert.Reference2Ideal.main_v78) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_heads_finite [hKernel3Ideal : Cert.Kernel3Ideal.Facts] [hReference3Ideal : Cert.Reference3Ideal.Facts] [hPre_heads_finite : Cert.Pre_heads_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_heads_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_block_finite [hKernel4Ideal : Cert.Kernel4Ideal.Facts] [hReference4Ideal : Cert.Reference4Ideal.Facts] [hPre_block_finite : Cert.Pre_block_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_block_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)) (v4 : (c : Dev Cert.Kernel4Ideal.nD) → Buf (Elt Ideal) ((c.tc : Thread Cert.Kernel4Ideal.nD Cert.Kernel4Ideal.τ).loc Cert.Kernel4Ideal.main_v19_4)) (v5 : (c : Dev Cert.Kernel4Ideal.nD) → Buf (Elt Ideal) ((c.tc : Thread Cert.Kernel4Ideal.nD Cert.Kernel4Ideal.τ).loc Cert.Kernel4Ideal.main_v19_5)) (v6 : (c : Dev Cert.Kernel4Ideal.nD) → Buf (Elt Ideal) ((c.tc : Thread Cert.Kernel4Ideal.nD Cert.Kernel4Ideal.τ).loc Cert.Kernel4Ideal.main_v19_6)) (v7 : (c : Dev Cert.Kernel4Ideal.nD) → Buf (Elt Ideal) ((c.tc : Thread Cert.Kernel4Ideal.nD Cert.Kernel4Ideal.τ).loc Cert.Kernel4Ideal.main_v19_7)) (v8 : (c : Dev Cert.Kernel4Ideal.nD) → Buf (Elt Ideal) ((c.tc : Thread Cert.Kernel4Ideal.nD Cert.Kernel4Ideal.τ).loc Cert.Kernel4Ideal.main_v19_8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_v19_4) = v4 c
          ∧ r.2.mem ((c.tc : Thread Cert.Kernel4Ideal.nD Cert.Kernel4Ideal.τ).loc Cert.Kernel4Ideal.main_v19_5) = v5 c
          ∧ r.2.mem ((c.tc : Thread Cert.Kernel4Ideal.nD Cert.Kernel4Ideal.τ).loc Cert.Kernel4Ideal.main_v19_6) = v6 c
          ∧ r.2.mem ((c.tc : Thread Cert.Kernel4Ideal.nD Cert.Kernel4Ideal.τ).loc Cert.Kernel4Ideal.main_v19_7) = v7 c
          ∧ r.2.mem ((c.tc : Thread Cert.Kernel4Ideal.nD Cert.Kernel4Ideal.τ).loc Cert.Kernel4Ideal.main_v19_8) = v8 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v149) = v0 c
          ∧ r.2.mem ((c.tc : Thread Cert.Reference4Ideal.nD Cert.Reference4Ideal.τ).loc Cert.Reference4Ideal.main_v151) = v1 c
          ∧ r.2.mem ((c.tc : Thread Cert.Reference4Ideal.nD Cert.Reference4Ideal.τ).loc Cert.Reference4Ideal.main_v153) = v2 c
          ∧ r.2.mem ((c.tc : Thread Cert.Reference4Ideal.nD Cert.Reference4Ideal.τ).loc Cert.Reference4Ideal.main_v155) = v3 c
          ∧ r.2.mem ((c.tc : Thread Cert.Reference4Ideal.nD Cert.Reference4Ideal.τ).loc Cert.Reference4Ideal.main_v157) = v4 c
          ∧ r.2.mem ((c.tc : Thread Cert.Reference4Ideal.nD Cert.Reference4Ideal.τ).loc Cert.Reference4Ideal.main_v159) = v5 c
          ∧ r.2.mem ((c.tc : Thread Cert.Reference4Ideal.nD Cert.Reference4Ideal.τ).loc Cert.Reference4Ideal.main_v161) = v6 c
          ∧ r.2.mem ((c.tc : Thread Cert.Reference4Ideal.nD Cert.Reference4Ideal.τ).loc Cert.Reference4Ideal.main_v162) = v7 c
          ∧ r.2.mem ((c.tc : Thread Cert.Reference4Ideal.nD Cert.Reference4Ideal.τ).loc Cert.Reference4Ideal.main_v147) = v8 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)) (v4 : (c : Dev Cert.Kernel5Ideal.nD) → Buf (Elt Ideal) ((c.tc : Thread Cert.Kernel5Ideal.nD Cert.Kernel5Ideal.τ).loc Cert.Kernel5Ideal.main_v4_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_v4_4) = v4 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_v36) = v1 c
          ∧ r.2.mem ((c.tc : Thread Cert.Reference5Ideal.nD Cert.Reference5Ideal.τ).loc Cert.Reference5Ideal.main_v34) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_v21) = v4 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v9) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)
      ∧ m' ((c.tc : Thread Cert.Reference9Ideal.nD Cert.Reference9Ideal.τ).loc Cert.Reference9Ideal.main_arg9) = m ((c.tc : Thread Cert.Kernel9Ideal.nD Cert.Kernel9Ideal.τ).loc Cert.Kernel9Ideal.main_arg9)
      ∧ m' ((c.tc : Thread Cert.Reference9Ideal.nD Cert.Reference9Ideal.τ).loc Cert.Reference9Ideal.main_arg10) = m ((c.tc : Thread Cert.Kernel9Ideal.nD Cert.Kernel9Ideal.τ).loc Cert.Kernel9Ideal.main_arg10)
      ∧ m' ((c.tc : Thread Cert.Reference9Ideal.nD Cert.Reference9Ideal.τ).loc Cert.Reference9Ideal.main_arg11) = m ((c.tc : Thread Cert.Kernel9Ideal.nD Cert.Kernel9Ideal.τ).loc Cert.Kernel9Ideal.main_arg11)) →
    ∃ (v0 : (c : Dev Cert.Kernel9Ideal.nD) → Buf (Elt Ideal) ((c.tc : Thread Cert.Kernel9Ideal.nD Cert.Kernel9Ideal.τ).loc Cert.Kernel9Ideal.main_v27_0)) (v1 : (c : Dev Cert.Kernel9Ideal.nD) → Buf (Elt Ideal) ((c.tc : Thread Cert.Kernel9Ideal.nD Cert.Kernel9Ideal.τ).loc Cert.Kernel9Ideal.main_v27_1)) (v2 : (c : Dev Cert.Kernel9Ideal.nD) → Buf (Elt Ideal) ((c.tc : Thread Cert.Kernel9Ideal.nD Cert.Kernel9Ideal.τ).loc Cert.Kernel9Ideal.main_v27_2)) (v3 : (c : Dev Cert.Kernel9Ideal.nD) → Buf (Elt Ideal) ((c.tc : Thread Cert.Kernel9Ideal.nD Cert.Kernel9Ideal.τ).loc Cert.Kernel9Ideal.main_v27_3)) (v4 : (c : Dev Cert.Kernel9Ideal.nD) → Buf (Elt Ideal) ((c.tc : Thread Cert.Kernel9Ideal.nD Cert.Kernel9Ideal.τ).loc Cert.Kernel9Ideal.main_v27_4)) (v5 : (c : Dev Cert.Kernel9Ideal.nD) → Buf (Elt Ideal) ((c.tc : Thread Cert.Kernel9Ideal.nD Cert.Kernel9Ideal.τ).loc Cert.Kernel9Ideal.main_v27_5)) (v6 : (c : Dev Cert.Kernel9Ideal.nD) → Buf (Elt Ideal) ((c.tc : Thread Cert.Kernel9Ideal.nD Cert.Kernel9Ideal.τ).loc Cert.Kernel9Ideal.main_v27_6)) (v7 : (c : Dev Cert.Kernel9Ideal.nD) → Buf (Elt Ideal) ((c.tc : Thread Cert.Kernel9Ideal.nD Cert.Kernel9Ideal.τ).loc Cert.Kernel9Ideal.main_v27_7)) (v8 : (c : Dev Cert.Kernel9Ideal.nD) → Buf (Elt Ideal) ((c.tc : Thread Cert.Kernel9Ideal.nD Cert.Kernel9Ideal.τ).loc Cert.Kernel9Ideal.main_v27_8)) (v9 : (c : Dev Cert.Kernel9Ideal.nD) → Buf (Elt Ideal) ((c.tc : Thread Cert.Kernel9Ideal.nD Cert.Kernel9Ideal.τ).loc Cert.Kernel9Ideal.main_v27_9)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v27_0) = v0 c
          ∧ r.2.mem ((c.tc : Thread Cert.Kernel9Ideal.nD Cert.Kernel9Ideal.τ).loc Cert.Kernel9Ideal.main_v27_1) = v1 c
          ∧ r.2.mem ((c.tc : Thread Cert.Kernel9Ideal.nD Cert.Kernel9Ideal.τ).loc Cert.Kernel9Ideal.main_v27_2) = v2 c
          ∧ r.2.mem ((c.tc : Thread Cert.Kernel9Ideal.nD Cert.Kernel9Ideal.τ).loc Cert.Kernel9Ideal.main_v27_3) = v3 c
          ∧ r.2.mem ((c.tc : Thread Cert.Kernel9Ideal.nD Cert.Kernel9Ideal.τ).loc Cert.Kernel9Ideal.main_v27_4) = v4 c
          ∧ r.2.mem ((c.tc : Thread Cert.Kernel9Ideal.nD Cert.Kernel9Ideal.τ).loc Cert.Kernel9Ideal.main_v27_5) = v5 c
          ∧ r.2.mem ((c.tc : Thread Cert.Kernel9Ideal.nD Cert.Kernel9Ideal.τ).loc Cert.Kernel9Ideal.main_v27_6) = v6 c
          ∧ r.2.mem ((c.tc : Thread Cert.Kernel9Ideal.nD Cert.Kernel9Ideal.τ).loc Cert.Kernel9Ideal.main_v27_7) = v7 c
          ∧ r.2.mem ((c.tc : Thread Cert.Kernel9Ideal.nD Cert.Kernel9Ideal.τ).loc Cert.Kernel9Ideal.main_v27_8) = v8 c
          ∧ r.2.mem ((c.tc : Thread Cert.Kernel9Ideal.nD Cert.Kernel9Ideal.τ).loc Cert.Kernel9Ideal.main_v27_9) = v9 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8)
          ∧ r.2.mem ((c.tc : Thread Cert.Kernel9Ideal.nD Cert.Kernel9Ideal.τ).loc Cert.Kernel9Ideal.main_arg9) = m ((c.tc : Thread Cert.Kernel9Ideal.nD Cert.Kernel9Ideal.τ).loc Cert.Kernel9Ideal.main_arg9)
          ∧ r.2.mem ((c.tc : Thread Cert.Kernel9Ideal.nD Cert.Kernel9Ideal.τ).loc Cert.Kernel9Ideal.main_arg10) = m ((c.tc : Thread Cert.Kernel9Ideal.nD Cert.Kernel9Ideal.τ).loc Cert.Kernel9Ideal.main_arg10)
          ∧ r.2.mem ((c.tc : Thread Cert.Kernel9Ideal.nD Cert.Kernel9Ideal.τ).loc Cert.Kernel9Ideal.main_arg11) = m ((c.tc : Thread Cert.Kernel9Ideal.nD Cert.Kernel9Ideal.τ).loc Cert.Kernel9Ideal.main_arg11))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v160) = v0 c
          ∧ r.2.mem ((c.tc : Thread Cert.Reference9Ideal.nD Cert.Reference9Ideal.τ).loc Cert.Reference9Ideal.main_v161) = v1 c
          ∧ r.2.mem ((c.tc : Thread Cert.Reference9Ideal.nD Cert.Reference9Ideal.τ).loc Cert.Reference9Ideal.main_v163) = v2 c
          ∧ r.2.mem ((c.tc : Thread Cert.Reference9Ideal.nD Cert.Reference9Ideal.τ).loc Cert.Reference9Ideal.main_v165) = v3 c
          ∧ r.2.mem ((c.tc : Thread Cert.Reference9Ideal.nD Cert.Reference9Ideal.τ).loc Cert.Reference9Ideal.main_v166) = v4 c
          ∧ r.2.mem ((c.tc : Thread Cert.Reference9Ideal.nD Cert.Reference9Ideal.τ).loc Cert.Reference9Ideal.main_v167) = v5 c
          ∧ r.2.mem ((c.tc : Thread Cert.Reference9Ideal.nD Cert.Reference9Ideal.τ).loc Cert.Reference9Ideal.main_v168) = v6 c
          ∧ r.2.mem ((c.tc : Thread Cert.Reference9Ideal.nD Cert.Reference9Ideal.τ).loc Cert.Reference9Ideal.main_v173) = v7 c
          ∧ r.2.mem ((c.tc : Thread Cert.Reference9Ideal.nD Cert.Reference9Ideal.τ).loc Cert.Reference9Ideal.main_v176) = v8 c
          ∧ r.2.mem ((c.tc : Thread Cert.Reference9Ideal.nD Cert.Reference9Ideal.τ).loc Cert.Reference9Ideal.main_v179) = v9 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8)
          ∧ r.2.mem ((c.tc : Thread Cert.Reference9Ideal.nD Cert.Reference9Ideal.τ).loc Cert.Reference9Ideal.main_arg9) = m' ((c.tc : Thread Cert.Reference9Ideal.nD Cert.Reference9Ideal.τ).loc Cert.Reference9Ideal.main_arg9)
          ∧ r.2.mem ((c.tc : Thread Cert.Reference9Ideal.nD Cert.Reference9Ideal.τ).loc Cert.Reference9Ideal.main_arg10) = m' ((c.tc : Thread Cert.Reference9Ideal.nD Cert.Reference9Ideal.τ).loc Cert.Reference9Ideal.main_arg10)
          ∧ r.2.mem ((c.tc : Thread Cert.Reference9Ideal.nD Cert.Reference9Ideal.τ).loc Cert.Reference9Ideal.main_arg11) = m' ((c.tc : Thread Cert.Reference9Ideal.nD Cert.Reference9Ideal.τ).loc Cert.Reference9Ideal.main_arg11))

def preserves_Kernel10_Kernel10Ideal : Prop :=
  True

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_attention_finite : Cert.Pre_attention_finite.Facts) (hPre_heads_finite : Cert.Pre_heads_finite.Facts) (hPre_block_finite : Cert.Pre_block_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_attention_finite (hKernel2Ideal := hKernel2Ideal) (hPre_attention_finite := hPre_attention_finite)
    ∧ quiescent_Reference2Ideal (hReference2Ideal := hReference2Ideal)
    ∧ quiescent_Reference2Ideal_pre_attention_finite (hReference2Ideal := hReference2Ideal) (hPre_attention_finite := hPre_attention_finite)
    ∧ quiescent_Kernel3 (hKernel3 := hKernel3)
    ∧ quiescent_Kernel3Ideal (hKernel3Ideal := hKernel3Ideal)
    ∧ quiescent_Kernel3Ideal_pre_heads_finite (hKernel3Ideal := hKernel3Ideal) (hPre_heads_finite := hPre_heads_finite)
    ∧ quiescent_Reference3Ideal (hReference3Ideal := hReference3Ideal)
    ∧ quiescent_Reference3Ideal_pre_heads_finite (hReference3Ideal := hReference3Ideal) (hPre_heads_finite := hPre_heads_finite)
    ∧ quiescent_Kernel4 (hKernel4 := hKernel4)
    ∧ quiescent_Kernel4Ideal (hKernel4Ideal := hKernel4Ideal)
    ∧ quiescent_Kernel4Ideal_pre_block_finite (hKernel4Ideal := hKernel4Ideal) (hPre_block_finite := hPre_block_finite)
    ∧ quiescent_Reference4Ideal (hReference4Ideal := hReference4Ideal)
    ∧ quiescent_Reference4Ideal_pre_block_finite (hReference4Ideal := hReference4Ideal) (hPre_block_finite := hPre_block_finite)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_attention_finite (hKernel2Ideal := hKernel2Ideal) (hReference2Ideal := hReference2Ideal) (hPre_attention_finite := hPre_attention_finite)
    ∧ preserves_Kernel3_Kernel3Ideal
    ∧ algebraic_Kernel3Ideal_Reference3Ideal_pre_heads_finite (hKernel3Ideal := hKernel3Ideal) (hReference3Ideal := hReference3Ideal) (hPre_heads_finite := hPre_heads_finite)
    ∧ preserves_Kernel4_Kernel4Ideal
    ∧ algebraic_Kernel4Ideal_Reference4Ideal_pre_block_finite (hKernel4Ideal := hKernel4Ideal) (hReference4Ideal := hReference4Ideal) (hPre_block_finite := hPre_block_finite)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_attention_finite.lean ====
abbrev S2x2048x4x192 : Shape := ⟨4, ![2, 2048, 4, 192]⟩
abbrev S2x256x4x192 : Shape := ⟨4, ![2, 256, 4, 192]⟩
abbrev S2x2048x4x128 : Shape := ⟨4, ![2, 2048, 4, 128]⟩
abbrev S2x256x4x128 : Shape := ⟨4, ![2, 256, 4, 128]⟩
abbrev S2x2048x1024 : Shape := ⟨3, ![2, 2048, 1024]⟩
abbrev S2x2048x512 : Shape := ⟨3, ![2, 2048, 512]⟩
abbrev S_ : Shape := ⟨0, ![]⟩

class Facts : Prop where
  slices_S2x2048x1024_S2x2048x512_0_0_512 : S2x2048x1024.Slices ![0, 0, 512] S2x2048x512
  reducesTo_S2x2048x4x192_S_d0_1_2_3 : S2x2048x4x192.ReducesTo [0, 1, 2, 3] S_
  h_S_ : 0 < S_.numel
  reducesTo_S2x256x4x192_S_d0_1_2_3 : S2x256x4x192.ReducesTo [0, 1, 2, 3] S_
  reducesTo_S2x2048x4x128_S_d0_1_2_3 : S2x2048x4x128.ReducesTo [0, 1, 2, 3] S_
  reducesTo_S2x256x4x128_S_d0_1_2_3 : S2x256x4x128.ReducesTo [0, 1, 2, 3] S_
  reducesTo_S2x2048x512_S_d0_1_2 : S2x2048x512.ReducesTo [0, 1, 2] S_

variable [Facts]

def fn_part1 {F : FTy → Type} [FloatOps F] (main_v0 : FVec F S2x2048x512 .f32) (main_v3 : IVec S_ 1) (main_v6 : IVec S_ 1) (main_v9 : IVec S_ 1) (main_v12 : IVec S_ 1) (main_v14 : FVec F S_ .f32) : IVec S_ 1 :=
  let main_cst_8 : FVec F S_ .f32 := constant S_ .f32 0x7F800000#32
  let main_v15 : IVec S_ 1 := cmpf .olt main_v14 main_cst_8
  let main_v16 : FVec F S2x2048x512 .f32 := Host.absf main_v0
  let main_cst_9 : FVec F S_ .f32 := constant S_ .f32 0xFF800000#32
  let main_v17 : FVec F S_ .f32 := (fun x v => Host.reduce FloatOps.maximumf x v reducesTo_S2x2048x512_S_d0_1_2 h_S_) main_v16 main_cst_9
  let main_cst_10 : FVec F S_ .f32 := constant S_ .f32 0x7F800000#32
  let main_v18 : IVec S_ 1 := cmpf .olt main_v17 main_cst_10
  let main_v19 : IVec S_ 1 := andi main_v3 main_v6
  let main_v20 : IVec S_ 1 := andi main_v19 main_v9
  let main_v21 : IVec S_ 1 := andi main_v20 main_v12
  let main_v22 : IVec S_ 1 := andi main_v21 main_v15
  let main_v23 : IVec S_ 1 := andi main_v22 main_v18
  main_v23

def fn {F : FTy → Type} [FloatOps F] (main_arg0 : FVec F S2x2048x4x192 .f32) (main_arg1 : FVec F S2x2048x4x192 .f32) (main_arg2 : FVec F S2x256x4x192 .f32) (main_arg3 : FVec F S2x2048x4x128 .f32) (main_arg4 : FVec F S2x256x4x128 .f32) (main_arg5 : FVec F S2x2048x1024 .f32) : IVec S_ 1 :=
  let main_v0 : FVec F S2x2048x512 .f32 := (extractStridedSlice S2x2048x512 ![0, 0, 512] · slices_S2x2048x1024_S2x2048x512_0_0_512) main_arg5
  let main_v1 : FVec F S2x2048x4x192 .f32 := Host.absf main_arg0
  let main_cst : FVec F S_ .f32 := constant S_ .f32 0xFF800000#32
  let main_v2 : FVec F S_ .f32 := (fun x v => Host.reduce FloatOps.maximumf x v reducesTo_S2x2048x4x192_S_d0_1_2_3 h_S_) main_v1 main_cst
  let main_cst_0 : FVec F S_ .f32 := constant S_ .f32 0x7F800000#32
  let main_v3 : IVec S_ 1 := cmpf .olt main_v2 main_cst_0
  let main_v4 : FVec F S2x2048x4x192 .f32 := Host.absf main_arg1
  let main_cst_1 : FVec F S_ .f32 := constant S_ .f32 0xFF800000#32
  let main_v5 : FVec F S_ .f32 := (fun x v => Host.reduce FloatOps.maximumf x v reducesTo_S2x2048x4x192_S_d0_1_2_3 h_S_) main_v4 main_cst_1
  let main_cst_2 : FVec F S_ .f32 := constant S_ .f32 0x7F800000#32
  let main_v6 : IVec S_ 1 := cmpf .olt main_v5 main_cst_2
  let main_v7 : FVec F S2x256x4x192 .f32 := Host.absf main_arg2
  let main_cst_3 : FVec F S_ .f32 := constant S_ .f32 0xFF800000#32
  let main_v8 : FVec F S_ .f32 := (fun x v => Host.reduce FloatOps.maximumf x v reducesTo_S2x256x4x192_S_d0_1_2_3 h_S_) main_v7 main_cst_3
  let main_cst_4 : FVec F S_ .f32 := constant S_ .f32 0x7F800000#32
  let main_v9 : IVec S_ 1 := cmpf .olt main_v8 main_cst_4
  let main_v10 : FVec F S2x2048x4x128 .f32 := Host.absf main_arg3
  let main_cst_5 : FVec F S_ .f32 := constant S_ .f32 0xFF800000#32
  let main_v11 : FVec F S_ .f32 := (fun x v => Host.reduce FloatOps.maximumf x v reducesTo_S2x2048x4x128_S_d0_1_2_3 h_S_) main_v10 main_cst_5
  let main_cst_6 : FVec F S_ .f32 := constant S_ .f32 0x7F800000#32
  let main_v12 : IVec S_ 1 := cmpf .olt main_v11 main_cst_6
  let main_v13 : FVec F S2x256x4x128 .f32 := Host.absf main_arg4
  let main_cst_7 : FVec F S_ .f32 := constant S_ .f32 0xFF800000#32
  let main_v14 : FVec F S_ .f32 := (fun x v => Host.reduce FloatOps.maximumf x v reducesTo_S2x256x4x128_S_d0_1_2_3 h_S_) main_v13 main_cst_7
  fn_part1 (F := F) main_v0 main_v3 main_v6 main_v9 main_v12 main_v14
-- ==== Pre_block_finite.lean ====
abbrev S2x2048x512 : Shape := ⟨3, ![2, 2048, 512]⟩
abbrev S2x2048x1024 : Shape := ⟨3, ![2, 2048, 1024]⟩
abbrev S2x6144 : Shape := ⟨2, ![2, 6144]⟩
abbrev S1x1024 : Shape := ⟨2, ![1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x4096 : Shape := ⟨2, ![2, 4096]⟩
abbrev S_ : Shape := ⟨0, ![]⟩

class Facts : Prop where
  slices_S2x6144_S2x4096_0_2048 : S2x6144.Slices ![0, 2048] S2x4096
  reducesTo_S2x2048x512_S_d0_1_2 : S2x2048x512.ReducesTo [0, 1, 2] S_
  h_S_ : 0 < S_.numel
  reducesTo_S2x2048x1024_S_d0_1_2 : S2x2048x1024.ReducesTo [0, 1, 2] S_
  reducesTo_S2x4096_S_d0_1 : S2x4096.ReducesTo [0, 1] S_
  reducesTo_S1x1024_S_d0_1 : S1x1024.ReducesTo [0, 1] S_
  reducesTo_S1024_S_d0 : S1024.ReducesTo [0] S_
  reducesTo_S1024x1024_S_d0_1 : S1024x1024.ReducesTo [0, 1] S_
  reducesTo_S1024x4096_S_d0_1 : S1024x4096.ReducesTo [0, 1] S_
  reducesTo_S4096x1024_S_d0_1 : S4096x1024.ReducesTo [0, 1] S_

variable [Facts]

def fn_part2 {F : FTy → Type} [FloatOps F] (main_v3 : IVec S_ 1) (main_v6 : IVec S_ 1) (main_v9 : IVec S_ 1) (main_v12 : IVec S_ 1) (main_v15 : IVec S_ 1) (main_v18 : IVec S_ 1) (main_v21 : IVec S_ 1) (main_v24 : IVec S_ 1) (main_v27 : IVec S_ 1) (main_v28 : FVec F S2x2048x1024 .f32) (main_cst_17 : FVec F S_ .f32) : IVec S_ 1 :=
  let main_v29 : FVec F S_ .f32 := (fun x v => Host.reduce FloatOps.maximumf x v reducesTo_S2x2048x1024_S_d0_1_2 h_S_) main_v28 main_cst_17
  let main_cst_18 : FVec F S_ .f32 := constant S_ .f32 0x7F800000#32
  let main_v30 : IVec S_ 1 := cmpf .olt main_v29 main_cst_18
  let main_v31 : IVec S_ 1 := andi main_v3 main_v6
  let main_v32 : IVec S_ 1 := andi main_v31 main_v9
  let main_v33 : IVec S_ 1 := andi main_v32 main_v12
  let main_v34 : IVec S_ 1 := andi main_v33 main_v15
  let main_v35 : IVec S_ 1 := andi main_v34 main_v18
  let main_v36 : IVec S_ 1 := andi main_v35 main_v21
  let main_v37 : IVec S_ 1 := andi main_v36 main_v24
  let main_v38 : IVec S_ 1 := andi main_v37 main_v27
  let main_v39 : IVec S_ 1 := andi main_v38 main_v30
  main_v39

def fn_part1 {F : FTy → Type} [FloatOps F] (main_arg5 : FVec F S1024 .f32) (main_arg6 : FVec F S1024x1024 .f32) (main_arg7 : FVec F S1024x4096 .f32) (main_arg8 : FVec F S4096x1024 .f32) (main_arg9 : FVec F S2x2048x1024 .f32) (main_v3 : IVec S_ 1) (main_v6 : IVec S_ 1) (main_v9 : IVec S_ 1) (main_v12 : IVec S_ 1) (main_v14 : FVec F S_ .f32) : IVec S_ 1 :=
  let main_cst_8 : FVec F S_ .f32 := constant S_ .f32 0x7F800000#32
  let main_v15 : IVec S_ 1 := cmpf .olt main_v14 main_cst_8
  let main_v16 : FVec F S1024 .f32 := Host.absf main_arg5
  let main_cst_9 : FVec F S_ .f32 := constant S_ .f32 0xFF800000#32
  let main_v17 : FVec F S_ .f32 := (fun x v => Host.reduce FloatOps.maximumf x v reducesTo_S1024_S_d0 h_S_) main_v16 main_cst_9
  let main_cst_10 : FVec F S_ .f32 := constant S_ .f32 0x7F800000#32
  let main_v18 : IVec S_ 1 := cmpf .olt main_v17 main_cst_10
  let main_v19 : FVec F S1024x1024 .f32 := Host.absf main_arg6
  let main_cst_11 : FVec F S_ .f32 := constant S_ .f32 0xFF800000#32
  let main_v20 : FVec F S_ .f32 := (fun x v => Host.reduce FloatOps.maximumf x v reducesTo_S1024x1024_S_d0_1 h_S_) main_v19 main_cst_11
  let main_cst_12 : FVec F S_ .f32 := constant S_ .f32 0x7F800000#32
  let main_v21 : IVec S_ 1 := cmpf .olt main_v20 main_cst_12
  let main_v22 : FVec F S1024x4096 .f32 := Host.absf main_arg7
  let main_cst_13 : FVec F S_ .f32 := constant S_ .f32 0xFF800000#32
  let main_v23 : FVec F S_ .f32 := (fun x v => Host.reduce FloatOps.maximumf x v reducesTo_S1024x4096_S_d0_1 h_S_) main_v22 main_cst_13
  let main_cst_14 : FVec F S_ .f32 := constant S_ .f32 0x7F800000#32
  let main_v24 : IVec S_ 1 := cmpf .olt main_v23 main_cst_14
  let main_v25 : FVec F S4096x1024 .f32 := Host.absf main_arg8
  let main_cst_15 : FVec F S_ .f32 := constant S_ .f32 0xFF800000#32
  let main_v26 : FVec F S_ .f32 := (fun x v => Host.reduce FloatOps.maximumf x v reducesTo_S4096x1024_S_d0_1 h_S_) main_v25 main_cst_15
  let main_cst_16 : FVec F S_ .f32 := constant S_ .f32 0x7F800000#32
  let main_v27 : IVec S_ 1 := cmpf .olt main_v26 main_cst_16
  let main_v28 : FVec F S2x2048x1024 .f32 := Host.absf main_arg9
  let main_cst_17 : FVec F S_ .f32 := constant S_ .f32 0xFF800000#32
  fn_part2 (F := F) main_v3 main_v6 main_v9 main_v12 main_v15 main_v18 main_v21 main_v24 main_v27 main_v28 main_cst_17

def fn {F : FTy → Type} [FloatOps F] (main_arg0 : FVec F S2x2048x512 .f32) (main_arg1 : FVec F S2x2048x512 .f32) (main_arg2 : FVec F S2x2048x1024 .f32) (main_arg3 : FVec F S2x6144 .f32) (main_arg4 : FVec F S1x1024 .f32) (main_arg5 : FVec F S1024 .f32) (main_arg6 : FVec F S1024x1024 .f32) (main_arg7 : FVec F S1024x4096 .f32) (main_arg8 : FVec F S4096x1024 .f32) (main_arg9 : FVec F S2x2048x1024 .f32) : IVec S_ 1 :=
  let main_v0 : FVec F S2x4096 .f32 := (extractStridedSlice S2x4096 ![0, 2048] · slices_S2x6144_S2x4096_0_2048) main_arg3
  let main_v1 : FVec F S2x2048x512 .f32 := Host.absf main_arg0
  let main_cst : FVec F S_ .f32 := constant S_ .f32 0xFF800000#32
  let main_v2 : FVec F S_ .f32 := (fun x v => Host.reduce FloatOps.maximumf x v reducesTo_S2x2048x512_S_d0_1_2 h_S_) main_v1 main_cst
  let main_cst_0 : FVec F S_ .f32 := constant S_ .f32 0x7F800000#32
  let main_v3 : IVec S_ 1 := cmpf .olt main_v2 main_cst_0
  let main_v4 : FVec F S2x2048x512 .f32 := Host.absf main_arg1
  let main_cst_1 : FVec F S_ .f32 := constant S_ .f32 0xFF800000#32
  let main_v5 : FVec F S_ .f32 := (fun x v => Host.reduce FloatOps.maximumf x v reducesTo_S2x2048x512_S_d0_1_2 h_S_) main_v4 main_cst_1
  let main_cst_2 : FVec F S_ .f32 := constant S_ .f32 0x7F800000#32
  let main_v6 : IVec S_ 1 := cmpf .olt main_v5 main_cst_2
  let main_v7 : FVec F S2x2048x1024 .f32 := Host.absf main_arg2
  let main_cst_3 : FVec F S_ .f32 := constant S_ .f32 0xFF800000#32
  let main_v8 : FVec F S_ .f32 := (fun x v => Host.reduce FloatOps.maximumf x v reducesTo_S2x2048x1024_S_d0_1_2 h_S_) main_v7 main_cst_3
  let main_cst_4 : FVec F S_ .f32 := constant S_ .f32 0x7F800000#32
  let main_v9 : IVec S_ 1 := cmpf .olt main_v8 main_cst_4
  let main_v10 : FVec F S2x4096 .f32 := Host.absf main_v0
  let main_cst_5 : FVec F S_ .f32 := constant S_ .f32 0xFF800000#32
  let main_v11 : FVec F S_ .f32 := (fun x v => Host.reduce FloatOps.maximumf x v reducesTo_S2x4096_S_d0_1 h_S_) main_v10 main_cst_5
  let main_cst_6 : FVec F S_ .f32 := constant S_ .f32 0x7F800000#32
  let main_v12 : IVec S_ 1 := cmpf .olt main_v11 main_cst_6
  let main_v13 : FVec F S1x1024 .f32 := Host.absf main_arg4
  let main_cst_7 : FVec F S_ .f32 := constant S_ .f32 0xFF800000#32
  let main_v14 : FVec F S_ .f32 := (fun x v => Host.reduce FloatOps.maximumf x v reducesTo_S1x1024_S_d0_1 h_S_) main_v13 main_cst_7
  fn_part1 (F := F) main_arg5 main_arg6 main_arg7 main_arg8 main_arg9 main_v3 main_v6 main_v9 main_v12 main_v14
-- ==== Pre_heads_finite.lean ====
abbrev S2x2048x4x192 : Shape := ⟨4, ![2, 2048, 4, 192]⟩
abbrev S2x256x4x192 : Shape := ⟨4, ![2, 256, 4, 192]⟩
abbrev S2x2048x4x128 : Shape := ⟨4, ![2, 2048, 4, 128]⟩
abbrev S2x256x4x128 : Shape := ⟨4, ![2, 256, 4, 128]⟩
abbrev S_ : Shape := ⟨0, ![]⟩

class Facts : Prop where
  reducesTo_S2x2048x4x192_S_d0_1_2_3 : S2x2048x4x192.ReducesTo [0, 1, 2, 3] S_
  h_S_ : 0 < S_.numel
  reducesTo_S2x256x4x192_S_d0_1_2_3 : S2x256x4x192.ReducesTo [0, 1, 2, 3] S_
  reducesTo_S2x2048x4x128_S_d0_1_2_3 : S2x2048x4x128.ReducesTo [0, 1, 2, 3] S_
  reducesTo_S2x256x4x128_S_d0_1_2_3 : S2x256x4x128.ReducesTo [0, 1, 2, 3] S_

variable [Facts]

def fn_part1 {F : FTy → Type} [FloatOps F] (main_v2 : IVec S_ 1) (main_v5 : IVec S_ 1) (main_v8 : IVec S_ 1) (main_v11 : IVec S_ 1) (main_v13 : FVec F S_ .f32) (main_cst_8 : FVec F S_ .f32) : IVec S_ 1 :=
  let main_v14 : IVec S_ 1 := cmpf .olt main_v13 main_cst_8
  let main_v15 : IVec S_ 1 := andi main_v2 main_v5
  let main_v16 : IVec S_ 1 := andi main_v15 main_v8
  let main_v17 : IVec S_ 1 := andi main_v16 main_v11
  let main_v18 : IVec S_ 1 := andi main_v17 main_v14
  main_v18

def fn {F : FTy → Type} [FloatOps F] (main_arg0 : FVec F S2x2048x4x192 .f32) (main_arg1 : FVec F S2x2048x4x192 .f32) (main_arg2 : FVec F S2x256x4x192 .f32) (main_arg3 : FVec F S2x2048x4x128 .f32) (main_arg4 : FVec F S2x256x4x128 .f32) : IVec S_ 1 :=
  let main_v0 : FVec F S2x2048x4x192 .f32 := Host.absf main_arg0
  let main_cst : FVec F S_ .f32 := constant S_ .f32 0xFF800000#32
  let main_v1 : FVec F S_ .f32 := (fun x v => Host.reduce FloatOps.maximumf x v reducesTo_S2x2048x4x192_S_d0_1_2_3 h_S_) main_v0 main_cst
  let main_cst_0 : FVec F S_ .f32 := constant S_ .f32 0x7F800000#32
  let main_v2 : IVec S_ 1 := cmpf .olt main_v1 main_cst_0
  let main_v3 : FVec F S2x2048x4x192 .f32 := Host.absf main_arg1
  let main_cst_1 : FVec F S_ .f32 := constant S_ .f32 0xFF800000#32
  let main_v4 : FVec F S_ .f32 := (fun x v => Host.reduce FloatOps.maximumf x v reducesTo_S2x2048x4x192_S_d0_1_2_3 h_S_) main_v3 main_cst_1
  let main_cst_2 : FVec F S_ .f32 := constant S_ .f32 0x7F800000#32
  let main_v5 : IVec S_ 1 := cmpf .olt main_v4 main_cst_2
  let main_v6 : FVec F S2x256x4x192 .f32 := Host.absf main_arg2
  let main_cst_3 : FVec F S_ .f32 := constant S_ .f32 0xFF800000#32
  let main_v7 : FVec F S_ .f32 := (fun x v => Host.reduce FloatOps.maximumf x v reducesTo_S2x256x4x192_S_d0_1_2_3 h_S_) main_v6 main_cst_3
  let main_cst_4 : FVec F S_ .f32 := constant S_ .f32 0x7F800000#32
  let main_v8 : IVec S_ 1 := cmpf .olt main_v7 main_cst_4
  let main_v9 : FVec F S2x2048x4x128 .f32 := Host.absf main_arg3
  let main_cst_5 : FVec F S_ .f32 := constant S_ .f32 0xFF800000#32
  let main_v10 : FVec F S_ .f32 := (fun x v => Host.reduce FloatOps.maximumf x v reducesTo_S2x2048x4x128_S_d0_1_2_3 h_S_) main_v9 main_cst_5
  let main_cst_6 : FVec F S_ .f32 := constant S_ .f32 0x7F800000#32
  let main_v11 : IVec S_ 1 := cmpf .olt main_v10 main_cst_6
  let main_v12 : FVec F S2x256x4x128 .f32 := Host.absf main_arg4
  let main_cst_7 : FVec F S_ .f32 := constant S_ .f32 0xFF800000#32
  let main_v13 : FVec F S_ .f32 := (fun x v => Host.reduce FloatOps.maximumf x v reducesTo_S2x256x4x128_S_d0_1_2_3 h_S_) main_v12 main_cst_7
  let main_cst_8 : FVec F S_ .f32 := constant S_ .f32 0x7F800000#32
  fn_part1 (F := F) main_v2 main_v5 main_v8 main_v11 main_v13 main_cst_8
-- ==== Kernel.lean ====
abbrev S1x4 : Shape := ⟨2, ![1, 4]⟩
abbrev S_ : Shape := ⟨0, ![]⟩
abbrev S8x128 : Shape := ⟨2, ![8, 128]⟩
abbrev S4 : Shape := ⟨1, ![4]⟩
abbrev S1 : Shape := ⟨1, ![1]⟩
abbrev S2 : Shape := ⟨1, ![2]⟩

abbrev nBuf : Space → Nat
  | .hbm => 20
  | .vmem => 3
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S_, .f32⟩
  | .hbm, ⟨3, _⟩ => ⟨S8x128, .f32⟩
  | .hbm, ⟨4, _⟩ => ⟨S4, .f32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S2, .i32⟩
  | .hbm, ⟨10, _⟩ => ⟨S8x128, .f32⟩
  | .hbm, ⟨11, _⟩ => ⟨S4, .f32⟩
  | .hbm, ⟨12, _⟩ => ⟨S_, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S2, .i32⟩
  | .hbm, ⟨17, _⟩ => ⟨S8x128, .f32⟩
  | .hbm, ⟨18, _⟩ => ⟨S8x128, .f32⟩
  | .hbm, ⟨19, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | _, _ => ⟨S1x4, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11_0 : Ref sig .tc := ⟨.hbm, 18, rfl⟩
abbrev main_v11_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1x4 : Shape := ⟨2, ![1, 4]⟩
abbrev S2x4 : Shape := ⟨2, ![2, 4]⟩
abbrev S_ : Shape := ⟨0, ![]⟩
abbrev S8x128 : Shape := ⟨2, ![8, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x4, .f32⟩
  | .hbm, ⟨1, _⟩ => ⟨S1x4, .f32⟩
  | .hbm, ⟨2, _⟩ => ⟨S2x4, .f32⟩
  | .hbm, ⟨3, _⟩ => ⟨S_, .i32⟩
  | .hbm, ⟨4, _⟩ => ⟨S_, .f32⟩
  | .hbm, ⟨5, _⟩ => ⟨S8x128, .f32⟩
  | .hbm, ⟨6, _⟩ => ⟨S8x128, .f32⟩
  | .hbm, ⟨7, _⟩ => ⟨S_, .f32⟩
  | .hbm, ⟨8, _⟩ => ⟨S8x128, .f32⟩
  | .hbm, ⟨9, _⟩ => ⟨S8x128, .f32⟩
  | .hbm, ⟨10, _⟩ => ⟨S8x128, .f32⟩
  | .hbm, ⟨11, _⟩ => ⟨S8x128, .f32⟩
  | .hbm, ⟨12, _⟩ => ⟨S8x128, .i1⟩
  | .hbm, ⟨13, _⟩ => ⟨S8x128, .f32⟩
  | .hbm, ⟨14, _⟩ => ⟨S8x128, .f32⟩
  | .hbm, ⟨15, _⟩ => ⟨S8x128, .f32⟩
  | .hbm, ⟨16, _⟩ => ⟨S8x128, .f32⟩
  | .hbm, ⟨17, _⟩ => ⟨S8x128, .f32⟩
  | .hbm, ⟨18, _⟩ => ⟨S8x128, .f32⟩
  | .hbm, ⟨19, _⟩ => ⟨S8x128, .f32⟩
  | .hbm, ⟨20, _⟩ => ⟨S8x128, .f32⟩
  | .hbm, ⟨21, _⟩ => ⟨S_, .f32⟩
  | .hbm, ⟨22, _⟩ => ⟨S8x128, .f32⟩
  | .hbm, ⟨23, _⟩ => ⟨S8x128, .i1⟩
  | .hbm, ⟨24, _⟩ => ⟨S_, .f32⟩
  | .hbm, ⟨25, _⟩ => ⟨S8x128, .f32⟩
  | .hbm, ⟨26, _⟩ => ⟨S8x128, .f32⟩
  | .hbm, ⟨27, _⟩ => ⟨S_, .f32⟩
  | .hbm, ⟨28, _⟩ => ⟨S8x128, .f32⟩
  | .hbm, ⟨29, _⟩ => ⟨S8x128, .i1⟩
  | .hbm, ⟨30, _⟩ => ⟨S_, .f32⟩
  | .hbm, ⟨31, _⟩ => ⟨S8x128, .f32⟩
  | .hbm, ⟨32, _⟩ => ⟨S8x128, .f32⟩
  | .hbm, ⟨33, _⟩ => ⟨S8x128, .f32⟩
  | .hbm, ⟨34, _⟩ => ⟨S8x128, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8x128, .f32⟩
  | .hbm, ⟨43, _⟩ => ⟨S8x128, .i1⟩
  | .hbm, ⟨44, _⟩ => ⟨S_, .f32⟩
  | .hbm, ⟨45, _⟩ => ⟨S8x128, .f32⟩
  | .hbm, ⟨46, _⟩ => ⟨S8x128, .f32⟩
  | .hbm, ⟨47, _⟩ => ⟨S8x128, .f32⟩
  | .hbm, ⟨48, _⟩ => ⟨S8x128, .f32⟩
  | .hbm, ⟨49, _⟩ => ⟨S8x128, .f32⟩
  | .hbm, ⟨50, _⟩ => ⟨S_, .f32⟩
  | .hbm, ⟨51, _⟩ => ⟨S8x128, .f32⟩
  | .hbm, ⟨52, _⟩ => ⟨S8x128, .f32⟩
  | .hbm, ⟨53, _⟩ => ⟨S8x128, .f32⟩
  | .hbm, ⟨54, _⟩ => ⟨S_, .f32⟩
  | .hbm, ⟨55, _⟩ => ⟨S8x128, .f32⟩
  | .hbm, ⟨56, _⟩ => ⟨S8x128, .f32⟩
  | .hbm, ⟨57, _⟩ => ⟨S8x128, .f32⟩
  | .hbm, ⟨58, _⟩ => ⟨S8x128, .f32⟩
  | _, _ => ⟨S1x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_call1_v0 : Ref sig .tc := ⟨.hbm, 6, rfl⟩
abbrev main_call1_call0_cst : Ref sig .tc := ⟨.hbm, 7, rfl⟩
abbrev main_call1_call0_v0 : Ref sig .tc := ⟨.hbm, 8, rfl⟩
abbrev main_call1_call0_v1 : Ref sig .tc := ⟨.hbm, 9, rfl⟩
abbrev main_call1_call0_v2 : Ref sig .tc := ⟨.hbm, 10, rfl⟩
abbrev main_call1_call0_v3 : Ref sig .tc := ⟨.hbm, 11, rfl⟩
abbrev main_call1_call0_v4 : Ref sig .tc := ⟨.hbm, 12, rfl⟩
abbrev main_call1_call0_v5 : Ref sig .tc := ⟨.hbm, 13, rfl⟩
abbrev main_call1_call0_v6 : Ref sig .tc := ⟨.hbm, 14, rfl⟩
abbrev main_call1_call0_v7 : Ref sig .tc := ⟨.hbm, 15, rfl⟩
abbrev main_call1_call0_v8 : Ref sig .tc := ⟨.hbm, 16, rfl⟩
abbrev main_call1_call0_v9 : Ref sig .tc := ⟨.hbm, 17, rfl⟩
abbrev main_call1_call0_v10 : Ref sig .tc := ⟨.hbm, 18, rfl⟩
abbrev main_call1_call0_v11 : Ref sig .tc := ⟨.hbm, 19, rfl⟩
abbrev main_call1_v1_0 : Ref sig .tc := ⟨.hbm, 20, rfl⟩
abbrev main_call1_call0_cst_0 : Ref sig .tc := ⟨.hbm, 21, rfl⟩
abbrev main_call1_call0_v13 : Ref sig .tc := ⟨.hbm, 22, rfl⟩
abbrev main_call1_call0_v14 : Ref sig .tc := ⟨.hbm, 23, rfl⟩
abbrev main_call1_call0_cst_1 : Ref sig .tc := ⟨.hbm, 24, rfl⟩
abbrev main_call1_call0_v15 : Ref sig .tc := ⟨.hbm, 25, rfl⟩
abbrev main_call1_call0_v16 : Ref sig .tc := ⟨.hbm, 26, rfl⟩
abbrev main_call1_call0_cst_2 : Ref sig .tc := ⟨.hbm, 27, rfl⟩
abbrev main_call1_call0_v17 : Ref sig .tc := ⟨.hbm, 28, rfl⟩
abbrev main_call1_call0_v18 : Ref sig .tc := ⟨.hbm, 29, rfl⟩
abbrev main_call1_call0_cst_3 : Ref sig .tc := ⟨.hbm, 30, rfl⟩
abbrev main_call1_call0_v19 : Ref sig .tc := ⟨.hbm, 31, rfl⟩
abbrev main_call1_call0_v20 : Ref sig .tc := ⟨.hbm, 32, rfl⟩
abbrev main_call1_call0_v21 : Ref sig .tc := ⟨.hbm, 33, rfl⟩
abbrev main_v2_1 : Ref sig .tc := ⟨.hbm, 34, rfl⟩
abbrev main_call1_call0_cst_4 : Ref sig .tc := ⟨.hbm, 35, rfl⟩
abbrev main_call1_call0_cst_5 : Ref sig .tc := ⟨.hbm, 36, rfl⟩
abbrev main_call1_call0_v23 : Ref sig .tc := ⟨.hbm, 37, rfl⟩
abbrev main_call1_call0_cst_6 : Ref sig .tc := ⟨.hbm, 38, rfl⟩
abbrev main_call1_call0_cst_7 : Ref sig .tc := ⟨.hbm, 39, rfl⟩
abbrev main_call1_call0_v24 : Ref sig .tc := ⟨.hbm, 40, rfl⟩
abbrev main_call1_call0_cst_8 : Ref sig .tc := ⟨.hbm, 41, rfl⟩
abbrev main_call1_call0_v25 : Ref sig .tc := ⟨.hbm, 42, rfl⟩
abbrev main_call1_call0_v26 : Ref sig .tc := ⟨.hbm, 43, rfl⟩
abbrev main_call1_call0_cst_9 : Ref sig .tc := ⟨.hbm, 44, rfl⟩
abbrev main_call1_call0_v27 : Ref sig .tc := ⟨.hbm, 45, rfl⟩
abbrev main_call1_call0_v28 : Ref sig .tc := ⟨.hbm, 46, rfl⟩
abbrev main_call1_call0_v29 : Ref sig .tc := ⟨.hbm, 47, rfl⟩
abbrev main_call1_call0_v30 : Ref sig .tc := ⟨.hbm, 48, rfl⟩
abbrev main_call1_call0_v31 : Ref sig .tc := ⟨.hbm, 49, rfl⟩
abbrev main_call1_call0_cst_10 : Ref sig .tc := ⟨.hbm, 50, rfl⟩
abbrev main_call1_call0_v32 : Ref sig .tc := ⟨.hbm, 51, rfl⟩
abbrev main_v2_2 : Ref sig .tc := ⟨.hbm, 52, rfl⟩
abbrev main_v2_0 : Ref sig .tc := ⟨.hbm, 53, rfl⟩
abbrev main_cst : Ref sig .tc := ⟨.hbm, 54, rfl⟩
abbrev main_v3 : Ref sig .tc := ⟨.hbm, 55, rfl⟩
abbrev main_call2_v0 : Ref sig .tc := ⟨.hbm, 56, rfl⟩
abbrev main_call2_v1 : Ref sig .tc := ⟨.hbm, 57, rfl⟩
abbrev main_v4 : Ref sig .tc := ⟨.hbm, 58, rfl⟩

abbrev nD : Nat := 1
abbrev τ : Topo := Topo.v7x

variable {F : FTy → Type} [FloatOps F]
-- ==== Kernel2.lean ====
abbrev S2x2048x4x192 : Shape := ⟨4, ![2, 2048, 4, 192]⟩
abbrev S2x256x4x192 : Shape := ⟨4, ![2, 256, 4, 192]⟩
abbrev S2x2048x4x128 : Shape := ⟨4, ![2, 2048, 4, 128]⟩
abbrev S2x256x4x128 : Shape := ⟨4, ![2, 256, 4, 128]⟩
abbrev S2x2048x1024 : Shape := ⟨3, ![2, 2048, 1024]⟩
abbrev S_ : Shape := ⟨0, ![]⟩
abbrev S2x2048x4x256 : Shape := ⟨4, ![2, 2048, 4, 256]⟩
abbrev S4096x1024 : Shape := ⟨2, ![4096, 1024]⟩
abbrev S2x256x4x256 : Shape := ⟨4, ![2, 256, 4, 256]⟩
abbrev S512x1024 : Shape := ⟨2, ![512, 1024]⟩
abbrev S4608x1024 : Shape := ⟨2, ![4608, 1024]⟩
abbrev S4096x512 : Shape := ⟨2, ![4096, 512]⟩
abbrev S512x512 : Shape := ⟨2, ![512, 512]⟩
abbrev S4608x512 : Shape := ⟨2, ![4608, 512]⟩
abbrev S2x4x2048x2048 : Shape := ⟨4, ![2, 4, 2048, 2048]⟩
abbrev S2x4x2048x256 : Shape := ⟨4, ![2, 4, 2048, 256]⟩
abbrev S2x4x2048 : Shape := ⟨3, ![2, 4, 2048]⟩
abbrev S2x4x2048x1 : Shape := ⟨4, ![2, 4, 2048, 1]⟩
abbrev S2x4x2048x128 : Shape := ⟨4, ![2, 4, 2048, 128]⟩
abbrev S512x256 : Shape := ⟨2, ![512, 256]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S512x128 : Shape := ⟨2, ![512, 128]⟩
abbrev S512 : Shape := ⟨1, ![512]⟩
abbrev S512x1 : Shape := ⟨2, ![512, 1]⟩
abbrev S1024x256 : Shape := ⟨2, ![1024, 256]⟩
abbrev S1024x128 : Shape := ⟨2, ![1024, 128]⟩

abbrev nBuf : Space → Nat
  | .hbm => 83
  | .vmem => 30
  | .smem => 0
  | _ => 0

abbrev bufTy : (tb : Table) → Fin (tcTables nBuf tb) → BufTy
  | .hbm, ⟨0, _⟩ => ⟨S2x2048x4x192, .f32⟩
  | .hbm, ⟨1, _⟩ => ⟨S2x2048x4x192, .f32⟩
  | .hbm, ⟨2, _⟩ => ⟨S2x256x4x192, .f32⟩
  | .hbm, ⟨3, _⟩ => ⟨S2x2048x4x128, .f32⟩
  | .hbm, ⟨4, _⟩ => ⟨S2x256x4x128, .f32⟩
  | .hbm, ⟨5, _⟩ => ⟨S2x2048x1024, .f32⟩
  | .hbm, ⟨6, _⟩ => ⟨S_, .i32⟩
  | .hbm, ⟨7, _⟩ => ⟨S_, .f32⟩
  | .hbm, ⟨8, _⟩ => ⟨S2x2048x4x256, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S_, .i32⟩
  | .hbm, ⟨15, _⟩ => ⟨S_, .f32⟩
  | .hbm, ⟨16, _⟩ => ⟨S2x2048x4x256, .f32⟩
  | .hbm, ⟨17, _⟩ => ⟨S4096x1024, .f32⟩
  | .hbm, ⟨18, _⟩ => ⟨S_, .i32⟩
  | .hbm, ⟨19, _⟩ => ⟨S_, .f32⟩
  | .hbm, ⟨20, _⟩ => ⟨S2x256x4x256, .f32⟩
  | .hbm, ⟨21, _⟩ => ⟨S512x1024, .f32⟩
  | .hbm, ⟨22, _⟩ => ⟨S4608x1024, .f32⟩
  | .hbm, ⟨23, _⟩ => ⟨S4608x1024, .bf16⟩
  | .hbm, ⟨24, _⟩ => ⟨S4096x512, .f32⟩
  | .hbm, ⟨25, _⟩ => ⟨S512x512, .f32⟩
  | .hbm, ⟨26, _⟩ => ⟨S4608x512, .f32⟩
  | .hbm, ⟨27, _⟩ => ⟨S4608x512, .bf16⟩
  | .hbm, ⟨28, _⟩ => ⟨S_, .f32⟩
  | .hbm, ⟨29, _⟩ => ⟨S2x2048x4x192, .f32⟩
  | .hbm, ⟨30, _⟩ => ⟨S2x2048x4x192, .f32⟩
  | .hbm, ⟨31, _⟩ => ⟨S2x2048x4x192, .bf16⟩
  | .hbm, ⟨32, _⟩ => ⟨S2x2048x4x192, .bf16⟩
  | .hbm, ⟨33, _⟩ => ⟨S2x256x4x192, .bf16⟩
  | .hbm, ⟨34, _⟩ => ⟨S2x2048x4x128, .bf16⟩
  | .hbm, ⟨35, _⟩ => ⟨S2x256x4x128, .bf16⟩
  | .hbm, ⟨36, _⟩ => ⟨S2x4x2048x2048, .f32⟩
  | .hbm, ⟨37, _⟩ => ⟨S2x4x2048x256, .f32⟩
  | .hbm, ⟨38, _⟩ => ⟨S_, .f32⟩
  | .hbm, ⟨39, _⟩ => ⟨S2x4x2048, .f32⟩
  | .hbm, ⟨40, _⟩ => ⟨S2x4x2048x1, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x1, .f32⟩
  | .hbm, ⟨45, _⟩ => ⟨S2x4x2048x2048, .f32⟩
  | .hbm, ⟨46, _⟩ => ⟨S2x4x2048x2048, .f32⟩
  | .hbm, ⟨47, _⟩ => ⟨S2x4x2048x2048, .f32⟩
  | .hbm, ⟨48, _⟩ => ⟨S2x4x2048x256, .f32⟩
  | .hbm, ⟨49, _⟩ => ⟨S2x4x2048x256, .f32⟩
  | .hbm, ⟨50, _⟩ => ⟨S2x4x2048x256, .f32⟩
  | .hbm, ⟨51, _⟩ => ⟨S_, .f32⟩
  | .hbm, ⟨52, _⟩ => ⟨S2x4x2048, .f32⟩
  | .hbm, ⟨53, _⟩ => ⟨S2x4x2048x1, .f32⟩
  | .hbm, ⟨54, _⟩ => ⟨S_, .f32⟩
  | .hbm, ⟨55, _⟩ => ⟨S2x4x2048, .f32⟩
  | .hbm, ⟨56, _⟩ => ⟨S2x4x2048x1, .f32⟩
  | .hbm, ⟨57, _⟩ => ⟨S2x4x2048x1, .f32⟩
  | .hbm, ⟨58, _⟩ => ⟨S2x4x2048x2048, .bf16⟩
  | .hbm, ⟨59, _⟩ => ⟨S2x4x2048x128, .f32⟩
  | .hbm, ⟨60, _⟩ => ⟨S2x4x2048x256, .bf16⟩
  | .hbm, ⟨61, _⟩ => ⟨S2x4x2048x128, .f32⟩
  | .hbm, ⟨62, _⟩ => ⟨S2x4x2048x128, .f32⟩
  | .hbm, ⟨63, _⟩ => ⟨S_, .f32⟩
  | .hbm, ⟨64, _⟩ => ⟨S2x4x2048x1, .f32⟩
  | .hbm, ⟨65, _⟩ => ⟨S2x4x2048x1, .f32⟩
  | .hbm, ⟨66, _⟩ => ⟨S2x4x2048x128, .f32⟩
  | .hbm, ⟨67, _⟩ => ⟨S2x4x2048x128, .f32⟩
  | .hbm, ⟨68, _⟩ => ⟨S2x4x2048x128, .bf16⟩
  | .hbm, ⟨69, _⟩ => ⟨S2x4x2048x1, .f32⟩
  | .hbm, ⟨70, _⟩ => ⟨S2x4x2048x1, .f32⟩
  | .hbm, ⟨71, _⟩ => ⟨S2x4x2048x128, .f32⟩
  | .hbm, ⟨72, _⟩ => ⟨S2x2048x4x128, .bf16⟩
  | .hbm, ⟨73, _⟩ => ⟨S4096x512, .bf16⟩
  | .hbm, ⟨74, _⟩ => ⟨S2x2048x4x128, .f32⟩
  | .hbm, ⟨75, _⟩ => ⟨S4096x512, .f32⟩
  | .hbm, ⟨76, _⟩ => ⟨S4096x1024, .f32⟩
  | .hbm, ⟨77, _⟩ => ⟨S4096x1024, .bf16⟩
  | .hbm, ⟨78, _⟩ => ⟨S4096x1024, .bf16⟩
  | .hbm, ⟨79, _⟩ => ⟨S4096x1024, .bf16⟩
  | .hbm, ⟨80, _⟩ => ⟨S512x1024, .bf16⟩
  | .hbm, ⟨81, _⟩ => ⟨S4096x512, .bf16⟩
  | .hbm, ⟨82, _⟩ => ⟨S512x512, .bf16⟩
  | .local _ .vmem, ⟨0, _⟩ => ⟨S512x256, .bf16⟩
  | .local _ .vmem, ⟨1, _⟩ => ⟨S512x256, .bf16⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S512x128, .bf16⟩
  | .local _ .vmem, ⟨11, _⟩ => ⟨S512x128, .bf16⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x256, .bf16⟩
  | .local _ .vmem, ⟨17, _⟩ => ⟨S512x256, .bf16⟩
  | .local _ .vmem, ⟨18, _⟩ => ⟨S2048x256, .bf16⟩
  | .local _ .vmem, ⟨19, _⟩ => ⟨S2048x256, .bf16⟩
  | .local _ .vmem, ⟨20, _⟩ => ⟨S256x256, .bf16⟩
  | .local _ .vmem, ⟨21, _⟩ => ⟨S256x256, .bf16⟩
  | .local _ .vmem, ⟨22, _⟩ => ⟨S2048x128, .bf16⟩
  | .local _ .vmem, ⟨23, _⟩ => ⟨S2048x128, .bf16⟩
  | .local _ .vmem, ⟨24, _⟩ => ⟨S256x128, .bf16⟩
  | .local _ .vmem, ⟨25, _⟩ => ⟨S256x128, .bf16⟩
  | .local _ .vmem, ⟨26, _⟩ => ⟨S2048x256, .f32⟩
  | .local _ .vmem, ⟨27, _⟩ => ⟨S256x256, .f32⟩
  | .local _ .vmem, ⟨28, _⟩ => ⟨S2048x128, .f32⟩
  | .local _ .vmem, ⟨29, _⟩ => ⟨S256x128, .f32⟩
  | _, _ => ⟨S2x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_0 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_call2_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_cst_6 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_7 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59_0 : Ref sig .tc := ⟨.hbm, 78, rfl⟩
abbrev main_v59_1 : Ref sig .tc := ⟨.hbm, 79, rfl⟩
abbrev main_v59_2 : Ref sig .tc := ⟨.hbm, 80, rfl⟩
abbrev main_v59_3 : Ref sig .tc := ⟨.hbm, 81, rfl⟩
abbrev main_v59_4 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg2 : BitVec 32 := BitVec.ofNat 32 (i 2).val
  let c3_i32 : BitVec 32 := 3#32
  let v101 : BitVec 1 := Scalar.cmpi .eq arg2 c3_i32
  let v102 : BitVec 32 := Scalar.extui v101
  let c0_i32_60 : BitVec 32 := 0#32
  let v103 : BitVec 1 := Scalar.cmpi .ne v102 c0_i32_60
  v103

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S256x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference2Ideal.lean ====
abbrev S2x2048x4x192 : Shape := ⟨4, ![2, 2048, 4, 192]⟩
abbrev S2x256x4x192 : Shape := ⟨4, ![2, 256, 4, 192]⟩
abbrev S2x2048x4x128 : Shape := ⟨4, ![2, 2048, 4, 128]⟩
abbrev S2x256x4x128 : Shape := ⟨4, ![2, 256, 4, 128]⟩
abbrev S2x2048x1024 : Shape := ⟨3, ![2, 2048, 1024]⟩
abbrev S2x2304x4x192 : Shape := ⟨4, ![2, 2304, 4, 192]⟩
abbrev S2x2304x4x128 : Shape := ⟨4, ![2, 2304, 4, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S2x2048x512 : Shape := ⟨3, ![2, 2048, 512]⟩
abbrev S2x4x128x2304 : Shape := ⟨4, ![2, 4, 128, 2304]⟩
abbrev S2x4x2304x192 : Shape := ⟨4, ![2, 4, 2304, 192]⟩
abbrev S2x4x2048x192 : Shape := ⟨4, ![2, 4, 2048, 192]⟩
abbrev S2x2048x4x256 : Shape := ⟨4, ![2, 2048, 4, 256]⟩
abbrev S4096x1024 : Shape := ⟨2, ![4096, 1024]⟩
abbrev S2x256x4x256 : Shape := ⟨4, ![2, 256, 4, 256]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 106
  | .vmem => 0
  | .smem => 0
  | _ => 0

abbrev bufTy : (tb : Table) → Fin (tcTables nBuf tb) → BufTy
  | .hbm, ⟨0, _⟩ => ⟨S2x2048x4x192, .f32⟩
  | .hbm, ⟨1, _⟩ => ⟨S2x2048x4x192, .f32⟩
  | .hbm, ⟨2, _⟩ => ⟨S2x256x4x192, .f32⟩
  | .hbm, ⟨3, _⟩ => ⟨S2x2048x4x128, .f32⟩
  | .hbm, ⟨4, _⟩ => ⟨S2x256x4x128, .f32⟩
  | .hbm, ⟨5, _⟩ => ⟨S2x2048x1024, .f32⟩
  | .hbm, ⟨6, _⟩ => ⟨S2x2304x4x192, .f32⟩
  | .hbm, ⟨7, _⟩ => ⟨S2x2304x4x128, .f32⟩
  | .hbm, ⟨8, _⟩ => ⟨S2x4x2048x2304, .f32⟩
  | .hbm, ⟨9, _⟩ => ⟨S_, .f32⟩
  | .hbm, ⟨10, _⟩ => ⟨S2x4x2048x2304, .f32⟩
  | .hbm, ⟨11, _⟩ => ⟨S2x4x2048x2304, .f32⟩
  | .hbm, ⟨12, _⟩ => ⟨S_, .f32⟩
  | .hbm, ⟨13, _⟩ => ⟨S2x4x2048, .f32⟩
  | .hbm, ⟨14, _⟩ => ⟨S2x4x2048x1, .f32⟩
  | .hbm, ⟨15, _⟩ => ⟨S2x4x2048x2304, .f32⟩
  | .hbm, ⟨16, _⟩ => ⟨S2x4x2048x2304, .i1⟩
  | .hbm, ⟨17, _⟩ => ⟨S2x4x2048x2304, .f32⟩
  | .hbm, ⟨18, _⟩ => ⟨S_, .f32⟩
  | .hbm, ⟨19, _⟩ => ⟨S2x4x2048, .f32⟩
  | .hbm, ⟨20, _⟩ => ⟨S_, .f32⟩
  | .hbm, ⟨21, _⟩ => ⟨S2x4x2048, .f32⟩
  | .hbm, ⟨22, _⟩ => ⟨S2x4x2048, .f32⟩
  | .hbm, ⟨23, _⟩ => ⟨S_, .f32⟩
  | .hbm, ⟨24, _⟩ => ⟨S2x4x2048, .f32⟩
  | .hbm, ⟨25, _⟩ => ⟨S2x4x2048, .i1⟩
  | .hbm, ⟨26, _⟩ => ⟨S_, .f32⟩
  | .hbm, ⟨27, _⟩ => ⟨S2x4x2048, .f32⟩
  | .hbm, ⟨28, _⟩ => ⟨S2x4x2048, .i1⟩
  | .hbm, ⟨29, _⟩ => ⟨S_, .f32⟩
  | .hbm, ⟨30, _⟩ => ⟨S2x4x2048, .f32⟩
  | .hbm, ⟨31, _⟩ => ⟨S_, .f32⟩
  | .hbm, ⟨32, _⟩ => ⟨S2x4x2048, .f32⟩
  | .hbm, ⟨33, _⟩ => ⟨S_, .f32⟩
  | .hbm, ⟨34, _⟩ => ⟨S2x4x2048, .f32⟩
  | .hbm, ⟨35, _⟩ => ⟨S2x4x2048, .f32⟩
  | .hbm, ⟨36, _⟩ => ⟨S2x4x2048, .f32⟩
  | .hbm, ⟨37, _⟩ => ⟨S2x4x2048x1, .f32⟩
  | .hbm, ⟨38, _⟩ => ⟨S2x4x2048x2304, .f32⟩
  | .hbm, ⟨39, _⟩ => ⟨S2x4x2048x2304, .f32⟩
  | .hbm, ⟨40, _⟩ => ⟨S2x4x2048x2304, .f32⟩
  | .hbm, ⟨41, _⟩ => ⟨S_, .f32⟩
  | .hbm, ⟨42, _⟩ => ⟨S2x4x2048, .f32⟩
  | .hbm, ⟨43, _⟩ => ⟨S2x4x2048x1, .f32⟩
  | .hbm, ⟨44, _⟩ => ⟨S2x4x2048x2304, .f32⟩
  | .hbm, ⟨45, _⟩ => ⟨S2x4x2048x2304, .f32⟩
  | .hbm, ⟨46, _⟩ => ⟨S2x4x2048x1, .f32⟩
  | .hbm, ⟨47, _⟩ => ⟨S_, .f32⟩
  | .hbm, ⟨48, _⟩ => ⟨S2x4x2048x1, .f32⟩
  | .hbm, ⟨49, _⟩ => ⟨S2x4x2048x1, .f32⟩
  | .hbm, ⟨50, _⟩ => ⟨S2x4x128x2048, .f32⟩
  | .hbm, ⟨51, _⟩ => ⟨S2x2048x4x128, .f32⟩
  | .hbm, ⟨52, _⟩ => ⟨S2x2048x512, .f32⟩
  | .hbm, ⟨53, _⟩ => ⟨S2x2048x512, .f32⟩
  | .hbm, ⟨54, _⟩ => ⟨S2x2048x4x128, .f32⟩
  | .hbm, ⟨55, _⟩ => ⟨S2x4x128x2048, .f32⟩
  | .hbm, ⟨56, _⟩ => ⟨S2x4x2048x2304, .f32⟩
  | .hbm, ⟨57, _⟩ => ⟨S2x4x128x2304, .f32⟩
  | .hbm, ⟨58, _⟩ => ⟨S2x2304x4x128, .f32⟩
  | .hbm, ⟨59, _⟩ => ⟨S2x4x2048x2304, .f32⟩
  | .hbm, ⟨60, _⟩ => ⟨S2x4x2048x2304, .f32⟩
  | .hbm, ⟨61, _⟩ => ⟨S2x4x2048x2304, .f32⟩
  | .hbm, ⟨62, _⟩ => ⟨S_, .f32⟩
  | .hbm, ⟨63, _⟩ => ⟨S2x4x2048, .f32⟩
  | .hbm, ⟨64, _⟩ => ⟨S2x4x2048x1, .f32⟩
  | .hbm, ⟨65, _⟩ => ⟨S2x4x2048x1, .f32⟩
  | .hbm, ⟨66, _⟩ => ⟨S2x4x2048x2304, .f32⟩
  | .hbm, ⟨67, _⟩ => ⟨S2x4x2048x2304, .f32⟩
  | .hbm, ⟨68, _⟩ => ⟨S_, .f32⟩
  | .hbm, ⟨69, _⟩ => ⟨S2x4x2048, .f32⟩
  | .hbm, ⟨70, _⟩ => ⟨S2x4x2048x2304, .f32⟩
  | .hbm, ⟨71, _⟩ => ⟨S2x4x2048x2304, .f32⟩
  | .hbm, ⟨72, _⟩ => ⟨S2x4x2048x2304, .f32⟩
  | .hbm, ⟨73, _⟩ => ⟨S_, .f32⟩
  | .hbm, ⟨74, _⟩ => ⟨S2x4x2048x2304, .f32⟩
  | .hbm, ⟨75, _⟩ => ⟨S2x4x2048x2304, .f32⟩
  | .hbm, ⟨76, _⟩ => ⟨S2x4x2304x192, .f32⟩
  | .hbm, ⟨77, _⟩ => ⟨S2x2304x4x192, .f32⟩
  | .hbm, ⟨78, _⟩ => ⟨S2x4x2048x192, .f32⟩
  | .hbm, ⟨79, _⟩ => ⟨S2x2048x4x192, .f32⟩
  | .hbm, ⟨80, _⟩ => ⟨S2x256x4x128, .f32⟩
  | .hbm, ⟨81, _⟩ => ⟨S2x2048x4x128, .f32⟩
  | .hbm, ⟨82, _⟩ => ⟨S2x256x4x192, .f32⟩
  | .hbm, ⟨83, _⟩ => ⟨S2x2048x4x192, .f32⟩
  | .hbm, ⟨84, _⟩ => ⟨S_, .f32⟩
  | .hbm, ⟨85, _⟩ => ⟨S2x2048x4x192, .f32⟩
  | .hbm, ⟨86, _⟩ => ⟨S2x2048x4x192, .f32⟩
  | .hbm, ⟨87, _⟩ => ⟨S_, .i32⟩
  | .hbm, ⟨88, _⟩ => ⟨S_, .f32⟩
  | .hbm, ⟨89, _⟩ => ⟨S2x2048x4x256, .f32⟩
  | .hbm, ⟨90, _⟩ => ⟨S4096x1024, .f32⟩
  | .hbm, ⟨91, _⟩ => ⟨S4096x1024, .bf16⟩
  | .hbm, ⟨92, _⟩ => ⟨S_, .i32⟩
  | .hbm, ⟨93, _⟩ => ⟨S_, .f32⟩
  | .hbm, ⟨94, _⟩ => ⟨S2x2048x4x256, .f32⟩
  | .hbm, ⟨95, _⟩ => ⟨S4096x1024, .f32⟩
  | .hbm, ⟨96, _⟩ => ⟨S4096x1024, .bf16⟩
  | .hbm, ⟨97, _⟩ => ⟨S_, .i32⟩
  | .hbm, ⟨98, _⟩ => ⟨S_, .f32⟩
  | .hbm, ⟨99, _⟩ => ⟨S2x256x4x256, .f32⟩
  | .hbm, ⟨100, _⟩ => ⟨S512x1024, .f32⟩
  | .hbm, ⟨101, _⟩ => ⟨S512x1024, .bf16⟩
  | .hbm, ⟨102, _⟩ => ⟨S4096x512, .f32⟩
  | .hbm, ⟨103, _⟩ => ⟨S4096x512, .bf16⟩
  | .hbm, ⟨104, _⟩ => ⟨S512x512, .f32⟩
  | .hbm, ⟨105, _⟩ => ⟨S512x512, .bf16⟩
  | _, _ => ⟨S2x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_8 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_12 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_c : Ref sig .tc := ⟨.hbm, 87, rfl⟩
abbrev main_call0_v0 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_c_14 : Ref sig .tc := ⟨.hbm, 92, rfl⟩
abbrev main_call1_v0 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_call2_v0 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩

abbrev nD : Nat := 1
abbrev τ : Topo := Topo.v7x

variable {F : FTy → Type} [FloatOps F]
-- ==== Kernel3.lean ====
abbrev S2x2048x4x192 : Shape := ⟨4, ![2, 2048, 4, 192]⟩
abbrev S2x256x4x192 : Shape := ⟨4, ![2, 256, 4, 192]⟩
abbrev S2x2048x4x128 : Shape := ⟨4, ![2, 2048, 4, 128]⟩
abbrev S2x256x4x128 : Shape := ⟨4, ![2, 256, 4, 128]⟩
abbrev S_ : Shape := ⟨0, ![]⟩
abbrev S2x2048x4x256 : Shape := ⟨4, ![2, 2048, 4, 256]⟩
abbrev S4096x1024 : Shape := ⟨2, ![4096, 1024]⟩
abbrev S2x256x4x256 : Shape := ⟨4, ![2, 256, 4, 256]⟩
abbrev S512x1024 : Shape := ⟨2, ![512, 1024]⟩
abbrev S4608x1024 : Shape := ⟨2, ![4608, 1024]⟩
abbrev S4096x512 : Shape := ⟨2, ![4096, 512]⟩
abbrev S512x512 : Shape := ⟨2, ![512, 512]⟩
abbrev S4608x512 : Shape := ⟨2, ![4608, 512]⟩
abbrev S256x512 : Shape := ⟨2, ![256, 512]⟩
abbrev S2048x512 : Shape := ⟨2, ![2048, 512]⟩
abbrev S2048x256 : Shape := ⟨2, ![2048, 256]⟩
abbrev S256x256 : Shape := ⟨2, ![256, 256]⟩
abbrev S256x2048 : Shape := ⟨2, ![256, 2048]⟩
abbrev S256 : Shape := ⟨1, ![256]⟩
abbrev S256x1 : Shape := ⟨2, ![256, 1]⟩
abbrev S2048x128 : Shape := ⟨2, ![2048, 128]⟩
abbrev S256x128 : Shape := ⟨2, ![256, 128]⟩

abbrev nBuf : Space → Nat
  | .hbm => 29
  | .vmem => 14
  | .smem => 0
  | _ => 0

abbrev bufTy : (tb : Table) → Fin (tcTables nBuf tb) → BufTy
  | .hbm, ⟨0, _⟩ => ⟨S2x2048x4x192, .f32⟩
  | .hbm, ⟨1, _⟩ => ⟨S2x2048x4x192, .f32⟩
  | .hbm, ⟨2, _⟩ => ⟨S2x256x4x192, .f32⟩
  | .hbm, ⟨3, _⟩ => ⟨S2x2048x4x128, .f32⟩
  | .hbm, ⟨4, _⟩ => ⟨S2x256x4x128, .f32⟩
  | .hbm, ⟨5, _⟩ => ⟨S_, .i32⟩
  | .hbm, ⟨6, _⟩ => ⟨S_, .f32⟩
  | .hbm, ⟨7, _⟩ => ⟨S2x2048x4x256, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .bf16⟩
  | .hbm, ⟨13, _⟩ => ⟨S_, .i32⟩
  | .hbm, ⟨14, _⟩ => ⟨S_, .f32⟩
  | .hbm, ⟨15, _⟩ => ⟨S2x2048x4x256, .f32⟩
  | .hbm, ⟨16, _⟩ => ⟨S4096x1024, .f32⟩
  | .hbm, ⟨17, _⟩ => ⟨S_, .i32⟩
  | .hbm, ⟨18, _⟩ => ⟨S_, .f32⟩
  | .hbm, ⟨19, _⟩ => ⟨S2x256x4x256, .f32⟩
  | .hbm, ⟨20, _⟩ => ⟨S512x1024, .f32⟩
  | .hbm, ⟨21, _⟩ => ⟨S4608x1024, .f32⟩
  | .hbm, ⟨22, _⟩ => ⟨S4608x1024, .bf16⟩
  | .hbm, ⟨23, _⟩ => ⟨S4096x512, .f32⟩
  | .hbm, ⟨24, _⟩ => ⟨S512x512, .f32⟩
  | .hbm, ⟨25, _⟩ => ⟨S4608x512, .f32⟩
  | .hbm, ⟨26, _⟩ => ⟨S4608x512, .bf16⟩
  | .hbm, ⟨27, _⟩ => ⟨S4096x512, .bf16⟩
  | .hbm, ⟨28, _⟩ => ⟨S4096x512, .f32⟩
  | .local _ .vmem, ⟨0, _⟩ => ⟨S256x512, .bf16⟩
  | .local _ .vmem, ⟨1, _⟩ => ⟨S256x512, .bf16⟩
  | .local _ .vmem, ⟨2, _⟩ => ⟨S2048x512, .bf16⟩
  | .local _ .vmem, ⟨3, _⟩ => ⟨S2048x512, .bf16⟩
  | .local _ .vmem, ⟨4, _⟩ => ⟨S256x512, .bf16⟩
  | .local _ .vmem, ⟨5, _⟩ => ⟨S256x512, .bf16⟩
  | .local _ .vmem, ⟨6, _⟩ => ⟨S2048x256, .bf16⟩
  | .local _ .vmem, ⟨7, _⟩ => ⟨S2048x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .f32⟩
  | .local _ .vmem, ⟨13, _⟩ => ⟨S256x256, .f32⟩
  | _, _ => ⟨S2x2048x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_call1_v0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call2_v0 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15_0 : Ref sig .tc := ⟨.hbm, 27, rfl⟩
abbrev main_v15_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== Reference3Ideal.lean ====
abbrev S2x2048x4x192 : Shape := ⟨4, ![2, 2048, 4, 192]⟩
abbrev S2x256x4x192 : Shape := ⟨4, ![2, 256, 4, 192]⟩
abbrev S2x2048x4x128 : Shape := ⟨4, ![2, 2048, 4, 128]⟩
abbrev S2x256x4x128 : Shape := ⟨4, ![2, 256, 4, 128]⟩
abbrev S2x2304x4x192 : Shape := ⟨4, ![2, 2304, 4, 192]⟩
abbrev S2x2304x4x128 : Shape := ⟨4, ![2, 2304, 4, 128]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x4x128x2048 : Shape := ⟨4, ![2, 4, 128, 2048]⟩
abbrev S4096x512 : Shape := ⟨2, ![4096, 512]⟩
abbrev S2x2048x4 : Shape := ⟨3, ![2, 2048, 4]⟩
abbrev S4096x4 : Shape := ⟨2, ![4096, 4]⟩
abbrev S4096x4x128 : Shape := ⟨3, ![4096, 4, 128]⟩

abbrev nBuf : Space → Nat
  | .hbm => 37
  | .vmem => 0
  | .smem => 0
  | _ => 0

abbrev bufTy : (tb : Table) → Fin (tcTables nBuf tb) → BufTy
  | .hbm, ⟨0, _⟩ => ⟨S2x2048x4x192, .f32⟩
  | .hbm, ⟨1, _⟩ => ⟨S2x2048x4x192, .f32⟩
  | .hbm, ⟨2, _⟩ => ⟨S2x256x4x192, .f32⟩
  | .hbm, ⟨3, _⟩ => ⟨S2x2048x4x128, .f32⟩
  | .hbm, ⟨4, _⟩ => ⟨S2x256x4x128, .f32⟩
  | .hbm, ⟨5, _⟩ => ⟨S2x2304x4x192, .f32⟩
  | .hbm, ⟨6, _⟩ => ⟨S2x2304x4x128, .f32⟩
  | .hbm, ⟨7, _⟩ => ⟨S2x4x2048x2304, .f32⟩
  | .hbm, ⟨8, _⟩ => ⟨S_, .f32⟩
  | .hbm, ⟨9, _⟩ => ⟨S2x4x2048x2304, .f32⟩
  | .hbm, ⟨10, _⟩ => ⟨S2x4x2048x2304, .f32⟩
  | .hbm, ⟨11, _⟩ => ⟨S_, .f32⟩
  | .hbm, ⟨12, _⟩ => ⟨S2x4x2048, .f32⟩
  | .hbm, ⟨13, _⟩ => ⟨S_, .f32⟩
  | .hbm, ⟨14, _⟩ => ⟨S2x4x2048, .f32⟩
  | .hbm, ⟨15, _⟩ => ⟨S2x4x2048, .f32⟩
  | .hbm, ⟨16, _⟩ => ⟨S2x4x2048x1, .f32⟩
  | .hbm, ⟨17, _⟩ => ⟨S2x4x2048x2304, .f32⟩
  | .hbm, ⟨18, _⟩ => ⟨S2x4x2048x2304, .f32⟩
  | .hbm, ⟨19, _⟩ => ⟨S2x4x2048x2304, .f32⟩
  | .hbm, ⟨20, _⟩ => ⟨S_, .f32⟩
  | .hbm, ⟨21, _⟩ => ⟨S2x4x2048, .f32⟩
  | .hbm, ⟨22, _⟩ => ⟨S2x4x2048x1, .f32⟩
  | .hbm, ⟨23, _⟩ => ⟨S2x4x2048x2304, .f32⟩
  | .hbm, ⟨24, _⟩ => ⟨S2x4x2048x2304, .f32⟩
  | .hbm, ⟨25, _⟩ => ⟨S2x4x128x2048, .f32⟩
  | .hbm, ⟨26, _⟩ => ⟨S2x2048x4x128, .f32⟩
  | .hbm, ⟨27, _⟩ => ⟨S2x4x2048x2304, .f32⟩
  | .hbm, ⟨28, _⟩ => ⟨S_, .f32⟩
  | .hbm, ⟨29, _⟩ => ⟨S2x4x2048, .f32⟩
  | .hbm, ⟨30, _⟩ => ⟨S2x4x2048, .f32⟩
  | .hbm, ⟨31, _⟩ => ⟨S4096x512, .f32⟩
  | .hbm, ⟨32, _⟩ => ⟨S4096x512, .bf16⟩
  | .hbm, ⟨33, _⟩ => ⟨S2x2048x4, .f32⟩
  | .hbm, ⟨34, _⟩ => ⟨S4096x4, .f32⟩
  | .hbm, ⟨35, _⟩ => ⟨S4096x4x128, .f32⟩
  | .hbm, ⟨36, _⟩ => ⟨S4096x512, .f32⟩
  | _, _ => ⟨S2x2048x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== Kernel4.lean ====
abbrev S2x2048x512 : Shape := ⟨3, ![2, 2048, 512]⟩
abbrev S2x2048x1024 : Shape := ⟨3, ![2, 2048, 1024]⟩
abbrev S2x6144 : Shape := ⟨2, ![2, 6144]⟩
abbrev S1x1024 : Shape := ⟨2, ![1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x6x1024 : Shape := ⟨3, ![2, 6, 1024]⟩
abbrev S_ : Shape := ⟨0, ![]⟩
abbrev S3x8x1024 : Shape := ⟨3, ![3, 8, 1024]⟩
abbrev S1024x4x1024 : Shape := ⟨3, ![1024, 4, 1024]⟩
abbrev S4x1024x1024 : Shape := ⟨3, ![4, 1024, 1024]⟩
abbrev S4x2x512x1024 : Shape := ⟨4, ![4, 2, 512, 1024]⟩
abbrev S4096x512 : Shape := ⟨2, ![4096, 512]⟩
abbrev S4x1x512x1024 : Shape := ⟨4, ![4, 1, 512, 1024]⟩
abbrev S4x512x1024 : Shape := ⟨3, ![4, 512, 1024]⟩
abbrev S4096x4096 : Shape := ⟨2, ![4096, 4096]⟩
abbrev S2x8x1024 : Shape := ⟨3, ![2, 8, 1024]⟩
abbrev S256x512 : Shape := ⟨2, ![256, 512]⟩
abbrev S256x1024 : Shape := ⟨2, ![256, 1024]⟩
abbrev S1x8x1024 : Shape := ⟨3, ![1, 8, 1024]⟩
abbrev S256x4096 : Shape := ⟨2, ![256, 4096]⟩
abbrev S1x1x1024 : Shape := ⟨3, ![1, 1, 1024]⟩
abbrev S512x1024 : Shape := ⟨2, ![512, 1024]⟩
abbrev S256 : Shape := ⟨1, ![256]⟩
abbrev S256x1 : Shape := ⟨2, ![256, 1]⟩
abbrev S1x1024x1024 : Shape := ⟨3, ![1, 1024, 1024]⟩
abbrev S1x512x1024 : Shape := ⟨3, ![1, 512, 1024]⟩
abbrev S8x1024 : Shape := ⟨2, ![8, 1024]⟩

abbrev nBuf : Space → Nat
  | .hbm => 40
  | .vmem => 35
  | .smem => 0
  | _ => 0

abbrev bufTy : (tb : Table) → Fin (tcTables nBuf tb) → BufTy
  | .hbm, ⟨0, _⟩ => ⟨S2x2048x512, .f32⟩
  | .hbm, ⟨1, _⟩ => ⟨S2x2048x512, .f32⟩
  | .hbm, ⟨2, _⟩ => ⟨S2x2048x1024, .f32⟩
  | .hbm, ⟨3, _⟩ => ⟨S2x6144, .f32⟩
  | .hbm, ⟨4, _⟩ => ⟨S1x1024, .f32⟩
  | .hbm, ⟨5, _⟩ => ⟨S1024, .f32⟩
  | .hbm, ⟨6, _⟩ => ⟨S1024x1024, .f32⟩
  | .hbm, ⟨7, _⟩ => ⟨S1024x4096, .f32⟩
  | .hbm, ⟨8, _⟩ => ⟨S4096x1024, .f32⟩
  | .hbm, ⟨9, _⟩ => ⟨S2x2048x1024, .f32⟩
  | .hbm, ⟨10, _⟩ => ⟨S2x6x1024, .f32⟩
  | .hbm, ⟨11, _⟩ => ⟨S_, .i32⟩
  | .hbm, ⟨12, _⟩ => ⟨S_, .f32⟩
  | .hbm, ⟨13, _⟩ => ⟨S3x8x1024, .f32⟩
  | .hbm, ⟨14, _⟩ => ⟨S1024x4x1024, .f32⟩
  | .hbm, ⟨15, _⟩ => ⟨S4x1024x1024, .f32⟩
  | .hbm, ⟨16, _⟩ => ⟨S4x1024x1024, .bf16⟩
  | .hbm, ⟨17, _⟩ => ⟨S4x2x512x1024, .f32⟩
  | .hbm, ⟨18, _⟩ => ⟨S4x2x512x1024, .bf16⟩
  | .hbm, ⟨19, _⟩ => ⟨S4096x512, .f32⟩
  | .hbm, ⟨20, _⟩ => ⟨S4096x512, .bf16⟩
  | .hbm, ⟨21, _⟩ => ⟨S4096x512, .f32⟩
  | .hbm, ⟨22, _⟩ => ⟨S4096x512, .bf16⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024x1024, .bf16⟩
  | .hbm, ⟨27, _⟩ => ⟨S4x1x512x1024, .bf16⟩
  | .hbm, ⟨28, _⟩ => ⟨S4x512x1024, .bf16⟩
  | .hbm, ⟨29, _⟩ => ⟨S4x1x512x1024, .bf16⟩
  | .hbm, ⟨30, _⟩ => ⟨S4x512x1024, .bf16⟩
  | .hbm, ⟨31, _⟩ => ⟨S4096x1024, .bf16⟩
  | .hbm, ⟨32, _⟩ => ⟨S4096x4096, .bf16⟩
  | .hbm, ⟨33, _⟩ => ⟨S4096x4096, .bf16⟩
  | .hbm, ⟨34, _⟩ => ⟨S4096x1024, .bf16⟩
  | .hbm, ⟨35, _⟩ => ⟨S4096x1024, .bf16⟩
  | .hbm, ⟨36, _⟩ => ⟨S4096x1024, .bf16⟩
  | .hbm, ⟨37, _⟩ => ⟨S4096x1024, .bf16⟩
  | .hbm, ⟨38, _⟩ => ⟨S4096x1024, .f32⟩
  | .hbm, ⟨39, _⟩ => ⟨S2x8x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x8x1024, .f32⟩
  | .local _ .vmem, ⟨9, _⟩ => ⟨S1x8x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S4x1024x1024, .bf16⟩
  | .local _ .vmem, ⟨14, _⟩ => ⟨S4x512x1024, .bf16⟩
  | .local _ .vmem, ⟨15, _⟩ => ⟨S4x512x1024, .bf16⟩
  | .local _ .vmem, ⟨16, _⟩ => ⟨S256x1024, .bf16⟩
  | .local _ .vmem, ⟨17, _⟩ => ⟨S256x1024, .bf16⟩
  | .local _ .vmem, ⟨18, _⟩ => ⟨S256x4096, .bf16⟩
  | .local _ .vmem, ⟨19, _⟩ => ⟨S256x4096, .bf16⟩
  | .local _ .vmem, ⟨20, _⟩ => ⟨S256x4096, .bf16⟩
  | .local _ .vmem, ⟨21, _⟩ => ⟨S256x4096, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S256x1024, .bf16⟩
  | .local _ .vmem, ⟨30, _⟩ => ⟨S256x1024, .f32⟩
  | .local _ .vmem, ⟨31, _⟩ => ⟨S256x1024, .f32⟩
  | .local _ .vmem, ⟨32, _⟩ => ⟨S1x8x1024, .f32⟩
  | .local _ .vmem, ⟨33, _⟩ => ⟨S1x8x1024, .f32⟩
  | .local _ .vmem, ⟨34, _⟩ => ⟨S256x4096, .f32⟩
  | _, _ => ⟨S2x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_v19_2 : Ref sig .tc := ⟨.hbm, 33, rfl⟩
abbrev main_v19_3 : Ref sig .tc := ⟨.hbm, 34, rfl⟩
abbrev main_v19_4 : Ref sig .tc := ⟨.hbm, 35, rfl⟩
abbrev main_v19_5 : Ref sig .tc := ⟨.hbm, 36, rfl⟩
abbrev main_v19_6 : Ref sig .tc := ⟨.hbm, 37, rfl⟩
abbrev main_v19_7 : Ref sig .tc := ⟨.hbm, 38, rfl⟩
abbrev main_v19_8 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c8_i32 : BitVec 32 := 8#32
  let c0_i32 : BitVec 32 := 0#32
  let v294 : BitVec 1 := Scalar.cmpi .eq c8_i32 c0_i32
  let c1_i32 : BitVec 32 := 1#32
  let v295 : BitVec 32 := Scalar.select v294 c1_i32 c8_i32
  let v296 : BitVec 32 := Scalar.remsi arg0 v295
  let c0_i32_197 : BitVec 32 := 0#32
  let v298 : BitVec 1 := Scalar.cmpi .slt v296 c0_i32_197
  let c0_i32_198 : BitVec 32 := 0#32
  let v299 : BitVec 1 := Scalar.cmpi .slt v295 c0_i32_198
  let v300 : BitVec 1 := Scalar.xori v298 v299
  let c0_i32_196 : BitVec 32 := 0#32
  let v297 : BitVec 1 := Scalar.cmpi .ne v296 c0_i32_196
  let v301 : BitVec 1 := Scalar.andi v300 v297
  let v302 : BitVec 32 := Scalar.addi v296 v295
  let v303 : BitVec 32 := Scalar.select v301 v302 v296
  let c0_i32_199 : BitVec 32 := 0#32
  let v304 : BitVec 1 := Scalar.cmpi .eq v303 c0_i32_199
  let v305 : BitVec 32 := Scalar.extui v304
  let c0_i32_200 : BitVec 32 := 0#32
  let v306 : BitVec 1 := Scalar.cmpi .ne v305 c0_i32_200
  v306

def k0_cond2 (i : grid0.Coords) : BitVec 1 :=
  let arg0 : BitVec 32 := BitVec.ofNat 32 (i 0).val
  let c8_i32_201 : BitVec 32 := 8#32
  let c0_i32_202 : BitVec 32 := 0#32
  let v307 : BitVec 1 := Scalar.cmpi .eq c8_i32_201 c0_i32_202
  let c1_i32_203 : BitVec 32 := 1#32
  let v308 : BitVec 32 := Scalar.select v307 c1_i32_203 c8_i32_201
  let v309 : BitVec 32 := Scalar.remsi arg0 v308
  let c0_i32_205 : BitVec 32 := 0#32
  let v311 : BitVec 1 := Scalar.cmpi .slt v309 c0_i32_205
  let c0_i32_206 : BitVec 32 := 0#32
  let v312 : BitVec 1 := Scalar.cmpi .slt v308 c0_i32_206
  let v313 : BitVec 1 := Scalar.xori v311 v312
  let c0_i32_204 : BitVec 32 := 0#32
  let v310 : BitVec 1 := Scalar.cmpi .ne v309 c0_i32_204
  let v314 : BitVec 1 := Scalar.andi v313 v310
  let v315 : BitVec 32 := Scalar.addi v309 v308
  let v316 : BitVec 32 := Scalar.select v314 v315 v309
  let c0_i32_207 : BitVec 32 := 0#32
  let v317 : BitVec 1 := Scalar.cmpi .ne v316 c0_i32_207
  let v318 : BitVec 32 := Scalar.extui v317
  let c0_i32_208 : BitVec 32 := 0#32
  let v319 : BitVec 1 := Scalar.cmpi .ne v318 c0_i32_208
  v319

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x8x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference4Ideal.lean ====
abbrev S2x2048x512 : Shape := ⟨3, ![2, 2048, 512]⟩
abbrev S2x2048x1024 : Shape := ⟨3, ![2, 2048, 1024]⟩
abbrev S2x6144 : Shape := ⟨2, ![2, 6144]⟩
abbrev S1x1024 : Shape := ⟨2, ![1, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S2x1024 : Shape := ⟨2, ![2, 1024]⟩
abbrev S2x1x1024 : Shape := ⟨3, ![2, 1, 1024]⟩
abbrev S_ : Shape := ⟨0, ![]⟩
abbrev S2x2048 : Shape := ⟨2, ![2, 2048]⟩
abbrev S2x2048x1 : Shape := ⟨3, ![2, 2048, 1]⟩
abbrev S2x2048x4096 : Shape := ⟨3, ![2, 2048, 4096]⟩
abbrev S2x8x1024 : Shape := ⟨3, ![2, 8, 1024]⟩
abbrev S4096x4096 : Shape := ⟨2, ![4096, 4096]⟩

abbrev nBuf : Space → Nat
  | .hbm => 210
  | .vmem => 0
  | .smem => 0
  | _ => 0

abbrev hbmTy0_0 (i : Nat) : BufTy := match i % 128 with
  | 0 => ⟨S2x2048x512, .f32⟩
  | 1 => ⟨S2x2048x512, .f32⟩
  | 2 => ⟨S2x2048x1024, .f32⟩
  | 3 => ⟨S2x6144, .f32⟩
  | 4 => ⟨S1x1024, .f32⟩
  | 5 => ⟨S1024, .f32⟩
  | 6 => ⟨S1024x1024, .f32⟩
  | 7 => ⟨S1024x4096, .f32⟩
  | 8 => ⟨S4096x1024, .f32⟩
  | 9 => ⟨S2x2048x1024, .f32⟩
  | 10 => ⟨S2x1024, .f32⟩
  | 11 => ⟨S2x1024, .f32⟩
  | 12 => ⟨S2x1024, .f32⟩
  | 13 => ⟨S2x1024, .f32⟩
  | 14 => ⟨S2x1024, .f32⟩
  | 15 => ⟨S2x1024, .f32⟩
  | 16 => ⟨S2x1x1024, .f32⟩
  | 17 => ⟨S2x1x1024, .f32⟩
  | 18 => ⟨S2x1x1024, .f32⟩
  | 19 => ⟨S2x1x1024, .f32⟩
  | 20 => ⟨S2x1x1024, .f32⟩
  | 21 => ⟨S2x1x1024, .f32⟩
  | 22 => ⟨S2x1x1024, .f32⟩
  | 23 => ⟨S2x1x1024, .f32⟩
  | 24 => ⟨S2x2048x1024, .f32⟩
  | 25 => ⟨S2x2048x1024, .f32⟩
  | 26 => ⟨S2x2048x1024, .f32⟩
  | 27 => ⟨S2x2048x1024, .f32⟩
  | 28 => ⟨S2x2048x1024, .f32⟩
  | 29 => ⟨S2x2048x1024, .f32⟩
  | 30 => ⟨S_, .f32⟩
  | 31 => ⟨S2x2048, .f32⟩
  | 32 => ⟨S2x2048x1, .f32⟩
  | 33 => ⟨S_, .f32⟩
  | 34 => ⟨S2x2048x1, .f32⟩
  | 35 => ⟨S2x2048x1, .f32⟩
  | 36 => ⟨S_, .f32⟩
  | 37 => ⟨S2x2048x1, .f32⟩
  | 38 => ⟨S2x2048x1, .f32⟩
  | 39 => ⟨S2x2048x1, .f32⟩
  | 40 => ⟨S2x2048x1, .f32⟩
  | 41 => ⟨S_, .f32⟩
  | 42 => ⟨S2x2048x1, .f32⟩
  | 43 => ⟨S2x2048x1, .f32⟩
  | 44 => ⟨S2x2048x1024, .f32⟩
  | 45 => ⟨S2x2048x1024, .f32⟩
  | 46 => ⟨S2x2048x1024, .f32⟩
  | 47 => ⟨S2x2048x1024, .f32⟩
  | 48 => ⟨S_, .f32⟩
  | 49 => ⟨S2x1x1024, .f32⟩
  | 50 => ⟨S2x1x1024, .f32⟩
  | 51 => ⟨S2x2048x1024, .f32⟩
  | 52 => ⟨S2x2048x1024, .f32⟩
  | 53 => ⟨S2x2048x1024, .f32⟩
  | 54 => ⟨S2x2048x1024, .f32⟩
  | 55 => ⟨S2x2048x4096, .f32⟩
  | 56 => ⟨S_, .f32⟩
  | 57 => ⟨S2x2048x4096, .f32⟩
  | 58 => ⟨S2x2048x4096, .f32⟩
  | 59 => ⟨S_, .f32⟩
  | 60 => ⟨S2x2048x4096, .f32⟩
  | 61 => ⟨S2x2048x4096, .i1⟩
  | 62 => ⟨S_, .f32⟩
  | 63 => ⟨S2x2048x4096, .f32⟩
  | 64 => ⟨S2x2048x4096, .f32⟩
  | 65 => ⟨S_, .f32⟩
  | 66 => ⟨S2x2048x4096, .f32⟩
  | 67 => ⟨S2x2048x4096, .f32⟩
  | 68 => ⟨S2x2048x1024, .f32⟩
  | 69 => ⟨S2x2048x1024, .f32⟩
  | 70 => ⟨S2x2048x1024, .f32⟩
  | 71 => ⟨S2x2048x1024, .f32⟩
  | 72 => ⟨S2x2048x1024, .f32⟩
  | 73 => ⟨S_, .f32⟩
  | 74 => ⟨S2x2048, .f32⟩
  | 75 => ⟨S2x2048x1, .f32⟩
  | 76 => ⟨S_, .f32⟩
  | 77 => ⟨S2x2048x1, .f32⟩
  | 78 => ⟨S2x2048x1, .f32⟩
  | 79 => ⟨S_, .f32⟩
  | 80 => ⟨S2x2048x1, .f32⟩
  | 81 => ⟨S2x2048x1, .f32⟩
  | 82 => ⟨S2x2048x1, .f32⟩
  | 83 => ⟨S2x2048x1, .f32⟩
  | 84 => ⟨S_, .f32⟩
  | 85 => ⟨S2x2048x1, .f32⟩
  | 86 => ⟨S2x2048x1, .f32⟩
  | 87 => ⟨S2x2048x1024, .f32⟩
  | 88 => ⟨S2x2048x1024, .f32⟩
  | 89 => ⟨S2x2048x1024, .f32⟩
  | 90 => ⟨S2x2048x1024, .f32⟩
  | 91 => ⟨S2x2048x1024, .f32⟩
  | 92 => ⟨S2x2048x1024, .f32⟩
  | 93 => ⟨S_, .f32⟩
  | 94 => ⟨S2x2048x1024, .f32⟩
  | 95 => ⟨S2x2048x1024, .f32⟩
  | 96 => ⟨S_, .f32⟩
  | 97 => ⟨S2x2048, .f32⟩
  | 98 => ⟨S_, .f32⟩
  | 99 => ⟨S2x2048, .f32⟩
  | 100 => ⟨S2x2048, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S2x2048, .f32⟩
  | 109 => ⟨S_, .f32⟩
  | 110 => ⟨S2x2048, .f32⟩
  | 111 => ⟨S2x2048, .f32⟩
  | 112 => ⟨S2x2048x1024, .f32⟩
  | 113 => ⟨S2x2048x1024, .f32⟩
  | 114 => ⟨S2x2048x1024, .f32⟩
  | 115 => ⟨S_, .f32⟩
  | 116 => ⟨S2x1024, .f32⟩
  | 117 => ⟨S2x1x1024, .f32⟩
  | 118 => ⟨S2x2048x1024, .f32⟩
  | 119 => ⟨S2x2048x1024, .f32⟩
  | 120 => ⟨S2x2048x1024, .f32⟩
  | 121 => ⟨S_, .f32⟩
  | 122 => ⟨S2x2048, .f32⟩
  | 123 => ⟨S2x2048x1, .f32⟩
  | 124 => ⟨S2x2048x1024, .f32⟩
  | 125 => ⟨S2x2048x1024, .f32⟩
  | 126 => ⟨S2x2048x1, .f32⟩
  | 127 => ⟨S_, .f32⟩
  | _ => ⟨S2x2048x512, .f32⟩

abbrev hbmTy0_1 (i : Nat) : BufTy := match i % 128 with
  | 0 => ⟨S2x2048x1, .f32⟩
  | 1 => ⟨S2x2048x1, .f32⟩
  | 2 => ⟨S_, .f32⟩
  | 3 => ⟨S2x2048, .f32⟩
  | 4 => ⟨S2x2048x1024, .f32⟩
  | 5 => ⟨S2x2048x1024, .f32⟩
  | 6 => ⟨S2x2048x1024, .f32⟩
  | 7 => ⟨S2x2048x1024, .f32⟩
  | 8 => ⟨S2x2048x1024, .f32⟩
  | 9 => ⟨S2x2048x1024, .f32⟩
  | 10 => ⟨S2x2048x1024, .f32⟩
  | 11 => ⟨S2x2048x1024, .f32⟩
  | 12 => ⟨S_, .f32⟩
  | 13 => ⟨S2x1024, .f32⟩
  | 14 => ⟨S2x1x1024, .f32⟩
  | 15 => ⟨S2x2048x4096, .f32⟩
  | 16 => ⟨S2x2048x4096, .f32⟩
  | 17 => ⟨S_, .f32⟩
  | 18 => ⟨S2x2048x4096, .f32⟩
  | 19 => ⟨S2x2048x4096, .f32⟩
  | 20 => ⟨S2x2048x1024, .f32⟩
  | 21 => ⟨S_, .f32⟩
  | 22 => ⟨S2x1024, .f32⟩
  | 23 => ⟨S2x1x1024, .f32⟩
  | 24 => ⟨S2x2048x1024, .f32⟩
  | 25 => ⟨S_, .f32⟩
  | 26 => ⟨S2x1024, .f32⟩
  | 27 => ⟨S2x1x1024, .f32⟩
  | 28 => ⟨S2x2048x1024, .f32⟩
  | 29 => ⟨S2x2048x1024, .f32⟩
  | 30 => ⟨S2x2048x1024, .f32⟩
  | 31 => ⟨S_, .f32⟩
  | 32 => ⟨S2x1024, .f32⟩
  | 33 => ⟨S2x1x1024, .f32⟩
  | 34 => ⟨S2x2048x1024, .f32⟩
  | 35 => ⟨S2x2048x1024, .f32⟩
  | 36 => ⟨S2x2048x1024, .f32⟩
  | 37 => ⟨S_, .f32⟩
  | 38 => ⟨S2x2048, .f32⟩
  | 39 => ⟨S2x2048x1, .f32⟩
  | 40 => ⟨S2x2048x1024, .f32⟩
  | 41 => ⟨S2x2048x1024, .f32⟩
  | 42 => ⟨S2x2048x1, .f32⟩
  | 43 => ⟨S_, .f32⟩
  | 44 => ⟨S2x2048x1, .f32⟩
  | 45 => ⟨S2x2048x1, .f32⟩
  | 46 => ⟨S_, .f32⟩
  | 47 => ⟨S2x2048, .f32⟩
  | 48 => ⟨S2x2048x1024, .f32⟩
  | 49 => ⟨S2x2048x1024, .f32⟩
  | 50 => ⟨S2x2048x1024, .f32⟩
  | 51 => ⟨S2x2048x1024, .f32⟩
  | 52 => ⟨S2x2048x1024, .f32⟩
  | 53 => ⟨S2x2048x1024, .f32⟩
  | 54 => ⟨S2x2048x1024, .f32⟩
  | 55 => ⟨S2x2048x1024, .f32⟩
  | 56 => ⟨S2x2048x1024, .f32⟩
  | 57 => ⟨S_, .f32⟩
  | 58 => ⟨S2x1024, .f32⟩
  | 59 => ⟨S2x1x1024, .f32⟩
  | 60 => ⟨S2x2048x1024, .f32⟩
  | 61 => ⟨S_, .f32⟩
  | 62 => ⟨S2x1024, .f32⟩
  | 63 => ⟨S2x1x1024, .f32⟩
  | 64 => ⟨S_, .f32⟩
  | 65 => ⟨S2x1x1024, .f32⟩
  | 66 => ⟨S2x8x1024, .f32⟩
  | 67 => ⟨S4096x1024, .f32⟩
  | 68 => ⟨S4096x1024, .bf16⟩
  | 69 => ⟨S4096x4096, .f32⟩
  | 70 => ⟨S4096x4096, .bf16⟩
  | 71 => ⟨S4096x4096, .f32⟩
  | 72 => ⟨S4096x4096, .bf16⟩
  | 73 => ⟨S4096x1024, .f32⟩
  | 74 => ⟨S4096x1024, .bf16⟩
  | 75 => ⟨S4096x1024, .f32⟩
  | 76 => ⟨S4096x1024, .bf16⟩
  | 77 => ⟨S4096x1024, .f32⟩
  | 78 => ⟨S4096x1024, .bf16⟩
  | 79 => ⟨S4096x1024, .f32⟩
  | 80 => ⟨S4096x1024, .bf16⟩
  | 81 => ⟨S4096x1024, .f32⟩
  | _ => ⟨S2x2048x512, .f32⟩

abbrev hbmTy (i : Nat) : BufTy := match i / 128 with
  | 0 => hbmTy0_0 i
  | 1 => hbmTy0_1 i
  | _ => ⟨S2x2048x512, .f32⟩

abbrev bufTy : (tb : Table) → Fin (tcTables nBuf tb) → BufTy
  | .hbm, ⟨i, _⟩ => hbmTy i
  | _, _ => ⟨S2x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_cst_1 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_call0_cst : Ref sig .tc := ⟨.hbm, 56, rfl⟩
abbrev main_call0_v0 : Ref sig .tc := ⟨.hbm, 57, rfl⟩
abbrev main_v41 : Ref sig .tc := ⟨.hbm, 58, rfl⟩
abbrev main_cst_4 : Ref sig .tc := ⟨.hbm, 59, rfl⟩
abbrev main_v42 : Ref sig .tc := ⟨.hbm, 60, rfl⟩
abbrev main_v43 : Ref sig .tc := ⟨.hbm, 61, rfl⟩
abbrev main_cst_5 : Ref sig .tc := ⟨.hbm, 62, rfl⟩
abbrev main_v44 : Ref sig .tc := ⟨.hbm, 63, rfl⟩
abbrev main_v45 : Ref sig .tc := ⟨.hbm, 64, rfl⟩
abbrev main_cst_6 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_cst_8 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_10 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_11 : Ref sig .tc := ⟨.hbm, 93, rfl⟩
abbrev main_v69 : Ref sig .tc := ⟨.hbm, 94, rfl⟩
abbrev main_v70 : Ref sig .tc := ⟨.hbm, 95, rfl⟩
abbrev main_cst_12 : Ref sig .tc := ⟨.hbm, 96, rfl⟩
abbrev main_v71 : Ref sig .tc := ⟨.hbm, 97, rfl⟩
abbrev main_cst_13 : Ref sig .tc := ⟨.hbm, 98, rfl⟩
abbrev main_v72 : Ref sig .tc := ⟨.hbm, 99, rfl⟩
abbrev main_v73 : Ref sig .tc := ⟨.hbm, 100, rfl⟩
abbrev main_cst_14 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_cst_16 : Ref sig .tc := ⟨.hbm, 105, rfl⟩
abbrev main_cst_17 : Ref sig .tc := ⟨.hbm, 106, rfl⟩
abbrev main_v76 : Ref sig .tc := ⟨.hbm, 107, rfl⟩
abbrev main_v77 : Ref sig .tc := ⟨.hbm, 108, rfl⟩
abbrev main_cst_18 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_cst_19 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_20 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_21 : Ref sig .tc := ⟨.hbm, 127, rfl⟩
abbrev main_v93 : Ref sig .tc := ⟨.hbm, 128, rfl⟩
abbrev main_v94 : Ref sig .tc := ⟨.hbm, 129, rfl⟩
abbrev main_cst_22 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_cst_23 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_cst_24 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_cst_25 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_cst_26 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_27 : Ref sig .tc := ⟨.hbm, 159, rfl⟩
abbrev main_v119 : Ref sig .tc := ⟨.hbm, 160, rfl⟩
abbrev main_v120 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_cst_28 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_cst_29 : Ref sig .tc := ⟨.hbm, 171, rfl⟩
abbrev main_v129 : Ref sig .tc := ⟨.hbm, 172, rfl⟩
abbrev main_v130 : Ref sig .tc := ⟨.hbm, 173, rfl⟩
abbrev main_cst_30 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_31 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_cst_32 : Ref sig .tc := ⟨.hbm, 189, rfl⟩
abbrev main_v144 : Ref sig .tc := ⟨.hbm, 190, rfl⟩
abbrev main_v145 : Ref sig .tc := ⟨.hbm, 191, rfl⟩
abbrev main_cst_33 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩

abbrev nD : Nat := 1
abbrev τ : Topo := Topo.v7x

variable {F : FTy → Type} [FloatOps F]
-- ==== Kernel5.lean ====
abbrev S16x1024 : Shape := ⟨2, ![16, 1024]⟩
abbrev S1x1024 : Shape := ⟨2, ![1, 1024]⟩
abbrev S16x1536 : Shape := ⟨2, ![16, 1536]⟩
abbrev S1x1536 : Shape := ⟨2, ![1, 1536]⟩
abbrev S1024x1536 : Shape := ⟨2, ![1024, 1536]⟩
abbrev S_ : Shape := ⟨0, ![]⟩
abbrev S7x1024 : Shape := ⟨2, ![7, 1024]⟩
abbrev S24x1024 : Shape := ⟨2, ![24, 1024]⟩
abbrev S7x1536 : Shape := ⟨2, ![7, 1536]⟩
abbrev S24x1536 : Shape := ⟨2, ![24, 1536]⟩
abbrev S24x256 : Shape := ⟨2, ![24, 256]⟩
abbrev S256x1536 : Shape := ⟨2, ![256, 1536]⟩

abbrev nBuf : Space → Nat
  | .hbm => 18
  | .vmem => 19
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S16x1536, .f32⟩
  | .hbm, ⟨3, _⟩ => ⟨S1x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S_, .f32⟩
  | .hbm, ⟨8, _⟩ => ⟨S7x1024, .f32⟩
  | .hbm, ⟨9, _⟩ => ⟨S24x1024, .f32⟩
  | .hbm, ⟨10, _⟩ => ⟨S_, .f32⟩
  | .hbm, ⟨11, _⟩ => ⟨S7x1536, .f32⟩
  | .hbm, ⟨12, _⟩ => ⟨S24x1536, .f32⟩
  | .hbm, ⟨13, _⟩ => ⟨S1024x1536, .f32⟩
  | .hbm, ⟨14, _⟩ => ⟨S24x1024, .f32⟩
  | .hbm, ⟨15, _⟩ => ⟨S1024x1536, .f32⟩
  | .hbm, ⟨16, _⟩ => ⟨S1024x1536, .f32⟩
  | .hbm, ⟨17, _⟩ => ⟨S1024x1536, .f32⟩
  | .local _ .vmem, ⟨0, _⟩ => ⟨S24x256, .f32⟩
  | .local _ .vmem, ⟨1, _⟩ => ⟨S24x256, .f32⟩
  | .local _ .vmem, ⟨2, _⟩ => ⟨S24x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S24x256, .f32⟩
  | .local _ .vmem, ⟨12, _⟩ => ⟨S24x256, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | .local _ .vmem, ⟨18, _⟩ => ⟨S256x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev main_v4_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S24x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S24x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S24x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference5Ideal.lean ====
abbrev S16x1024 : Shape := ⟨2, ![16, 1024]⟩
abbrev S1x1024 : Shape := ⟨2, ![1, 1024]⟩
abbrev S16x1536 : Shape := ⟨2, ![16, 1536]⟩
abbrev S1x1536 : Shape := ⟨2, ![1, 1536]⟩
abbrev S1024x1536 : Shape := ⟨2, ![1024, 1536]⟩
abbrev S_ : Shape := ⟨0, ![]⟩
abbrev S1536x1024 : Shape := ⟨2, ![1536, 1024]⟩
abbrev S7x1024 : Shape := ⟨2, ![7, 1024]⟩
abbrev S24x1024 : Shape := ⟨2, ![24, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S16x1536, .f32⟩
  | .hbm, ⟨3, _⟩ => ⟨S1x1536, .f32⟩
  | .hbm, ⟨4, _⟩ => ⟨S1024x1536, .f32⟩
  | .hbm, ⟨5, _⟩ => ⟨S1024x1536, .f32⟩
  | .hbm, ⟨6, _⟩ => ⟨S1024x1536, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S_, .f32⟩
  | .hbm, ⟨13, _⟩ => ⟨S16x1024, .f32⟩
  | .hbm, ⟨14, _⟩ => ⟨S16x1024, .f32⟩
  | .hbm, ⟨15, _⟩ => ⟨S16x1024, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S16x1536, .f32⟩
  | .hbm, ⟨26, _⟩ => ⟨S1x1536, .f32⟩
  | .hbm, ⟨27, _⟩ => ⟨S1536x1024, .f32⟩
  | .hbm, ⟨28, _⟩ => ⟨S1024x1536, .f32⟩
  | .hbm, ⟨29, _⟩ => ⟨S1x1024, .f32⟩
  | .hbm, ⟨30, _⟩ => ⟨S1536x1024, .f32⟩
  | .hbm, ⟨31, _⟩ => ⟨S1024x1536, .f32⟩
  | .hbm, ⟨32, _⟩ => ⟨S1024x1536, .f32⟩
  | .hbm, ⟨33, _⟩ => ⟨S16x1024, .f32⟩
  | .hbm, ⟨34, _⟩ => ⟨S_, .f32⟩
  | .hbm, ⟨35, _⟩ => ⟨S1024x1536, .f32⟩
  | .hbm, ⟨36, _⟩ => ⟨S1024x1536, .f32⟩
  | .hbm, ⟨37, _⟩ => ⟨S_, .f32⟩
  | .hbm, ⟨38, _⟩ => ⟨S1024x1536, .f32⟩
  | .hbm, ⟨39, _⟩ => ⟨S1024x1536, .f32⟩
  | .hbm, ⟨40, _⟩ => ⟨S1024x1536, .f32⟩
  | .hbm, ⟨41, _⟩ => ⟨S_, .f32⟩
  | .hbm, ⟨42, _⟩ => ⟨S1024x1536, .f32⟩
  | .hbm, ⟨43, _⟩ => ⟨S1024x1536, .f32⟩
  | .hbm, ⟨44, _⟩ => ⟨S1024x1536, .f32⟩
  | .hbm, ⟨45, _⟩ => ⟨S_, .f32⟩
  | .hbm, ⟨46, _⟩ => ⟨S1024x1536, .f32⟩
  | .hbm, ⟨47, _⟩ => ⟨S1024x1536, .f32⟩
  | .hbm, ⟨48, _⟩ => ⟨S1024x1536, .f32⟩
  | .hbm, ⟨49, _⟩ => ⟨S_, .f32⟩
  | .hbm, ⟨50, _⟩ => ⟨S1024x1536, .f32⟩
  | .hbm, ⟨51, _⟩ => ⟨S1024x1536, .f32⟩
  | .hbm, ⟨52, _⟩ => ⟨S_, .f32⟩
  | .hbm, ⟨53, _⟩ => ⟨S1024x1536, .f32⟩
  | .hbm, ⟨54, _⟩ => ⟨S1024x1536, .f32⟩
  | .hbm, ⟨55, _⟩ => ⟨S1024x1536, .f32⟩
  | .hbm, ⟨56, _⟩ => ⟨S_, .f32⟩
  | .hbm, ⟨57, _⟩ => ⟨S1024x1536, .f32⟩
  | .hbm, ⟨58, _⟩ => ⟨S1024x1536, .f32⟩
  | .hbm, ⟨59, _⟩ => ⟨S1024x1536, .f32⟩
  | .hbm, ⟨60, _⟩ => ⟨S_, .f32⟩
  | .hbm, ⟨61, _⟩ => ⟨S1024x1536, .f32⟩
  | .hbm, ⟨62, _⟩ => ⟨S1024x1536, .f32⟩
  | .hbm, ⟨63, _⟩ => ⟨S1024x1536, .f32⟩
  | .hbm, ⟨64, _⟩ => ⟨S_, .f32⟩
  | .hbm, ⟨65, _⟩ => ⟨S1024x1536, .f32⟩
  | .hbm, ⟨66, _⟩ => ⟨S1024x1536, .f32⟩
  | .hbm, ⟨67, _⟩ => ⟨S_, .f32⟩
  | .hbm, ⟨68, _⟩ => ⟨S7x1024, .f32⟩
  | .hbm, ⟨69, _⟩ => ⟨S24x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v0 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_cst : Ref sig .tc := ⟨.hbm, 34, rfl⟩
abbrev main_v11 : Ref sig .tc := ⟨.hbm, 35, rfl⟩
abbrev main_v12 : Ref sig .tc := ⟨.hbm, 36, rfl⟩
abbrev main_cst_0 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_cst_1 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_2 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_cst_4 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_5 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_6 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_7 : Ref sig .tc := ⟨.hbm, 64, rfl⟩
abbrev main_v33 : Ref sig .tc := ⟨.hbm, 65, rfl⟩
abbrev main_v34 : Ref sig .tc := ⟨.hbm, 66, rfl⟩
abbrev main_cst_8 : Ref sig .tc := ⟨.hbm, 67, rfl⟩
abbrev main_v35 : Ref sig .tc := ⟨.hbm, 68, rfl⟩
abbrev main_v36 : Ref sig .tc := ⟨.hbm, 69, rfl⟩

abbrev nD : Nat := 1
abbrev τ : Topo := Topo.v7x

variable {F : FTy → Type} [FloatOps F]
-- ==== Kernel7.lean ====
abbrev S2x2048x4x64 : Shape := ⟨4, ![2, 2048, 4, 64]⟩
abbrev S2x2048x4x128 : Shape := ⟨4, ![2, 2048, 4, 128]⟩
abbrev S2x2048x512 : Shape := ⟨3, ![2, 2048, 512]⟩
abbrev S2x256x4x64 : Shape := ⟨4, ![2, 256, 4, 64]⟩
abbrev S2x256x4x128 : Shape := ⟨4, ![2, 256, 4, 128]⟩
abbrev S4 : Shape := ⟨1, ![4]⟩
abbrev S512 : Shape := ⟨1, ![512]⟩
abbrev S2x2048x1024 : Shape := ⟨3, ![2, 2048, 1024]⟩
abbrev S4096x256 : Shape := ⟨2, ![4096, 256]⟩
abbrev S512x256 : Shape := ⟨2, ![512, 256]⟩
abbrev S4608x256 : Shape := ⟨2, ![4608, 256]⟩
abbrev S4096x512 : Shape := ⟨2, ![4096, 512]⟩
abbrev S512x512 : Shape := ⟨2, ![512, 512]⟩
abbrev S4608x512 : Shape := ⟨2, ![4608, 512]⟩
abbrev S_ : Shape := ⟨0, ![]⟩
abbrev S4608x1152 : Shape := ⟨2, ![4608, 1152]⟩
abbrev S1x4 : Shape := ⟨2, ![1, 4]⟩
abbrev S2x4 : Shape := ⟨2, ![2, 4]⟩
abbrev S1x2x2048x4x64 : Shape := ⟨5, ![1, 2, 2048, 4, 64]⟩
abbrev S2x2x2048x4x64 : Shape := ⟨5, ![2, 2, 2048, 4, 64]⟩
abbrev S1x2x2048x4x128 : Shape := ⟨5, ![1, 2, 2048, 4, 128]⟩
abbrev S2x2x2048x4x128 : Shape := ⟨5, ![2, 2, 2048, 4, 128]⟩
abbrev S1x2x256x4x64 : Shape := ⟨5, ![1, 2, 256, 4, 64]⟩
abbrev S2x2x256x4x64 : Shape := ⟨5, ![2, 2, 256, 4, 64]⟩
abbrev S1x2x256x4x128 : Shape := ⟨5, ![1, 2, 256, 4, 128]⟩
abbrev S2x2x256x4x128 : Shape := ⟨5, ![2, 2, 256, 4, 128]⟩
abbrev S2x4x1 : Shape := ⟨3, ![2, 4, 1]⟩
abbrev S256 : Shape := ⟨1, ![256]⟩
abbrev S1x256 : Shape := ⟨2, ![1, 256]⟩
abbrev S1x1x256 : Shape := ⟨3, ![1, 1, 256]⟩
abbrev S2x4x256 : Shape := ⟨3, ![2, 4, 256]⟩
abbrev S2x256x4 : Shape := ⟨3, ![2, 256, 4]⟩
abbrev S2x256x4x1 : Shape := ⟨4, ![2, 256, 4, 1]⟩
abbrev S2x1x256x4x1 : Shape := ⟨5, ![2, 1, 256, 4, 1]⟩
abbrev S2x2x4x64x128 : Shape := ⟨5, ![2, 2, 4, 64, 128]⟩
abbrev S2x2x16x128x4x64 : Shape := ⟨6, ![2, 2, 16, 128, 4, 64]⟩
abbrev S2x2x16x128x4x128 : Shape := ⟨6, ![2, 2, 16, 128, 4, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S2x4x1x1 : Shape := ⟨4, ![2, 4, 1, 1]⟩
abbrev S1x128x128 : Shape := ⟨3, ![1, 128, 128]⟩
abbrev S1x1x128x128 : Shape := ⟨4, ![1, 1, 128, 128]⟩
abbrev S2x4x128x128 : Shape := ⟨4, ![2, 4, 128, 128]⟩
abbrev S4x128x128 : Shape := ⟨3, ![4, 128, 128]⟩
abbrev S2x2x16x4x128x128 : Shape := ⟨6, ![2, 2, 16, 4, 128, 128]⟩
abbrev S2x1x1x4x128x128 : Shape := ⟨6, ![2, 1, 1, 4, 128, 128]⟩
abbrev S1x1x128 : Shape := ⟨3, ![1, 1, 128]⟩
abbrev S2x4x128 : Shape := ⟨3, ![2, 4, 128]⟩
abbrev S2x128x4 : Shape := ⟨3, ![2, 128, 4]⟩
abbrev S2x128x4x1 : Shape := ⟨4, ![2, 128, 4, 1]⟩
abbrev S2x1x1x128x4x1 : Shape := ⟨6, ![2, 1, 1, 128, 4, 1]⟩
abbrev S2x2x16x4x64x128 : Shape := ⟨6, ![2, 2, 16, 4, 64, 128]⟩
abbrev S2x16x2x4x64x128 : Shape := ⟨6, ![2, 16, 2, 4, 64, 128]⟩
abbrev S16x2x2x4x64x128 : Shape := ⟨6, ![16, 2, 2, 4, 64, 128]⟩
abbrev S0x2x2x4x64x128 : Shape := ⟨6, ![0, 2, 2, 4, 64, 128]⟩
abbrev S1x2x2x4x64x128 : Shape := ⟨6, ![1, 2, 2, 4, 64, 128]⟩
abbrev S2x1x4x1x1 : Shape := ⟨5, ![2, 1, 4, 1, 1]⟩
abbrev S4096x1024 : Shape := ⟨2, ![4096, 1024]⟩
abbrev S1x512 : Shape := ⟨2, ![1, 512]⟩
abbrev S2x8x512 : Shape := ⟨3, ![2, 8, 512]⟩
abbrev S2048x128 : Shape := ⟨2, ![2048, 128]⟩
abbrev S2048x256 : Shape := ⟨2, ![2048, 256]⟩
abbrev S256x128 : Shape := ⟨2, ![256, 128]⟩
abbrev S256x256 : Shape := ⟨2, ![256, 256]⟩
abbrev S1x8x256 : Shape := ⟨3, ![1, 8, 256]⟩
abbrev S4x8x128x128 : Shape := ⟨4, ![4, 8, 128, 128]⟩
abbrev S256x1 : Shape := ⟨2, ![256, 1]⟩
abbrev S1x1 : Shape := ⟨2, ![1, 1]⟩
abbrev S1 : Shape := ⟨1, ![1]⟩
abbrev S1x1x1 : Shape := ⟨3, ![1, 1, 1]⟩
abbrev S1x256x1 : Shape := ⟨3, ![1, 256, 1]⟩
abbrev S1x256x256 : Shape := ⟨3, ![1, 256, 256]⟩
abbrev S5x128 : Shape := ⟨2, ![5, 128]⟩
abbrev S8x128 : Shape := ⟨2, ![8, 128]⟩
abbrev S1x8x128 : Shape := ⟨3, ![1, 8, 128]⟩

abbrev nBuf : Space → Nat
  | .hbm => 279
  | .vmem => 37
  | .smem => 1
  | _ => 0

abbrev hbmTy0_0 (i : Nat) : BufTy := match i % 128 with
  | 0 => ⟨S2x2048x4x64, .f32⟩
  | 1 => ⟨S2x2048x4x64, .f32⟩
  | 2 => ⟨S2x2048x4x128, .f32⟩
  | 3 => ⟨S2x2048x512, .f32⟩
  | 4 => ⟨S2x256x4x64, .f32⟩
  | 5 => ⟨S2x256x4x128, .f32⟩
  | 6 => ⟨S4, .f32⟩
  | 7 => ⟨S4, .f32⟩
  | 8 => ⟨S512, .f32⟩
  | 9 => ⟨S2x2048x1024, .f32⟩
  | 10 => ⟨S4096x256, .f32⟩
  | 11 => ⟨S512x256, .f32⟩
  | 12 => ⟨S4608x256, .f32⟩
  | 13 => ⟨S4608x256, .bf16⟩
  | 14 => ⟨S4096x512, .f32⟩
  | 15 => ⟨S512x512, .f32⟩
  | 16 => ⟨S4608x512, .f32⟩
  | 17 => ⟨S4608x512, .bf16⟩
  | 18 => ⟨S4096x512, .f32⟩
  | 19 => ⟨S_, .i32⟩
  | 20 => ⟨S_, .f32⟩
  | 21 => ⟨S4608x1152, .f32⟩
  | 22 => ⟨S1x4, .f32⟩
  | 23 => ⟨S1x4, .f32⟩
  | 24 => ⟨S2x4, .f32⟩
  | 25 => ⟨S2x2048x4x64, .f32⟩
  | 26 => ⟨S1x2x2048x4x64, .f32⟩
  | 27 => ⟨S1x2x2048x4x64, .f32⟩
  | 28 => ⟨S2x2x2048x4x64, .f32⟩
  | 29 => ⟨S2x2048x4x64, .f32⟩
  | 30 => ⟨S1x2x2048x4x64, .f32⟩
  | 31 => ⟨S1x2x2048x4x64, .f32⟩
  | 32 => ⟨S2x2x2048x4x64, .f32⟩
  | 33 => ⟨S2x2048x4x128, .f32⟩
  | 34 => ⟨S1x2x2048x4x128, .f32⟩
  | 35 => ⟨S1x2x2048x4x128, .f32⟩
  | 36 => ⟨S2x2x2048x4x128, .f32⟩
  | 37 => ⟨S2x256x4x64, .f32⟩
  | 38 => ⟨S1x2x256x4x64, .f32⟩
  | 39 => ⟨S1x2x256x4x64, .f32⟩
  | 40 => ⟨S2x2x256x4x64, .f32⟩
  | 41 => ⟨S2x256x4x128, .f32⟩
  | 42 => ⟨S1x2x256x4x128, .f32⟩
  | 43 => ⟨S1x2x256x4x128, .f32⟩
  | 44 => ⟨S2x2x256x4x128, .f32⟩
  | 45 => ⟨S2x4x1, .f32⟩
  | 46 => ⟨S256, .f32⟩
  | 47 => ⟨S_, .f32⟩
  | 48 => ⟨S256, .f32⟩
  | 49 => ⟨S256, .f32⟩
  | 50 => ⟨S1x256, .f32⟩
  | 51 => ⟨S1x1x256, .f32⟩
  | 52 => ⟨S2x4x256, .f32⟩
  | 53 => ⟨S2x4x256, .f32⟩
  | 54 => ⟨S2x4x256, .f32⟩
  | 55 => ⟨S2x4x256, .f32⟩
  | 56 => ⟨S2x256x4, .f32⟩
  | 57 => ⟨S2x256x4x1, .f32⟩
  | 58 => ⟨S2x1x256x4x1, .f32⟩
  | 59 => ⟨S2x2x256x4x64, .f32⟩
  | 60 => ⟨S2x2x256x4x64, .f32⟩
  | 61 => ⟨S2x2x4x64x128, .f32⟩
  | 62 => ⟨S2x2x16x128x4x64, .f32⟩
  | 63 => ⟨S2x2x16x128x4x64, .f32⟩
  | 64 => ⟨S2x2x16x128x4x128, .f32⟩
  | 65 => ⟨S128, .f32⟩
  | 66 => ⟨S128x1, .f32⟩
  | 67 => ⟨S1x128, .f32⟩
  | 68 => ⟨S128x128, .f32⟩
  | 69 => ⟨S128x128, .f32⟩
  | 70 => ⟨S128x128, .f32⟩
  | 71 => ⟨S_, .f32⟩
  | 72 => ⟨S128x128, .f32⟩
  | 73 => ⟨S128x128, .i1⟩
  | 74 => ⟨S2x4x1x1, .f32⟩
  | 75 => ⟨S_, .f32⟩
  | 76 => ⟨S128x128, .f32⟩
  | 77 => ⟨S128x128, .f32⟩
  | 78 => ⟨S1x128x128, .f32⟩
  | 79 => ⟨S1x1x128x128, .f32⟩
  | 80 => ⟨S2x4x128x128, .f32⟩
  | 81 => ⟨S2x4x128x128, .f32⟩
  | 82 => ⟨S2x4x128x128, .f32⟩
  | 83 => ⟨S2x4x128x128, .f32⟩
  | 84 => ⟨S_, .f32⟩
  | 85 => ⟨S_, .f32⟩
  | 86 => ⟨S4x128x128, .i1⟩
  | 87 => ⟨S4x128x128, .f32⟩
  | 88 => ⟨S2x4x128x128, .i1⟩
  | 89 => ⟨S2x4x128x128, .f32⟩
  | 90 => ⟨S2x4x128x128, .f32⟩
  | 91 => ⟨S2x2x16x4x128x128, .f32⟩
  | 92 => ⟨S2x1x1x4x128x128, .f32⟩
  | 93 => ⟨S2x2x16x4x128x128, .f32⟩
  | 94 => ⟨S2x2x16x4x128x128, .f32⟩
  | 95 => ⟨S2x2x16x4x128x128, .f32⟩
  | 96 => ⟨S2x2x16x128x4x128, .f32⟩
  | 97 => ⟨S2x4x1, .f32⟩
  | 98 => ⟨S_, .f32⟩
  | 99 => ⟨S128, .f32⟩
  | 100 => ⟨S128, .f32⟩
  | 101 => ⟨S1x128, .f32⟩
  | 102 => ⟨S1x1x128, .f32⟩
  | 103 => ⟨S2x4x128, .f32⟩
  | 104 => ⟨S2x4x128, .f32⟩
  | 105 => ⟨S2x4x128, .f32⟩
  | 106 => ⟨S2x4x128, .f32⟩
  | 107 => ⟨S2x128x4, .f32⟩
  | 108 => ⟨S2x128x4x1, .f32⟩
  | 109 => ⟨S2x1x1x128x4x1, .f32⟩
  | 110 => ⟨S2x2x16x128x4x64, .f32⟩
  | 111 => ⟨S2x2x16x128x4x64, .f32⟩
  | 112 => ⟨S2x2x16x4x64x128, .f32⟩
  | 113 => ⟨S_, .f32⟩
  | 114 => ⟨S2x4, .f32⟩
  | 115 => ⟨S2x4, .f32⟩
  | 116 => ⟨S2x4, .f32⟩
  | 117 => ⟨S2x4x1x1, .f32⟩
  | 118 => ⟨S2x16x2x4x64x128, .f32⟩
  | 119 => ⟨S16x2x2x4x64x128, .f32⟩
  | 120 => ⟨S0x2x2x4x64x128, .f32⟩
  | 121 => ⟨S16x2x2x4x64x128, .f32⟩
  | 122 => ⟨S_, .f32⟩
  | 123 => ⟨S0x2x2x4x64x128, .f32⟩
  | 124 => ⟨S1x2x2x4x64x128, .f32⟩
  | 125 => ⟨S2x2x4x64x128, .f32⟩
  | 126 => ⟨S2x1x4x1x1, .f32⟩
  | 127 => ⟨S2x2x4x64x128, .f32⟩
  | _ => ⟨S2x2048x4x64, .f32⟩

abbrev hbmTy0_1 (i : Nat) : BufTy := match i % 128 with
  | 0 => ⟨S2x2x4x64x128, .f32⟩
  | 1 => ⟨S2x2x4x64x128, .f32⟩
  | 2 => ⟨S1x2x2x4x64x128, .f32⟩
  | 3 => ⟨S2x2x4x64x128, .f32⟩
  | 4 => ⟨S2x1x4x1x1, .f32⟩
  | 5 => ⟨S2x2x4x64x128, .f32⟩
  | 6 => ⟨S2x2x4x64x128, .f32⟩
  | 7 => ⟨S2x2x4x64x128, .f32⟩
  | 8 => ⟨S1x2x2x4x64x128, .f32⟩
  | 9 => ⟨S2x2x4x64x128, .f32⟩
  | 10 => ⟨S2x1x4x1x1, .f32⟩
  | 11 => ⟨S2x2x4x64x128, .f32⟩
  | 12 => ⟨S2x2x4x64x128, .f32⟩
  | 13 => ⟨S2x2x4x64x128, .f32⟩
  | 14 => ⟨S1x2x2x4x64x128, .f32⟩
  | 15 => ⟨S2x2x4x64x128, .f32⟩
  | 16 => ⟨S2x1x4x1x1, .f32⟩
  | 17 => ⟨S2x2x4x64x128, .f32⟩
  | 18 => ⟨S2x2x4x64x128, .f32⟩
  | 19 => ⟨S2x2x4x64x128, .f32⟩
  | 20 => ⟨S1x2x2x4x64x128, .f32⟩
  | 21 => ⟨S2x2x4x64x128, .f32⟩
  | 22 => ⟨S2x1x4x1x1, .f32⟩
  | 23 => ⟨S2x2x4x64x128, .f32⟩
  | 24 => ⟨S2x2x4x64x128, .f32⟩
  | 25 => ⟨S2x2x4x64x128, .f32⟩
  | 26 => ⟨S1x2x2x4x64x128, .f32⟩
  | 27 => ⟨S2x2x4x64x128, .f32⟩
  | 28 => ⟨S2x1x4x1x1, .f32⟩
  | 29 => ⟨S2x2x4x64x128, .f32⟩
  | 30 => ⟨S2x2x4x64x128, .f32⟩
  | 31 => ⟨S2x2x4x64x128, .f32⟩
  | 32 => ⟨S1x2x2x4x64x128, .f32⟩
  | 33 => ⟨S2x2x4x64x128, .f32⟩
  | 34 => ⟨S2x1x4x1x1, .f32⟩
  | 35 => ⟨S2x2x4x64x128, .f32⟩
  | 36 => ⟨S2x2x4x64x128, .f32⟩
  | 37 => ⟨S2x2x4x64x128, .f32⟩
  | 38 => ⟨S1x2x2x4x64x128, .f32⟩
  | 39 => ⟨S2x2x4x64x128, .f32⟩
  | 40 => ⟨S2x1x4x1x1, .f32⟩
  | 41 => ⟨S2x2x4x64x128, .f32⟩
  | 42 => ⟨S2x2x4x64x128, .f32⟩
  | 43 => ⟨S2x2x4x64x128, .f32⟩
  | 44 => ⟨S1x2x2x4x64x128, .f32⟩
  | 45 => ⟨S2x2x4x64x128, .f32⟩
  | 46 => ⟨S2x1x4x1x1, .f32⟩
  | 47 => ⟨S2x2x4x64x128, .f32⟩
  | 48 => ⟨S2x2x4x64x128, .f32⟩
  | 49 => ⟨S2x2x4x64x128, .f32⟩
  | 50 => ⟨S1x2x2x4x64x128, .f32⟩
  | 51 => ⟨S2x2x4x64x128, .f32⟩
  | 52 => ⟨S2x1x4x1x1, .f32⟩
  | 53 => ⟨S2x2x4x64x128, .f32⟩
  | 54 => ⟨S2x2x4x64x128, .f32⟩
  | 55 => ⟨S2x2x4x64x128, .f32⟩
  | 56 => ⟨S1x2x2x4x64x128, .f32⟩
  | 57 => ⟨S2x2x4x64x128, .f32⟩
  | 58 => ⟨S2x1x4x1x1, .f32⟩
  | 59 => ⟨S2x2x4x64x128, .f32⟩
  | 60 => ⟨S2x2x4x64x128, .f32⟩
  | 61 => ⟨S2x2x4x64x128, .f32⟩
  | 62 => ⟨S1x2x2x4x64x128, .f32⟩
  | 63 => ⟨S2x2x4x64x128, .f32⟩
  | 64 => ⟨S2x1x4x1x1, .f32⟩
  | 65 => ⟨S2x2x4x64x128, .f32⟩
  | 66 => ⟨S2x2x4x64x128, .f32⟩
  | 67 => ⟨S2x2x4x64x128, .f32⟩
  | 68 => ⟨S1x2x2x4x64x128, .f32⟩
  | 69 => ⟨S2x2x4x64x128, .f32⟩
  | 70 => ⟨S2x1x4x1x1, .f32⟩
  | 71 => ⟨S2x2x4x64x128, .f32⟩
  | 72 => ⟨S2x2x4x64x128, .f32⟩
  | 73 => ⟨S2x2x4x64x128, .f32⟩
  | 74 => ⟨S1x2x2x4x64x128, .f32⟩
  | 75 => ⟨S2x2x4x64x128, .f32⟩
  | 76 => ⟨S2x1x4x1x1, .f32⟩
  | 77 => ⟨S2x2x4x64x128, .f32⟩
  | 78 => ⟨S2x2x4x64x128, .f32⟩
  | 79 => ⟨S2x2x4x64x128, .f32⟩
  | 80 => ⟨S1x2x2x4x64x128, .f32⟩
  | 81 => ⟨S2x2x4x64x128, .f32⟩
  | 82 => ⟨S2x1x4x1x1, .f32⟩
  | 83 => ⟨S2x2x4x64x128, .f32⟩
  | 84 => ⟨S2x2x4x64x128, .f32⟩
  | 85 => ⟨S2x2x4x64x128, .f32⟩
  | 86 => ⟨S1x2x2x4x64x128, .f32⟩
  | 87 => ⟨S2x2x4x64x128, .f32⟩
  | 88 => ⟨S2x1x4x1x1, .f32⟩
  | 89 => ⟨S2x2x4x64x128, .f32⟩
  | 90 => ⟨S2x2x4x64x128, .f32⟩
  | 91 => ⟨S2x2x4x64x128, .f32⟩
  | 92 => ⟨S1x2x2x4x64x128, .f32⟩
  | 93 => ⟨S1x2x2x4x64x128, .f32⟩
  | 94 => ⟨S1x2x2x4x64x128, .f32⟩
  | 95 => ⟨S1x2x2x4x64x128, .f32⟩
  | 96 => ⟨S1x2x2x4x64x128, .f32⟩
  | 97 => ⟨S1x2x2x4x64x128, .f32⟩
  | 98 => ⟨S1x2x2x4x64x128, .f32⟩
  | 99 => ⟨S1x2x2x4x64x128, .f32⟩
  | 100 => ⟨S1x2x2x4x64x128, .f32⟩
  | 101 => ⟨S1x2x2x4x64x128, .f32⟩
  | 102 => ⟨S1x2x2x4x64x128, .f32⟩
  | 103 => ⟨S1x2x2x4x64x128, .f32⟩
  | 104 => ⟨S1x2x2x4x64x128, .f32⟩
  | 105 => ⟨S1x2x2x4x64x128, .f32⟩
  | 106 => ⟨S1x2x2x4x64x128, .f32⟩
  | 107 => ⟨S1x2x2x4x64x128, .f32⟩
  | 108 => ⟨S16x2x2x4x64x128, .f32⟩
  | 109 => ⟨S16x2x2x4x64x128, .f32⟩
  | 110 => ⟨S2x4x1, .f32⟩
  | 111 => ⟨S_, .f32⟩
  | 112 => ⟨S128, .f32⟩
  | 113 => ⟨S128, .f32⟩
  | 114 => ⟨S1x128, .f32⟩
  | 115 => ⟨S1x1x128, .f32⟩
  | 116 => ⟨S2x4x128, .f32⟩
  | 117 => ⟨S2x4x128, .f32⟩
  | 118 => ⟨S2x4x128, .f32⟩
  | 119 => ⟨S2x4x128, .f32⟩
  | 120 => ⟨S2x128x4, .f32⟩
  | 121 => ⟨S2x128x4x1, .f32⟩
  | 122 => ⟨S2x1x1x128x4x1, .f32⟩
  | 123 => ⟨S2x2x16x128x4x64, .f32⟩
  | 124 => ⟨S2x2x16x128x4x64, .f32⟩
  | 125 => ⟨S2x2x16x4x128x128, .f32⟩
  | 126 => ⟨S2x2x16x128x4x128, .f32⟩
  | 127 => ⟨S2x2x16x128x4x128, .f32⟩
  | _ => ⟨S2x2048x4x64, .f32⟩

abbrev hbmTy0_2 (i : Nat) : BufTy := match i % 128 with
  | 0 => ⟨S2x2x2048x4x128, .f32⟩
  | 1 => ⟨S1x2x2048x4x128, .f32⟩
  | 2 => ⟨S2x2048x4x128, .f32⟩
  | 3 => ⟨S1x2x2048x4x128, .f32⟩
  | 4 => ⟨S2x2048x4x128, .f32⟩
  | 5 => ⟨S2x2048x4x128, .f32⟩
  | 6 => ⟨S2x2048x4x128, .f32⟩
  | 7 => ⟨S4096x512, .f32⟩
  | 8 => ⟨S4096x256, .f32⟩
  | 9 => ⟨S4096x256, .bf16⟩
  | 10 => ⟨S4096x1024, .f32⟩
  | 11 => ⟨S4096x1024, .bf16⟩
  | 12 => ⟨S1x4, .f32⟩
  | 13 => ⟨S1x4, .f32⟩
  | 14 => ⟨S2x4, .f32⟩
  | 15 => ⟨S1x512, .f32⟩
  | 16 => ⟨S4096x256, .bf16⟩
  | 17 => ⟨S4096x256, .bf16⟩
  | 18 => ⟨S4096x512, .bf16⟩
  | 19 => ⟨S512x256, .f32⟩
  | 20 => ⟨S512x512, .f32⟩
  | 21 => ⟨S4096x512, .bf16⟩
  | 22 => ⟨S2x8x512, .f32⟩
  | _ => ⟨S2x2048x4x64, .f32⟩

abbrev hbmTy (i : Nat) : BufTy := match i / 128 with
  | 0 => hbmTy0_0 i
  | 1 => hbmTy0_1 i
  | 2 => hbmTy0_2 i
  | _ => ⟨S2x2048x4x64, .f32⟩

abbrev bufTy : (tb : Table) → Fin (tcTables nBuf tb) → BufTy
  | .hbm, ⟨i, _⟩ => hbmTy i
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S256x256, .bf16⟩
  | .local _ .vmem, ⟨10, _⟩ => ⟨S2048x256, .f32⟩
  | .local _ .vmem, ⟨11, _⟩ => ⟨S2048x256, .f32⟩
  | .local _ .vmem, ⟨12, _⟩ => ⟨S2048x256, .f32⟩
  | .local _ .vmem, ⟨13, _⟩ => ⟨S2048x256, .f32⟩
  | .local _ .vmem, ⟨14, _⟩ => ⟨S2048x256, .bf16⟩
  | .local _ .vmem, ⟨15, _⟩ => ⟨S2048x256, .bf16⟩
  | .local _ .vmem, ⟨16, _⟩ => ⟨S1x256, .f32⟩
  | .local _ .vmem, ⟨17, _⟩ => ⟨S1x256, .f32⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S2048x256, .bf16⟩
  | .local _ .vmem, ⟨23, _⟩ => ⟨S2048x256, .bf16⟩
  | .local _ .vmem, ⟨24, _⟩ => ⟨S256x128, .f32⟩
  | .local _ .vmem, ⟨25, _⟩ => ⟨S256x128, .f32⟩
  | .local _ .vmem, ⟨26, _⟩ => ⟨S256x256, .f32⟩
  | .local _ .vmem, ⟨27, _⟩ => ⟨S256x256, .f32⟩
  | .local _ .vmem, ⟨28, _⟩ => ⟨S2048x256, .bf16⟩
  | .local _ .vmem, ⟨29, _⟩ => ⟨S2048x256, .bf16⟩
  | .local _ .vmem, ⟨30, _⟩ => ⟨S1x8x256, .f32⟩
  | .local _ .vmem, ⟨31, _⟩ => ⟨S1x8x256, .f32⟩
  | .local _ .vmem, ⟨32, _⟩ => ⟨S2048x256, .f32⟩
  | .local _ .vmem, ⟨33, _⟩ => ⟨S4x8x128x128, .f32⟩
  | .local _ .vmem, ⟨34, _⟩ => ⟨S2048x128, .f32⟩
  | .local _ .vmem, ⟨35, _⟩ => ⟨S2048x128, .f32⟩
  | .local _ .vmem, ⟨36, _⟩ => ⟨S2048x256, .f32⟩
  | .local _ .smem, ⟨0, _⟩ => ⟨S2x4, .f32⟩
  | _, _ => ⟨S2x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_cst_0 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_cst_1 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_2 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_cst_3 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_cst_4 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_cst_5 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩
abbrev main_v139 : Ref sig .tc := ⟨.hbm, 163, rfl⟩
abbrev main_v140 : Ref sig .tc := ⟨.hbm, 164, rfl⟩
abbrev main_v141 : Ref sig .tc := ⟨.hbm, 165, rfl⟩
abbrev main_v142 : Ref sig .tc := ⟨.hbm, 166, rfl⟩
abbrev main_v143 : Ref sig .tc := ⟨.hbm, 167, rfl⟩
abbrev main_v144 : Ref sig .tc := ⟨.hbm, 168, rfl⟩
abbrev main_v145 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_v150 : Ref sig .tc := ⟨.hbm, 174, rfl⟩
abbrev main_v151 : Ref sig .tc := ⟨.hbm, 175, rfl⟩
abbrev main_v152 : Ref sig .tc := ⟨.hbm, 176, rfl⟩
abbrev main_v153 : Ref sig .tc := ⟨.hbm, 177, rfl⟩
abbrev main_v154 : Ref sig .tc := ⟨.hbm, 178, rfl⟩
abbrev main_v155 : Ref sig .tc := ⟨.hbm, 179, rfl⟩
abbrev main_v156 : Ref sig .tc := ⟨.hbm, 180, rfl⟩
abbrev main_v157 : Ref sig .tc := ⟨.hbm, 181, rfl⟩
abbrev main_v158 : Ref sig .tc := ⟨.hbm, 182, rfl⟩
abbrev main_v159 : Ref sig .tc := ⟨.hbm, 183, rfl⟩
abbrev main_v160 : Ref sig .tc := ⟨.hbm, 184, rfl⟩
abbrev main_v161 : Ref sig .tc := ⟨.hbm, 185, rfl⟩
abbrev main_v162 : Ref sig .tc := ⟨.hbm, 186, rfl⟩
abbrev main_v163 : Ref sig .tc := ⟨.hbm, 187, rfl⟩
abbrev main_v164 : Ref sig .tc := ⟨.hbm, 188, rfl⟩
abbrev main_v165 : Ref sig .tc := ⟨.hbm, 189, rfl⟩
abbrev main_v166 : Ref sig .tc := ⟨.hbm, 190, rfl⟩
abbrev main_v167 : Ref sig .tc := ⟨.hbm, 191, rfl⟩
abbrev main_v168 : Ref sig .tc := ⟨.hbm, 192, rfl⟩
abbrev main_v169 : Ref sig .tc := ⟨.hbm, 193, rfl⟩
abbrev main_v170 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_v192 : Ref sig .tc := ⟨.hbm, 216, rfl⟩
abbrev main_v193 : Ref sig .tc := ⟨.hbm, 217, rfl⟩
abbrev main_v194 : Ref sig .tc := ⟨.hbm, 218, rfl⟩
abbrev main_v195 : Ref sig .tc := ⟨.hbm, 219, rfl⟩
abbrev main_v196 : Ref sig .tc := ⟨.hbm, 220, rfl⟩
abbrev main_v197 : Ref sig .tc := ⟨.hbm, 221, rfl⟩
abbrev main_v198 : Ref sig .tc := ⟨.hbm, 222, rfl⟩
abbrev main_v199 : Ref sig .tc := ⟨.hbm, 223, rfl⟩
abbrev main_v200 : Ref sig .tc := ⟨.hbm, 224, rfl⟩
abbrev main_v201 : Ref sig .tc := ⟨.hbm, 225, rfl⟩
abbrev main_v202 : Ref sig .tc := ⟨.hbm, 226, rfl⟩
abbrev main_v203 : Ref sig .tc := ⟨.hbm, 227, rfl⟩
abbrev main_v204 : Ref sig .tc := ⟨.hbm, 228, rfl⟩
abbrev main_v205 : Ref sig .tc := ⟨.hbm, 229, rfl⟩
abbrev main_v206 : Ref sig .tc := ⟨.hbm, 230, rfl⟩
abbrev main_v207 : Ref sig .tc := ⟨.hbm, 231, rfl⟩
abbrev main_v208 : Ref sig .tc := ⟨.hbm, 232, rfl⟩
abbrev main_v209 : Ref sig .tc := ⟨.hbm, 233, rfl⟩
abbrev main_v210 : Ref sig .tc := ⟨.hbm, 234, rfl⟩
abbrev main_v211 : Ref sig .tc := ⟨.hbm, 235, rfl⟩
abbrev main_v212 : Ref sig .tc := ⟨.hbm, 236, rfl⟩
abbrev main_v213 : Ref sig .tc := ⟨.hbm, 237, rfl⟩
abbrev main_v214 : Ref sig .tc := ⟨.hbm, 238, rfl⟩
abbrev main_cst_6 : Ref sig .tc := ⟨.hbm, 239, rfl⟩
abbrev main_v215 : Ref sig .tc := ⟨.hbm, 240, rfl⟩
abbrev main_v216 : Ref sig .tc := ⟨.hbm, 241, rfl⟩
abbrev main_v217 : Ref sig .tc := ⟨.hbm, 242, rfl⟩
abbrev main_v218 : Ref sig .tc := ⟨.hbm, 243, rfl⟩
abbrev main_v219 : Ref sig .tc := ⟨.hbm, 244, rfl⟩
abbrev main_v220 : Ref sig .tc := ⟨.hbm, 245, rfl⟩
abbrev main_v221 : Ref sig .tc := ⟨.hbm, 246, rfl⟩
abbrev main_v222 : Ref sig .tc := ⟨.hbm, 247, rfl⟩
abbrev main_v223 : Ref sig .tc := ⟨.hbm, 248, rfl⟩
abbrev main_v224 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_v247_0 : Ref sig .tc := ⟨.hbm, 272, rfl⟩
abbrev main_v247_1 : Ref sig .tc := ⟨.hbm, 273, rfl⟩
abbrev main_v247_2 : Ref sig .tc := ⟨.hbm, 274, rfl⟩
abbrev main_v247_3 : Ref sig .tc := ⟨.hbm, 275, rfl⟩
abbrev main_v247_4 : Ref sig .tc := ⟨.hbm, 276, rfl⟩
abbrev main_v247_5 : Ref sig .tc := ⟨.hbm, 277, rfl⟩
abbrev main_v247_6 : Ref sig .tc := ⟨.hbm, 278, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32

abbrev nD : Nat := 1
abbrev τ : Topo := Topo.v7x

variable {F : FTy → Type} [FloatOps F]

abbrev grid0 : Pipeline.Grid := ⟨2, ![2, 2], ![false, false]⟩

@[reducible] def k0_t1_loop : Scf.Loop 32 :=
  let c0_i32_14 : BitVec 32 := 0#32
  let c8_i32 : BitVec 32 := 8#32
  let v57 : BitVec 32 := Scalar.addi c0_i32_14 c8_i32
  let c1_i32_15 : BitVec 32 := 1#32
  ⟨c0_i32_14, v57, c1_i32_15⟩
def k0_mult1 (k0_t1 : Fin k0_t1_loop.trips) : BitVec 32 :=
  let c0_i32_14 : BitVec 32 := 0#32
  let c1_i32_15 : BitVec 32 := 1#32
  let arg24 : BitVec 32 := Scf.iv c0_i32_14 c1_i32_15 k0_t1
  let c256_i32 : BitVec 32 := 256#32
  let v403 : BitVec 32 := Scalar.muli arg24 c256_i32
  v403
def k0_off1 (k0_t1 : Fin k0_t1_loop.trips) : Fin 2 → Nat :=
  let c0_i32_14 : BitVec 32 := 0#32
  let c1_i32_15 : BitVec 32 := 1#32
  let arg24 : BitVec 32 := Scf.iv c0_i32_14 c1_i32_15 k0_t1
  let c256_i32 : BitVec 32 := 256#32
  let v403 : BitVec 32 := Scalar.muli arg24 c256_i32
  let v404 : BitVec 32 := v403
  let v407 : Index := Scalar.indexCast v404
  let c0_143 : Index := 0#32
  ![v407.toNat, 0]
def k0_off2 (k0_t1 : Fin k0_t1_loop.trips) : Fin 2 → Nat :=
  let c0_i32_14 : BitVec 32 := 0#32
  let c1_i32_15 : BitVec 32 := 1#32
  let arg24 : BitVec 32 := Scf.iv c0_i32_14 c1_i32_15 k0_t1
  let c256_i32 : BitVec 32 := 256#32
  let v403 : BitVec 32 := Scalar.muli arg24 c256_i32
  let v404 : BitVec 32 := v403
  let v483 : Index := Scalar.indexCast v404
  let c128_165 : Index := 128#32
  ![v483.toNat, 128]
def k0_off3 (i : grid0.Coords) (c0_i32_26 : BitVec 32) : Fin 2 → Nat :=
  let c0_27 : Index := 0#32
  let c2_i32 : BitVec 32 := 2#32
  let arg1 : BitVec 32 := BitVec.ofNat 32 (i 1).val
  let v71 : BitVec 32 := Scalar.muli c2_i32 arg1
  let v72 : BitVec 32 := Scalar.addi v71 c0_i32_26
  let v73 : Index := Scalar.indexCast v72
  ![0, v73.toNat]
def k0_off4 (i : grid0.Coords) (c0_i32_53 : BitVec 32) : Fin 2 → Nat :=
  let c1 : Index := 1#32
  let c2_i32_52 : BitVec 32 := 2#32
  let arg1 : BitVec 32 := BitVec.ofNat 32 (i 1).val
  let v169 : BitVec 32 := Scalar.muli c2_i32_52 arg1
  let v170 : BitVec 32 := Scalar.addi v169 c0_i32_53
  let v171 : Index := Scalar.indexCast v170
  ![1, v171.toNat]
@[reducible] def k0_t2_loop : Scf.Loop 32 :=
  let c0_i32_75 : BitVec 32 := 0#32
  let c8_i32_76 : BitVec 32 := 8#32
  let v259 : BitVec 32 := Scalar.addi c0_i32_75 c8_i32_76
  let c1_i32_77 : BitVec 32 := 1#32
  ⟨c0_i32_75, v259, c1_i32_77⟩
def k0_mult2 (k0_t2 : Fin k0_t2_loop.trips) : BitVec 32 :=
  let c0_i32_75 : BitVec 32 := 0#32
  let c1_i32_77 : BitVec 32 := 1#32
  let arg24 : BitVec 32 := Scf.iv c0_i32_75 c1_i32_77 k0_t2
  let c256_i32 : BitVec 32 := 256#32
  let v403 : BitVec 32 := Scalar.muli arg24 c256_i32
  v403
def k0_off5 (k0_t2 : Fin k0_t2_loop.trips) : Fin 4 → Nat :=
  let c0_141 : Index := 0#32
  let c0_i32_75 : BitVec 32 := 0#32
  let c1_i32_77 : BitVec 32 := 1#32
  let arg24 : BitVec 32 := Scf.iv c0_i32_75 c1_i32_77 k0_t2
  let v405 : Index := Scalar.indexCast arg24
  let c0_142 : Index := 0#32
  let c0_143 : Index := 0#32
  ![0, v405.toNat, 0, 0]
def k0_off6 (k0_t2 : Fin k0_t2_loop.trips) : Fin 2 → Nat :=
  let c0_i32_75 : BitVec 32 := 0#32
  let c1_i32_77 : BitVec 32 := 1#32
  let arg24 : BitVec 32 := Scf.iv c0_i32_75 c1_i32_77 k0_t2
  let c256_i32 : BitVec 32 := 256#32
  let v403 : BitVec 32 := Scalar.muli arg24 c256_i32
  let v404 : BitVec 32 := v403
  let v409 : Index := Scalar.indexCast v404
  let c0_144 : Index := 0#32
  ![v409.toNat, 0]
def k0_off7 (k0_t2 : Fin k0_t2_loop.trips) : Fin 2 → Nat :=
  let c0_i32_75 : BitVec 32 := 0#32
  let c1_i32_77 : BitVec 32 := 1#32
  let arg24 : BitVec 32 := Scf.iv c0_i32_75 c1_i32_77 k0_t2
  let c256_i32 : BitVec 32 := 256#32
  let v403 : BitVec 32 := Scalar.muli arg24 c256_i32
  let v404 : BitVec 32 := v403
  let v422 : Index := Scalar.indexCast v404
  let c0_146 : Index := 0#32
  ![v422.toNat, 0]
def k0_mult3 (k0_t2 : Fin k0_t2_loop.trips) : BitVec 32 :=
  let c0_i32_75 : BitVec 32 := 0#32
  let c1_i32_77 : BitVec 32 := 1#32
  let arg24 : BitVec 32 := Scf.iv c0_i32_75 c1_i32_77 k0_t2
  let c256_i32_148 : BitVec 32 := 256#32
  let v427 : BitVec 32 := Scalar.muli arg24 c256_i32_148
  v427
def k0_off8 (k0_t2 : Fin k0_t2_loop.trips) : Fin 4 → Nat :=
  let c1_149 : Index := 1#32
  let c0_i32_75 : BitVec 32 := 0#32
  let c1_i32_77 : BitVec 32 := 1#32
  let arg24 : BitVec 32 := Scf.iv c0_i32_75 c1_i32_77 k0_t2
  let v429 : Index := Scalar.indexCast arg24
  let c0_150 : Index := 0#32
  let c0_151 : Index := 0#32
  ![1, v429.toNat, 0, 0]
def k0_off9 (k0_t2 : Fin k0_t2_loop.trips) : Fin 2 → Nat :=
  let c0_i32_75 : BitVec 32 := 0#32
  let c1_i32_77 : BitVec 32 := 1#32
  let arg24 : BitVec 32 := Scf.iv c0_i32_75 c1_i32_77 k0_t2
  let c256_i32_148 : BitVec 32 := 256#32
  let v427 : BitVec 32 := Scalar.muli arg24 c256_i32_148
  let v428 : BitVec 32 := v427
  let v446 : Index := Scalar.indexCast v428
  let c128_154 : Index := 128#32
  ![v446.toNat, 128]
def k0_mult4 (k0_t2 : Fin k0_t2_loop.trips) : BitVec 32 :=
  let c7_i32 : BitVec 32 := 7#32
  let c0_i32_75 : BitVec 32 := 0#32
  let c1_i32_77 : BitVec 32 := 1#32
  let arg24 : BitVec 32 := Scf.iv c0_i32_75 c1_i32_77 k0_t2
  let v451 : BitVec 32 := Scalar.subi c7_i32 arg24
  let c256_i32_156 : BitVec 32 := 256#32
  let v452 : BitVec 32 := Scalar.muli v451 c256_i32_156
  v452
def k0_off10 (k0_t2 : Fin k0_t2_loop.trips) : Fin 4 → Nat :=
  let c2 : Index := 2#32
  let c7_i32 : BitVec 32 := 7#32
  let c0_i32_75 : BitVec 32 := 0#32
  let c1_i32_77 : BitVec 32 := 1#32
  let arg24 : BitVec 32 := Scf.iv c0_i32_75 c1_i32_77 k0_t2
  let v451 : BitVec 32 := Scalar.subi c7_i32 arg24
  let v454 : Index := Scalar.indexCast v451
  let c0_157 : Index := 0#32
  let c0_158 : Index := 0#32
  ![2, v454.toNat, 0, 0]
def k0_off11 (k0_t2 : Fin k0_t2_loop.trips) : Fin 2 → Nat :=
  let c7_i32 : BitVec 32 := 7#32
  let c0_i32_75 : BitVec 32 := 0#32
  let c1_i32_77 : BitVec 32 := 1#32
  let arg24 : BitVec 32 := Scf.iv c0_i32_75 c1_i32_77 k0_t2
  let v451 : BitVec 32 := Scalar.subi c7_i32 arg24
  let c256_i32_156 : BitVec 32 := 256#32
  let v452 : BitVec 32 := Scalar.muli v451 c256_i32_156
  let v453 : BitVec 32 := v452
  let v458 : Index := Scalar.indexCast v453
  let c0_159 : Index := 0#32
  ![v458.toNat, 0]
def k0_off12 (k0_t2 : Fin k0_t2_loop.trips) : Fin 2 → Nat :=
  let c7_i32 : BitVec 32 := 7#32
  let c0_i32_75 : BitVec 32 := 0#32
  let c1_i32_77 : BitVec 32 := 1#32
  let arg24 : BitVec 32 := Scf.iv c0_i32_75 c1_i32_77 k0_t2
  let v451 : BitVec 32 := Scalar.subi c7_i32 arg24
  let c256_i32_156 : BitVec 32 := 256#32
  let v452 : BitVec 32 := Scalar.muli v451 c256_i32_156
  let v453 : BitVec 32 := v452
  let v471 : Index := Scalar.indexCast v453
  let c0_161 : Index := 0#32
  ![v471.toNat, 0]
def k0_mult5 (k0_t2 : Fin k0_t2_loop.trips) : BitVec 32 :=
  let c7_i32_163 : BitVec 32 := 7#32
  let c0_i32_75 : BitVec 32 := 0#32
  let c1_i32_77 : BitVec 32 := 1#32
  let arg24 : BitVec 32 := Scf.iv c0_i32_75 c1_i32_77 k0_t2
  let v476 : BitVec 32 := Scalar.subi c7_i32_163 arg24
  let c256_i32_164 : BitVec 32 := 256#32
  let v477 : BitVec 32 := Scalar.muli v476 c256_i32_164
  v477
def k0_off13 (k0_t2 : Fin k0_t2_loop.trips) : Fin 4 → Nat :=
  let c3 : Index := 3#32
  let c7_i32_163 : BitVec 32 := 7#32
  let c0_i32_75 : BitVec 32 := 0#32
  let c1_i32_77 : BitVec 32 := 1#32
  let arg24 : BitVec 32 := Scf.iv c0_i32_75 c1_i32_77 k0_t2
  let v476 : BitVec 32 := Scalar.subi c7_i32_163 arg24
  let v479 : Index := Scalar.indexCast v476
  let c0_165 : Index := 0#32
  let c0_166 : Index := 0#32
  ![3, v479.toNat, 0, 0]
def k0_off14 (k0_t2 : Fin k0_t2_loop.trips) : Fin 2 → Nat :=
  let c7_i32_163 : BitVec 32 := 7#32
  let c0_i32_75 : BitVec 32 := 0#32
  let c1_i32_77 : BitVec 32 := 1#32
  let arg24 : BitVec 32 := Scf.iv c0_i32_75 c1_i32_77 k0_t2
  let v476 : BitVec 32 := Scalar.subi c7_i32_163 arg24
  let c256_i32_164 : BitVec 32 := 256#32
  let v477 : BitVec 32 := Scalar.muli v476 c256_i32_164
  let v478 : BitVec 32 := v477
  let v496 : Index := Scalar.indexCast v478
  let c128_169 : Index := 128#32
  ![v496.toNat, 128]
@[reducible] def k0_t3_loop : Scf.Loop 32 :=
  let c0_i32_81 : BitVec 32 := 0#32
  let c8_i32_82 : BitVec 32 := 8#32
  let v265 : BitVec 32 := Scalar.addi c0_i32_81 c8_i32_82
  let c1_i32_83 : BitVec 32 := 1#32
  ⟨c0_i32_81, v265, c1_i32_83⟩
def k0_mult6 (k0_t3 : Fin k0_t3_loop.trips) : BitVec 32 :=
  let c7_i32 : BitVec 32 := 7#32
  let c0_i32_81 : BitVec 32 := 0#32
  let c1_i32_83 : BitVec 32 := 1#32
  let arg24 : BitVec 32 := Scf.iv c0_i32_81 c1_i32_83 k0_t3
  let v403 : BitVec 32 := Scalar.subi c7_i32 arg24
  let c256_i32 : BitVec 32 := 256#32
  let v404 : BitVec 32 := Scalar.muli v403 c256_i32
  v404
def k0_off15 (k0_t3 : Fin k0_t3_loop.trips) : Fin 2 → Nat :=
  let c7_i32 : BitVec 32 := 7#32
  let c0_i32_81 : BitVec 32 := 0#32
  let c1_i32_83 : BitVec 32 := 1#32
  let arg24 : BitVec 32 := Scf.iv c0_i32_81 c1_i32_83 k0_t3
  let v403 : BitVec 32 := Scalar.subi c7_i32 arg24
  let c256_i32 : BitVec 32 := 256#32
  let v404 : BitVec 32 := Scalar.muli v403 c256_i32
  let v405 : BitVec 32 := v404
  let v406 : Index := Scalar.indexCast v405
  let c0_141 : Index := 0#32
  ![v406.toNat, 0]
def k0_off16 (k0_t3 : Fin k0_t3_loop.trips) : Fin 2 → Nat :=
  let c7_i32 : BitVec 32 := 7#32
  let c0_i32_81 : BitVec 32 := 0#32
  let c1_i32_83 : BitVec 32 := 1#32
  let arg24 : BitVec 32 := Scf.iv c0_i32_81 c1_i32_83 k0_t3
  let v403 : BitVec 32 := Scalar.subi c7_i32 arg24
  let c256_i32 : BitVec 32 := 256#32
  let v404 : BitVec 32 := Scalar.muli v403 c256_i32
  let v405 : BitVec 32 := v404
  let v424 : Index := Scalar.indexCast v405
  let c0_147 : Index := 0#32
  ![v424.toNat, 0]
def k0_off17 (k0_t3 : Fin k0_t3_loop.trips) : Fin 4 → Nat :=
  let c0_149 : Index := 0#32
  let c7_i32 : BitVec 32 := 7#32
  let c0_i32_81 : BitVec 32 := 0#32
  let c1_i32_83 : BitVec 32 := 1#32
  let arg24 : BitVec 32 := Scf.iv c0_i32_81 c1_i32_83 k0_t3
  let v403 : BitVec 32 := Scalar.subi c7_i32 arg24
  let v430 : Index := Scalar.indexCast v403
  let c0_150 : Index := 0#32
  let c0_151 : Index := 0#32
  ![0, v430.toNat, 0, 0]
def k0_off18 (k0_t3 : Fin k0_t3_loop.trips) : Fin 2 → Nat :=
  let c7_i32 : BitVec 32 := 7#32
  let c0_i32_81 : BitVec 32 := 0#32
  let c1_i32_83 : BitVec 32 := 1#32
  let arg24 : BitVec 32 := Scf.iv c0_i32_81 c1_i32_83 k0_t3
  let v403 : BitVec 32 := Scalar.subi c7_i32 arg24
  let c256_i32 : BitVec 32 := 256#32
  let v404 : BitVec 32 := Scalar.muli v403 c256_i32
  let v405 : BitVec 32 := v404
  let v532 : Index := Scalar.indexCast v405
  let c128_174 : Index := 128#32
  ![v532.toNat, 128]
def k0_off19 (k0_t3 : Fin k0_t3_loop.trips) : Fin 4 → Nat :=
  let c1_176 : Index := 1#32
  let c7_i32 : BitVec 32 := 7#32
  let c0_i32_81 : BitVec 32 := 0#32
  let c1_i32_83 : BitVec 32 := 1#32
  let arg24 : BitVec 32 := Scf.iv c0_i32_81 c1_i32_83 k0_t3
  let v403 : BitVec 32 := Scalar.subi c7_i32 arg24
  let v538 : Index := Scalar.indexCast v403
  let c0_177 : Index := 0#32
  let c0_178 : Index := 0#32
  ![1, v538.toNat, 0, 0]
def k0_mult7 (k0_t3 : Fin k0_t3_loop.trips) : BitVec 32 :=
  let c0_i32_81 : BitVec 32 := 0#32
  let c1_i32_83 : BitVec 32 := 1#32
  let arg24 : BitVec 32 := Scf.iv c0_i32_81 c1_i32_83 k0_t3
  let c256_i32_203 : BitVec 32 := 256#32
  let v645 : BitVec 32 := Scalar.muli arg24 c256_i32_203
  v645
def k0_off20 (k0_t3 : Fin k0_t3_loop.trips) : Fin 2 → Nat :=
  let c0_i32_81 : BitVec 32 := 0#32
  let c1_i32_83 : BitVec 32 := 1#32
  let arg24 : BitVec 32 := Scf.iv c0_i32_81 c1_i32_83 k0_t3
  let c256_i32_203 : BitVec 32 := 256#32
  let v645 : BitVec 32 := Scalar.muli arg24 c256_i32_203
  let v646 : BitVec 32 := v645
  let v647 : Index := Scalar.indexCast v646
  let c0_204 : Index := 0#32
  ![v647.toNat, 0]
def k0_off21 (k0_t3 : Fin k0_t3_loop.trips) : Fin 2 → Nat :=
  let c0_i32_81 : BitVec 32 := 0#32
  let c1_i32_83 : BitVec 32 := 1#32
  let arg24 : BitVec 32 := Scf.iv c0_i32_81 c1_i32_83 k0_t3
  let c256_i32_203 : BitVec 32 := 256#32
  let v645 : BitVec 32 := Scalar.muli arg24 c256_i32_203
  let v646 : BitVec 32 := v645
  let v664 : Index := Scalar.indexCast v646
  let c0_210 : Index := 0#32
  ![v664.toNat, 0]
def k0_off22 (k0_t3 : Fin k0_t3_loop.trips) : Fin 4 → Nat :=
  let c2 : Index := 2#32
  let c0_i32_81 : BitVec 32 := 0#32
  let c1_i32_83 : BitVec 32 := 1#32
  let arg24 : BitVec 32 := Scf.iv c0_i32_81 c1_i32_83 k0_t3
  let v670 : Index := Scalar.indexCast arg24
  let c0_212 : Index := 0#32
  let c0_213 : Index := 0#32
  ![2, v670.toNat, 0, 0]
def k0_off23 (k0_t3 : Fin k0_t3_loop.trips) : Fin 2 → Nat :=
  let c0_i32_81 : BitVec 32 := 0#32
  let c1_i32_83 : BitVec 32 := 1#32
  let arg24 : BitVec 32 := Scf.iv c0_i32_81 c1_i32_83 k0_t3
  let c256_i32_203 : BitVec 32 := 256#32
  let v645 : BitVec 32 := Scalar.muli arg24 c256_i32_203
  let v646 : BitVec 32 := v645
  let v744 : Index := Scalar.indexCast v646
  let c128_229 : Index := 128#32
  ![v744.toNat, 128]
def k0_off24 (k0_t3 : Fin k0_t3_loop.trips) : Fin 4 → Nat :=
  let c3 : Index := 3#32
  let c0_i32_81 : BitVec 32 := 0#32
  let c1_i32_83 : BitVec 32 := 1#32
  let arg24 : BitVec 32 := Scf.iv c0_i32_81 c1_i32_83 k0_t3
  let v750 : Index := Scalar.indexCast arg24
  let c0_231 : Index := 0#32
  let c0_232 : Index := 0#32
  ![3, v750.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .smem S2x4 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2048x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S2048x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Kernel8.lean ====
abbrev S16x1024 : Shape := ⟨2, ![16, 1024]⟩
abbrev S1x1024 : Shape := ⟨2, ![1, 1024]⟩
abbrev S1024x1536 : Shape := ⟨2, ![1024, 1536]⟩
abbrev S1x1536 : Shape := ⟨2, ![1, 1536]⟩
abbrev S_ : Shape := ⟨0, ![]⟩
abbrev S7x1024 : Shape := ⟨2, ![7, 1024]⟩
abbrev S24x1024 : Shape := ⟨2, ![24, 1024]⟩
abbrev S1x24x1536 : Shape := ⟨3, ![1, 24, 1536]⟩
abbrev S1024x512 : Shape := ⟨2, ![1024, 512]⟩
abbrev S1x512 : Shape := ⟨2, ![1, 512]⟩
abbrev S1x24x512 : Shape := ⟨3, ![1, 24, 512]⟩
abbrev S24x512 : Shape := ⟨2, ![24, 512]⟩

abbrev nBuf : Space → Nat
  | .hbm => 8
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1024x1536, .f32⟩
  | .hbm, ⟨3, _⟩ => ⟨S1x1536, .f32⟩
  | .hbm, ⟨4, _⟩ => ⟨S_, .f32⟩
  | .hbm, ⟨5, _⟩ => ⟨S7x1024, .f32⟩
  | .hbm, ⟨6, _⟩ => ⟨S24x1024, .f32⟩
  | .hbm, ⟨7, _⟩ => ⟨S1x24x1536, .f32⟩
  | .local _ .vmem, ⟨0, _⟩ => ⟨S24x1024, .f32⟩
  | .local _ .vmem, ⟨1, _⟩ => ⟨S1024x512, .f32⟩
  | .local _ .vmem, ⟨2, _⟩ => ⟨S1024x512, .f32⟩
  | .local _ .vmem, ⟨3, _⟩ => ⟨S1x512, .f32⟩
  | .local _ .vmem, ⟨4, _⟩ => ⟨S1x512, .f32⟩
  | .local _ .vmem, ⟨5, _⟩ => ⟨S1x24x512, .f32⟩
  | .local _ .vmem, ⟨6, _⟩ => ⟨S1x24x512, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x24x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16x1024 : Shape := ⟨2, ![16, 1024]⟩
abbrev S1x1024 : Shape := ⟨2, ![1, 1024]⟩
abbrev S1024x1536 : Shape := ⟨2, ![1024, 1536]⟩
abbrev S1x1536 : Shape := ⟨2, ![1, 1536]⟩
abbrev S_ : Shape := ⟨0, ![]⟩
abbrev S16x1536 : Shape := ⟨2, ![16, 1536]⟩
abbrev S7x1536 : Shape := ⟨2, ![7, 1536]⟩
abbrev S24x1536 : Shape := ⟨2, ![24, 1536]⟩
abbrev S1x24x1536 : Shape := ⟨3, ![1, 24, 1536]⟩

abbrev nBuf : Space → Nat
  | .hbm => 30
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1x1024, .f32⟩
  | .hbm, ⟨2, _⟩ => ⟨S1024x1536, .f32⟩
  | .hbm, ⟨3, _⟩ => ⟨S1x1536, .f32⟩
  | .hbm, ⟨4, _⟩ => ⟨S16x1024, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1536, .f32⟩
  | .hbm, ⟨14, _⟩ => ⟨S16x1536, .f32⟩
  | .hbm, ⟨15, _⟩ => ⟨S16x1536, .f32⟩
  | .hbm, ⟨16, _⟩ => ⟨S1x1024, .f32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S_, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1536, .f32⟩
  | .hbm, ⟨26, _⟩ => ⟨S1x1536, .f32⟩
  | .hbm, ⟨27, _⟩ => ⟨S7x1536, .f32⟩
  | .hbm, ⟨28, _⟩ => ⟨S24x1536, .f32⟩
  | .hbm, ⟨29, _⟩ => ⟨S1x24x1536, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call1_v0 : Ref sig .tc := ⟨.hbm, 16, rfl⟩
abbrev main_call1_v1 : Ref sig .tc := ⟨.hbm, 17, rfl⟩
abbrev main_call1_cst : Ref sig .tc := ⟨.hbm, 18, rfl⟩
abbrev main_call1_v2 : Ref sig .tc := ⟨.hbm, 19, rfl⟩
abbrev main_call1_v3 : Ref sig .tc := ⟨.hbm, 20, rfl⟩
abbrev main_call1_cst_0 : Ref sig .tc := ⟨.hbm, 21, rfl⟩
abbrev main_call1_v4 : Ref sig .tc := ⟨.hbm, 22, rfl⟩
abbrev main_call1_v5 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel9.lean ====
abbrev S2x2048x1024 : Shape := ⟨3, ![2, 2048, 1024]⟩
abbrev S2x256x1024 : Shape := ⟨3, ![2, 256, 1024]⟩
abbrev S2x6144 : Shape := ⟨2, ![2, 6144]⟩
abbrev S1x6144 : Shape := ⟨2, ![1, 6144]⟩
abbrev S1x1024 : Shape := ⟨2, ![1, 1024]⟩
abbrev S1024x2240 : Shape := ⟨2, ![1024, 2240]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S2048x32 : Shape := ⟨2, ![2048, 32]⟩
abbrev S3x6144 : Shape := ⟨2, ![3, 6144]⟩
abbrev S3x6x1024 : Shape := ⟨3, ![3, 6, 1024]⟩
abbrev S_ : Shape := ⟨0, ![]⟩
abbrev S3x8x1024 : Shape := ⟨3, ![3, 8, 1024]⟩
abbrev S2240x1024 : Shape := ⟨2, ![2240, 1024]⟩
abbrev S2304x1024 : Shape := ⟨2, ![2304, 1024]⟩
abbrev S384x4x192 : Shape := ⟨3, ![384, 4, 192]⟩
abbrev S4x192x384 : Shape := ⟨3, ![4, 192, 384]⟩
abbrev S4x256x384 : Shape := ⟨3, ![4, 256, 384]⟩
abbrev S256x4x256 : Shape := ⟨3, ![256, 4, 256]⟩
abbrev S4x256x256 : Shape := ⟨3, ![4, 256, 256]⟩
abbrev S1x2048x1x32 : Shape := ⟨4, ![1, 2048, 1, 32]⟩
abbrev S1x2048x8x32 : Shape := ⟨4, ![1, 2048, 8, 32]⟩
abbrev S2048x256 : Shape := ⟨2, ![2048, 256]⟩
abbrev S512x256 : Shape := ⟨2, ![512, 256]⟩
abbrev S2560x256 : Shape := ⟨2, ![2560, 256]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S4096x1024 : Shape := ⟨2, ![4096, 1024]⟩
abbrev S512x1024 : Shape := ⟨2, ![512, 1024]⟩
abbrev S4608x1024 : Shape := ⟨2, ![4608, 1024]⟩
abbrev S4608x1152 : Shape := ⟨2, ![4608, 1152]⟩
abbrev S4608x256 : Shape := ⟨2, ![4608, 256]⟩
abbrev S4608x512 : Shape := ⟨2, ![4608, 512]⟩
abbrev S4608x384 : Shape := ⟨2, ![4608, 384]⟩
abbrev S1x8x1024 : Shape := ⟨3, ![1, 8, 1024]⟩
abbrev S512x1152 : Shape := ⟨2, ![512, 1152]⟩
abbrev S512x512 : Shape := ⟨2, ![512, 512]⟩
abbrev S512x384 : Shape := ⟨2, ![512, 384]⟩
abbrev S1x1x1024 : Shape := ⟨3, ![1, 1, 1024]⟩
abbrev S512 : Shape := ⟨1, ![512]⟩
abbrev S512x1 : Shape := ⟨2, ![512, 1]⟩
abbrev S512x2304 : Shape := ⟨2, ![512, 2304]⟩
abbrev S512x128 : Shape := ⟨2, ![512, 128]⟩
abbrev S1x128 : Shape := ⟨2, ![1, 128]⟩
abbrev S1x256x384 : Shape := ⟨3, ![1, 256, 384]⟩
abbrev S256x384 : Shape := ⟨2, ![256, 384]⟩
abbrev S1x256x256 : Shape := ⟨3, ![1, 256, 256]⟩
abbrev S256x256 : Shape := ⟨2, ![256, 256]⟩

abbrev nBuf : Space → Nat
  | .hbm => 57
  | .vmem => 36
  | .smem => 0
  | _ => 0

abbrev bufTy : (tb : Table) → Fin (tcTables nBuf tb) → BufTy
  | .hbm, ⟨0, _⟩ => ⟨S2x2048x1024, .f32⟩
  | .hbm, ⟨1, _⟩ => ⟨S2x256x1024, .f32⟩
  | .hbm, ⟨2, _⟩ => ⟨S2x6144, .f32⟩
  | .hbm, ⟨3, _⟩ => ⟨S1x6144, .f32⟩
  | .hbm, ⟨4, _⟩ => ⟨S1x1024, .f32⟩
  | .hbm, ⟨5, _⟩ => ⟨S1024x2240, .f32⟩
  | .hbm, ⟨6, _⟩ => ⟨S1x384, .f32⟩
  | .hbm, ⟨7, _⟩ => ⟨S384x768, .f32⟩
  | .hbm, ⟨8, _⟩ => ⟨S1x256, .f32⟩
  | .hbm, ⟨9, _⟩ => ⟨S256x1024, .f32⟩
  | .hbm, ⟨10, _⟩ => ⟨S2048x32, .f32⟩
  | .hbm, ⟨11, _⟩ => ⟨S2048x32, .f32⟩
  | .hbm, ⟨12, _⟩ => ⟨S3x6144, .f32⟩
  | .hbm, ⟨13, _⟩ => ⟨S3x6x1024, .f32⟩
  | .hbm, ⟨14, _⟩ => ⟨S_, .i32⟩
  | .hbm, ⟨15, _⟩ => ⟨S_, .f32⟩
  | .hbm, ⟨16, _⟩ => ⟨S3x8x1024, .f32⟩
  | .hbm, ⟨17, _⟩ => ⟨S2240x1024, .f32⟩
  | .hbm, ⟨18, _⟩ => ⟨S_, .i32⟩
  | .hbm, ⟨19, _⟩ => ⟨S_, .f32⟩
  | .hbm, ⟨20, _⟩ => ⟨S2304x1024, .f32⟩
  | .hbm, ⟨21, _⟩ => ⟨S2304x1024, .bf16⟩
  | .hbm, ⟨22, _⟩ => ⟨S384x4x192, .f32⟩
  | .hbm, ⟨23, _⟩ => ⟨S4x192x384, .f32⟩
  | .hbm, ⟨24, _⟩ => ⟨S_, .i32⟩
  | .hbm, ⟨25, _⟩ => ⟨S_, .f32⟩
  | .hbm, ⟨26, _⟩ => ⟨S4x256x384, .f32⟩
  | .hbm, ⟨27, _⟩ => ⟨S4x256x384, .bf16⟩
  | .hbm, ⟨28, _⟩ => ⟨S256x4x256, .f32⟩
  | .hbm, ⟨29, _⟩ => ⟨S4x256x256, .f32⟩
  | .hbm, ⟨30, _⟩ => ⟨S4x256x256, .bf16⟩
  | .hbm, ⟨31, _⟩ => ⟨S1x2048x1x32, .f32⟩
  | .hbm, ⟨32, _⟩ => ⟨S1x2048x8x32, .f32⟩
  | .hbm, ⟨33, _⟩ => ⟨S2048x256, .f32⟩
  | .hbm, ⟨34, _⟩ => ⟨S_, .f32⟩
  | .hbm, ⟨35, _⟩ => ⟨S512x256, .f32⟩
  | .hbm, ⟨36, _⟩ => ⟨S2560x256, .f32⟩
  | .hbm, ⟨37, _⟩ => ⟨S2048x32, .f32⟩
  | .hbm, ⟨38, _⟩ => ⟨S2048x64, .f32⟩
  | .hbm, ⟨39, _⟩ => ⟨S1x2048x1x64, .f32⟩
  | .hbm, ⟨40, _⟩ => ⟨S1x2048x4x64, .f32⟩
  | .hbm, ⟨41, _⟩ => ⟨S2048x256, .f32⟩
  | .hbm, ⟨42, _⟩ => ⟨S_, .f32⟩
  | .hbm, ⟨43, _⟩ => ⟨S512x256, .f32⟩
  | .hbm, ⟨44, _⟩ => ⟨S2560x256, .f32⟩
  | .hbm, ⟨45, _⟩ => ⟨S4096x1024, .f32⟩
  | .hbm, ⟨46, _⟩ => ⟨S512x1024, .f32⟩
  | .hbm, ⟨47, _⟩ => ⟨S4608x1024, .bf16⟩
  | .hbm, ⟨48, _⟩ => ⟨S4608x1152, .f32⟩
  | .hbm, ⟨49, _⟩ => ⟨S4608x256, .bf16⟩
  | .hbm, ⟨50, _⟩ => ⟨S4608x256, .bf16⟩
  | .hbm, ⟨51, _⟩ => ⟨S4608x512, .bf16⟩
  | .hbm, ⟨52, _⟩ => ⟨S4608x384, .bf16⟩
  | .hbm, ⟨53, _⟩ => ⟨S4608x256, .bf16⟩
  | .hbm, ⟨54, _⟩ => ⟨S4608x1024, .bf16⟩
  | .hbm, ⟨55, _⟩ => ⟨S4608x1024, .bf16⟩
  | .hbm, ⟨56, _⟩ => ⟨S4608x512, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x1024, .f32⟩
  | .local _ .vmem, ⟨7, _⟩ => ⟨S2304x1024, .bf16⟩
  | .local _ .vmem, ⟨8, _⟩ => ⟨S1x384, .f32⟩
  | .local _ .vmem, ⟨9, _⟩ => ⟨S1x256, .f32⟩
  | .local _ .vmem, ⟨10, _⟩ => ⟨S4x256x384, .bf16⟩
  | .local _ .vmem, ⟨11, _⟩ => ⟨S4x256x256, .bf16⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x1024, .bf16⟩
  | .local _ .vmem, ⟨17, _⟩ => ⟨S512x1024, .bf16⟩
  | .local _ .vmem, ⟨18, _⟩ => ⟨S512x1152, .f32⟩
  | .local _ .vmem, ⟨19, _⟩ => ⟨S512x1152, .f32⟩
  | .local _ .vmem, ⟨20, _⟩ => ⟨S512x256, .bf16⟩
  | .local _ .vmem, ⟨21, _⟩ => ⟨S512x256, .bf16⟩
  | .local _ .vmem, ⟨22, _⟩ => ⟨S512x256, .bf16⟩
  | .local _ .vmem, ⟨23, _⟩ => ⟨S512x256, .bf16⟩
  | .local _ .vmem, ⟨24, _⟩ => ⟨S512x512, .bf16⟩
  | .local _ .vmem, ⟨25, _⟩ => ⟨S512x512, .bf16⟩
  | .local _ .vmem, ⟨26, _⟩ => ⟨S512x384, .bf16⟩
  | .local _ .vmem, ⟨27, _⟩ => ⟨S512x384, .bf16⟩
  | .local _ .vmem, ⟨28, _⟩ => ⟨S512x256, .bf16⟩
  | .local _ .vmem, ⟨29, _⟩ => ⟨S512x256, .bf16⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S512x512, .bf16⟩
  | .local _ .vmem, ⟨35, _⟩ => ⟨S512x512, .bf16⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_call0_v0 : Ref sig .tc := ⟨.hbm, 15, rfl⟩
abbrev main_v2 : Ref sig .tc := ⟨.hbm, 16, rfl⟩
abbrev main_v3 : Ref sig .tc := ⟨.hbm, 17, rfl⟩
abbrev main_c_0 : Ref sig .tc := ⟨.hbm, 18, rfl⟩
abbrev main_call1_v0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_call2_v0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27_0 : Ref sig .tc := ⟨.hbm, 47, rfl⟩
abbrev main_v27_1 : Ref sig .tc := ⟨.hbm, 48, rfl⟩
abbrev main_v27_2 : Ref sig .tc := ⟨.hbm, 49, rfl⟩
abbrev main_v27_3 : Ref sig .tc := ⟨.hbm, 50, rfl⟩
abbrev main_v27_4 : Ref sig .tc := ⟨.hbm, 51, rfl⟩
abbrev main_v27_5 : Ref sig .tc := ⟨.hbm, 52, rfl⟩
abbrev main_v27_6 : Ref sig .tc := ⟨.hbm, 53, rfl⟩
abbrev main_v27_7 : Ref sig .tc := ⟨.hbm, 54, rfl⟩
abbrev main_v27_8 : Ref sig .tc := ⟨.hbm, 55, rfl⟩
abbrev main_v27_9 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.subi arg0 c8_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.minsi v16 c2_i32
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c8_i32 : BitVec 32 := 8#32
  let v0 : BitVec 1 := Scalar.cmpi .slt arg0 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_10 (i : grid0.Coords) : Fin 2 → Nat :=
  let arg0 : BitVec 32 := BitVec.ofNat 32 (i 0).val
  let c8_i32 : BitVec 32 := 8#32
  let v0 : BitVec 1 := Scalar.cmpi .slt arg0 c8_i32
  let c4_i32 : BitVec 32 := 4#32
  let c0_i32 : BitVec 32 := 0#32
  let v1 : BitVec 1 := Scalar.cmpi .eq c4_i32 c0_i32
  let c1_i32 : BitVec 32 := 1#32
  let v2 : BitVec 32 := Scalar.select v1 c1_i32 c4_i32
  let v3 : BitVec 32 := Scalar.remsi arg0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32_3 : BitVec 32 := 4#32
  let v11 : BitVec 32 := Scalar.select v0 v10 c4_i32_3
  let c0_i32_4 : BitVec 32 := 0#32
  let c0_i32_5 : BitVec 32 := 0#32
  ![v11.toNat, c0_i32_4.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2304x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x256x384 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1152 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x384 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference9Ideal.lean ====
abbrev S2x2048x1024 : Shape := ⟨3, ![2, 2048, 1024]⟩
abbrev S2x256x1024 : Shape := ⟨3, ![2, 256, 1024]⟩
abbrev S2x6144 : Shape := ⟨2, ![2, 6144]⟩
abbrev S1x6144 : Shape := ⟨2, ![1, 6144]⟩
abbrev S1x1024 : Shape := ⟨2, ![1, 1024]⟩
abbrev S1024x2240 : Shape := ⟨2, ![1024, 2240]⟩
abbrev S1x384 : Shape := ⟨2, ![1, 384]⟩
abbrev S384x768 : Shape := ⟨2, ![384, 768]⟩
abbrev S1x256 : Shape := ⟨2, ![1, 256]⟩
abbrev S256x1024 : Shape := ⟨2, ![256, 1024]⟩
abbrev S2048x32 : Shape := ⟨2, ![2048, 32]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x1024 : Shape := ⟨2, ![2, 1024]⟩
abbrev S2x1x1024 : Shape := ⟨3, ![2, 1, 1024]⟩
abbrev S2x256 : Shape := ⟨2, ![2, 256]⟩
abbrev S2x256x1 : Shape := ⟨3, ![2, 256, 1]⟩
abbrev S4096x1024 : Shape := ⟨2, ![4096, 1024]⟩
abbrev S512x1024 : Shape := ⟨2, ![512, 1024]⟩
abbrev S4608x1024 : Shape := ⟨2, ![4608, 1024]⟩
abbrev S4608x2240 : Shape := ⟨2, ![4608, 2240]⟩
abbrev S4608x256 : Shape := ⟨2, ![4608, 256]⟩
abbrev S4608x512 : Shape := ⟨2, ![4608, 512]⟩
abbrev S4608x384 : Shape := ⟨2, ![4608, 384]⟩
abbrev S4608x64 : Shape := ⟨2, ![4608, 64]⟩
abbrev S4608 : Shape := ⟨1, ![4608]⟩
abbrev S4608x1 : Shape := ⟨2, ![4608, 1]⟩
abbrev S4608x768 : Shape := ⟨2, ![4608, 768]⟩
abbrev S4608x4x192 : Shape := ⟨3, ![4608, 4, 192]⟩
abbrev S4608x4x256 : Shape := ⟨3, ![4608, 4, 256]⟩
abbrev S4096x32 : Shape := ⟨2, ![4096, 32]⟩
abbrev S4096x1x32 : Shape := ⟨3, ![4096, 1, 32]⟩
abbrev S4608x4x64 : Shape := ⟨3, ![4608, 4, 64]⟩
abbrev S4096x4x64 : Shape := ⟨3, ![4096, 4, 64]⟩
abbrev S4096x4x32 : Shape := ⟨3, ![4096, 4, 32]⟩
abbrev S512x4x64 : Shape := ⟨3, ![512, 4, 64]⟩
abbrev S4608x1x64 : Shape := ⟨3, ![4608, 1, 64]⟩
abbrev S4096x1x64 : Shape := ⟨3, ![4096, 1, 64]⟩
abbrev S512x1x64 : Shape := ⟨3, ![512, 1, 64]⟩
abbrev S4608x4x128 : Shape := ⟨3, ![4608, 4, 128]⟩
abbrev S4608x1152 : Shape := ⟨2, ![4608, 1152]⟩

abbrev nBuf : Space → Nat
  | .hbm => 212
  | .vmem => 0
  | .smem => 0
  | _ => 0

abbrev hbmTy0_0 (i : Nat) : BufTy := match i % 128 with
  | 0 => ⟨S2x2048x1024, .f32⟩
  | 1 => ⟨S2x256x1024, .f32⟩
  | 2 => ⟨S2x6144, .f32⟩
  | 3 => ⟨S1x6144, .f32⟩
  | 4 => ⟨S1x1024, .f32⟩
  | 5 => ⟨S1024x2240, .f32⟩
  | 6 => ⟨S1x384, .f32⟩
  | 7 => ⟨S384x768, .f32⟩
  | 8 => ⟨S1x256, .f32⟩
  | 9 => ⟨S256x1024, .f32⟩
  | 10 => ⟨S2048x32, .f32⟩
  | 11 => ⟨S2048x32, .f32⟩
  | 12 => ⟨S2x2048x1024, .f32⟩
  | 13 => ⟨S_, .f32⟩
  | 14 => ⟨S2x2048, .f32⟩
  | 15 => ⟨S2x2048x1, .f32⟩
  | 16 => ⟨S_, .f32⟩
  | 17 => ⟨S2x2048x1, .f32⟩
  | 18 => ⟨S2x2048x1, .f32⟩
  | 19 => ⟨S_, .f32⟩
  | 20 => ⟨S2x2048x1, .f32⟩
  | 21 => ⟨S2x2048x1, .f32⟩
  | 22 => ⟨S2x2048x1, .f32⟩
  | 23 => ⟨S2x2048x1024, .f32⟩
  | 24 => ⟨S2x2048x1024, .f32⟩
  | 25 => ⟨S1x1x1024, .f32⟩
  | 26 => ⟨S2x2048x1024, .f32⟩
  | 27 => ⟨S2x2048x1024, .f32⟩
  | 28 => ⟨S2x1024, .f32⟩
  | 29 => ⟨S2x1x1024, .f32⟩
  | 30 => ⟨S2x1024, .f32⟩
  | 31 => ⟨S2x1x1024, .f32⟩
  | 32 => ⟨S_, .f32⟩
  | 33 => ⟨S2x1x1024, .f32⟩
  | 34 => ⟨S2x1x1024, .f32⟩
  | 35 => ⟨S2x2048x1024, .f32⟩
  | 36 => ⟨S2x2048x1024, .f32⟩
  | 37 => ⟨S2x2048x1024, .f32⟩
  | 38 => ⟨S2x2048x1024, .f32⟩
  | 39 => ⟨S2x256x1024, .f32⟩
  | 40 => ⟨S_, .f32⟩
  | 41 => ⟨S2x256, .f32⟩
  | 42 => ⟨S2x256x1, .f32⟩
  | 43 => ⟨S_, .f32⟩
  | 44 => ⟨S2x256x1, .f32⟩
  | 45 => ⟨S2x256x1, .f32⟩
  | 46 => ⟨S_, .f32⟩
  | 47 => ⟨S2x256x1, .f32⟩
  | 48 => ⟨S2x256x1, .f32⟩
  | 49 => ⟨S2x256x1, .f32⟩
  | 50 => ⟨S2x256x1024, .f32⟩
  | 51 => ⟨S2x256x1024, .f32⟩
  | 52 => ⟨S1x1x1024, .f32⟩
  | 53 => ⟨S2x256x1024, .f32⟩
  | 54 => ⟨S2x256x1024, .f32⟩
  | 55 => ⟨S1x1024, .f32⟩
  | 56 => ⟨S1x1x1024, .f32⟩
  | 57 => ⟨S1x1024, .f32⟩
  | 58 => ⟨S1x1x1024, .f32⟩
  | 59 => ⟨S_, .f32⟩
  | 60 => ⟨S1x1x1024, .f32⟩
  | 61 => ⟨S1x1x1024, .f32⟩
  | 62 => ⟨S2x256x1024, .f32⟩
  | 63 => ⟨S2x256x1024, .f32⟩
  | 64 => ⟨S2x256x1024, .f32⟩
  | 65 => ⟨S2x256x1024, .f32⟩
  | 66 => ⟨S4096x1024, .f32⟩
  | 67 => ⟨S512x1024, .f32⟩
  | 68 => ⟨S4608x1024, .f32⟩
  | 69 => ⟨S4608x2240, .f32⟩
  | 70 => ⟨S4608x256, .f32⟩
  | 71 => ⟨S4608x256, .f32⟩
  | 72 => ⟨S4608x512, .f32⟩
  | 73 => ⟨S4608x512, .f32⟩
  | 74 => ⟨S4608x384, .f32⟩
  | 75 => ⟨S4608x256, .f32⟩
  | 76 => ⟨S4608x64, .f32⟩
  | 77 => ⟨S4608x384, .f32⟩
  | 78 => ⟨S_, .f32⟩
  | 79 => ⟨S4608, .f32⟩
  | 80 => ⟨S4608x1, .f32⟩
  | 81 => ⟨S_, .f32⟩
  | 82 => ⟨S4608x1, .f32⟩
  | 83 => ⟨S4608x1, .f32⟩
  | 84 => ⟨S_, .f32⟩
  | 85 => ⟨S4608x1, .f32⟩
  | 86 => ⟨S4608x1, .f32⟩
  | 87 => ⟨S4608x1, .f32⟩
  | 88 => ⟨S4608x384, .f32⟩
  | 89 => ⟨S4608x384, .f32⟩
  | 90 => ⟨S4608x384, .f32⟩
  | 91 => ⟨S4608x384, .f32⟩
  | 92 => ⟨S4608x256, .f32⟩
  | 93 => ⟨S_, .f32⟩
  | 94 => ⟨S4608, .f32⟩
  | 95 => ⟨S4608x1, .f32⟩
  | 96 => ⟨S_, .f32⟩
  | 97 => ⟨S4608x1, .f32⟩
  | 98 => ⟨S4608x1, .f32⟩
  | 99 => ⟨S_, .f32⟩
  | 100 => ⟨S4608x1, .f32⟩
  | 101 => ⟨S4608x1, .f32⟩
  | 102 => ⟨S4608x1, .f32⟩
  | 103 => ⟨S4608x256, .f32⟩
  | 104 => ⟨S4608x256, .f32⟩
  | 105 => ⟨S4608x256, .f32⟩
  | 106 => ⟨S4608x256, .f32⟩
  | 107 => ⟨S4608x768, .f32⟩
  | 108 => ⟨S4608x4x192, .f32⟩
  | 109 => ⟨S4608x1024, .f32⟩
  | 110 => ⟨S4608x4x256, .f32⟩
  | 111 => ⟨S4096x32, .f32⟩
  | 112 => ⟨S4096x1x32, .f32⟩
  | 113 => ⟨S4096x32, .f32⟩
  | 114 => ⟨S4096x1x32, .f32⟩
  | 115 => ⟨S4608x4x64, .f32⟩
  | 116 => ⟨S4096x4x64, .f32⟩
  | 117 => ⟨S4096x4x32, .f32⟩
  | 118 => ⟨S4096x4x32, .f32⟩
  | 119 => ⟨S4096x4x32, .f32⟩
  | 120 => ⟨S4096x4x32, .f32⟩
  | 121 => ⟨S4096x4x32, .f32⟩
  | 122 => ⟨S4096x4x32, .f32⟩
  | 123 => ⟨S4096x4x32, .f32⟩
  | 124 => ⟨S4096x4x32, .f32⟩
  | 125 => ⟨S4096x4x32, .f32⟩
  | 126 => ⟨S4096x4x32, .f32⟩
  | 127 => ⟨S4096x4x32, .f32⟩
  | _ => ⟨S2x2048x1024, .f32⟩

abbrev hbmTy0_1 (i : Nat) : BufTy := match i % 128 with
  | 0 => ⟨S4096x4x32, .f32⟩
  | 1 => ⟨S4096x4x64, .f32⟩
  | 2 => ⟨S512x4x64, .f32⟩
  | 3 => ⟨S4608x4x64, .f32⟩
  | 4 => ⟨S4608x4x64, .f32⟩
  | 5 => ⟨S_, .f32⟩
  | 6 => ⟨S4608x4x64, .f32⟩
  | 7 => ⟨S4608x4x64, .f32⟩
  | 8 => ⟨S4096x4x64, .f32⟩
  | 9 => ⟨S4096x4x32, .f32⟩
  | 10 => ⟨S4096x4x32, .f32⟩
  | 11 => ⟨S4096x4x32, .f32⟩
  | 12 => ⟨S4096x4x32, .f32⟩
  | 13 => ⟨S4096x4x32, .f32⟩
  | 14 => ⟨S4096x4x32, .f32⟩
  | 15 => ⟨S4096x4x32, .f32⟩
  | 16 => ⟨S4096x4x32, .f32⟩
  | 17 => ⟨S4096x4x32, .f32⟩
  | 18 => ⟨S4096x4x32, .f32⟩
  | 19 => ⟨S4096x4x32, .f32⟩
  | 20 => ⟨S4096x4x32, .f32⟩
  | 21 => ⟨S4096x4x64, .f32⟩
  | 22 => ⟨S512x4x64, .f32⟩
  | 23 => ⟨S4608x4x64, .f32⟩
  | 24 => ⟨S4608x4x64, .f32⟩
  | 25 => ⟨S4096x4x64, .f32⟩
  | 26 => ⟨S4096x4x32, .f32⟩
  | 27 => ⟨S4096x4x32, .f32⟩
  | 28 => ⟨S4096x4x32, .f32⟩
  | 29 => ⟨S4096x4x32, .f32⟩
  | 30 => ⟨S4096x4x32, .f32⟩
  | 31 => ⟨S4096x4x32, .f32⟩
  | 32 => ⟨S4096x4x32, .f32⟩
  | 33 => ⟨S4096x4x32, .f32⟩
  | 34 => ⟨S4096x4x32, .f32⟩
  | 35 => ⟨S4096x4x32, .f32⟩
  | 36 => ⟨S4096x4x32, .f32⟩
  | 37 => ⟨S4096x4x32, .f32⟩
  | 38 => ⟨S4096x4x64, .f32⟩
  | 39 => ⟨S512x4x64, .f32⟩
  | 40 => ⟨S4608x4x64, .f32⟩
  | 41 => ⟨S4608x1x64, .f32⟩
  | 42 => ⟨S4096x1x64, .f32⟩
  | 43 => ⟨S4096x1x32, .f32⟩
  | 44 => ⟨S4096x1x32, .f32⟩
  | 45 => ⟨S4096x1x32, .f32⟩
  | 46 => ⟨S4096x1x32, .f32⟩
  | 47 => ⟨S4096x1x32, .f32⟩
  | 48 => ⟨S4096x1x32, .f32⟩
  | 49 => ⟨S4096x1x32, .f32⟩
  | 50 => ⟨S4096x1x32, .f32⟩
  | 51 => ⟨S4096x1x64, .f32⟩
  | 52 => ⟨S512x1x64, .f32⟩
  | 53 => ⟨S4608x1x64, .f32⟩
  | 54 => ⟨S4608x4x128, .f32⟩
  | 55 => ⟨S4608x4x128, .f32⟩
  | 56 => ⟨S4608x4x192, .f32⟩
  | 57 => ⟨S4608x4x64, .f32⟩
  | 58 => ⟨S4608x4x192, .f32⟩
  | 59 => ⟨S4608x1024, .bf16⟩
  | 60 => ⟨S4608x1152, .f32⟩
  | 61 => ⟨S4608x256, .f32⟩
  | 62 => ⟨S4608x256, .bf16⟩
  | 63 => ⟨S4608x256, .f32⟩
  | 64 => ⟨S4608x256, .bf16⟩
  | 65 => ⟨S4608x512, .bf16⟩
  | 66 => ⟨S4608x384, .bf16⟩
  | 67 => ⟨S4608x256, .bf16⟩
  | 68 => ⟨S_, .f32⟩
  | 69 => ⟨S4608x4x192, .f32⟩
  | 70 => ⟨S4608x4x192, .f32⟩
  | 71 => ⟨S_, .i32⟩
  | 72 => ⟨S_, .f32⟩
  | 73 => ⟨S4608x4x256, .f32⟩
  | 74 => ⟨S4608x1024, .f32⟩
  | 75 => ⟨S4608x1024, .bf16⟩
  | 76 => ⟨S_, .i32⟩
  | 77 => ⟨S_, .f32⟩
  | 78 => ⟨S4608x4x256, .f32⟩
  | 79 => ⟨S4608x1024, .f32⟩
  | 80 => ⟨S4608x1024, .bf16⟩
  | 81 => ⟨S4608x4x128, .f32⟩
  | 82 => ⟨S4608x512, .f32⟩
  | 83 => ⟨S4608x512, .bf16⟩
  | _ => ⟨S2x2048x1024, .f32⟩

abbrev hbmTy (i : Nat) : BufTy := match i / 128 with
  | 0 => hbmTy0_0 i
  | 1 => hbmTy0_1 i
  | _ => ⟨S2x2048x1024, .f32⟩

abbrev bufTy : (tb : Table) → Fin (tcTables nBuf tb) → BufTy
  | .hbm, ⟨i, _⟩ => hbmTy i
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_7 : Ref sig .tc := ⟨.hbm, 78, rfl⟩
abbrev main_v58 : Ref sig .tc := ⟨.hbm, 79, rfl⟩
abbrev main_v59 : Ref sig .tc := ⟨.hbm, 80, rfl⟩
abbrev main_cst_8 : Ref sig .tc := ⟨.hbm, 81, rfl⟩
abbrev main_v60 : Ref sig .tc := ⟨.hbm, 82, rfl⟩
abbrev main_v61 : Ref sig .tc := ⟨.hbm, 83, rfl⟩
abbrev main_cst_9 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_10 : Ref sig .tc := ⟨.hbm, 93, rfl⟩
abbrev main_v70 : Ref sig .tc := ⟨.hbm, 94, rfl⟩
abbrev main_v71 : Ref sig .tc := ⟨.hbm, 95, rfl⟩
abbrev main_cst_11 : Ref sig .tc := ⟨.hbm, 96, rfl⟩
abbrev main_v72 : Ref sig .tc := ⟨.hbm, 97, rfl⟩
abbrev main_v73 : Ref sig .tc := ⟨.hbm, 98, rfl⟩
abbrev main_cst_12 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_cst_13 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_cst_14 : Ref sig .tc := ⟨.hbm, 196, rfl⟩
abbrev main_v169 : Ref sig .tc := ⟨.hbm, 197, rfl⟩
abbrev main_v170 : Ref sig .tc := ⟨.hbm, 198, rfl⟩
abbrev main_c : Ref sig .tc := ⟨.hbm, 199, rfl⟩
abbrev main_call0_v0 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_c_15 : Ref sig .tc := ⟨.hbm, 204, rfl⟩
abbrev main_call1_v0 : Ref sig .tc := ⟨.hbm, 205, rfl⟩
abbrev main_v174 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_v179 : Ref sig .tc := ⟨.hbm, 211, rfl⟩

abbrev nD : Nat := 1
abbrev τ : Topo := Topo.v7x

variable {F : FTy → Type} [FloatOps F]
-- ==== Kernel10.lean ====
abbrev S2x2048x4x64 : Shape := ⟨4, ![2, 2048, 4, 64]⟩
abbrev S2x2048x4x128 : Shape := ⟨4, ![2, 2048, 4, 128]⟩
abbrev S2x2048x512 : Shape := ⟨3, ![2, 2048, 512]⟩
abbrev S2x256x4x64 : Shape := ⟨4, ![2, 256, 4, 64]⟩
abbrev S2x256x4x128 : Shape := ⟨4, ![2, 256, 4, 128]⟩
abbrev S4 : Shape := ⟨1, ![4]⟩
abbrev S512 : Shape := ⟨1, ![512]⟩
abbrev S4096x256 : Shape := ⟨2, ![4096, 256]⟩
abbrev S512x256 : Shape := ⟨2, ![512, 256]⟩
abbrev S4608x256 : Shape := ⟨2, ![4608, 256]⟩
abbrev S4096x512 : Shape := ⟨2, ![4096, 512]⟩
abbrev S512x512 : Shape := ⟨2, ![512, 512]⟩
abbrev S4608x512 : Shape := ⟨2, ![4608, 512]⟩
abbrev S_ : Shape := ⟨0, ![]⟩
abbrev S4608x1152 : Shape := ⟨2, ![4608, 1152]⟩
abbrev S1x4 : Shape := ⟨2, ![1, 4]⟩
abbrev S2x4 : Shape := ⟨2, ![2, 4]⟩
abbrev S1x512 : Shape := ⟨2, ![1, 512]⟩
abbrev S2048x128 : Shape := ⟨2, ![2048, 128]⟩
abbrev S2048x256 : Shape := ⟨2, ![2048, 256]⟩
abbrev S256x128 : Shape := ⟨2, ![256, 128]⟩
abbrev S256x256 : Shape := ⟨2, ![256, 256]⟩
abbrev S1x256 : Shape := ⟨2, ![1, 256]⟩
abbrev S1x128 : Shape := ⟨2, ![1, 128]⟩
abbrev S1x1 : Shape := ⟨2, ![1, 1]⟩
abbrev S512x1 : Shape := ⟨2, ![512, 1]⟩
abbrev S256x1 : Shape := ⟨2, ![256, 1]⟩
abbrev S128x128 : Shape := ⟨2, ![128, 128]⟩
abbrev S512x128 : Shape := ⟨2, ![512, 128]⟩

abbrev nBuf : Space → Nat
  | .hbm => 29
  | .vmem => 18
  | .smem => 1
  | _ => 0

abbrev bufTy : (tb : Table) → Fin (tcTables nBuf tb) → BufTy
  | .hbm, ⟨0, _⟩ => ⟨S2x2048x4x64, .f32⟩
  | .hbm, ⟨1, _⟩ => ⟨S2x2048x4x64, .f32⟩
  | .hbm, ⟨2, _⟩ => ⟨S2x2048x4x128, .f32⟩
  | .hbm, ⟨3, _⟩ => ⟨S2x2048x512, .f32⟩
  | .hbm, ⟨4, _⟩ => ⟨S2x256x4x64, .f32⟩
  | .hbm, ⟨5, _⟩ => ⟨S2x256x4x128, .f32⟩
  | .hbm, ⟨6, _⟩ => ⟨S4, .f32⟩
  | .hbm, ⟨7, _⟩ => ⟨S4, .f32⟩
  | .hbm, ⟨8, _⟩ => ⟨S512, .f32⟩
  | .hbm, ⟨9, _⟩ => ⟨S4096x256, .f32⟩
  | .hbm, ⟨10, _⟩ => ⟨S512x256, .f32⟩
  | .hbm, ⟨11, _⟩ => ⟨S4608x256, .f32⟩
  | .hbm, ⟨12, _⟩ => ⟨S4608x256, .bf16⟩
  | .hbm, ⟨13, _⟩ => ⟨S4096x512, .f32⟩
  | .hbm, ⟨14, _⟩ => ⟨S512x512, .f32⟩
  | .hbm, ⟨15, _⟩ => ⟨S4608x512, .f32⟩
  | .hbm, ⟨16, _⟩ => ⟨S4608x512, .bf16⟩
  | .hbm, ⟨17, _⟩ => ⟨S4096x512, .f32⟩
  | .hbm, ⟨18, _⟩ => ⟨S_, .i32⟩
  | .hbm, ⟨19, _⟩ => ⟨S_, .f32⟩
  | .hbm, ⟨20, _⟩ => ⟨S4608x1152, .f32⟩
  | .hbm, ⟨21, _⟩ => ⟨S4096x256, .f32⟩
  | .hbm, ⟨22, _⟩ => ⟨S4096x256, .bf16⟩
  | .hbm, ⟨23, _⟩ => ⟨S1x4, .f32⟩
  | .hbm, ⟨24, _⟩ => ⟨S1x4, .f32⟩
  | .hbm, ⟨25, _⟩ => ⟨S2x4, .f32⟩
  | .hbm, ⟨26, _⟩ => ⟨S1x512, .f32⟩
  | .hbm, ⟨27, _⟩ => ⟨S4096x512, .bf16⟩
  | .hbm, ⟨28, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x256, .bf16⟩
  | .local _ .vmem, ⟨5, _⟩ => ⟨S2048x256, .bf16⟩
  | .local _ .vmem, ⟨6, _⟩ => ⟨S256x128, .bf16⟩
  | .local _ .vmem, ⟨7, _⟩ => ⟨S256x128, .bf16⟩
  | .local _ .vmem, ⟨8, _⟩ => ⟨S256x256, .bf16⟩
  | .local _ .vmem, ⟨9, _⟩ => ⟨S256x256, .bf16⟩
  | .local _ .vmem, ⟨10, _⟩ => ⟨S2048x256, .f32⟩
  | .local _ .vmem, ⟨11, _⟩ => ⟨S2048x256, .f32⟩
  | .local _ .vmem, ⟨12, _⟩ => ⟨S1x256, .f32⟩
  | .local _ .vmem, ⟨13, _⟩ => ⟨S1x256, .f32⟩
  | .local _ .vmem, ⟨14, _⟩ => ⟨S2048x256, .bf16⟩
  | .local _ .vmem, ⟨15, _⟩ => ⟨S2048x256, .bf16⟩
  | .local _ .vmem, ⟨16, _⟩ => ⟨S2048x256, .f32⟩
  | .local _ .vmem, ⟨17, _⟩ => ⟨S2048x256, .f32⟩
  | .local _ .smem, ⟨0, _⟩ => ⟨S2x4, .f32⟩
  | _, _ => ⟨S2x2048x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_call0_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg6_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨2, ![2, 2], ![false, false]⟩

def k0_off1 (i : grid0.Coords) (c0_i32_14 : BitVec 32) : Fin 2 → Nat :=
  let c0_15 : Index := 0#32
  let c2_i32 : BitVec 32 := 2#32
  let arg1 : BitVec 32 := BitVec.ofNat 32 (i 1).val
  let v56 : BitVec 32 := Scalar.muli c2_i32 arg1
  let v57 : BitVec 32 := Scalar.addi v56 c0_i32_14
  let v58 : Index := Scalar.indexCast v57
  ![0, v58.toNat]
def k0_off2 (i : grid0.Coords) (c0_i32_40 : BitVec 32) : Fin 2 → Nat :=
  let c1 : Index := 1#32
  let c2_i32_39 : BitVec 32 := 2#32
  let arg1 : BitVec 32 := BitVec.ofNat 32 (i 1).val
  let v154 : BitVec 32 := Scalar.muli c2_i32_39 arg1
  let v155 : BitVec 32 := Scalar.addi v154 c0_i32_40
  let v156 : Index := Scalar.indexCast v155
  ![1, v156.toNat]
@[reducible] def k0_t1_loop : Scf.Loop 32 :=
  let c0_i32_65 : BitVec 32 := 0#32
  let c4_i32 : BitVec 32 := 4#32
  let v248 : BitVec 32 := Scalar.addi c0_i32_65 c4_i32
  let c1_i32_66 : BitVec 32 := 1#32
  ⟨c0_i32_65, v248, c1_i32_66⟩
def k0_mult1 (k0_t1 : Fin k0_t1_loop.trips) : BitVec 32 :=
  let c0_i32_65 : BitVec 32 := 0#32
  let c1_i32_66 : BitVec 32 := 1#32
  let arg12 : BitVec 32 := Scf.iv c0_i32_65 c1_i32_66 k0_t1
  let c512_i32 : BitVec 32 := 512#32
  let v251 : BitVec 32 := Scalar.muli arg12 c512_i32
  v251
def k0_off3 (k0_t1 : Fin k0_t1_loop.trips) : Fin 2 → Nat :=
  let c0_i32_65 : BitVec 32 := 0#32
  let c1_i32_66 : BitVec 32 := 1#32
  let arg12 : BitVec 32 := Scf.iv c0_i32_65 c1_i32_66 k0_t1
  let c512_i32 : BitVec 32 := 512#32
  let v251 : BitVec 32 := Scalar.muli arg12 c512_i32
  let v252 : BitVec 32 := v251
  let v253 : Index := Scalar.indexCast v252
  let c0_72 : Index := 0#32
  ![v253.toNat, 0]
def k0_off4 (k0_t1 : Fin k0_t1_loop.trips) : Fin 2 → Nat :=
  let c0_i32_65 : BitVec 32 := 0#32
  let c1_i32_66 : BitVec 32 := 1#32
  let arg12 : BitVec 32 := Scf.iv c0_i32_65 c1_i32_66 k0_t1
  let c512_i32 : BitVec 32 := 512#32
  let v251 : BitVec 32 := Scalar.muli arg12 c512_i32
  let v252 : BitVec 32 := v251
  let v268 : Index := Scalar.indexCast v252
  let c0_76 : Index := 0#32
  ![v268.toNat, 0]
def k0_off5 (k0_t1 : Fin k0_t1_loop.trips) : Fin 2 → Nat :=
  let c0_i32_65 : BitVec 32 := 0#32
  let c1_i32_66 : BitVec 32 := 1#32
  let arg12 : BitVec 32 := Scf.iv c0_i32_65 c1_i32_66 k0_t1
  let c512_i32 : BitVec 32 := 512#32
  let v251 : BitVec 32 := Scalar.muli arg12 c512_i32
  let v252 : BitVec 32 := v251
  let v302 : Index := Scalar.indexCast v252
  let c128_85 : Index := 128#32
  ![v302.toNat, 128]
def k0_mult2 (k0_t1 : Fin k0_t1_loop.trips) : BitVec 32 :=
  let c3_i32 : BitVec 32 := 3#32
  let c0_i32_65 : BitVec 32 := 0#32
  let c1_i32_66 : BitVec 32 := 1#32
  let arg12 : BitVec 32 := Scf.iv c0_i32_65 c1_i32_66 k0_t1
  let v328 : BitVec 32 := Scalar.subi c3_i32 arg12
  let c512_i32_92 : BitVec 32 := 512#32
  let v329 : BitVec 32 := Scalar.muli v328 c512_i32_92
  v329
def k0_off6 (k0_t1 : Fin k0_t1_loop.trips) : Fin 2 → Nat :=
  let c3_i32 : BitVec 32 := 3#32
  let c0_i32_65 : BitVec 32 := 0#32
  let c1_i32_66 : BitVec 32 := 1#32
  let arg12 : BitVec 32 := Scf.iv c0_i32_65 c1_i32_66 k0_t1
  let v328 : BitVec 32 := Scalar.subi c3_i32 arg12
  let c512_i32_92 : BitVec 32 := 512#32
  let v329 : BitVec 32 := Scalar.muli v328 c512_i32_92
  let v330 : BitVec 32 := v329
  let v331 : Index := Scalar.indexCast v330
  let c0_93 : Index := 0#32
  ![v331.toNat, 0]
def k0_off7 (k0_t1 : Fin k0_t1_loop.trips) : Fin 2 → Nat :=
  let c3_i32 : BitVec 32 := 3#32
  let c0_i32_65 : BitVec 32 := 0#32
  let c1_i32_66 : BitVec 32 := 1#32
  let arg12 : BitVec 32 := Scf.iv c0_i32_65 c1_i32_66 k0_t1
  let v328 : BitVec 32 := Scalar.subi c3_i32 arg12
  let c512_i32_92 : BitVec 32 := 512#32
  let v329 : BitVec 32 := Scalar.muli v328 c512_i32_92
  let v330 : BitVec 32 := v329
  let v346 : Index := Scalar.indexCast v330
  let c0_97 : Index := 0#32
  ![v346.toNat, 0]
def k0_off8 (k0_t1 : Fin k0_t1_loop.trips) : Fin 2 → Nat :=
  let c3_i32 : BitVec 32 := 3#32
  let c0_i32_65 : BitVec 32 := 0#32
  let c1_i32_66 : BitVec 32 := 1#32
  let arg12 : BitVec 32 := Scf.iv c0_i32_65 c1_i32_66 k0_t1
  let v328 : BitVec 32 := Scalar.subi c3_i32 arg12
  let c512_i32_92 : BitVec 32 := 512#32
  let v329 : BitVec 32 := Scalar.muli v328 c512_i32_92
  let v330 : BitVec 32 := v329
  let v374 : Index := Scalar.indexCast v330
  let c128_104 : Index := 128#32
  ![v374.toNat, 128]
@[reducible] def k0_t2_loop : Scf.Loop 32 :=
  let c0_i32_68 : BitVec 32 := 0#32
  let c4_i32_69 : BitVec 32 := 4#32
  let v250 : BitVec 32 := Scalar.addi c0_i32_68 c4_i32_69
  let c1_i32_70 : BitVec 32 := 1#32
  ⟨c0_i32_68, v250, c1_i32_70⟩
def k0_mult3 (k0_t2 : Fin k0_t2_loop.trips) : BitVec 32 :=
  let c0_i32_68 : BitVec 32 := 0#32
  let c1_i32_70 : BitVec 32 := 1#32
  let arg12 : BitVec 32 := Scf.iv c0_i32_68 c1_i32_70 k0_t2
  let c512_i32 : BitVec 32 := 512#32
  let v251 : BitVec 32 := Scalar.muli arg12 c512_i32
  v251
def k0_off9 (k0_t2 : Fin k0_t2_loop.trips) : Fin 2 → Nat :=
  let c0_i32_68 : BitVec 32 := 0#32
  let c1_i32_70 : BitVec 32 := 1#32
  let arg12 : BitVec 32 := Scf.iv c0_i32_68 c1_i32_70 k0_t2
  let c512_i32 : BitVec 32 := 512#32
  let v251 : BitVec 32 := Scalar.muli arg12 c512_i32
  let v252 : BitVec 32 := v251
  let v253 : Index := Scalar.indexCast v252
  let c0_72 : Index := 0#32
  ![v253.toNat, 0]
def k0_off10 (k0_t2 : Fin k0_t2_loop.trips) : Fin 2 → Nat :=
  let c0_i32_68 : BitVec 32 := 0#32
  let c1_i32_70 : BitVec 32 := 1#32
  let arg12 : BitVec 32 := Scf.iv c0_i32_68 c1_i32_70 k0_t2
  let c512_i32 : BitVec 32 := 512#32
  let v251 : BitVec 32 := Scalar.muli arg12 c512_i32
  let v252 : BitVec 32 := v251
  let v289 : Index := Scalar.indexCast v252
  let c128_84 : Index := 128#32
  ![v289.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![v0.toNat, arg1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .smem S2x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel11.lean ====
abbrev S2x2048x4096 : Shape := ⟨3, ![2, 2048, 4096]⟩
abbrev S2x2048x1024 : Shape := ⟨3, ![2, 2048, 1024]⟩
abbrev S4096x4096 : Shape := ⟨2, ![4096, 4096]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S4096x4096, .f32⟩
  | .hbm, ⟨3, _⟩ => ⟨S4096x4096, .bf16⟩
  | .hbm, ⟨4, _⟩ => ⟨S4096x1024, .f32⟩
  | .hbm, ⟨5, _⟩ => ⟨S4096x1024, .bf16⟩
  | .hbm, ⟨6, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2x2048x4096 : Shape := ⟨3, ![2, 2048, 4096]⟩
abbrev S2x2048x1024 : Shape := ⟨3, ![2, 2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 8
  | .vmem => 0
  | .smem => 0
  | _ => 0

abbrev bufTy : (tb : Table) → Fin (tcTables nBuf tb) → BufTy
  | .hbm, ⟨0, _⟩ => ⟨S2x2048x4096, .f32⟩
  | .hbm, ⟨1, _⟩ => ⟨S2x2048x1024, .f32⟩
  | .hbm, ⟨2, _⟩ => ⟨S_, .f32⟩
  | .hbm, ⟨3, _⟩ => ⟨S4096x1024, .f32⟩
  | .hbm, ⟨4, _⟩ => ⟨S2x2048x1024, .f32⟩
  | .hbm, ⟨5, _⟩ => ⟨S1024x4096, .f32⟩
  | .hbm, ⟨6, _⟩ => ⟨S4096x1024, .f32⟩
  | .hbm, ⟨7, _⟩ => ⟨S4096x1024, .bf16⟩
  | _, _ => ⟨S2x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4x1024x1024 : Shape := ⟨3, ![4, 1024, 1024]⟩
abbrev S4x512x1024 : Shape := ⟨3, ![4, 512, 1024]⟩
abbrev S4x2x512x1024 : Shape := ⟨4, ![4, 2, 512, 1024]⟩
abbrev S1x1x512x1024 : Shape := ⟨4, ![1, 1, 512, 1024]⟩
abbrev S1x512x1024 : Shape := ⟨3, ![1, 512, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S4x1024x1024, .bf16⟩
  | .hbm, ⟨3, _⟩ => ⟨S4x512x1024, .bf16⟩
  | .hbm, ⟨4, _⟩ => ⟨S4x2x512x1024, .bf16⟩
  | .hbm, ⟨5, _⟩ => ⟨S4x512x1024, .bf16⟩
  | .local _ .vmem, ⟨0, _⟩ => ⟨S1x1x512x1024, .bf16⟩
  | .local _ .vmem, ⟨1, _⟩ => ⟨S1x1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4x1024x1024 : Shape := ⟨3, ![4, 1024, 1024]⟩
abbrev S4x512x1024 : Shape := ⟨3, ![4, 512, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .bf16⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S4x512x1024 : Shape := ⟨3, ![4, 512, 1024]⟩
abbrev S3x512x1024 : Shape := ⟨3, ![3, 512, 1024]⟩
abbrev S512x1024 : Shape := ⟨2, ![512, 1024]⟩
abbrev S1x256x1024 : Shape := ⟨3, ![1, 256, 1024]⟩
abbrev S3x256x1024 : Shape := ⟨3, ![3, 256, 1024]⟩
abbrev S256x1024 : Shape := ⟨2, ![256, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x512x1024, .f32⟩
  | .hbm, ⟨1, _⟩ => ⟨S3x512x1024, .f32⟩
  | .hbm, ⟨2, _⟩ => ⟨S4x512x1024, .bf16⟩
  | .hbm, ⟨3, _⟩ => ⟨S3x512x1024, .bf16⟩
  | .hbm, ⟨4, _⟩ => ⟨S512x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S3x256x1024, .bf16⟩
  | .local _ .vmem, ⟨3, _⟩ => ⟨S3x256x1024, .bf16⟩
  | .local _ .vmem, ⟨4, _⟩ => ⟨S256x1024, .f32⟩
  | .local _ .vmem, ⟨5, _⟩ => ⟨S256x1024, .f32⟩
  | _, _ => ⟨S4x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4x512x1024 : Shape := ⟨3, ![4, 512, 1024]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4x512x1024, .f32⟩
  | .hbm, ⟨1, _⟩ => ⟨S3x512x1024, .f32⟩
  | .hbm, ⟨2, _⟩ => ⟨S1x512x1024, .f32⟩
  | .hbm, ⟨3, _⟩ => ⟨S512x1024, .f32⟩
  | .hbm, ⟨4, _⟩ => ⟨S_, .f32⟩
  | .hbm, ⟨5, _⟩ => ⟨S512x1024, .f32⟩
  | .hbm, ⟨6, _⟩ => ⟨S512x1024, .f32⟩
  | _, _ => ⟨S4x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Scal.lean ====
/- Scalar facts: the log sigmoid and its derivative, in the kernel's form and in the reference's stable form. -/
module

public import Idealize.ShloMosaic.PureOps.Ideal
public import Idealize.ShloMosaic.Lib.Pointwise

@[expose] public section

noncomputable section

namespace Cert.Proof.Scal

open Idealize.ShloMosaic

/-- The kernel's log sigmoid of one number. -/
def lgK (d : EReal) : EReal := min d 0 - Ideal.log (1 + Ideal.exp (0 - max d (-d)))
/-- The kernel's derivative of it. -/
def sgK (d : EReal) : EReal := Ideal.div 1 (1 + Ideal.exp d)
/-- The reference's softplus. -/
def sp (x : EReal) : EReal := max x 0 + Ideal.log1p (Ideal.exp (-max x (-x)))

theorem exp_coe (r : ℝ) : Ideal.exp (r : EReal) = (Real.exp r : EReal) := rfl
theorem log_coe {r : ℝ} (h : 0 < r) : Ideal.log (r : EReal) = (Real.log r : EReal) := by
  show (if r ≤ 0 then (⊥ : EReal) else (Real.log r : EReal)) = _
  rw [if_neg (not_le.2 h)]
theorem div_coe (a b : ℝ) (h : b ≠ 0) : Ideal.div (a : EReal) (b : EReal) = ((a / b : ℝ) : EReal) := by
  unfold Ideal.div
  rw [if_neg (by exact_mod_cast h), div_eq_mul_inv, EReal.coe_mul, EReal.coe_inv]

theorem exp_bot : Ideal.exp ⊥ = 0 := rfl
theorem exp_top : Ideal.exp ⊤ = ⊤ := rfl
theorem exp_zero : Ideal.exp 0 = 1 := by
  have := exp_coe 0
  simpa using this
theorem one_add_top : (1 : EReal) + ⊤ = ⊤ := EReal.coe_add_top 1
theorem log_one : Ideal.log 1 = 0 := by
  have := log_coe (r := 1) one_pos
  simpa using this

/-- The softplus of a real number. -/
theorem sp_coe (r : ℝ) : sp (r : EReal) = (Real.log (1 + Real.exp r) : ℝ) := by
  have hp : (0 : ℝ) < 1 + Real.exp (-max r (-r)) := by positivity
  have e : sp (r : EReal) = ((max r 0 + Real.log (1 + Real.exp (-max r (-r))) : ℝ) : EReal) := by
    unfold sp Ideal.log1p
    rw [← EReal.coe_neg, ← EReal.coe_zero, ← EReal.coe_one, ← EReal.coe_strictMono.monotone.map_max, ← EReal.coe_strictMono.monotone.map_max,
      ← EReal.coe_neg, exp_coe, ← EReal.coe_add, log_coe hp, ← EReal.coe_add]
  rw [e]
  congr 1
  rcases le_total 0 r with h | h
  · rw [max_eq_left h, max_eq_left (by linarith)]
    have : 1 + Real.exp r = Real.exp r * (1 + Real.exp (-r)) := by
      rw [mul_add, ← Real.exp_add]; simp [add_comm]
    rw [this, Real.log_mul (Real.exp_pos r).ne' (by positivity), Real.log_exp]
  · rw [max_eq_right h, max_eq_right (by linarith), neg_neg, zero_add]

theorem lg_eq (d : EReal) : -sp (-d) = lgK d := by
  induction d with
  | bot => simp [sp, lgK, Ideal.log1p, exp_bot, exp_top, log_one]
  | top => simp [sp, lgK, Ideal.log1p, exp_bot, exp_top, log_one]
  | coe r =>
    rw [← EReal.coe_neg, sp_coe]
    have hp : (0 : ℝ) < 1 + Real.exp (0 - max r (-r)) := by positivity
    unfold lgK
    rw [← EReal.coe_neg, ← EReal.coe_neg, ← EReal.coe_zero, ← EReal.coe_one, ← EReal.coe_strictMono.monotone.map_min,
      ← EReal.coe_strictMono.monotone.map_max, ← EReal.coe_sub, exp_coe, ← EReal.coe_add, log_coe hp, ← EReal.coe_sub]
    congr 1
    rcases le_total 0 r with h | h
    · rw [max_eq_left (by linarith), min_eq_right h]; ring_nf
    · rw [max_eq_right (by linarith), min_eq_left h]
      have : 1 + Real.exp (-r) = Real.exp (-r) * (1 + Real.exp (0 - -r)) := by
        rw [mul_add, ← Real.exp_add]; simp [add_comm]
      rw [this, Real.log_mul (Real.exp_pos _).ne' (by positivity), Real.log_exp]; ring

theorem sg_eq (d : EReal) : -(-1 * Ideal.exp ((if -d = ⊤ then 0 else -d) - (if sp (-d) = ⊤ then 0 else sp (-d)))) = sgK d := by
  induction d with
  | bot => simp [sp, sgK, Ideal.log1p, exp_bot, exp_top, exp_zero, log_one, Ideal.div]
  | top => simp [sp, sgK, one_add_top, Ideal.log1p, exp_bot, exp_top, log_one, Ideal.div]
  | coe r =>
    rw [← EReal.coe_neg, sp_coe, if_neg (EReal.coe_ne_top _), if_neg (EReal.coe_ne_top _), ← EReal.coe_sub, exp_coe]
    unfold sgK
    rw [exp_coe, ← EReal.coe_one, ← EReal.coe_add, div_coe _ _ (by positivity), ← EReal.coe_neg, ← EReal.coe_mul, ← EReal.coe_neg]
    congr 1
    have hp : (0 : ℝ) < 1 + Real.exp (-r) := by positivity
    rw [Real.exp_sub, Real.exp_log hp, Real.exp_neg]
    have := Real.exp_pos r
    field_simp
    ring

end Cert.Proof.Scal

end
-- ==== Proof.Decay.lean ====
/- The decay kernel: log sigmoid and its derivative, element by element, against the reference's stable forms. -/
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Scal
public import Idealize.ShloMosaic.Lib.Pipeline.ValueKit
public import Idealize.ShloMosaic.Lib.Pointwise
public import Idealize.ShloMosaic.Lib.Routing.OpsPair
public import Idealize.ShloMosaic.Lib.Routing.OpsSet

@[expose] public section

set_option maxRecDepth 16384

noncomputable section

namespace Cert.Proof.Decay

open Idealize.ShloMosaic Idealize.ShloMosaic.TcCoe Idealize.SL.Sem

/-- The table of decays: two rows of four, the rest zero. -/
def table (x0 x1 : (⟨2, ![1, 4]⟩ : Shape).Idx → EReal) (i : (⟨2, ![8, 128]⟩ : Shape).Idx) : EReal :=
  if h : (i 1).val < 4 then (if (i 0).val = 0 then x0 (ix2 0 ⟨(i 1).val, h⟩) else if (i 0).val = 1 then x1 (ix2 0 ⟨(i 1).val, h⟩) else 0) else 0

open Cert.KernelIdeal Cert.KernelIdeal.Gen Cert.Proof.Scal

/-- Where update `k` of a row of four lands. -/
theorem lands (r : Fin 2) (k : Fin 4) : scatter_S8x128_S2_S4_0_0_01_0.resultIdx? (ix1 k) (fun j : S2.Idx => if (j 0).val = 0 then BitVec.ofNat 32 r.val else 0#32) = some (ix2 ⟨r.val, by omega⟩ ⟨k.val, by omega⟩) := by
  revert r k
  decide +kernel

/-- A row of four written into the table, read at an index. -/
theorem scatter_row (r : Fin 2) (x : S8x128.Idx → EReal) (u : S4.Idx → EReal) (i : S8x128.Idx) :
    Host.scatter scatter_S8x128_S2_S4_0_0_01_0 (fun _ b => b) x (fun j : S2.Idx => if (j 0).val = 0 then BitVec.ofNat 32 r.val else 0#32) u i
      = if h : (i 1).val < 4 then (if (i 0).val = r.val then u (ix1 ⟨(i 1).val, h⟩) else x i) else x i := by
  by_cases h : (i 1).val < 4 ∧ (i 0).val = r.val
  · obtain ⟨h1, h0⟩ := h
    rw [dif_pos h1, if_pos h0]
    refine Routing.scatter_set_hit _ x _ u i _ (fun k hk => ?_) (ix1 ⟨(i 1).val, h1⟩) ?_
    · idx_vars k
      rw [lands r] at hk
      have := congrFun (Option.some.inj hk) 1
      refine congrArg u (congrArg ix1 ?_)
      have h2 : k0.val = (i 1).val := congrArg Fin.val this
      exact Fin.ext h2
    · rw [lands r]
      refine congrArg some (funext fun a => Fin.ext ?_)
      match a with
      | ⟨0, _⟩ => exact h0.symm
      | ⟨1, _⟩ => rfl
  · have e : (if h : (i 1).val < 4 then (if (i 0).val = r.val then u (ix1 ⟨(i 1).val, h⟩) else x i) else x i) = x i := by
      by_cases h1 : (i 1).val < 4
      · rw [dif_pos h1, if_neg fun h0 => h ⟨h1, h0⟩]
      · rw [dif_neg h1]
    rw [e]
    refine Routing.scatter_set_miss _ x _ u i fun k hk => h ?_
    idx_vars k
    rw [lands r] at hk
    have e1 := congrArg Fin.val (congrFun (Option.some.inj hk) 1)
    have e0 := congrArg Fin.val (congrFun (Option.some.inj hk) 0)
    exact ⟨e1 ▸ (k0 : Fin 4).isLt, e0.symm⟩

/-- The padded table of decays at an index, as the kernel's host lines lay it out. -/
theorem dec_apply (m : (ℓ : Loc nD τ sig) → Buf (Elt Ideal) ℓ) (c : Dev nD) (i : S8x128.Idx) :
    (V m c main_v10 : FVec Ideal S8x128 .f32) i = table (m ((c : Thread nD τ).loc main_arg0)) (m ((c : Thread nD τ).loc main_arg1)) i := by
  unfold Gen.V
  entry_read
  have e0 : concatenate S2 0 [⟨S1, broadcastInDim S1 ![] Gen.bcast_S_S1 (constantI S_ 32 0#32)⟩,
            ⟨S1, broadcastInDim S1 ![] Gen.bcast_S_S1 (constantI S_ 32 0#32)⟩] Gen.concatenates_S1_S1_S2_d0
      = fun j : S2.Idx => if (j 0).val = 0 then BitVec.ofNat 32 (0 : Fin 2).val else 0#32 := by
    funext j
    pointwise
    simp only [Nat.lt_one_iff, dite_eq_ite]

  have e1 : concatenate S2 0 [⟨S1, broadcastInDim S1 ![] Gen.bcast_S_S1 (constantI S_ 32 1#32)⟩,
            ⟨S1, broadcastInDim S1 ![] Gen.bcast_S_S1 (constantI S_ 32 0#32)⟩] Gen.concatenates_S1_S1_S2_d0
      = fun j : S2.Idx => if (j 0).val = 0 then BitVec.ofNat 32 (1 : Fin 2).val else 0#32 := by
    funext j
    pointwise
    simp only [Nat.lt_one_iff, dite_eq_ite]

  rw [e0, e1, scatter_row, scatter_row]
  unfold table
  pointwise
  by_cases h1 : (i 1).val < 4 <;> simp only [h1, ↓reduceDIte]
  by_cases h0 : (i 0).val = 0
  · simp [h0]
  · simp [h0]

/-- Every window stages its whole array. -/
theorem idx : ∀ t : Fin cfg0.N, win0_0.index t = ![0, 0] ∧ win0_1.index t = ![0, 0] ∧ win0_2.index t = ![0, 0] :=
  (by decide +kernel : ∀ t : Fin grid0.N, _)

/-- The log sigmoids the kernel leaves. -/
theorem lg_arr (m : (ℓ : Loc nD τ sig) → Buf (Elt Ideal) ℓ) (c : Dev nD) :
    (Gen.dats m 0 c).arrAt 1 cfg0.N = fun i => lgK ((V m c main_v10 : FVec Ideal S8x128 .f32) i) := by
  refine (Gen.dats m 0 c).arrAt_eq_of_covers 1 _ (by decide +kernel) fun t hf y => ?_
  blk_simp
  rw [Gen.after0_1]
  frame_out
  unfold_payloads
  have e : iblk m c 0 t y = (V m c main_v10 : FVec Ideal S8x128 .f32) (((View.whole main_v11_0).slice (win0_1.rect t)).emb y) := by
    blk_ext [iblk, idx t]
  pointwise [lgK]
  rw [e]; rfl

/-- The derivatives the kernel leaves. -/
theorem sg_arr (m : (ℓ : Loc nD τ sig) → Buf (Elt Ideal) ℓ) (c : Dev nD) :
    (Gen.dats m 0 c).arrAt 2 cfg0.N = fun i => sgK ((V m c main_v10 : FVec Ideal S8x128 .f32) i) := by
  refine (Gen.dats m 0 c).arrAt_eq_of_covers 2 _ (by decide +kernel) fun t hf y => ?_
  blk_simp
  rw [Gen.after0_2]
  frame_out
  unfold_payloads
  have e : iblk m c 0 t y = (V m c main_v10 : FVec Ideal S8x128 .f32) (((View.whole main_v11_1).slice (win0_2.rect t)).emb y) := by
    blk_ext [iblk, idx t]
  pointwise [sgK]
  rw [e]

theorem inf_bits : Ideal.ofBits FTy.f32 2139095040#32 = ⊤ := by
  simp [Ideal.ofBits, Ideal.ieee]

/-- The reference's table, negated. -/
theorem ref_neg (x0 x1 : (⟨2, ![1, 4]⟩ : Shape).Idx → EReal) (i : (⟨2, ![8, 128]⟩ : Shape).Idx) :
    Cert.ReferenceIdeal.Read.val_main_call1_v0 (F := Ideal) x0 x1 i = -table x0 x1 i := by
  have e : Cert.ReferenceIdeal.Read.val_main_v1 (F := Ideal) x0 x1 i = table x0 x1 i := by
    unfold Cert.ReferenceIdeal.Read.val_main_v1
    pointwise [Cert.ReferenceIdeal.Read.val_main_v0, Cert.ReferenceIdeal.Read.val_main_call0_v0, Cert.ReferenceIdeal.Read.val_main_c]
    have hz : FloatOps.sitofp (F := Ideal) FTy.f32 (0#32) = (0 : EReal) := by
      show ((((0#32 : BitVec 32).toInt : ℝ)) : EReal) = 0
      simp
    rw [hz]
    unfold table
    by_cases h1 : (i 1).val < 4
    · by_cases h0 : (i 0).val = 0
      · simp only [h1, h0]
        refine congrArg x0 (by congr 1)
      · by_cases h2 : (i 0).val = 1
        · simp [h1, h2]
        · simp [h1, h2, h0, show ¬ (i 0).val < 2 by omega]
    · simp [h1]
  pointwise [Cert.ReferenceIdeal.Read.val_main_call1_v0]
  rw [e]

open Cert.ReferenceIdeal in
theorem ref_lg (x0 x1 : (⟨2, ![1, 4]⟩ : Shape).Idx → EReal) (i : (⟨2, ![8, 128]⟩ : Shape).Idx) :
    Cert.ReferenceIdeal.Read.val_main_v2_0 (F := Ideal) x0 x1 i = lgK (table x0 x1 i) := by
  pointwise [Read.val_main_v0, Read.val_main_c, Read.val_main_call0_v0, Read.val_main_v1, Read.val_main_call1_call0_cst, Read.val_main_call1_call0_v0, Read.val_main_call1_call0_v1, Read.val_main_call1_call0_v2, Read.val_main_call1_call0_v3, Read.val_main_call1_call0_v4, Read.val_main_call1_call0_v5, Read.val_main_call1_call0_v6, Read.val_main_call1_call0_v7, Read.val_main_call1_call0_v8, Read.val_main_call1_call0_v9, Read.val_main_call1_call0_v10, Read.val_main_call1_call0_v11, Read.val_main_call1_v1_0, Read.val_main_call1_call0_cst_0, Read.val_main_call1_call0_v13, Read.val_main_call1_call0_v14, Read.val_main_call1_call0_cst_1, Read.val_main_call1_call0_v15, Read.val_main_call1_call0_v16, Read.val_main_call1_call0_cst_2, Read.val_main_call1_call0_v17, Read.val_main_call1_call0_v18, Read.val_main_call1_call0_cst_3, Read.val_main_call1_call0_v19, Read.val_main_call1_call0_v20, Read.val_main_call1_call0_v21, Read.val_main_v2_1, Read.val_main_call1_call0_cst_4, Read.val_main_call1_call0_cst_5, Read.val_main_call1_call0_v23, Read.val_main_call1_call0_cst_6, Read.val_main_call1_call0_cst_7, Read.val_main_call1_call0_v24, Read.val_main_call1_call0_cst_8, Read.val_main_call1_call0_v25, Read.val_main_call1_call0_v26, Read.val_main_call1_call0_cst_9, Read.val_main_call1_call0_v27, Read.val_main_call1_call0_v28, Read.val_main_call1_call0_v29, Read.val_main_call1_call0_v30, Read.val_main_call1_call0_v31, Read.val_main_call1_call0_cst_10, Read.val_main_call1_call0_v32, Read.val_main_v2_2, Read.val_main_v2_0, Read.val_main_cst, Read.val_main_v3, Read.val_main_call2_v0, Read.val_main_call2_v1, Read.val_main_v4]
  rw [ref_neg, if_neg (by simp)]
  exact lg_eq _

open Cert.ReferenceIdeal in
theorem ref_sg (x0 x1 : (⟨2, ![1, 4]⟩ : Shape).Idx → EReal) (i : (⟨2, ![8, 128]⟩ : Shape).Idx) :
    Cert.ReferenceIdeal.Read.val_main_v4 (F := Ideal) x0 x1 i = sgK (table x0 x1 i) := by
  pointwise [Read.val_main_v0, Read.val_main_c, Read.val_main_call0_v0, Read.val_main_v1, Read.val_main_call1_call0_cst, Read.val_main_call1_call0_v0, Read.val_main_call1_call0_v1, Read.val_main_call1_call0_v2, Read.val_main_call1_call0_v3, Read.val_main_call1_call0_v4, Read.val_main_call1_call0_v5, Read.val_main_call1_call0_v6, Read.val_main_call1_call0_v7, Read.val_main_call1_call0_v8, Read.val_main_call1_call0_v9, Read.val_main_call1_call0_v10, Read.val_main_call1_call0_v11, Read.val_main_call1_v1_0, Read.val_main_call1_call0_cst_0, Read.val_main_call1_call0_v13, Read.val_main_call1_call0_v14, Read.val_main_call1_call0_cst_1, Read.val_main_call1_call0_v15, Read.val_main_call1_call0_v16, Read.val_main_call1_call0_cst_2, Read.val_main_call1_call0_v17, Read.val_main_call1_call0_v18, Read.val_main_call1_call0_cst_3, Read.val_main_call1_call0_v19, Read.val_main_call1_call0_v20, Read.val_main_call1_call0_v21, Read.val_main_v2_1, Read.val_main_call1_call0_cst_4, Read.val_main_call1_call0_cst_5, Read.val_main_call1_call0_v23, Read.val_main_call1_call0_cst_6, Read.val_main_call1_call0_cst_7, Read.val_main_call1_call0_v24, Read.val_main_call1_call0_cst_8, Read.val_main_call1_call0_v25, Read.val_main_call1_call0_v26, Read.val_main_call1_call0_cst_9, Read.val_main_call1_call0_v27, Read.val_main_call1_call0_v28, Read.val_main_call1_call0_v29, Read.val_main_call1_call0_v30, Read.val_main_call1_call0_v31, Read.val_main_call1_call0_cst_10, Read.val_main_call1_call0_v32, Read.val_main_v2_2, Read.val_main_v2_0, Read.val_main_cst, Read.val_main_v3, Read.val_main_call2_v0, Read.val_main_call2_v1, Read.val_main_v4]
  rw [ref_neg]
  have e : FloatOps.absf (F := Ideal) (φ := .f32) (-table x0 x1 i) = max (-table x0 x1 i) (- -table x0 x1 i) := rfl
  rw [e, inf_bits]
  simp only [ne_eq, not_true_eq_false, if_false]
  exact sg_eq _

end Cert.Proof.Decay

end
-- ==== Proof.DecayClaim.lean ====
/- The decay claim: the kernel's two arrays are the reference's. -/
module

public import proofs.«01_k».proof.Proof.Decay
public import Idealize.ShloMosaic.Adequacy
public import Idealize.ShloMosaic.Init

@[expose] public section

noncomputable section

namespace Cert.Proof.Decay

open Idealize.ShloMosaic Idealize.ShloMosaic.TcCoe Idealize.SL.Sem

/-- The reference's frame: a program of host operations declares no semaphore. -/
theorem ref_frame : Cert.quiescent_ReferenceIdeal (hReferenceIdeal := Cert.ReferenceIdeal.Gen.facts) := fun m g _ =>
  (θ_run _ _ _).mono (fun r h => ⟨fun c => (h c).2.2, sem_eq_zero_of_no_sems rfl r.2⟩) (Cert.ReferenceIdeal.Value.run (F := Ideal) m g)

/-- The decay claim. -/
theorem algebraic : Cert.algebraic_KernelIdeal_ReferenceIdeal (hKernelIdeal := Cert.KernelIdeal.Gen.facts) (hReferenceIdeal := Cert.ReferenceIdeal.Gen.facts) := by
  intro m g m' g' _ hagree
  refine ⟨_, _, (θ_run _ _ _).mono (fun r h c => h c) (Cert.KernelIdeal.Value.run_blocks (F := Ideal) m g), ?_⟩
  refine (θ_run _ _ _).mono (fun r h c => ?_) (Cert.ReferenceIdeal.Value.run (F := Ideal) m' g')
  obtain ⟨h0, h1, h2, h3⟩ := h c
  obtain ⟨ha, hb⟩ := hagree c
  refine ⟨h0.trans ?_, h1.trans ?_, h2, h3⟩
  · rw [Cert.ReferenceIdeal.Read.val_main_v2_0_eq, ha, hb, lg_arr]
    funext i
    exact (ref_lg _ _ i).trans (congrArg _ (dec_apply m c i).symm)
  · rw [Cert.ReferenceIdeal.Read.val_main_v4_eq, ha, hb, sg_arr]
    funext i
    exact (ref_sg _ _ i).trans (congrArg _ (dec_apply m c i).symm)

end Cert.Proof.Decay

end
-- ==== Proof.Attn.lean ====
/- The softmax attention of one query row over real numbers, and its gradient, in the forms the two programs compute. -/
module

public import Mathlib.Analysis.SpecialFunctions.Log.Basic
public import Mathlib.Algebra.BigOperators.Ring.Finset
public import Mathlib.Algebra.BigOperators.Field
public import Mathlib.Data.EReal.Operations

@[expose] public section

noncomputable section

namespace Cert.Proof.Attn

variable {ι κ : Type} [Fintype ι] [Nonempty ι] [Fintype κ]

/-- The softmax of a row of scores. -/
def soft (s : ι → ℝ) (k : ι) : ℝ := Real.exp (s k) / ∑ j, Real.exp (s j)

/-- The sum of the shifted exponentials of a row. -/
def tot (s : ι → ℝ) (m : ℝ) : ℝ := ∑ j, Real.exp (s j - m)

/-- The gradient of the softmax's argument, for the gradient `d` of the softmax. -/
def dsoft (s d : ι → ℝ) (k : ι) : ℝ := soft s k * (d k - ∑ j, soft s j * d j)

theorem tot_pos (s : ι → ℝ) (m : ℝ) : 0 < tot s m :=
  Finset.sum_pos (fun _ _ => Real.exp_pos _) Finset.univ_nonempty

theorem soft_shift (s : ι → ℝ) (m : ℝ) (k : ι) : Real.exp (s k - m) / tot s m = soft s k := by
  have h : tot s m = (∑ j, Real.exp (s j)) / Real.exp m := by
    unfold tot; rw [Finset.sum_div]; exact Finset.sum_congr rfl fun j _ => Real.exp_sub _ _
  have hp : 0 < ∑ j, Real.exp (s j) := Finset.sum_pos (fun _ _ => Real.exp_pos _) Finset.univ_nonempty
  unfold soft
  rw [h, Real.exp_sub]
  have := Real.exp_pos m
  field_simp

/-- The softmax from a saved row log-sum. -/
theorem soft_lse (s : ι → ℝ) (m : ℝ) (k : ι) : Real.exp (s k - (m + Real.log (tot s m))) = soft s k := by
  rw [← soft_shift s m k, show s k - (m + Real.log (tot s m)) = (s k - m) - Real.log (tot s m) by ring, Real.exp_sub,
    Real.exp_log (tot_pos s m)]

/-- The gradient in the form the derivative of the division gives. -/
theorem dsoft_ref (s d : ι → ℝ) (m : ℝ) (k : ι) :
    (d k / tot s m + -∑ j, (d j * (1 / (tot s m * tot s m))) * Real.exp (s j - m)) * Real.exp (s k - m) = dsoft s d k := by
  have hp := tot_pos s m
  unfold dsoft
  rw [← soft_shift s m k]
  have e : ∑ j, (d j * (1 / (tot s m * tot s m))) * Real.exp (s j - m) = (∑ j, soft s j * d j) / tot s m := by
    rw [Finset.sum_div]
    refine Finset.sum_congr rfl fun j _ => ?_
    rw [← soft_shift s m j]
    field_simp
  rw [e]
  field_simp
  ring

/-- The row sum of the softmax times its gradient, from the saved output row. -/
theorem delta_eq (s : ι → ℝ) (m : ℝ) (v : ι → κ → ℝ) (g : κ → ℝ) :
    ∑ e, g e * ((∑ k, Real.exp (s k - m) * v k e) * (1 / tot s m)) = ∑ k, soft s k * ∑ e, g e * v k e := by
  simp only [← soft_shift s m, Finset.mul_sum, Finset.sum_mul]
  rw [Finset.sum_comm]
  refine Finset.sum_congr rfl fun k _ => Finset.sum_congr rfl fun e _ => ?_
  ring

/-- A finite sum of real numbers, as an extended real. -/
theorem coe_sum {n : ℕ} (f : Fin n → ℝ) : ((∑ k, f k : ℝ) : EReal) = ∑ k, (f k : EReal) := by
  induction n with
  | zero => simp
  | succ n ih => rw [Fin.sum_univ_succ, Fin.sum_univ_succ, EReal.coe_add, ih]

end Cert.Proof.Attn

end
-- ==== Proof.MlaReal.lean ====
/- The attention gradient over real numbers, index by index: what the kernel and the reference both compute from finite arguments. -/
module

public import proofs.«01_k».proof.Proof.Attn
public import Idealize.ShloMosaic.Lib.Pointwise

@[expose] public section

noncomputable section

namespace Cert.Proof.MlaReal

open Idealize.ShloMosaic

/-- A rank-four array of real numbers. -/
abbrev A4 (a b c d : ℕ) := (⟨4, ![a, b, c, d]⟩ : Shape).Idx → ℝ
/-- The gradient of the mixed rows. -/
abbrev D3 := (⟨3, ![2, 2048, 1024]⟩ : Shape).Idx → ℝ

/-- The key rows of one example, the context rows first. -/
def K (ak : A4 2 2048 4 192) (akc : A4 2 256 4 192) (b : Fin 2) (k : Fin 2304) (h : Fin 4) (d : Fin 192) : ℝ :=
  if hk : k.val < 256 then akc (ix4 b ⟨k.val, hk⟩ h d) else ak (ix4 b ⟨k.val - 256, by omega⟩ h d)

/-- The value rows of one example, the context rows first. -/
def V (av : A4 2 2048 4 128) (avc : A4 2 256 4 128) (b : Fin 2) (k : Fin 2304) (h : Fin 4) (e : Fin 128) : ℝ :=
  if hk : k.val < 256 then avc (ix4 b ⟨k.val, hk⟩ h e) else av (ix4 b ⟨k.val - 256, by omega⟩ h e)

/-- The column of the mixed rows' gradient that holds entry `e` of head `h`. -/
abbrev dcol (h : Fin 4) (e : Fin 128) : Fin 1024 := ⟨512 + (h.val * 128 + e.val), by omega⟩

/-- The gradient of one element of the attention's output. -/
def G (ad : D3) (b : Fin 2) (i : Fin 2048) (h : Fin 4) (e : Fin 128) : ℝ := ad (ix3 b i (dcol h e))

/-- The scaled scores. -/
def sc (s : ℝ) (aq : A4 2 2048 4 192) (ak : A4 2 2048 4 192) (akc : A4 2 256 4 192) (b : Fin 2) (h : Fin 4) (i : Fin 2048) (k : Fin 2304) : ℝ :=
  (∑ d : Fin 192, aq (ix4 b i h d) * K ak akc b k h d) * s

/-- The gradient of the softmax's value. -/
def dP (av : A4 2 2048 4 128) (avc : A4 2 256 4 128) (ad : D3) (b : Fin 2) (h : Fin 4) (i : Fin 2048) (k : Fin 2304) : ℝ :=
  ∑ e : Fin 128, G ad b i h e * V av avc b k h e

variable (s : ℝ) (aq ak : A4 2 2048 4 192) (akc : A4 2 256 4 192) (av : A4 2 2048 4 128) (avc : A4 2 256 4 128) (ad : D3)

/-- The softmax. -/
def P (b : Fin 2) (h : Fin 4) (i : Fin 2048) (k : Fin 2304) : ℝ := Attn.soft (sc s aq ak akc b h i) k

/-- The gradient of the scores. -/
def DS (b : Fin 2) (h : Fin 4) (i : Fin 2048) (k : Fin 2304) : ℝ := Attn.dsoft (sc s aq ak akc b h i) (dP av avc ad b h i) k

/-- The gradient of the scaled query. -/
def DQ (b : Fin 2) (i : Fin 2048) (h : Fin 4) (d : Fin 192) : ℝ := ∑ k : Fin 2304, DS s aq ak akc av avc ad b h i k * K ak akc b k h d

/-- The gradient of a key. -/
def DK (b : Fin 2) (k : Fin 2304) (h : Fin 4) (d : Fin 192) : ℝ := ∑ i : Fin 2048, DS s aq ak akc av avc ad b h i k * (aq (ix4 b i h d) * s)

/-- The gradient of a value. -/
def DV (b : Fin 2) (k : Fin 2304) (h : Fin 4) (e : Fin 128) : ℝ := ∑ i : Fin 2048, P s aq ak akc b h i k * G ad b i h e

/-- The gradient of the scaled query, its rows packed and its head padded. -/
def outDQ (r : Fin 4096) (c : Fin 1024) : ℝ :=
  if hd : c.val % 256 < 192 then DQ s aq ak akc av avc ad ⟨r.val / 2048, by omega⟩ ⟨r.val % 2048, by omega⟩ ⟨c.val / 256, by omega⟩ ⟨c.val % 256, hd⟩ else 0

/-- The gradient of the latent keys, packed and padded. -/
def outDK (r : Fin 4096) (c : Fin 1024) : ℝ :=
  if hd : c.val % 256 < 192 then DK s aq ak akc av avc ad ⟨r.val / 2048, by omega⟩ ⟨256 + r.val % 2048, by omega⟩ ⟨c.val / 256, by omega⟩ ⟨c.val % 256, hd⟩ else 0

/-- The gradient of the context keys, packed and padded. -/
def outDKC (r : Fin 512) (c : Fin 1024) : ℝ :=
  if hd : c.val % 256 < 192 then DK s aq ak akc av avc ad ⟨r.val / 256, by omega⟩ ⟨r.val % 256, by omega⟩ ⟨c.val / 256, by omega⟩ ⟨c.val % 256, hd⟩ else 0

/-- The gradient of the latent values, packed. -/
def outDV (r : Fin 4096) (c : Fin 512) : ℝ :=
  DV s aq ak akc ad ⟨r.val / 2048, by omega⟩ ⟨256 + r.val % 2048, by omega⟩ ⟨c.val / 128, by omega⟩ ⟨c.val % 128, by omega⟩

/-- The gradient of the context values, packed. -/
def outDVC (r : Fin 512) (c : Fin 512) : ℝ :=
  DV s aq ak akc ad ⟨r.val / 256, by omega⟩ ⟨r.val % 256, by omega⟩ ⟨c.val / 128, by omega⟩ ⟨c.val % 128, by omega⟩

/-- An array of real numbers, as extended reals. -/
def co {S : Shape} (a : S.Idx → ℝ) : S.Idx → EReal := fun i => (a i : EReal)

/-- The number both programs scale the scores by: the value of their common literal. -/
def lit : ℝ := (Ideal.ofBits .f32 0x3D93CD3A#32).toReal

theorem lit_val : Ideal.ofBits .f32 0x3D93CD3A#32 = ((9686330 / 134217728 : ℝ) : EReal) := by
  simp [Ideal.ofBits, Ideal.ieee, -EReal.coe_mul]; norm_num

theorem lit_eq : Ideal.ofBits .f32 0x3D93CD3A#32 = (lit : EReal) := by
  unfold lit; rw [lit_val, EReal.toReal_coe]

theorem lit_ne : lit ≠ 0 := by
  unfold lit; rw [lit_val, EReal.toReal_coe]; norm_num

theorem bot_lit : Ideal.ofBits .f32 0xFF800000#32 = ⊥ := by simp [Ideal.ofBits, Ideal.ieee]

/-- A maximum of finitely many real numbers, at least one, is a real number. -/
theorem fold_max_real {n : ℕ} (f : Fin (n + 1) → ℝ) {a : EReal} (ha : a = ⊥) :
    ∃ r : ℝ, Finset.univ.fold max a (fun k => (f k : EReal)) = (r : EReal) := by
  subst ha
  induction n with
  | zero => exact ⟨f 0, by simp⟩
  | succ n ih =>
    obtain ⟨r, hr⟩ := ih (fun k => f k.succ)
    refine ⟨max (f 0) r, ?_⟩
    rw [Fin.univ_succ, Finset.fold_cons, Finset.fold_map]
    simp only [Function.comp_def, Function.Embedding.coeFn_mk]
    erw [hr]
    exact (EReal.coe_strictMono.monotone.map_max).symm

theorem fold_max_pos {n : ℕ} (hn : 0 < n) (f : Fin n → ℝ) {a : EReal} (ha : a = ⊥) :
    ∃ r : ℝ, Finset.univ.fold max a (fun k => (f k : EReal)) = (r : EReal) := by
  obtain _ | n := n
  · omega
  · exact fold_max_real f ha

/-- A host maximum over one axis of an array of real numbers is a real number. -/
theorem reduce_max_real {s t u : Shape} {a : Fin s.rank} (x : s.Idx → EReal) (hx : ∀ j, ∃ r : ℝ, x j = (r : EReal)) (init : u.Idx → EReal)
    (hi : ∀ k, init k = ⊥) (h' : s.ReducesTo [a] t) (ht : 0 < t.rank) (hu : 0 < u.numel) (ha : 0 < s.size a) (j : t.Idx) :
    ∃ r : ℝ, Host.reduce (max : EReal → EReal → EReal) x init h' hu j = (r : EReal) := by
  have h : s.Reduces [a] t := ⟨h'.1, ht, h'.2⟩
  rw [Host.reduce_eq_fold_single max x init h' h hu j]
  choose f hf using hx
  obtain rfl : x = fun j => (f j : EReal) := funext hf
  generalize h.lift j = l
  exact fold_max_pos ha (fun k => f (l k)) (hi _)

theorem reduce_max_float {s t u : Shape} {a : Fin s.rank} (x : FVec Ideal s .f32) (hx : ∀ j, ∃ r : ℝ, @Eq EReal (x j) (r : EReal)) (init : FVec Ideal u .f32)
    (hi : ∀ k, @Eq EReal (init k) ⊥) (h' : s.ReducesTo [a] t) (ht : 0 < t.rank) (hu : 0 < u.numel) (ha : 0 < s.size a) (j : t.Idx) :
    ∃ r : ℝ, @Eq EReal (Host.reduce (FloatOps.maximumf (F := Ideal) (φ := .f32)) x init h' hu j) (r : EReal) :=
  reduce_max_real x hx init hi h' ht hu ha j

end Cert.Proof.MlaReal

end
-- ==== Proof.Keys.lean ====
/- The attention's keys, latent and context, and how heads are packed and padded. -/
module

public import proofs.«01_k».proof.Proof.MlaReal

@[expose] public section

noncomputable section

open Idealize.ShloMosaic

namespace Cert.Proof.Keys

open MlaReal

/-- A latent key among all keys of its example, and a context key. -/
def kl (j : Fin 2048) : Fin 2304 := ⟨256 + j.val, by omega⟩
def kc (j : Fin 256) : Fin 2304 := ⟨j.val, by omega⟩

theorem sum_keys {M : Type} [AddCommMonoid M] (f : Fin 2304 → M) : ∑ k, f k = ∑ j, f (kl j) + ∑ j, f (kc j) := by
  rw [show (∑ k, f k) = ∑ k : Fin (256 + 2048), f k from rfl, Fin.sum_univ_add, add_comm]
  rfl

variable (ak : A4 2 2048 4 192) (akc : A4 2 256 4 192) (av : A4 2 2048 4 128) (avc : A4 2 256 4 128)

theorem K_kl (b j h d) : K ak akc b (kl j) h d = ak (ix4 b j h d) := by
  unfold K kl
  rw [dif_neg (by simp)]
  congr 2
  exact Fin.ext (by simp)

theorem K_kc (b j h d) : K ak akc b (kc j) h d = akc (ix4 b j h d) := by
  unfold K kc
  rw [dif_pos j.isLt]

theorem V_kl (b j h d) : MlaReal.V av avc b (kl j) h d = av (ix4 b j h d) := by
  unfold MlaReal.V kl
  rw [dif_neg (by simp)]
  congr 2
  exact Fin.ext (by simp)

theorem V_kc (b j h d) : MlaReal.V av avc b (kc j) h d = avc (ix4 b j h d) := by
  unfold MlaReal.V kc
  rw [dif_pos j.isLt]

theorem pad0 : Scalar.sitofp (F := Ideal) .f32 0#32 = (0 : EReal) := by
  show ((((0#32 : BitVec 32).toInt : ℝ)) : EReal) = 0
  simp

/-- A head's columns, padded with zeros from 192 to 256. -/
def padded (f : Fin 192 → ℝ) (x : Fin 256) : ℝ := if hx : x.val < 192 then f ⟨x.val, hx⟩ else 0

theorem padded_in (f : Fin 192 → ℝ) {x : Fin 256} (hx : x.val < 192) : padded f x = f ⟨x.val, hx⟩ := dif_pos hx

theorem padded_out (f : Fin 192 → ℝ) {x : Fin 256} (hx : ¬x.val < 192) : padded f x = 0 := dif_neg hx

theorem padded_mul (f : Fin 192 → ℝ) (s : ℝ) (x : Fin 256) : padded f x * s = padded (fun d => f d * s) x := by
  unfold padded
  split <;> simp

/-- A packed row, and a packed column of heads of width 256 or 128. -/
def prow (b : Fin 2) (i : Fin 2048) : Fin 4096 := ⟨b.val * 2048 + i.val, by omega⟩
def pc256 (h : Fin 4) (x : Fin 256) : Fin 1024 := ⟨h.val * 256 + x.val, by omega⟩
def pc128 (h : Fin 4) (x : Fin 128) : Fin 512 := ⟨h.val * 128 + x.val, by omega⟩

/-- Packed coordinates taken apart. -/
theorem row_div (b : Fin 2) (i : Fin 2048) (h) : (⟨(prow b i).val / 2048, h⟩ : Fin 2) = b := Fin.ext (by simp only [prow]; omega)
theorem row_mod (b : Fin 2) (i : Fin 2048) (h) : (⟨(prow b i).val % 2048, h⟩ : Fin 2048) = i := Fin.ext (by simp only [prow]; omega)
theorem c256_div (k : Fin 4) (x : Fin 256) (h) : (⟨(pc256 k x).val / 256, h⟩ : Fin 4) = k := Fin.ext (by simp only [pc256]; omega)
theorem c256_mod (k : Fin 4) (x : Fin 256) (h) : (⟨(pc256 k x).val % 256, h⟩ : Fin 256) = x := Fin.ext (by simp only [pc256]; omega)
theorem c128_div (k : Fin 4) (x : Fin 128) (h) : (⟨(pc128 k x).val / 128, h⟩ : Fin 4) = k := Fin.ext (by simp only [pc128]; omega)
theorem c128_mod (k : Fin 4) (x : Fin 128) (h) : (⟨(pc128 k x).val % 128, h⟩ : Fin 128) = x := Fin.ext (by simp only [pc128]; omega)

/-- A product of two padded rows is that of the rows. -/
theorem sum_padded (f g : Fin 192 → ℝ) : ∑ x : Fin 256, (padded f x : EReal) * (padded g x : EReal) = ((∑ d, f d * g d : ℝ) : EReal) := by
  have e : ∑ x : Fin 256, padded f x * padded g x = ∑ d, f d * g d := by
    rw [show (∑ x : Fin 256, padded f x * padded g x) = ∑ x : Fin (192 + 64), padded f x * padded g x from rfl, Fin.sum_univ_add]
    rw [Finset.sum_eq_zero (s := Finset.univ) (f := fun i : Fin 64 => _) (fun i _ => by rw [padded_out f (by simp), zero_mul]), add_zero]
    exact Finset.sum_congr rfl fun d _ => by rw [padded_in f (by simp), padded_in g (by simp)]; rfl
  rw [← e, Attn.coe_sum]
  simp only [EReal.coe_mul]

end Cert.Proof.Keys

end
-- ==== Proof.HostStage.lean ====
/- A straight line of host operations that writes every buffer once, read one operation at a time: a buffer holds at the
   end of the line its operation's function of what the operand buffers hold at the end of the line. -/
module

public import Idealize.ShloMosaic.Lib.StableHlo.RunRead

@[expose] public section

noncomputable section

open Idealize.ShloMosaic Idealize.ShloMosaic.StableHlo Idealize.ShloMosaic.TcCoe

namespace Cert.Proof.HostStage

variable {τ : Topo} {sig : RefSig} {Val : EltTy → Type}

/-- The references the operations write, in order. -/
def Writes (ops : List (HloOp τ sig Val)) (W : List (Ref sig .tc)) : Prop := ops.map HloOp.writes = W.map fun w => {Proc.devRef (τ := τ) .tc w}

variable {ops : List (HloOp τ sig Val)} {W : List (Ref sig .tc)} (hW : Writes ops W) (V : Valuation τ sig Val) (i : ℕ)
include hW

theorem drop_writes (n : ℕ) : (ops.drop n).map HloOp.writes = (W.drop n).map fun w => {Proc.devRef (τ := τ) .tc w} := by
  rw [List.map_drop, List.map_drop, hW]

/-- What the first `i` operations leave in a buffer no later operation writes is what the whole line leaves. -/
theorem before {a : Ref sig .tc} (ha : a ∉ W.drop i) : upto ops V i (Proc.devRef .tc a) = after ops V (Proc.devRef .tc a) := by
  have h : after (ops.take i ++ ops.drop i) V = after (ops.drop i) (after (ops.take i) V) := by
    generalize ops.take i = l
    induction l generalizing V with
    | nil => rfl
    | cons op l ih => exact ih _
  rw [List.take_append_drop] at h
  rw [h, after_unwritten (W.drop i) (drop_writes hW i) ha]
  rfl

theorem at_op {op : HloOp τ sig Val} (h : ops[i]? = some op) {r : Ref sig .tc} (hr : r ∉ W.drop (i + 1)) :
    after ops V (Proc.devRef .tc r) = op.result (upto ops V i) (Proc.devRef .tc r) := by
  obtain ⟨hi, rfl⟩ := List.getElem?_eq_some_iff.mp h
  exact after_last_write (W.drop (i + 1)) (List.drop_eq_getElem_cons hi) (drop_writes hW _) hr V

variable {y x a b : Ref sig .tc}

theorem nullary {v : y.ty.Contents Val} {hy} (h : ops[i]? = some (StableHlo.nullary y v hy)) (hr : y ∉ W.drop (i + 1)) :
    after ops V (Proc.devRef .tc y) = v := by
  rw [at_op hW V i h hr, nullary_result]

theorem unary {f : x.ty.Contents Val → y.ty.Contents Val} {hx hy} (h : ops[i]? = some (StableHlo.unary x y f hx hy)) (hr : y ∉ W.drop (i + 1))
    (h1 : x ∉ W.drop i) : after ops V (Proc.devRef .tc y) = f (after ops V (Proc.devRef .tc x)) := by
  rw [at_op hW V i h hr, unary_result, before hW V i h1]

theorem binary {f : a.ty.Contents Val → b.ty.Contents Val → y.ty.Contents Val} {ha hb hy} (h : ops[i]? = some (StableHlo.binary a b y f ha hb hy))
    (hr : y ∉ W.drop (i + 1)) (h1 : a ∉ W.drop i) (h2 : b ∉ W.drop i) :
    after ops V (Proc.devRef .tc y) = f (after ops V (Proc.devRef .tc a)) (after ops V (Proc.devRef .tc b)) := by
  rw [at_op hW V i h hr, binary_result, before hW V i h1, before hW V i h2]

theorem reshape {he hn hx hy} (h : ops[i]? = some (StableHlo.reshape x y he hn hx hy)) (hr : y ∉ W.drop (i + 1)) (h1 : x ∉ W.drop i) :
    after ops V (Proc.devRef .tc y) = fun j => he ▸ shapeCast y.ty.shape (after ops V (Proc.devRef .tc x)) hn j := by
  rw [at_op hW V i h hr, reshape_result, before hW V i h1]

end Cert.Proof.HostStage
-- ==== Proof.MlaStage.lean ====
/- The host lines before the kernel, one equation for each operation. -/
module

public import proofs.«01_k».proof.Proof.HostStage
public import proofs.«01_k».proof.Proof.Gen.Kernel2Ideal.Value

@[expose] public section

set_option maxRecDepth 16384

noncomputable section

open Idealize.ShloMosaic Idealize.ShloMosaic.TcCoe Idealize.SL.Sem

namespace Cert.Proof.MlaStage

open Cert.Kernel2Ideal Cert.Kernel2Ideal.Gen

variable {F : FTy → Type} [FloatOps F]

abbrev hostLine : List (HloOp τ sig (Elt F)) := List.flatten [hostOps0, hostOps0_1, hostOps0_2, hostOps0_3, hostOps0_4, hostOps0_5, hostOps0_6]

/-- The buffers the line writes, in order. -/
abbrev written : List (Ref sig .tc) :=
  [main_c, main_call0_v0, main_v0, main_v1, main_cst, main_v2, main_v3, main_v4, main_c_0, main_call1_v0, main_v5, main_v6, main_c_1, main_call2_v0, main_v7, main_v8, main_v9, main_v10, main_v11, main_v12, main_v13, main_v14, main_cst_2, main_v15, main_v16, main_v17, main_v18, main_v19, main_v20, main_v21, main_v22, main_v23, main_cst_3, main_v24, main_v25, main_cst_4, main_v26, main_v27, main_v28, main_v29, main_v30, main_v31, main_v32, main_v33, main_v34, main_cst_5, main_v35, main_v36, main_cst_6, main_v37, main_v38, main_v39, main_v40, main_v41, main_v42, main_v43, main_v44, main_cst_7, main_v45, main_v46, main_v47, main_v48, main_v49, main_v50, main_v51, main_v52, main_v53, main_v54, main_v55, main_v56, main_v57, main_v58]

theorem writes : HostStage.Writes (τ := τ) (hostLine (F := F)) written := rfl

variable (m : (ℓ : Loc nD τ sig) → Buf (Elt F) ℓ) (c : Dev nD)

/-! What each buffer holds at the end of the line. -/

def h_c : (⟨S_, .i32⟩ : BufTy).Contents (Elt F) := V m c main_c
def h_call0_v0 : (⟨S_, .f32⟩ : BufTy).Contents (Elt F) := V m c main_call0_v0
def h_arg0 : (⟨S2x2048x4x192, .f32⟩ : BufTy).Contents (Elt F) := V m c main_arg0
def h_v0 : (⟨S2x2048x4x256, .f32⟩ : BufTy).Contents (Elt F) := V m c main_v0
def h_v1 : (⟨S4096x1024, .f32⟩ : BufTy).Contents (Elt F) := V m c main_v1
def h_cst : (⟨S_, .f32⟩ : BufTy).Contents (Elt F) := V m c main_cst
def h_v2 : (⟨S4096x1024, .f32⟩ : BufTy).Contents (Elt F) := V m c main_v2
def h_v3 : (⟨S4096x1024, .f32⟩ : BufTy).Contents (Elt F) := V m c main_v3
def h_v4 : (⟨S4096x1024, .bf16⟩ : BufTy).Contents (Elt F) := V m c main_v4
def h_c_0 : (⟨S_, .i32⟩ : BufTy).Contents (Elt F) := V m c main_c_0
def h_call1_v0 : (⟨S_, .f32⟩ : BufTy).Contents (Elt F) := V m c main_call1_v0
def h_arg1 : (⟨S2x2048x4x192, .f32⟩ : BufTy).Contents (Elt F) := V m c main_arg1
def h_v5 : (⟨S2x2048x4x256, .f32⟩ : BufTy).Contents (Elt F) := V m c main_v5
def h_v6 : (⟨S4096x1024, .f32⟩ : BufTy).Contents (Elt F) := V m c main_v6
def h_c_1 : (⟨S_, .i32⟩ : BufTy).Contents (Elt F) := V m c main_c_1
def h_call2_v0 : (⟨S_, .f32⟩ : BufTy).Contents (Elt F) := V m c main_call2_v0
def h_arg2 : (⟨S2x256x4x192, .f32⟩ : BufTy).Contents (Elt F) := V m c main_arg2
def h_v7 : (⟨S2x256x4x256, .f32⟩ : BufTy).Contents (Elt F) := V m c main_v7
def h_v8 : (⟨S512x1024, .f32⟩ : BufTy).Contents (Elt F) := V m c main_v8
def h_v9 : (⟨S4608x1024, .f32⟩ : BufTy).Contents (Elt F) := V m c main_v9
def h_v10 : (⟨S4608x1024, .bf16⟩ : BufTy).Contents (Elt F) := V m c main_v10
def h_arg3 : (⟨S2x2048x4x128, .f32⟩ : BufTy).Contents (Elt F) := V m c main_arg3
def h_v11 : (⟨S4096x512, .f32⟩ : BufTy).Contents (Elt F) := V m c main_v11
def h_arg4 : (⟨S2x256x4x128, .f32⟩ : BufTy).Contents (Elt F) := V m c main_arg4
def h_v12 : (⟨S512x512, .f32⟩ : BufTy).Contents (Elt F) := V m c main_v12
def h_v13 : (⟨S4608x512, .f32⟩ : BufTy).Contents (Elt F) := V m c main_v13
def h_v14 : (⟨S4608x512, .bf16⟩ : BufTy).Contents (Elt F) := V m c main_v14
def h_cst_2 : (⟨S_, .f32⟩ : BufTy).Contents (Elt F) := V m c main_cst_2
def h_v15 : (⟨S2x2048x4x192, .f32⟩ : BufTy).Contents (Elt F) := V m c main_v15
def h_v16 : (⟨S2x2048x4x192, .f32⟩ : BufTy).Contents (Elt F) := V m c main_v16
def h_v17 : (⟨S2x2048x4x192, .bf16⟩ : BufTy).Contents (Elt F) := V m c main_v17
def h_v18 : (⟨S2x2048x4x192, .bf16⟩ : BufTy).Contents (Elt F) := V m c main_v18
def h_v19 : (⟨S2x256x4x192, .bf16⟩ : BufTy).Contents (Elt F) := V m c main_v19
def h_v20 : (⟨S2x2048x4x128, .bf16⟩ : BufTy).Contents (Elt F) := V m c main_v20
def h_v21 : (⟨S2x256x4x128, .bf16⟩ : BufTy).Contents (Elt F) := V m c main_v21
def h_v22 : (⟨S2x4x2048x2048, .f32⟩ : BufTy).Contents (Elt F) := V m c main_v22
def h_v23 : (⟨S2x4x2048x256, .f32⟩ : BufTy).Contents (Elt F) := V m c main_v23
def h_cst_3 : (⟨S_, .f32⟩ : BufTy).Contents (Elt F) := V m c main_cst_3
def h_v24 : (⟨S2x4x2048, .f32⟩ : BufTy).Contents (Elt F) := V m c main_v24
def h_v25 : (⟨S2x4x2048x1, .f32⟩ : BufTy).Contents (Elt F) := V m c main_v25
def h_cst_4 : (⟨S_, .f32⟩ : BufTy).Contents (Elt F) := V m c main_cst_4
def h_v26 : (⟨S2x4x2048, .f32⟩ : BufTy).Contents (Elt F) := V m c main_v26
def h_v27 : (⟨S2x4x2048x1, .f32⟩ : BufTy).Contents (Elt F) := V m c main_v27
def h_v28 : (⟨S2x4x2048x1, .f32⟩ : BufTy).Contents (Elt F) := V m c main_v28
def h_v29 : (⟨S2x4x2048x2048, .f32⟩ : BufTy).Contents (Elt F) := V m c main_v29
def h_v30 : (⟨S2x4x2048x2048, .f32⟩ : BufTy).Contents (Elt F) := V m c main_v30
def h_v31 : (⟨S2x4x2048x2048, .f32⟩ : BufTy).Contents (Elt F) := V m c main_v31
def h_v32 : (⟨S2x4x2048x256, .f32⟩ : BufTy).Contents (Elt F) := V m c main_v32
def h_v33 : (⟨S2x4x2048x256, .f32⟩ : BufTy).Contents (Elt F) := V m c main_v33
def h_v34 : (⟨S2x4x2048x256, .f32⟩ : BufTy).Contents (Elt F) := V m c main_v34
def h_cst_5 : (⟨S_, .f32⟩ : BufTy).Contents (Elt F) := V m c main_cst_5
def h_v35 : (⟨S2x4x2048, .f32⟩ : BufTy).Contents (Elt F) := V m c main_v35
def h_v36 : (⟨S2x4x2048x1, .f32⟩ : BufTy).Contents (Elt F) := V m c main_v36
def h_cst_6 : (⟨S_, .f32⟩ : BufTy).Contents (Elt F) := V m c main_cst_6
def h_v37 : (⟨S2x4x2048, .f32⟩ : BufTy).Contents (Elt F) := V m c main_v37
def h_v38 : (⟨S2x4x2048x1, .f32⟩ : BufTy).Contents (Elt F) := V m c main_v38
def h_v39 : (⟨S2x4x2048x1, .f32⟩ : BufTy).Contents (Elt F) := V m c main_v39
def h_v40 : (⟨S2x4x2048x2048, .bf16⟩ : BufTy).Contents (Elt F) := V m c main_v40
def h_v41 : (⟨S2x4x2048x128, .f32⟩ : BufTy).Contents (Elt F) := V m c main_v41
def h_v42 : (⟨S2x4x2048x256, .bf16⟩ : BufTy).Contents (Elt F) := V m c main_v42
def h_v43 : (⟨S2x4x2048x128, .f32⟩ : BufTy).Contents (Elt F) := V m c main_v43
def h_v44 : (⟨S2x4x2048x128, .f32⟩ : BufTy).Contents (Elt F) := V m c main_v44
def h_cst_7 : (⟨S_, .f32⟩ : BufTy).Contents (Elt F) := V m c main_cst_7
def h_v45 : (⟨S2x4x2048x1, .f32⟩ : BufTy).Contents (Elt F) := V m c main_v45
def h_v46 : (⟨S2x4x2048x1, .f32⟩ : BufTy).Contents (Elt F) := V m c main_v46
def h_v47 : (⟨S2x4x2048x128, .f32⟩ : BufTy).Contents (Elt F) := V m c main_v47
def h_v48 : (⟨S2x4x2048x128, .f32⟩ : BufTy).Contents (Elt F) := V m c main_v48
def h_v49 : (⟨S2x4x2048x128, .bf16⟩ : BufTy).Contents (Elt F) := V m c main_v49
def h_v50 : (⟨S2x4x2048x1, .f32⟩ : BufTy).Contents (Elt F) := V m c main_v50
def h_v51 : (⟨S2x4x2048x1, .f32⟩ : BufTy).Contents (Elt F) := V m c main_v51
def h_v52 : (⟨S2x4x2048x128, .f32⟩ : BufTy).Contents (Elt F) := V m c main_v52
def h_v53 : (⟨S2x2048x4x128, .bf16⟩ : BufTy).Contents (Elt F) := V m c main_v53
def h_v54 : (⟨S4096x512, .bf16⟩ : BufTy).Contents (Elt F) := V m c main_v54
def h_v55 : (⟨S2x2048x4x128, .f32⟩ : BufTy).Contents (Elt F) := V m c main_v55
def h_v56 : (⟨S4096x512, .f32⟩ : BufTy).Contents (Elt F) := V m c main_v56
def h_arg5 : (⟨S2x2048x1024, .f32⟩ : BufTy).Contents (Elt F) := V m c main_arg5
def h_v57 : (⟨S4096x1024, .f32⟩ : BufTy).Contents (Elt F) := V m c main_v57
def h_v58 : (⟨S4096x1024, .bf16⟩ : BufTy).Contents (Elt F) := V m c main_v58

theorem s_c : h_c m c = (constantI S_ 32 0#32) := by
  have h := HostStage.nullary (y := main_c) (writes (F := F)) (fun r => m (c, r)) 0 rfl (by decide +kernel)
  exact h
theorem s_call0_v0 : h_call0_v0 m c = ((sitofp .f32)) (h_c m c) := by
  have h := HostStage.unary (x := main_c) (y := main_call0_v0) (writes (F := F)) (fun r => m (c, r)) 1 rfl (by decide +kernel) (by decide +kernel)
  exact h
theorem s_v0 : h_v0 m c = ((fun x v => pad S2x2048x4x256 ![0, 0, 0, 0] ![0, 0, 0, 64] ![0, 0, 0, 0] x v pads_S2x2048x4x192_S2x2048x4x256_000_000_000_0640 h_S_)) (h_arg0 m c) (h_call0_v0 m c) := by
  have h := HostStage.binary (a := main_arg0) (b := main_call0_v0) (y := main_v0) (writes (F := F)) (fun r => m (c, r)) 2 rfl (by decide +kernel) (by decide +kernel) (by decide +kernel)
  exact h
theorem s_v1 : h_v1 m c = shapeCast _ (h_v0 m c) shapeCasts_S2x2048x4x256_S4096x1024 := by
  have h := HostStage.reshape (x := main_v0) (y := main_v1) (writes (F := F)) (fun r => m (c, r)) 3 rfl (by decide +kernel) (by decide +kernel)
  exact h
theorem s_cst : h_cst m c = (constant S_ .f32 0x3D93CD3A#32) := by
  have h := HostStage.nullary (y := main_cst) (writes (F := F)) (fun r => m (c, r)) 4 rfl (by decide +kernel)
  exact h
theorem s_v2 : h_v2 m c = ((broadcastInDim S4096x1024 ![] bcast_S_S4096x1024 : (⟨S_, .f32⟩ : BufTy).Contents (Elt F) → (⟨S4096x1024, .f32⟩ : BufTy).Contents (Elt F))) (h_cst m c) := by
  have h := HostStage.unary (x := main_cst) (y := main_v2) (writes (F := F)) (fun r => m (c, r)) 5 rfl (by decide +kernel) (by decide +kernel)
  exact h
theorem s_v3 : h_v3 m c = ((mulf : (⟨S4096x1024, .f32⟩ : BufTy).Contents (Elt F) → (⟨S4096x1024, .f32⟩ : BufTy).Contents (Elt F) → (⟨S4096x1024, .f32⟩ : BufTy).Contents (Elt F))) (h_v1 m c) (h_v2 m c) := by
  have h := HostStage.binary (a := main_v1) (b := main_v2) (y := main_v3) (writes (F := F)) (fun r => m (c, r)) 6 rfl (by decide +kernel) (by decide +kernel) (by decide +kernel)
  exact h
theorem s_v4 : h_v4 m c = (((truncf .bf16 · bitsLt_bf16_f32) : (⟨S4096x1024, .f32⟩ : BufTy).Contents (Elt F) → (⟨S4096x1024, .bf16⟩ : BufTy).Contents (Elt F))) (h_v3 m c) := by
  have h := HostStage.unary (x := main_v3) (y := main_v4) (writes (F := F)) (fun r => m (c, r)) 7 rfl (by decide +kernel) (by decide +kernel)
  exact h
theorem s_c_0 : h_c_0 m c = (constantI S_ 32 0#32) := by
  have h := HostStage.nullary (y := main_c_0) (writes (F := F)) (fun r => m (c, r)) 8 rfl (by decide +kernel)
  exact h
theorem s_call1_v0 : h_call1_v0 m c = ((sitofp .f32)) (h_c_0 m c) := by
  have h := HostStage.unary (x := main_c_0) (y := main_call1_v0) (writes (F := F)) (fun r => m (c, r)) 9 rfl (by decide +kernel) (by decide +kernel)
  exact h
theorem s_v5 : h_v5 m c = ((fun x v => pad S2x2048x4x256 ![0, 0, 0, 0] ![0, 0, 0, 64] ![0, 0, 0, 0] x v pads_S2x2048x4x192_S2x2048x4x256_000_000_000_0640 h_S_)) (h_arg1 m c) (h_call1_v0 m c) := by
  have h := HostStage.binary (a := main_arg1) (b := main_call1_v0) (y := main_v5) (writes (F := F)) (fun r => m (c, r)) 10 rfl (by decide +kernel) (by decide +kernel) (by decide +kernel)
  exact h
theorem s_v6 : h_v6 m c = shapeCast _ (h_v5 m c) shapeCasts_S2x2048x4x256_S4096x1024 := by
  have h := HostStage.reshape (x := main_v5) (y := main_v6) (writes (F := F)) (fun r => m (c, r)) 11 rfl (by decide +kernel) (by decide +kernel)
  exact h
theorem s_c_1 : h_c_1 m c = (constantI S_ 32 0#32) := by
  have h := HostStage.nullary (y := main_c_1) (writes (F := F)) (fun r => m (c, r)) 12 rfl (by decide +kernel)
  exact h
theorem s_call2_v0 : h_call2_v0 m c = ((sitofp .f32)) (h_c_1 m c) := by
  have h := HostStage.unary (x := main_c_1) (y := main_call2_v0) (writes (F := F)) (fun r => m (c, r)) 13 rfl (by decide +kernel) (by decide +kernel)
  exact h
theorem s_v7 : h_v7 m c = ((fun x v => pad S2x256x4x256 ![0, 0, 0, 0] ![0, 0, 0, 64] ![0, 0, 0, 0] x v pads_S2x256x4x192_S2x256x4x256_000_000_000_0640 h_S_)) (h_arg2 m c) (h_call2_v0 m c) := by
  have h := HostStage.binary (a := main_arg2) (b := main_call2_v0) (y := main_v7) (writes (F := F)) (fun r => m (c, r)) 14 rfl (by decide +kernel) (by decide +kernel) (by decide +kernel)
  exact h
theorem s_v8 : h_v8 m c = shapeCast _ (h_v7 m c) shapeCasts_S2x256x4x256_S512x1024 := by
  have h := HostStage.reshape (x := main_v7) (y := main_v8) (writes (F := F)) (fun r => m (c, r)) 15 rfl (by decide +kernel) (by decide +kernel)
  exact h
theorem s_v9 : h_v9 m c = (((fun a b => concatenate S4608x1024 0 [⟨S4096x1024, a⟩, ⟨S512x1024, b⟩] concatenates_S4096x1024_S512x1024_S4608x1024_d0) : (⟨S4096x1024, .f32⟩ : BufTy).Contents (Elt F) → (⟨S512x1024, .f32⟩ : BufTy).Contents (Elt F) → (⟨S4608x1024, .f32⟩ : BufTy).Contents (Elt F))) (h_v6 m c) (h_v8 m c) := by
  have h := HostStage.binary (a := main_v6) (b := main_v8) (y := main_v9) (writes (F := F)) (fun r => m (c, r)) 16 rfl (by decide +kernel) (by decide +kernel) (by decide +kernel)
  exact h
theorem s_v10 : h_v10 m c = (((truncf .bf16 · bitsLt_bf16_f32) : (⟨S4608x1024, .f32⟩ : BufTy).Contents (Elt F) → (⟨S4608x1024, .bf16⟩ : BufTy).Contents (Elt F))) (h_v9 m c) := by
  have h := HostStage.unary (x := main_v9) (y := main_v10) (writes (F := F)) (fun r => m (c, r)) 17 rfl (by decide +kernel) (by decide +kernel)
  exact h
theorem s_v11 : h_v11 m c = shapeCast _ (h_arg3 m c) shapeCasts_S2x2048x4x128_S4096x512 := by
  have h := HostStage.reshape (x := main_arg3) (y := main_v11) (writes (F := F)) (fun r => m (c, r)) 18 rfl (by decide +kernel) (by decide +kernel)
  exact h
theorem s_v12 : h_v12 m c = shapeCast _ (h_arg4 m c) shapeCasts_S2x256x4x128_S512x512 := by
  have h := HostStage.reshape (x := main_arg4) (y := main_v12) (writes (F := F)) (fun r => m (c, r)) 19 rfl (by decide +kernel) (by decide +kernel)
  exact h
theorem s_v13 : h_v13 m c = (((fun a b => concatenate S4608x512 0 [⟨S4096x512, a⟩, ⟨S512x512, b⟩] concatenates_S4096x512_S512x512_S4608x512_d0) : (⟨S4096x512, .f32⟩ : BufTy).Contents (Elt F) → (⟨S512x512, .f32⟩ : BufTy).Contents (Elt F) → (⟨S4608x512, .f32⟩ : BufTy).Contents (Elt F))) (h_v11 m c) (h_v12 m c) := by
  have h := HostStage.binary (a := main_v11) (b := main_v12) (y := main_v13) (writes (F := F)) (fun r => m (c, r)) 20 rfl (by decide +kernel) (by decide +kernel) (by decide +kernel)
  exact h
theorem s_v14 : h_v14 m c = (((truncf .bf16 · bitsLt_bf16_f32) : (⟨S4608x512, .f32⟩ : BufTy).Contents (Elt F) → (⟨S4608x512, .bf16⟩ : BufTy).Contents (Elt F))) (h_v13 m c) := by
  have h := HostStage.unary (x := main_v13) (y := main_v14) (writes (F := F)) (fun r => m (c, r)) 21 rfl (by decide +kernel) (by decide +kernel)
  exact h
theorem s_cst_2 : h_cst_2 m c = (constant S_ .f32 0x3D93CD3A#32) := by
  have h := HostStage.nullary (y := main_cst_2) (writes (F := F)) (fun r => m (c, r)) 22 rfl (by decide +kernel)
  exact h
theorem s_v15 : h_v15 m c = ((broadcastInDim S2x2048x4x192 ![] bcast_S_S2x2048x4x192 : (⟨S_, .f32⟩ : BufTy).Contents (Elt F) → (⟨S2x2048x4x192, .f32⟩ : BufTy).Contents (Elt F))) (h_cst_2 m c) := by
  have h := HostStage.unary (x := main_cst_2) (y := main_v15) (writes (F := F)) (fun r => m (c, r)) 23 rfl (by decide +kernel) (by decide +kernel)
  exact h
theorem s_v16 : h_v16 m c = ((mulf : (⟨S2x2048x4x192, .f32⟩ : BufTy).Contents (Elt F) → (⟨S2x2048x4x192, .f32⟩ : BufTy).Contents (Elt F) → (⟨S2x2048x4x192, .f32⟩ : BufTy).Contents (Elt F))) (h_arg0 m c) (h_v15 m c) := by
  have h := HostStage.binary (a := main_arg0) (b := main_v15) (y := main_v16) (writes (F := F)) (fun r => m (c, r)) 24 rfl (by decide +kernel) (by decide +kernel) (by decide +kernel)
  exact h
theorem s_v17 : h_v17 m c = (((truncf .bf16 · bitsLt_bf16_f32) : (⟨S2x2048x4x192, .f32⟩ : BufTy).Contents (Elt F) → (⟨S2x2048x4x192, .bf16⟩ : BufTy).Contents (Elt F))) (h_v16 m c) := by
  have h := HostStage.unary (x := main_v16) (y := main_v17) (writes (F := F)) (fun r => m (c, r)) 25 rfl (by decide +kernel) (by decide +kernel)
  exact h
theorem s_v18 : h_v18 m c = (((truncf .bf16 · bitsLt_bf16_f32) : (⟨S2x2048x4x192, .f32⟩ : BufTy).Contents (Elt F) → (⟨S2x2048x4x192, .bf16⟩ : BufTy).Contents (Elt F))) (h_arg1 m c) := by
  have h := HostStage.unary (x := main_arg1) (y := main_v18) (writes (F := F)) (fun r => m (c, r)) 26 rfl (by decide +kernel) (by decide +kernel)
  exact h
theorem s_v19 : h_v19 m c = (((truncf .bf16 · bitsLt_bf16_f32) : (⟨S2x256x4x192, .f32⟩ : BufTy).Contents (Elt F) → (⟨S2x256x4x192, .bf16⟩ : BufTy).Contents (Elt F))) (h_arg2 m c) := by
  have h := HostStage.unary (x := main_arg2) (y := main_v19) (writes (F := F)) (fun r => m (c, r)) 27 rfl (by decide +kernel) (by decide +kernel)
  exact h
theorem s_v20 : h_v20 m c = (((truncf .bf16 · bitsLt_bf16_f32) : (⟨S2x2048x4x128, .f32⟩ : BufTy).Contents (Elt F) → (⟨S2x2048x4x128, .bf16⟩ : BufTy).Contents (Elt F))) (h_arg3 m c) := by
  have h := HostStage.unary (x := main_arg3) (y := main_v20) (writes (F := F)) (fun r => m (c, r)) 28 rfl (by decide +kernel) (by decide +kernel)
  exact h
theorem s_v21 : h_v21 m c = (((truncf .bf16 · bitsLt_bf16_f32) : (⟨S2x256x4x128, .f32⟩ : BufTy).Contents (Elt F) → (⟨S2x256x4x128, .bf16⟩ : BufTy).Contents (Elt F))) (h_arg4 m c) := by
  have h := HostStage.unary (x := main_arg4) (y := main_v21) (writes (F := F)) (fun r => m (c, r)) 29 rfl (by decide +kernel) (by decide +kernel)
  exact h
theorem s_v22 : h_v22 m c = (((fun l r => Host.dotGeneral dot_S2x2048x4x192_S2x2048x4x192_S2x4x2048x2048_3_3_1_1_02_02 none l r) : (⟨S2x2048x4x192, .bf16⟩ : BufTy).Contents (Elt F) → (⟨S2x2048x4x192, .bf16⟩ : BufTy).Contents (Elt F) → (⟨S2x4x2048x2048, .f32⟩ : BufTy).Contents (Elt F))) (h_v17 m c) (h_v18 m c) := by
  have h := HostStage.binary (a := main_v17) (b := main_v18) (y := main_v22) (writes (F := F)) (fun r => m (c, r)) 30 rfl (by decide +kernel) (by decide +kernel) (by decide +kernel)
  exact h
theorem s_v23 : h_v23 m c = (((fun l r => Host.dotGeneral dot_S2x2048x4x192_S2x256x4x192_S2x4x2048x256_3_3_1_1_02_02 none l r) : (⟨S2x2048x4x192, .bf16⟩ : BufTy).Contents (Elt F) → (⟨S2x256x4x192, .bf16⟩ : BufTy).Contents (Elt F) → (⟨S2x4x2048x256, .f32⟩ : BufTy).Contents (Elt F))) (h_v17 m c) (h_v19 m c) := by
  have h := HostStage.binary (a := main_v17) (b := main_v19) (y := main_v23) (writes (F := F)) (fun r => m (c, r)) 31 rfl (by decide +kernel) (by decide +kernel) (by decide +kernel)
  exact h
theorem s_cst_3 : h_cst_3 m c = (constant S_ .f32 0xFF800000#32) := by
  have h := HostStage.nullary (y := main_cst_3) (writes (F := F)) (fun r => m (c, r)) 32 rfl (by decide +kernel)
  exact h
theorem s_v24 : h_v24 m c = (((fun x v => Host.reduce FloatOps.maximumf x v reducesTo_S2x4x2048x2048_S2x4x2048_d3 h_S_) : (⟨S2x4x2048x2048, .f32⟩ : BufTy).Contents (Elt F) → (⟨S_, .f32⟩ : BufTy).Contents (Elt F) → (⟨S2x4x2048, .f32⟩ : BufTy).Contents (Elt F))) (h_v22 m c) (h_cst_3 m c) := by
  have h := HostStage.binary (a := main_v22) (b := main_cst_3) (y := main_v24) (writes (F := F)) (fun r => m (c, r)) 33 rfl (by decide +kernel) (by decide +kernel) (by decide +kernel)
  exact h
theorem s_v25 : h_v25 m c = ((broadcastInDim S2x4x2048x1 ![0, 1, 2] bcast_S2x4x2048_S2x4x2048x1_0_1_2 : (⟨S2x4x2048, .f32⟩ : BufTy).Contents (Elt F) → (⟨S2x4x2048x1, .f32⟩ : BufTy).Contents (Elt F))) (h_v24 m c) := by
  have h := HostStage.unary (x := main_v24) (y := main_v25) (writes (F := F)) (fun r => m (c, r)) 34 rfl (by decide +kernel) (by decide +kernel)
  exact h
theorem s_cst_4 : h_cst_4 m c = (constant S_ .f32 0xFF800000#32) := by
  have h := HostStage.nullary (y := main_cst_4) (writes (F := F)) (fun r => m (c, r)) 35 rfl (by decide +kernel)
  exact h
theorem s_v26 : h_v26 m c = (((fun x v => Host.reduce FloatOps.maximumf x v reducesTo_S2x4x2048x256_S2x4x2048_d3 h_S_) : (⟨S2x4x2048x256, .f32⟩ : BufTy).Contents (Elt F) → (⟨S_, .f32⟩ : BufTy).Contents (Elt F) → (⟨S2x4x2048, .f32⟩ : BufTy).Contents (Elt F))) (h_v23 m c) (h_cst_4 m c) := by
  have h := HostStage.binary (a := main_v23) (b := main_cst_4) (y := main_v26) (writes (F := F)) (fun r => m (c, r)) 36 rfl (by decide +kernel) (by decide +kernel) (by decide +kernel)
  exact h
theorem s_v27 : h_v27 m c = ((broadcastInDim S2x4x2048x1 ![0, 1, 2] bcast_S2x4x2048_S2x4x2048x1_0_1_2 : (⟨S2x4x2048, .f32⟩ : BufTy).Contents (Elt F) → (⟨S2x4x2048x1, .f32⟩ : BufTy).Contents (Elt F))) (h_v26 m c) := by
  have h := HostStage.unary (x := main_v26) (y := main_v27) (writes (F := F)) (fun r => m (c, r)) 37 rfl (by decide +kernel) (by decide +kernel)
  exact h
theorem s_v28 : h_v28 m c = ((maximumf : (⟨S2x4x2048x1, .f32⟩ : BufTy).Contents (Elt F) → (⟨S2x4x2048x1, .f32⟩ : BufTy).Contents (Elt F) → (⟨S2x4x2048x1, .f32⟩ : BufTy).Contents (Elt F))) (h_v25 m c) (h_v27 m c) := by
  have h := HostStage.binary (a := main_v25) (b := main_v27) (y := main_v28) (writes (F := F)) (fun r => m (c, r)) 38 rfl (by decide +kernel) (by decide +kernel) (by decide +kernel)
  exact h
theorem s_v29 : h_v29 m c = ((broadcastInDim S2x4x2048x2048 ![0, 1, 2, 3] bcast_S2x4x2048x1_S2x4x2048x2048_0_1_2_3 : (⟨S2x4x2048x1, .f32⟩ : BufTy).Contents (Elt F) → (⟨S2x4x2048x2048, .f32⟩ : BufTy).Contents (Elt F))) (h_v28 m c) := by
  have h := HostStage.unary (x := main_v28) (y := main_v29) (writes (F := F)) (fun r => m (c, r)) 39 rfl (by decide +kernel) (by decide +kernel)
  exact h
theorem s_v30 : h_v30 m c = ((subf : (⟨S2x4x2048x2048, .f32⟩ : BufTy).Contents (Elt F) → (⟨S2x4x2048x2048, .f32⟩ : BufTy).Contents (Elt F) → (⟨S2x4x2048x2048, .f32⟩ : BufTy).Contents (Elt F))) (h_v22 m c) (h_v29 m c) := by
  have h := HostStage.binary (a := main_v22) (b := main_v29) (y := main_v30) (writes (F := F)) (fun r => m (c, r)) 40 rfl (by decide +kernel) (by decide +kernel) (by decide +kernel)
  exact h
theorem s_v31 : h_v31 m c = ((Host.exp : (⟨S2x4x2048x2048, .f32⟩ : BufTy).Contents (Elt F) → (⟨S2x4x2048x2048, .f32⟩ : BufTy).Contents (Elt F))) (h_v30 m c) := by
  have h := HostStage.unary (x := main_v30) (y := main_v31) (writes (F := F)) (fun r => m (c, r)) 41 rfl (by decide +kernel) (by decide +kernel)
  exact h
theorem s_v32 : h_v32 m c = ((broadcastInDim S2x4x2048x256 ![0, 1, 2, 3] bcast_S2x4x2048x1_S2x4x2048x256_0_1_2_3 : (⟨S2x4x2048x1, .f32⟩ : BufTy).Contents (Elt F) → (⟨S2x4x2048x256, .f32⟩ : BufTy).Contents (Elt F))) (h_v28 m c) := by
  have h := HostStage.unary (x := main_v28) (y := main_v32) (writes (F := F)) (fun r => m (c, r)) 42 rfl (by decide +kernel) (by decide +kernel)
  exact h
theorem s_v33 : h_v33 m c = ((subf : (⟨S2x4x2048x256, .f32⟩ : BufTy).Contents (Elt F) → (⟨S2x4x2048x256, .f32⟩ : BufTy).Contents (Elt F) → (⟨S2x4x2048x256, .f32⟩ : BufTy).Contents (Elt F))) (h_v23 m c) (h_v32 m c) := by
  have h := HostStage.binary (a := main_v23) (b := main_v32) (y := main_v33) (writes (F := F)) (fun r => m (c, r)) 43 rfl (by decide +kernel) (by decide +kernel) (by decide +kernel)
  exact h
theorem s_v34 : h_v34 m c = ((Host.exp : (⟨S2x4x2048x256, .f32⟩ : BufTy).Contents (Elt F) → (⟨S2x4x2048x256, .f32⟩ : BufTy).Contents (Elt F))) (h_v33 m c) := by
  have h := HostStage.unary (x := main_v33) (y := main_v34) (writes (F := F)) (fun r => m (c, r)) 44 rfl (by decide +kernel) (by decide +kernel)
  exact h
theorem s_cst_5 : h_cst_5 m c = (constant S_ .f32 0x00000000#32) := by
  have h := HostStage.nullary (y := main_cst_5) (writes (F := F)) (fun r => m (c, r)) 45 rfl (by decide +kernel)
  exact h
theorem s_v35 : h_v35 m c = (((fun x v => Host.reduceAdd x v reducesTo_S2x4x2048x2048_S2x4x2048_d3 h_S_) : (⟨S2x4x2048x2048, .f32⟩ : BufTy).Contents (Elt F) → (⟨S_, .f32⟩ : BufTy).Contents (Elt F) → (⟨S2x4x2048, .f32⟩ : BufTy).Contents (Elt F))) (h_v31 m c) (h_cst_5 m c) := by
  have h := HostStage.binary (a := main_v31) (b := main_cst_5) (y := main_v35) (writes (F := F)) (fun r => m (c, r)) 46 rfl (by decide +kernel) (by decide +kernel) (by decide +kernel)
  exact h
theorem s_v36 : h_v36 m c = ((broadcastInDim S2x4x2048x1 ![0, 1, 2] bcast_S2x4x2048_S2x4x2048x1_0_1_2 : (⟨S2x4x2048, .f32⟩ : BufTy).Contents (Elt F) → (⟨S2x4x2048x1, .f32⟩ : BufTy).Contents (Elt F))) (h_v35 m c) := by
  have h := HostStage.unary (x := main_v35) (y := main_v36) (writes (F := F)) (fun r => m (c, r)) 47 rfl (by decide +kernel) (by decide +kernel)
  exact h
theorem s_cst_6 : h_cst_6 m c = (constant S_ .f32 0x00000000#32) := by
  have h := HostStage.nullary (y := main_cst_6) (writes (F := F)) (fun r => m (c, r)) 48 rfl (by decide +kernel)
  exact h
theorem s_v37 : h_v37 m c = (((fun x v => Host.reduceAdd x v reducesTo_S2x4x2048x256_S2x4x2048_d3 h_S_) : (⟨S2x4x2048x256, .f32⟩ : BufTy).Contents (Elt F) → (⟨S_, .f32⟩ : BufTy).Contents (Elt F) → (⟨S2x4x2048, .f32⟩ : BufTy).Contents (Elt F))) (h_v34 m c) (h_cst_6 m c) := by
  have h := HostStage.binary (a := main_v34) (b := main_cst_6) (y := main_v37) (writes (F := F)) (fun r => m (c, r)) 49 rfl (by decide +kernel) (by decide +kernel) (by decide +kernel)
  exact h
theorem s_v38 : h_v38 m c = ((broadcastInDim S2x4x2048x1 ![0, 1, 2] bcast_S2x4x2048_S2x4x2048x1_0_1_2 : (⟨S2x4x2048, .f32⟩ : BufTy).Contents (Elt F) → (⟨S2x4x2048x1, .f32⟩ : BufTy).Contents (Elt F))) (h_v37 m c) := by
  have h := HostStage.unary (x := main_v37) (y := main_v38) (writes (F := F)) (fun r => m (c, r)) 50 rfl (by decide +kernel) (by decide +kernel)
  exact h
theorem s_v39 : h_v39 m c = ((addf : (⟨S2x4x2048x1, .f32⟩ : BufTy).Contents (Elt F) → (⟨S2x4x2048x1, .f32⟩ : BufTy).Contents (Elt F) → (⟨S2x4x2048x1, .f32⟩ : BufTy).Contents (Elt F))) (h_v36 m c) (h_v38 m c) := by
  have h := HostStage.binary (a := main_v36) (b := main_v38) (y := main_v39) (writes (F := F)) (fun r => m (c, r)) 51 rfl (by decide +kernel) (by decide +kernel) (by decide +kernel)
  exact h
theorem s_v40 : h_v40 m c = (((truncf .bf16 · bitsLt_bf16_f32) : (⟨S2x4x2048x2048, .f32⟩ : BufTy).Contents (Elt F) → (⟨S2x4x2048x2048, .bf16⟩ : BufTy).Contents (Elt F))) (h_v31 m c) := by
  have h := HostStage.unary (x := main_v31) (y := main_v40) (writes (F := F)) (fun r => m (c, r)) 52 rfl (by decide +kernel) (by decide +kernel)
  exact h
theorem s_v41 : h_v41 m c = (((fun l r => Host.dotGeneral dot_S2x4x2048x2048_S2x2048x4x128_S2x4x2048x128_3_1_2_3_01_02 none l r) : (⟨S2x4x2048x2048, .bf16⟩ : BufTy).Contents (Elt F) → (⟨S2x2048x4x128, .bf16⟩ : BufTy).Contents (Elt F) → (⟨S2x4x2048x128, .f32⟩ : BufTy).Contents (Elt F))) (h_v40 m c) (h_v20 m c) := by
  have h := HostStage.binary (a := main_v40) (b := main_v20) (y := main_v41) (writes (F := F)) (fun r => m (c, r)) 53 rfl (by decide +kernel) (by decide +kernel) (by decide +kernel)
  exact h
theorem s_v42 : h_v42 m c = (((truncf .bf16 · bitsLt_bf16_f32) : (⟨S2x4x2048x256, .f32⟩ : BufTy).Contents (Elt F) → (⟨S2x4x2048x256, .bf16⟩ : BufTy).Contents (Elt F))) (h_v34 m c) := by
  have h := HostStage.unary (x := main_v34) (y := main_v42) (writes (F := F)) (fun r => m (c, r)) 54 rfl (by decide +kernel) (by decide +kernel)
  exact h
theorem s_v43 : h_v43 m c = (((fun l r => Host.dotGeneral dot_S2x4x2048x256_S2x256x4x128_S2x4x2048x128_3_1_2_3_01_02 none l r) : (⟨S2x4x2048x256, .bf16⟩ : BufTy).Contents (Elt F) → (⟨S2x256x4x128, .bf16⟩ : BufTy).Contents (Elt F) → (⟨S2x4x2048x128, .f32⟩ : BufTy).Contents (Elt F))) (h_v42 m c) (h_v21 m c) := by
  have h := HostStage.binary (a := main_v42) (b := main_v21) (y := main_v43) (writes (F := F)) (fun r => m (c, r)) 55 rfl (by decide +kernel) (by decide +kernel) (by decide +kernel)
  exact h
theorem s_v44 : h_v44 m c = ((addf : (⟨S2x4x2048x128, .f32⟩ : BufTy).Contents (Elt F) → (⟨S2x4x2048x128, .f32⟩ : BufTy).Contents (Elt F) → (⟨S2x4x2048x128, .f32⟩ : BufTy).Contents (Elt F))) (h_v41 m c) (h_v43 m c) := by
  have h := HostStage.binary (a := main_v41) (b := main_v43) (y := main_v44) (writes (F := F)) (fun r => m (c, r)) 56 rfl (by decide +kernel) (by decide +kernel) (by decide +kernel)
  exact h
theorem s_cst_7 : h_cst_7 m c = (constant S_ .f32 0x3F800000#32) := by
  have h := HostStage.nullary (y := main_cst_7) (writes (F := F)) (fun r => m (c, r)) 57 rfl (by decide +kernel)
  exact h
theorem s_v45 : h_v45 m c = ((broadcastInDim S2x4x2048x1 ![] bcast_S_S2x4x2048x1 : (⟨S_, .f32⟩ : BufTy).Contents (Elt F) → (⟨S2x4x2048x1, .f32⟩ : BufTy).Contents (Elt F))) (h_cst_7 m c) := by
  have h := HostStage.unary (x := main_cst_7) (y := main_v45) (writes (F := F)) (fun r => m (c, r)) 58 rfl (by decide +kernel) (by decide +kernel)
  exact h
theorem s_v46 : h_v46 m c = ((Host.divf : (⟨S2x4x2048x1, .f32⟩ : BufTy).Contents (Elt F) → (⟨S2x4x2048x1, .f32⟩ : BufTy).Contents (Elt F) → (⟨S2x4x2048x1, .f32⟩ : BufTy).Contents (Elt F))) (h_v45 m c) (h_v39 m c) := by
  have h := HostStage.binary (a := main_v45) (b := main_v39) (y := main_v46) (writes (F := F)) (fun r => m (c, r)) 59 rfl (by decide +kernel) (by decide +kernel) (by decide +kernel)
  exact h
theorem s_v47 : h_v47 m c = ((broadcastInDim S2x4x2048x128 ![0, 1, 2, 3] bcast_S2x4x2048x1_S2x4x2048x128_0_1_2_3 : (⟨S2x4x2048x1, .f32⟩ : BufTy).Contents (Elt F) → (⟨S2x4x2048x128, .f32⟩ : BufTy).Contents (Elt F))) (h_v46 m c) := by
  have h := HostStage.unary (x := main_v46) (y := main_v47) (writes (F := F)) (fun r => m (c, r)) 60 rfl (by decide +kernel) (by decide +kernel)
  exact h
theorem s_v48 : h_v48 m c = ((mulf : (⟨S2x4x2048x128, .f32⟩ : BufTy).Contents (Elt F) → (⟨S2x4x2048x128, .f32⟩ : BufTy).Contents (Elt F) → (⟨S2x4x2048x128, .f32⟩ : BufTy).Contents (Elt F))) (h_v44 m c) (h_v47 m c) := by
  have h := HostStage.binary (a := main_v44) (b := main_v47) (y := main_v48) (writes (F := F)) (fun r => m (c, r)) 61 rfl (by decide +kernel) (by decide +kernel) (by decide +kernel)
  exact h
theorem s_v49 : h_v49 m c = (((truncf .bf16 · bitsLt_bf16_f32) : (⟨S2x4x2048x128, .f32⟩ : BufTy).Contents (Elt F) → (⟨S2x4x2048x128, .bf16⟩ : BufTy).Contents (Elt F))) (h_v48 m c) := by
  have h := HostStage.unary (x := main_v48) (y := main_v49) (writes (F := F)) (fun r => m (c, r)) 62 rfl (by decide +kernel) (by decide +kernel)
  exact h
theorem s_v50 : h_v50 m c = ((Host.log : (⟨S2x4x2048x1, .f32⟩ : BufTy).Contents (Elt F) → (⟨S2x4x2048x1, .f32⟩ : BufTy).Contents (Elt F))) (h_v39 m c) := by
  have h := HostStage.unary (x := main_v39) (y := main_v50) (writes (F := F)) (fun r => m (c, r)) 63 rfl (by decide +kernel) (by decide +kernel)
  exact h
theorem s_v51 : h_v51 m c = ((addf : (⟨S2x4x2048x1, .f32⟩ : BufTy).Contents (Elt F) → (⟨S2x4x2048x1, .f32⟩ : BufTy).Contents (Elt F) → (⟨S2x4x2048x1, .f32⟩ : BufTy).Contents (Elt F))) (h_v28 m c) (h_v50 m c) := by
  have h := HostStage.binary (a := main_v28) (b := main_v50) (y := main_v51) (writes (F := F)) (fun r => m (c, r)) 64 rfl (by decide +kernel) (by decide +kernel) (by decide +kernel)
  exact h
theorem s_v52 : h_v52 m c = ((broadcastInDim S2x4x2048x128 ![0, 1, 2, 3] bcast_S2x4x2048x1_S2x4x2048x128_0_1_2_3 : (⟨S2x4x2048x1, .f32⟩ : BufTy).Contents (Elt F) → (⟨S2x4x2048x128, .f32⟩ : BufTy).Contents (Elt F))) (h_v51 m c) := by
  have h := HostStage.unary (x := main_v51) (y := main_v52) (writes (F := F)) (fun r => m (c, r)) 65 rfl (by decide +kernel) (by decide +kernel)
  exact h
theorem s_v53 : h_v53 m c = (((transpose S2x2048x4x128 [0, 2, 1, 3] · transposes_S2x4x2048x128_S2x2048x4x128_0_2_1_3) : (⟨S2x4x2048x128, .bf16⟩ : BufTy).Contents (Elt F) → (⟨S2x2048x4x128, .bf16⟩ : BufTy).Contents (Elt F))) (h_v49 m c) := by
  have h := HostStage.unary (x := main_v49) (y := main_v53) (writes (F := F)) (fun r => m (c, r)) 66 rfl (by decide +kernel) (by decide +kernel)
  exact h
theorem s_v54 : h_v54 m c = shapeCast _ (h_v53 m c) shapeCasts_S2x2048x4x128_S4096x512 := by
  have h := HostStage.reshape (x := main_v53) (y := main_v54) (writes (F := F)) (fun r => m (c, r)) 67 rfl (by decide +kernel) (by decide +kernel)
  exact h
theorem s_v55 : h_v55 m c = (((transpose S2x2048x4x128 [0, 2, 1, 3] · transposes_S2x4x2048x128_S2x2048x4x128_0_2_1_3) : (⟨S2x4x2048x128, .f32⟩ : BufTy).Contents (Elt F) → (⟨S2x2048x4x128, .f32⟩ : BufTy).Contents (Elt F))) (h_v52 m c) := by
  have h := HostStage.unary (x := main_v52) (y := main_v55) (writes (F := F)) (fun r => m (c, r)) 68 rfl (by decide +kernel) (by decide +kernel)
  exact h
theorem s_v56 : h_v56 m c = shapeCast _ (h_v55 m c) shapeCasts_S2x2048x4x128_S4096x512 := by
  have h := HostStage.reshape (x := main_v55) (y := main_v56) (writes (F := F)) (fun r => m (c, r)) 69 rfl (by decide +kernel) (by decide +kernel)
  exact h
theorem s_v57 : h_v57 m c = shapeCast _ (h_arg5 m c) shapeCasts_S2x2048x1024_S4096x1024 := by
  have h := HostStage.reshape (x := main_arg5) (y := main_v57) (writes (F := F)) (fun r => m (c, r)) 70 rfl (by decide +kernel) (by decide +kernel)
  exact h
theorem s_v58 : h_v58 m c = (((truncf .bf16 · bitsLt_bf16_f32) : (⟨S4096x1024, .f32⟩ : BufTy).Contents (Elt F) → (⟨S4096x1024, .bf16⟩ : BufTy).Contents (Elt F))) (h_v57 m c) := by
  have h := HostStage.unary (x := main_v57) (y := main_v58) (writes (F := F)) (fun r => m (c, r)) 71 rfl (by decide +kernel) (by decide +kernel)
  exact h

end Cert.Proof.MlaStage
-- ==== Proof.MlaEntry.lean ====
/- What the kernel's windows hold when it starts, in real numbers: the host lines before it on finite arguments. -/
module

public import proofs.«01_k».proof.Proof.Keys
public import proofs.«01_k».proof.Proof.MlaStage
public import proofs.«01_k».proof.Proof.Scal

@[expose] public section

set_option maxRecDepth 16384

noncomputable section

open Idealize.ShloMosaic Idealize.ShloMosaic.TcCoe Idealize.SL.Sem

namespace Cert.Proof.MlaEntry

open Cert.Kernel2Ideal Cert.Kernel2Ideal.Gen MlaReal Keys MlaStage

variable (aq ak : A4 2 2048 4 192) (akc : A4 2 256 4 192) (av : A4 2 2048 4 128) (avc : A4 2 256 4 128) (ad : D3)

variable (m : (ℓ : Loc nD τ sig) → Buf (Elt Ideal) ℓ) (c : Dev nD)

theorem v22_at (hq : h_arg0 m c = co aq) (hk : h_arg1 m c = co ak) (b h i j) :
    @Eq EReal (h_v22 m c (ix4 b h i j)) (sc lit aq ak akc b h i (kl j) : EReal) := by
  rw [s_v22, s_v17, s_v18, s_v16, s_v15, s_cst_2, hq, hk]
  pointwise
  simp only [sc, K_kl, Finset.sum_mul, lit_eq, co, ← EReal.coe_mul, ← Attn.coe_sum]
  exact congrArg _ (Finset.sum_congr rfl fun d _ => by ring)

theorem v23_at (hq : h_arg0 m c = co aq) (hk : h_arg2 m c = co akc) (b h i j) :
    @Eq EReal (h_v23 m c (ix4 b h i j)) (sc lit aq ak akc b h i (kc j) : EReal) := by
  rw [s_v23, s_v17, s_v19, s_v16, s_v15, s_cst_2, hq, hk]
  pointwise
  simp only [sc, K_kc, Finset.sum_mul, lit_eq, co, ← EReal.coe_mul, ← Attn.coe_sum]
  exact congrArg _ (Finset.sum_congr rfl fun d _ => by ring)

theorem add_at {S : Shape} (x y : FVec Ideal S .f32) (i : S.Idx) : @Eq EReal (addf x y i) (x i + y i : EReal) := rfl

theorem max_at {S : Shape} (x y : FVec Ideal S .f32) (i : S.Idx) : @Eq EReal (maximumf x y i) (max (x i : EReal) (y i)) := rfl

theorem v25_at (b h i) : @Eq EReal (h_v25 m c (ix4 b h i 0)) (h_v24 m c (ix3 b h i)) := by
  rw [s_v25]
  generalize h_v24 m c = x
  pointwise

theorem v27_at (b h i) : @Eq EReal (h_v27 m c (ix4 b h i 0)) (h_v26 m c (ix3 b h i)) := by
  rw [s_v27]
  generalize h_v26 m c = x
  pointwise

section Rows

variable (hq : h_arg0 m c = co aq) (hk : h_arg1 m c = co ak) (hkc : h_arg2 m c = co akc)
include hq hk hkc

omit hkc in
theorem v24_real (b h i) : ∃ r : ℝ, @Eq EReal (h_v24 m c (ix3 b h i)) (r : EReal) := by
  have hx : ∀ j, ∃ r : ℝ, @Eq EReal (h_v22 m c j) (r : EReal) := by
    intro j; rw [eq_ix4 j]; exact ⟨_, v22_at aq ak (fun _ => 0) m c hq hk _ _ _ _⟩
  rw [s_v24, s_cst_3]
  generalize h_v22 m c = x at hx
  exact reduce_max_float x hx _ (fun _ => bot_lit) _ (by decide) _ (by decide) _

omit hk in
theorem v26_real (b h i) : ∃ r : ℝ, @Eq EReal (h_v26 m c (ix3 b h i)) (r : EReal) := by
  have hx : ∀ j, ∃ r : ℝ, @Eq EReal (h_v23 m c j) (r : EReal) := by
    intro j; rw [eq_ix4 j]; exact ⟨_, v23_at aq (fun _ => 0) akc m c hq hkc _ _ _ _⟩
  rw [s_v26, s_cst_4]
  generalize h_v23 m c = x at hx
  exact reduce_max_float x hx _ (fun _ => bot_lit) _ (by decide) _ (by decide) _

/-- The row maximum is a real number. -/
theorem v28_real (b h i) : ∃ r : ℝ, @Eq EReal (h_v28 m c (ix4 b h i 0)) (r : EReal) := by
  obtain ⟨r1, h1⟩ := v24_real aq ak m c hq hk b h i
  obtain ⟨r2, h2⟩ := v26_real aq akc m c hq hkc b h i
  refine ⟨max r1 r2, (congrFun (s_v28 m c) (ix4 b h i 0)).trans ((max_at _ _ _).trans ?_)⟩
  rw [v25_at, v27_at, h1, h2]
  exact EReal.coe_strictMono.monotone.map_max.symm

variable (b : Fin 2) (h : Fin 4) (i : Fin 2048) {M : ℝ} (hm : @Eq EReal (h_v28 m c (ix4 b h i 0)) (M : EReal))
include hm

theorem v31_at (j) : @Eq EReal (h_v31 m c (ix4 b h i j)) (Real.exp (sc lit aq ak akc b h i (kl j) - M) : EReal) := by
  rw [s_v31, s_v30, s_v29]
  have e := v22_at aq ak akc m c hq hk b h i j
  generalize h_v22 m c = x at e
  generalize h_v28 m c = y at hm
  pointwise
  rw [e, hm, ← EReal.coe_sub, Scal.exp_coe]

theorem v34_at (j) : @Eq EReal (h_v34 m c (ix4 b h i j)) (Real.exp (sc lit aq ak akc b h i (kc j) - M) : EReal) := by
  rw [s_v34, s_v33, s_v32]
  have e := v23_at aq ak akc m c hq hkc b h i j
  generalize h_v23 m c = x at e
  generalize h_v28 m c = y at hm
  pointwise
  rw [e, hm, ← EReal.coe_sub, Scal.exp_coe]

theorem v39_at : @Eq EReal (h_v39 m c (ix4 b h i 0)) (Attn.tot (sc lit aq ak akc b h i) M : EReal) := by
  rw [s_v39, s_v36, s_v38, s_v35, s_v37, s_cst_5, s_cst_6]
  have e := v31_at aq ak akc m c hq hk hkc b h i hm
  have e' := v34_at aq ak akc m c hq hk hkc b h i hm
  generalize h_v31 m c = x at e
  generalize h_v34 m c = y at e'
  pointwise
  simp only [e, e', Attn.tot, sum_keys (fun k => Real.exp (sc lit aq ak akc b h i k - M)), EReal.coe_add, Attn.coe_sum]

theorem v44_at (hv : h_arg3 m c = co av) (hvc : h_arg4 m c = co avc) (e : Fin 128) :
    @Eq EReal (h_v44 m c (ix4 b h i e)) ((∑ k, Real.exp (sc lit aq ak akc b h i k - M) * MlaReal.V av avc b k h e : ℝ) : EReal) := by
  rw [s_v44, s_v41, s_v43, s_v40, s_v42, s_v20, s_v21, hv, hvc]
  have e1 := v31_at aq ak akc m c hq hk hkc b h i hm
  have e2 := v34_at aq ak akc m c hq hk hkc b h i hm
  generalize h_v31 m c = x at e1
  generalize h_v34 m c = y at e2
  pointwise
  simp only [e1, e2, sum_keys (fun k => Real.exp (sc lit aq ak akc b h i k - M) * MlaReal.V av avc b k h e), V_kl, V_kc, co,
    EReal.coe_add, Attn.coe_sum, EReal.coe_mul]

theorem v49_at (hv : h_arg3 m c = co av) (hvc : h_arg4 m c = co avc) (e : Fin 128) :
    @Eq EReal (h_v49 m c (ix4 b h i e)) (((∑ k, Real.exp (sc lit aq ak akc b h i k - M) * MlaReal.V av avc b k h e)
      * (1 / Attn.tot (sc lit aq ak akc b h i) M) : ℝ) : EReal) := by
  rw [s_v49, s_v48, s_v47, s_v46, s_v45, s_cst_7]
  have e1 := v44_at aq ak akc av avc m c hq hk hkc b h i hm hv hvc e
  have e2 := v39_at aq ak akc m c hq hk hkc b h i hm
  generalize h_v44 m c = x at e1
  generalize h_v39 m c = y at e2
  pointwise
  rw [e1, e2, ← EReal.coe_one, Scal.div_coe _ _ (Attn.tot_pos _ _).ne', ← EReal.coe_mul]

theorem v50_at : @Eq EReal (h_v50 m c (ix4 b h i 0)) (Real.log (Attn.tot (sc lit aq ak akc b h i) M) : EReal) := by
  have e2 := v39_at aq ak akc m c hq hk hkc b h i hm
  rw [← Scal.log_coe (Attn.tot_pos _ _), ← e2, s_v50]
  rfl

theorem v51_at : @Eq EReal (h_v51 m c (ix4 b h i 0)) ((M + Real.log (Attn.tot (sc lit aq ak akc b h i) M) : ℝ) : EReal) := by
  have e2 := v50_at aq ak akc m c hq hk hkc b h i hm
  refine (congrFun (s_v51 m c) (ix4 b h i 0)).trans ?_
  refine (add_at _ _ _).trans ?_
  rw [hm, e2, EReal.coe_add]

theorem v52_at (e : Fin 128) :
    @Eq EReal (h_v52 m c (ix4 b h i e)) ((M + Real.log (Attn.tot (sc lit aq ak akc b h i) M) : ℝ) : EReal) := by
  have e2 := v51_at aq ak akc m c hq hk hkc b h i hm
  rw [← e2, s_v52]
  generalize h_v51 m c = y
  pointwise

end Rows

/-- The kernel's windows at a packed row and column. -/
theorem v54_at (r : Fin 4096) (x : Fin 512) :
    @Eq EReal (h_v54 m c (ix2 r x)) (h_v49 m c (ix4 ⟨r.val / 2048, by omega⟩ ⟨x.val / 128, by omega⟩ ⟨r.val % 2048, by omega⟩ ⟨x.val % 128, by omega⟩)) := by
  rw [s_v54, s_v53]
  generalize h_v49 m c = y
  pointwise

theorem v56_at (r : Fin 4096) (x : Fin 512) :
    @Eq EReal (h_v56 m c (ix2 r x)) (h_v52 m c (ix4 ⟨r.val / 2048, by omega⟩ ⟨x.val / 128, by omega⟩ ⟨r.val % 2048, by omega⟩ ⟨x.val % 128, by omega⟩)) := by
  rw [s_v56, s_v55]
  generalize h_v52 m c = y
  pointwise

theorem v58_at (r : Fin 4096) (x : Fin 1024) :
    @Eq EReal (h_v58 m c (ix2 r x)) (h_arg5 m c (ix3 ⟨r.val / 2048, by omega⟩ ⟨r.val % 2048, by omega⟩ x)) := by
  rw [s_v58, s_v57]
  generalize h_arg5 m c = y
  pointwise

theorem v0_at (hq : h_arg0 m c = co aq) (b : Fin 2) (i : Fin 2048) (h : Fin 4) (x : Fin 256) :
    @Eq EReal (h_v0 m c (ix4 b i h x)) (padded (fun d => aq (ix4 b i h d)) x : EReal) := by
  rw [s_v0, s_call0_v0, s_c, hq]
  pointwise
  by_cases hx : x.val < 192
  · have hc : b.val < 2 ∧ i.val < 2048 ∧ h.val < 4 ∧ x.val < 192 := by omega
    rw [padded_in _ hx]
    split_ifs
    · rfl
  · rw [padded_out _ hx]
    split_ifs
    · exact pad0

theorem v5_at (hq : h_arg1 m c = co ak) (b : Fin 2) (i : Fin 2048) (h : Fin 4) (x : Fin 256) :
    @Eq EReal (h_v5 m c (ix4 b i h x)) (padded (fun d => ak (ix4 b i h d)) x : EReal) := by
  rw [s_v5, s_call1_v0, s_c_0, hq]
  pointwise
  by_cases hx : x.val < 192
  · have hc : b.val < 2 ∧ i.val < 2048 ∧ h.val < 4 ∧ x.val < 192 := by omega
    rw [padded_in _ hx]
    split_ifs
    · rfl
  · rw [padded_out _ hx]
    split_ifs
    · exact pad0

theorem v7_at (hq : h_arg2 m c = co akc) (b : Fin 2) (i : Fin 256) (h : Fin 4) (x : Fin 256) :
    @Eq EReal (h_v7 m c (ix4 b i h x)) (padded (fun d => akc (ix4 b i h d)) x : EReal) := by
  rw [s_v7, s_call2_v0, s_c_1, hq]
  pointwise
  by_cases hx : x.val < 192
  · have hc : b.val < 2 ∧ i.val < 256 ∧ h.val < 4 ∧ x.val < 192 := by omega
    rw [padded_in _ hx]
    split_ifs
    · rfl
  · rw [padded_out _ hx]
    split_ifs
    · exact pad0

theorem v4_at (hq : h_arg0 m c = co aq) (r : Fin 4096) (x : Fin 1024) :
    @Eq EReal (h_v4 m c (ix2 r x)) (padded (fun d => aq (ix4 ⟨r.val / 2048, by omega⟩ ⟨r.val % 2048, by omega⟩ ⟨x.val / 256, by omega⟩ d) * lit) ⟨x.val % 256, by omega⟩ : EReal) := by
  rw [s_v4, s_v3, s_v1, s_v2, s_cst]
  have e := v0_at aq m c hq
  generalize h_v0 m c = y at e
  pointwise
  rw [e, lit_eq, ← EReal.coe_mul, padded_mul]

theorem v10_lat (hk : h_arg1 m c = co ak) (r : Fin 4608) (hr : r.val < 4096) (x : Fin 1024) :
    @Eq EReal (h_v10 m c (ix2 r x)) (padded (fun d => ak (ix4 ⟨r.val / 2048, by omega⟩ ⟨r.val % 2048, by omega⟩ ⟨x.val / 256, by omega⟩ d)) ⟨x.val % 256, by omega⟩ : EReal) := by
  rw [s_v10, s_v9, s_v6]
  have e := v5_at ak m c hk
  generalize h_v8 m c = z
  generalize h_v5 m c = y at e
  pointwise
  rw [dif_pos hr, e]

theorem v10_ctx (hk : h_arg2 m c = co akc) (r : Fin 4608) (hr : ¬ r.val < 4096) (x : Fin 1024) :
    @Eq EReal (h_v10 m c (ix2 r x)) (padded (fun d => akc (ix4 ⟨(r.val - 4096) / 256, by omega⟩ ⟨(r.val - 4096) % 256, by omega⟩ ⟨x.val / 256, by omega⟩ d)) ⟨x.val % 256, by omega⟩ : EReal) := by
  rw [s_v10, s_v9, s_v8]
  have e := v7_at akc m c hk
  generalize h_v6 m c = z
  generalize h_v7 m c = y at e
  pointwise
  rw [dif_neg hr, e]

theorem v14_lat (hv : h_arg3 m c = co av) (r : Fin 4608) (hr : r.val < 4096) (x : Fin 512) :
    @Eq EReal (h_v14 m c (ix2 r x)) (av (ix4 ⟨r.val / 2048, by omega⟩ ⟨r.val % 2048, by omega⟩ ⟨x.val / 128, by omega⟩ ⟨x.val % 128, by omega⟩) : EReal) := by
  rw [s_v14, s_v13, s_v11, hv]
  generalize h_v12 m c = z
  pointwise
  split_ifs <;> first | omega | skip
  rfl

theorem v14_ctx (hv : h_arg4 m c = co avc) (r : Fin 4608) (hr : ¬ r.val < 4096) (x : Fin 512) :
    @Eq EReal (h_v14 m c (ix2 r x)) (avc (ix4 ⟨(r.val - 4096) / 256, by omega⟩ ⟨(r.val - 4096) % 256, by omega⟩ ⟨x.val / 128, by omega⟩ ⟨x.val % 128, by omega⟩) : EReal) := by
  rw [s_v14, s_v13, s_v12, hv]
  generalize h_v11 m c = z
  pointwise
  split_ifs <;> first | omega | skip
  rfl

end Cert.Proof.MlaEntry

end
-- ==== Proof.MlaBlk.lean ====
/- What a grid point of the kernel computes from its blocks, and the sums its scratch buffers collect. -/
module

public import proofs.«01_k».proof.Proof.Gen.Kernel2Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.MlaBlk

open Cert.Kernel2Ideal Cert.Kernel2Ideal.Gen

variable (m : (ℓ : Loc nD τ sig) → Buf (Elt Ideal) ℓ) (c : Dev nD)

/-- The softmax weight of row `r` at key `j`, from the row's saved log-sum. -/
def wt {n : ℕ} (q : Fin 512 → Fin 256 → EReal) (k : Fin n → Fin 256 → EReal) (l : Fin 512 → EReal) (r : Fin 512) (j : Fin n) : EReal :=
  Ideal.exp (∑ x, q r x * k j x - l r)

/-- The gradient of the score of row `r` at key `j`. -/
def ds {n : ℕ} (q : Fin 512 → Fin 256 → EReal) (k : Fin n → Fin 256 → EReal) (l : Fin 512 → EReal) (g : Fin 512 → Fin 128 → EReal)
    (v : Fin n → Fin 128 → EReal) (o : Fin 512 → Fin 128 → EReal) (r : Fin 512) (j : Fin n) : EReal :=
  wt q k l r j * (∑ x, g r x * v j x - ∑ x, g r x * o r x)

variable (t : Fin cfg0.N)

def Q (r : Fin 512) (x : Fin 256) : EReal := iblk m c 0 t (ix2 r x)
def KL (r : Fin 2048) (x : Fin 256) : EReal := X0_1 m c t (ix2 r x)
def KC (r : Fin 256) (x : Fin 256) : EReal := iblk m c 2 t (ix2 r x)
def VL (r : Fin 2048) (x : Fin 128) : EReal := X0_3 m c t (ix2 r x)
def VC (r : Fin 256) (x : Fin 128) : EReal := iblk m c 4 t (ix2 r x)
def O (r : Fin 512) (x : Fin 128) : EReal := iblk m c 5 t (ix2 r x)
def L (r : Fin 512) : EReal := iblk m c 6 t (ix2 r 0)
def G (r : Fin 512) (x : Fin 128) : EReal := iblk m c 7 t (ix2 r x)

/-- The score gradients at the latent keys and at the context keys. -/
def dsL (r : Fin 512) (j : Fin 2048) : EReal := ds (Q m c t) (KL m c t) (L m c t) (G m c t) (VL m c t) (O m c t) r j
def dsC (r : Fin 512) (j : Fin 256) : EReal := ds (Q m c t) (KC m c t) (L m c t) (G m c t) (VC m c t) (O m c t) r j

def tKL (y : S2048x256.Idx) : EReal := ∑ x, dsL m c t x (y 0) * Q m c t x (y 1)
def tKC (y : S256x256.Idx) : EReal := ∑ x, dsC m c t x (y 0) * Q m c t x (y 1)
def tVL (y : S2048x128.Idx) : EReal := ∑ x, wt (Q m c t) (KL m c t) (L m c t) x (y 0) * G m c t x (y 1)
def tVC (y : S256x128.Idx) : EReal := ∑ x, wt (Q m c t) (KC m c t) (L m c t) x (y 0) * G m c t x (y 1)

/-- The two halves of 1024 rows cover a block of 2048. -/
theorem halves {Val : EltTy → Type} {e : EltTy} {n : ℕ} (h1 : ∀ a, (![1024, 0] : Fin 2 → ℕ) a + (![1024, n] : Fin 2 → ℕ) a ≤ (![2048, n] : Fin 2 → ℕ) a)
    (h2 : ∀ a, (![0, 0] : Fin 2 → ℕ) a + (![1024, n] : Fin 2 → ℕ) a ≤ (![2048, n] : Fin 2 → ℕ) a)
    (p : (Rect.unit (s := ⟨2, ![2048, n]⟩) ![1024, 0] ![1024, n] h1).shape.Idx → Val e)
    (q : (Rect.unit (s := ⟨2, ![2048, n]⟩) ![0, 0] ![1024, n] h2).shape.Idx → Val e) (y : (⟨2, ![2048, n]⟩ : Shape).Idx) :
    ∃ P ∈ [(⟨_, p⟩ : View.Piece Val ⟨2, ![2048, n]⟩ e), ⟨_, q⟩], y ∈ P.1.set := by
  have y0 := (y 0).isLt
  have y1 := (y 1).isLt
  by_cases h : (y 0).val < 1024
  · refine ⟨_, List.mem_cons_of_mem _ List.mem_cons_self, (Rect.mem_set_unit (inb := h2)).mpr fun a => ?_⟩
    fin_cases a <;> simp <;> simp at y0 y1 <;> omega
  · refine ⟨_, List.mem_cons_self, (Rect.mem_set_unit (inb := h1)).mpr fun a => ?_⟩
    fin_cases a <;> simp <;> simp at y0 y1 <;> omega

/-- Where an index of a half lies in the whole block. -/
theorem emb_half {n : ℕ} (o : ℕ) (ho : o ≤ 1024) (h : ∀ a, (![o, 0] : Fin 2 → ℕ) a + (![1024, n] : Fin 2 → ℕ) a ≤ (![2048, n] : Fin 2 → ℕ) a)
    (x : (Rect.unit (s := ⟨2, ![2048, n]⟩) ![o, 0] ![1024, n] h).shape.Idx) :
    (Rect.unit (s := ⟨2, ![2048, n]⟩) ![o, 0] ![1024, n] h).emb x
      = ix2 ⟨o + (x 0).val, by have := (x 0).isLt; simp at this; omega⟩ ⟨(x 1).val, by have := (x 1).isLt; simpa using this⟩ := by
  funext a
  apply Fin.ext
  show (![o, 0] : Fin 2 → ℕ) a + 1 * (x a).val = _
  fin_cases a <;> simp [ix2]

theorem emb_low {n : ℕ} (h : ∀ a, (![0, 0] : Fin 2 → ℕ) a + (![1024, n] : Fin 2 → ℕ) a ≤ (![2048, n] : Fin 2 → ℕ) a)
    (x : (Rect.unit (s := ⟨2, ![2048, n]⟩) ![0, 0] ![1024, n] h).shape.Idx) :
    (Rect.unit (s := ⟨2, ![2048, n]⟩) ![0, 0] ![1024, n] h).emb x
      = ix2 ⟨(x 0).val, by have := (x 0).isLt; simp at this; omega⟩ ⟨(x 1).val, by have := (x 1).isLt; simpa using this⟩ := by
  rw [emb_half 0 (by decide)]
  congr 2
  exact Nat.zero_add _

theorem dkc_first (h0 : t.val % 4 = 0) (y : S256x256.Idx) : (outsAt0 m c t.val t.isLt).2.2.2.2.2.2.1 y = tKC m c t y := by
  rw [outsAt0_A m c t h0 (by omega)]
  dsimp only
  frame_open
  simp (disch := decide) only [↓ View.readCov_skip, ↓ View.readCov_cons_toLoadRect, ↓ View.readCov_fill]
  frame_out
  unfold_payloads
  pointwise
  rfl

theorem dkc_next (h0 : ¬t.val % 4 = 0) (y : S256x256.Idx) :
    (outsAt0 m c t.val t.isLt).2.2.2.2.2.2.1 y = (outsAt0 m c (t.val - 1) (lt_of_le_of_lt (Nat.sub_le _ _) t.isLt)).2.2.2.2.2.2.1 y + tKC m c t y := by
  by_cases h1 : t.val % 4 = 3
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    unfold_payloads
    pointwise
    simp only [read_unread_whole]
    rfl

theorem dvc_first (h0 : t.val % 4 = 0) (y : S256x128.Idx) : (outsAt0 m c t.val t.isLt).2.2.2.2.2.2.2.2 y = tVC m c t y := by
  rw [outsAt0_A m c t h0 (by omega)]
  dsimp only
  frame_open
  simp (disch := decide) only [↓ View.readCov_skip, ↓ View.readCov_cons_toLoadRect, ↓ View.readCov_fill]
  frame_out
  unfold_payloads
  pointwise
  rfl

theorem dvc_next (h0 : ¬t.val % 4 = 0) (y : S256x128.Idx) :
    (outsAt0 m c t.val t.isLt).2.2.2.2.2.2.2.2 y = (outsAt0 m c (t.val - 1) (lt_of_le_of_lt (Nat.sub_le _ _) t.isLt)).2.2.2.2.2.2.2.2 y + tVC m c t y := by
  by_cases h1 : t.val % 4 = 3
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    unfold_payloads
    pointwise
    simp only [read_unread_whole]
    rfl

set_option maxHeartbeats 2000000 in
theorem dkl_first (h0 : t.val % 4 = 0) (y : S2048x256.Idx) : (outsAt0 m c t.val t.isLt).2.2.2.2.2.1 y = tKL m c t y := by
  rw [outsAt0_A m c t h0 (by omega)]
  dsimp only
  frame_open
  simp (disch := decide) only [↓ View.readCov_skip, ↓ View.readCov_cons_toLoadRect, ↓ View.readCov_fill]
  frame_out
  refine View.canon_append_of_piecesOf (Val := Elt Ideal) (e := .f32) ((tKL m c t : S2048x256.Idx → Elt Ideal .f32)) [_] [_, _] ⟨fun (x : S1024x256.Idx) => ?_, fun (x : S1024x256.Idx) => ?_, trivial⟩ y (halves _ _ _ _ y)
  · refine Eq.trans ?_ (congrArg ((tKL m c t : S2048x256.Idx → Elt Ideal .f32)) (emb_half 1024 (by decide) inb_S2048x256_S1024x256_1024_0 x).symm)
    unfold_payloads
    pointwise
    rfl
  · refine Eq.trans ?_ (congrArg ((tKL m c t : S2048x256.Idx → Elt Ideal .f32)) (emb_low inb_S2048x256_S1024x256_0_0 x).symm)
    unfold_payloads
    pointwise
    rfl

set_option maxHeartbeats 2000000 in
theorem dkl_next (h0 : ¬t.val % 4 = 0) (y : S2048x256.Idx) :
    (outsAt0 m c t.val t.isLt).2.2.2.2.2.1 y = (outsAt0 m c (t.val - 1) (lt_of_le_of_lt (Nat.sub_le _ _) t.isLt)).2.2.2.2.2.1 y + tKL m c t y := by
  by_cases h1 : t.val % 4 = 3
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    refine View.canon_append_of_piecesOf (Val := Elt Ideal) (e := .f32) (fun y : S2048x256.Idx => ((outsAt0 m c (t.val - 1) (lt_of_le_of_lt (Nat.sub_le _ _) t.isLt)).2.2.2.2.2.1 y + tKL m c t y : Elt Ideal .f32)) [] [_, _] ⟨fun (x : S1024x256.Idx) => ?_, fun (x : S1024x256.Idx) => ?_, trivial⟩ y (halves _ _ _ _ y)
    · refine Eq.trans ?_ (congrArg (fun y : S2048x256.Idx => ((outsAt0 m c (t.val - 1) (lt_of_le_of_lt (Nat.sub_le _ _) t.isLt)).2.2.2.2.2.1 y + tKL m c t y : Elt Ideal .f32)) (emb_half 1024 (by decide) inb_S2048x256_S1024x256_1024_0 x).symm)
      unfold_payloads
      pointwise
      simp only [read_unread_whole]
      rfl
    · refine Eq.trans ?_ (congrArg (fun y : S2048x256.Idx => ((outsAt0 m c (t.val - 1) (lt_of_le_of_lt (Nat.sub_le _ _) t.isLt)).2.2.2.2.2.1 y + tKL m c t y : Elt Ideal .f32)) (emb_low inb_S2048x256_S1024x256_0_0 x).symm)
      unfold_payloads
      pointwise
      simp only [read_unread_whole]
      rfl

set_option maxHeartbeats 2000000 in
theorem dvl_first (h0 : t.val % 4 = 0) (y : S2048x128.Idx) : (outsAt0 m c t.val t.isLt).2.2.2.2.2.2.2.1 y = tVL m c t y := by
  rw [outsAt0_A m c t h0 (by omega)]
  dsimp only
  frame_open
  simp (disch := decide) only [↓ View.readCov_skip, ↓ View.readCov_cons_toLoadRect, ↓ View.readCov_fill]
  frame_out
  refine View.canon_append_of_piecesOf (Val := Elt Ideal) (e := .f32) ((tVL m c t : S2048x128.Idx → Elt Ideal .f32)) [_] [_, _] ⟨fun (x : S1024x128.Idx) => ?_, fun (x : S1024x128.Idx) => ?_, trivial⟩ y (halves _ _ _ _ y)
  · refine Eq.trans ?_ (congrArg ((tVL m c t : S2048x128.Idx → Elt Ideal .f32)) (emb_half 1024 (by decide) inb_S2048x128_S1024x128_1024_0 x).symm)
    unfold_payloads
    pointwise
    rfl
  · refine Eq.trans ?_ (congrArg ((tVL m c t : S2048x128.Idx → Elt Ideal .f32)) (emb_low inb_S2048x128_S1024x128_0_0 x).symm)
    unfold_payloads
    pointwise
    rfl

set_option maxHeartbeats 2000000 in
theorem dvl_next (h0 : ¬t.val % 4 = 0) (y : S2048x128.Idx) :
    (outsAt0 m c t.val t.isLt).2.2.2.2.2.2.2.1 y = (outsAt0 m c (t.val - 1) (lt_of_le_of_lt (Nat.sub_le _ _) t.isLt)).2.2.2.2.2.2.2.1 y + tVL m c t y := by
  by_cases h1 : t.val % 4 = 3
  on_goal 1 => rw [outsAt0_C m c t h0 h1]
  on_goal 2 => rw [outsAt0_B m c t h0 h1]
  all_goals
    dsimp only
    frame_open
    simp (disch := decide) only [↓ View.readCov_skip, ↓ View.readCov_cons_toLoadRect, ↓ View.readCov_fill]
    frame_out
    refine View.canon_append_of_piecesOf (Val := Elt Ideal) (e := .f32) (fun y : S2048x128.Idx => ((outsAt0 m c (t.val - 1) (lt_of_le_of_lt (Nat.sub_le _ _) t.isLt)).2.2.2.2.2.2.2.1 y + tVL m c t y : Elt Ideal .f32)) [] [_, _] ⟨fun (x : S1024x128.Idx) => ?_, fun (x : S1024x128.Idx) => ?_, trivial⟩ y (halves _ _ _ _ y)
    · refine Eq.trans ?_ (congrArg (fun y : S2048x128.Idx => ((outsAt0 m c (t.val - 1) (lt_of_le_of_lt (Nat.sub_le _ _) t.isLt)).2.2.2.2.2.2.2.1 y + tVL m c t y : Elt Ideal .f32)) (emb_half 1024 (by decide) inb_S2048x128_S1024x128_1024_0 x).symm)
      unfold_payloads
      pointwise
      simp only [read_unread_whole]
      rfl
    · refine Eq.trans ?_ (congrArg (fun y : S2048x128.Idx => ((outsAt0 m c (t.val - 1) (lt_of_le_of_lt (Nat.sub_le _ _) t.isLt)).2.2.2.2.2.2.2.1 y + tVL m c t y : Elt Ideal .f32)) (emb_low inb_S2048x128_S1024x128_0_0 x).symm)
      unfold_payloads
      pointwise
      simp only [read_unread_whole]
      rfl

end Cert.Proof.MlaBlk
-- ==== Proof.MlaOut.lean ====
/- What the kernel's outputs hold: block products at every point, the scratch sums at a run's last point. -/
module

public import proofs.«01_k».proof.Proof.MlaBlk
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.MlaOut

open Cert.Kernel2Ideal Cert.Kernel2Ideal.Gen MlaBlk

variable (m : (ℓ : Loc nD τ sig) → Buf (Elt Ideal) ℓ) (c : Dev nD)

variable (t : Fin cfg0.N)

theorem idx_whole {n k : ℕ} (h : ∀ a, (![0, 0] : Fin 2 → ℕ) a + (![n, k] : Fin 2 → ℕ) a ≤ (![n, k] : Fin 2 → ℕ) a)
    (y : (⟨2, ![n, k]⟩ : Shape).Idx) : (Rect.unit (s := ⟨2, ![n, k]⟩) ![0, 0] ![n, k] h).toLoadRect.idx y = y := by
  funext a
  apply Fin.ext
  show (![0, 0] : Fin 2 → ℕ) a + 1 * (y a).val = _
  fin_cases a <;> simp

theorem dkc_out (h1 : t.val % 4 = 3) (y : S256x256.Idx) : (outsAt0 m c t.val t.isLt).2.2.1 y = (outsAt0 m c t.val t.isLt).2.2.2.2.2.2.1 y := by
  rw [outsAt0_C m c t (by omega) h1]
  dsimp only
  frame_open
  simp (disch := decide) only [↓ View.readCov_skip, ↓ View.readCov_cons_toLoadRect, ↓ View.readCov_fill]
  frame_out
  unfold_payloads
  rfl

theorem dvc_out (h1 : t.val % 4 = 3) (y : S256x128.Idx) : (outsAt0 m c t.val t.isLt).2.2.2.2.1 y = (outsAt0 m c t.val t.isLt).2.2.2.2.2.2.2.2 y := by
  rw [outsAt0_C m c t (by omega) h1]
  dsimp only
  frame_open
  simp (disch := decide) only [↓ View.readCov_skip, ↓ View.readCov_cons_toLoadRect, ↓ View.readCov_fill]
  frame_out
  unfold_payloads
  rfl

theorem dkl_out (h1 : t.val % 4 = 3) (y : S2048x256.Idx) : (outsAt0 m c t.val t.isLt).2.1 y = (outsAt0 m c t.val t.isLt).2.2.2.2.2.1 y := by
  rw [outsAt0_C m c t (by omega) h1]
  dsimp only
  frame_open
  simp (disch := decide) only [↓ View.readCov_skip, ↓ View.readCov_cons_toLoadRect, ↓ View.readCov_fill]
  frame_out
  rw [View.readCov_eq_canon']
  generalize View.canon (Val := Elt Ideal) _ = Z
  exact congrArg Z (idx_whole _ y)

theorem dvl_out (h1 : t.val % 4 = 3) (y : S2048x128.Idx) : (outsAt0 m c t.val t.isLt).2.2.2.1 y = (outsAt0 m c t.val t.isLt).2.2.2.2.2.2.2.1 y := by
  rw [outsAt0_C m c t (by omega) h1]
  dsimp only
  frame_open
  simp (disch := decide) only [↓ View.readCov_skip, ↓ View.readCov_cons_toLoadRect, ↓ View.readCov_fill]
  frame_out
  rw [View.readCov_eq_canon']
  generalize View.canon (Val := Elt Ideal) _ = Z
  exact congrArg Z (idx_whole _ y)

/-- A run of four points that resets at its first point and adds a term at every point holds the four terms' sum at its end. -/
theorem run_sum {ι : Type} (f : (n : ℕ) → n < cfg0.N → ι → EReal) (T : Fin cfg0.N → ι → EReal)
    (first : ∀ t : Fin cfg0.N, t.val % 4 = 0 → ∀ y, f t.val t.isLt y = T t y)
    (next : ∀ t : Fin cfg0.N, ¬t.val % 4 = 0 → ∀ y, f t.val t.isLt y = f (t.val - 1) (lt_of_le_of_lt (Nat.sub_le _ _) t.isLt) y + T t y)
    (h1 : t.val % 4 = 3) (y : ι) :
    f t.val t.isLt y = ∑ s : Fin 4, T ⟨4 * (t.val / 4) + s.val, by have := t.isLt; omega⟩ y := by
  have := Pipeline.eq_sum_fin_of_reset_step_apply_of_flush f 4 (fun _ => 0) T (fun t h i => by rw [first t h i, zero_add]) next t h1 y
  rw [this, zero_add]

theorem dkc_sum (h1 : t.val % 4 = 3) (y : S256x256.Idx) :
    (outsAt0 m c t.val t.isLt).2.2.1 y = ∑ s : Fin 4, tKC m c ⟨4 * (t.val / 4) + s.val, by have := t.isLt; omega⟩ y := by
  rw [dkc_out m c t h1]
  exact run_sum t (fun n h => (outsAt0 m c n h).2.2.2.2.2.2.1) (tKC m c) (dkc_first m c) (dkc_next m c) h1 y

theorem dvc_sum (h1 : t.val % 4 = 3) (y : S256x128.Idx) :
    (outsAt0 m c t.val t.isLt).2.2.2.2.1 y = ∑ s : Fin 4, tVC m c ⟨4 * (t.val / 4) + s.val, by have := t.isLt; omega⟩ y := by
  rw [dvc_out m c t h1]
  exact run_sum t (fun n h => (outsAt0 m c n h).2.2.2.2.2.2.2.2) (tVC m c) (dvc_first m c) (dvc_next m c) h1 y

theorem dkl_sum (h1 : t.val % 4 = 3) (y : S2048x256.Idx) :
    (outsAt0 m c t.val t.isLt).2.1 y = ∑ s : Fin 4, tKL m c ⟨4 * (t.val / 4) + s.val, by have := t.isLt; omega⟩ y := by
  rw [dkl_out m c t h1]
  exact run_sum t (fun n h => (outsAt0 m c n h).2.2.2.2.2.1) (tKL m c) (dkl_first m c) (dkl_next m c) h1 y

theorem dvl_sum (h1 : t.val % 4 = 3) (y : S2048x128.Idx) :
    (outsAt0 m c t.val t.isLt).2.2.2.1 y = ∑ s : Fin 4, tVL m c ⟨4 * (t.val / 4) + s.val, by have := t.isLt; omega⟩ y := by
  rw [dvl_out m c t h1]
  exact run_sum t (fun n h => (outsAt0 m c n h).2.2.2.2.2.2.2.1) (tVL m c) (dvl_first m c) (dvl_next m c) h1 y

set_option maxHeartbeats 1000000 in
theorem dq_out (y : S512x256.Idx) : (outsAt0 m c t.val t.isLt).1 y
    = ∑ j, dsC m c t (y 0) j * KC m c t j (y 1) + ∑ j, dsL m c t (y 0) j * KL m c t j (y 1) := by
  rw [show (∑ j, dsL m c t (y 0) j * KL m c t j (y 1) : EReal) = _ from Fin.sum_univ_add (a := 1024) (b := 1024) _, ← add_assoc]
  by_cases h0 : t.val % 4 = 0
  on_goal 1 => rw [outsAt0_A m c t h0 (by omega)]
  on_goal 2 => by_cases h1 : t.val % 4 = 3
  on_goal 2 => rw [outsAt0_C m c t h0 h1]
  on_goal 3 => rw [outsAt0_B m c t h0 h1]
  all_goals
    dsimp only
    frame_open
    simp (disch := decide) only [↓ View.readCov_skip, ↓ View.readCov_cons_toLoadRect, ↓ View.readCov_fill]
    frame_out
    unfold_payloads
    pointwise
    rfl

end Cert.Proof.MlaOut
-- ==== Proof.MlaRows.lean ====
/- The blocks of a grid point in real numbers, and what the point and the four points of a head compute from them. -/
module

public import proofs.«01_k».proof.Proof.MlaEntry
public import proofs.«01_k».proof.Proof.MlaOut

@[expose] public section

set_option maxRecDepth 16384

noncomputable section

open Idealize.ShloMosaic Idealize.ShloMosaic.TcCoe Idealize.SL.Sem

namespace Cert.Proof.MlaRows

open Cert.Kernel2Ideal Cert.Kernel2Ideal.Gen MlaReal Keys MlaStage MlaEntry MlaBlk

variable (m : (ℓ : Loc nD τ sig) → Buf (Elt Ideal) ℓ) (c : Dev nD)

theorem idx : ∀ t : Fin cfg0.N, (cfg0.win 0).index t = ![t.val / 16 * 4 + t.val % 4, t.val / 4 % 4] ∧ (cfg0.win 1).index t = ![t.val / 16, t.val / 4 % 4]
    ∧ (cfg0.win 2).index t = ![16 + t.val / 16, t.val / 4 % 4] ∧ (cfg0.win 3).index t = ![t.val / 16, t.val / 4 % 4]
    ∧ (cfg0.win 4).index t = ![16 + t.val / 16, t.val / 4 % 4] ∧ (cfg0.win 5).index t = ![t.val / 16 * 4 + t.val % 4, t.val / 4 % 4]
    ∧ (cfg0.win 6).index t = ![t.val / 16 * 4 + t.val % 4, t.val / 4 % 4] ∧ (cfg0.win 7).index t = ![t.val / 16 * 4 + t.val % 4, 4 + t.val / 4 % 4]
    ∧ (cfg0.win 8).index t = ![t.val / 16 * 4 + t.val % 4, t.val / 4 % 4] ∧ (cfg0.win 9).index t = ![t.val / 16, t.val / 4 % 4]
    ∧ (cfg0.win 10).index t = ![t.val / 16, t.val / 4 % 4] ∧ (cfg0.win 11).index t = ![t.val / 16, t.val / 4 % 4]
    ∧ (cfg0.win 12).index t = ![t.val / 16, t.val / 4 % 4] := by decide +kernel

theorem lt32 (t : Fin cfg0.N) : t.val < 32 := lt_of_lt_of_eq t.isLt N_0

/-- The example, the head and the row of a grid point. -/
def tb (t : Fin cfg0.N) : Fin 2 := ⟨t.val / 16, by have := lt32 t; omega⟩
def th (t : Fin cfg0.N) : Fin 4 := ⟨t.val / 4 % 4, by omega⟩
def ti (t : Fin cfg0.N) (r : Fin 512) : Fin 2048 := ⟨t.val % 4 * 512 + r.val, by omega⟩

variable (t : Fin cfg0.N)

theorem Q_read (r x) : Q m c t r x = h_v4 m c (ix2 (prow (tb t) (ti t r)) (pc256 (th t) x)) := by
  have := lt32 t
  unfold Q h_v4 prow pc256 tb th ti
  blk_ext [iblk, idx t]

theorem KL_read (r x) : KL m c t r x = h_v10 m c (ix2 ⟨(tb t).val * 2048 + r.val, by omega⟩ (pc256 (th t) x)) := by
  have := lt32 t
  unfold KL X0_1 h_v10 pc256 tb th Pipeline.Window.fill
  rw [dif_pos (moved0_1 t _)]
  blk_ext [iblk, idx t]

theorem KC_read (r x) : KC m c t r x = h_v10 m c (ix2 ⟨4096 + (tb t).val * 256 + r.val, by omega⟩ (pc256 (th t) x)) := by
  have := lt32 t
  unfold KC h_v10 pc256 tb th
  blk_ext [iblk, idx t]

theorem VL_read (r x) : VL m c t r x = h_v14 m c (ix2 ⟨(tb t).val * 2048 + r.val, by omega⟩ (pc128 (th t) x)) := by
  have := lt32 t
  unfold VL X0_3 h_v14 pc128 tb th Pipeline.Window.fill
  rw [dif_pos (moved0_3 t _)]
  blk_ext [iblk, idx t]

theorem VC_read (r x) : VC m c t r x = h_v14 m c (ix2 ⟨4096 + (tb t).val * 256 + r.val, by omega⟩ (pc128 (th t) x)) := by
  have := lt32 t
  unfold VC h_v14 pc128 tb th
  blk_ext [iblk, idx t]

theorem O_read (r x) : O m c t r x = h_v54 m c (ix2 (prow (tb t) (ti t r)) (pc128 (th t) x)) := by
  have := lt32 t
  unfold O h_v54 prow pc128 tb th ti
  blk_ext [iblk, idx t]

theorem read6 (X : S4096x512.Idx → Elt Ideal .f32) (r : Fin 512) (x : Fin 128) :
    ((cfg0.win 6).blk t).view.read (Elt Ideal) X (ix2 r x) = X (ix2 (prow (tb t) (ti t r)) (pc128 (th t) x)) := by
  have := lt32 t
  have e : ((cfg0.win 6).blk t).view.emb (ix2 r x) = ix2 (prow (tb t) (ti t r)) (pc128 (th t) x) := by
    unfold prow pc128 tb th ti
    blk_ext [idx t]
  exact congrArg X e

theorem arr6 : Gen.V m c (Pipeline.arrRef spec0 6) = h_v56 m c := by
  unfold h_v56
  rfl

theorem lse_read (r : Fin 512) (x : Fin 128) : @Eq EReal (iblk m c 6 t (ix2 r x)) (h_v56 m c (ix2 (prow (tb t) (ti t r)) (pc128 (th t) x))) := by
  unfold iblk
  rw [arr6]
  exact read6 t _ r x

theorem L_read (r) : L m c t r = h_v56 m c (ix2 (prow (tb t) (ti t r)) (pc128 (th t) 0)) := lse_read m c t r 0

theorem G_read (r x) : MlaBlk.G m c t r x = h_v58 m c (ix2 (prow (tb t) (ti t r)) ⟨(4 + t.val / 4 % 4) * 128 + x.val, by omega⟩) := by
  have := lt32 t
  unfold MlaBlk.G h_v58 prow tb ti
  blk_ext [iblk, idx t]

/-- The arguments, every one an array of real numbers. -/
structure Args (aq ak : A4 2 2048 4 192) (akc : A4 2 256 4 192) (av : A4 2 2048 4 128) (avc : A4 2 256 4 128) (ad : D3) : Prop where
  q : h_arg0 m c = co aq
  k : h_arg1 m c = co ak
  kc : h_arg2 m c = co akc
  v : h_arg3 m c = co av
  vc : h_arg4 m c = co avc
  d : ∀ b i h e, @Eq EReal (h_arg5 m c (ix3 b i (dcol h e))) (MlaReal.G ad b i h e : EReal)

variable {m c}
variable {aq ak : A4 2 2048 4 192} {akc : A4 2 256 4 192} {av : A4 2 2048 4 128} {avc : A4 2 256 4 128} {ad : D3} (A : Args m c aq ak akc av avc ad)
include A

theorem Q_at (r x) : Q m c t r x = (padded (fun d => aq (ix4 (tb t) (ti t r) (th t) d) * lit) x : EReal) := by
  rw [Q_read, v4_at aq m c A.q]
  simp only [row_div, row_mod, c256_div, c256_mod]

theorem KL_at (j x) : KL m c t j x = (padded (K ak akc (tb t) (kl j) (th t)) x : EReal) := by
  have e1 (h) : (⟨((tb t).val * 2048 + j.val) / 2048, h⟩ : Fin 2) = tb t := Fin.ext (by simp only []; omega)
  have e2 (h) : (⟨((tb t).val * 2048 + j.val) % 2048, h⟩ : Fin 2048) = j := Fin.ext (by simp only []; omega)
  rw [KL_read, v10_lat ak m c A.k _ (by simp only []; omega)]
  simp only [e1, e2, c256_div, c256_mod]
  exact congrArg (fun f => (padded f x : EReal)) (funext fun d => (K_kl ak akc (tb t) j (th t) d).symm)

theorem KC_at (j x) : KC m c t j x = (padded (K ak akc (tb t) (kc j) (th t)) x : EReal) := by
  have e1 (h) : (⟨(4096 + (tb t).val * 256 + j.val - 4096) / 256, h⟩ : Fin 2) = tb t := Fin.ext (by simp only []; omega)
  have e2 (h) : (⟨(4096 + (tb t).val * 256 + j.val - 4096) % 256, h⟩ : Fin 256) = j := Fin.ext (by simp only []; omega)
  rw [KC_read, v10_ctx akc m c A.kc _ (by simp only []; omega)]
  simp only [e1, e2, c256_div, c256_mod]
  exact congrArg (fun f => (padded f x : EReal)) (funext fun d => (K_kc ak akc (tb t) j (th t) d).symm)

theorem VL_at (j x) : VL m c t j x = (MlaReal.V av avc (tb t) (kl j) (th t) x : EReal) := by
  have e1 (h) : (⟨((tb t).val * 2048 + j.val) / 2048, h⟩ : Fin 2) = tb t := Fin.ext (by simp only []; omega)
  have e2 (h) : (⟨((tb t).val * 2048 + j.val) % 2048, h⟩ : Fin 2048) = j := Fin.ext (by simp only []; omega)
  rw [VL_read, v14_lat av m c A.v _ (by simp only []; omega)]
  simp only [e1, e2, c128_div, c128_mod, V_kl]

theorem VC_at (j x) : VC m c t j x = (MlaReal.V av avc (tb t) (kc j) (th t) x : EReal) := by
  have e1 (h) : (⟨(4096 + (tb t).val * 256 + j.val - 4096) / 256, h⟩ : Fin 2) = tb t := Fin.ext (by simp only []; omega)
  have e2 (h) : (⟨(4096 + (tb t).val * 256 + j.val - 4096) % 256, h⟩ : Fin 256) = j := Fin.ext (by simp only []; omega)
  rw [VC_read, v14_ctx avc m c A.vc _ (by simp only []; omega)]
  simp only [e1, e2, c128_div, c128_mod, V_kc]

theorem G_at (r x) : MlaBlk.G m c t r x = (MlaReal.G ad (tb t) (ti t r) (th t) x : EReal) := by
  rw [G_read, v58_at, ← A.d]
  simp only [row_div, row_mod]
  exact congrArg (fun k => h_arg5 m c (ix3 _ _ k)) (Fin.ext (by show (4 + t.val / 4 % 4) * 128 + x.val = 512 + (t.val / 4 % 4 * 128 + x.val); omega))

/-- A row's weights are its softmax, and its score gradients the softmax's gradient. -/
theorem row_at {n : ℕ} (r : Fin 512) (KF : Fin n → Fin 256 → EReal) (VF : Fin n → Fin 128 → EReal) (em : Fin n → Fin 2304)
    (hK : ∀ j x, KF j x = (padded (K ak akc (tb t) (em j) (th t)) x : EReal)) (hV : ∀ j x, VF j x = (MlaReal.V av avc (tb t) (em j) (th t) x : EReal)) (j : Fin n) :
    wt (Q m c t) KF (L m c t) r j = (P lit aq ak akc (tb t) (th t) (ti t r) (em j) : EReal)
      ∧ ds (Q m c t) KF (L m c t) (MlaBlk.G m c t) VF (O m c t) r j = (DS lit aq ak akc av avc ad (tb t) (th t) (ti t r) (em j) : EReal) := by
  obtain ⟨M, hm⟩ := v28_real aq ak akc m c A.q A.k A.kc (tb t) (th t) (ti t r)
  have hL : L m c t r = ((M + Real.log (Attn.tot (sc lit aq ak akc (tb t) (th t) (ti t r)) M) : ℝ) : EReal) := by
    rw [L_read, v56_at]
    simp only [row_div, row_mod, c128_div, c128_mod]
    exact v52_at aq ak akc m c A.q A.k A.kc _ _ _ hm _
  have hO (e) : O m c t r e = (((∑ k, Real.exp (sc lit aq ak akc (tb t) (th t) (ti t r) k - M) * MlaReal.V av avc (tb t) k (th t) e)
      * (1 / Attn.tot (sc lit aq ak akc (tb t) (th t) (ti t r)) M) : ℝ) : EReal) := by
    rw [O_read, v54_at]
    simp only [row_div, row_mod, c128_div, c128_mod]
    exact v49_at aq ak akc av avc m c A.q A.k A.kc _ _ _ hm A.v A.vc e
  have hw : wt (Q m c t) KF (L m c t) r j = (P lit aq ak akc (tb t) (th t) (ti t r) (em j) : EReal) := by
    unfold wt
    simp only [Q_at t A, hK]
    rw [sum_padded, hL, ← EReal.coe_sub, Scal.exp_coe]
    have e : ∑ d, aq (ix4 (tb t) (ti t r) (th t) d) * lit * K ak akc (tb t) (em j) (th t) d = sc lit aq ak akc (tb t) (th t) (ti t r) (em j) := by
      unfold sc
      rw [Finset.sum_mul]
      exact Finset.sum_congr rfl fun d _ => by ring
    rw [e, Attn.soft_lse]
    rfl
  refine ⟨hw, ?_⟩
  unfold ds
  rw [hw]
  simp only [G_at t A, hV, hO, ← EReal.coe_mul, ← Attn.coe_sum, ← EReal.coe_sub]
  rw [Attn.delta_eq]
  rfl

theorem wtL_at (r j) : wt (Q m c t) (KL m c t) (L m c t) r j = (P lit aq ak akc (tb t) (th t) (ti t r) (kl j) : EReal) :=
  (row_at t A r _ _ kl (KL_at t A) (VL_at t A) j).1
theorem wtC_at (r j) : wt (Q m c t) (KC m c t) (L m c t) r j = (P lit aq ak akc (tb t) (th t) (ti t r) (kc j) : EReal) :=
  (row_at t A r _ _ kc (KC_at t A) (VC_at t A) j).1
theorem dsL_at (r j) : dsL m c t r j = (DS lit aq ak akc av avc ad (tb t) (th t) (ti t r) (kl j) : EReal) :=
  (row_at t A r _ _ kl (KL_at t A) (VL_at t A) j).2
theorem dsC_at (r j) : dsC m c t r j = (DS lit aq ak akc av avc ad (tb t) (th t) (ti t r) (kc j) : EReal) :=
  (row_at t A r _ _ kc (KC_at t A) (VC_at t A) j).2

/-- The gradient of the scaled query of a row. -/
theorem dq_at (r : Fin 512) (x : Fin 256) :
    (outsAt0 m c t.val t.isLt).1 (ix2 r x) = (padded (DQ lit aq ak akc av avc ad (tb t) (ti t r) (th t)) x : EReal) := by
  rw [MlaOut.dq_out]
  show ∑ j, dsC m c t r j * KC m c t j x + ∑ j, dsL m c t r j * KL m c t j x = _
  simp only [dsC_at t A, KC_at t A, dsL_at t A, KL_at t A, ← EReal.coe_mul, ← Attn.coe_sum, ← EReal.coe_add]
  rw [add_comm, ← sum_keys (fun k => DS lit aq ak akc av avc ad (tb t) (th t) (ti t r) k * padded (K ak akc (tb t) k (th t)) x)]
  refine congrArg _ ?_
  unfold padded DQ
  split <;> simp

omit A in
/-- The rows of a head's four points are its 2048 rows. -/
theorem sum_rows (f : Fin 2048 → ℝ) (u : Fin 8) :
    ∑ s : Fin 4, ∑ r : Fin 512, (f (ti ⟨4 * u.val + s.val, lt_of_lt_of_eq (by omega) N_0.symm⟩ r) : EReal) = ((∑ i, f i : ℝ) : EReal) := by
  have e : ∑ s : Fin 4, ∑ r : Fin 512, f (ti ⟨4 * u.val + s.val, lt_of_lt_of_eq (by omega) N_0.symm⟩ r) = ∑ i, f i := by
    rw [← (finProdFinEquiv (m := 4) (n := 512)).sum_comp, Fintype.sum_prod_type]
    refine Finset.sum_congr rfl fun s _ => Finset.sum_congr rfl fun r _ => congrArg f (Fin.ext ?_)
    simp only [ti, finProdFinEquiv_apply_val]
    omega
  rw [← e]
  simp only [Attn.coe_sum]

omit A in
theorem tb_run (s : Fin 4) (h) : tb ⟨4 * (t.val / 4) + s.val, h⟩ = tb t := Fin.ext (by simp only [tb]; omega)
omit A in
theorem th_run (s : Fin 4) (h) : th ⟨4 * (t.val / 4) + s.val, h⟩ = th t := Fin.ext (by simp only [th]; omega)

/-- The gradients a head's last point writes. -/
theorem dkl_at (h1 : t.val % 4 = 3) (j : Fin 2048) (x : Fin 256) :
    (outsAt0 m c t.val t.isLt).2.1 (ix2 j x) = (padded (DK lit aq ak akc av avc ad (tb t) (kl j) (th t)) x : EReal) := by
  have := lt32 t
  rw [MlaOut.dkl_sum m c t h1]
  show ∑ s : Fin 4, ∑ r, dsL m c ⟨4 * (t.val / 4) + s.val, _⟩ r j * Q m c ⟨4 * (t.val / 4) + s.val, _⟩ r x = _
  simp only [dsL_at _ A, Q_at _ A, tb_run, th_run, ← EReal.coe_mul]
  refine (sum_rows (fun i => DS lit aq ak akc av avc ad (tb t) (th t) i (kl j) * padded (fun d => aq (ix4 (tb t) i (th t) d) * lit) x) ⟨t.val / 4, by omega⟩).trans (congrArg _ ?_)
  unfold padded DK
  split <;> simp

theorem dkc_at (h1 : t.val % 4 = 3) (j : Fin 256) (x : Fin 256) :
    (outsAt0 m c t.val t.isLt).2.2.1 (ix2 j x) = (padded (DK lit aq ak akc av avc ad (tb t) (kc j) (th t)) x : EReal) := by
  have := lt32 t
  rw [MlaOut.dkc_sum m c t h1]
  show ∑ s : Fin 4, ∑ r, dsC m c ⟨4 * (t.val / 4) + s.val, _⟩ r j * Q m c ⟨4 * (t.val / 4) + s.val, _⟩ r x = _
  simp only [dsC_at _ A, Q_at _ A, tb_run, th_run, ← EReal.coe_mul]
  refine (sum_rows (fun i => DS lit aq ak akc av avc ad (tb t) (th t) i (kc j) * padded (fun d => aq (ix4 (tb t) i (th t) d) * lit) x) ⟨t.val / 4, by omega⟩).trans (congrArg _ ?_)
  unfold padded DK
  split <;> simp

theorem dvl_at (h1 : t.val % 4 = 3) (j : Fin 2048) (x : Fin 128) :
    (outsAt0 m c t.val t.isLt).2.2.2.1 (ix2 j x) = (DV lit aq ak akc ad (tb t) (kl j) (th t) x : EReal) := by
  have := lt32 t
  rw [MlaOut.dvl_sum m c t h1]
  show ∑ s : Fin 4, ∑ r, wt (Q m c ⟨4 * (t.val / 4) + s.val, _⟩) (KL m c ⟨4 * (t.val / 4) + s.val, _⟩) (L m c ⟨4 * (t.val / 4) + s.val, _⟩) r j
    * MlaBlk.G m c ⟨4 * (t.val / 4) + s.val, _⟩ r x = _
  simp only [wtL_at _ A, G_at _ A, tb_run, th_run, ← EReal.coe_mul]
  exact sum_rows (fun i => P lit aq ak akc (tb t) (th t) i (kl j) * MlaReal.G ad (tb t) i (th t) x) ⟨t.val / 4, by omega⟩

theorem dvc_at (h1 : t.val % 4 = 3) (j : Fin 256) (x : Fin 128) :
    (outsAt0 m c t.val t.isLt).2.2.2.2.1 (ix2 j x) = (DV lit aq ak akc ad (tb t) (kc j) (th t) x : EReal) := by
  have := lt32 t
  rw [MlaOut.dvc_sum m c t h1]
  show ∑ s : Fin 4, ∑ r, wt (Q m c ⟨4 * (t.val / 4) + s.val, _⟩) (KC m c ⟨4 * (t.val / 4) + s.val, _⟩) (L m c ⟨4 * (t.val / 4) + s.val, _⟩) r j
    * MlaBlk.G m c ⟨4 * (t.val / 4) + s.val, _⟩ r x = _
  simp only [wtC_at _ A, G_at _ A, tb_run, th_run, ← EReal.coe_mul]
  exact sum_rows (fun i => P lit aq ak akc (tb t) (th t) i (kc j) * MlaReal.G ad (tb t) i (th t) x) ⟨t.val / 4, by omega⟩

omit A in
theorem outDQ_at (b : Fin 2) (i : Fin 2048) (h : Fin 4) (x : Fin 256) :
    outDQ lit aq ak akc av avc ad (prow b i) (pc256 h x) = padded (DQ lit aq ak akc av avc ad b i h) x := by
  have e : (pc256 h x).val % 256 = x.val := congrArg Fin.val (c256_mod h x (Nat.mod_lt _ (by decide)))
  unfold outDQ
  simp only [e, row_div, row_mod, c256_div]
  rfl

omit A in
theorem outDK_at (b : Fin 2) (j : Fin 2048) (h : Fin 4) (x : Fin 256) :
    outDK lit aq ak akc av avc ad (prow b j) (pc256 h x) = padded (DK lit aq ak akc av avc ad b (kl j) h) x := by
  have e : (pc256 h x).val % 256 = x.val := congrArg Fin.val (c256_mod h x (Nat.mod_lt _ (by decide)))
  have e' (g) : (⟨256 + (prow b j).val % 2048, g⟩ : Fin 2304) = kl j := Fin.ext (by simp only [prow, kl]; omega)
  unfold outDK
  simp only [e, e', row_div, c256_div]
  rfl

/-- A packed row of the context. -/
def crow (b : Fin 2) (j : Fin 256) : Fin 512 := ⟨b.val * 256 + j.val, by omega⟩

omit A in
theorem crow_div (b : Fin 2) (j : Fin 256) (h) : (⟨(crow b j).val / 256, h⟩ : Fin 2) = b := Fin.ext (by simp only [crow]; omega)
omit A in
theorem crow_mod (b : Fin 2) (j : Fin 256) (h) : (⟨(crow b j).val % 256, h⟩ : Fin 2304) = kc j := Fin.ext (by simp only [crow, kc]; omega)

omit A in
theorem outDKC_at (b : Fin 2) (j : Fin 256) (h : Fin 4) (x : Fin 256) :
    outDKC lit aq ak akc av avc ad (crow b j) (pc256 h x) = padded (DK lit aq ak akc av avc ad b (kc j) h) x := by
  have e : (pc256 h x).val % 256 = x.val := congrArg Fin.val (c256_mod h x (Nat.mod_lt _ (by decide)))
  unfold outDKC
  simp only [e, crow_mod, crow_div, c256_div]
  rfl

omit A in
theorem outDV_at (b : Fin 2) (j : Fin 2048) (h : Fin 4) (x : Fin 128) :
    outDV lit aq ak akc ad (prow b j) (pc128 h x) = DV lit aq ak akc ad b (kl j) h x := by
  have e' (g) : (⟨256 + (prow b j).val % 2048, g⟩ : Fin 2304) = kl j := Fin.ext (by simp only [prow, kl]; omega)
  unfold outDV
  simp only [e', row_div, c128_div, c128_mod]

omit A in
theorem outDVC_at (b : Fin 2) (j : Fin 256) (h : Fin 4) (x : Fin 128) :
    outDVC lit aq ak akc ad (crow b j) (pc128 h x) = DV lit aq ak akc ad b (kc j) h x := by
  unfold outDVC
  simp only [crow_mod, crow_div, c128_div, c128_mod]

/-- The five result arrays. -/
theorem arr_dq : (dats m 0 c).arrAt 8 cfg0.N = fun i => (outDQ lit aq ak akc av avc ad (i 0) (i 1) : EReal) := by
  refine (dats m 0 c).arrAt_eq_of_covers 8 _ (by decide +kernel) fun t hf y => ?_
  have := lt32 t
  blk_simp
  rw [after0_8]
  idx_vars y
  have e : ((cfg0.win 8).blk t).view.emb (ix2 y0 y1) = ix2 (prow (tb t) (ti t y0)) (pc256 (th t) y1) := by
    unfold prow pc256 tb th ti
    blk_ext [idx t]
  rw [dq_at t A, ← outDQ_at]
  exact (congrArg (fun i : S4096x1024.Idx => (outDQ lit aq ak akc av avc ad (i 0) (i 1) : EReal)) e).symm

theorem arr_dkl : (dats m 0 c).arrAt 9 cfg0.N = fun i => (outDK lit aq ak akc av avc ad (i 0) (i 1) : EReal) := by
  refine (dats m 0 c).arrAt_eq_of_covers 9 _ (by decide +kernel) fun t hf y => ?_
  have := lt32 t
  blk_simp
  rw [after0_9]
  idx_vars y
  have e : ((cfg0.win 9).blk t).view.emb (ix2 y0 y1) = ix2 (prow (tb t) y0) (pc256 (th t) y1) := by
    unfold prow pc256 tb th
    blk_ext [idx t]
  rw [dkl_at t A ((flush0_9 t).mp hf), ← outDK_at]
  exact (congrArg (fun i : S4096x1024.Idx => (outDK lit aq ak akc av avc ad (i 0) (i 1) : EReal)) e).symm

theorem arr_dkc : (dats m 0 c).arrAt 10 cfg0.N = fun i => (outDKC lit aq ak akc av avc ad (i 0) (i 1) : EReal) := by
  refine (dats m 0 c).arrAt_eq_of_covers 10 _ (by decide +kernel) fun t hf y => ?_
  have := lt32 t
  blk_simp
  rw [after0_10]
  idx_vars y
  have e : ((cfg0.win 10).blk t).view.emb (ix2 y0 y1) = ix2 (crow (tb t) y0) (pc256 (th t) y1) := by
    unfold crow pc256 tb th
    blk_ext [idx t]
  rw [dkc_at t A ((flush0_10 t).mp hf), ← outDKC_at]
  exact (congrArg (fun i : S512x1024.Idx => (outDKC lit aq ak akc av avc ad (i 0) (i 1) : EReal)) e).symm

theorem arr_dvl : (dats m 0 c).arrAt 11 cfg0.N = fun i => (outDV lit aq ak akc ad (i 0) (i 1) : EReal) := by
  refine (dats m 0 c).arrAt_eq_of_covers 11 _ (by decide +kernel) fun t hf y => ?_
  have := lt32 t
  blk_simp
  rw [after0_11]
  idx_vars y
  have e : ((cfg0.win 11).blk t).view.emb (ix2 y0 y1) = ix2 (prow (tb t) y0) (pc128 (th t) y1) := by
    unfold prow pc128 tb th
    blk_ext [idx t]
  rw [dvl_at t A ((flush0_11 t).mp hf), ← outDV_at]
  exact (congrArg (fun i : S4096x512.Idx => (outDV lit aq ak akc ad (i 0) (i 1) : EReal)) e).symm

theorem arr_dvc : (dats m 0 c).arrAt 12 cfg0.N = fun i => (outDVC lit aq ak akc ad (i 0) (i 1) : EReal) := by
  refine (dats m 0 c).arrAt_eq_of_covers 12 _ (by decide +kernel) fun t hf y => ?_
  have := lt32 t
  blk_simp
  rw [after0_12]
  idx_vars y
  have e : ((cfg0.win 12).blk t).view.emb (ix2 y0 y1) = ix2 (crow (tb t) y0) (pc128 (th t) y1) := by
    unfold crow pc128 tb th
    blk_ext [idx t]
  rw [dvc_at t A ((flush0_12 t).mp hf), ← outDVC_at]
  exact (congrArg (fun i : S512x512.Idx => (outDVC lit aq ak akc ad (i 0) (i 1) : EReal)) e).symm

end Cert.Proof.MlaRows

end
-- ==== Proof.MlaRef.lean ====
/- The reference's five gradients, read at an index on finite arguments, are those of the real-number attention. -/
module

public import proofs.«01_k».proof.Proof.Keys
public import proofs.«01_k».proof.Proof.Scal
public import proofs.«01_k».proof.Proof.Gen.Reference2Ideal.Read

@[expose] public section

set_option maxRecDepth 16384

noncomputable section

open Idealize.ShloMosaic Idealize.ShloMosaic.TcCoe Idealize.SL.Sem

namespace Cert.Proof.MlaRef

open Cert.Reference2Ideal Cert.Reference2Ideal.Read MlaReal Keys

variable (aq ak : A4 2 2048 4 192) (akc : A4 2 256 4 192) (av : A4 2 2048 4 128) (avc : A4 2 256 4 128) (ad : D3)

theorem v0_at (b k h d) : val_main_v0 (F := Ideal) (co ak) (co akc) (ix4 b k h d) = (K ak akc b k h d : EReal) := by
  pointwise [val_main_v0]
  unfold K co
  split <;> rfl

theorem v1_at (b k h e) : val_main_v1 (F := Ideal) (co av) (co avc) (ix4 b k h e) = (V av avc b k h e : EReal) := by
  pointwise [val_main_v1]
  unfold V co
  split <;> rfl

theorem v4_at (b h i k) : val_main_v4 (F := Ideal) (co aq) (co ak) (co akc) (ix4 b h i k) = (sc lit aq ak akc b h i k : EReal) := by
  pointwise [val_main_v4, val_main_v2, val_main_v3, val_main_cst]
  simp only [v0_at, lit_eq, sc, EReal.coe_mul, Attn.coe_sum, co]

theorem v5_real (j) : ∃ r : ℝ, val_main_v5 (F := Ideal) (co aq) (co ak) (co akc) j = (r : EReal) := by
  have hx : ∀ j, ∃ r : ℝ, val_main_v4 (F := Ideal) (co aq) (co ak) (co akc) j = (r : EReal) := by
    intro j; rw [eq_ix4 j]; exact ⟨_, v4_at aq ak akc _ _ _ _⟩
  unfold val_main_v5
  generalize val_main_v4 (F := Ideal) (co aq) (co ak) (co akc) = x at hx
  have hi : ∀ k, val_main_cst_0 (F := Ideal) k = ⊥ := fun _ => bot_lit
  generalize val_main_cst_0 (F := Ideal) = y at hi
  exact reduce_max_real x hx y hi _ (by decide) _ (by decide) j

/-- The row maximum the reference subtracts is a real number. -/
theorem v12_real (b h i) : ∃ r : ℝ, val_main_v12 (F := Ideal) (co aq) (co ak) (co akc) (ix3 b h i) = (r : EReal) := by
  obtain ⟨r, hr⟩ := v5_real aq ak akc (ix3 b h i)
  refine ⟨r, ?_⟩
  rw [val_main_v12_apply, hr]
  have e : val_main_v11 (F := Ideal) (ix3 b h i) = ⊥ := by
    pointwise [val_main_v11, val_main_cst_2]
    exact bot_lit
  rw [e]
  exact max_eq_right bot_le

variable (xd : FVec Ideal S2x2048x1024 .f32) (hxd : ∀ b i h e, @Eq EReal (xd (ix3 b i (dcol h e))) (G ad b i h e : EReal))
variable (b : Fin 2) (h : Fin 4) (i : Fin 2048) {m : ℝ} (hm : val_main_v12 (F := Ideal) (co aq) (co ak) (co akc) (ix3 b h i) = (m : EReal))
include hm

theorem v25_at (k) : val_main_v25 (F := Ideal) (co aq) (co ak) (co akc) (ix4 b h i k) = (Real.exp (sc lit aq ak akc b h i k - m) : EReal) := by
  pointwise [val_main_v25, val_main_v24, val_main_v23, val_main_v22]
  rw [v4_at, hm, ← EReal.coe_sub, Scal.exp_coe]

theorem v27_at : val_main_v27 (F := Ideal) (co aq) (co ak) (co akc) (ix4 b h i 0) = (Attn.tot (sc lit aq ak akc b h i) m : EReal) := by
  pointwise [val_main_v27, val_main_v26, val_main_cst_8]
  simp only [v25_at aq ak akc b h i hm, Attn.tot, Attn.coe_sum]

theorem v29_at (k) : val_main_v29 (F := Ideal) (co aq) (co ak) (co akc) (ix4 b h i k) = (P lit aq ak akc b h i k : EReal) := by
  pointwise [val_main_v29, val_main_v28]
  rw [v25_at aq ak akc b h i hm, v27_at aq ak akc b h i hm, Scal.div_coe _ _ (Attn.tot_pos _ _).ne', Attn.soft_shift]
  rfl

omit hm in
include hxd in
theorem v39_at (k) : val_main_v39 (F := Ideal) (co av) (co avc) xd (ix4 b h i k) = (dP av avc ad b h i k : EReal) := by
  pointwise [val_main_v39, val_main_v38, val_main_v37, val_main_v36]
  simp only [v1_at, hxd, dP, EReal.coe_mul, Attn.coe_sum]

include hxd in
theorem v53_at (k) : val_main_v53 (F := Ideal) (co aq) (co ak) (co akc) (co av) (co avc) xd (ix4 b h i k) = (DS lit aq ak akc av avc ad b h i k : EReal) := by
  pointwise [val_main_v53, val_main_v52, val_main_v51, val_main_v50, val_main_v49, val_main_v48, val_main_v47, val_main_v46, val_main_v45,
    val_main_v44, val_main_v43, val_main_v42, val_main_v32, val_main_v31, val_main_v30, val_main_cst_9, val_main_cst_10, val_main_cst_11]
  have hp := Attn.tot_pos (sc lit aq ak akc b h i) m
  simp only [Fin.sum_univ_one, v25_at aq ak akc b h i hm, v27_at aq ak akc b h i hm, v39_at av avc ad xd hxd, ← EReal.coe_mul]
  rw [← EReal.coe_one, Scal.div_coe _ _ (mul_pos hp hp).ne', Scal.div_coe _ _ hp.ne']
  simp only [← EReal.coe_mul, ← Attn.coe_sum, ← EReal.coe_neg, ← EReal.coe_add]
  rw [Attn.dsoft_ref]
  rfl

omit hm
omit b h i
include hxd

theorem v53_all (b h i k) : val_main_v53 (F := Ideal) (co aq) (co ak) (co akc) (co av) (co avc) xd (ix4 b h i k) = (DS lit aq ak akc av avc ad b h i k : EReal) := by
  obtain ⟨m, hm⟩ := v12_real aq ak akc b h i
  exact v53_at aq ak akc av avc ad xd hxd b h i hm k

omit hxd in
theorem v29_all (b h i k) : val_main_v29 (F := Ideal) (co aq) (co ak) (co akc) (ix4 b h i k) = (P lit aq ak akc b h i k : EReal) := by
  obtain ⟨m, hm⟩ := v12_real aq ak akc b h i
  exact v29_at aq ak akc b h i hm k

theorem v55_at (b h i k) : val_main_v55 (F := Ideal) (co aq) (co ak) (co akc) (co av) (co avc) xd (ix4 b h i k) = ((DS lit aq ak akc av avc ad b h i k * lit : ℝ) : EReal) := by
  pointwise [val_main_v55, val_main_v54, val_main_cst_12]
  rw [v53_all aq ak akc av avc ad xd hxd, lit_eq, ← EReal.coe_mul]

theorem v59_at (b i h d) : val_main_v59 (F := Ideal) (co aq) (co ak) (co akc) (co av) (co avc) xd (ix4 b i h d) = ((DQ lit aq ak akc av avc ad b i h d * lit : ℝ) : EReal) := by
  pointwise [val_main_v59, val_main_v58]
  simp only [v55_at aq ak akc av avc ad xd hxd, v0_at, ← EReal.coe_mul, ← Attn.coe_sum, DQ, Finset.sum_mul]
  exact congrArg _ (Finset.sum_congr rfl fun k _ => by ring)

theorem v57_at (b k h d) : val_main_v57 (F := Ideal) (co aq) (co ak) (co akc) (co av) (co avc) xd (ix4 b k h d) = (DK lit aq ak akc av avc ad b k h d : EReal) := by
  pointwise [val_main_v57, val_main_v56]
  simp only [v55_at aq ak akc av avc ad xd hxd, co, ← EReal.coe_mul, ← Attn.coe_sum, DK]
  exact congrArg _ (Finset.sum_congr rfl fun k _ => by ring)

theorem v41_at (b k h e) : val_main_v41 (F := Ideal) (co aq) (co ak) (co akc) xd (ix4 b k h e) = (DV lit aq ak akc ad b k h e : EReal) := by
  pointwise [val_main_v41, val_main_v40, val_main_v38, val_main_v37, val_main_v36]
  simp only [v29_all, hxd, co, ← EReal.coe_mul, ← Attn.coe_sum, DV]
  exact congrArg _ (Finset.sum_congr rfl fun k _ => by ring)

theorem dq_at (r c) : val_main_v68 (F := Ideal) (co aq) (co ak) (co akc) (co av) (co avc) xd (ix2 r c) = (outDQ lit aq ak akc av avc ad r c : EReal) := by
  pointwise [val_main_v68, val_main_v67, val_main_v66, val_main_v65, val_main_v64, val_main_cst_13, val_main_call0_v0]
  unfold outDQ
  split_ifs <;> first | omega | skip
  · rw [v59_at _ _ _ _ _ _ xd hxd, lit_eq, Scal.div_coe _ _ lit_ne, mul_div_cancel_right₀ _ lit_ne]
  · exact pad0

theorem dk_at (r c) : val_main_v71 (F := Ideal) (co aq) (co ak) (co akc) (co av) (co avc) xd (ix2 r c) = (outDK lit aq ak akc av avc ad r c : EReal) := by
  pointwise [val_main_v71, val_main_v70, val_main_v69, val_main_v63, val_main_call1_v0]
  unfold outDK
  split_ifs <;> first | omega | skip
  · rw [v57_at aq ak akc av avc ad xd hxd]
  · exact pad0

theorem dkc_at (r c) : val_main_v74 (F := Ideal) (co aq) (co ak) (co akc) (co av) (co avc) xd (ix2 r c) = (outDKC lit aq ak akc av avc ad r c : EReal) := by
  pointwise [val_main_v74, val_main_v73, val_main_v72, val_main_v62, val_main_call2_v0]
  unfold outDKC
  split_ifs <;> first | omega | skip
  · rw [v57_at aq ak akc av avc ad xd hxd]
  · exact pad0

theorem dv_at (r c) : val_main_v76 (F := Ideal) (co aq) (co ak) (co akc) xd (ix2 r c) = (outDV lit aq ak akc ad r c : EReal) := by
  pointwise [val_main_v76, val_main_v75, val_main_v61]
  rw [v41_at aq ak akc ad xd hxd]
  rfl

theorem dvc_at (r c) : val_main_v78 (F := Ideal) (co aq) (co ak) (co akc) xd (ix2 r c) = (outDVC lit aq ak akc ad r c : EReal) := by
  pointwise [val_main_v78, val_main_v77, val_main_v60]
  rw [v41_at aq ak akc ad xd hxd]
  rfl

end Cert.Proof.MlaRef

end
-- ==== Proof.Finite.lean ====
/- An array whose greatest absolute value is below infinity is an array of real numbers. -/
module

public import Idealize.ShloMosaic.PureOps.Ideal
public import Idealize.ShloMosaic.Lib.Pointwise
public import Idealize.ShloMosaic.Lib.ReduceAll
public import Idealize.ShloMosaic.Lib.Affine

@[expose] public section

noncomputable section

namespace Cert.Proof.Finite

open Idealize.ShloMosaic

theorem le_foldl {ι : Type} (f : ι → EReal) : ∀ (l : List ι) (a : EReal), a ≤ l.foldl (fun r n => max r (f n)) a
  | [], _ => le_rfl
  | b :: l, a => (le_max_left a (f b)).trans (le_foldl f l _)

/-- A running maximum is at least each of its terms. -/
theorem mem_le_foldl {ι : Type} (f : ι → EReal) : ∀ (l : List ι) (a : EReal), ∀ n ∈ l, f n ≤ l.foldl (fun r n => max r (f n)) a
  | b :: l, a, n, h => by
    rcases List.mem_cons.1 h with e | h
    · subst e
      exact (le_max_right a (f n)).trans (le_foldl f l _)
    · exact mem_le_foldl f l _ n h

theorem real_of_abs {x : EReal} (h : max x (-x) < ⊤) : ∃ r : ℝ, x = (r : EReal) := by
  induction x with
  | bot => simp at h
  | top => simp at h
  | coe r => exact ⟨r, rfl⟩

theorem top_lit : Ideal.ofBits .f32 0x7F800000#32 = ⊤ := by simp [Ideal.ofBits, Ideal.ieee]

variable {s t u : Shape} {axes : List (Fin s.rank)}

theorem finite_of [Subsingleton t.Idx] (x : FVec Ideal s .f32) (init : FVec Ideal u .f32) (h : s.ReducesTo axes t) (hu : 0 < u.numel) (j : t.Idx)
    (e : cmpf .olt (Host.reduce (FloatOps.maximumf (F := Ideal) (φ := .f32)) (Host.absf x) init h hu) (constant t .f32 0x7F800000#32) j = 1#1) (i : s.Idx) :
    ∃ r : ℝ, @Eq EReal (x i) (r : EReal) := by
  have e' : @LT.lt EReal _ (Host.reduce (FloatOps.maximumf (F := Ideal) (φ := .f32)) (Host.absf x) init h hu j) ⊤ := by
    have e2 : Ideal.cmp .olt (Host.reduce (FloatOps.maximumf (F := Ideal) (φ := .f32)) (Host.absf x) init h hu j) (Ideal.ofBits .f32 0x7F800000#32) = 1#1 := e
    generalize Host.reduce (FloatOps.maximumf (F := Ideal) (φ := .f32)) (Host.absf x) init h hu j = y at e2 ⊢
    rw [top_lit] at e2
    by_contra hc
    rw [Ideal.cmp, decide_eq_false hc] at e2
    exact absurd e2 (by decide)
  refine real_of_abs (lt_of_le_of_lt ?_ e')
  rw [Host.reduce_eq_foldl]
  exact mem_le_foldl (fun i => max (x i) (-(x i))) _ _ i (List.mem_filter.2 ⟨List.mem_map.2 ⟨s.rowMajor i, List.mem_finRange _, Equiv.symm_apply_apply _ _⟩, by simp [Subsingleton.elim (h.drop i) j]⟩)

end Cert.Proof.Finite

end
-- ==== Proof.MlaClaim.lean ====
/- The attention claim: on finite arguments the kernel's five gradients are the reference's. -/
module

public import proofs.«01_k».proof.Proof.MlaRows
public import proofs.«01_k».proof.Proof.MlaRef
public import proofs.«01_k».proof.Proof.Finite
public import proofs.«01_k».proof.Defs
public import proofs.«01_k».proof.Proof.Gen.Reference2Ideal.Run
public import proofs.«01_k».proof.Proof.Gen.Kernel2Ideal.Value
public import proofs.«01_k».proof.Proof.Gen.Pre_attention_finite
public import Idealize.ShloMosaic.Adequacy
public import Idealize.ShloMosaic.Init

@[expose] public section

set_option maxRecDepth 16384

noncomputable section

open Idealize.ShloMosaic Idealize.ShloMosaic.TcCoe Idealize.SL.Sem

namespace Cert.Proof.MlaClaim

open MlaReal

/-- The precondition says that the five arrays, and the half of the last that the attention reads, are real numbers. -/
theorem pre_real {x0 x1 : FVec Ideal Cert.Pre_attention_finite.S2x2048x4x192 .f32} {x2 : FVec Ideal Cert.Pre_attention_finite.S2x256x4x192 .f32}
    {x3 : FVec Ideal Cert.Pre_attention_finite.S2x2048x4x128 .f32} {x4 : FVec Ideal Cert.Pre_attention_finite.S2x256x4x128 .f32}
    {x5 : FVec Ideal Cert.Pre_attention_finite.S2x2048x1024 .f32}
    (h : Cert.Pre_attention_finite.fn (F := Ideal) x0 x1 x2 x3 x4 x5 = fun _ => 1#1) :
    (∀ i, ∃ r : ℝ, @Eq EReal (x0 i) (r : EReal)) ∧ (∀ i, ∃ r : ℝ, @Eq EReal (x1 i) (r : EReal)) ∧ (∀ i, ∃ r : ℝ, @Eq EReal (x2 i) (r : EReal))
      ∧ (∀ i, ∃ r : ℝ, @Eq EReal (x3 i) (r : EReal)) ∧ (∀ i, ∃ r : ℝ, @Eq EReal (x4 i) (r : EReal))
      ∧ ∀ i, ∃ r : ℝ, @Eq EReal (extractStridedSlice Cert.Pre_attention_finite.S2x2048x512 ![0, 0, 512] x5
          Cert.Pre_attention_finite.Gen.slices_S2x2048x1024_S2x2048x512_0_0_512 i) (r : EReal) := by
  haveI : Subsingleton Cert.Pre_attention_finite.S_.Idx := ⟨fun a b => funext fun i => i.elim0⟩
  have e := congrFun h (fun i => i.elim0)
  dsimp only [Cert.Pre_attention_finite.fn, Cert.Pre_attention_finite.fn_part1] at e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.finite_of _ _ _ _ _ e0, Finite.finite_of _ _ _ _ _ e1, Finite.finite_of _ _ _ _ _ e2, Finite.finite_of _ _ _ _ _ e3,
    Finite.finite_of _ _ _ _ _ e4, Finite.finite_of _ _ _ _ _ e5⟩

theorem exists_co {S : Shape} {x : FVec Ideal S .f32} (h : ∀ i, ∃ r : ℝ, @Eq EReal (x i) (r : EReal)) : ∃ a : S.Idx → ℝ, x = co a := by
  choose a ha using h
  exact ⟨a, funext ha⟩

/-- The half of the mixed rows' gradient that the attention reads, in real numbers. -/
theorem exists_d {x : FVec Ideal Cert.Pre_attention_finite.S2x2048x1024 .f32}
    (h : ∀ i, ∃ r : ℝ, @Eq EReal (extractStridedSlice Cert.Pre_attention_finite.S2x2048x512 ![0, 0, 512] x
      Cert.Pre_attention_finite.Gen.slices_S2x2048x1024_S2x2048x512_0_0_512 i) (r : EReal)) :
    ∃ ad : D3, ∀ (b : Fin 2) (i : Fin 2048) (k : Fin 4) (e : Fin 128),
      @Eq EReal (x (ix3 b i (dcol k e))) (G ad b i k e : EReal) := by
  refine ⟨fun j => EReal.toReal (x j), fun b i k e => ?_⟩
  obtain ⟨r, q⟩ := h (ix3 b i ⟨k.val * 128 + e.val, by omega⟩)
  have q' : @Eq EReal (x (ix3 b i (dcol k e))) (r : EReal) := by
    rw [← q]
    pointwise
  refine q'.trans (congrArg _ ?_)
  unfold G
  exact (congrArg EReal.toReal q').symm

/-! The kernel's arguments in real numbers. -/

section Args

open Cert.Kernel2Ideal Cert.Kernel2Ideal.Gen MlaStage

variable (m : (ℓ : Loc nD τ sig) → Buf (Elt Ideal) ℓ) (c : Dev nD)

theorem m0 : h_arg0 m c = m ((c.tc : Thread nD τ).loc main_arg0) := V_main_arg0 m c
theorem m1 : h_arg1 m c = m ((c.tc : Thread nD τ).loc main_arg1) := V_main_arg1 m c
theorem m2 : h_arg2 m c = m ((c.tc : Thread nD τ).loc main_arg2) := V_main_arg2 m c
theorem m3 : h_arg3 m c = m ((c.tc : Thread nD τ).loc main_arg3) := V_main_arg3 m c
theorem m4 : h_arg4 m c = m ((c.tc : Thread nD τ).loc main_arg4) := V_main_arg4 m c
theorem m5 : h_arg5 m c = m ((c.tc : Thread nD τ).loc main_arg5) := V_main_arg5 m c
variable {m c}
theorem args_of {aq ak : A4 2 2048 4 192} {akc : A4 2 256 4 192} {av : A4 2 2048 4 128} {avc : A4 2 256 4 128} {ad : D3}
  (h0 : m ((c.tc : Thread nD τ).loc main_arg0) = co aq) (h1 : m ((c.tc : Thread nD τ).loc main_arg1) = co ak)
  (h2 : m ((c.tc : Thread nD τ).loc main_arg2) = co akc) (h3 : m ((c.tc : Thread nD τ).loc main_arg3) = co av)
  (h4 : m ((c.tc : Thread nD τ).loc main_arg4) = co avc)
  (hd : ∀ (b : Fin 2) (i : Fin 2048) (h : Fin 4) (e : Fin 128), @Eq EReal ((m ((c.tc : Thread nD τ).loc main_arg5) : FVec Ideal S2x2048x1024 .f32) (ix3 b i (dcol h e))) (G ad b i h e : EReal)) :
  MlaRows.Args m c aq ak akc av avc ad where
  q := (m0 m c).trans h0
  k := (m1 m c).trans h1
  kc := (m2 m c).trans h2
  v := (m3 m c).trans h3
  vc := (m4 m c).trans h4
  d := fun b i h e => (congrFun (m5 m c) _).trans (hd b i h e)

end Args

section Ref

open Cert.Reference2Ideal Cert.Reference2Ideal.Read MlaRef

variable {x0 x1 : FVec Ideal S2x2048x4x192 .f32} {x2 : FVec Ideal S2x256x4x192 .f32} {x3 : FVec Ideal S2x2048x4x128 .f32} {x4 : FVec Ideal S2x256x4x128 .f32}
  {xd : FVec Ideal S2x2048x1024 .f32} {aq ak : A4 2 2048 4 192} {akc : A4 2 256 4 192} {av : A4 2 2048 4 128} {avc : A4 2 256 4 128} {ad : D3}
  (h0 : x0 = co aq) (h1 : x1 = co ak) (h2 : x2 = co akc) (h3 : x3 = co av) (h4 : x4 = co avc)
  (hd : ∀ (b : Fin 2) (i : Fin 2048) (h : Fin 4) (e : Fin 128), @Eq EReal (xd (ix3 b i (dcol h e))) (G ad b i h e : EReal))
include h0 h1 h2 hd

theorem ref_dv : (fun i => (outDV lit aq ak akc ad (i 0) (i 1) : EReal)) = val_main_v76 (F := Ideal) x0 x1 x2 xd := by
  subst h0 h1 h2
  funext i; rw [eq_ix2 i]; exact (dv_at _ _ _ _ xd hd _ _).symm

theorem ref_dvc : (fun i => (outDVC lit aq ak akc ad (i 0) (i 1) : EReal)) = val_main_v78 (F := Ideal) x0 x1 x2 xd := by
  subst h0 h1 h2
  funext i; rw [eq_ix2 i]; exact (dvc_at _ _ _ _ xd hd _ _).symm

include h3 h4

theorem ref_dq : (fun i => (outDQ lit aq ak akc av avc ad (i 0) (i 1) : EReal)) = val_main_v68 (F := Ideal) x0 x1 x2 x3 x4 xd := by
  subst h0 h1 h2 h3 h4
  funext i; rw [eq_ix2 i]; exact (dq_at _ _ _ _ _ _ xd hd _ _).symm

theorem ref_dk : (fun i => (outDK lit aq ak akc av avc ad (i 0) (i 1) : EReal)) = val_main_v71 (F := Ideal) x0 x1 x2 x3 x4 xd := by
  subst h0 h1 h2 h3 h4
  funext i; rw [eq_ix2 i]; exact (dk_at _ _ _ _ _ _ xd hd _ _).symm

theorem ref_dkc : (fun i => (outDKC lit aq ak akc av avc ad (i 0) (i 1) : EReal)) = val_main_v74 (F := Ideal) x0 x1 x2 x3 x4 xd := by
  subst h0 h1 h2 h3 h4
  funext i; rw [eq_ix2 i]; exact (dkc_at _ _ _ _ _ _ xd hd _ _).symm

end Ref

/-- The reference's frame: a program of host operations declares no semaphore. -/
theorem ref_frame : Cert.quiescent_Reference2Ideal (hReference2Ideal := Cert.Reference2Ideal.Gen.facts) := fun m g _ =>
  (θ_run _ _ _).mono (fun r h => ⟨fun c => (h c).2.2.2.2.2, sem_eq_zero_of_no_sems rfl r.2⟩) (Cert.Reference2Ideal.Value.run (F := Ideal) m g)

set_option maxHeartbeats 4000000 in
/-- The attention claim. -/
theorem algebraic : Cert.algebraic_Kernel2Ideal_Reference2Ideal_pre_attention_finite (hKernel2Ideal := Cert.Kernel2Ideal.Gen.facts)
    (hReference2Ideal := Cert.Reference2Ideal.Gen.facts) (hPre_attention_finite := Cert.Pre_attention_finite.Gen.facts) := by
  intro m g m' g' hpre hagree
  refine ⟨_, _, _, _, _, (θ_run _ _ _).mono (fun r h c => h c) (Cert.Kernel2Ideal.Value.run_blocks (F := Ideal) m g), ?_⟩
  refine (θ_run _ _ _).mono (fun r h c => ?_) (Cert.Reference2Ideal.Value.run (F := Ideal) m' g')
  obtain ⟨h0, h1, h2, h3, h4, hargs⟩ := h c
  obtain ⟨a0, a1, a2, a3, a4, a5⟩ := hagree c
  obtain ⟨p0, p1, p2, p3, p4, p5⟩ := pre_real (hpre c)
  obtain ⟨aq, p0⟩ := exists_co p0
  obtain ⟨ak, p1⟩ := exists_co p1
  obtain ⟨akc, p2⟩ := exists_co p2
  obtain ⟨av, p3⟩ := exists_co p3
  obtain ⟨avc, p4⟩ := exists_co p4
  obtain ⟨ad, p5⟩ := exists_d p5
  have A : MlaRows.Args m c aq ak akc av avc ad := args_of p0 p1 p2 p3 p4 p5
  rw [← a0] at p0
  rw [← a1] at p1
  rw [← a2] at p2
  rw [← a3] at p3
  rw [← a4] at p4
  rw [← a5] at p5
  refine ⟨h0.trans ?_, h1.trans ?_, h2.trans ?_, h3.trans ?_, h4.trans ?_, hargs⟩
  · exact ((Cert.Reference2Ideal.Read.val_main_v68_eq m' c).trans (ref_dq p0 p1 p2 p3 p4 p5).symm).trans (MlaRows.arr_dq A).symm
  · exact ((Cert.Reference2Ideal.Read.val_main_v71_eq m' c).trans (ref_dk p0 p1 p2 p3 p4 p5).symm).trans (MlaRows.arr_dkl A).symm
  · exact ((Cert.Reference2Ideal.Read.val_main_v74_eq m' c).trans (ref_dkc p0 p1 p2 p3 p4 p5).symm).trans (MlaRows.arr_dkc A).symm
  · exact ((Cert.Reference2Ideal.Read.val_main_v76_eq _ _ _ _).trans (ref_dv p0 p1 p2 p5).symm).trans (MlaRows.arr_dvl A).symm
  · exact ((Cert.Reference2Ideal.Read.val_main_v78_eq _ _ _ _).trans (ref_dvc p0 p1 p2 p5).symm).trans (MlaRows.arr_dvc A).symm

end Cert.Proof.MlaClaim

end
-- ==== Proof.FwdStage.lean ====
/- The host lines before the forward kernel, one equation for each operation. -/
module

public import proofs.«01_k».proof.Proof.HostStage
public import proofs.«01_k».proof.Proof.Gen.Kernel3Ideal.Value

@[expose] public section

set_option maxRecDepth 16384

noncomputable section

open Idealize.ShloMosaic Idealize.ShloMosaic.TcCoe Idealize.SL.Sem

namespace Cert.Proof.FwdStage

open Cert.Kernel3Ideal Cert.Kernel3Ideal.Gen

variable {F : FTy → Type} [FloatOps F]

abbrev hostLine : List (HloOp τ sig (Elt F)) := List.flatten [hostOps0, hostOps0_1, hostOps0_2, hostOps0_3, hostOps0_4, hostOps0_5, hostOps0_6]

/-- The buffers the line writes, in order. -/
abbrev written : List (Ref sig .tc) :=
  [main_c, main_call0_v0, main_v0, main_v1, main_cst, main_v2, main_v3, main_v4, main_c_0, main_call1_v0, main_v5, main_v6, main_c_1, main_call2_v0, main_v7, main_v8, main_v9, main_v10, main_v11, main_v12, main_v13, main_v14]

theorem writes : HostStage.Writes (τ := τ) (hostLine (F := F)) written := rfl

variable (m : (ℓ : Loc nD τ sig) → Buf (Elt F) ℓ) (c : Dev nD)

/-! What each buffer holds at the end of the line. -/

def h_c : (⟨S_, .i32⟩ : BufTy).Contents (Elt F) := V m c main_c
def h_call0_v0 : (⟨S_, .f32⟩ : BufTy).Contents (Elt F) := V m c main_call0_v0
def h_arg0 : (⟨S2x2048x4x192, .f32⟩ : BufTy).Contents (Elt F) := V m c main_arg0
def h_v0 : (⟨S2x2048x4x256, .f32⟩ : BufTy).Contents (Elt F) := V m c main_v0
def h_v1 : (⟨S4096x1024, .f32⟩ : BufTy).Contents (Elt F) := V m c main_v1
def h_cst : (⟨S_, .f32⟩ : BufTy).Contents (Elt F) := V m c main_cst
def h_v2 : (⟨S4096x1024, .f32⟩ : BufTy).Contents (Elt F) := V m c main_v2
def h_v3 : (⟨S4096x1024, .f32⟩ : BufTy).Contents (Elt F) := V m c main_v3
def h_v4 : (⟨S4096x1024, .bf16⟩ : BufTy).Contents (Elt F) := V m c main_v4
def h_c_0 : (⟨S_, .i32⟩ : BufTy).Contents (Elt F) := V m c main_c_0
def h_call1_v0 : (⟨S_, .f32⟩ : BufTy).Contents (Elt F) := V m c main_call1_v0
def h_arg1 : (⟨S2x2048x4x192, .f32⟩ : BufTy).Contents (Elt F) := V m c main_arg1
def h_v5 : (⟨S2x2048x4x256, .f32⟩ : BufTy).Contents (Elt F) := V m c main_v5
def h_v6 : (⟨S4096x1024, .f32⟩ : BufTy).Contents (Elt F) := V m c main_v6
def h_c_1 : (⟨S_, .i32⟩ : BufTy).Contents (Elt F) := V m c main_c_1
def h_call2_v0 : (⟨S_, .f32⟩ : BufTy).Contents (Elt F) := V m c main_call2_v0
def h_arg2 : (⟨S2x256x4x192, .f32⟩ : BufTy).Contents (Elt F) := V m c main_arg2
def h_v7 : (⟨S2x256x4x256, .f32⟩ : BufTy).Contents (Elt F) := V m c main_v7
def h_v8 : (⟨S512x1024, .f32⟩ : BufTy).Contents (Elt F) := V m c main_v8
def h_v9 : (⟨S4608x1024, .f32⟩ : BufTy).Contents (Elt F) := V m c main_v9
def h_v10 : (⟨S4608x1024, .bf16⟩ : BufTy).Contents (Elt F) := V m c main_v10
def h_arg3 : (⟨S2x2048x4x128, .f32⟩ : BufTy).Contents (Elt F) := V m c main_arg3
def h_v11 : (⟨S4096x512, .f32⟩ : BufTy).Contents (Elt F) := V m c main_v11
def h_arg4 : (⟨S2x256x4x128, .f32⟩ : BufTy).Contents (Elt F) := V m c main_arg4
def h_v12 : (⟨S512x512, .f32⟩ : BufTy).Contents (Elt F) := V m c main_v12
def h_v13 : (⟨S4608x512, .f32⟩ : BufTy).Contents (Elt F) := V m c main_v13
def h_v14 : (⟨S4608x512, .bf16⟩ : BufTy).Contents (Elt F) := V m c main_v14

theorem s_c : h_c m c = (constantI S_ 32 0#32) := by
  have h := HostStage.nullary (y := main_c) (writes (F := F)) (fun r => m (c, r)) 0 rfl (by decide +kernel)
  exact h
theorem s_call0_v0 : h_call0_v0 m c = ((sitofp .f32)) (h_c m c) := by
  have h := HostStage.unary (x := main_c) (y := main_call0_v0) (writes (F := F)) (fun r => m (c, r)) 1 rfl (by decide +kernel) (by decide +kernel)
  exact h
theorem s_v0 : h_v0 m c = ((fun x v => pad S2x2048x4x256 ![0, 0, 0, 0] ![0, 0, 0, 64] ![0, 0, 0, 0] x v pads_S2x2048x4x192_S2x2048x4x256_000_000_000_0640 h_S_)) (h_arg0 m c) (h_call0_v0 m c) := by
  have h := HostStage.binary (a := main_arg0) (b := main_call0_v0) (y := main_v0) (writes (F := F)) (fun r => m (c, r)) 2 rfl (by decide +kernel) (by decide +kernel) (by decide +kernel)
  exact h
theorem s_v1 : h_v1 m c = shapeCast _ (h_v0 m c) shapeCasts_S2x2048x4x256_S4096x1024 := by
  have h := HostStage.reshape (x := main_v0) (y := main_v1) (writes (F := F)) (fun r => m (c, r)) 3 rfl (by decide +kernel) (by decide +kernel)
  exact h
theorem s_cst : h_cst m c = (constant S_ .f32 0x3D93CD3A#32) := by
  have h := HostStage.nullary (y := main_cst) (writes (F := F)) (fun r => m (c, r)) 4 rfl (by decide +kernel)
  exact h
theorem s_v2 : h_v2 m c = ((broadcastInDim S4096x1024 ![] bcast_S_S4096x1024 : (⟨S_, .f32⟩ : BufTy).Contents (Elt F) → (⟨S4096x1024, .f32⟩ : BufTy).Contents (Elt F))) (h_cst m c) := by
  have h := HostStage.unary (x := main_cst) (y := main_v2) (writes (F := F)) (fun r => m (c, r)) 5 rfl (by decide +kernel) (by decide +kernel)
  exact h
theorem s_v3 : h_v3 m c = ((mulf : (⟨S4096x1024, .f32⟩ : BufTy).Contents (Elt F) → (⟨S4096x1024, .f32⟩ : BufTy).Contents (Elt F) → (⟨S4096x1024, .f32⟩ : BufTy).Contents (Elt F))) (h_v1 m c) (h_v2 m c) := by
  have h := HostStage.binary (a := main_v1) (b := main_v2) (y := main_v3) (writes (F := F)) (fun r => m (c, r)) 6 rfl (by decide +kernel) (by decide +kernel) (by decide +kernel)
  exact h
theorem s_v4 : h_v4 m c = (((truncf .bf16 · bitsLt_bf16_f32) : (⟨S4096x1024, .f32⟩ : BufTy).Contents (Elt F) → (⟨S4096x1024, .bf16⟩ : BufTy).Contents (Elt F))) (h_v3 m c) := by
  have h := HostStage.unary (x := main_v3) (y := main_v4) (writes (F := F)) (fun r => m (c, r)) 7 rfl (by decide +kernel) (by decide +kernel)
  exact h
theorem s_c_0 : h_c_0 m c = (constantI S_ 32 0#32) := by
  have h := HostStage.nullary (y := main_c_0) (writes (F := F)) (fun r => m (c, r)) 8 rfl (by decide +kernel)
  exact h
theorem s_call1_v0 : h_call1_v0 m c = ((sitofp .f32)) (h_c_0 m c) := by
  have h := HostStage.unary (x := main_c_0) (y := main_call1_v0) (writes (F := F)) (fun r => m (c, r)) 9 rfl (by decide +kernel) (by decide +kernel)
  exact h
theorem s_v5 : h_v5 m c = ((fun x v => pad S2x2048x4x256 ![0, 0, 0, 0] ![0, 0, 0, 64] ![0, 0, 0, 0] x v pads_S2x2048x4x192_S2x2048x4x256_000_000_000_0640 h_S_)) (h_arg1 m c) (h_call1_v0 m c) := by
  have h := HostStage.binary (a := main_arg1) (b := main_call1_v0) (y := main_v5) (writes (F := F)) (fun r => m (c, r)) 10 rfl (by decide +kernel) (by decide +kernel) (by decide +kernel)
  exact h
theorem s_v6 : h_v6 m c = shapeCast _ (h_v5 m c) shapeCasts_S2x2048x4x256_S4096x1024 := by
  have h := HostStage.reshape (x := main_v5) (y := main_v6) (writes (F := F)) (fun r => m (c, r)) 11 rfl (by decide +kernel) (by decide +kernel)
  exact h
theorem s_c_1 : h_c_1 m c = (constantI S_ 32 0#32) := by
  have h := HostStage.nullary (y := main_c_1) (writes (F := F)) (fun r => m (c, r)) 12 rfl (by decide +kernel)
  exact h
theorem s_call2_v0 : h_call2_v0 m c = ((sitofp .f32)) (h_c_1 m c) := by
  have h := HostStage.unary (x := main_c_1) (y := main_call2_v0) (writes (F := F)) (fun r => m (c, r)) 13 rfl (by decide +kernel) (by decide +kernel)
  exact h
theorem s_v7 : h_v7 m c = ((fun x v => pad S2x256x4x256 ![0, 0, 0, 0] ![0, 0, 0, 64] ![0, 0, 0, 0] x v pads_S2x256x4x192_S2x256x4x256_000_000_000_0640 h_S_)) (h_arg2 m c) (h_call2_v0 m c) := by
  have h := HostStage.binary (a := main_arg2) (b := main_call2_v0) (y := main_v7) (writes (F := F)) (fun r => m (c, r)) 14 rfl (by decide +kernel) (by decide +kernel) (by decide +kernel)
  exact h
theorem s_v8 : h_v8 m c = shapeCast _ (h_v7 m c) shapeCasts_S2x256x4x256_S512x1024 := by
  have h := HostStage.reshape (x := main_v7) (y := main_v8) (writes (F := F)) (fun r => m (c, r)) 15 rfl (by decide +kernel) (by decide +kernel)
  exact h
theorem s_v9 : h_v9 m c = (((fun a b => concatenate S4608x1024 0 [⟨S4096x1024, a⟩, ⟨S512x1024, b⟩] concatenates_S4096x1024_S512x1024_S4608x1024_d0) : (⟨S4096x1024, .f32⟩ : BufTy).Contents (Elt F) → (⟨S512x1024, .f32⟩ : BufTy).Contents (Elt F) → (⟨S4608x1024, .f32⟩ : BufTy).Contents (Elt F))) (h_v6 m c) (h_v8 m c) := by
  have h := HostStage.binary (a := main_v6) (b := main_v8) (y := main_v9) (writes (F := F)) (fun r => m (c, r)) 16 rfl (by decide +kernel) (by decide +kernel) (by decide +kernel)
  exact h
theorem s_v10 : h_v10 m c = (((truncf .bf16 · bitsLt_bf16_f32) : (⟨S4608x1024, .f32⟩ : BufTy).Contents (Elt F) → (⟨S4608x1024, .bf16⟩ : BufTy).Contents (Elt F))) (h_v9 m c) := by
  have h := HostStage.unary (x := main_v9) (y := main_v10) (writes (F := F)) (fun r => m (c, r)) 17 rfl (by decide +kernel) (by decide +kernel)
  exact h
theorem s_v11 : h_v11 m c = shapeCast _ (h_arg3 m c) shapeCasts_S2x2048x4x128_S4096x512 := by
  have h := HostStage.reshape (x := main_arg3) (y := main_v11) (writes (F := F)) (fun r => m (c, r)) 18 rfl (by decide +kernel) (by decide +kernel)
  exact h
theorem s_v12 : h_v12 m c = shapeCast _ (h_arg4 m c) shapeCasts_S2x256x4x128_S512x512 := by
  have h := HostStage.reshape (x := main_arg4) (y := main_v12) (writes (F := F)) (fun r => m (c, r)) 19 rfl (by decide +kernel) (by decide +kernel)
  exact h
theorem s_v13 : h_v13 m c = (((fun a b => concatenate S4608x512 0 [⟨S4096x512, a⟩, ⟨S512x512, b⟩] concatenates_S4096x512_S512x512_S4608x512_d0) : (⟨S4096x512, .f32⟩ : BufTy).Contents (Elt F) → (⟨S512x512, .f32⟩ : BufTy).Contents (Elt F) → (⟨S4608x512, .f32⟩ : BufTy).Contents (Elt F))) (h_v11 m c) (h_v12 m c) := by
  have h := HostStage.binary (a := main_v11) (b := main_v12) (y := main_v13) (writes (F := F)) (fun r => m (c, r)) 20 rfl (by decide +kernel) (by decide +kernel) (by decide +kernel)
  exact h
theorem s_v14 : h_v14 m c = (((truncf .bf16 · bitsLt_bf16_f32) : (⟨S4608x512, .f32⟩ : BufTy).Contents (Elt F) → (⟨S4608x512, .bf16⟩ : BufTy).Contents (Elt F))) (h_v13 m c) := by
  have h := HostStage.unary (x := main_v13) (y := main_v14) (writes (F := F)) (fun r => m (c, r)) 21 rfl (by decide +kernel) (by decide +kernel)
  exact h

end Cert.Proof.FwdStage
-- ==== Proof.FwdEntry.lean ====
/- What the forward kernel's windows hold when it starts, in real numbers: the host lines before it on finite arguments. -/
module

public import proofs.«01_k».proof.Proof.Keys
public import proofs.«01_k».proof.Proof.FwdStage

@[expose] public section

set_option maxRecDepth 16384

noncomputable section

open Idealize.ShloMosaic Idealize.ShloMosaic.TcCoe Idealize.SL.Sem

namespace Cert.Proof.FwdEntry

open Cert.Kernel3Ideal Cert.Kernel3Ideal.Gen MlaReal FwdStage Keys

variable (aq ak : A4 2 2048 4 192) (akc : A4 2 256 4 192) (av : A4 2 2048 4 128) (avc : A4 2 256 4 128)
variable (m : (ℓ : Loc nD τ sig) → Buf (Elt Ideal) ℓ) (c : Dev nD)

theorem v0_at (hq : h_arg0 m c = co aq) (b : Fin 2) (i : Fin 2048) (h : Fin 4) (x : Fin 256) :
    @Eq EReal (h_v0 m c (ix4 b i h x)) (padded (fun d => aq (ix4 b i h d)) x : EReal) := by
  rw [s_v0, s_call0_v0, s_c, hq]
  pointwise
  by_cases hx : x.val < 192
  · have hc : b.val < 2 ∧ i.val < 2048 ∧ h.val < 4 ∧ x.val < 192 := by omega
    rw [padded_in _ hx]
    split_ifs
    · rfl
  · rw [padded_out _ hx]
    split_ifs
    · exact pad0

theorem v5_at (hq : h_arg1 m c = co ak) (b : Fin 2) (i : Fin 2048) (h : Fin 4) (x : Fin 256) :
    @Eq EReal (h_v5 m c (ix4 b i h x)) (padded (fun d => ak (ix4 b i h d)) x : EReal) := by
  rw [s_v5, s_call1_v0, s_c_0, hq]
  pointwise
  by_cases hx : x.val < 192
  · have hc : b.val < 2 ∧ i.val < 2048 ∧ h.val < 4 ∧ x.val < 192 := by omega
    rw [padded_in _ hx]
    split_ifs
    · rfl
  · rw [padded_out _ hx]
    split_ifs
    · exact pad0

theorem v7_at (hq : h_arg2 m c = co akc) (b : Fin 2) (i : Fin 256) (h : Fin 4) (x : Fin 256) :
    @Eq EReal (h_v7 m c (ix4 b i h x)) (padded (fun d => akc (ix4 b i h d)) x : EReal) := by
  rw [s_v7, s_call2_v0, s_c_1, hq]
  pointwise
  by_cases hx : x.val < 192
  · have hc : b.val < 2 ∧ i.val < 256 ∧ h.val < 4 ∧ x.val < 192 := by omega
    rw [padded_in _ hx]
    split_ifs
    · rfl
  · rw [padded_out _ hx]
    split_ifs
    · exact pad0

theorem v4_at (hq : h_arg0 m c = co aq) (r : Fin 4096) (x : Fin 1024) :
    @Eq EReal (h_v4 m c (ix2 r x)) (padded (fun d => aq (ix4 ⟨r.val / 2048, by omega⟩ ⟨r.val % 2048, by omega⟩ ⟨x.val / 256, by omega⟩ d) * lit) ⟨x.val % 256, by omega⟩ : EReal) := by
  rw [s_v4, s_v3, s_v1, s_v2, s_cst]
  have e := v0_at aq m c hq
  generalize h_v0 m c = y at e
  pointwise
  rw [e, lit_eq, ← EReal.coe_mul, padded_mul]

theorem v10_lat (hk : h_arg1 m c = co ak) (r : Fin 4608) (hr : r.val < 4096) (x : Fin 1024) :
    @Eq EReal (h_v10 m c (ix2 r x)) (padded (fun d => ak (ix4 ⟨r.val / 2048, by omega⟩ ⟨r.val % 2048, by omega⟩ ⟨x.val / 256, by omega⟩ d)) ⟨x.val % 256, by omega⟩ : EReal) := by
  rw [s_v10, s_v9, s_v6]
  have e := v5_at ak m c hk
  generalize h_v8 m c = z
  generalize h_v5 m c = y at e
  pointwise
  rw [dif_pos hr, e]

theorem v10_ctx (hk : h_arg2 m c = co akc) (r : Fin 4608) (hr : ¬ r.val < 4096) (x : Fin 1024) :
    @Eq EReal (h_v10 m c (ix2 r x)) (padded (fun d => akc (ix4 ⟨(r.val - 4096) / 256, by omega⟩ ⟨(r.val - 4096) % 256, by omega⟩ ⟨x.val / 256, by omega⟩ d)) ⟨x.val % 256, by omega⟩ : EReal) := by
  rw [s_v10, s_v9, s_v8]
  have e := v7_at akc m c hk
  generalize h_v6 m c = z
  generalize h_v7 m c = y at e
  pointwise
  rw [dif_neg hr, e]

theorem v14_lat (hv : h_arg3 m c = co av) (r : Fin 4608) (hr : r.val < 4096) (x : Fin 512) :
    @Eq EReal (h_v14 m c (ix2 r x)) (av (ix4 ⟨r.val / 2048, by omega⟩ ⟨r.val % 2048, by omega⟩ ⟨x.val / 128, by omega⟩ ⟨x.val % 128, by omega⟩) : EReal) := by
  rw [s_v14, s_v13, s_v11, hv]
  generalize h_v12 m c = z
  pointwise
  split_ifs <;> first | omega | skip
  rfl

theorem v14_ctx (hv : h_arg4 m c = co avc) (r : Fin 4608) (hr : ¬ r.val < 4096) (x : Fin 512) :
    @Eq EReal (h_v14 m c (ix2 r x)) (avc (ix4 ⟨(r.val - 4096) / 256, by omega⟩ ⟨(r.val - 4096) % 256, by omega⟩ ⟨x.val / 128, by omega⟩ ⟨x.val % 128, by omega⟩) : EReal) := by
  rw [s_v14, s_v13, s_v12, hv]
  generalize h_v11 m c = z
  pointwise
  split_ifs <;> first | omega | skip
  rfl

end Cert.Proof.FwdEntry

end
-- ==== Proof.FwdReal.lean ====
/- The attention's forward rows over real numbers: the softmax's weighted values and the row log-sum. -/
module

public import proofs.«01_k».proof.Proof.Attn
public import proofs.«01_k».proof.Proof.Keys

@[expose] public section

noncomputable section

namespace Cert.Proof.FwdReal

open MlaReal Keys

variable {ι : Type} [Fintype ι] [Nonempty ι]

/-- The logarithm of the sum of a row's exponentials. -/
def lse (s : ι → ℝ) : ℝ := Real.log (∑ j, Real.exp (s j))

theorem lse_shift (s : ι → ℝ) (M : ℝ) : M + Real.log (Attn.tot s M) = lse s := by
  have hp : 0 < ∑ j, Real.exp (s j) := Finset.sum_pos (fun _ _ => Real.exp_pos _) Finset.univ_nonempty
  have h : Attn.tot s M = (∑ j, Real.exp (s j)) / Real.exp M := by
    unfold Attn.tot; rw [Finset.sum_div]; exact Finset.sum_congr rfl fun j _ => Real.exp_sub _ _
  rw [h, Real.log_div hp.ne' (Real.exp_pos M).ne', Real.log_exp]
  unfold lse
  ring

theorem out_shift (s v : ι → ℝ) (M : ℝ) : (∑ k, Real.exp (s k - M) * v k) * (1 / Attn.tot s M) = ∑ k, Attn.soft s k * v k := by
  rw [Finset.sum_mul]
  refine Finset.sum_congr rfl fun k _ => ?_
  rw [← Attn.soft_shift s M k]
  ring

/-- The same with the latent and the context keys summed apart. -/
theorem tot_keys (s : Fin 2304 → ℝ) (M : ℝ) : ∑ j, Real.exp (s (kl j) - M) + ∑ j, Real.exp (s (kc j) - M) = Attn.tot s M :=
  (sum_keys fun k => Real.exp (s k - M)).symm

variable (s : ℝ) (aq ak : A4 2 2048 4 192) (akc : A4 2 256 4 192) (av : A4 2 2048 4 128) (avc : A4 2 256 4 128)

/-- One element of the attention's output, and the row log-sum of a row. -/
def Y (b : Fin 2) (i : Fin 2048) (h : Fin 4) (e : Fin 128) : ℝ := ∑ k, P s aq ak akc b h i k * V av avc b k h e
def Lse (b : Fin 2) (i : Fin 2048) (h : Fin 4) : ℝ := lse (sc s aq ak akc b h i)

/-- The two results, packed. -/
def outY (r : Fin 4096) (x : Fin 512) : ℝ := Y s aq ak akc av avc ⟨r.val / 2048, by omega⟩ ⟨r.val % 2048, by omega⟩ ⟨x.val / 128, by omega⟩ ⟨x.val % 128, by omega⟩
def outL (r : Fin 4096) (x : Fin 512) : ℝ := Lse s aq ak akc ⟨r.val / 2048, by omega⟩ ⟨r.val % 2048, by omega⟩ ⟨x.val / 128, by omega⟩

end Cert.Proof.FwdReal

end
-- ==== Proof.FwdBlk.lean ====
/- What the forward kernel computes from one head's blocks, when the blocks' scores and values are real numbers. -/
module

public import proofs.«01_k».proof.Proof.Gen.Kernel3Ideal.Value
public import proofs.«01_k».proof.Proof.MlaReal
public import proofs.«01_k».proof.Proof.Scal
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.FwdBlk

open Cert.Kernel3Ideal Cert.Kernel3Ideal.Gen MlaReal

variable {q : Vec Ideal S256x256 .bf16} {kl : Vec Ideal S2048x256 .bf16} {kc : Vec Ideal S256x256 .bf16}
  {s : Fin 256 → Fin 2048 → ℝ} {sc : Fin 256 → Fin 256 → ℝ}
  (hs : ∀ r j, @Eq EReal (∑ x : Fin 256, @HMul.hMul EReal EReal EReal _ (q (ix2 r x)) (kl (ix2 j x))) (s r j))
  (hsc : ∀ r j, @Eq EReal (∑ x : Fin 256, @HMul.hMul EReal EReal EReal _ (q (ix2 r x)) (kc (ix2 j x))) (sc r j))

include hs in
theorem scores (r : Fin 256) (j : Fin 2048) : @Eq EReal (k0_pay4 q kl (ix2 r j)) (s r j : EReal) := by
  unfold k0_pay4 k0_pay3
  pointwise
  exact hs r j

include hsc in
theorem scoresC (r : Fin 256) (j : Fin 256) : @Eq EReal (k0_pay5 q kc (ix2 r j)) (sc r j : EReal) := by
  unfold k0_pay5 k0_pay3
  pointwise
  exact hsc r j

include hs hsc

theorem top_real (r : Fin 256) : ∃ M : ℝ, @Eq EReal (k0_pay6 q kl kc (ix2 r 0)) (M : EReal) := by
  have h1 := scores hs r
  have h2 := scoresC hsc r
  unfold k0_pay6
  generalize k0_pay4 q kl = x at h1
  generalize k0_pay5 q kc = y at h2
  pointwise
  simp only [h1, h2]
  obtain ⟨a, ha⟩ := fold_max_pos (by decide : 0 < 2048) (s r) bot_lit
  obtain ⟨b, hb⟩ := fold_max_pos (by decide : 0 < 256) (sc r) bot_lit
  refine ⟨max a b, ?_⟩
  rw [ha, hb]
  exact EReal.coe_strictMono.monotone.map_max.symm

variable {r : Fin 256} {M : ℝ} (hM : @Eq EReal (k0_pay6 q kl kc (ix2 r 0)) (M : EReal))
include hM

theorem expL (j : Fin 2048) : @Eq EReal (k0_pay7 q kl kc (ix2 r j)) (Real.exp (s r j - M) : EReal) := by
  have h1 := scores hs r
  unfold k0_pay7
  generalize k0_pay4 q kl = x at h1
  generalize k0_pay6 q kl kc = y at hM
  pointwise
  rw [h1, hM, ← EReal.coe_sub, Scal.exp_coe]

theorem expC (j : Fin 256) : @Eq EReal (k0_pay8 q kl kc (ix2 r j)) (Real.exp (sc r j - M) : EReal) := by
  have h1 := scoresC hsc r
  unfold k0_pay8
  generalize k0_pay5 q kc = x at h1
  generalize k0_pay6 q kl kc = y at hM
  pointwise
  rw [h1, hM, ← EReal.coe_sub, Scal.exp_coe]

theorem total : @Eq EReal (k0_pay9 q kl kc (ix2 r 0)) ((∑ j, Real.exp (s r j - M) + ∑ j, Real.exp (sc r j - M) : ℝ) : EReal) := by
  have h1 := expL hs hsc hM
  have h2 := expC hs hsc hM
  unfold k0_pay9
  generalize k0_pay7 q kl kc = x at h1
  generalize k0_pay8 q kl kc = y at h2
  pointwise
  simp only [h1, h2, EReal.coe_add, Attn.coe_sum]

theorem rows {vl : Vec Ideal S2048x128 .bf16} {vc : Vec Ideal S256x128 .bf16} {e : Fin 128} {a : Fin 2048 → ℝ} {b : Fin 256 → ℝ}
    (ha : ∀ j, @Eq EReal (vl (ix2 j e)) (a j)) (hb : ∀ j, @Eq EReal (vc (ix2 j e)) (b j)) :
    @Eq EReal (k0_pay10 q kl kc vl vc (ix2 r e))
      (((∑ j, Real.exp (s r j - M) * a j + ∑ j, Real.exp (sc r j - M) * b j) * (1 / (∑ j, Real.exp (s r j - M) + ∑ j, Real.exp (sc r j - M))) : ℝ) : EReal) := by
  have h1 := expL hs hsc hM
  have h2 := expC hs hsc hM
  have h3 := total hs hsc hM
  have hp : 0 < ∑ j, Real.exp (s r j - M) + ∑ j, Real.exp (sc r j - M) :=
    add_pos (Attn.tot_pos (s r) M) (Attn.tot_pos (sc r) M)
  unfold k0_pay10
  generalize k0_pay7 q kl kc = x at h1
  generalize k0_pay8 q kl kc = y at h2
  generalize k0_pay9 q kl kc = z at h3
  pointwise
  simp only [h1, h2, h3, ha, hb, ← EReal.coe_mul, ← Attn.coe_sum, ← EReal.coe_add]
  rw [← EReal.coe_one, Scal.div_coe _ _ hp.ne', ← EReal.coe_mul]

theorem logsum (e : Fin 128) : @Eq EReal (k0_pay11 (k0_pay6 q kl kc) (k0_pay9 q kl kc) (ix2 r e))
    ((M + Real.log (∑ j, Real.exp (s r j - M) + ∑ j, Real.exp (sc r j - M)) : ℝ) : EReal) := by
  have h3 := total hs hsc hM
  have hp : 0 < ∑ j, Real.exp (s r j - M) + ∑ j, Real.exp (sc r j - M) :=
    add_pos (Attn.tot_pos (s r) M) (Attn.tot_pos (sc r) M)
  unfold k0_pay11
  generalize k0_pay6 q kl kc = y at hM
  generalize k0_pay9 q kl kc = z at h3
  pointwise
  rw [h3, hM, Scal.log_coe hp, ← EReal.coe_add]

omit hs hsc hM

/-- The second head's terms are the first's. -/
theorem second_top : k0_pay15 q kl kc = k0_pay6 q kl kc := rfl
theorem second_total : k0_pay18 q kl kc = k0_pay9 q kl kc := rfl
theorem second_logsum : k0_pay2 (F := Ideal) = k0_pay11 := rfl

end Cert.Proof.FwdBlk
-- ==== Proof.FwdRows.lean ====
/- The forward kernel's blocks in real numbers, what a grid point computes from them, and the two result arrays. -/
module

public import proofs.«01_k».proof.Proof.FwdEntry
public import proofs.«01_k».proof.Proof.FwdReal
public import proofs.«01_k».proof.Proof.FwdBlk

@[expose] public section

set_option maxRecDepth 16384

noncomputable section

open Idealize.ShloMosaic Idealize.ShloMosaic.TcCoe Idealize.SL.Sem

namespace Cert.Proof.FwdRows

open Cert.Kernel3Ideal Cert.Kernel3Ideal.Gen MlaReal FwdStage FwdEntry FwdReal Keys

variable (m : (ℓ : Loc nD τ sig) → Buf (Elt Ideal) ℓ) (c : Dev nD)

theorem idx : ∀ t : Fin cfg0.N, (cfg0.win 0).index t = ![t.val / 16 * 8 + t.val % 8, t.val / 8 % 2] ∧ (cfg0.win 1).index t = ![t.val / 16, t.val / 8 % 2]
    ∧ (cfg0.win 2).index t = ![16 + t.val / 16, t.val / 8 % 2] ∧ (cfg0.win 3).index t = ![t.val / 16, t.val / 8 % 2]
    ∧ (cfg0.win 4).index t = ![16 + t.val / 16, t.val / 8 % 2] ∧ (cfg0.win 5).index t = ![t.val / 16 * 8 + t.val % 8, t.val / 8 % 2]
    ∧ (cfg0.win 6).index t = ![t.val / 16 * 8 + t.val % 8, t.val / 8 % 2] := by decide +kernel

theorem lt32 (t : Fin cfg0.N) : t.val < 32 := lt_of_lt_of_eq t.isLt N_0

/-- The example, the two heads and the rows of a grid point. -/
def tb (t : Fin cfg0.N) : Fin 2 := ⟨t.val / 16, by have := lt32 t; omega⟩
def th (t : Fin cfg0.N) (u : Fin 2) : Fin 4 := ⟨t.val / 8 % 2 * 2 + u.val, by omega⟩
def ti (t : Fin cfg0.N) (r : Fin 256) : Fin 2048 := ⟨t.val % 8 * 256 + r.val, by omega⟩

/-- A column of a block that holds two heads. -/
def two256 (u : Fin 2) (x : Fin 256) : Fin 512 := ⟨u.val * 256 + x.val, by omega⟩
def two128 (u : Fin 2) (x : Fin 128) : Fin 256 := ⟨u.val * 128 + x.val, by omega⟩

variable (t : Fin cfg0.N)

theorem Q_read (u r x) : @Eq EReal (iblk m c 0 t (ix2 r (two256 u x))) (h_v4 m c (ix2 (prow (tb t) (ti t r)) (pc256 (th t u) x))) := by
  have := lt32 t
  unfold h_v4 prow pc256 tb th ti two256
  blk_ext [iblk, idx t]

theorem KL_read (u r x) : @Eq EReal (X0_1 m c t (ix2 r (two256 u x))) (h_v10 m c (ix2 ⟨(tb t).val * 2048 + r.val, by omega⟩ (pc256 (th t u) x))) := by
  have := lt32 t
  unfold X0_1 h_v10 pc256 tb th two256 Pipeline.Window.fill
  rw [dif_pos (moved0_1 t _)]
  blk_ext [iblk, idx t]

theorem KC_read (u r x) : @Eq EReal (iblk m c 2 t (ix2 r (two256 u x))) (h_v10 m c (ix2 ⟨4096 + (tb t).val * 256 + r.val, by omega⟩ (pc256 (th t u) x))) := by
  have := lt32 t
  unfold h_v10 pc256 tb th two256
  blk_ext [iblk, idx t]

theorem VL_read (u r x) : @Eq EReal (X0_3 m c t (ix2 r (two128 u x))) (h_v14 m c (ix2 ⟨(tb t).val * 2048 + r.val, by omega⟩ (pc128 (th t u) x))) := by
  have := lt32 t
  unfold X0_3 h_v14 pc128 tb th two128 Pipeline.Window.fill
  rw [dif_pos (moved0_3 t _)]
  blk_ext [iblk, idx t]

theorem VC_read (u r x) : @Eq EReal (iblk m c 4 t (ix2 r (two128 u x))) (h_v14 m c (ix2 ⟨4096 + (tb t).val * 256 + r.val, by omega⟩ (pc128 (th t u) x))) := by
  have := lt32 t
  unfold h_v14 pc128 tb th two128
  blk_ext [iblk, idx t]

/-- The arguments, every one an array of real numbers. -/
structure Args (aq ak : A4 2 2048 4 192) (akc : A4 2 256 4 192) (av : A4 2 2048 4 128) (avc : A4 2 256 4 128) : Prop where
  q : h_arg0 m c = co aq
  k : h_arg1 m c = co ak
  kc : h_arg2 m c = co akc
  v : h_arg3 m c = co av
  vc : h_arg4 m c = co avc

variable {m c}
variable {aq ak : A4 2 2048 4 192} {akc : A4 2 256 4 192} {av : A4 2 2048 4 128} {avc : A4 2 256 4 128} (A : Args m c aq ak akc av avc)
include A

theorem Q_at (u r x) : @Eq EReal (iblk m c 0 t (ix2 r (two256 u x))) (padded (fun d => aq (ix4 (tb t) (ti t r) (th t u) d) * lit) x : EReal) := by
  rw [Q_read, v4_at aq m c A.q]
  simp only [row_div, row_mod, c256_div, c256_mod]

theorem KL_at (u j x) : @Eq EReal (X0_1 m c t (ix2 j (two256 u x))) (padded (K ak akc (tb t) (kl j) (th t u)) x : EReal) := by
  have e1 (h) : (⟨((tb t).val * 2048 + j.val) / 2048, h⟩ : Fin 2) = tb t := Fin.ext (by simp only []; omega)
  have e2 (h) : (⟨((tb t).val * 2048 + j.val) % 2048, h⟩ : Fin 2048) = j := Fin.ext (by simp only []; omega)
  rw [KL_read, v10_lat ak m c A.k _ (by simp only []; omega)]
  simp only [e1, e2, c256_div, c256_mod]
  exact congrArg (fun f => (padded f x : EReal)) (funext fun d => (K_kl ak akc (tb t) j (th t u) d).symm)

theorem KC_at (u j x) : @Eq EReal (iblk m c 2 t (ix2 j (two256 u x))) (padded (K ak akc (tb t) (kc j) (th t u)) x : EReal) := by
  have e1 (h) : (⟨(4096 + (tb t).val * 256 + j.val - 4096) / 256, h⟩ : Fin 2) = tb t := Fin.ext (by simp only []; omega)
  have e2 (h) : (⟨(4096 + (tb t).val * 256 + j.val - 4096) % 256, h⟩ : Fin 256) = j := Fin.ext (by simp only []; omega)
  rw [KC_read, v10_ctx akc m c A.kc _ (by simp only []; omega)]
  simp only [e1, e2, c256_div, c256_mod]
  exact congrArg (fun f => (padded f x : EReal)) (funext fun d => (K_kc ak akc (tb t) j (th t u) d).symm)

theorem VL_at (u j x) : @Eq EReal (X0_3 m c t (ix2 j (two128 u x))) (MlaReal.V av avc (tb t) (kl j) (th t u) x : EReal) := by
  have e1 (h) : (⟨((tb t).val * 2048 + j.val) / 2048, h⟩ : Fin 2) = tb t := Fin.ext (by simp only []; omega)
  have e2 (h) : (⟨((tb t).val * 2048 + j.val) % 2048, h⟩ : Fin 2048) = j := Fin.ext (by simp only []; omega)
  rw [VL_read, v14_lat av m c A.v _ (by simp only []; omega)]
  simp only [e1, e2, c128_div, c128_mod, V_kl]

theorem VC_at (u j x) : @Eq EReal (iblk m c 4 t (ix2 j (two128 u x))) (MlaReal.V av avc (tb t) (kc j) (th t u) x : EReal) := by
  have e1 (h) : (⟨(4096 + (tb t).val * 256 + j.val - 4096) / 256, h⟩ : Fin 2) = tb t := Fin.ext (by simp only []; omega)
  have e2 (h) : (⟨(4096 + (tb t).val * 256 + j.val - 4096) % 256, h⟩ : Fin 256) = j := Fin.ext (by simp only []; omega)
  rw [VC_read, v14_ctx avc m c A.vc _ (by simp only []; omega)]
  simp only [e1, e2, c128_div, c128_mod, V_kc]

omit A in
/-- A padded product of a scaled query and a key is their score. -/
theorem score (b h i k) : ∑ d, aq (ix4 b i h d) * lit * K ak akc b k h d = sc lit aq ak akc b h i k := by
  unfold sc
  rw [Finset.sum_mul]
  exact Finset.sum_congr rfl fun d _ => by ring

section Head

variable (u : Fin 2) {q : Vec Ideal S256x256 .bf16} {xl : Vec Ideal S2048x256 .bf16} {xc : Vec Ideal S256x256 .bf16}
  (hq : ∀ r x, @Eq EReal (q (ix2 r x)) (iblk m c 0 t (ix2 r (two256 u x)))) (hl : ∀ j x, @Eq EReal (xl (ix2 j x)) (X0_1 m c t (ix2 j (two256 u x))))
  (hc : ∀ j x, @Eq EReal (xc (ix2 j x)) (iblk m c 2 t (ix2 j (two256 u x))))
include hq hl hc

theorem scoresL (r j) : @Eq EReal (∑ x : Fin 256, @HMul.hMul EReal EReal EReal _ (q (ix2 r x)) (xl (ix2 j x))) (sc lit aq ak akc (tb t) (th t u) (ti t r) (kl j)) := by
  simp only [hq, hl, Q_at t A, KL_at t A]
  rw [sum_padded, score]

theorem scoresC (r j) : @Eq EReal (∑ x : Fin 256, @HMul.hMul EReal EReal EReal _ (q (ix2 r x)) (xc (ix2 j x))) (sc lit aq ak akc (tb t) (th t u) (ti t r) (kc j)) := by
  simp only [hq, hc, Q_at t A, KC_at t A]
  rw [sum_padded, score]

theorem lse_head (r : Fin 256) (e : Fin 128) : @Eq EReal (k0_pay11 (k0_pay6 q xl xc) (k0_pay9 q xl xc) (ix2 r e)) (Lse lit aq ak akc (tb t) (ti t r) (th t u) : EReal) := by
  have h1 := scoresL t A u hq hl hc
  have h2 := scoresC t A u hq hl hc
  obtain ⟨M, hM⟩ := FwdBlk.top_real (sc := fun r j => sc lit aq ak akc (tb t) (th t u) (ti t r) (kc j)) h1 h2 r
  refine (FwdBlk.logsum (sc := fun r j => sc lit aq ak akc (tb t) (th t u) (ti t r) (kc j)) h1 h2 hM e).trans ?_
  rw [tot_keys (sc lit aq ak akc (tb t) (th t u) (ti t r)) M, lse_shift]
  rfl

theorem y_head {vl : Vec Ideal S2048x128 .bf16} {vc : Vec Ideal S256x128 .bf16} (hvl : ∀ j e, @Eq EReal (vl (ix2 j e)) (X0_3 m c t (ix2 j (two128 u e))))
    (hvc : ∀ j e, @Eq EReal (vc (ix2 j e)) (iblk m c 4 t (ix2 j (two128 u e)))) (r : Fin 256) (e : Fin 128) :
    @Eq EReal (k0_pay10 q xl xc vl vc (ix2 r e)) (Y lit aq ak akc av avc (tb t) (ti t r) (th t u) e : EReal) := by
  have h1 := scoresL t A u hq hl hc
  have h2 := scoresC t A u hq hl hc
  obtain ⟨M, hM⟩ := FwdBlk.top_real (sc := fun r j => sc lit aq ak akc (tb t) (th t u) (ti t r) (kc j)) h1 h2 r
  refine (FwdBlk.rows (sc := fun r j => sc lit aq ak akc (tb t) (th t u) (ti t r) (kc j)) h1 h2 hM (fun j => (hvl j e).trans (VL_at t A u j e)) (fun j => (hvc j e).trans (VC_at t A u j e))).trans ?_
  rw [tot_keys (sc lit aq ak akc (tb t) (th t u) (ti t r)) M,
    ← sum_keys (fun k => Real.exp (sc lit aq ak akc (tb t) (th t u) (ti t r) k - M) * MlaReal.V av avc (tb t) k (th t u) e),
    out_shift (sc lit aq ak akc (tb t) (th t u) (ti t r)) (fun k => MlaReal.V av avc (tb t) k (th t u) e)]
  rfl

end Head

omit A in
/-- The two halves of 128 columns cover a block of 256. -/
theorem halves {Val : EltTy → Type} {e : EltTy} (h1 : ∀ a, (![0, 128] : Fin 2 → ℕ) a + (![256, 128] : Fin 2 → ℕ) a ≤ (![256, 256] : Fin 2 → ℕ) a)
    (h2 : ∀ a, (![0, 0] : Fin 2 → ℕ) a + (![256, 128] : Fin 2 → ℕ) a ≤ (![256, 256] : Fin 2 → ℕ) a)
    (p : (Rect.unit (s := ⟨2, ![256, 256]⟩) ![0, 128] ![256, 128] h1).shape.Idx → Val e)
    (q : (Rect.unit (s := ⟨2, ![256, 256]⟩) ![0, 0] ![256, 128] h2).shape.Idx → Val e) (y : (⟨2, ![256, 256]⟩ : Shape).Idx) :
    ∃ P ∈ [(⟨_, p⟩ : View.Piece Val ⟨2, ![256, 256]⟩ e), ⟨_, q⟩], y ∈ P.1.set := by
  have y0 := (y 0).isLt
  have y1 := (y 1).isLt
  by_cases h : (y 1).val < 128
  · refine ⟨_, List.mem_cons_of_mem _ List.mem_cons_self, (Rect.mem_set_unit (inb := h2)).mpr fun a => ?_⟩
    fin_cases a <;> simp <;> simp at y0 y1 <;> omega
  · refine ⟨_, List.mem_cons_self, (Rect.mem_set_unit (inb := h1)).mpr fun a => ?_⟩
    fin_cases a <;> simp <;> simp at y0 y1 <;> omega

omit A in
/-- Where an index of a half of `k` columns from `o` on lies in a block of `n` rows and `w` columns. -/
theorem emb_cols {n k w o : ℕ} (h : ∀ a, (![0, o] : Fin 2 → ℕ) a + (![n, k] : Fin 2 → ℕ) a ≤ (![n, w] : Fin 2 → ℕ) a) (ho : o + k ≤ w)
    (r : Fin n) (x : Fin k) :
    (Rect.unit (s := ⟨2, ![n, w]⟩) ![0, o] ![n, k] h).emb (ix2 r x) = ix2 r ⟨o + x.val, by omega⟩ := by
  funext a
  apply Fin.ext
  show (![0, o] : Fin 2 → ℕ) a + 1 * ((ix2 r x) a).val = _
  fin_cases a <;> simp [ix2]

omit A in
theorem ld_cols {n k w o : ℕ} {Val : EltTy → Type} {e : EltTy} (X : (⟨2, ![n, w]⟩ : Shape).Idx → Val e) (h : ∀ a, (![0, o] : Fin 2 → ℕ) a + (![n, k] : Fin 2 → ℕ) a ≤ (![n, w] : Fin 2 → ℕ) a) (ho : o + k ≤ w)
    (r : Fin n) (x : Fin k) : View.ld (Val := Val) X (Rect.unit (s := ⟨2, ![n, w]⟩) ![0, o] ![n, k] h) (ix2 r x) = X (ix2 r ⟨o + x.val, by omega⟩) :=
  congrArg X (emb_cols h ho r x)

/-! The two result arrays. -/

omit A

theorem second_rows {q : Vec Ideal S256x256 .bf16} {xl : Vec Ideal S2048x256 .bf16} {xc : Vec Ideal S256x256 .bf16} {vl : Vec Ideal S2048x128 .bf16} {vc : Vec Ideal S256x128 .bf16} :
    k0_pay1 (k0_pay18 q xl xc) (k0_pay19 q xl xc vl) (k0_pay20 q xl xc) (k0_pay21 vc) = k0_pay10 q xl xc vl vc := rfl

/-- The two heads of a block of 256 columns. -/
def hd (x : Fin 256) : Fin 2 := ⟨x.val / 128, by omega⟩
def el (x : Fin 256) : Fin 128 := ⟨x.val % 128, by omega⟩

theorem hd_low (x : Fin 128) (h) : hd ⟨0 + x.val, h⟩ = 0 := Fin.ext (by simp only [hd, Fin.val_zero]; omega)
theorem el_low (x : Fin 128) (h) : el ⟨0 + x.val, h⟩ = x := Fin.ext (by simp only [el]; omega)
theorem hd_high (x : Fin 128) (h) : hd ⟨128 + x.val, h⟩ = 1 := Fin.ext (by simp only [hd, Fin.val_one]; omega)
theorem el_high (x : Fin 128) (h) : el ⟨128 + x.val, h⟩ = x := Fin.ext (by simp only [el]; omega)

theorem ld_lo256 {n : ℕ} {Val : EltTy → Type} {e : EltTy} (X : (⟨2, ![n, 512]⟩ : Shape).Idx → Val e)
    (h : ∀ a, (![0, 0] : Fin 2 → ℕ) a + (![n, 256] : Fin 2 → ℕ) a ≤ (![n, 512] : Fin 2 → ℕ) a) (r : Fin n) (x : Fin 256) :
    View.ld (Val := Val) X (Rect.unit (s := ⟨2, ![n, 512]⟩) ![0, 0] ![n, 256] h) (ix2 r x) = X (ix2 r (two256 0 x)) :=
  (ld_cols X h (by decide) r x).trans (congrArg (fun z => X (ix2 r z)) (Fin.ext (by simp [two256])))

theorem ld_up256 {n : ℕ} {Val : EltTy → Type} {e : EltTy} (X : (⟨2, ![n, 512]⟩ : Shape).Idx → Val e)
    (h : ∀ a, (![0, 256] : Fin 2 → ℕ) a + (![n, 256] : Fin 2 → ℕ) a ≤ (![n, 512] : Fin 2 → ℕ) a) (r : Fin n) (x : Fin 256) :
    View.ld (Val := Val) X (Rect.unit (s := ⟨2, ![n, 512]⟩) ![0, 256] ![n, 256] h) (ix2 r x) = X (ix2 r (two256 1 x)) :=
  (ld_cols X h (by decide) r x).trans (congrArg (fun z => X (ix2 r z)) (Fin.ext (by simp [two256])))

theorem ld_lo128 {n : ℕ} {Val : EltTy → Type} {e : EltTy} (X : (⟨2, ![n, 256]⟩ : Shape).Idx → Val e)
    (h : ∀ a, (![0, 0] : Fin 2 → ℕ) a + (![n, 128] : Fin 2 → ℕ) a ≤ (![n, 256] : Fin 2 → ℕ) a) (r : Fin n) (x : Fin 128) :
    View.ld (Val := Val) X (Rect.unit (s := ⟨2, ![n, 256]⟩) ![0, 0] ![n, 128] h) (ix2 r x) = X (ix2 r (two128 0 x)) :=
  (ld_cols X h (by decide) r x).trans (congrArg (fun z => X (ix2 r z)) (Fin.ext (by simp [two128])))

theorem ld_up128 {n : ℕ} {Val : EltTy → Type} {e : EltTy} (X : (⟨2, ![n, 256]⟩ : Shape).Idx → Val e)
    (h : ∀ a, (![0, 128] : Fin 2 → ℕ) a + (![n, 128] : Fin 2 → ℕ) a ≤ (![n, 256] : Fin 2 → ℕ) a) (r : Fin n) (x : Fin 128) :
    View.ld (Val := Val) X (Rect.unit (s := ⟨2, ![n, 256]⟩) ![0, 128] ![n, 128] h) (ix2 r x) = X (ix2 r (two128 1 x)) :=
  (ld_cols X h (by decide) r x).trans (congrArg (fun z => X (ix2 r z)) (Fin.ext (by simp [two128])))

include A

set_option maxHeartbeats 2000000 in
theorem lse_block (y : S256x256.Idx) : @Eq EReal ((outsAt0 m c t).2 y) (Lse lit aq ak akc (tb t) (ti t (y 0)) (th t (hd (y 1))) : EReal) := by
  unfold outsAt0
  dsimp only
  frame_open
  frame_out
  refine View.canon_append_of_piecesOf (Val := Elt Ideal) (e := .f32) (fun y : S256x256.Idx => ((Lse lit aq ak akc (tb t) (ti t (y 0)) (th t (hd (y 1))) : EReal) : Elt Ideal .f32)) [] [_, _]
    ⟨fun (x : S256x128.Idx) => ?_, fun (x : S256x128.Idx) => ?_, trivial⟩ y (halves _ _ _ _ y)
  · obtain ⟨r, e, rfl⟩ : ∃ r e, x = ix2 r e := ⟨_, _, eq_ix2 x⟩
    refine Eq.trans ?_ (congrArg (fun y : S256x256.Idx => ((Lse lit aq ak akc (tb t) (ti t (y 0)) (th t (hd (y 1))) : EReal) : Elt Ideal .f32)) (emb_cols inb_S256x256_S256x128_0_128 (by decide) r e)).symm
    simp only [ix2_0, ix2_1, hd_high]
    rw [FwdBlk.second_logsum, FwdBlk.second_top, FwdBlk.second_total]
    exact lse_head t A 1 (fun r x => ld_up256 _ _ r x) (fun r x => ld_up256 _ _ r x)
      (fun r x => ld_up256 _ _ r x) r e
  · obtain ⟨r, e, rfl⟩ : ∃ r e, x = ix2 r e := ⟨_, _, eq_ix2 x⟩
    refine Eq.trans ?_ (congrArg (fun y : S256x256.Idx => ((Lse lit aq ak akc (tb t) (ti t (y 0)) (th t (hd (y 1))) : EReal) : Elt Ideal .f32)) (emb_cols inb_S256x256_S256x128_0_0 (by decide) r e)).symm
    simp only [ix2_0, ix2_1, hd_low]
    exact lse_head t A 0 (fun r x => ld_lo256 _ _ r x) (fun r x => ld_lo256 _ _ r x)
      (fun r x => ld_lo256 _ _ r x) r e

set_option maxHeartbeats 2000000 in
theorem y_block (y : S256x256.Idx) : @Eq EReal ((outsAt0 m c t).1 y) (Y lit aq ak akc av avc (tb t) (ti t (y 0)) (th t (hd (y 1))) (el (y 1)) : EReal) := by
  unfold outsAt0
  dsimp only
  frame_open
  frame_out
  refine View.canon_append_of_piecesOf (Val := Elt Ideal) (e := .bf16) (fun y : S256x256.Idx => ((Y lit aq ak akc av avc (tb t) (ti t (y 0)) (th t (hd (y 1))) (el (y 1)) : EReal) : Elt Ideal .bf16)) [] [_, _]
    ⟨fun (x : S256x128.Idx) => ?_, fun (x : S256x128.Idx) => ?_, trivial⟩ y (halves _ _ _ _ y)
  · obtain ⟨r, e, rfl⟩ : ∃ r e, x = ix2 r e := ⟨_, _, eq_ix2 x⟩
    refine Eq.trans ?_ (congrArg (fun y : S256x256.Idx => ((Y lit aq ak akc av avc (tb t) (ti t (y 0)) (th t (hd (y 1))) (el (y 1)) : EReal) : Elt Ideal .bf16)) (emb_cols inb_S256x256_S256x128_0_128 (by decide) r e)).symm
    simp only [ix2_0, ix2_1, hd_high, el_high]
    rw [second_rows]
    exact y_head t A 1 (fun r x => ld_up256 _ _ r x) (fun r x => ld_up256 _ _ r x)
      (fun r x => ld_up256 _ _ r x) (fun r x => ld_up128 _ _ r x) (fun r x => ld_up128 _ _ r x) r e
  · obtain ⟨r, e, rfl⟩ : ∃ r e, x = ix2 r e := ⟨_, _, eq_ix2 x⟩
    refine Eq.trans ?_ (congrArg (fun y : S256x256.Idx => ((Y lit aq ak akc av avc (tb t) (ti t (y 0)) (th t (hd (y 1))) (el (y 1)) : EReal) : Elt Ideal .bf16)) (emb_cols inb_S256x256_S256x128_0_0 (by decide) r e)).symm
    simp only [ix2_0, ix2_1, hd_low, el_low]
    exact y_head t A 0 (fun r x => ld_lo256 _ _ r x) (fun r x => ld_lo256 _ _ r x)
      (fun r x => ld_lo256 _ _ r x) (fun r x => ld_lo128 _ _ r x) (fun r x => ld_lo128 _ _ r x) r e

omit A in
theorem outY_at (y0 y1 : Fin 256) : outY lit aq ak akc av avc (prow (tb t) (ti t y0)) (pc128 (th t (hd y1)) (el y1)) = Y lit aq ak akc av avc (tb t) (ti t y0) (th t (hd y1)) (el y1) := by
  unfold outY
  simp only [row_div, row_mod, c128_div, c128_mod]

omit A in
theorem outL_at (y0 y1 : Fin 256) : outL lit aq ak akc (prow (tb t) (ti t y0)) (pc128 (th t (hd y1)) (el y1)) = Lse lit aq ak akc (tb t) (ti t y0) (th t (hd y1)) := by
  unfold outL
  simp only [row_div, row_mod, c128_div]

theorem arr_y : (dats m 0 c).arrAt 5 cfg0.N = fun i => (outY lit aq ak akc av avc (i 0) (i 1) : EReal) := by
  refine (dats m 0 c).arrAt_eq_of_covers 5 _ (by decide +kernel) fun t hf y => ?_
  have := lt32 t
  blk_simp
  rw [after0_5]
  idx_vars y
  have e : ((cfg0.win 5).blk t).view.emb (ix2 y0 y1) = ix2 (prow (tb t) (ti t y0)) (pc128 (th t (hd y1)) (el y1)) := by
    unfold prow pc128 tb th ti hd el
    blk_ext [idx t]
  refine (y_block t A (ix2 y0 y1)).trans ?_
  simp only [ix2_0, ix2_1]
  rw [← outY_at]
  exact (congrArg (fun i : S4096x512.Idx => (outY lit aq ak akc av avc (i 0) (i 1) : EReal)) e).symm

theorem arr_lse : (dats m 0 c).arrAt 6 cfg0.N = fun i => (outL lit aq ak akc (i 0) (i 1) : EReal) := by
  refine (dats m 0 c).arrAt_eq_of_covers 6 _ (by decide +kernel) fun t hf y => ?_
  have := lt32 t
  blk_simp
  rw [after0_6]
  idx_vars y
  have e : ((cfg0.win 6).blk t).view.emb (ix2 y0 y1) = ix2 (prow (tb t) (ti t y0)) (pc128 (th t (hd y1)) (el y1)) := by
    unfold prow pc128 tb th ti hd el
    blk_ext [idx t]
  refine (lse_block t A (ix2 y0 y1)).trans ?_
  simp only [ix2_0, ix2_1]
  rw [← outL_at]
  exact (congrArg (fun i : S4096x512.Idx => (outL lit aq ak akc (i 0) (i 1) : EReal)) e).symm

end Cert.Proof.FwdRows

end
-- ==== Proof.FwdRef.lean ====
/- The reference's output and row log-sum, read at an index on finite arguments, are those of the real-number attention. -/
module

public import proofs.«01_k».proof.Proof.FwdReal
public import proofs.«01_k».proof.Proof.Scal
public import proofs.«01_k».proof.Proof.Gen.Reference3Ideal.Read

@[expose] public section

set_option maxRecDepth 16384

noncomputable section

open Idealize.ShloMosaic Idealize.ShloMosaic.TcCoe Idealize.SL.Sem

namespace Cert.Proof.FwdRef

open Cert.Reference3Ideal Cert.Reference3Ideal.Read MlaReal FwdReal

variable (aq ak : A4 2 2048 4 192) (akc : A4 2 256 4 192) (av : A4 2 2048 4 128) (avc : A4 2 256 4 128)

theorem v0_at (b k h d) : val_main_v0 (F := Ideal) (co ak) (co akc) (ix4 b k h d) = (K ak akc b k h d : EReal) := by
  pointwise [val_main_v0]
  unfold K co
  split <;> rfl

theorem v1_at (b k h e) : val_main_v1 (F := Ideal) (co av) (co avc) (ix4 b k h e) = (V av avc b k h e : EReal) := by
  pointwise [val_main_v1]
  unfold V co
  split <;> rfl

theorem v4_at (b h i k) : val_main_v4 (F := Ideal) (co aq) (co ak) (co akc) (ix4 b h i k) = (sc lit aq ak akc b h i k : EReal) := by
  pointwise [val_main_v4, val_main_v2, val_main_v3, val_main_cst]
  simp only [v0_at, lit_eq, sc, EReal.coe_mul, Attn.coe_sum, co]

theorem v4_real (j) : ∃ r : ℝ, val_main_v4 (F := Ideal) (co aq) (co ak) (co akc) j = (r : EReal) := by
  rw [eq_ix4 j]; exact ⟨_, v4_at aq ak akc _ _ _ _⟩

/-- The row maximum the softmax subtracts is a real number. -/
theorem v7_real (b h i) : ∃ r : ℝ, val_main_v7 (F := Ideal) (co aq) (co ak) (co akc) (ix3 b h i) = (r : EReal) := by
  have hx := v4_real aq ak akc
  have h5 : ∃ r : ℝ, val_main_v5 (F := Ideal) (co aq) (co ak) (co akc) (ix3 b h i) = (r : EReal) := by
    unfold val_main_v5
    generalize val_main_v4 (F := Ideal) (co aq) (co ak) (co akc) = x at hx
    have hi : ∀ k, val_main_cst_0 (F := Ideal) k = ⊥ := fun _ => bot_lit
    generalize val_main_cst_0 (F := Ideal) = y at hi
    exact reduce_max_real x hx y hi _ (by decide) _ (by decide) _
  obtain ⟨r, hr⟩ := h5
  refine ⟨r, ?_⟩
  have e : val_main_v6 (F := Ideal) (ix3 b h i) = ⊥ := by
    pointwise [val_main_v6, val_main_cst_1]
    exact bot_lit
  rw [val_main_v7_apply, hr, e]
  exact max_eq_right bot_le

section Soft

variable (b : Fin 2) (h : Fin 4) (i : Fin 2048) {M : ℝ} (hm : val_main_v7 (F := Ideal) (co aq) (co ak) (co akc) (ix3 b h i) = (M : EReal))
include hm

theorem v11_at (k) : val_main_v11 (F := Ideal) (co aq) (co ak) (co akc) (ix4 b h i k) = (Real.exp (sc lit aq ak akc b h i k - M) : EReal) := by
  pointwise [val_main_v11, val_main_v10, val_main_v9, val_main_v8]
  rw [v4_at, hm, ← EReal.coe_sub, Scal.exp_coe]

theorem v12_at : val_main_v12 (F := Ideal) (co aq) (co ak) (co akc) (ix3 b h i) = (Attn.tot (sc lit aq ak akc b h i) M : EReal) := by
  pointwise [val_main_v12, val_main_cst_2]
  simp only [v11_at aq ak akc b h i hm, Attn.tot, Attn.coe_sum]

theorem v15_at (k) : val_main_v15 (F := Ideal) (co aq) (co ak) (co akc) (ix4 b h i k) = (P lit aq ak akc b h i k : EReal) := by
  pointwise [val_main_v15, val_main_v14, val_main_v13]
  rw [v11_at aq ak akc b h i hm, v12_at aq ak akc b h i hm, Scal.div_coe _ _ (Attn.tot_pos _ _).ne', Attn.soft_shift]
  rfl

end Soft

theorem v17_at (b i h e) : val_main_v17 (F := Ideal) (co aq) (co ak) (co akc) (co av) (co avc) (ix4 b i h e) = (Y lit aq ak akc av avc b i h e : EReal) := by
  obtain ⟨M, hm⟩ := v7_real aq ak akc b h i
  pointwise [val_main_v17, val_main_v16]
  simp only [v15_at aq ak akc b h i hm, v1_at, ← EReal.coe_mul, ← Attn.coe_sum, Y]
  exact congrArg _ (Finset.sum_congr rfl fun k _ => by ring)

theorem v20_at (b h i) : val_main_v20 (F := Ideal) (co aq) (co ak) (co akc) (ix3 b h i) = (Lse lit aq ak akc b i h : EReal) := by
  have hp : 0 < ∑ k, Real.exp (sc lit aq ak akc b h i k) := Finset.sum_pos (fun _ _ => Real.exp_pos _) Finset.univ_nonempty
  pointwise [val_main_v20, val_main_v19, val_main_v18, val_main_cst_3]
  simp only [v4_at, Scal.exp_coe, ← Attn.coe_sum]
  rw [Scal.log_coe hp]
  rfl

theorem y_at (r x) : val_main_v22 (F := Ideal) (co aq) (co ak) (co akc) (co av) (co avc) (ix2 r x) = (outY lit aq ak akc av avc r x : EReal) := by
  pointwise [val_main_v22, val_main_v21]
  rw [v17_at]
  rfl

theorem lse_at (r x) : val_main_v26 (F := Ideal) (co aq) (co ak) (co akc) (ix2 r x) = (outL lit aq ak akc r x : EReal) := by
  pointwise [val_main_v26, val_main_v25, val_main_v24, val_main_v23]
  rw [v20_at]
  rfl

end Cert.Proof.FwdRef

end
-- ==== Proof.FwdClaim.lean ====
/- The claim about the attention's forward call: on finite arguments its output rows and row log-sums are the reference's. -/
module

public import proofs.«01_k».proof.Proof.FwdRows
public import proofs.«01_k».proof.Proof.FwdRef
public import proofs.«01_k».proof.Proof.Finite
public import proofs.«01_k».proof.Defs
public import proofs.«01_k».proof.Proof.Gen.Reference3Ideal.Run
public import proofs.«01_k».proof.Proof.Gen.Kernel3Ideal.Value
public import proofs.«01_k».proof.Proof.Gen.Pre_heads_finite
public import Idealize.ShloMosaic.Adequacy
public import Idealize.ShloMosaic.Init

@[expose] public section

set_option maxRecDepth 16384

noncomputable section

open Idealize.ShloMosaic Idealize.ShloMosaic.TcCoe Idealize.SL.Sem

namespace Cert.Proof.FwdClaim

open MlaReal FwdReal

/-- The precondition says that the five arrays are real numbers. -/
theorem pre_real {x0 x1 : FVec Ideal Cert.Pre_heads_finite.S2x2048x4x192 .f32} {x2 : FVec Ideal Cert.Pre_heads_finite.S2x256x4x192 .f32}
    {x3 : FVec Ideal Cert.Pre_heads_finite.S2x2048x4x128 .f32} {x4 : FVec Ideal Cert.Pre_heads_finite.S2x256x4x128 .f32}
    (h : Cert.Pre_heads_finite.fn (F := Ideal) x0 x1 x2 x3 x4 = fun _ => 1#1) :
    (∀ i, ∃ r : ℝ, @Eq EReal (x0 i) (r : EReal)) ∧ (∀ i, ∃ r : ℝ, @Eq EReal (x1 i) (r : EReal)) ∧ (∀ i, ∃ r : ℝ, @Eq EReal (x2 i) (r : EReal))
      ∧ (∀ i, ∃ r : ℝ, @Eq EReal (x3 i) (r : EReal)) ∧ (∀ i, ∃ r : ℝ, @Eq EReal (x4 i) (r : EReal)) := by
  haveI : Subsingleton Cert.Pre_heads_finite.S_.Idx := ⟨fun a b => funext fun i => i.elim0⟩
  have e := congrFun h (fun i => i.elim0)
  dsimp only [Cert.Pre_heads_finite.fn, Cert.Pre_heads_finite.fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.finite_of _ _ _ _ _ e0, Finite.finite_of _ _ _ _ _ e1, Finite.finite_of _ _ _ _ _ e2, Finite.finite_of _ _ _ _ _ e3,
    Finite.finite_of _ _ _ _ _ e4⟩

theorem exists_co {S : Shape} {x : FVec Ideal S .f32} (h : ∀ i, ∃ r : ℝ, @Eq EReal (x i) (r : EReal)) : ∃ a : S.Idx → ℝ, x = co a := by
  choose a ha using h
  exact ⟨a, funext ha⟩

section Args

open Cert.Kernel3Ideal Cert.Kernel3Ideal.Gen FwdStage

variable (m : (ℓ : Loc nD τ sig) → Buf (Elt Ideal) ℓ) (c : Dev nD)

theorem m0 : h_arg0 m c = m ((c.tc : Thread nD τ).loc main_arg0) := V_main_arg0 m c
theorem m1 : h_arg1 m c = m ((c.tc : Thread nD τ).loc main_arg1) := V_main_arg1 m c
theorem m2 : h_arg2 m c = m ((c.tc : Thread nD τ).loc main_arg2) := V_main_arg2 m c
theorem m3 : h_arg3 m c = m ((c.tc : Thread nD τ).loc main_arg3) := V_main_arg3 m c
theorem m4 : h_arg4 m c = m ((c.tc : Thread nD τ).loc main_arg4) := V_main_arg4 m c
variable {m c}

/-- The kernel's arguments in real numbers. -/
theorem args_of {aq ak : A4 2 2048 4 192} {akc : A4 2 256 4 192} {av : A4 2 2048 4 128} {avc : A4 2 256 4 128}
  (h0 : m ((c.tc : Thread nD τ).loc main_arg0) = co aq) (h1 : m ((c.tc : Thread nD τ).loc main_arg1) = co ak)
  (h2 : m ((c.tc : Thread nD τ).loc main_arg2) = co akc) (h3 : m ((c.tc : Thread nD τ).loc main_arg3) = co av)
  (h4 : m ((c.tc : Thread nD τ).loc main_arg4) = co avc) : FwdRows.Args m c aq ak akc av avc where
  q := (m0 m c).trans h0
  k := (m1 m c).trans h1
  kc := (m2 m c).trans h2
  v := (m3 m c).trans h3
  vc := (m4 m c).trans h4

end Args

section Ref

open Cert.Reference3Ideal Cert.Reference3Ideal.Read FwdRef

variable {x0 x1 : FVec Ideal S2x2048x4x192 .f32} {x2 : FVec Ideal S2x256x4x192 .f32} {x3 : FVec Ideal S2x2048x4x128 .f32} {x4 : FVec Ideal S2x256x4x128 .f32}
  {aq ak : A4 2 2048 4 192} {akc : A4 2 256 4 192} {av : A4 2 2048 4 128} {avc : A4 2 256 4 128}
  (h0 : x0 = co aq) (h1 : x1 = co ak) (h2 : x2 = co akc) (h3 : x3 = co av) (h4 : x4 = co avc)
include h0 h1 h2

theorem ref_lse : (fun i => (outL lit aq ak akc (i 0) (i 1) : EReal)) = val_main_v26 (F := Ideal) x0 x1 x2 := by
  subst h0 h1 h2
  funext i; rw [eq_ix2 i]; exact (lse_at _ _ _ _ _).symm

include h3 h4

theorem ref_y : (fun i => (outY lit aq ak akc av avc (i 0) (i 1) : EReal)) = val_main_v22 (F := Ideal) x0 x1 x2 x3 x4 := by
  subst h0 h1 h2 h3 h4
  funext i; rw [eq_ix2 i]; exact (y_at _ _ _ _ _ _ _).symm

end Ref

/-- The reference's frame: a program of host operations declares no semaphore. -/
theorem ref_frame : Cert.quiescent_Reference3Ideal (hReference3Ideal := Cert.Reference3Ideal.Gen.facts) := fun m g _ =>
  (θ_run _ _ _).mono (fun r h => ⟨fun c => (h c).2.2, sem_eq_zero_of_no_sems rfl r.2⟩) (Cert.Reference3Ideal.Value.run (F := Ideal) m g)

set_option maxHeartbeats 4000000 in
/-- The claim about the attention's forward call. -/
theorem algebraic : Cert.algebraic_Kernel3Ideal_Reference3Ideal_pre_heads_finite (hKernel3Ideal := Cert.Kernel3Ideal.Gen.facts)
    (hReference3Ideal := Cert.Reference3Ideal.Gen.facts) (hPre_heads_finite := Cert.Pre_heads_finite.Gen.facts) := by
  intro m g m' g' hpre hagree
  refine ⟨_, _, (θ_run _ _ _).mono (fun r h c => h c) (Cert.Kernel3Ideal.Value.run_blocks (F := Ideal) m g), ?_⟩
  refine (θ_run _ _ _).mono (fun r h c => ?_) (Cert.Reference3Ideal.Value.run (F := Ideal) m' g')
  obtain ⟨h0, h1, hargs⟩ := h c
  obtain ⟨a0, a1, a2, a3, a4⟩ := hagree c
  obtain ⟨p0, p1, p2, p3, p4⟩ := pre_real (hpre c)
  obtain ⟨aq, p0⟩ := exists_co p0
  obtain ⟨ak, p1⟩ := exists_co p1
  obtain ⟨akc, p2⟩ := exists_co p2
  obtain ⟨av, p3⟩ := exists_co p3
  obtain ⟨avc, p4⟩ := exists_co p4
  have A : FwdRows.Args m c aq ak akc av avc := args_of p0 p1 p2 p3 p4
  rw [← a0] at p0
  rw [← a1] at p1
  rw [← a2] at p2
  rw [← a3] at p3
  rw [← a4] at p4
  refine ⟨h0.trans ?_, h1.trans ?_, hargs⟩
  · exact ((Cert.Reference3Ideal.Read.val_main_v22_eq _ _ _ _ _).trans (ref_y p0 p1 p2 p3 p4).symm).trans (FwdRows.arr_y A).symm
  · exact ((Cert.Reference3Ideal.Read.val_main_v26_eq _ _ _).trans (ref_lse p0 p1 p2).symm).trans (FwdRows.arr_lse A).symm

end Cert.Proof.FwdClaim

end
-- ==== Proof.PostReal.lean ====
/- The block's closing gradient over real numbers, row by row: the output projection, the gated residual, the modulated norm, the
   squared-relu layer, the second residual, the final norm and the loss, and the gradient of each, last first. -/
module

public import proofs.«01_k».proof.Proof.Scal
public import proofs.«01_k».proof.Proof.MlaReal
public import Mathlib.Analysis.SpecialFunctions.Pow.Real

@[expose] public section

noncomputable section

namespace Cert.Proof.PostReal

open Idealize.ShloMosaic

/-- The arguments, every one an array of real numbers. -/
structure In where
  yr : (⟨3, ![2, 2048, 512]⟩ : Shape).Idx → ℝ
  ym : (⟨3, ![2, 2048, 512]⟩ : Shape).Idx → ℝ
  x : (⟨3, ![2, 2048, 1024]⟩ : Shape).Idx → ℝ
  gta : Fin 2 → Fin 1024 → ℝ
  shf : Fin 2 → Fin 1024 → ℝ
  scf : Fin 2 → Fin 1024 → ℝ
  gtf : Fin 2 → Fin 1024 → ℝ
  gf : (⟨2, ![1, 1024]⟩ : Shape).Idx → ℝ
  gl : (⟨1, ![1024]⟩ : Shape).Idx → ℝ
  wo : (⟨2, ![1024, 1024]⟩ : Shape).Idx → ℝ
  w1 : (⟨2, ![1024, 4096]⟩ : Shape).Idx → ℝ
  w2 : (⟨2, ![4096, 1024]⟩ : Shape).Idx → ℝ
  tg : (⟨3, ![2, 2048, 1024]⟩ : Shape).Idx → ℝ

/-- The small number the norms add to the mean square: the value of the programs' common literal. -/
def eps : ℝ := (Ideal.ofBits .f32 0x358637BD#32).toReal

theorem eps_val : Ideal.ofBits .f32 0x358637BD#32 = ((8796093 / 8796093022208 : ℝ) : EReal) := by
  simp [Ideal.ofBits, Ideal.ieee, -EReal.coe_mul]; norm_num

theorem eps_eq : Ideal.ofBits .f32 0x358637BD#32 = (eps : EReal) := by
  unfold eps; rw [eps_val, EReal.toReal_coe]

theorem eps_pos : 0 < eps := by
  unfold eps; rw [eps_val, EReal.toReal_coe]; norm_num

theorem n1024 : Ideal.ofBits .f32 0x44800000#32 = ((1024 : ℝ) : EReal) := by
  simp [Ideal.ofBits, Ideal.ieee, -EReal.coe_mul]; norm_num

theorem n1024' : Ideal.ofBits .f32 0x3A800000#32 = ((1 / 1024 : ℝ) : EReal) := by
  simp [Ideal.ofBits, Ideal.ieee, -EReal.coe_mul]; norm_num

theorem one_lit : Ideal.ofBits .f32 0x3F800000#32 = ((1 : ℝ) : EReal) := by
  simp [Ideal.ofBits, Ideal.ieee, -EReal.coe_mul]; norm_num

theorem two_lit : Ideal.ofBits .f32 0x40000000#32 = ((2 : ℝ) : EReal) := by
  simp [Ideal.ofBits, Ideal.ieee, -EReal.coe_mul]; norm_num

theorem half_lit : Ideal.ofBits .f32 0x3F000000#32 = ((1 / 2 : ℝ) : EReal) := by
  simp [Ideal.ofBits, Ideal.ieee, -EReal.coe_mul]; norm_num

theorem neg_half_lit : Ideal.ofBits .f32 0xBF000000#32 = ((-(1 / 2) : ℝ) : EReal) := by
  simp [Ideal.ofBits, Ideal.ieee, -EReal.coe_mul]; norm_num

theorem zero_lit : Ideal.ofBits .f32 0x00000000#32 = ((0 : ℝ) : EReal) := by
  simp [Ideal.ofBits, Ideal.ieee, -EReal.coe_mul]

/-- The mean square of a row and the norms' small number. -/
def ms (v : Fin 1024 → ℝ) : ℝ := (∑ c, v c * v c) / 1024 + eps

theorem ms_pos (v : Fin 1024 → ℝ) : 0 < ms v :=
  add_pos_of_nonneg_of_pos (div_nonneg (Finset.sum_nonneg fun c _ => mul_self_nonneg (v c)) (by norm_num)) eps_pos

/-- The reciprocal root of it. -/
def rr (v : Fin 1024 → ℝ) : ℝ := (Real.sqrt (ms v))⁻¹

theorem rsqrt_ms (v : Fin 1024 → ℝ) : Ideal.rsqrt (ms v : EReal) = (rr v : EReal) := by
  rw [Ideal.rsqrt_coe, if_neg (ms_pos v).le.not_gt, if_neg (ms_pos v).ne']
  rfl

/-- The gradient of a normed row `v * rr v`, for the gradient `d` of the normed row. -/
def dn (v d : Fin 1024 → ℝ) (c : Fin 1024) : ℝ :=
  rr v * (d c - v c * rr v * ((∑ k, d k * (v k * rr v)) / 1024))

/-- The same gradient in the form the derivative of the product and of the root gives. -/
theorem dn_ref (v d : Fin 1024 → ℝ) (c : Fin 1024) :
    d c * rr v + v c * ((∑ k, v k * d k) * (-(1 / 2) * (rr v / ms v)) / 1024) + (∑ k, v k * d k) * (-(1 / 2) * (rr v / ms v)) / 1024 * v c = dn v d c := by
  have h : rr v / ms v = rr v * rr v * rr v := by
    have hp := Real.sqrt_pos.2 (ms_pos v)
    have e : ms v = Real.sqrt (ms v) * Real.sqrt (ms v) := (Real.mul_self_sqrt (ms_pos v).le).symm
    rw [div_eq_mul_inv]
    conv_lhs => rw [e]
    unfold rr
    rw [mul_inv]; ring
  have hs : ∑ k, d k * (v k * rr v) = (∑ k, v k * d k) * rr v := by
    rw [Finset.sum_mul]; exact Finset.sum_congr rfl fun k _ => by ring
  unfold dn
  rw [h, hs]; ring

variable (a : In) (b : Fin 2) (i : Fin 2048)

/-- The two halves of the mixed rows. -/
def mix (k : Fin 1024) : ℝ := if h : k.val < 512 then a.yr (ix3 b i ⟨k.val, h⟩) else a.ym (ix3 b i ⟨k.val - 512, by omega⟩)
def op (c : Fin 1024) : ℝ := ∑ k, mix a b i k * a.wo (ix2 k c)
def mid (c : Fin 1024) : ℝ := a.x (ix3 b i c) + a.gta b c * op a b i c
def xh2 (c : Fin 1024) : ℝ := mid a b i c * rr (mid a b i)
def hh (c : Fin 1024) : ℝ := xh2 a b i c * a.gf (ix2 0 c) * (1 + a.scf b c) + a.shf b c
def pu (f : Fin 4096) : ℝ := max (∑ c, hh a b i c * a.w1 (ix2 c f)) 0
def act (f : Fin 4096) : ℝ := pu a b i f * pu a b i f
def fo (c : Fin 1024) : ℝ := ∑ f, act a b i f * a.w2 (ix2 f c)
def out (c : Fin 1024) : ℝ := mid a b i c + a.gtf b c * fo a b i c
def xh3 (c : Fin 1024) : ℝ := out a b i c * rr (out a b i)
def err (c : Fin 1024) : ℝ := xh3 a b i c * a.gl (ix1 c) - a.tg (ix3 b i c)
def dy (c : Fin 1024) : ℝ := err a b i c * (1 / 1024)
def dout (c : Fin 1024) : ℝ := dn (out a b i) (fun k => dy a b i k * a.gl (ix1 k)) c
def df (c : Fin 1024) : ℝ := dout a b i c * a.gtf b c
def du (f : Fin 4096) : ℝ := (∑ c, df a b i c * a.w2 (ix2 f c)) * (2 * pu a b i f)
def dh (c : Fin 1024) : ℝ := ∑ f, du a b i f * a.w1 (ix2 c f)
def dmid (c : Fin 1024) : ℝ := dout a b i c + dn (mid a b i) (fun k => dh a b i k * (1 + a.scf b k) * a.gf (ix2 0 k)) c
def dop (c : Fin 1024) : ℝ := dmid a b i c * a.gta b c
def dmix (k : Fin 1024) : ℝ := ∑ c, dop a b i c * a.wo (ix2 k c)

/-- What row `i` adds to each of the eight rows of sums. -/
def stat (s : Fin 8) (c : Fin 1024) : ℝ :=
  ![dh a b i c, dh a b i c * xh2 a b i c * a.gf (ix2 0 c), dout a b i c * fo a b i c, dmid a b i c * op a b i c,
    dh a b i c * (1 + a.scf b c) * xh2 a b i c, dy a b i c * xh3 a b i c, err a b i c * err a b i c, 0] s

end Cert.Proof.PostReal

end
-- ==== Proof.PostStage.lean ====
/- The host lines before the closing kernel, one equation for each operation. -/
module

public import proofs.«01_k».proof.Proof.HostStage
public import proofs.«01_k».proof.Proof.Gen.Kernel4Ideal.Value

@[expose] public section

set_option maxRecDepth 16384

noncomputable section

open Idealize.ShloMosaic Idealize.ShloMosaic.TcCoe Idealize.SL.Sem

namespace Cert.Proof.PostStage

open Cert.Kernel4Ideal Cert.Kernel4Ideal.Gen

variable {F : FTy → Type} [FloatOps F]

abbrev hostLine : List (HloOp τ sig (Elt F)) := List.flatten [hostOps0, hostOps0_1, hostOps0_2]

/-- The buffers the line writes, in order. -/
abbrev written : List (Ref sig .tc) :=
  [main_v0, main_c, main_call0_v0, main_v1, main_v2, main_v3, main_v4, main_v5, main_v6, main_v7, main_v8, main_v9, main_v10, main_v11, main_v12, main_v13, main_v14, main_v15, main_v16, main_v17, main_v18]

theorem writes : HostStage.Writes (τ := τ) (hostLine (F := F)) written := rfl

variable (m : (ℓ : Loc nD τ sig) → Buf (Elt F) ℓ) (c : Dev nD)

/-! What each buffer holds at the end of the line. -/

def h_arg3 : (⟨S2x6144, .f32⟩ : BufTy).Contents (Elt F) := V m c main_arg3
def h_v0 : (⟨S2x6x1024, .f32⟩ : BufTy).Contents (Elt F) := V m c main_v0
def h_c : (⟨S_, .i32⟩ : BufTy).Contents (Elt F) := V m c main_c
def h_call0_v0 : (⟨S_, .f32⟩ : BufTy).Contents (Elt F) := V m c main_call0_v0
def h_v1 : (⟨S3x8x1024, .f32⟩ : BufTy).Contents (Elt F) := V m c main_v1
def h_arg7 : (⟨S1024x4096, .f32⟩ : BufTy).Contents (Elt F) := V m c main_arg7
def h_v2 : (⟨S1024x4x1024, .f32⟩ : BufTy).Contents (Elt F) := V m c main_v2
def h_v3 : (⟨S4x1024x1024, .f32⟩ : BufTy).Contents (Elt F) := V m c main_v3
def h_v4 : (⟨S4x1024x1024, .bf16⟩ : BufTy).Contents (Elt F) := V m c main_v4
def h_arg8 : (⟨S4096x1024, .f32⟩ : BufTy).Contents (Elt F) := V m c main_arg8
def h_v5 : (⟨S4x2x512x1024, .f32⟩ : BufTy).Contents (Elt F) := V m c main_v5
def h_v6 : (⟨S4x2x512x1024, .bf16⟩ : BufTy).Contents (Elt F) := V m c main_v6
def h_arg0 : (⟨S2x2048x512, .f32⟩ : BufTy).Contents (Elt F) := V m c main_arg0
def h_v7 : (⟨S4096x512, .f32⟩ : BufTy).Contents (Elt F) := V m c main_v7
def h_v8 : (⟨S4096x512, .bf16⟩ : BufTy).Contents (Elt F) := V m c main_v8
def h_arg1 : (⟨S2x2048x512, .f32⟩ : BufTy).Contents (Elt F) := V m c main_arg1
def h_v9 : (⟨S4096x512, .f32⟩ : BufTy).Contents (Elt F) := V m c main_v9
def h_v10 : (⟨S4096x512, .bf16⟩ : BufTy).Contents (Elt F) := V m c main_v10
def h_arg2 : (⟨S2x2048x1024, .f32⟩ : BufTy).Contents (Elt F) := V m c main_arg2
def h_v11 : (⟨S4096x1024, .f32⟩ : BufTy).Contents (Elt F) := V m c main_v11
def h_arg9 : (⟨S2x2048x1024, .f32⟩ : BufTy).Contents (Elt F) := V m c main_arg9
def h_v12 : (⟨S4096x1024, .f32⟩ : BufTy).Contents (Elt F) := V m c main_v12
def h_arg5 : (⟨S1024, .f32⟩ : BufTy).Contents (Elt F) := V m c main_arg5
def h_v13 : (⟨S1x1024, .f32⟩ : BufTy).Contents (Elt F) := V m c main_v13
def h_arg6 : (⟨S1024x1024, .f32⟩ : BufTy).Contents (Elt F) := V m c main_arg6
def h_v14 : (⟨S1024x1024, .bf16⟩ : BufTy).Contents (Elt F) := V m c main_v14
def h_v15 : (⟨S4x1x512x1024, .bf16⟩ : BufTy).Contents (Elt F) := V m c main_v15
def h_v16 : (⟨S4x512x1024, .bf16⟩ : BufTy).Contents (Elt F) := V m c main_v16
def h_v17 : (⟨S4x1x512x1024, .bf16⟩ : BufTy).Contents (Elt F) := V m c main_v17
def h_v18 : (⟨S4x512x1024, .bf16⟩ : BufTy).Contents (Elt F) := V m c main_v18

theorem s_v0 : h_v0 m c = shapeCast _ (h_arg3 m c) shapeCasts_S2x6144_S2x6x1024 := by
  have h := HostStage.reshape (x := main_arg3) (y := main_v0) (writes (F := F)) (fun r => m (c, r)) 0 rfl (by decide +kernel) (by decide +kernel)
  exact h
theorem s_c : h_c m c = (constantI S_ 32 0#32) := by
  have h := HostStage.nullary (y := main_c) (writes (F := F)) (fun r => m (c, r)) 1 rfl (by decide +kernel)
  exact h
theorem s_call0_v0 : h_call0_v0 m c = ((sitofp .f32)) (h_c m c) := by
  have h := HostStage.unary (x := main_c) (y := main_call0_v0) (writes (F := F)) (fun r => m (c, r)) 2 rfl (by decide +kernel) (by decide +kernel)
  exact h
theorem s_v1 : h_v1 m c = ((fun x v => pad S3x8x1024 ![0, 0, 0] ![1, 2, 0] ![0, 0, 0] x v pads_S2x6x1024_S3x8x1024_010_020_000 h_S_)) (h_v0 m c) (h_call0_v0 m c) := by
  have h := HostStage.binary (a := main_v0) (b := main_call0_v0) (y := main_v1) (writes (F := F)) (fun r => m (c, r)) 3 rfl (by decide +kernel) (by decide +kernel) (by decide +kernel)
  exact h
theorem s_v2 : h_v2 m c = shapeCast _ (h_arg7 m c) shapeCasts_S1024x4096_S1024x4x1024 := by
  have h := HostStage.reshape (x := main_arg7) (y := main_v2) (writes (F := F)) (fun r => m (c, r)) 4 rfl (by decide +kernel) (by decide +kernel)
  exact h
theorem s_v3 : h_v3 m c = (((transpose S4x1024x1024 [1, 0, 2] · transposes_S1024x4x1024_S4x1024x1024_1_0_2) : (⟨S1024x4x1024, .f32⟩ : BufTy).Contents (Elt F) → (⟨S4x1024x1024, .f32⟩ : BufTy).Contents (Elt F))) (h_v2 m c) := by
  have h := HostStage.unary (x := main_v2) (y := main_v3) (writes (F := F)) (fun r => m (c, r)) 5 rfl (by decide +kernel) (by decide +kernel)
  exact h
theorem s_v4 : h_v4 m c = (((truncf .bf16 · bitsLt_bf16_f32) : (⟨S4x1024x1024, .f32⟩ : BufTy).Contents (Elt F) → (⟨S4x1024x1024, .bf16⟩ : BufTy).Contents (Elt F))) (h_v3 m c) := by
  have h := HostStage.unary (x := main_v3) (y := main_v4) (writes (F := F)) (fun r => m (c, r)) 6 rfl (by decide +kernel) (by decide +kernel)
  exact h
theorem s_v5 : h_v5 m c = shapeCast _ (h_arg8 m c) shapeCasts_S4096x1024_S4x2x512x1024 := by
  have h := HostStage.reshape (x := main_arg8) (y := main_v5) (writes (F := F)) (fun r => m (c, r)) 7 rfl (by decide +kernel) (by decide +kernel)
  exact h
theorem s_v6 : h_v6 m c = (((truncf .bf16 · bitsLt_bf16_f32) : (⟨S4x2x512x1024, .f32⟩ : BufTy).Contents (Elt F) → (⟨S4x2x512x1024, .bf16⟩ : BufTy).Contents (Elt F))) (h_v5 m c) := by
  have h := HostStage.unary (x := main_v5) (y := main_v6) (writes (F := F)) (fun r => m (c, r)) 8 rfl (by decide +kernel) (by decide +kernel)
  exact h
theorem s_v7 : h_v7 m c = shapeCast _ (h_arg0 m c) shapeCasts_S2x2048x512_S4096x512 := by
  have h := HostStage.reshape (x := main_arg0) (y := main_v7) (writes (F := F)) (fun r => m (c, r)) 9 rfl (by decide +kernel) (by decide +kernel)
  exact h
theorem s_v8 : h_v8 m c = (((truncf .bf16 · bitsLt_bf16_f32) : (⟨S4096x512, .f32⟩ : BufTy).Contents (Elt F) → (⟨S4096x512, .bf16⟩ : BufTy).Contents (Elt F))) (h_v7 m c) := by
  have h := HostStage.unary (x := main_v7) (y := main_v8) (writes (F := F)) (fun r => m (c, r)) 10 rfl (by decide +kernel) (by decide +kernel)
  exact h
theorem s_v9 : h_v9 m c = shapeCast _ (h_arg1 m c) shapeCasts_S2x2048x512_S4096x512 := by
  have h := HostStage.reshape (x := main_arg1) (y := main_v9) (writes (F := F)) (fun r => m (c, r)) 11 rfl (by decide +kernel) (by decide +kernel)
  exact h
theorem s_v10 : h_v10 m c = (((truncf .bf16 · bitsLt_bf16_f32) : (⟨S4096x512, .f32⟩ : BufTy).Contents (Elt F) → (⟨S4096x512, .bf16⟩ : BufTy).Contents (Elt F))) (h_v9 m c) := by
  have h := HostStage.unary (x := main_v9) (y := main_v10) (writes (F := F)) (fun r => m (c, r)) 12 rfl (by decide +kernel) (by decide +kernel)
  exact h
theorem s_v11 : h_v11 m c = shapeCast _ (h_arg2 m c) shapeCasts_S2x2048x1024_S4096x1024 := by
  have h := HostStage.reshape (x := main_arg2) (y := main_v11) (writes (F := F)) (fun r => m (c, r)) 13 rfl (by decide +kernel) (by decide +kernel)
  exact h
theorem s_v12 : h_v12 m c = shapeCast _ (h_arg9 m c) shapeCasts_S2x2048x1024_S4096x1024 := by
  have h := HostStage.reshape (x := main_arg9) (y := main_v12) (writes (F := F)) (fun r => m (c, r)) 14 rfl (by decide +kernel) (by decide +kernel)
  exact h
theorem s_v13 : h_v13 m c = shapeCast _ (h_arg5 m c) shapeCasts_S1024_S1x1024 := by
  have h := HostStage.reshape (x := main_arg5) (y := main_v13) (writes (F := F)) (fun r => m (c, r)) 15 rfl (by decide +kernel) (by decide +kernel)
  exact h
theorem s_v14 : h_v14 m c = (((truncf .bf16 · bitsLt_bf16_f32) : (⟨S1024x1024, .f32⟩ : BufTy).Contents (Elt F) → (⟨S1024x1024, .bf16⟩ : BufTy).Contents (Elt F))) (h_arg6 m c) := by
  have h := HostStage.unary (x := main_arg6) (y := main_v14) (writes (F := F)) (fun r => m (c, r)) 16 rfl (by decide +kernel) (by decide +kernel)
  exact h
theorem s_v15 : h_v15 m c = (((extractStridedSlice S4x1x512x1024 ![0, 0, 0, 0] · slices_S4x2x512x1024_S4x1x512x1024_0_0_0_0) : (⟨S4x2x512x1024, .bf16⟩ : BufTy).Contents (Elt F) → (⟨S4x1x512x1024, .bf16⟩ : BufTy).Contents (Elt F))) (h_v6 m c) := by
  have h := HostStage.unary (x := main_v6) (y := main_v15) (writes (F := F)) (fun r => m (c, r)) 17 rfl (by decide +kernel) (by decide +kernel)
  exact h
theorem s_v16 : h_v16 m c = shapeCast _ (h_v15 m c) shapeCasts_S4x1x512x1024_S4x512x1024 := by
  have h := HostStage.reshape (x := main_v15) (y := main_v16) (writes (F := F)) (fun r => m (c, r)) 18 rfl (by decide +kernel) (by decide +kernel)
  exact h
theorem s_v17 : h_v17 m c = (((extractStridedSlice S4x1x512x1024 ![0, 1, 0, 0] · slices_S4x2x512x1024_S4x1x512x1024_0_1_0_0) : (⟨S4x2x512x1024, .bf16⟩ : BufTy).Contents (Elt F) → (⟨S4x1x512x1024, .bf16⟩ : BufTy).Contents (Elt F))) (h_v6 m c) := by
  have h := HostStage.unary (x := main_v6) (y := main_v17) (writes (F := F)) (fun r => m (c, r)) 19 rfl (by decide +kernel) (by decide +kernel)
  exact h
theorem s_v18 : h_v18 m c = shapeCast _ (h_v17 m c) shapeCasts_S4x1x512x1024_S4x512x1024 := by
  have h := HostStage.reshape (x := main_v17) (y := main_v18) (writes (F := F)) (fun r => m (c, r)) 20 rfl (by decide +kernel) (by decide +kernel)
  exact h

end Cert.Proof.PostStage
-- ==== Proof.PostEntry.lean ====
/- What the closing kernel's windows hold when it starts, in real numbers: the host lines before it on finite arguments. -/
module

public import proofs.«01_k».proof.Proof.PostReal
public import proofs.«01_k».proof.Proof.PostStage

@[expose] public section

set_option maxRecDepth 16384

noncomputable section

open Idealize.ShloMosaic Idealize.ShloMosaic.TcCoe Idealize.SL.Sem

namespace Cert.Proof.PostEntry

open Cert.Kernel4Ideal Cert.Kernel4Ideal.Gen MlaReal PostReal PostStage

variable (m : (ℓ : Loc nD τ sig) → Buf (Elt Ideal) ℓ) (c : Dev nD)

/-- A column of one of the six parts of the modulation. -/
abbrev part (p : Fin 6) (c : Fin 1024) : Fin 6144 := ⟨p.val * 1024 + c.val, by omega⟩
/-- A packed row, and a column of the wide layer. -/
abbrev prow (b : Fin 2) (i : Fin 2048) : Fin 4096 := ⟨b.val * 2048 + i.val, by omega⟩
abbrev slab (s : Fin 4) (f : Fin 1024) : Fin 4096 := ⟨s.val * 1024 + f.val, by omega⟩
abbrev lo (f : Fin 512) : Fin 1024 := ⟨f.val, by omega⟩
abbrev up (f : Fin 512) : Fin 1024 := ⟨512 + f.val, by omega⟩
/-- The example and the row of a packed row. -/
abbrev rb (r : Fin 4096) : Fin 2 := ⟨r.val / 2048, by omega⟩
abbrev ri (r : Fin 4096) : Fin 2048 := ⟨r.val % 2048, by omega⟩

/-- The arguments, every one that is read an array of real numbers. -/
structure Args (a : In) : Prop where
  yr : h_arg0 m c = co a.yr
  ym : h_arg1 m c = co a.ym
  x : h_arg2 m c = co a.x
  gta : ∀ b k, @Eq EReal (h_arg3 m c (ix2 b (part 2 k))) (a.gta b k : EReal)
  shf : ∀ b k, @Eq EReal (h_arg3 m c (ix2 b (part 3 k))) (a.shf b k : EReal)
  scf : ∀ b k, @Eq EReal (h_arg3 m c (ix2 b (part 4 k))) (a.scf b k : EReal)
  gtf : ∀ b k, @Eq EReal (h_arg3 m c (ix2 b (part 5 k))) (a.gtf b k : EReal)
  gf : (show FVec Ideal S1x1024 .f32 from V m c main_arg4) = co a.gf
  gl : h_arg5 m c = co a.gl
  wo : h_arg6 m c = co a.wo
  w1 : h_arg7 m c = co a.w1
  w2 : h_arg8 m c = co a.w2
  tg : h_arg9 m c = co a.tg

theorem mod_at (b : Fin 2) (p : Fin 6) (k : Fin 1024) :
    @Eq EReal (h_v1 m c (ix3 ⟨b.val, by omega⟩ ⟨p.val, by omega⟩ k)) (h_arg3 m c (ix2 b (part p k))) := by
  rw [s_v1, s_v0]
  generalize h_call0_v0 m c = z
  pointwise

variable {m c} {a : In} (A : Args m c a)
include A

theorem v8_at (r k) : @Eq EReal (h_v8 m c (ix2 r k)) (a.yr (ix3 (rb r) (ri r) k) : EReal) := by
  rw [s_v8, s_v7, A.yr]
  pointwise
  rfl

theorem v10_at (r k) : @Eq EReal (h_v10 m c (ix2 r k)) (a.ym (ix3 (rb r) (ri r) k) : EReal) := by
  rw [s_v10, s_v9, A.ym]
  pointwise
  rfl

theorem v11_at (r k) : @Eq EReal (h_v11 m c (ix2 r k)) (a.x (ix3 (rb r) (ri r) k) : EReal) := by
  rw [s_v11, A.x]
  pointwise
  rfl

theorem v12_at (r k) : @Eq EReal (h_v12 m c (ix2 r k)) (a.tg (ix3 (rb r) (ri r) k) : EReal) := by
  rw [s_v12, A.tg]
  pointwise
  rfl

theorem v13_at (k) : @Eq EReal (h_v13 m c (ix2 0 k)) (a.gl (ix1 k) : EReal) := by
  rw [s_v13, A.gl]
  pointwise
  rfl

theorem v14_at (k j) : @Eq EReal (h_v14 m c (ix2 k j)) (a.wo (ix2 k j) : EReal) := by
  rw [s_v14, A.wo]
  pointwise
  rfl

theorem v4_at (s k f) : @Eq EReal (h_v4 m c (ix3 s k f)) (a.w1 (ix2 k (slab s f)) : EReal) := by
  rw [s_v4, s_v3, s_v2, A.w1]
  pointwise
  rfl

theorem v16_at (s f k) : @Eq EReal (h_v16 m c (ix3 s f k)) (a.w2 (ix2 (slab s (lo f)) k) : EReal) := by
  rw [s_v16, s_v15, s_v6, s_v5, A.w2]
  pointwise
  rfl

theorem v18_at (s f k) : @Eq EReal (h_v18 m c (ix3 s f k)) (a.w2 (ix2 (slab s (up f)) k) : EReal) := by
  rw [s_v18, s_v17, s_v6, s_v5, A.w2]
  pointwise
  exact congrArg (fun f => (a.w2 (ix2 f k) : EReal)) (Fin.ext (add_assoc _ _ _))

end Cert.Proof.PostEntry

end
-- ==== Proof.PostBlk.lean ====
/- What the closing kernel computes from one block of rows, when the blocks it loads are real numbers. -/
module

public import proofs.«01_k».proof.Proof.PostEntry
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.PostBlk

open Cert.Kernel4Ideal Cert.Kernel4Ideal.Gen MlaReal PostReal PostEntry

/-! Sums over the mixed rows and over the wide layer, in the pieces the kernel takes. -/

theorem sum_halves (g : Fin 1024 → ℝ) : ∑ f : Fin 512, g (lo f) + ∑ f : Fin 512, g (up f) = ∑ f, g f :=
  (Fin.sum_univ_add (a := 512) (b := 512) g).symm

theorem sum_slabs (g : Fin 4096 → ℝ) :
    ∑ f, g (slab 0 f) + ∑ f, g (slab 1 f) + ∑ f, g (slab 2 f) + ∑ f, g (slab 3 f) = ∑ f, g f := by
  have h1 := Fin.sum_univ_add (a := 1024 + 1024 + 1024) (b := 1024) g
  have h2 := Fin.sum_univ_add (a := 1024 + 1024) (b := 1024) (fun f : Fin (1024 + 1024 + 1024) => g (Fin.castAdd 1024 f))
  have h3 := Fin.sum_univ_add (a := 1024) (b := 1024) (fun f : Fin (1024 + 1024) => g (Fin.castAdd 1024 (Fin.castAdd 1024 f)))
  refine Eq.trans ?_ h1.symm
  rw [h2, h3]
  refine congrArg₂ (· + ·) (congrArg₂ (· + ·) (congrArg₂ (· + ·) ?_ ?_) ?_) ?_ <;>
    exact Finset.sum_congr rfl fun f _ => congrArg g (Fin.ext (by simp [slab]; try omega))

variable (a : In) (b : Fin 2) (I : Fin 256 → Fin 2048)

/-- What one slab of the wide layer adds to its output, and to the gradient of its input. -/
def foS (s : Fin 4) (r : Fin 256) (k : Fin 1024) : ℝ := ∑ f, act a b (I r) (slab s f) * a.w2 (ix2 (slab s f) k)
def dhS (s : Fin 4) (r : Fin 256) (k : Fin 1024) : ℝ := ∑ f, du a b (I r) (slab s f) * a.w1 (ix2 k (slab s f))

theorem foS_halves (s r k) : ∑ f : Fin 512, act a b (I r) (slab s (lo f)) * a.w2 (ix2 (slab s (lo f)) k)
    + ∑ f : Fin 512, act a b (I r) (slab s (up f)) * a.w2 (ix2 (slab s (up f)) k) = foS a b I s r k :=
  sum_halves fun f => act a b (I r) (slab s f) * a.w2 (ix2 (slab s f) k)

theorem foS_sum (r k) : foS a b I 0 r k + foS a b I 1 r k + foS a b I 2 r k + foS a b I 3 r k = fo a b (I r) k :=
  sum_slabs fun f => act a b (I r) f * a.w2 (ix2 f k)

theorem dhS_sum (r k) : dhS a b I 0 r k + dhS a b I 1 r k + dhS a b I 2 r k + dhS a b I 3 r k = dh a b (I r) k :=
  sum_slabs fun f => du a b (I r) f * a.w1 (ix2 k f)

theorem op_halves (r k) : ∑ x : Fin 512, a.yr (ix3 b (I r) x) * a.wo (ix2 (lo x) k) + ∑ x : Fin 512, a.ym (ix3 b (I r) x) * a.wo (ix2 (up x) k)
    = op a b (I r) k := by
  refine Eq.trans ?_ (sum_halves fun x => mix a b (I r) x * a.wo (ix2 x k))
  refine congrArg₂ (· + ·) (Finset.sum_congr rfl fun x _ => ?_) (Finset.sum_congr rfl fun x _ => ?_)
  · unfold mix; rw [dif_pos x.isLt]
  · unfold mix
    rw [dif_neg (by simp [up])]
    exact congrArg (fun z => a.ym (ix3 b (I r) z) * a.wo (ix2 (up x) k)) (Fin.ext (by simp [up]))

variable {a b I}

section Forward

variable {v1 v3 v5 v7 v8 v10 : FVec Ideal S1x1024 .f32} {v23 v24 : FVec Ideal S256x1024 .f32}
  (h1 : ∀ k, @Eq EReal (v1 (ix2 0 k)) (a.gta b k : EReal)) (h3 : ∀ k, @Eq EReal (v3 (ix2 0 k)) (a.shf b k : EReal))
  (h5 : ∀ k, @Eq EReal (v5 (ix2 0 k)) (a.scf b k : EReal)) (h8 : ∀ k, @Eq EReal (v8 (ix2 0 k)) (a.gf (ix2 0 k) : EReal))
  (h23 : ∀ r k, @Eq EReal (v23 (ix2 r k)) (op a b (I r) k : EReal)) (h24 : ∀ r k, @Eq EReal (v24 (ix2 r k)) (a.x (ix3 b (I r) k) : EReal))

theorem op_at {v11 v13 : FVec Ideal S256x512 .bf16} {v17 v20 : FVec Ideal S512x1024 .bf16}
    (h11 : ∀ r k, @Eq EReal (v11 (ix2 r k)) (a.yr (ix3 b (I r) k) : EReal)) (h13 : ∀ r k, @Eq EReal (v13 (ix2 r k)) (a.ym (ix3 b (I r) k) : EReal))
    (h17 : ∀ x k, @Eq EReal (v17 (ix2 x k)) (a.wo (ix2 (lo x) k) : EReal)) (h20 : ∀ x k, @Eq EReal (v20 (ix2 x k)) (a.wo (ix2 (up x) k) : EReal))
    (r k) : @Eq EReal (k0_pay10 (F := Ideal) v11 v13 v17 v20 (ix2 r k)) (op a b (I r) k : EReal) := by
  unfold k0_pay10 k0_pay8 k0_pay9
  pointwise
  simp only [h11, h13, h17, h20, ← EReal.coe_mul, ← Attn.coe_sum, ← EReal.coe_add]
  exact congrArg _ (op_halves a b I r k)

include h1 h23 h24

theorem mid_at (r k) : @Eq EReal (k0_pay11 (F := Ideal) v1 v23 v24 (ix2 r k)) (mid a b (I r) k : EReal) := by
  unfold k0_pay11
  pointwise
  simp only [h1, h23, h24, ← EReal.coe_mul, ← EReal.coe_add]
  rfl

theorem rr2_at (r) : @Eq EReal (k0_pay12 (F := Ideal) v1 v23 v24 (ix2 r 0)) (rr (mid a b (I r)) : EReal) := by
  have h := mid_at h1 h23 h24
  unfold k0_pay12
  generalize k0_pay11 (F := Ideal) v1 v23 v24 = y at h
  pointwise
  simp only [h, n1024, eps_eq, ← EReal.coe_mul, ← Attn.coe_sum]
  rw [Scal.div_coe _ _ (by norm_num), ← EReal.coe_add]
  exact rsqrt_ms _

theorem xh2_at (r k) : @Eq EReal (k0_pay13 (F := Ideal) v1 v23 v24 (ix2 r k)) (xh2 a b (I r) k : EReal) := by
  have h := mid_at h1 h23 h24
  have h' := rr2_at h1 h23 h24
  unfold k0_pay13
  generalize k0_pay11 (F := Ideal) v1 v23 v24 = y at h
  generalize k0_pay12 (F := Ideal) v1 v23 v24 = z at h'
  pointwise
  simp only [h, h', ← EReal.coe_mul]
  rfl

include h3 h5 h8

theorem hh_at (r k) : @Eq EReal (k0_pay14 (F := Ideal) v1 v3 v5 v8 v23 v24 (ix2 r k)) (hh a b (I r) k : EReal) := by
  have h := xh2_at h1 h23 h24
  unfold k0_pay14
  generalize k0_pay13 (F := Ideal) v1 v23 v24 = y at h
  pointwise
  simp only [h, h3, h5, h8, ← EReal.coe_one, ← EReal.coe_mul, ← EReal.coe_add]
  rfl

end Forward

section Wide

variable {s : Fin 4} {v47 : FVec Ideal S256x1024 .bf16} {v71 : FVec Ideal S1x1024x1024 .bf16}
  (h47 : ∀ r k, @Eq EReal (v47 (ix2 r k)) (hh a b (I r) k : EReal))
  (h71 : ∀ k f, @Eq EReal (v71 (ix3 0 k f)) (a.w1 (ix2 k (slab s f)) : EReal))
include h47 h71

theorem pu_at (r f) : @Eq EReal (k0_pay20 (F := Ideal) v47 v71 (ix2 r f)) (pu a b (I r) (slab s f) : EReal) := by
  unfold k0_pay20
  pointwise
  simp only [h47, h71, ← EReal.coe_mul, ← Attn.coe_sum, ← EReal.coe_zero]
  exact EReal.coe_strictMono.monotone.map_max.symm

theorem pu_at' (r f) : @Eq EReal (k0_pay21 (F := Ideal) v47 v71 (ix2 r f)) (pu a b (I r) (slab s f) : EReal) := by
  have h := pu_at h47 h71
  unfold k0_pay21
  generalize k0_pay20 (F := Ideal) v47 v71 = y at h
  pointwise
  exact h r f

theorem act_at (r f) : @Eq EReal (k0_pay22 (F := Ideal) v47 v71 (ix2 r f)) (act a b (I r) (slab s f) : EReal) := by
  have h := pu_at h47 h71
  unfold k0_pay22
  generalize k0_pay20 (F := Ideal) v47 v71 = y at h
  pointwise
  simp only [h, ← EReal.coe_mul]
  rfl

end Wide

/-- A slab's two products with the two halves of the second matrix. -/
theorem fo_slab {s : Fin 4} {x : ℝ} {z : FVec Ideal S256x1024 .f32} {y : FVec Ideal S256x1024 .bf16} {u w : FVec Ideal S1x512x1024 .bf16}
    (hy : ∀ r f, @Eq EReal (y (ix2 r f)) (act a b (I r) (slab s f) : EReal))
    (hu : ∀ f k, @Eq EReal (u (ix3 0 f k)) (a.w2 (ix2 (slab s (lo f)) k) : EReal)) (hw : ∀ f k, @Eq EReal (w (ix3 0 f k)) (a.w2 (ix2 (slab s (up f)) k) : EReal))
    (r k) (hz : @Eq EReal (z (ix2 r k)) (x : EReal)) : @Eq EReal (k0_pay33 (F := Ideal) z y (extractStridedSlice S256x512 ![0, 0] y slices_S256x1024_o0_0_S256x512) u w (ix2 r k)) ((x + foS a b I s r k : ℝ) : EReal) := by
  unfold k0_pay33
  pointwise
  simp only [hz, hy, hu, hw, ← EReal.coe_mul, ← Attn.coe_sum, ← EReal.coe_add]
  rw [← foS_halves, ← add_assoc]

/-- The first two slabs' part of the wide layer's output, and the third's, are sums of the same kind. -/
theorem fo_first {v47 : FVec Ideal S256x1024 .bf16} {v49 : FVec Ideal S256x1024 .f32} {v59 : FVec Ideal S256x1024 .bf16} {v61 : FVec Ideal S256x512 .bf16}
    {v62 v67 v83 v88 : FVec Ideal S1x512x1024 .bf16} {v71 : FVec Ideal S1x1024x1024 .bf16} :
    k0_pay23 (F := Ideal) v47 v49 v59 v61 v62 v67 v71 v83 v88 = k0_pay33 (F := Ideal) (k0_pay33 (F := Ideal) v49 v59 v61 v62 v67) (k0_pay22 (F := Ideal) v47 v71)
      (extractStridedSlice S256x512 ![0, 0] (k0_pay22 (F := Ideal) v47 v71) slices_S256x1024_o0_0_S256x512) v83 v88 := rfl

theorem fo_third {v91 v94 : FVec Ideal S256x1024 .f32} {v104 v109 : FVec Ideal S1x512x1024 .bf16} :
    k0_pay28 (F := Ideal) v91 v94 v104 v109 = k0_pay33 (F := Ideal) v91 (k0_pay27 (F := Ideal) v94)
      (extractStridedSlice S256x512 ![0, 0] (k0_pay27 (F := Ideal) v94) slices_S256x1024_o0_0_S256x512) v104 v109 := rfl

section Norm

variable {v7 v10 : FVec Ideal S1x1024 .f32} {v28 v112 v149 : FVec Ideal S256x1024 .f32} {v122 : FVec Ideal S256x1024 .bf16} {v124 : FVec Ideal S256x512 .bf16}
  {v125 v130 : FVec Ideal S1x512x1024 .bf16}
  (h7 : ∀ k, @Eq EReal (v7 (ix2 0 k)) (a.gtf b k : EReal)) (h10 : ∀ k, @Eq EReal (v10 (ix2 0 k)) (a.gl (ix1 k) : EReal))
  (h28 : ∀ r k, @Eq EReal (v28 (ix2 r k)) (mid a b (I r) k : EReal)) (h149 : ∀ r k, @Eq EReal (v149 (ix2 r k)) (a.tg (ix3 b (I r) k) : EReal))
  (hf : ∀ r k, @Eq EReal (k0_pay33 (F := Ideal) v112 v122 v124 v125 v130 (ix2 r k)) (fo a b (I r) k : EReal))
include h7 h28 hf

theorem out_at (r k) : @Eq EReal (k0_pay34 (F := Ideal) v7 v28 v112 v122 v124 v125 v130 (ix2 r k)) (out a b (I r) k : EReal) := by
  unfold k0_pay34
  generalize k0_pay33 (F := Ideal) v112 v122 v124 v125 v130 = y at hf
  pointwise
  simp only [h7, h28, hf, ← EReal.coe_mul, ← EReal.coe_add]
  rfl

theorem rr3_at (r) : @Eq EReal (k0_pay35 (F := Ideal) v7 v28 v112 v122 v124 v125 v130 (ix2 r 0)) (rr (out a b (I r)) : EReal) := by
  have h := out_at h7 h28 hf
  unfold k0_pay35
  generalize k0_pay34 (F := Ideal) v7 v28 v112 v122 v124 v125 v130 = y at h
  pointwise
  simp only [h, n1024, eps_eq, ← EReal.coe_mul, ← Attn.coe_sum]
  rw [Scal.div_coe _ _ (by norm_num), ← EReal.coe_add]
  exact rsqrt_ms _

theorem xh3_at (r k) : @Eq EReal (k0_pay36 (F := Ideal) v7 v28 v112 v122 v124 v125 v130 (ix2 r k)) (xh3 a b (I r) k : EReal) := by
  have h := out_at h7 h28 hf
  have h' := rr3_at h7 h28 hf
  unfold k0_pay36
  generalize k0_pay34 (F := Ideal) v7 v28 v112 v122 v124 v125 v130 = y at h
  generalize k0_pay35 (F := Ideal) v7 v28 v112 v122 v124 v125 v130 = z at h'
  pointwise
  simp only [h, h', ← EReal.coe_mul]
  rfl

include h10 h149

theorem err_at (r k) : @Eq EReal (k0_pay37 (F := Ideal) v7 v10 v28 v112 v122 v124 v125 v130 v149 (ix2 r k)) (err a b (I r) k : EReal) := by
  have h := xh3_at h7 h28 hf
  unfold k0_pay37
  generalize k0_pay36 (F := Ideal) v7 v28 v112 v122 v124 v125 v130 = y at h
  pointwise
  simp only [h, h10, h149, ← EReal.coe_mul, ← EReal.coe_sub]
  rfl

theorem dy_at (r k) : @Eq EReal (k0_pay38 (F := Ideal) v7 v10 v28 v112 v122 v124 v125 v130 v149 (ix2 r k)) (dy a b (I r) k : EReal) := by
  have h := err_at h7 h10 h28 h149 hf
  unfold k0_pay38
  generalize k0_pay37 (F := Ideal) v7 v10 v28 v112 v122 v124 v125 v130 v149 = y at h
  pointwise
  rw [h, n1024', ← EReal.coe_mul]
  rfl

theorem dout_at (r k) : @Eq EReal (k0_pay39 (F := Ideal) v7 v10 v28 v112 v122 v124 v125 v130 v149 (ix2 r k)) (dout a b (I r) k : EReal) := by
  have h := dy_at h7 h10 h28 h149 hf
  have h' := rr3_at h7 h28 hf
  have h'' := xh3_at h7 h28 hf
  unfold k0_pay39
  generalize k0_pay38 (F := Ideal) v7 v10 v28 v112 v122 v124 v125 v130 v149 = y at h
  generalize k0_pay35 (F := Ideal) v7 v28 v112 v122 v124 v125 v130 = z at h'
  generalize k0_pay36 (F := Ideal) v7 v28 v112 v122 v124 v125 v130 = w at h''
  pointwise
  simp only [h, h', h'', h10, n1024, ← EReal.coe_mul, ← Attn.coe_sum]
  rw [Scal.div_coe _ _ (by norm_num), ← EReal.coe_mul, ← EReal.coe_sub, ← EReal.coe_mul]
  rfl

theorem df_at (r k) : @Eq EReal (k0_pay40 (F := Ideal) v7 v10 v28 v112 v122 v124 v125 v130 v149 (ix2 r k)) (df a b (I r) k : EReal) := by
  have h := dout_at h7 h10 h28 h149 hf
  unfold k0_pay40
  generalize k0_pay39 (F := Ideal) v7 v10 v28 v112 v122 v124 v125 v130 v149 = y at h
  pointwise
  simp only [h, h7, ← EReal.coe_mul]
  rfl

end Norm

section Down

variable {s : Fin 4} {v168 : FVec Ideal S256x1024 .bf16} {v171 v174 : FVec Ideal S1x512x1024 .bf16} {v178 : FVec Ideal S256x1024 .f32} {v184 : FVec Ideal S1x1024x1024 .bf16}
  (h168 : ∀ r k, @Eq EReal (v168 (ix2 r k)) (df a b (I r) k : EReal))
  (h171 : ∀ f k, @Eq EReal (v171 (ix3 0 f k)) (a.w2 (ix2 (slab s (lo f)) k) : EReal)) (h174 : ∀ f k, @Eq EReal (v174 (ix3 0 f k)) (a.w2 (ix2 (slab s (up f)) k) : EReal))
  (h178 : ∀ r f, @Eq EReal (v178 (ix2 r f)) (pu a b (I r) (slab s f) : EReal))

section

include h168 h171 h174 h178

theorem du_at (r f) : @Eq EReal (k0_pay41 (F := Ideal) v168 v171 v174 v178 (ix2 r f)) (du a b (I r) (slab s f) : EReal) := by
  unfold k0_pay41
  pointwise
  simp only [h168, h171, h174, h178, two_lit, ← EReal.coe_mul, ← Attn.coe_sum]
  split_ifs with hf h1
  · rw [← EReal.coe_mul]
    rfl
  · rw [← EReal.coe_mul]
    have e : slab s (up ⟨f.val - 512, by omega⟩) = slab s f := Fin.ext (by simp [slab, up]; omega)
    rw [e]
    rfl
  · exact absurd rfl h1

end

/-- A slab's product of the layer's gradient with the first matrix. -/
theorem dh_slab {x : ℝ} {z : FVec Ideal S256x1024 .f32} {y : FVec Ideal S256x1024 .bf16} {w : FVec Ideal S1x1024x1024 .bf16}
    (hy : ∀ r f, @Eq EReal (y (ix2 r f)) (du a b (I r) (slab s f) : EReal)) (hw : ∀ k f, @Eq EReal (w (ix3 0 k f)) (a.w1 (ix2 k (slab s f)) : EReal))
    (r k) (hz : @Eq EReal (z (ix2 r k)) (x : EReal)) :
    @Eq EReal ((addf z (matmul dot_S256x1024_S1024x1024_S256x1024_1_1_0_0_n_n none y (shapeCast S1024x1024 w shapeCasts_S1x1024x1024_S1024x1024) (constant S256x1024 .f32 0x00000000#32)) : FVec Ideal S256x1024 .f32) (ix2 r k)) ((x + dhS a b I s r k : ℝ) : EReal) := by
  pointwise
  simp only [hz, hy, hw, ← EReal.coe_mul, ← Attn.coe_sum, ← EReal.coe_add]
  rfl

end Down

section Mid

variable {v1 v5 v8 : FVec Ideal S1x1024 .f32} {v36 : FVec Ideal S256x1 .f32} {v38 v165 v221 v229 : FVec Ideal S256x1024 .f32} {v168 : FVec Ideal S256x1024 .bf16}
  {v224 w : FVec Ideal S256x512 .f32} {v226 : FVec Ideal S512x1024 .bf16} {v235 : FVec Ideal S1x1024x1024 .bf16}
  (h1 : ∀ k, @Eq EReal (v1 (ix2 0 k)) (a.gta b k : EReal))
  (h5 : ∀ k, @Eq EReal (v5 (ix2 0 k)) (a.scf b k : EReal)) (h8 : ∀ k, @Eq EReal (v8 (ix2 0 k)) (a.gf (ix2 0 k) : EReal))
  (h36 : ∀ r, @Eq EReal (v36 (ix2 r 0)) (rr (mid a b (I r)) : EReal)) (h38 : ∀ r k, @Eq EReal (v38 (ix2 r k)) (xh2 a b (I r) k : EReal))
  (h165 : ∀ r k, @Eq EReal (v165 (ix2 r k)) (dout a b (I r) k : EReal))
  (hd : ∀ r k, @Eq EReal (k0_pay49 (F := Ideal) v168 v221 v224 v226 w v229 v235 (ix2 r k)) (dh a b (I r) k : EReal))
include h5 h8 h36 h38 h165 hd

theorem dmid_at (r k) : @Eq EReal (k0_pay50 (F := Ideal) v5 v8 v36 v38 v165 v168 v221 v224 v226 w v229 v235 (ix2 r k)) (dmid a b (I r) k : EReal) := by
  unfold k0_pay50
  generalize k0_pay49 (F := Ideal) v168 v221 v224 v226 w v229 v235 = y at hd
  pointwise
  simp only [hd, h5, h8, h36, h38, h165, n1024, ← EReal.coe_one, ← EReal.coe_mul, ← EReal.coe_add, ← Attn.coe_sum]
  rw [Scal.div_coe _ _ (by norm_num), ← EReal.coe_mul, ← EReal.coe_sub, ← EReal.coe_mul, ← EReal.coe_add]
  rfl

include h1

theorem dop_at (r k) : @Eq EReal (k0_pay51 (F := Ideal) v1 v5 v8 v36 v38 v165 v168 v221 v224 v226 w v229 v235 (ix2 r k)) (dop a b (I r) k : EReal) := by
  have h := dmid_at h5 h8 h36 h38 h165 hd
  unfold k0_pay51
  generalize k0_pay50 (F := Ideal) v5 v8 v36 v38 v165 v168 v221 v224 v226 w v229 v235 = y at h
  pointwise
  simp only [h, h1, ← EReal.coe_mul]
  rfl

theorem dmix_at {v261 : FVec Ideal S1024x1024 .bf16} (h261 : ∀ x k, @Eq EReal (v261 (ix2 x k)) (a.wo (ix2 x k) : EReal)) (r k) :
    @Eq EReal (k0_pay52 (F := Ideal) v1 v5 v8 v36 v38 v165 v168 v221 v224 v226 w v229 v235 v261 (ix2 r k)) (dmix a b (I r) k : EReal) := by
  have h := dop_at h1 h5 h8 h36 h38 h165 hd
  unfold k0_pay52
  generalize k0_pay51 (F := Ideal) v1 v5 v8 v36 v38 v165 v168 v221 v224 v226 w v229 v235 = y at h
  pointwise
  simp only [h, h261, ← EReal.coe_mul, ← Attn.coe_sum]
  rfl

end Mid

/-- The block's eight sums over its rows. -/
theorem stats_at {v5 v8 : FVec Ideal S1x1024 .f32} {v23 v38 v133 v146 v151 v153 v165 v238 v255 : FVec Ideal S256x1024 .f32}
    (h5 : ∀ k, @Eq EReal (v5 (ix2 0 k)) (a.scf b k : EReal)) (h8 : ∀ k, @Eq EReal (v8 (ix2 0 k)) (a.gf (ix2 0 k) : EReal))
    (h23 : ∀ r k, @Eq EReal (v23 (ix2 r k)) (op a b (I r) k : EReal)) (h38 : ∀ r k, @Eq EReal (v38 (ix2 r k)) (xh2 a b (I r) k : EReal))
    (h133 : ∀ r k, @Eq EReal (v133 (ix2 r k)) (fo a b (I r) k : EReal)) (h146 : ∀ r k, @Eq EReal (v146 (ix2 r k)) (xh3 a b (I r) k : EReal))
    (h151 : ∀ r k, @Eq EReal (v151 (ix2 r k)) (err a b (I r) k : EReal)) (h153 : ∀ r k, @Eq EReal (v153 (ix2 r k)) (dy a b (I r) k : EReal))
    (h165 : ∀ r k, @Eq EReal (v165 (ix2 r k)) (dout a b (I r) k : EReal)) (h238 : ∀ r k, @Eq EReal (v238 (ix2 r k)) (dh a b (I r) k : EReal))
    (h255 : ∀ r k, @Eq EReal (v255 (ix2 r k)) (dmid a b (I r) k : EReal)) (s : Fin 8) (k : Fin 1024) :
    @Eq EReal (k0_pay53 (F := Ideal) v5 v8 v23 v38 v133 v146 v151 v153 v165 v238 v255 (ix2 s k)) ((∑ r, stat a b (I r) s k : ℝ) : EReal) := by
  unfold k0_pay53
  fin_cases s
  all_goals
    pointwise
    try simp only [h5, h8, h23, h38, h133, h146, h151, h153, h165, h238, h255, ← EReal.coe_one, ← EReal.coe_mul, ← EReal.coe_add, ← Attn.coe_sum]
  on_goal 8 => exact ((congrArg _ Finset.sum_const_zero).trans EReal.coe_zero).symm
  all_goals rfl

end Cert.Proof.PostBlk

end
-- ==== Proof.PostRows.lean ====
/- The closing kernel's blocks in real numbers, and what a grid point computes from them. -/
module

public import proofs.«01_k».proof.Proof.PostEntry
public import proofs.«01_k».proof.Proof.PostBlk

@[expose] public section

set_option maxRecDepth 16384

noncomputable section

open Idealize.ShloMosaic Idealize.ShloMosaic.TcCoe Idealize.SL.Sem

namespace Cert.Proof.PostRows

open Cert.Kernel4Ideal Cert.Kernel4Ideal.Gen MlaReal PostReal PostStage PostEntry

variable (m : (ℓ : Loc nD τ sig) → Buf (Elt Ideal) ℓ) (c : Dev nD)

theorem idx : ∀ t : Fin cfg0.N, (cfg0.win 0).index t = ![t.val, 0] ∧ (cfg0.win 1).index t = ![t.val, 0] ∧ (cfg0.win 2).index t = ![t.val, 0]
    ∧ (cfg0.win 3).index t = ![t.val, 0] ∧ (cfg0.win 4).index t = ![t.val / 8, 0, 0] ∧ (cfg0.win 5).index t = ![0, 0] ∧ (cfg0.win 6).index t = ![0, 0]
    ∧ (cfg0.win 7).index t = ![0, 0] ∧ (cfg0.win 8).index t = ![0, 0, 0] ∧ (cfg0.win 9).index t = ![0, 0, 0] ∧ (cfg0.win 10).index t = ![0, 0, 0] := by decide +kernel

theorem idxo : ∀ t : Fin cfg0.N, (cfg0.win 11).index t = ![t.val, 0] ∧ (cfg0.win 12).index t = ![t.val, 0] ∧ (cfg0.win 13).index t = ![t.val, 0]
    ∧ (cfg0.win 14).index t = ![t.val, 0] ∧ (cfg0.win 15).index t = ![t.val, 0] ∧ (cfg0.win 16).index t = ![t.val, 0] ∧ (cfg0.win 17).index t = ![t.val, 0]
    ∧ (cfg0.win 18).index t = ![t.val, 0] ∧ (cfg0.win 19).index t = ![t.val / 8, 0, 0] := by decide +kernel

theorem lt16 (t : Fin cfg0.N) : t.val < 16 := lt_of_lt_of_eq t.isLt N_0

/-- The example and the rows of a grid point. -/
def tb (t : Fin cfg0.N) : Fin 2 := ⟨t.val / 8, by have := lt16 t; omega⟩
def ti (t : Fin cfg0.N) (r : Fin 256) : Fin 2048 := ⟨t.val % 8 * 256 + r.val, by omega⟩
def tr (t : Fin cfg0.N) (r : Fin 256) : Fin 4096 := ⟨t.val * 256 + r.val, by have := lt16 t; omega⟩

theorem rb_tr (t r) : rb (tr t r) = tb t := Fin.ext (by simp only [tr, tb]; omega)
theorem ri_tr (t r) : ri (tr t r) = ti t r := Fin.ext (by simp only [tr, ti]; omega)

variable {m c} {a : In} (A : Args m c a) (t : Fin cfg0.N)
include A

theorem w0 (r k) : @Eq EReal (iblk m c 0 t (ix2 r k)) (a.yr (ix3 (tb t) (ti t r) k) : EReal) := by
  refine Eq.trans ?_ ((v8_at A (tr t r) k).trans (by rw [rb_tr, ri_tr]))
  unfold h_v8 tr
  blk_ext [iblk, idx t]

theorem w1 (r k) : @Eq EReal (iblk m c 1 t (ix2 r k)) (a.ym (ix3 (tb t) (ti t r) k) : EReal) := by
  refine Eq.trans ?_ ((v10_at A (tr t r) k).trans (by rw [rb_tr, ri_tr]))
  unfold h_v10 tr
  blk_ext [iblk, idx t]

theorem w2 (r k) : @Eq EReal (iblk m c 2 t (ix2 r k)) (a.x (ix3 (tb t) (ti t r) k) : EReal) := by
  refine Eq.trans ?_ ((v11_at A (tr t r) k).trans (by rw [rb_tr, ri_tr]))
  unfold h_v11 tr
  blk_ext [iblk, idx t]

theorem w3 (r k) : @Eq EReal (iblk m c 3 t (ix2 r k)) (a.tg (ix3 (tb t) (ti t r) k) : EReal) := by
  refine Eq.trans ?_ ((v12_at A (tr t r) k).trans (by rw [rb_tr, ri_tr]))
  unfold h_v12 tr
  blk_ext [iblk, idx t]

omit A in
theorem w4 (p : Fin 6) (k) : @Eq EReal (iblk m c 4 t (ix3 0 ⟨p.val, by omega⟩ k)) (h_arg3 m c (ix2 (tb t) (part p k))) := by
  refine Eq.trans ?_ (mod_at m c (tb t) p k)
  have := lt16 t
  unfold h_v1 tb
  blk_ext [iblk, idx t]

theorem w5 (k) : @Eq EReal (iblk m c 5 t (ix2 0 k)) (a.gf (ix2 0 k) : EReal) := by
  refine Eq.trans ?_ (congrFun A.gf (ix2 0 k))
  blk_ext [iblk, idx t]

theorem w6 (k) : @Eq EReal (iblk m c 6 t (ix2 0 k)) (a.gl (ix1 k) : EReal) := by
  refine Eq.trans ?_ (v13_at A k)
  unfold h_v13
  blk_ext [iblk, idx t]

theorem w7 (k j) : @Eq EReal (iblk m c 7 t (ix2 k j)) (a.wo (ix2 k j) : EReal) := by
  refine Eq.trans ?_ (v14_at A k j)
  unfold h_v14
  blk_ext [iblk, idx t]

theorem w8 (s k f) : @Eq EReal (iblk m c 8 t (ix3 s k f)) (a.w1 (ix2 k (slab s f)) : EReal) := by
  refine Eq.trans ?_ (v4_at A s k f)
  unfold h_v4
  blk_ext [iblk, idx t]

theorem w9 (s f k) : @Eq EReal (iblk m c 9 t (ix3 s f k)) (a.w2 (ix2 (slab s (lo f)) k) : EReal) := by
  refine Eq.trans ?_ (v16_at A s f k)
  unfold h_v16
  blk_ext [iblk, idx t]

theorem w10 (s f k) : @Eq EReal (iblk m c 10 t (ix3 s f k)) (a.w2 (ix2 (slab s (up f)) k) : EReal) := by
  refine Eq.trans ?_ (v18_at A s f k)
  unfold h_v18
  blk_ext [iblk, idx t]

omit A in
/-- A row of the modulation's block, and a slab of a block of matrices. -/
theorem ld_row {n w : ℕ} {o : ℕ} {Val : EltTy → Type} {e : EltTy} (X : (⟨3, ![1, n, w]⟩ : Shape).Idx → Val e)
    (h : ∀ a, (![0, o, 0] : Fin 3 → ℕ) a + (![1, 1, w] : Fin 3 → ℕ) a ≤ (![1, n, w] : Fin 3 → ℕ) a) (ho : o < n) (k : Fin w) :
    View.ld (Val := Val) X (Rect.unit (s := ⟨3, ![1, n, w]⟩) ![0, o, 0] ![1, 1, w] h) (ix3 0 0 k) = X (ix3 0 ⟨o, ho⟩ k) := by
  refine congrArg X (funext fun a => Fin.ext ?_)
  show (![0, o, 0] : Fin 3 → ℕ) a + 1 * ((ix3 (0 : Fin 1) (0 : Fin 1) k) a).val = _
  fin_cases a <;> simp [ix3]

omit A in
theorem ld_slab {n k w : ℕ} {o : ℕ} {Val : EltTy → Type} {e : EltTy} (X : (⟨3, ![n, k, w]⟩ : Shape).Idx → Val e)
    (h : ∀ a, (![o, 0, 0] : Fin 3 → ℕ) a + (![1, k, w] : Fin 3 → ℕ) a ≤ (![n, k, w] : Fin 3 → ℕ) a) (ho : o < n) (i : Fin k) (j : Fin w) :
    View.ld (Val := Val) X (Rect.unit (s := ⟨3, ![n, k, w]⟩) ![o, 0, 0] ![1, k, w] h) (ix3 0 i j) = X (ix3 ⟨o, ho⟩ i j) := by
  refine congrArg X (funext fun a => Fin.ext ?_)
  show (![o, 0, 0] : Fin 3 → ℕ) a + 1 * ((ix3 (0 : Fin 1) i j) a).val = _
  fin_cases a <;> simp [ix3]

/-! The values of a point, as the kernel nests them. -/

section Vals

variable (m c)

abbrev P1 := k0_pay3 (F := Ideal) (View.ld (iblk m c 4 t) (Rect.unit (s := S1x8x1024) ![0, 2, 0] S1x1x1024.size inb_S1x8x1024_S1x1x1024_0_2_0))
abbrev P3 := k0_pay4 (F := Ideal) (View.ld (iblk m c 4 t) (Rect.unit (s := S1x8x1024) ![0, 3, 0] S1x1x1024.size inb_S1x8x1024_S1x1x1024_0_3_0))
abbrev P5 := k0_pay5 (F := Ideal) (View.ld (iblk m c 4 t) (Rect.unit (s := S1x8x1024) ![0, 4, 0] S1x1x1024.size inb_S1x8x1024_S1x1x1024_0_4_0))
abbrev P7 := k0_pay6 (F := Ideal) (View.ld (iblk m c 4 t) (Rect.unit (s := S1x8x1024) ![0, 5, 0] S1x1x1024.size inb_S1x8x1024_S1x1x1024_0_5_0))
abbrev P10 := k0_pay7 (F := Ideal) (iblk m c 6 t)
abbrev OP := k0_pay10 (F := Ideal) (iblk m c 0 t) (iblk m c 1 t) (View.ld (iblk m c 7 t) (Rect.unit (s := S1024x1024) ![0, 0] S512x1024.size inb_S1024x1024_S512x1024_0_0))
  (View.ld (iblk m c 7 t) (Rect.unit (s := S1024x1024) ![512, 0] S512x1024.size inb_S1024x1024_S512x1024_512_0))
abbrev MID := k0_pay11 (F := Ideal) (P1 m c t) (OP m c t) (iblk m c 2 t)
abbrev RR2 := k0_pay12 (F := Ideal) (P1 m c t) (OP m c t) (iblk m c 2 t)
abbrev XH2 := k0_pay13 (F := Ideal) (P1 m c t) (OP m c t) (iblk m c 2 t)
abbrev HH := k0_pay14 (F := Ideal) (P1 m c t) (P3 m c t) (P5 m c t) (iblk m c 5 t) (OP m c t) (iblk m c 2 t)
abbrev WU0 := View.ld (iblk m c 8 t) (Rect.unit (s := S4x1024x1024) ![0, 0, 0] S1x1024x1024.size inb_S4x1024x1024_S1x1024x1024_0_0_0)
abbrev WL0 := View.ld (iblk m c 9 t) (Rect.unit (s := S4x512x1024) ![0, 0, 0] S1x512x1024.size inb_S4x512x1024_S1x512x1024_0_0_0)
abbrev WH0 := View.ld (iblk m c 10 t) (Rect.unit (s := S4x512x1024) ![0, 0, 0] S1x512x1024.size inb_S4x512x1024_S1x512x1024_0_0_0)
abbrev WU1 := View.ld (iblk m c 8 t) (Rect.unit (s := S4x1024x1024) ![1, 0, 0] S1x1024x1024.size inb_S4x1024x1024_S1x1024x1024_1_0_0)
abbrev WL1 := View.ld (iblk m c 9 t) (Rect.unit (s := S4x512x1024) ![1, 0, 0] S1x512x1024.size inb_S4x512x1024_S1x512x1024_1_0_0)
abbrev WH1 := View.ld (iblk m c 10 t) (Rect.unit (s := S4x512x1024) ![1, 0, 0] S1x512x1024.size inb_S4x512x1024_S1x512x1024_1_0_0)
abbrev WU2 := View.ld (iblk m c 8 t) (Rect.unit (s := S4x1024x1024) ![2, 0, 0] S1x1024x1024.size inb_S4x1024x1024_S1x1024x1024_2_0_0)
abbrev WL2 := View.ld (iblk m c 9 t) (Rect.unit (s := S4x512x1024) ![2, 0, 0] S1x512x1024.size inb_S4x512x1024_S1x512x1024_2_0_0)
abbrev WH2 := View.ld (iblk m c 10 t) (Rect.unit (s := S4x512x1024) ![2, 0, 0] S1x512x1024.size inb_S4x512x1024_S1x512x1024_2_0_0)
abbrev WU3 := View.ld (iblk m c 8 t) (Rect.unit (s := S4x1024x1024) ![3, 0, 0] S1x1024x1024.size inb_S4x1024x1024_S1x1024x1024_3_0_0)
abbrev WL3 := View.ld (iblk m c 9 t) (Rect.unit (s := S4x512x1024) ![3, 0, 0] S1x512x1024.size inb_S4x512x1024_S1x512x1024_3_0_0)
abbrev WH3 := View.ld (iblk m c 10 t) (Rect.unit (s := S4x512x1024) ![3, 0, 0] S1x512x1024.size inb_S4x512x1024_S1x512x1024_3_0_0)
abbrev G0 := k0_pay18 (F := Ideal) (P1 m c t) (P3 m c t) (P5 m c t) (iblk m c 5 t) (OP m c t) (iblk m c 2 t) (WU0 m c t)
abbrev G1 := k0_pay19 (F := Ideal) (P1 m c t) (P3 m c t) (P5 m c t) (iblk m c 5 t) (OP m c t) (iblk m c 2 t) (WU0 m c t)
abbrev F2 := k0_pay23 (F := Ideal) (HH m c t) (k0_pay15 (F := Ideal)) (G0 m c t) (G1 m c t) (WL0 m c t) (WH0 m c t) (WU1 m c t) (WL1 m c t) (WH1 m c t)
abbrev U2 := k0_pay24 (F := Ideal) (HH m c t) (WU2 m c t)
abbrev F3 := k0_pay28 (F := Ideal) (F2 m c t) (U2 m c t) (WL2 m c t) (WH2 m c t)
abbrev G3 := k0_pay31 (F := Ideal) (HH m c t) (WU3 m c t)
abbrev G4 := k0_pay32 (F := Ideal) (HH m c t) (WU3 m c t)
abbrev FO := k0_pay33 (F := Ideal) (F3 m c t) (G3 m c t) (G4 m c t) (WL3 m c t) (WH3 m c t)
abbrev XH3 := k0_pay36 (F := Ideal) (P7 m c t) (MID m c t) (F3 m c t) (G3 m c t) (G4 m c t) (WL3 m c t) (WH3 m c t)
abbrev ERR := k0_pay37 (F := Ideal) (P7 m c t) (P10 m c t) (MID m c t) (F3 m c t) (G3 m c t) (G4 m c t) (WL3 m c t) (WH3 m c t) (iblk m c 3 t)
abbrev DY := k0_pay38 (F := Ideal) (P7 m c t) (P10 m c t) (MID m c t) (F3 m c t) (G3 m c t) (G4 m c t) (WL3 m c t) (WH3 m c t) (iblk m c 3 t)
abbrev DOUT := k0_pay39 (F := Ideal) (P7 m c t) (P10 m c t) (MID m c t) (F3 m c t) (G3 m c t) (G4 m c t) (WL3 m c t) (WH3 m c t) (iblk m c 3 t)
abbrev DF := k0_pay40 (F := Ideal) (P7 m c t) (P10 m c t) (MID m c t) (F3 m c t) (G3 m c t) (G4 m c t) (WL3 m c t) (WH3 m c t) (iblk m c 3 t)
abbrev PU0 := k0_pay17 (F := Ideal) (P1 m c t) (P3 m c t) (P5 m c t) (iblk m c 5 t) (OP m c t) (iblk m c 2 t) (WU0 m c t)
abbrev PU1 := k0_pay21 (F := Ideal) (HH m c t) (WU1 m c t)
abbrev PU2 := k0_pay26 (F := Ideal) (U2 m c t)
abbrev PU3 := k0_pay30 (F := Ideal) (HH m c t) (WU3 m c t)
abbrev DU0 := k0_pay41 (F := Ideal) (DF m c t) (WL0 m c t) (WH0 m c t) (PU0 m c t)
abbrev DU1 := k0_pay43 (F := Ideal) (DF m c t) (WL1 m c t) (WH1 m c t) (PU1 m c t)
abbrev DU2 := k0_pay44 (F := Ideal) (DF m c t) (WL2 m c t) (WH2 m c t) (PU2 m c t)
abbrev Z3 : FVec Ideal S256x512 .f32 := constant S256x512 .f32 0x00000000#32
abbrev DU3 := k0_pay48 (F := Ideal) (DF m c t) (k0_pay46 (F := Ideal) (DF m c t) (WL3 m c t)) (k0_pay47 (F := Ideal) (WH3 m c t)) Z3 (PU3 m c t)
abbrev H0 := k0_pay42 (F := Ideal) (DF m c t) (WL0 m c t) (WH0 m c t) (PU0 m c t) (WU0 m c t)
abbrev H2 := k0_pay45 (F := Ideal) (DF m c t) (H0 m c t) (DU1 m c t) (WU1 m c t) (WL2 m c t) (WH2 m c t) (PU2 m c t) (WU2 m c t)
abbrev DH := k0_pay49 (F := Ideal) (DF m c t) (H2 m c t) (k0_pay46 (F := Ideal) (DF m c t) (WL3 m c t)) (k0_pay47 (F := Ideal) (WH3 m c t)) Z3 (PU3 m c t) (WU3 m c t)
abbrev DMID := k0_pay50 (F := Ideal) (P5 m c t) (iblk m c 5 t) (RR2 m c t) (XH2 m c t) (DOUT m c t) (DF m c t) (H2 m c t) (k0_pay46 (F := Ideal) (DF m c t) (WL3 m c t)) (k0_pay47 (F := Ideal) (WH3 m c t)) Z3 (PU3 m c t) (WU3 m c t)
abbrev DOP := k0_pay51 (F := Ideal) (P1 m c t) (P5 m c t) (iblk m c 5 t) (RR2 m c t) (XH2 m c t) (DOUT m c t) (DF m c t) (H2 m c t) (k0_pay46 (F := Ideal) (DF m c t) (WL3 m c t)) (k0_pay47 (F := Ideal) (WH3 m c t)) Z3 (PU3 m c t) (WU3 m c t)
abbrev DMIX := k0_pay52 (F := Ideal) (P1 m c t) (P5 m c t) (iblk m c 5 t) (RR2 m c t) (XH2 m c t) (DOUT m c t) (DF m c t) (H2 m c t) (k0_pay46 (F := Ideal) (DF m c t) (WL3 m c t)) (k0_pay47 (F := Ideal) (WH3 m c t)) Z3 (PU3 m c t) (WU3 m c t) (iblk m c 7 t)
abbrev ST := k0_pay53 (F := Ideal) (P5 m c t) (iblk m c 5 t) (OP m c t) (XH2 m c t) (FO m c t) (XH3 m c t) (ERR m c t) (DY m c t) (DOUT m c t) (DH m c t) (DMID m c t)

end Vals

omit A in
theorem row3 (v : FVec Ideal S1x1x1024 .f32) (k) : k0_pay3 (F := Ideal) v (ix2 0 k) = v (ix3 0 0 k) := by
  unfold k0_pay3
  pointwise

omit A in
theorem row4 (v : FVec Ideal S1x1x1024 .f32) (k) : k0_pay4 (F := Ideal) v (ix2 0 k) = v (ix3 0 0 k) := by
  unfold k0_pay4
  pointwise

omit A in
theorem row5 (v : FVec Ideal S1x1x1024 .f32) (k) : k0_pay5 (F := Ideal) v (ix2 0 k) = v (ix3 0 0 k) := by
  unfold k0_pay5
  pointwise

omit A in
theorem row6 (v : FVec Ideal S1x1x1024 .f32) (k) : k0_pay6 (F := Ideal) v (ix2 0 k) = v (ix3 0 0 k) := by
  unfold k0_pay6
  pointwise

theorem P1_at (k) : @Eq EReal (P1 m c t (ix2 0 k)) (a.gta (tb t) k : EReal) :=
  (row3 _ k).trans ((ld_row (Val := Elt Ideal) (iblk m c 4 t) inb_S1x8x1024_S1x1x1024_0_2_0 (by decide) k).trans ((w4 t 2 k).trans (A.gta (tb t) k)))

theorem P3_at (k) : @Eq EReal (P3 m c t (ix2 0 k)) (a.shf (tb t) k : EReal) :=
  (row4 _ k).trans ((ld_row (Val := Elt Ideal) (iblk m c 4 t) inb_S1x8x1024_S1x1x1024_0_3_0 (by decide) k).trans ((w4 t 3 k).trans (A.shf (tb t) k)))

theorem P5_at (k) : @Eq EReal (P5 m c t (ix2 0 k)) (a.scf (tb t) k : EReal) :=
  (row5 _ k).trans ((ld_row (Val := Elt Ideal) (iblk m c 4 t) inb_S1x8x1024_S1x1x1024_0_4_0 (by decide) k).trans ((w4 t 4 k).trans (A.scf (tb t) k)))

theorem P7_at (k) : @Eq EReal (P7 m c t (ix2 0 k)) (a.gtf (tb t) k : EReal) :=
  (row6 _ k).trans ((ld_row (Val := Elt Ideal) (iblk m c 4 t) inb_S1x8x1024_S1x1x1024_0_5_0 (by decide) k).trans ((w4 t 5 k).trans (A.gtf (tb t) k)))

omit A in
theorem row7 (v : FVec Ideal S1x1024 .f32) (k) : k0_pay7 (F := Ideal) v (ix2 0 k) = v (ix2 0 k) := by
  unfold k0_pay7
  pointwise

theorem P10_at (k) : @Eq EReal (P10 m c t (ix2 0 k)) (a.gl (ix1 k) : EReal) := (row7 _ k).trans (w6 A t k)

omit A in
theorem ld_rows {n w : ℕ} {q o : ℕ} {Val : EltTy → Type} {e : EltTy} (X : (⟨2, ![n, w]⟩ : Shape).Idx → Val e)
    (h : ∀ a, (![o, 0] : Fin 2 → ℕ) a + (![q, w] : Fin 2 → ℕ) a ≤ (![n, w] : Fin 2 → ℕ) a) (ho : o + q ≤ n) (i : Fin q) (j : Fin w) :
    View.ld (Val := Val) X (Rect.unit (s := ⟨2, ![n, w]⟩) ![o, 0] ![q, w] h) (ix2 i j) = X (ix2 ⟨o + i.val, by omega⟩ j) := by
  refine congrArg X (funext fun a => Fin.ext ?_)
  show (![o, 0] : Fin 2 → ℕ) a + 1 * ((ix2 i j) a).val = _
  fin_cases a <;> simp [ix2]

theorem OP_at (r k) : @Eq EReal (OP m c t (ix2 r k)) (op a (tb t) (ti t r) k : EReal) :=
  PostBlk.op_at (I := ti t) (fun r k => w0 A t r k) (fun r k => w1 A t r k)
    (fun x k => (ld_rows (Val := Elt Ideal) (iblk m c 7 t) inb_S1024x1024_S512x1024_0_0 (by decide) x k).trans ((w7 A t _ k).trans (congrArg (fun x => (a.wo (ix2 x k) : EReal)) (Fin.ext (Nat.zero_add _)))))
    (fun x k => (ld_rows (Val := Elt Ideal) (iblk m c 7 t) inb_S1024x1024_S512x1024_512_0 (by decide) x k).trans (w7 A t _ k)) r k

theorem MID_at (r k) : @Eq EReal (MID m c t (ix2 r k)) (mid a (tb t) (ti t r) k : EReal) :=
  PostBlk.mid_at (I := ti t) (P1_at A t) (OP_at A t) (w2 A t) r k

theorem RR2_at (r) : @Eq EReal (RR2 m c t (ix2 r 0)) (rr (mid a (tb t) (ti t r)) : EReal) :=
  PostBlk.rr2_at (I := ti t) (P1_at A t) (OP_at A t) (w2 A t) r

theorem XH2_at (r k) : @Eq EReal (XH2 m c t (ix2 r k)) (xh2 a (tb t) (ti t r) k : EReal) :=
  PostBlk.xh2_at (I := ti t) (P1_at A t) (OP_at A t) (w2 A t) r k

theorem HH_at (r k) : @Eq EReal (HH m c t (ix2 r k)) (hh a (tb t) (ti t r) k : EReal) :=
  PostBlk.hh_at (I := ti t) (P1_at A t) (P3_at A t) (P5_at A t) (w5 A t) (OP_at A t) (w2 A t) r k

theorem WU0_at (k f) : @Eq EReal (WU0 m c t (ix3 0 k f)) (a.w1 (ix2 k (slab 0 f)) : EReal) :=
  (ld_slab (Val := Elt Ideal) (iblk m c 8 t) inb_S4x1024x1024_S1x1024x1024_0_0_0 (by decide) k f).trans (w8 A t 0 k f)
theorem WL0_at (f k) : @Eq EReal (WL0 m c t (ix3 0 f k)) (a.w2 (ix2 (slab 0 (lo f)) k) : EReal) :=
  (ld_slab (Val := Elt Ideal) (iblk m c 9 t) inb_S4x512x1024_S1x512x1024_0_0_0 (by decide) f k).trans (w9 A t 0 f k)
theorem WH0_at (f k) : @Eq EReal (WH0 m c t (ix3 0 f k)) (a.w2 (ix2 (slab 0 (up f)) k) : EReal) :=
  (ld_slab (Val := Elt Ideal) (iblk m c 10 t) inb_S4x512x1024_S1x512x1024_0_0_0 (by decide) f k).trans (w10 A t 0 f k)

theorem WU1_at (k f) : @Eq EReal (WU1 m c t (ix3 0 k f)) (a.w1 (ix2 k (slab 1 f)) : EReal) :=
  (ld_slab (Val := Elt Ideal) (iblk m c 8 t) inb_S4x1024x1024_S1x1024x1024_1_0_0 (by decide) k f).trans (w8 A t 1 k f)
theorem WL1_at (f k) : @Eq EReal (WL1 m c t (ix3 0 f k)) (a.w2 (ix2 (slab 1 (lo f)) k) : EReal) :=
  (ld_slab (Val := Elt Ideal) (iblk m c 9 t) inb_S4x512x1024_S1x512x1024_1_0_0 (by decide) f k).trans (w9 A t 1 f k)
theorem WH1_at (f k) : @Eq EReal (WH1 m c t (ix3 0 f k)) (a.w2 (ix2 (slab 1 (up f)) k) : EReal) :=
  (ld_slab (Val := Elt Ideal) (iblk m c 10 t) inb_S4x512x1024_S1x512x1024_1_0_0 (by decide) f k).trans (w10 A t 1 f k)

theorem WU2_at (k f) : @Eq EReal (WU2 m c t (ix3 0 k f)) (a.w1 (ix2 k (slab 2 f)) : EReal) :=
  (ld_slab (Val := Elt Ideal) (iblk m c 8 t) inb_S4x1024x1024_S1x1024x1024_2_0_0 (by decide) k f).trans (w8 A t 2 k f)
theorem WL2_at (f k) : @Eq EReal (WL2 m c t (ix3 0 f k)) (a.w2 (ix2 (slab 2 (lo f)) k) : EReal) :=
  (ld_slab (Val := Elt Ideal) (iblk m c 9 t) inb_S4x512x1024_S1x512x1024_2_0_0 (by decide) f k).trans (w9 A t 2 f k)
theorem WH2_at (f k) : @Eq EReal (WH2 m c t (ix3 0 f k)) (a.w2 (ix2 (slab 2 (up f)) k) : EReal) :=
  (ld_slab (Val := Elt Ideal) (iblk m c 10 t) inb_S4x512x1024_S1x512x1024_2_0_0 (by decide) f k).trans (w10 A t 2 f k)

theorem WU3_at (k f) : @Eq EReal (WU3 m c t (ix3 0 k f)) (a.w1 (ix2 k (slab 3 f)) : EReal) :=
  (ld_slab (Val := Elt Ideal) (iblk m c 8 t) inb_S4x1024x1024_S1x1024x1024_3_0_0 (by decide) k f).trans (w8 A t 3 k f)
theorem WL3_at (f k) : @Eq EReal (WL3 m c t (ix3 0 f k)) (a.w2 (ix2 (slab 3 (lo f)) k) : EReal) :=
  (ld_slab (Val := Elt Ideal) (iblk m c 9 t) inb_S4x512x1024_S1x512x1024_3_0_0 (by decide) f k).trans (w9 A t 3 f k)
theorem WH3_at (f k) : @Eq EReal (WH3 m c t (ix3 0 f k)) (a.w2 (ix2 (slab 3 (up f)) k) : EReal) :=
  (ld_slab (Val := Elt Ideal) (iblk m c 10 t) inb_S4x512x1024_S1x512x1024_3_0_0 (by decide) f k).trans (w10 A t 3 f k)

/-! The wide layer, slab by slab, and what follows from it. -/

theorem PU0_at (r f) : @Eq EReal (PU0 m c t (ix2 r f)) (pu a (tb t) (ti t r) (slab 0 f) : EReal) :=
  PostBlk.pu_at' (s := 0) (I := ti t) (HH_at A t) (WU0_at A t) r f
theorem PU1_at (r f) : @Eq EReal (PU1 m c t (ix2 r f)) (pu a (tb t) (ti t r) (slab 1 f) : EReal) :=
  PostBlk.pu_at' (s := 1) (I := ti t) (HH_at A t) (WU1_at A t) r f
theorem PU2_at (r f) : @Eq EReal (PU2 m c t (ix2 r f)) (pu a (tb t) (ti t r) (slab 2 f) : EReal) :=
  PostBlk.pu_at' (s := 2) (I := ti t) (HH_at A t) (WU2_at A t) r f
theorem PU3_at (r f) : @Eq EReal (PU3 m c t (ix2 r f)) (pu a (tb t) (ti t r) (slab 3 f) : EReal) :=
  PostBlk.pu_at' (s := 3) (I := ti t) (HH_at A t) (WU3_at A t) r f

theorem G0_at (r f) : @Eq EReal (G0 m c t (ix2 r f)) (act a (tb t) (ti t r) (slab 0 f) : EReal) :=
  PostBlk.act_at (s := 0) (I := ti t) (HH_at A t) (WU0_at A t) r f
theorem A1_at (r f) : @Eq EReal (k0_pay22 (HH m c t) (WU1 m c t) (ix2 r f)) (act a (tb t) (ti t r) (slab 1 f) : EReal) :=
  PostBlk.act_at (s := 1) (I := ti t) (HH_at A t) (WU1_at A t) r f
theorem A2_at (r f) : @Eq EReal (k0_pay27 (U2 m c t) (ix2 r f)) (act a (tb t) (ti t r) (slab 2 f) : EReal) :=
  PostBlk.act_at (s := 2) (I := ti t) (HH_at A t) (WU2_at A t) r f
theorem G3_at (r f) : @Eq EReal (G3 m c t (ix2 r f)) (act a (tb t) (ti t r) (slab 3 f) : EReal) :=
  PostBlk.act_at (s := 3) (I := ti t) (HH_at A t) (WU3_at A t) r f

omit A in
theorem zero15 (r k) : @Eq EReal (k0_pay15 (F := Ideal) (ix2 r k)) ((0 : ℝ) : EReal) := by
  unfold k0_pay15
  pointwise
  exact EReal.coe_zero.symm

theorem FO_at (r k) : @Eq EReal (FO m c t (ix2 r k)) (fo a (tb t) (ti t r) k : EReal) := by
  have h0 := PostBlk.fo_slab (s := 0) (I := ti t) (G0_at A t) (WL0_at A t) (WH0_at A t) r k (zero15 r k)
  have h1 := PostBlk.fo_slab (s := 1) (I := ti t) (A1_at A t) (WL1_at A t) (WH1_at A t) r k h0
  have h2 := PostBlk.fo_slab (s := 2) (I := ti t) (A2_at A t) (WL2_at A t) (WH2_at A t) r k h1
  have h3 := PostBlk.fo_slab (s := 3) (I := ti t) (G3_at A t) (WL3_at A t) (WH3_at A t) r k h2
  rw [zero_add, PostBlk.foS_sum] at h3
  unfold FO F3 F2
  rw [PostBlk.fo_third, PostBlk.fo_first]
  exact h3

theorem XH3_at (r k) : @Eq EReal (XH3 m c t (ix2 r k)) (xh3 a (tb t) (ti t r) k : EReal) :=
  PostBlk.xh3_at (I := ti t) (P7_at A t) (MID_at A t) (FO_at A t) r k
theorem ERR_at (r k) : @Eq EReal (ERR m c t (ix2 r k)) (err a (tb t) (ti t r) k : EReal) :=
  PostBlk.err_at (I := ti t) (P7_at A t) (P10_at A t) (MID_at A t) (w3 A t) (FO_at A t) r k
theorem DY_at (r k) : @Eq EReal (DY m c t (ix2 r k)) (dy a (tb t) (ti t r) k : EReal) :=
  PostBlk.dy_at (I := ti t) (P7_at A t) (P10_at A t) (MID_at A t) (w3 A t) (FO_at A t) r k
theorem DOUT_at (r k) : @Eq EReal (DOUT m c t (ix2 r k)) (dout a (tb t) (ti t r) k : EReal) :=
  PostBlk.dout_at (I := ti t) (P7_at A t) (P10_at A t) (MID_at A t) (w3 A t) (FO_at A t) r k
theorem DF_at (r k) : @Eq EReal (DF m c t (ix2 r k)) (df a (tb t) (ti t r) k : EReal) :=
  PostBlk.df_at (I := ti t) (P7_at A t) (P10_at A t) (MID_at A t) (w3 A t) (FO_at A t) r k

theorem DU0_at (r f) : @Eq EReal (DU0 m c t (ix2 r f)) (du a (tb t) (ti t r) (slab 0 f) : EReal) :=
  PostBlk.du_at (s := 0) (I := ti t) (DF_at A t) (WL0_at A t) (WH0_at A t) (PU0_at A t) r f
theorem DU1_at (r f) : @Eq EReal (DU1 m c t (ix2 r f)) (du a (tb t) (ti t r) (slab 1 f) : EReal) :=
  PostBlk.du_at (s := 1) (I := ti t) (DF_at A t) (WL1_at A t) (WH1_at A t) (PU1_at A t) r f
theorem DU2_at (r f) : @Eq EReal (DU2 m c t (ix2 r f)) (du a (tb t) (ti t r) (slab 2 f) : EReal) :=
  PostBlk.du_at (s := 2) (I := ti t) (DF_at A t) (WL2_at A t) (WH2_at A t) (PU2_at A t) r f
theorem DU3_at (r f) : @Eq EReal (DU3 m c t (ix2 r f)) (du a (tb t) (ti t r) (slab 3 f) : EReal) :=
  PostBlk.du_at (s := 3) (I := ti t) (DF_at A t) (WL3_at A t) (WH3_at A t) (PU3_at A t) r f

omit A in
theorem zero256 (r k) : @Eq EReal ((constant S256x1024 .f32 0x00000000#32 : FVec Ideal S256x1024 .f32) (ix2 r k)) ((0 : ℝ) : EReal) := by
  pointwise
  exact EReal.coe_zero.symm

theorem DH_at (r k) : @Eq EReal (DH m c t (ix2 r k)) (dh a (tb t) (ti t r) k : EReal) := by
  have h0 := PostBlk.dh_slab (s := 0) (I := ti t) (DU0_at A t) (WU0_at A t) r k (zero256 r k)
  have h1 := PostBlk.dh_slab (s := 1) (I := ti t) (DU1_at A t) (WU1_at A t) r k h0
  have h2 := PostBlk.dh_slab (s := 2) (I := ti t) (DU2_at A t) (WU2_at A t) r k h1
  have h3 := PostBlk.dh_slab (s := 3) (I := ti t) (DU3_at A t) (WU3_at A t) r k h2
  rw [zero_add, PostBlk.dhS_sum] at h3
  exact h3

theorem DMID_at (r k) : @Eq EReal (DMID m c t (ix2 r k)) (dmid a (tb t) (ti t r) k : EReal) :=
  PostBlk.dmid_at (I := ti t) (P5_at A t) (w5 A t) (RR2_at A t) (XH2_at A t) (DOUT_at A t) (DH_at A t) r k
theorem DOP_at (r k) : @Eq EReal (DOP m c t (ix2 r k)) (dop a (tb t) (ti t r) k : EReal) :=
  PostBlk.dop_at (I := ti t) (P1_at A t) (P5_at A t) (w5 A t) (RR2_at A t) (XH2_at A t) (DOUT_at A t) (DH_at A t) r k
theorem DMIX_at (r k) : @Eq EReal (DMIX m c t (ix2 r k)) (dmix a (tb t) (ti t r) k : EReal) :=
  PostBlk.dmix_at (I := ti t) (P1_at A t) (P5_at A t) (w5 A t) (RR2_at A t) (XH2_at A t) (DOUT_at A t) (DH_at A t) (w7 A t) r k
theorem ST_at (s k) : @Eq EReal (ST m c t (ix2 s k)) ((∑ r, stat a (tb t) (ti t r) s k : ℝ) : EReal) :=
  PostBlk.stats_at (I := ti t) (P5_at A t) (w5 A t) (OP_at A t) (XH2_at A t) (FO_at A t) (XH3_at A t) (ERR_at A t) (DY_at A t) (DOUT_at A t) (DH_at A t) (DMID_at A t) s k

end Cert.Proof.PostRows

end
-- ==== Proof.PostOut.lean ====
/- What the closing kernel's grid points write, and its nine result arrays. -/
module

public import proofs.«01_k».proof.Proof.PostRows

@[expose] public section

set_option maxRecDepth 16384

noncomputable section

open Idealize.ShloMosaic Idealize.ShloMosaic.TcCoe Idealize.SL.Sem

namespace Cert.Proof.PostOut

open Cert.Kernel4Ideal Cert.Kernel4Ideal.Gen MlaReal PostReal PostStage PostEntry PostRows

/-- Where an index of a band of `k` columns from `o` on lies in a block of `n` rows and `w` columns. -/
theorem emb_band {n k w o : ℕ} (h : ∀ a, (![0, o] : Fin 2 → ℕ) a + (![n, k] : Fin 2 → ℕ) a ≤ (![n, w] : Fin 2 → ℕ) a) (ho : o + k ≤ w) (r : Fin n) (x : Fin k) :
    (Rect.unit (s := ⟨2, ![n, w]⟩) ![0, o] ![n, k] h).emb (ix2 r x) = ix2 r ⟨o + x.val, by omega⟩ := by
  funext a
  apply Fin.ext
  show (![0, o] : Fin 2 → ℕ) a + 1 * ((ix2 r x) a).val = _
  fin_cases a <;> simp [ix2]

/-- Two bands of 512 columns cover a block of 1024, and four of 1024 a block of 4096. -/
theorem two_bands {Val : EltTy → Type} {e : EltTy} (h1 : ∀ a, (![0, 512] : Fin 2 → ℕ) a + (![256, 512] : Fin 2 → ℕ) a ≤ (![256, 1024] : Fin 2 → ℕ) a)
    (h2 : ∀ a, (![0, 0] : Fin 2 → ℕ) a + (![256, 512] : Fin 2 → ℕ) a ≤ (![256, 1024] : Fin 2 → ℕ) a)
    (p : (Rect.unit (s := ⟨2, ![256, 1024]⟩) ![0, 512] ![256, 512] h1).shape.Idx → Val e)
    (q : (Rect.unit (s := ⟨2, ![256, 1024]⟩) ![0, 0] ![256, 512] h2).shape.Idx → Val e) (y : (⟨2, ![256, 1024]⟩ : Shape).Idx) :
    ∃ P ∈ [(⟨_, p⟩ : View.Piece Val ⟨2, ![256, 1024]⟩ e), ⟨_, q⟩], y ∈ P.1.set := by
  have y0 := (y 0).isLt
  have y1 := (y 1).isLt
  by_cases h : (y 1).val < 512
  · refine ⟨_, List.mem_cons_of_mem _ List.mem_cons_self, (Rect.mem_set_unit (inb := h2)).mpr fun a => ?_⟩
    fin_cases a <;> simp <;> simp at y0 y1 <;> omega
  · refine ⟨_, List.mem_cons_self, (Rect.mem_set_unit (inb := h1)).mpr fun a => ?_⟩
    fin_cases a <;> simp <;> simp at y0 y1 <;> omega

theorem four_bands {Val : EltTy → Type} {e : EltTy} (h3 : ∀ a, (![0, 3072] : Fin 2 → ℕ) a + (![256, 1024] : Fin 2 → ℕ) a ≤ (![256, 4096] : Fin 2 → ℕ) a)
    (h2 : ∀ a, (![0, 2048] : Fin 2 → ℕ) a + (![256, 1024] : Fin 2 → ℕ) a ≤ (![256, 4096] : Fin 2 → ℕ) a)
    (h1 : ∀ a, (![0, 1024] : Fin 2 → ℕ) a + (![256, 1024] : Fin 2 → ℕ) a ≤ (![256, 4096] : Fin 2 → ℕ) a)
    (h0 : ∀ a, (![0, 0] : Fin 2 → ℕ) a + (![256, 1024] : Fin 2 → ℕ) a ≤ (![256, 4096] : Fin 2 → ℕ) a)
    (p3 : (Rect.unit (s := ⟨2, ![256, 4096]⟩) ![0, 3072] ![256, 1024] h3).shape.Idx → Val e)
    (p2 : (Rect.unit (s := ⟨2, ![256, 4096]⟩) ![0, 2048] ![256, 1024] h2).shape.Idx → Val e)
    (p1 : (Rect.unit (s := ⟨2, ![256, 4096]⟩) ![0, 1024] ![256, 1024] h1).shape.Idx → Val e)
    (p0 : (Rect.unit (s := ⟨2, ![256, 4096]⟩) ![0, 0] ![256, 1024] h0).shape.Idx → Val e) (y : (⟨2, ![256, 4096]⟩ : Shape).Idx) :
    ∃ P ∈ [(⟨_, p3⟩ : View.Piece Val ⟨2, ![256, 4096]⟩ e), ⟨_, p2⟩, ⟨_, p1⟩, ⟨_, p0⟩], y ∈ P.1.set := by
  have y0 := (y 0).isLt
  have y1 := (y 1).isLt
  rcases (show (y 1).val / 1024 = 3 ∨ (y 1).val / 1024 = 2 ∨ (y 1).val / 1024 = 1 ∨ (y 1).val / 1024 = 0 by simp at y1; omega) with h | h | h | h
  · refine ⟨_, List.mem_cons_self, (Rect.mem_set_unit (inb := h3)).mpr fun a => ?_⟩
    fin_cases a <;> simp <;> simp at y0 y1 <;> omega
  · refine ⟨_, List.mem_cons_of_mem _ List.mem_cons_self, (Rect.mem_set_unit (inb := h2)).mpr fun a => ?_⟩
    fin_cases a <;> simp <;> simp at y0 y1 <;> omega
  · refine ⟨_, List.mem_cons_of_mem _ (List.mem_cons_of_mem _ List.mem_cons_self), (Rect.mem_set_unit (inb := h1)).mpr fun a => ?_⟩
    fin_cases a <;> simp <;> simp at y0 y1 <;> omega
  · refine ⟨_, List.mem_cons_of_mem _ (List.mem_cons_of_mem _ (List.mem_cons_of_mem _ List.mem_cons_self)), (Rect.mem_set_unit (inb := h0)).mpr fun a => ?_⟩
    fin_cases a <;> simp <;> simp at y0 y1 <;> omega

variable {m : (ℓ : Loc nD τ sig) → Buf (Elt Ideal) ℓ} {c : Dev nD} {a : In} (A : Args m c a) (t : Fin cfg0.N)

/-- The blocks a point writes, in real numbers. -/
def mixB : S256x1024.Idx → Elt Ideal .bf16 := fun y => (mix a (tb t) (ti t (y 0)) (y 1) : EReal)
def actB : S256x4096.Idx → Elt Ideal .bf16 := fun y => (act a (tb t) (ti t (y 0)) (y 1) : EReal)
def duB : S256x4096.Idx → Elt Ideal .bf16 := fun y => (du a (tb t) (ti t (y 0)) (y 1) : EReal)

theorem slab0 (x : Fin 1024) (h) : (⟨0 + x.val, h⟩ : Fin 4096) = slab 0 x := Fin.ext (by simp)
theorem slab1 (x : Fin 1024) (h) : (⟨1024 + x.val, h⟩ : Fin 4096) = slab 1 x := Fin.ext (by simp)
theorem slab2 (x : Fin 1024) (h) : (⟨2048 + x.val, h⟩ : Fin 4096) = slab 2 x := Fin.ext (by simp)
theorem slab3 (x : Fin 1024) (h) : (⟨3072 + x.val, h⟩ : Fin 4096) = slab 3 x := Fin.ext (by simp)

include A

set_option maxHeartbeats 2000000 in
theorem hh_block (y : S256x1024.Idx) : @Eq EReal ((outsAt0 m c t.val t.isLt).2.2.2.1 y) (hh a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    frame_out
    obtain ⟨r, k, rfl⟩ : ∃ r k, y = ix2 r k := ⟨_, _, eq_ix2 y⟩
    exact HH_at A t r k

set_option maxHeartbeats 2000000 in
theorem df_block (y : S256x1024.Idx) : @Eq EReal ((outsAt0 m c t.val t.isLt).2.2.2.2.1 y) (df a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    frame_out
    obtain ⟨r, k, rfl⟩ : ∃ r k, y = ix2 r k := ⟨_, _, eq_ix2 y⟩
    exact DF_at A t r k

set_option maxHeartbeats 2000000 in
theorem du_block (y : S256x4096.Idx) : @Eq EReal ((outsAt0 m c t.val t.isLt).2.2.1 y) (du a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    simp (disch := decide) only [↓ View.readCov_skip, ↓ View.readCov_cons_toLoadRect, ↓ View.readCov_fill]
    frame_out
    refine View.canon_append_of_piecesOf (Val := Elt Ideal) (e := .bf16) (duB (a := a) t) [] [_, _, _, _]
      ⟨fun (x : S256x1024.Idx) => ?_, fun (x : S256x1024.Idx) => ?_, fun (x : S256x1024.Idx) => ?_, fun (x : S256x1024.Idx) => ?_, trivial⟩ y (four_bands _ _ _ _ _ _ _ _ y)
    all_goals obtain ⟨r, f, rfl⟩ : ∃ r f, x = ix2 r f := ⟨_, _, eq_ix2 x⟩
    · refine Eq.trans (DU3_at A t r f) (Eq.trans ?_ (congrArg (duB (a := a) t) (emb_band inb_S256x4096_S256x1024_0_3072 (by decide) r f)).symm)
      rw [slab3]; rfl
    · refine Eq.trans (DU2_at A t r f) (Eq.trans ?_ (congrArg (duB (a := a) t) (emb_band inb_S256x4096_S256x1024_0_2048 (by decide) r f)).symm)
      rw [slab2]; rfl
    · refine Eq.trans (DU1_at A t r f) (Eq.trans ?_ (congrArg (duB (a := a) t) (emb_band inb_S256x4096_S256x1024_0_1024 (by decide) r f)).symm)
      rw [slab1]; rfl
    · refine Eq.trans (DU0_at A t r f) (Eq.trans ?_ (congrArg (duB (a := a) t) (emb_band inb_S256x4096_S256x1024_0_0 (by decide) r f)).symm)
      rw [slab0]; rfl

set_option maxHeartbeats 2000000 in
theorem act_block (y : S256x4096.Idx) : @Eq EReal ((outsAt0 m c t.val t.isLt).2.1 y) (act a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    frame_out
    refine View.canon_append_of_piecesOf (Val := Elt Ideal) (e := .bf16) (actB (a := a) t) [] [_, _, _, _]
      ⟨fun (x : S256x1024.Idx) => ?_, fun (x : S256x1024.Idx) => ?_, fun (x : S256x1024.Idx) => ?_, fun (x : S256x1024.Idx) => ?_, trivial⟩ y (four_bands _ _ _ _ _ _ _ _ y)
    all_goals obtain ⟨r, f, rfl⟩ : ∃ r f, x = ix2 r f := ⟨_, _, eq_ix2 x⟩
    · refine Eq.trans (G3_at A t r f) (Eq.trans ?_ (congrArg (actB (a := a) t) (emb_band inb_S256x4096_S256x1024_0_3072 (by decide) r f)).symm)
      rw [slab3]; rfl
    · refine Eq.trans (A2_at A t r f) (Eq.trans ?_ (congrArg (actB (a := a) t) (emb_band inb_S256x4096_S256x1024_0_2048 (by decide) r f)).symm)
      rw [slab2]; rfl
    · refine Eq.trans (A1_at A t r f) (Eq.trans ?_ (congrArg (actB (a := a) t) (emb_band inb_S256x4096_S256x1024_0_1024 (by decide) r f)).symm)
      rw [slab1]; rfl
    · refine Eq.trans (G0_at A t r f) (Eq.trans ?_ (congrArg (actB (a := a) t) (emb_band inb_S256x4096_S256x1024_0_0 (by decide) r f)).symm)
      rw [slab0]; rfl

omit A in
theorem mix_low (b i) (x : Fin 512) (h) : mix a b i ⟨0 + x.val, h⟩ = a.yr (ix3 b i x) := by
  unfold mix
  rw [dif_pos (by simp only []; omega)]
  exact congrArg (fun z => a.yr (ix3 b i z)) (Fin.ext (Nat.zero_add _))

omit A in
theorem mix_high (b i) (x : Fin 512) (h) : mix a b i ⟨512 + x.val, h⟩ = a.ym (ix3 b i x) := by
  unfold mix
  rw [dif_neg (by simp only []; omega)]
  exact congrArg (fun z => a.ym (ix3 b i z)) (Fin.ext (by simp))

omit A in
theorem row8 (v : FVec Ideal S256x512 .bf16) : k0_pay8 (F := Ideal) v = v := by
  funext y
  unfold k0_pay8
  pointwise

omit A in
theorem row9 (v : FVec Ideal S256x512 .bf16) : k0_pay9 (F := Ideal) v = v := by
  funext y
  unfold k0_pay9
  pointwise

theorem m1_at (r k) : @Eq EReal (k0_pay9 (F := Ideal) (iblk m c 1 t) (ix2 r k)) (a.ym (ix3 (tb t) (ti t r) k) : EReal) := by
  rw [row9 (iblk m c 1 t)]
  exact w1 A t r k

theorem m0_at (r k) : @Eq EReal (k0_pay8 (F := Ideal) (iblk m c 0 t) (ix2 r k)) (a.yr (ix3 (tb t) (ti t r) k) : EReal) := by
  rw [row8 (iblk m c 0 t)]
  exact w0 A t r k

set_option maxHeartbeats 2000000 in
theorem mix_block (y : S256x1024.Idx) : @Eq EReal ((outsAt0 m c t.val t.isLt).1 y) (mix a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    frame_out
    refine View.canon_append_of_piecesOf (Val := Elt Ideal) (e := .bf16) (mixB (a := a) t) [] [_, _]
      ⟨fun (x : S256x512.Idx) => ?_, fun (x : S256x512.Idx) => ?_, trivial⟩ y (two_bands _ _ _ _ y)
    all_goals obtain ⟨r, k, rfl⟩ : ∃ r k, x = ix2 r k := ⟨_, _, eq_ix2 x⟩
    · refine Eq.trans (m1_at A t r k) (Eq.trans ?_ (congrArg (mixB (a := a) t) (emb_band inb_S256x1024_S256x512_0_512 (by decide) r k)).symm)
      exact congrArg _ (mix_high _ _ k _).symm
    · refine Eq.trans (m0_at A t r k) (Eq.trans ?_ (congrArg (mixB (a := a) t) (emb_band inb_S256x1024_S256x512_0_0 (by decide) r k)).symm)
      exact congrArg _ (mix_low _ _ k _).symm

set_option maxHeartbeats 2000000 in
theorem dop_block (y : S256x1024.Idx) : @Eq EReal ((outsAt0 m c t.val t.isLt).2.2.2.2.2.1 y) (dop a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    simp (disch := decide) only [↓ View.readCov_skip, ↓ View.readCov_cons_toLoadRect, ↓ View.readCov_fill]
    frame_out
    obtain ⟨r, k, rfl⟩ : ∃ r k, y = ix2 r k := ⟨_, _, eq_ix2 y⟩
    exact DOP_at A t r k

set_option maxHeartbeats 2000000 in
theorem dmix_block (y : S256x1024.Idx) : @Eq EReal ((outsAt0 m c t.val t.isLt).2.2.2.2.2.2.1 y) (dmix a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    simp (disch := decide) only [↓ View.readCov_skip, ↓ View.readCov_cons_toLoadRect, ↓ View.readCov_fill]
    frame_out
    obtain ⟨r, k, rfl⟩ : ∃ r k, y = ix2 r k := ⟨_, _, eq_ix2 y⟩
    exact DMIX_at A t r k

set_option maxHeartbeats 2000000 in
theorem dmid_block (y : S256x1024.Idx) : @Eq EReal ((outsAt0 m c t.val t.isLt).2.2.2.2.2.2.2.1 y) (dmid a (tb t) (ti t (y 0)) (y 1) : EReal) := by
  by_cases h0 : t.val % 8 = 0
  on_goal 1 => rw [outsAt0_A m c t h0 (not_not.mpr h0)]
  on_goal 2 => rw [outsAt0_B m c t h0 h0]
  all_goals
    dsimp only
    frame_open
    simp (disch := decide) only [↓ View.readCov_skip, ↓ View.readCov_cons_toLoadRect, ↓ View.readCov_fill]
    frame_out
    obtain ⟨r, k, rfl⟩ : ∃ r k, y = ix2 r k := ⟨_, _, eq_ix2 y⟩
    exact DMID_at A t r k

omit A in
theorem row1 (v : FVec Ideal S8x1024 .f32) (s k) : k0_pay1 (F := Ideal) v (ix3 0 s k) = v (ix2 s k) := by
  unfold k0_pay1
  pointwise

omit A in
theorem row2 (v : FVec Ideal S8x1024 .f32) (w : FVec Ideal S1x8x1024 .f32) (s k) :
    k0_pay2 (F := Ideal) v w (ix3 0 s k) = @HAdd.hAdd EReal EReal EReal _ (w (ix3 0 s k)) (v (ix2 s k)) := by
  unfold k0_pay2
  pointwise

omit A in
theorem one_ix3 (y : S1x8x1024.Idx) : ∃ s k, y = ix3 0 s k :=
  ⟨y 1, y 2, by funext a; fin_cases a <;> first | exact Subsingleton.elim (α := Fin 1) _ _ | rfl⟩

/-- What one point adds to the eight sums of its example. -/
def term (a : In) (t : Fin cfg0.N) (y : S1x8x1024.Idx) : EReal := ((∑ r, stat a (tb t) (ti t r) (y 1) (y 2) : ℝ) : EReal)

theorem stat_first (h0 : t.val % 8 = 0) (y : S1x8x1024.Idx) : @Eq EReal ((outsAt0 m c t.val t.isLt).2.2.2.2.2.2.2.2 y) (term a t y) := by
  rw [outsAt0_A m c t h0 (not_not.mpr h0)]
  dsimp only
  frame_open
  simp (disch := decide) only [↓ View.readCov_skip, ↓ View.readCov_cons_toLoadRect, ↓ View.readCov_fill]
  frame_out
  obtain ⟨s, k, rfl⟩ := one_ix3 y
  exact (row1 _ s k).trans (ST_at A t s k)

theorem stat_next (h0 : ¬t.val % 8 = 0) (y : S1x8x1024.Idx) : @Eq EReal ((outsAt0 m c t.val t.isLt).2.2.2.2.2.2.2.2 y)
    (@HAdd.hAdd EReal EReal EReal _ ((outsAt0 m c (t.val - 1) (lt_of_le_of_lt (Nat.sub_le _ _) t.isLt)).2.2.2.2.2.2.2.2 y) (term a t y)) := by
  rw [outsAt0_B m c t h0 h0]
  dsimp only
  frame_open
  simp (disch := decide) only [↓ View.readCov_skip, ↓ View.readCov_cons_toLoadRect, ↓ View.readCov_fill]
  frame_out
  obtain ⟨s, k, rfl⟩ := one_ix3 y
  refine (row2 _ _ s k).trans (congrArg₂ (@HAdd.hAdd EReal EReal EReal _) ?_ (ST_at A t s k))
  rfl

omit A in
/-- A sum over a sequence is the sum over its eight blocks of rows. -/
theorem sum_blocks (g : Fin 2048 → ℝ) : ∑ s : Fin 8, ∑ r : Fin 256, g ⟨s.val * 256 + r.val, by omega⟩ = ∑ i, g i := by
  rw [← Fintype.sum_prod_type']
  refine Fintype.sum_equiv (finProdFinEquiv (m := 8) (n := 256)) _ _ fun x => congrArg g (Fin.ext ?_)
  show x.1.val * 256 + x.2.val = x.2.val + 256 * x.1.val
  omega

theorem stat_sum (h1 : t.val % 8 = 7) (s k) : @Eq EReal ((outsAt0 m c t.val t.isLt).2.2.2.2.2.2.2.2 (ix3 0 s k)) ((∑ i, stat a (tb t) i s k : ℝ) : EReal) := by
  have h := Pipeline.eq_sum_fin_of_reset_step_apply_of_flush (fun n h => (outsAt0 m c n h).2.2.2.2.2.2.2.2) 8 (fun _ => (0 : EReal)) (term a)
    (fun t h i => by rw [zero_add]; exact stat_first A t h i) (fun t h i => stat_next A t h i) t h1 (ix3 0 s k)
  refine Eq.trans h ?_
  rw [zero_add, ← sum_blocks, Attn.coe_sum]
  refine Finset.sum_congr rfl fun q _ => ?_
  unfold term
  refine congrArg _ (Finset.sum_congr rfl fun r _ => ?_)
  have := lt16 t
  have e1 (h) : tb ⟨8 * (t.val / 8) + q.val, h⟩ = tb t := Fin.ext (by simp only [tb]; omega)
  have e2 (h) : ti ⟨8 * (t.val / 8) + q.val, h⟩ r = ⟨q.val * 256 + r.val, by omega⟩ := Fin.ext (by simp only [ti]; omega)
  rw [e1, e2]
  rfl

theorem arr_mix : (dats m 0 c).arrAt 11 cfg0.N = fun i => (mix a (rb (i 0)) (ri (i 0)) (i 1) : EReal) := by
  refine (dats m 0 c).arrAt_eq_of_covers 11 _ (by decide +kernel) fun t hf y => ?_
  have := lt16 t
  blk_simp
  rw [after0_11]
  idx_vars y
  have e : ((cfg0.win 11).blk t).view.emb (ix2 y0 y1) = ix2 (tr t y0) y1 := by
    unfold tr
    blk_ext [idxo t]
  refine (mix_block A t (ix2 y0 y1)).trans ?_
  simp only [ix2_0, ix2_1]
  rw [← rb_tr, ← ri_tr]
  exact (congrArg (fun i : S4096x1024.Idx => (mix a (rb (i 0)) (ri (i 0)) (i 1) : EReal)) e).symm

theorem arr_act : (dats m 0 c).arrAt 12 cfg0.N = fun i => (act a (rb (i 0)) (ri (i 0)) (i 1) : EReal) := by
  refine (dats m 0 c).arrAt_eq_of_covers 12 _ (by decide +kernel) fun t hf y => ?_
  have := lt16 t
  blk_simp
  rw [after0_12]
  idx_vars y
  have e : ((cfg0.win 12).blk t).view.emb (ix2 y0 y1) = ix2 (tr t y0) y1 := by
    unfold tr
    blk_ext [idxo t]
  refine (act_block A t (ix2 y0 y1)).trans ?_
  simp only [ix2_0, ix2_1]
  rw [← rb_tr, ← ri_tr]
  exact (congrArg (fun i : S4096x4096.Idx => (act a (rb (i 0)) (ri (i 0)) (i 1) : EReal)) e).symm

theorem arr_du : (dats m 0 c).arrAt 13 cfg0.N = fun i => (du a (rb (i 0)) (ri (i 0)) (i 1) : EReal) := by
  refine (dats m 0 c).arrAt_eq_of_covers 13 _ (by decide +kernel) fun t hf y => ?_
  have := lt16 t
  blk_simp
  rw [after0_13]
  idx_vars y
  have e : ((cfg0.win 13).blk t).view.emb (ix2 y0 y1) = ix2 (tr t y0) y1 := by
    unfold tr
    blk_ext [idxo t]
  refine (du_block A t (ix2 y0 y1)).trans ?_
  simp only [ix2_0, ix2_1]
  rw [← rb_tr, ← ri_tr]
  exact (congrArg (fun i : S4096x4096.Idx => (du a (rb (i 0)) (ri (i 0)) (i 1) : EReal)) e).symm

theorem arr_hh : (dats m 0 c).arrAt 14 cfg0.N = fun i => (hh a (rb (i 0)) (ri (i 0)) (i 1) : EReal) := by
  refine (dats m 0 c).arrAt_eq_of_covers 14 _ (by decide +kernel) fun t hf y => ?_
  have := lt16 t
  blk_simp
  rw [after0_14]
  idx_vars y
  have e : ((cfg0.win 14).blk t).view.emb (ix2 y0 y1) = ix2 (tr t y0) y1 := by
    unfold tr
    blk_ext [idxo t]
  refine (hh_block A t (ix2 y0 y1)).trans ?_
  simp only [ix2_0, ix2_1]
  rw [← rb_tr, ← ri_tr]
  exact (congrArg (fun i : S4096x1024.Idx => (hh a (rb (i 0)) (ri (i 0)) (i 1) : EReal)) e).symm

theorem arr_df : (dats m 0 c).arrAt 15 cfg0.N = fun i => (df a (rb (i 0)) (ri (i 0)) (i 1) : EReal) := by
  refine (dats m 0 c).arrAt_eq_of_covers 15 _ (by decide +kernel) fun t hf y => ?_
  have := lt16 t
  blk_simp
  rw [after0_15]
  idx_vars y
  have e : ((cfg0.win 15).blk t).view.emb (ix2 y0 y1) = ix2 (tr t y0) y1 := by
    unfold tr
    blk_ext [idxo t]
  refine (df_block A t (ix2 y0 y1)).trans ?_
  simp only [ix2_0, ix2_1]
  rw [← rb_tr, ← ri_tr]
  exact (congrArg (fun i : S4096x1024.Idx => (df a (rb (i 0)) (ri (i 0)) (i 1) : EReal)) e).symm

theorem arr_dop : (dats m 0 c).arrAt 16 cfg0.N = fun i => (dop a (rb (i 0)) (ri (i 0)) (i 1) : EReal) := by
  refine (dats m 0 c).arrAt_eq_of_covers 16 _ (by decide +kernel) fun t hf y => ?_
  have := lt16 t
  blk_simp
  rw [after0_16]
  idx_vars y
  have e : ((cfg0.win 16).blk t).view.emb (ix2 y0 y1) = ix2 (tr t y0) y1 := by
    unfold tr
    blk_ext [idxo t]
  refine (dop_block A t (ix2 y0 y1)).trans ?_
  simp only [ix2_0, ix2_1]
  rw [← rb_tr, ← ri_tr]
  exact (congrArg (fun i : S4096x1024.Idx => (dop a (rb (i 0)) (ri (i 0)) (i 1) : EReal)) e).symm

theorem arr_dmix : (dats m 0 c).arrAt 17 cfg0.N = fun i => (dmix a (rb (i 0)) (ri (i 0)) (i 1) : EReal) := by
  refine (dats m 0 c).arrAt_eq_of_covers 17 _ (by decide +kernel) fun t hf y => ?_
  have := lt16 t
  blk_simp
  rw [after0_17]
  idx_vars y
  have e : ((cfg0.win 17).blk t).view.emb (ix2 y0 y1) = ix2 (tr t y0) y1 := by
    unfold tr
    blk_ext [idxo t]
  refine (dmix_block A t (ix2 y0 y1)).trans ?_
  simp only [ix2_0, ix2_1]
  rw [← rb_tr, ← ri_tr]
  exact (congrArg (fun i : S4096x1024.Idx => (dmix a (rb (i 0)) (ri (i 0)) (i 1) : EReal)) e).symm

theorem arr_dmid : (dats m 0 c).arrAt 18 cfg0.N = fun i => (dmid a (rb (i 0)) (ri (i 0)) (i 1) : EReal) := by
  refine (dats m 0 c).arrAt_eq_of_covers 18 _ (by decide +kernel) fun t hf y => ?_
  have := lt16 t
  blk_simp
  rw [after0_18]
  idx_vars y
  have e : ((cfg0.win 18).blk t).view.emb (ix2 y0 y1) = ix2 (tr t y0) y1 := by
    unfold tr
    blk_ext [idxo t]
  refine (dmid_block A t (ix2 y0 y1)).trans ?_
  simp only [ix2_0, ix2_1]
  rw [← rb_tr, ← ri_tr]
  exact (congrArg (fun i : S4096x1024.Idx => (dmid a (rb (i 0)) (ri (i 0)) (i 1) : EReal)) e).symm

theorem arr_stat : (dats m 0 c).arrAt 19 cfg0.N = fun i => ((∑ j, stat a (i 0) j (i 1) (i 2) : ℝ) : EReal) := by
  refine (dats m 0 c).arrAt_eq_of_covers 19 _ (by decide +kernel) fun t hf y => ?_
  have := lt16 t
  blk_simp
  rw [after0_19]
  obtain ⟨s, k, rfl⟩ := one_ix3 y
  have e : ((cfg0.win 19).blk t).view.emb (ix3 0 s k) = ix3 (tb t) s k := by
    unfold tb
    blk_ext [idxo t]
  refine (stat_sum A t ((flush0_19 t).mp hf) s k).trans ?_
  exact (congrArg (fun i : S2x8x1024.Idx => ((∑ j, stat a (i 0) j (i 1) (i 2) : ℝ) : EReal)) e).symm

end Cert.Proof.PostOut

end
-- ==== Proof.PostRef.lean ====
/- The reference's nine results, read at an index on finite arguments, are those of the real-number block. -/
module

public import proofs.«01_k».proof.Proof.PostReal
public import proofs.«01_k».proof.Proof.Gen.Reference4Ideal.Read

@[expose] public section

set_option maxRecDepth 16384

noncomputable section

open Idealize.ShloMosaic Idealize.ShloMosaic.TcCoe Idealize.SL.Sem

namespace Cert.Proof.PostRef

open Cert.Reference4Ideal Cert.Reference4Ideal.Read MlaReal PostReal

variable (a : In) (xm : FVec Ideal S2x6144 .f32)

/-- A column of one of the six parts of the modulation. -/
abbrev part (p : Fin 6) (c : Fin 1024) : Fin 6144 := ⟨p.val * 1024 + c.val, by omega⟩

/-- The four parts of the modulation the block reads are real numbers. -/
structure Mod : Prop where
  gta : ∀ b c, @Eq EReal (xm (ix2 b (part 2 c))) (a.gta b c : EReal)
  shf : ∀ b c, @Eq EReal (xm (ix2 b (part 3 c))) (a.shf b c : EReal)
  scf : ∀ b c, @Eq EReal (xm (ix2 b (part 4 c))) (a.scf b c : EReal)
  gtf : ∀ b c, @Eq EReal (xm (ix2 b (part 5 c))) (a.gtf b c : EReal)

theorem v14_at (b i k) : val_main_v14 (F := Ideal) (co a.yr) (co a.ym) (ix3 b i k) = (mix a b i k : EReal) := by
  pointwise [val_main_v14]
  unfold mix co
  split <;> rfl

theorem v15_at (b i c) : val_main_v15 (F := Ideal) (co a.yr) (co a.ym) (co a.wo) (ix3 b i c) = (op a b i c : EReal) := by
  pointwise [val_main_v15]
  simp only [v14_at, co, ← EReal.coe_mul, ← Attn.coe_sum]
  rfl

variable {a xm} (hm : Mod a xm)
include hm

theorem v8_at (b c) : val_main_v8 (F := Ideal) xm (ix3 b 0 c) = (a.gta b c : EReal) := by
  pointwise [val_main_v8, val_main_v2]
  exact hm.gta b c

theorem v9_at (b c) : val_main_v9 (F := Ideal) xm (ix3 b 0 c) = (a.shf b c : EReal) := by
  pointwise [val_main_v9, val_main_v3]
  exact hm.shf b c

theorem v10_at (b c) : val_main_v10 (F := Ideal) xm (ix3 b 0 c) = (a.scf b c : EReal) := by
  pointwise [val_main_v10, val_main_v4]
  exact hm.scf b c

theorem v11_at (b c) : val_main_v11 (F := Ideal) xm (ix3 b 0 c) = (a.gtf b c : EReal) := by
  pointwise [val_main_v11, val_main_v5]
  exact hm.gtf b c

theorem v18_at (b i c) : val_main_v18 (F := Ideal) (co a.yr) (co a.ym) (co a.x) xm (co a.wo) (ix3 b i c) = (mid a b i c : EReal) := by
  pointwise [val_main_v18, val_main_v17, val_main_v16]
  simp only [v15_at, v8_at hm, co, ← EReal.coe_mul, ← EReal.coe_add]
  rfl

theorem v25_at (b i) : val_main_v25 (F := Ideal) (co a.yr) (co a.ym) (co a.x) xm (co a.wo) (ix3 b i 0) = (ms (mid a b i) : EReal) := by
  pointwise [val_main_v25, val_main_v24, val_main_cst_1, val_main_v23, val_main_v22, val_main_cst_0, val_main_v21, val_main_v20, val_main_v19, val_main_cst]
  simp only [v18_at hm, n1024, eps_eq, ← EReal.coe_mul, ← Attn.coe_sum]
  rw [Scal.div_coe _ _ (by norm_num), ← EReal.coe_add]
  rfl

theorem v26_at (b i) : val_main_v26 (F := Ideal) (co a.yr) (co a.ym) (co a.x) xm (co a.wo) (ix3 b i 0) = (rr (mid a b i) : EReal) := by
  pointwise [val_main_v26]
  rw [v25_at hm, rsqrt_ms]

theorem v29_at (b i) : val_main_v29 (F := Ideal) (co a.yr) (co a.ym) (co a.x) xm (co a.wo) (ix3 b i 0) = ((-(1 / 2) * (rr (mid a b i) / ms (mid a b i)) : ℝ) : EReal) := by
  pointwise [val_main_v29, val_main_v28, val_main_cst_2, val_main_v27]
  rw [v25_at hm, v26_at hm, Scal.div_coe _ _ (ms_pos _).ne', neg_half_lit, ← EReal.coe_mul]

theorem v31_at (b i c) : val_main_v31 (F := Ideal) (co a.yr) (co a.ym) (co a.x) xm (co a.wo) (ix3 b i c) = (xh2 a b i c : EReal) := by
  pointwise [val_main_v31, val_main_v30]
  rw [v18_at hm, v26_at hm, ← EReal.coe_mul]
  rfl

theorem v33_at (b i c) : val_main_v33 (F := Ideal) (co a.yr) (co a.ym) (co a.x) xm (co a.gf) (co a.wo) (ix3 b i c) = ((xh2 a b i c * a.gf (ix2 0 c) : ℝ) : EReal) := by
  pointwise [val_main_v33, val_main_v32, val_main_v12]
  rw [v31_at hm, EReal.coe_mul]
  rfl

theorem v35_at (b c) : val_main_v35 (F := Ideal) xm (ix3 b 0 c) = ((1 + a.scf b c : ℝ) : EReal) := by
  pointwise [val_main_v35, val_main_v34, val_main_cst_3]
  rw [v10_at hm, ← EReal.coe_one, ← EReal.coe_add]

theorem v39_at (b i c) : val_main_v39 (F := Ideal) (co a.yr) (co a.ym) (co a.x) xm (co a.gf) (co a.wo) (ix3 b i c) = (hh a b i c : EReal) := by
  pointwise [val_main_v39, val_main_v38, val_main_v37, val_main_v36]
  rw [v33_at hm, v35_at hm, v9_at hm, ← EReal.coe_mul, ← EReal.coe_add]
  rfl

theorem v40_at (b i f) : val_main_v40 (F := Ideal) (co a.yr) (co a.ym) (co a.x) xm (co a.gf) (co a.wo) (co a.w1) (ix3 b i f) = ((∑ c, hh a b i c * a.w1 (ix2 c f) : ℝ) : EReal) := by
  pointwise [val_main_v40]
  simp only [v39_at hm, co, ← EReal.coe_mul, ← Attn.coe_sum]

theorem v41_at (b i f) : val_main_v41 (F := Ideal) (co a.yr) (co a.ym) (co a.x) xm (co a.gf) (co a.wo) (co a.w1) (ix3 b i f) = (pu a b i f : EReal) := by
  pointwise [val_main_v41, val_main_call0_v0, val_main_call0_cst]
  rw [v40_at hm, ← EReal.coe_zero, ← EReal.coe_strictMono.monotone.map_max]
  rfl

theorem v45_at (b i f) : val_main_v45 (F := Ideal) (co a.yr) (co a.ym) (co a.x) xm (co a.gf) (co a.wo) (co a.w1) (ix3 b i f) = (act a b i f : EReal) := by
  pointwise [val_main_v45]
  rw [v41_at hm, ← EReal.coe_mul]
  rfl

theorem v47_at (b i f) : val_main_v47 (F := Ideal) (co a.yr) (co a.ym) (co a.x) xm (co a.gf) (co a.wo) (co a.w1) (ix3 b i f) = ((2 * pu a b i f : ℝ) : EReal) := by
  pointwise [val_main_v47, val_main_v46, val_main_cst_6]
  rw [v41_at hm, two_lit, ← EReal.coe_mul]

theorem v48_at (b i c) : val_main_v48 (F := Ideal) (co a.yr) (co a.ym) (co a.x) xm (co a.gf) (co a.wo) (co a.w1) (co a.w2) (ix3 b i c) = (fo a b i c : EReal) := by
  pointwise [val_main_v48]
  simp only [v45_at hm, co, ← EReal.coe_mul, ← Attn.coe_sum]
  rfl

theorem v51_at (b i c) : val_main_v51 (F := Ideal) (co a.yr) (co a.ym) (co a.x) xm (co a.gf) (co a.wo) (co a.w1) (co a.w2) (ix3 b i c) = (out a b i c : EReal) := by
  pointwise [val_main_v51, val_main_v50, val_main_v49]
  rw [v18_at hm, v11_at hm, v48_at hm, ← EReal.coe_mul, ← EReal.coe_add]
  rfl

theorem v58_at (b i) : val_main_v58 (F := Ideal) (co a.yr) (co a.ym) (co a.x) xm (co a.gf) (co a.wo) (co a.w1) (co a.w2) (ix3 b i 0) = (ms (out a b i) : EReal) := by
  pointwise [val_main_v58, val_main_v57, val_main_cst_9, val_main_v56, val_main_v55, val_main_cst_8, val_main_v54, val_main_v53, val_main_v52, val_main_cst_7]
  simp only [v51_at hm, n1024, eps_eq, ← EReal.coe_mul, ← Attn.coe_sum]
  rw [Scal.div_coe _ _ (by norm_num), ← EReal.coe_add]
  rfl

theorem v59_at (b i) : val_main_v59 (F := Ideal) (co a.yr) (co a.ym) (co a.x) xm (co a.gf) (co a.wo) (co a.w1) (co a.w2) (ix3 b i 0) = (rr (out a b i) : EReal) := by
  pointwise [val_main_v59]
  rw [v58_at hm, rsqrt_ms]

theorem v62_at (b i) : val_main_v62 (F := Ideal) (co a.yr) (co a.ym) (co a.x) xm (co a.gf) (co a.wo) (co a.w1) (co a.w2) (ix3 b i 0) = ((-(1 / 2) * (rr (out a b i) / ms (out a b i)) : ℝ) : EReal) := by
  pointwise [val_main_v62, val_main_v61, val_main_cst_10, val_main_v60]
  rw [v58_at hm, v59_at hm, Scal.div_coe _ _ (ms_pos _).ne', neg_half_lit, ← EReal.coe_mul]

theorem v64_at (b i c) : val_main_v64 (F := Ideal) (co a.yr) (co a.ym) (co a.x) xm (co a.gf) (co a.wo) (co a.w1) (co a.w2) (ix3 b i c) = (xh3 a b i c : EReal) := by
  pointwise [val_main_v64, val_main_v63]
  rw [v51_at hm, v59_at hm, ← EReal.coe_mul]
  rfl

theorem v67_at (b i c) : val_main_v67 (F := Ideal) (co a.yr) (co a.ym) (co a.x) xm (co a.gf) (co a.gl) (co a.wo) (co a.w1) (co a.w2) (co a.tg) (ix3 b i c) = (err a b i c : EReal) := by
  pointwise [val_main_v67, val_main_v66, val_main_v65, val_main_v13]
  rw [v64_at hm]
  simp only [co, ← EReal.coe_mul, ← EReal.coe_sub]
  rfl

theorem v68_at (b i c) : val_main_v68 (F := Ideal) (co a.yr) (co a.ym) (co a.x) xm (co a.gf) (co a.gl) (co a.wo) (co a.w1) (co a.w2) (co a.tg) (ix3 b i c) = ((err a b i c * err a b i c : ℝ) : EReal) := by
  pointwise [val_main_v68]
  rw [v67_at hm, ← EReal.coe_mul]

theorem v81_at (b i c) : val_main_v81 (F := Ideal) (co a.yr) (co a.ym) (co a.x) xm (co a.gf) (co a.gl) (co a.wo) (co a.w1) (co a.w2) (co a.tg) (ix3 b i c) = (dy a b i c : EReal) := by
  pointwise [val_main_v81, val_main_v80, val_main_v79, val_main_v78, val_main_v77, val_main_v76, val_main_cst_16, val_main_cst_17, val_main_cst_18, val_main_v70, val_main_v69, val_main_cst_11]
  rw [v67_at hm, half_lit, n1024, two_lit, Scal.div_coe _ _ (by norm_num), ← EReal.coe_mul, ← EReal.coe_mul]
  unfold dy
  congr 1
  ring

theorem v86_at (b i c) : val_main_v86 (F := Ideal) (co a.yr) (co a.ym) (co a.x) xm (co a.gf) (co a.gl) (co a.wo) (co a.w1) (co a.w2) (co a.tg) (ix3 b i c) = ((dy a b i c * a.gl (ix1 c) : ℝ) : EReal) := by
  pointwise [val_main_v86, val_main_v85, val_main_v13]
  rw [v81_at hm, EReal.coe_mul]
  rfl

theorem v96_at (b i c) : val_main_v96 (F := Ideal) (co a.yr) (co a.ym) (co a.x) xm (co a.gf) (co a.gl) (co a.wo) (co a.w1) (co a.w2) (co a.tg) (ix3 b i c)
    = (((∑ k, out a b i k * (dy a b i k * a.gl (ix1 k))) * (-(1 / 2) * (rr (out a b i) / ms (out a b i))) / 1024 : ℝ) : EReal) := by
  pointwise [val_main_v96, val_main_v95, val_main_cst_22, val_main_v94, val_main_v93, val_main_cst_21, val_main_v92, val_main_v89, val_main_v88, val_main_cst_20, val_main_v87]
  simp only [Fin.sum_univ_one, v86_at hm, v51_at hm, v62_at hm, n1024, ← EReal.coe_mul, ← Attn.coe_sum]
  rw [Scal.div_coe _ _ (by norm_num)]

theorem v100_at (b i c) : val_main_v100 (F := Ideal) (co a.yr) (co a.ym) (co a.x) xm (co a.gf) (co a.gl) (co a.wo) (co a.w1) (co a.w2) (co a.tg) (ix3 b i c) = (dout a b i c : EReal) := by
  pointwise [val_main_v100, val_main_v99, val_main_v98, val_main_v97, val_main_v91, val_main_v90]
  rw [v96_at hm, v86_at hm, v51_at hm, v59_at hm, ← EReal.coe_mul, ← EReal.coe_mul, ← EReal.coe_mul, ← EReal.coe_add, ← EReal.coe_add]
  exact congrArg _ (dn_ref (out a b i) (fun k => dy a b i k * a.gl (ix1 k)) c)

theorem v102_at (b i c) : val_main_v102 (F := Ideal) (co a.yr) (co a.ym) (co a.x) xm (co a.gf) (co a.gl) (co a.wo) (co a.w1) (co a.w2) (co a.tg) (ix3 b i c) = (df a b i c : EReal) := by
  pointwise [val_main_v102, val_main_v101]
  rw [v11_at hm, v100_at hm, ← EReal.coe_mul, mul_comm]
  rfl

theorem v106_at (b i f) : val_main_v106 (F := Ideal) (co a.yr) (co a.ym) (co a.x) xm (co a.gf) (co a.gl) (co a.wo) (co a.w1) (co a.w2) (co a.tg) (ix3 b i f) = ((∑ c, df a b i c * a.w2 (ix2 f c) : ℝ) : EReal) := by
  pointwise [val_main_v106]
  simp only [v102_at hm, co, ← EReal.coe_mul, ← Attn.coe_sum]

theorem v109_at (b i f) : val_main_v109 (F := Ideal) (co a.yr) (co a.ym) (co a.x) xm (co a.gf) (co a.gl) (co a.wo) (co a.w1) (co a.w2) (co a.tg) (ix3 b i f) = (du a b i f : EReal) := by
  have e : val_main_v107 (F := Ideal) (co a.yr) (co a.ym) (co a.x) xm (co a.gf) (co a.gl) (co a.wo) (co a.w1) (co a.w2) (co a.tg) (ix3 b i f) = (du a b i f : EReal) := by
    pointwise [val_main_v107]
    rw [v106_at hm, v47_at hm, ← EReal.coe_mul]
    rfl
  pointwise [val_main_v109, val_main_v43, val_main_v42, val_main_cst_4, val_main_v108, val_main_cst_24]
  rw [e, v40_at hm]
  split_ifs with h
  · rfl
  · have h' : ∑ c, hh a b i c * a.w1 (ix2 c f) ≤ 0 := by rwa [← EReal.coe_zero, EReal.coe_lt_coe_iff, not_lt] at h
    have z : du a b i f = 0 := by unfold du pu; rw [max_eq_right h', mul_zero, mul_zero]
    rw [z, EReal.coe_zero]

theorem v110_at (b i c) : val_main_v110 (F := Ideal) (co a.yr) (co a.ym) (co a.x) xm (co a.gf) (co a.gl) (co a.wo) (co a.w1) (co a.w2) (co a.tg) (ix3 b i c) = (dh a b i c : EReal) := by
  pointwise [val_main_v110]
  simp only [v109_at hm, co, ← EReal.coe_mul, ← Attn.coe_sum]
  rfl

theorem v117_at (b i c) : val_main_v117 (F := Ideal) (co a.yr) (co a.ym) (co a.x) xm (co a.gf) (co a.gl) (co a.wo) (co a.w1) (co a.w2) (co a.tg) (ix3 b i c) = ((dh a b i c * (1 + a.scf b c) : ℝ) : EReal) := by
  pointwise [val_main_v117, val_main_v116]
  rw [v110_at hm, v35_at hm, ← EReal.coe_mul]

theorem v122_at (b i c) : val_main_v122 (F := Ideal) (co a.yr) (co a.ym) (co a.x) xm (co a.gf) (co a.gl) (co a.wo) (co a.w1) (co a.w2) (co a.tg) (ix3 b i c) = ((dh a b i c * (1 + a.scf b c) * a.gf (ix2 0 c) : ℝ) : EReal) := by
  pointwise [val_main_v122, val_main_v121, val_main_v12]
  rw [v117_at hm, EReal.coe_mul]
  rfl

theorem v132_at (b i c) : val_main_v132 (F := Ideal) (co a.yr) (co a.ym) (co a.x) xm (co a.gf) (co a.gl) (co a.wo) (co a.w1) (co a.w2) (co a.tg) (ix3 b i c)
    = (((∑ k, mid a b i k * (dh a b i k * (1 + a.scf b k) * a.gf (ix2 0 k))) * (-(1 / 2) * (rr (mid a b i) / ms (mid a b i))) / 1024 : ℝ) : EReal) := by
  pointwise [val_main_v132, val_main_v131, val_main_cst_30, val_main_v130, val_main_v129, val_main_cst_29, val_main_v128, val_main_v125, val_main_v124, val_main_cst_28, val_main_v123]
  simp only [Fin.sum_univ_one, v122_at hm, v18_at hm, v29_at hm, n1024, ← EReal.coe_mul, ← Attn.coe_sum]
  rw [Scal.div_coe _ _ (by norm_num)]

theorem v136_at (b i c) : val_main_v136 (F := Ideal) (co a.yr) (co a.ym) (co a.x) xm (co a.gf) (co a.gl) (co a.wo) (co a.w1) (co a.w2) (co a.tg) (ix3 b i c) = (dn (mid a b i) (fun k => dh a b i k * (1 + a.scf b k) * a.gf (ix2 0 k)) c : EReal) := by
  pointwise [val_main_v136, val_main_v135, val_main_v134, val_main_v133, val_main_v127, val_main_v126]
  rw [v132_at hm, v122_at hm, v18_at hm, v26_at hm, ← EReal.coe_mul, ← EReal.coe_mul, ← EReal.coe_mul, ← EReal.coe_add, ← EReal.coe_add]
  exact congrArg _ (dn_ref (mid a b i) (fun k => dh a b i k * (1 + a.scf b k) * a.gf (ix2 0 k)) c)

theorem v137_at (b i c) : val_main_v137 (F := Ideal) (co a.yr) (co a.ym) (co a.x) xm (co a.gf) (co a.gl) (co a.wo) (co a.w1) (co a.w2) (co a.tg) (ix3 b i c) = (dmid a b i c : EReal) := by
  pointwise [val_main_v137]
  rw [v100_at hm, v136_at hm, ← EReal.coe_add]
  rfl

theorem v139_at (b i c) : val_main_v139 (F := Ideal) (co a.yr) (co a.ym) (co a.x) xm (co a.gf) (co a.gl) (co a.wo) (co a.w1) (co a.w2) (co a.tg) (ix3 b i c) = (dop a b i c : EReal) := by
  pointwise [val_main_v139, val_main_v138]
  rw [v8_at hm, v137_at hm, ← EReal.coe_mul, mul_comm]
  rfl

theorem v143_at (b i k) : val_main_v143 (F := Ideal) (co a.yr) (co a.ym) (co a.x) xm (co a.gf) (co a.gl) (co a.wo) (co a.w1) (co a.w2) (co a.tg) (ix3 b i k) = (dmix a b i k : EReal) := by
  pointwise [val_main_v143]
  simp only [v139_at hm, co, ← EReal.coe_mul, ← Attn.coe_sum]
  rfl

/-! The rows of the results. -/

/-- The example and the row of a packed row. -/
abbrev rb (r : Fin 4096) : Fin 2 := ⟨r.val / 2048, by omega⟩
abbrev ri (r : Fin 4096) : Fin 2048 := ⟨r.val % 2048, by omega⟩

omit hm in
theorem r149 (r c) : val_main_v149 (F := Ideal) (co a.yr) (co a.ym) (ix2 r c) = (mix a (rb r) (ri r) c : EReal) := by
  pointwise [val_main_v149, val_main_v148]
  exact v14_at _ _ _ _

theorem r151 (r c) : val_main_v151 (F := Ideal) (co a.yr) (co a.ym) (co a.x) xm (co a.gf) (co a.wo) (co a.w1) (ix2 r c) = (act a (rb r) (ri r) c : EReal) := by
  pointwise [val_main_v151, val_main_v150]
  exact v45_at hm _ _ _

theorem r153 (r c) : val_main_v153 (F := Ideal) (co a.yr) (co a.ym) (co a.x) xm (co a.gf) (co a.gl) (co a.wo) (co a.w1) (co a.w2) (co a.tg) (ix2 r c) = (du a (rb r) (ri r) c : EReal) := by
  pointwise [val_main_v153, val_main_v152]
  exact v109_at hm _ _ _

theorem r155 (r c) : val_main_v155 (F := Ideal) (co a.yr) (co a.ym) (co a.x) xm (co a.gf) (co a.wo) (ix2 r c) = (hh a (rb r) (ri r) c : EReal) := by
  pointwise [val_main_v155, val_main_v154]
  exact v39_at hm _ _ _

theorem r157 (r c) : val_main_v157 (F := Ideal) (co a.yr) (co a.ym) (co a.x) xm (co a.gf) (co a.gl) (co a.wo) (co a.w1) (co a.w2) (co a.tg) (ix2 r c) = (df a (rb r) (ri r) c : EReal) := by
  pointwise [val_main_v157, val_main_v156]
  exact v102_at hm _ _ _

theorem r159 (r c) : val_main_v159 (F := Ideal) (co a.yr) (co a.ym) (co a.x) xm (co a.gf) (co a.gl) (co a.wo) (co a.w1) (co a.w2) (co a.tg) (ix2 r c) = (dop a (rb r) (ri r) c : EReal) := by
  pointwise [val_main_v159, val_main_v158]
  exact v139_at hm _ _ _

theorem r161 (r c) : val_main_v161 (F := Ideal) (co a.yr) (co a.ym) (co a.x) xm (co a.gf) (co a.gl) (co a.wo) (co a.w1) (co a.w2) (co a.tg) (ix2 r c) = (dmix a (rb r) (ri r) c : EReal) := by
  pointwise [val_main_v161, val_main_v160]
  exact v143_at hm _ _ _

theorem r162 (r c) : val_main_v162 (F := Ideal) (co a.yr) (co a.ym) (co a.x) xm (co a.gf) (co a.gl) (co a.wo) (co a.w1) (co a.w2) (co a.tg) (ix2 r c) = (dmid a (rb r) (ri r) c : EReal) := by
  pointwise [val_main_v162]
  exact v137_at hm _ _ _

/-! The eight rows of sums. -/

theorem sum0 (b c) : val_main_v112 (F := Ideal) (co a.yr) (co a.ym) (co a.x) xm (co a.gf) (co a.gl) (co a.wo) (co a.w1) (co a.w2) (co a.tg) (ix3 b 0 c) = ((∑ i, stat a b i 0 c : ℝ) : EReal) := by
  pointwise [val_main_v112, val_main_v111, val_main_cst_25]
  simp only [v110_at hm, ← Attn.coe_sum]
  rfl

theorem sum1 (b c) : val_main_v115 (F := Ideal) (co a.yr) (co a.ym) (co a.x) xm (co a.gf) (co a.gl) (co a.wo) (co a.w1) (co a.w2) (co a.tg) (ix3 b 0 c) = ((∑ i, stat a b i 1 c : ℝ) : EReal) := by
  pointwise [val_main_v115, val_main_v114, val_main_cst_26, val_main_v113]
  simp only [v110_at hm, v33_at hm, ← EReal.coe_mul, ← Attn.coe_sum]
  exact congrArg _ (Finset.sum_congr rfl fun i _ => show xh2 a b i c * a.gf (ix2 0 c) * dh a b i c = dh a b i c * xh2 a b i c * a.gf (ix2 0 c) by ring)

theorem sum2 (b c) : val_main_v105 (F := Ideal) (co a.yr) (co a.ym) (co a.x) xm (co a.gf) (co a.gl) (co a.wo) (co a.w1) (co a.w2) (co a.tg) (ix3 b 0 c) = ((∑ i, stat a b i 2 c : ℝ) : EReal) := by
  pointwise [val_main_v105, val_main_v104, val_main_cst_23, val_main_v103]
  simp only [v100_at hm, v48_at hm, ← EReal.coe_mul, ← Attn.coe_sum]
  rfl

theorem sum3 (b c) : val_main_v142 (F := Ideal) (co a.yr) (co a.ym) (co a.x) xm (co a.gf) (co a.gl) (co a.wo) (co a.w1) (co a.w2) (co a.tg) (ix3 b 0 c) = ((∑ i, stat a b i 3 c : ℝ) : EReal) := by
  pointwise [val_main_v142, val_main_v141, val_main_cst_31, val_main_v140]
  simp only [v137_at hm, v15_at, ← EReal.coe_mul, ← Attn.coe_sum]
  rfl

theorem sum4 (b c) : val_main_v120 (F := Ideal) (co a.yr) (co a.ym) (co a.x) xm (co a.gf) (co a.gl) (co a.wo) (co a.w1) (co a.w2) (co a.tg) (ix3 b 0 c) = ((∑ i, stat a b i 4 c : ℝ) : EReal) := by
  pointwise [val_main_v120, val_main_v119, val_main_cst_27, val_main_v118]
  simp only [v31_at hm, v117_at hm, ← EReal.coe_mul, ← Attn.coe_sum]
  exact congrArg _ (Finset.sum_congr rfl fun i _ => mul_comm _ _)

theorem sum5 (b c) : val_main_v84 (F := Ideal) (co a.yr) (co a.ym) (co a.x) xm (co a.gf) (co a.gl) (co a.wo) (co a.w1) (co a.w2) (co a.tg) (ix3 b 0 c) = ((∑ i, stat a b i 5 c : ℝ) : EReal) := by
  pointwise [val_main_v84, val_main_v83, val_main_cst_19, val_main_v82]
  simp only [v64_at hm, v81_at hm, ← EReal.coe_mul, ← Attn.coe_sum]
  exact congrArg _ (Finset.sum_congr rfl fun i _ => mul_comm _ _)

theorem sum6 (b c) : val_main_v145 (F := Ideal) (co a.yr) (co a.ym) (co a.x) xm (co a.gf) (co a.gl) (co a.wo) (co a.w1) (co a.w2) (co a.tg) (ix3 b 0 c) = ((∑ i, stat a b i 6 c : ℝ) : EReal) := by
  pointwise [val_main_v145, val_main_v144, val_main_cst_32]
  simp only [v68_at hm, ← Attn.coe_sum]
  rfl

omit hm in
theorem sum7 (b c) : val_main_v146 (F := Ideal) (ix3 b 0 c) = ((∑ i, stat a b i 7 c : ℝ) : EReal) := by
  pointwise [val_main_v146, val_main_cst_33]
  rw [← EReal.coe_zero]
  exact congrArg _ (Finset.sum_const_zero).symm

theorem stats (b s c) : val_main_v147 (F := Ideal) (co a.yr) (co a.ym) (co a.x) xm (co a.gf) (co a.gl) (co a.wo) (co a.w1) (co a.w2) (co a.tg) (ix3 b s c) = ((∑ i, stat a b i s c : ℝ) : EReal) := by
  fin_cases s
  all_goals pointwise [val_main_v147]
  · exact sum0 hm b c
  · exact sum1 hm b c
  · exact sum2 hm b c
  · exact sum3 hm b c
  · exact sum4 hm b c
  · exact sum5 hm b c
  · exact sum6 hm b c
  · exact sum7 b c

end Cert.Proof.PostRef

end
-- ==== Proof.PostRun.lean ====
/- The reference's run, its nine results named by the stage that computes each. -/
module

public import proofs.«01_k».proof.Proof.Gen.Reference4Ideal.Run
public import proofs.«01_k».proof.Proof.Gen.Reference4Ideal.Read

@[expose] public section

set_option maxRecDepth 16384

noncomputable section

open Idealize.ShloMosaic Idealize.ShloMosaic.TcCoe Idealize.SL.Sem

namespace Cert.Proof.PostRun

open Cert.Reference4Ideal Cert.Reference4Ideal.Read

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v149) = val_main_v149 (F := Ideal) (m ((c.tc : Thread nD τ).loc main_arg0)) (m ((c.tc : Thread nD τ).loc main_arg1)) ∧
      r.2.mem ((c.tc : Thread nD τ).loc main_v151) = val_main_v151 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) (m ((c.tc : Thread nD τ).loc main_arg7)) ∧
      r.2.mem ((c.tc : Thread nD τ).loc main_v153) = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ∧
      r.2.mem ((c.tc : Thread nD τ).loc main_v155) = val_main_v155 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg6)) ∧
      r.2.mem ((c.tc : Thread nD τ).loc main_v157) = val_main_v157 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ∧
      r.2.mem ((c.tc : Thread nD τ).loc main_v159) = val_main_v159 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ∧
      r.2.mem ((c.tc : Thread nD τ).loc main_v161) = val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ∧
      r.2.mem ((c.tc : Thread nD τ).loc main_v162) = val_main_v162 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ∧
      r.2.mem ((c.tc : Thread nD τ).loc main_v147) = val_main_v147 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) ∧
      r.2.mem ((c.tc : Thread nD τ).loc main_arg7) = m ((c.tc : Thread nD τ).loc main_arg7) ∧
      r.2.mem ((c.tc : Thread nD τ).loc main_arg8) = m ((c.tc : Thread nD τ).loc main_arg8) ∧
      r.2.mem ((c.tc : Thread nD τ).loc main_arg9) = m ((c.tc : Thread nD τ).loc main_arg9) :=
  (θ_run _ _ _).mono (fun r h c => by
    obtain ⟨h0, h1, h2, h3, h4, h5, h6, h7, h8, hargs⟩ := h c
    exact ⟨h0.trans (val_main_v149_eq _), h1.trans (val_main_v151_eq _), h2.trans (val_main_v153_eq _), h3.trans (val_main_v155_eq _), h4.trans (val_main_v157_eq _), h5.trans (val_main_v159_eq _), h6.trans (val_main_v161_eq _), h7.trans (val_main_v162_eq _), h8.trans (val_main_v147_eq _), hargs⟩) (Cert.Reference4Ideal.Value.run (F := Ideal) m ρ)

end Cert.Proof.PostRun

end
-- ==== Proof.PostClaim.lean ====
/- The claim about the block's closing gradient: on finite arguments its nine results are the reference's. -/
module

public import proofs.«01_k».proof.Proof.PostOut
public import proofs.«01_k».proof.Proof.PostRef
public import proofs.«01_k».proof.Proof.PostRun
public import proofs.«01_k».proof.Proof.Finite
public import proofs.«01_k».proof.Defs
public import proofs.«01_k».proof.Proof.Gen.Kernel4Ideal.Value
public import proofs.«01_k».proof.Proof.Gen.Pre_block_finite
public import Idealize.ShloMosaic.Adequacy
public import Idealize.ShloMosaic.Init

@[expose] public section

set_option maxRecDepth 16384

noncomputable section

open Idealize.ShloMosaic Idealize.ShloMosaic.TcCoe Idealize.SL.Sem

namespace Cert.Proof.PostClaim

open MlaReal PostReal

/-- An array of extended reals that are all real numbers. -/
abbrev Real {S : Shape} (x : FVec Ideal S .f32) : Prop := ∀ i, ∃ r : ℝ, @Eq EReal (x i) (r : EReal)

section Pre

open Cert.Pre_block_finite

variable {x0 x1 : FVec Ideal S2x2048x512 .f32} {x2 x9 : FVec Ideal S2x2048x1024 .f32} {x3 : FVec Ideal S2x6144 .f32} {x4 : FVec Ideal S1x1024 .f32}
  {x5 : FVec Ideal S1024 .f32} {x6 : FVec Ideal S1024x1024 .f32} {x7 : FVec Ideal S1024x4096 .f32} {x8 : FVec Ideal S4096x1024 .f32}

/-- The precondition says that the ten arrays are real numbers, of the modulation the four parts that are read. -/
theorem pre_real (h : fn (F := Ideal) x0 x1 x2 x3 x4 x5 x6 x7 x8 x9 = fun _ => 1#1) :
    Real x0 ∧ Real x1 ∧ Real x2 ∧ Real (extractStridedSlice S2x4096 ![0, 2048] x3 Facts.slices_S2x6144_S2x4096_0_2048)
      ∧ Real x4 ∧ Real x5 ∧ Real x6 ∧ Real x7 ∧ Real x8 ∧ Real x9 := by
  haveI : Subsingleton S_.Idx := ⟨fun a b => funext fun i => i.elim0⟩
  have e := congrFun h (fun i => i.elim0)
  dsimp only [fn, fn_part1, fn_part2] at e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨Finite.finite_of _ _ _ _ _ e0, Finite.finite_of _ _ _ _ _ e1, Finite.finite_of _ _ _ _ _ e2, Finite.finite_of _ _ _ _ _ e3, Finite.finite_of _ _ _ _ _ e4,
    Finite.finite_of _ _ _ _ _ e5, Finite.finite_of _ _ _ _ _ e6, Finite.finite_of _ _ _ _ _ e7, Finite.finite_of _ _ _ _ _ e8, Finite.finite_of _ _ _ _ _ e9⟩

/-- A column of the four parts that are read, by the part and the column in it. -/
theorem part_real (h : Real (extractStridedSlice S2x4096 ![0, 2048] x3 Facts.slices_S2x6144_S2x4096_0_2048)) (p : Fin 6) (hp : 2 ≤ p.val) :
    ∃ g : Fin 2 → Fin 1024 → ℝ, ∀ b k, @Eq EReal (x3 (ix2 b (PostRef.part p k))) (g b k : EReal) := by
  have e : ∀ (b : Fin 2) (k : Fin 1024), ∃ r : ℝ, @Eq EReal (x3 (ix2 b (PostRef.part p k))) (r : EReal) := fun b k => by
    obtain ⟨r, hr⟩ := h (ix2 b (⟨(p.val - 2) * 1024 + k.val, by omega⟩ : Fin 4096))
    refine ⟨r, Eq.trans (congrArg (fun i => (x3 i : EReal)) ?_) hr⟩
    funext d
    refine Fin.cases ?_ (fun d => Fin.cases ?_ (fun d => d.elim0) d) d
    · exact Fin.ext (show b.val = 0 + b.val by omega)
    · exact Fin.ext (show p.val * 1024 + k.val = 2048 + ((p.val - 2) * 1024 + k.val) by omega)
  choose g hg using e
  exact ⟨g, hg⟩

end Pre

theorem exists_co {S : Shape} {x : FVec Ideal S .f32} (h : Real x) : ∃ a : S.Idx → ℝ, x = co a := by
  choose a ha using h
  exact ⟨a, funext ha⟩

/-- The ten arrays together. -/
theorem exists_in {x0 x1 : FVec Ideal Cert.Pre_block_finite.S2x2048x512 .f32} {x2 x9 : FVec Ideal Cert.Pre_block_finite.S2x2048x1024 .f32}
    {x3 : FVec Ideal Cert.Pre_block_finite.S2x6144 .f32} {x4 : FVec Ideal Cert.Pre_block_finite.S1x1024 .f32}
    {x5 : FVec Ideal Cert.Pre_block_finite.S1024 .f32} {x6 : FVec Ideal Cert.Pre_block_finite.S1024x1024 .f32}
    {x7 : FVec Ideal Cert.Pre_block_finite.S1024x4096 .f32} {x8 : FVec Ideal Cert.Pre_block_finite.S4096x1024 .f32}
    (p0 : Real x0) (p1 : Real x1) (p2 : Real x2)
    (p3 : Real (extractStridedSlice Cert.Pre_block_finite.S2x4096 ![0, 2048] x3 Cert.Pre_block_finite.Facts.slices_S2x6144_S2x4096_0_2048))
    (p4 : Real x4) (p5 : Real x5) (p6 : Real x6) (p7 : Real x7) (p8 : Real x8) (p9 : Real x9) :
    ∃ a : In, x0 = co a.yr ∧ x1 = co a.ym ∧ x2 = co a.x ∧ x4 = co a.gf ∧ x5 = co a.gl ∧ x6 = co a.wo ∧ x7 = co a.w1 ∧ x8 = co a.w2
      ∧ x9 = co a.tg ∧ PostRef.Mod a x3 := by
  obtain ⟨yr, q0⟩ := exists_co p0
  obtain ⟨ym, q1⟩ := exists_co p1
  obtain ⟨x, q2⟩ := exists_co p2
  obtain ⟨gf, q4⟩ := exists_co p4
  obtain ⟨gl, q5⟩ := exists_co p5
  obtain ⟨wo, q6⟩ := exists_co p6
  obtain ⟨w1, q7⟩ := exists_co p7
  obtain ⟨w2, q8⟩ := exists_co p8
  obtain ⟨tg, q9⟩ := exists_co p9
  obtain ⟨gta, r2⟩ := part_real p3 2 (by decide)
  obtain ⟨shf, r3⟩ := part_real p3 3 (by decide)
  obtain ⟨scf, r4⟩ := part_real p3 4 (by decide)
  obtain ⟨gtf, r5⟩ := part_real p3 5 (by decide)
  exact ⟨⟨yr, ym, x, gta, shf, scf, gtf, gf, gl, wo, w1, w2, tg⟩, q0, q1, q2, q4, q5, q6, q7, q8, q9, ⟨r2, r3, r4, r5⟩⟩

section Args

open Cert.Kernel4Ideal Cert.Kernel4Ideal.Gen PostStage

variable (m : (ℓ : Loc nD τ sig) → Buf (Elt Ideal) ℓ) (c : Dev nD)

theorem m0 : h_arg0 m c = m ((c.tc : Thread nD τ).loc main_arg0) := V_main_arg0 m c
theorem m1 : h_arg1 m c = m ((c.tc : Thread nD τ).loc main_arg1) := V_main_arg1 m c
theorem m2 : h_arg2 m c = m ((c.tc : Thread nD τ).loc main_arg2) := V_main_arg2 m c
theorem m3 : h_arg3 m c = m ((c.tc : Thread nD τ).loc main_arg3) := V_main_arg3 m c
theorem m5 : h_arg5 m c = m ((c.tc : Thread nD τ).loc main_arg5) := V_main_arg5 m c
theorem m6 : h_arg6 m c = m ((c.tc : Thread nD τ).loc main_arg6) := V_main_arg6 m c
theorem m7 : h_arg7 m c = m ((c.tc : Thread nD τ).loc main_arg7) := V_main_arg7 m c
theorem m8 : h_arg8 m c = m ((c.tc : Thread nD τ).loc main_arg8) := V_main_arg8 m c
theorem m9 : h_arg9 m c = m ((c.tc : Thread nD τ).loc main_arg9) := V_main_arg9 m c
theorem m4 : V m c main_arg4 = m ((c.tc : Thread nD τ).loc main_arg4) := V_main_arg4 m c
variable {m c}

/-- The kernel's arguments in real numbers. -/
theorem args_of {a : In}
    (h0 : m ((c.tc : Thread nD τ).loc main_arg0) = co a.yr)
    (h1 : m ((c.tc : Thread nD τ).loc main_arg1) = co a.ym)
    (h2 : m ((c.tc : Thread nD τ).loc main_arg2) = co a.x)
    (h4 : m ((c.tc : Thread nD τ).loc main_arg4) = co a.gf)
    (h5 : m ((c.tc : Thread nD τ).loc main_arg5) = co a.gl)
    (h6 : m ((c.tc : Thread nD τ).loc main_arg6) = co a.wo)
    (h7 : m ((c.tc : Thread nD τ).loc main_arg7) = co a.w1)
    (h8 : m ((c.tc : Thread nD τ).loc main_arg8) = co a.w2)
    (h9 : m ((c.tc : Thread nD τ).loc main_arg9) = co a.tg)
    (h3 : PostRef.Mod a (m ((c.tc : Thread nD τ).loc main_arg3))) : PostEntry.Args m c a where
  yr := (m0 m c).trans h0
  ym := (m1 m c).trans h1
  x := (m2 m c).trans h2
  gf := (m4 m c).trans h4
  gl := (m5 m c).trans h5
  wo := (m6 m c).trans h6
  w1 := (m7 m c).trans h7
  w2 := (m8 m c).trans h8
  tg := (m9 m c).trans h9
  gta := fun b k => (congrFun (m3 m c) _).trans (h3.gta b k)
  shf := fun b k => (congrFun (m3 m c) _).trans (h3.shf b k)
  scf := fun b k => (congrFun (m3 m c) _).trans (h3.scf b k)
  gtf := fun b k => (congrFun (m3 m c) _).trans (h3.gtf b k)

end Args

section Ref

open Cert.Reference4Ideal Cert.Reference4Ideal.Read PostRef

variable {a : In} {x0 x1 : FVec Ideal S2x2048x512 .f32} {x2 x9 : FVec Ideal S2x2048x1024 .f32} {x3 : FVec Ideal S2x6144 .f32} {x4 : FVec Ideal S1x1024 .f32}
  {x5 : FVec Ideal S1024 .f32} {x6 : FVec Ideal S1024x1024 .f32} {x7 : FVec Ideal S1024x4096 .f32} {x8 : FVec Ideal S4096x1024 .f32}
  (h3 : Mod a x3) (h0 : x0 = co a.yr) (h1 : x1 = co a.ym) (h2 : x2 = co a.x) (h4 : x4 = co a.gf) (h5 : x5 = co a.gl) (h6 : x6 = co a.wo)
  (h7 : x7 = co a.w1) (h8 : x8 = co a.w2) (h9 : x9 = co a.tg)

include h0 h1 in
theorem ref_mix : (fun i => (mix a (PostEntry.rb (i 0)) (PostEntry.ri (i 0)) (i 1) : EReal)) = val_main_v149 (F := Ideal) x0 x1 := by
  subst h0 h1
  funext i; rw [eq_ix2 i]; exact (r149 _ _).symm

include h3 h0 h1 h2 h4 h6 h7 in
theorem ref_act : (fun i => (act a (PostEntry.rb (i 0)) (PostEntry.ri (i 0)) (i 1) : EReal)) = val_main_v151 (F := Ideal) x0 x1 x2 x3 x4 x6 x7 := by
  subst h0 h1 h2 h4 h6 h7
  funext i; rw [eq_ix2 i]; exact (r151 h3 _ _).symm

include h3 h0 h1 h2 h4 h5 h6 h7 h8 h9 in
theorem ref_du : (fun i => (du a (PostEntry.rb (i 0)) (PostEntry.ri (i 0)) (i 1) : EReal)) = val_main_v153 (F := Ideal) x0 x1 x2 x3 x4 x5 x6 x7 x8 x9 := by
  subst h0 h1 h2 h4 h5 h6 h7 h8 h9
  funext i; rw [eq_ix2 i]; exact (r153 h3 _ _).symm

include h3 h0 h1 h2 h4 h6 in
theorem ref_hh : (fun i => (hh a (PostEntry.rb (i 0)) (PostEntry.ri (i 0)) (i 1) : EReal)) = val_main_v155 (F := Ideal) x0 x1 x2 x3 x4 x6 := by
  subst h0 h1 h2 h4 h6
  funext i; rw [eq_ix2 i]; exact (r155 h3 _ _).symm

include h3 h0 h1 h2 h4 h5 h6 h7 h8 h9 in
theorem ref_df : (fun i => (df a (PostEntry.rb (i 0)) (PostEntry.ri (i 0)) (i 1) : EReal)) = val_main_v157 (F := Ideal) x0 x1 x2 x3 x4 x5 x6 x7 x8 x9 := by
  subst h0 h1 h2 h4 h5 h6 h7 h8 h9
  funext i; rw [eq_ix2 i]; exact (r157 h3 _ _).symm

include h3 h0 h1 h2 h4 h5 h6 h7 h8 h9 in
theorem ref_dop : (fun i => (dop a (PostEntry.rb (i 0)) (PostEntry.ri (i 0)) (i 1) : EReal)) = val_main_v159 (F := Ideal) x0 x1 x2 x3 x4 x5 x6 x7 x8 x9 := by
  subst h0 h1 h2 h4 h5 h6 h7 h8 h9
  funext i; rw [eq_ix2 i]; exact (r159 h3 _ _).symm

include h3 h0 h1 h2 h4 h5 h6 h7 h8 h9 in
theorem ref_dmix : (fun i => (dmix a (PostEntry.rb (i 0)) (PostEntry.ri (i 0)) (i 1) : EReal)) = val_main_v161 (F := Ideal) x0 x1 x2 x3 x4 x5 x6 x7 x8 x9 := by
  subst h0 h1 h2 h4 h5 h6 h7 h8 h9
  funext i; rw [eq_ix2 i]; exact (r161 h3 _ _).symm

include h3 h0 h1 h2 h4 h5 h6 h7 h8 h9 in
theorem ref_dmid : (fun i => (dmid a (PostEntry.rb (i 0)) (PostEntry.ri (i 0)) (i 1) : EReal)) = val_main_v162 (F := Ideal) x0 x1 x2 x3 x4 x5 x6 x7 x8 x9 := by
  subst h0 h1 h2 h4 h5 h6 h7 h8 h9
  funext i; rw [eq_ix2 i]; exact (r162 h3 _ _).symm

include h3 h0 h1 h2 h4 h5 h6 h7 h8 h9 in
theorem ref_stat : (fun i => ((∑ j, stat a (i 0) j (i 1) (i 2) : ℝ) : EReal)) = val_main_v147 (F := Ideal) x0 x1 x2 x3 x4 x5 x6 x7 x8 x9 := by
  subst h0 h1 h2 h4 h5 h6 h7 h8 h9
  funext i; rw [eq_ix3 i]; exact (stats h3 _ _ _).symm

end Ref

/-- The reference's frame: a program of host operations declares no semaphore. -/
theorem ref_frame : Cert.quiescent_Reference4Ideal (hReference4Ideal := Cert.Reference4Ideal.Gen.facts) := fun m g _ =>
  (θ_run _ _ _).mono (fun r h => ⟨fun c => (h c).2.2.2.2.2.2.2.2.2, sem_eq_zero_of_no_sems rfl r.2⟩) (PostRun.run m g)

set_option maxHeartbeats 4000000 in
/-- The claim about the block's closing gradient. -/
theorem algebraic : Cert.algebraic_Kernel4Ideal_Reference4Ideal_pre_block_finite (hKernel4Ideal := Cert.Kernel4Ideal.Gen.facts)
    (hReference4Ideal := Cert.Reference4Ideal.Gen.facts) (hPre_block_finite := Cert.Pre_block_finite.Gen.facts) := by
  intro m g m' g' hpre hagree
  refine ⟨_, _, _, _, _, _, _, _, _, (θ_run _ _ _).mono (fun r h c => h c) (Cert.Kernel4Ideal.Value.run_blocks (F := Ideal) m g), ?_⟩
  refine (θ_run _ _ _).mono (fun r h c => ?_) (PostRun.run m' g')
  obtain ⟨h0, h1, h2, h3, h4, h5, h6, h7, h8, hargs⟩ := h c
  obtain ⟨a0, a1, a2, a3, a4, a5, a6, a7, a8, a9⟩ := hagree c
  obtain ⟨p0, p1, p2, p3, p4, p5, p6, p7, p8, p9⟩ := pre_real (hpre c)
  obtain ⟨a, q0, q1, q2, q4, q5, q6, q7, q8, q9, hm⟩ := exists_in p0 p1 p2 p3 p4 p5 p6 p7 p8 p9
  have A : PostEntry.Args m c a := args_of q0 q1 q2 q4 q5 q6 q7 q8 q9 hm
  rw [← a0] at q0
  rw [← a1] at q1
  rw [← a2] at q2
  rw [← a4] at q4
  rw [← a5] at q5
  rw [← a6] at q6
  rw [← a7] at q7
  rw [← a8] at q8
  rw [← a9] at q9
  rw [← a3] at hm
  refine ⟨h0.trans ?_, h1.trans ?_, h2.trans ?_, h3.trans ?_, h4.trans ?_, h5.trans ?_, h6.trans ?_, h7.trans ?_, h8.trans ?_, hargs⟩
  · exact (ref_mix (a := a) q0 q1).symm.trans (PostOut.arr_mix A).symm
  · exact (ref_act (a := a) hm q0 q1 q2 q4 q6 q7).symm.trans (PostOut.arr_act A).symm
  · exact (ref_du (a := a) hm q0 q1 q2 q4 q5 q6 q7 q8 q9).symm.trans (PostOut.arr_du A).symm
  · exact (ref_hh (a := a) hm q0 q1 q2 q4 q6).symm.trans (PostOut.arr_hh A).symm
  · exact (ref_df (a := a) hm q0 q1 q2 q4 q5 q6 q7 q8 q9).symm.trans (PostOut.arr_df A).symm
  · exact (ref_dop (a := a) hm q0 q1 q2 q4 q5 q6 q7 q8 q9).symm.trans (PostOut.arr_dop A).symm
  · exact (ref_dmix (a := a) hm q0 q1 q2 q4 q5 q6 q7 q8 q9).symm.trans (PostOut.arr_dmix A).symm
  · exact (ref_dmid (a := a) hm q0 q1 q2 q4 q5 q6 q7 q8 q9).symm.trans (PostOut.arr_dmid A).symm
  · exact (ref_stat (a := a) hm q0 q1 q2 q4 q5 q6 q7 q8 q9).symm.trans (PostOut.arr_stat A).symm

end Cert.Proof.PostClaim

end
-- ==== Proof.ModStage.lean ====
/- The host lines before the modulation's backward kernel, one equation for each operation. -/
module

public import proofs.«01_k».proof.Proof.HostStage
public import proofs.«01_k».proof.Proof.Gen.Kernel5Ideal.Value

@[expose] public section

set_option maxRecDepth 16384

noncomputable section

open Idealize.ShloMosaic Idealize.ShloMosaic.TcCoe Idealize.SL.Sem

namespace Cert.Proof.ModStage

open Cert.Kernel5Ideal Cert.Kernel5Ideal.Gen

variable {F : FTy → Type} [FloatOps F]

abbrev hostLine : List (HloOp τ sig (Elt F)) := List.flatten [hostOps0]

/-- The buffers the line writes, in order. -/
abbrev written : List (Ref sig .tc) :=
  [main_cst, main_v0, main_v1, main_cst_0, main_v2, main_v3]

theorem writes : HostStage.Writes (τ := τ) (hostLine (F := F)) written := rfl

/-- An operation of three operands. -/
theorem ternary {ops : List (HloOp τ sig (Elt F))} {W : List (Ref sig .tc)} (hW : HostStage.Writes ops W) (V) (i : ℕ) {y : Ref sig .tc}
    {xs : Fin 3 → Ref sig .tc} {f : ((k : Fin 3) → (xs k).ty.Contents (Elt F)) → y.ty.Contents (Elt F)} {hx hy}
    (h : ops[i]? = some (StableHlo.nary xs y f hx hy)) (hr : y ∉ W.drop (i + 1)) (h1 : ∀ k, xs k ∉ W.drop i) :
    StableHlo.after ops V (Proc.devRef .tc y) = f fun k => StableHlo.after ops V (Proc.devRef .tc (xs k)) := by
  rw [HostStage.at_op hW V i h hr, StableHlo.nary_result]
  exact congrArg f (funext fun k => HostStage.before hW V i (h1 k))

variable (m : (ℓ : Loc nD τ sig) → Buf (Elt F) ℓ) (c : Dev nD)

/-! What each buffer holds at the end of the line. -/

def h_arg0 : (⟨S16x1024, .f32⟩ : BufTy).Contents (Elt F) := V m c main_arg0
def h_arg1 : (⟨S1x1024, .f32⟩ : BufTy).Contents (Elt F) := V m c main_arg1
def h_arg2 : (⟨S16x1536, .f32⟩ : BufTy).Contents (Elt F) := V m c main_arg2
def h_arg3 : (⟨S1x1536, .f32⟩ : BufTy).Contents (Elt F) := V m c main_arg3
def h_cst : (⟨S_, .f32⟩ : BufTy).Contents (Elt F) := V m c main_cst
def h_v0 : (⟨S7x1024, .f32⟩ : BufTy).Contents (Elt F) := V m c main_v0
def h_v1 : (⟨S24x1024, .f32⟩ : BufTy).Contents (Elt F) := V m c main_v1
def h_cst_0 : (⟨S_, .f32⟩ : BufTy).Contents (Elt F) := V m c main_cst_0
def h_v2 : (⟨S7x1536, .f32⟩ : BufTy).Contents (Elt F) := V m c main_v2
def h_v3 : (⟨S24x1536, .f32⟩ : BufTy).Contents (Elt F) := V m c main_v3

theorem s_cst : h_cst m c = (constant S_ .f32 0x00000000#32) := by
  have h := HostStage.nullary (y := main_cst) (writes (F := F)) (fun r => m (c, r)) 0 rfl (by decide +kernel)
  exact h
theorem s_v0 : h_v0 m c = ((broadcastInDim S7x1024 ![] bcast_S_S7x1024 : (⟨S_, .f32⟩ : BufTy).Contents (Elt F) → (⟨S7x1024, .f32⟩ : BufTy).Contents (Elt F))) (h_cst m c) := by
  have h := HostStage.unary (x := main_cst) (y := main_v0) (writes (F := F)) (fun r => m (c, r)) 1 rfl (by decide +kernel) (by decide +kernel)
  exact h
theorem s_v1 : h_v1 m c = (concatenate S24x1024 0 [⟨S16x1024, (h_arg0 m c : (⟨S16x1024, .f32⟩ : BufTy).Contents (Elt F))⟩, ⟨S1x1024, (h_arg1 m c : (⟨S1x1024, .f32⟩ : BufTy).Contents (Elt F))⟩, ⟨S7x1024, (h_v0 m c : (⟨S7x1024, .f32⟩ : BufTy).Contents (Elt F))⟩] concatenates_S16x1024_S1x1024_S7x1024_S24x1024_d0 : (⟨S24x1024, .f32⟩ : BufTy).Contents (Elt F)) := by
  have h := ternary (xs := ![main_arg0, main_arg1, main_v0]) (y := main_v1) (writes (F := F)) (fun r => m (c, r)) 2 rfl (by decide +kernel) (by decide +kernel)
  exact h
theorem s_cst_0 : h_cst_0 m c = (constant S_ .f32 0x00000000#32) := by
  have h := HostStage.nullary (y := main_cst_0) (writes (F := F)) (fun r => m (c, r)) 3 rfl (by decide +kernel)
  exact h
theorem s_v2 : h_v2 m c = ((broadcastInDim S7x1536 ![] bcast_S_S7x1536 : (⟨S_, .f32⟩ : BufTy).Contents (Elt F) → (⟨S7x1536, .f32⟩ : BufTy).Contents (Elt F))) (h_cst_0 m c) := by
  have h := HostStage.unary (x := main_cst_0) (y := main_v2) (writes (F := F)) (fun r => m (c, r)) 4 rfl (by decide +kernel) (by decide +kernel)
  exact h
theorem s_v3 : h_v3 m c = (concatenate S24x1536 0 [⟨S16x1536, (h_arg2 m c : (⟨S16x1536, .f32⟩ : BufTy).Contents (Elt F))⟩, ⟨S1x1536, (h_arg3 m c : (⟨S1x1536, .f32⟩ : BufTy).Contents (Elt F))⟩, ⟨S7x1536, (h_v2 m c : (⟨S7x1536, .f32⟩ : BufTy).Contents (Elt F))⟩] concatenates_S16x1536_S1x1536_S7x1536_S24x1536_d0 : (⟨S24x1536, .f32⟩ : BufTy).Contents (Elt F)) := by
  have h := ternary (xs := ![main_arg2, main_arg3, main_v2]) (y := main_v3) (writes (F := F)) (fun r => m (c, r)) 5 rfl (by decide +kernel) (by decide +kernel)
  exact h

end Cert.Proof.ModStage
-- ==== Proof.ModBlk.lean ====
/- What the modulation's backward kernel computes from one block, entry by entry. -/
module

public import proofs.«01_k».proof.Proof.Gen.Kernel5Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.ModBlk

open Cert.Kernel5Ideal Cert.Kernel5Ideal.Gen

/-! The optimiser's step on one number, and the gate's activation. -/

def sil (x : EReal) : EReal := Ideal.div x (1 + Ideal.exp (0 - x))
def adM (g m : EReal) : EReal := Ideal.ofBits .f32 0x3F666666#32 * m + Ideal.ofBits .f32 0x3DCCCCCD#32 * g
def adV (g v : EReal) : EReal := Ideal.ofBits .f32 0x3F7FBE77#32 * v + Ideal.ofBits .f32 0x3A83126F#32 * (g * g)
def adU (g m v : EReal) : EReal :=
  Ideal.div (Ideal.div (adM g m) (Ideal.ofBits .f32 0x3F26BD02#32))
    (Ideal.sqrt (Ideal.div (adV g v) (Ideal.ofBits .f32 0x3C231ACC#32)) + Ideal.ofBits .f32 0x322BCC77#32)
def adD (g m v w : EReal) : EReal := Ideal.ofBits .f32 0xBA83126F#32 * (adU g m v + Ideal.ofBits .f32 0x3C23D70A#32 * w)

variable (x0 : FVec Ideal S24x256 .f32) (x1 : FVec Ideal S24x1536 .f32) (x2 x3 x4 : FVec Ideal S256x1536 .f32)

theorem pay3_eq : k0_pay3 (F := Ideal) x1 = x1 := by
  funext y
  unfold k0_pay3
  pointwise
  try rfl

theorem pay4_at (r j) : @Eq EReal (k0_pay4 (F := Ideal) x0 x1 (ix2 r j)) (∑ q : Fin 24, sil (x0 (ix2 q r)) * x1 (ix2 q j)) := by
  unfold k0_pay4
  rw [pay3_eq]
  pointwise
  unfold sil
  rfl

theorem pay2_at (q r) : @Eq EReal (k0_pay2 (F := Ideal) x1 x2 (ix2 q r)) (∑ j : Fin 1536, @HMul.hMul EReal EReal EReal _ (x1 (ix2 q j)) (x2 (ix2 r j))) := by
  unfold k0_pay2
  pointwise

theorem pay5_at (g : FVec Ideal S256x1536 .f32) (h : k0_pay4 (F := Ideal) x0 x1 = g) (y) :
    @Eq EReal (k0_pay5 (F := Ideal) x0 x1 x3 y) (adM (g y) (x3 y)) := by
  unfold k0_pay5 adM
  rw [h]
  pointwise

theorem pay6_at (g : FVec Ideal S256x1536 .f32) (h : k0_pay4 (F := Ideal) x0 x1 = g) (y) :
    @Eq EReal (k0_pay6 (F := Ideal) x0 x1 x4 y) (adV (g y) (x4 y)) := by
  unfold k0_pay6 adV
  rw [h]
  pointwise

theorem pay7_at (g : FVec Ideal S256x1536 .f32) (h : k0_pay4 (F := Ideal) x0 x1 = g) (y) :
    @Eq EReal (k0_pay7 (F := Ideal) x0 x1 x3 x4 y) (adU (g y) (x3 y) (x4 y)) := by
  unfold k0_pay7 adU
  rw [← pay5_at x0 x1 x3 g h, ← pay6_at x0 x1 x4 g h]
  generalize k0_pay5 (F := Ideal) x0 x1 x3 = a
  generalize k0_pay6 (F := Ideal) x0 x1 x4 = b
  pointwise

theorem pay1_at (u : FVec Ideal S256x1536 .f32) (y) :
    @Eq EReal (k0_pay1 (F := Ideal) x2 u y) (Ideal.ofBits .f32 0xBA83126F#32 * (@HAdd.hAdd EReal EReal EReal _ (u y) (Ideal.ofBits .f32 0x3C23D70A#32 * x2 y))) := by
  unfold k0_pay1
  pointwise

/-! The five blocks a grid point writes. -/

theorem out5 : out0_5 (F := Ideal) x0 x1 x2 x3 x4 = k0_pay4 (F := Ideal) x0 x1 := by
  unfold out0_5
  rw [View.canon_cons_unit_lit _ _ _ (by decide), View.ld_unit_lit _ _ (by decide), View.ld_unit_lit _ _ (by decide)]

theorem out6 : out0_6 (F := Ideal) x0 x1 x2 x3 x4 = k0_pay2 (F := Ideal) x1 x2 := by
  unfold out0_6
  rw [View.canon_cons_unit_lit _ _ _ (by decide), View.ld_unit_lit _ _ (by decide), View.ld_unit_lit _ _ (by decide), pay3_eq]

theorem out7 : out0_7 (F := Ideal) x0 x1 x2 x3 x4 = k0_pay1 (F := Ideal) x2 (k0_pay7 (F := Ideal) x0 x1 x3 x4) := by
  unfold out0_7
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

theorem out8 : out0_8 (F := Ideal) x0 x1 x2 x3 x4 = k0_pay5 (F := Ideal) x0 x1 x3 := by
  unfold out0_8
  rw [View.canon_cons_unit_lit _ _ _ (by decide), View.ld_unit_lit _ _ (by decide), View.ld_unit_lit _ _ (by decide), View.ld_unit_lit _ _ (by decide)]

theorem out9 : out0_9 (F := Ideal) x0 x1 x2 x3 x4 = k0_pay6 (F := Ideal) x0 x1 x4 := by
  unfold out0_9
  rw [View.canon_cons_unit_lit _ _ _ (by decide), View.ld_unit_lit _ _ (by decide), View.ld_unit_lit _ _ (by decide), View.ld_unit_lit _ _ (by decide)]

end Cert.Proof.ModBlk

end
-- ==== Proof.ModRef.lean ====
/- The reference's gradients of the modulation and its optimiser step, entry by entry. -/
module

public import proofs.«01_k».proof.Proof.ModBlk
public import proofs.«01_k».proof.Proof.Scal
public import proofs.«01_k».proof.Proof.Gen.Reference5Ideal.Read

@[expose] public section

set_option maxRecDepth 16384

noncomputable section

open Idealize.ShloMosaic Idealize.ShloMosaic.TcCoe Idealize.SL.Sem

namespace Cert.Proof.ModRef

open Cert.Reference5Ideal Cert.Reference5Ideal.Read ModBlk

theorem one_add_exp_ne (x : EReal) : 1 + Ideal.exp x ≠ 0 := by
  induction x with
  | bot => show (1 : EReal) + 0 ≠ 0; simp
  | top => show (1 : EReal) + ⊤ ≠ 0; simp [Scal.one_add_top]
  | coe r =>
    show (1 : EReal) + ((Real.exp r : ℝ) : EReal) ≠ 0
    rw [← EReal.coe_one, ← EReal.coe_add]
    exact_mod_cast (by positivity : (1 + Real.exp r) ≠ 0)

/-- The activation as a product with the logistic function. -/
theorem sil_eq (x : EReal) : x * Ideal.div 1 (1 + Ideal.exp (-x)) = sil x := by
  have h := one_add_exp_ne (-x)
  unfold sil Ideal.div
  rw [zero_sub, if_neg h, if_neg h, one_mul]

variable (x0 : FVec Ideal S16x1024 .f32) (x1 : FVec Ideal S1x1024 .f32) (x2 : FVec Ideal S16x1536 .f32) (x3 : FVec Ideal S1x1536 .f32)
  (x4 x5 x6 : FVec Ideal S1024x1536 .f32)

/-- The weight's gradient: one product for each row of the conditioning. -/
def gw (k : Fin 1024) (j : Fin 1536) : EReal :=
  (∑ q : Fin 16, sil (x0 (ix2 q k)) * x2 (ix2 q j)) + sil (x1 (ix2 0 k)) * x3 (ix2 0 j)

theorem s_at (q k) : @Eq EReal (val_main_v0 (F := Ideal) x0 (ix2 q k)) (sil (x0 (ix2 q k))) := by
  rw [← sil_eq]
  pointwise [val_main_v0, val_main_call0_v5, val_main_call0_v4, val_main_call0_cst_0, val_main_call0_v3, val_main_call0_v2, val_main_call0_cst, val_main_call0_v1, val_main_call0_v0]

theorem sc_at (k) : @Eq EReal (val_main_v1 (F := Ideal) x1 (ix2 0 k)) (sil (x1 (ix2 0 k))) := by
  rw [← sil_eq]
  pointwise [val_main_v1, val_main_call1_v5, val_main_call1_v4, val_main_call1_cst_0, val_main_call1_v3, val_main_call1_v2, val_main_call1_cst, val_main_call1_v1, val_main_call1_v0]

theorem v8_at (k j) : @Eq EReal (val_main_v8 (F := Ideal) x0 x2 (ix2 k j)) (∑ q : Fin 16, sil (x0 (ix2 q k)) * x2 (ix2 q j)) := by
  simp only [← s_at]
  unfold val_main_v8 val_main_v7
  generalize val_main_v0 (F := Ideal) x0 = s
  pointwise
  exact Finset.sum_congr rfl fun q _ => mul_comm _ _

theorem v5_at (k j) : @Eq EReal (val_main_v5 (F := Ideal) x1 x3 (ix2 k j)) (sil (x1 (ix2 0 k)) * x3 (ix2 0 j)) := by
  rw [← sc_at]
  unfold val_main_v5 val_main_v4
  generalize val_main_v1 (F := Ideal) x1 = s
  pointwise
  rw [Fin.sum_univ_one]
  exact mul_comm _ _

theorem ref_gw (k j) : @Eq EReal (val_main_v9 (F := Ideal) x0 x1 x2 x3 (ix2 k j)) (gw x0 x1 x2 x3 k j) := by
  unfold gw
  rw [← v8_at, ← v5_at]
  exact add_comm _ _

theorem v10_at (q k) : @Eq EReal (val_main_v10 (F := Ideal) x2 x4 (ix2 q k)) (∑ j : Fin 1536, @HMul.hMul EReal EReal EReal _ (x2 (ix2 q j)) (x4 (ix2 k j))) := by
  unfold val_main_v10
  pointwise

theorem v6_at (k) : @Eq EReal (val_main_v6 (F := Ideal) x3 x4 (ix2 0 k)) (∑ j : Fin 1536, @HMul.hMul EReal EReal EReal _ (x3 (ix2 0 j)) (x4 (ix2 k j))) := by
  unfold val_main_v6
  pointwise

theorem ref_m (y) : @Eq EReal (val_main_v15 (F := Ideal) x0 x1 x2 x3 x5 y) (adM (val_main_v9 (F := Ideal) x0 x1 x2 x3 y) (x5 y)) := by
  unfold adM val_main_v15 val_main_v14
  generalize val_main_v9 (F := Ideal) x0 x1 x2 x3 = g
  pointwise [val_main_v12, val_main_v13, val_main_v11, val_main_cst, val_main_cst_0]

theorem ref_v (y) : @Eq EReal (val_main_v21 (F := Ideal) x0 x1 x2 x3 x6 y) (adV (val_main_v9 (F := Ideal) x0 x1 x2 x3 y) (x6 y)) := by
  unfold adV val_main_v21 val_main_v20 val_main_v18
  generalize val_main_v9 (F := Ideal) x0 x1 x2 x3 = g
  pointwise [val_main_v17, val_main_v16, val_main_v19, val_main_cst_1, val_main_cst_2]

theorem ref_u (y) : @Eq EReal (val_main_v29 (F := Ideal) x0 x1 x2 x3 x5 x6 y) (adU (val_main_v9 (F := Ideal) x0 x1 x2 x3 y) (x5 y) (x6 y)) := by
  unfold adU
  rw [← ref_m, ← ref_v]
  unfold val_main_v29 val_main_v28 val_main_v26 val_main_v25 val_main_v23
  generalize val_main_v15 (F := Ideal) x0 x1 x2 x3 x5 = a
  generalize val_main_v21 (F := Ideal) x0 x1 x2 x3 x6 = b
  pointwise [val_main_v22, val_main_v24, val_main_v27, val_main_cst_3, val_main_cst_4, val_main_cst_5]

theorem ref_d (y) : @Eq EReal (val_main_v34 (F := Ideal) x0 x1 x2 x3 x4 x5 x6 y) (adD (val_main_v9 (F := Ideal) x0 x1 x2 x3 y) (x5 y) (x6 y) (x4 y)) := by
  unfold adD
  rw [← ref_u]
  unfold val_main_v34 val_main_v32
  generalize val_main_v29 (F := Ideal) x0 x1 x2 x3 x5 x6 = u
  pointwise [val_main_v33, val_main_v31, val_main_v30, val_main_cst_6, val_main_cst_7]

/-- Sixteen rows, one more, and seven rows of zeros. -/
def rows {w : ℕ} (a : (⟨2, ![16, w]⟩ : Shape).Idx → EReal) (b : (⟨2, ![1, w]⟩ : Shape).Idx → EReal) (i : Fin 24) (k : Fin w) : EReal :=
  if h : i.val < 16 then a (ix2 ⟨i.val, h⟩ k) else if h : i.val - 16 < 1 then b (ix2 ⟨i.val - 16, h⟩ k) else 0

/-- The gradients of the conditioning's rows. -/
theorem ref_ds (i k) : @Eq EReal (val_main_v36 (F := Ideal) x2 x3 x4 (ix2 i k)) (∑ j : Fin 1536, rows x2 x3 i j * x4 (ix2 k j)) := by
  have e : @Eq EReal (val_main_v36 (F := Ideal) x2 x3 x4 (ix2 i k)) (rows (val_main_v10 (F := Ideal) x2 x4) (val_main_v6 (F := Ideal) x3 x4) i k) := by
    unfold val_main_v36
    generalize val_main_v10 (F := Ideal) x2 x4 = a
    generalize val_main_v6 (F := Ideal) x3 x4 = b
    pointwise [val_main_v35, val_main_cst_8]
    rfl
  rw [e]
  unfold rows
  split_ifs with h h'
  · exact v10_at x2 x4 _ k
  · have h0 : (⟨i.val - 16, h'⟩ : Fin 1) = 0 := Subsingleton.elim _ _
    rw [h0]
    exact v6_at x3 x4 k
  · simp

/-- The kernel sums over all twenty-four rows: the rows of zeros add nothing. -/
theorem sum_rows (f : Fin 24 → EReal) : ∑ q, f q = (∑ q : Fin 16, f ⟨q.val, by omega⟩) + f 16 + ∑ q : Fin 7, f ⟨17 + q.val, by omega⟩ := by
  have h1 := Fin.sum_univ_add (a := 16 + 1) (b := 7) f
  have h2 := Fin.sum_univ_add (a := 16) (b := 1) (fun q : Fin (16 + 1) => f (Fin.castAdd 7 q))
  rw [h2, Fin.sum_univ_one] at h1
  exact h1

theorem gw_rows (k j) : ∑ q, sil (rows x0 x1 q k) * rows x2 x3 q j = gw x0 x1 x2 x3 k j := by
  rw [sum_rows]
  unfold gw
  have hz : ∑ q : Fin 7, sil (rows x0 x1 ⟨17 + q.val, by omega⟩ k) * rows x2 x3 ⟨17 + q.val, by omega⟩ j = 0 := by
    refine Finset.sum_eq_zero fun q _ => ?_
    have e : rows x2 x3 ⟨17 + q.val, by omega⟩ j = 0 := by
      unfold rows
      rw [dif_neg (by simp; omega), dif_neg (by simp; omega)]
    rw [e, mul_zero]
  rw [hz, add_zero]
  refine congrArg₂ (· + ·) (Finset.sum_congr rfl fun q _ => ?_) ?_
  · unfold rows
    rw [dif_pos q.isLt, dif_pos q.isLt]
  · rfl

end Cert.Proof.ModRef

end
-- ==== Proof.ModOut.lean ====
/- The modulation's backward kernel: its blocks, and its five result arrays. -/
module

public import proofs.«01_k».proof.Proof.ModStage
public import proofs.«01_k».proof.Proof.ModRef

@[expose] public section

set_option maxRecDepth 16384

noncomputable section

open Idealize.ShloMosaic Idealize.ShloMosaic.TcCoe Idealize.SL.Sem

namespace Cert.Proof.ModOut

open Cert.Kernel5Ideal Cert.Kernel5Ideal.Gen ModStage ModBlk ModRef

variable (m : (ℓ : Loc nD τ sig) → Buf (Elt Ideal) ℓ) (c : Dev nD)

/-! The seven arguments. -/

abbrev A0 : FVec Ideal S16x1024 .f32 := m ((c.tc : Thread nD τ).loc main_arg0)
abbrev A1 : FVec Ideal S1x1024 .f32 := m ((c.tc : Thread nD τ).loc main_arg1)
abbrev A2 : FVec Ideal S16x1536 .f32 := m ((c.tc : Thread nD τ).loc main_arg2)
abbrev A3 : FVec Ideal S1x1536 .f32 := m ((c.tc : Thread nD τ).loc main_arg3)
abbrev A4 : FVec Ideal S1024x1536 .f32 := m ((c.tc : Thread nD τ).loc main_arg4)
abbrev A5 : FVec Ideal S1024x1536 .f32 := m ((c.tc : Thread nD τ).loc main_arg5)
abbrev A6 : FVec Ideal S1024x1536 .f32 := m ((c.tc : Thread nD τ).loc main_arg6)

theorem v1_at (i k) : @Eq EReal (h_v1 m c (ix2 i k)) (rows (A0 m c) (A1 m c) i k) := by
  rw [s_v1, s_v0, s_cst]
  unfold h_arg0 h_arg1
  rw [V_main_arg0, V_main_arg1]
  pointwise
  rfl

theorem v3_at (i k) : @Eq EReal (h_v3 m c (ix2 i k)) (rows (A2 m c) (A3 m c) i k) := by
  rw [s_v3, s_v2, s_cst_0]
  unfold h_arg2 h_arg3
  rw [V_main_arg2, V_main_arg3]
  pointwise
  rfl

theorem idx : ∀ t : Fin cfg0.N, (cfg0.win 0).index t = ![0, t.val] ∧ (cfg0.win 1).index t = ![0, 0] ∧ (cfg0.win 2).index t = ![t.val, 0]
    ∧ (cfg0.win 3).index t = ![t.val, 0] ∧ (cfg0.win 4).index t = ![t.val, 0] := by decide +kernel

theorem idxo : ∀ t : Fin cfg0.N, (cfg0.win 5).index t = ![t.val, 0] ∧ (cfg0.win 6).index t = ![0, t.val] ∧ (cfg0.win 7).index t = ![t.val, 0]
    ∧ (cfg0.win 8).index t = ![t.val, 0] ∧ (cfg0.win 9).index t = ![t.val, 0] := by decide +kernel

theorem lt4 (t : Fin cfg0.N) : t.val < 4 := lt_of_lt_of_eq t.isLt N_0

/-- The rows of the weight a grid point takes. -/
def tk (t : Fin cfg0.N) (r : Fin 256) : Fin 1024 := ⟨t.val * 256 + r.val, by have := lt4 t; omega⟩

variable (t : Fin cfg0.N)

theorem w0 (q r) : @Eq EReal (iblk m c 0 t (ix2 q r)) (rows (A0 m c) (A1 m c) q (tk t r)) := by
  refine Eq.trans ?_ (v1_at m c q (tk t r))
  unfold h_v1 tk
  blk_ext [iblk, idx t]

theorem w1 (q j) : @Eq EReal (iblk m c 1 t (ix2 q j)) (rows (A2 m c) (A3 m c) q j) := by
  refine Eq.trans ?_ (v3_at m c q j)
  unfold h_v3
  blk_ext [iblk, idx t]

theorem w2 (r j) : @Eq EReal (iblk m c 2 t (ix2 r j)) (A4 m c (ix2 (tk t r) j)) := by
  refine Eq.trans ?_ (congrFun (V_main_arg4 m c) (ix2 (tk t r) j))
  unfold tk
  blk_ext [iblk, idx t]

theorem w3 (r j) : @Eq EReal (iblk m c 3 t (ix2 r j)) (A5 m c (ix2 (tk t r) j)) := by
  refine Eq.trans ?_ (congrFun (V_main_arg5 m c) (ix2 (tk t r) j))
  unfold tk
  blk_ext [iblk, idx t]

theorem w4 (r j) : @Eq EReal (iblk m c 4 t (ix2 r j)) (A6 m c (ix2 (tk t r) j)) := by
  refine Eq.trans ?_ (congrFun (V_main_arg6 m c) (ix2 (tk t r) j))
  unfold tk
  blk_ext [iblk, idx t]

/-- The weight's gradient, as the kernel's blocks and as its whole array. -/
def G : FVec Ideal S1024x1536 .f32 := fun i => gw (A0 m c) (A1 m c) (A2 m c) (A3 m c) (i 0) (i 1)
def g : FVec Ideal S256x1536 .f32 := fun y => gw (A0 m c) (A1 m c) (A2 m c) (A3 m c) (tk t (y 0)) (y 1)

theorem g_eq : k0_pay4 (F := Ideal) (iblk m c 0 t) (iblk m c 1 t) = g m c t := by
  funext y
  idx_vars y
  refine (pay4_at _ _ y0 y1).trans ?_
  simp only [w0, w1]
  exact gw_rows _ _ _ _ (tk t y0) y1

theorem arr_gw : (dats m 0 c).arrAt 5 cfg0.N = G m c := by
  refine (dats m 0 c).arrAt_eq_of_covers 5 _ (by decide +kernel) fun t hf y => ?_
  have := lt4 t
  blk_simp
  rw [after0_5, out5, g_eq]
  idx_vars y
  have e : ((cfg0.win 5).blk t).view.emb (ix2 y0 y1) = ix2 (tk t y0) y1 := by
    unfold tk
    blk_ext [idxo t]
  exact (congrArg (G m c) e).symm

theorem arr_ds : (dats m 0 c).arrAt 6 cfg0.N = fun i => ∑ j : Fin 1536, rows (A2 m c) (A3 m c) (i 0) j * A4 m c (ix2 (i 1) j) := by
  refine (dats m 0 c).arrAt_eq_of_covers 6 _ (by decide +kernel) fun t hf y => ?_
  have := lt4 t
  blk_simp
  rw [after0_6, out6]
  idx_vars y
  have e : ((cfg0.win 6).blk t).view.emb (ix2 y0 y1) = ix2 y0 (tk t y1) := by
    unfold tk
    blk_ext [idxo t]
  refine (pay2_at _ _ y0 y1).trans ?_
  simp only [w1, w2]
  exact (congrArg (fun i : S24x1024.Idx => ∑ j : Fin 1536, rows (A2 m c) (A3 m c) (i 0) j * A4 m c (ix2 (i 1) j)) e).symm

theorem arr_d : (dats m 0 c).arrAt 7 cfg0.N = fun i => adD (G m c i) (A5 m c i) (A6 m c i) (A4 m c i) := by
  refine (dats m 0 c).arrAt_eq_of_covers 7 _ (by decide +kernel) fun t hf y => ?_
  have := lt4 t
  blk_simp
  rw [after0_7, out7]
  idx_vars y
  have e : ((cfg0.win 7).blk t).view.emb (ix2 y0 y1) = ix2 (tk t y0) y1 := by
    unfold tk
    blk_ext [idxo t]
  refine (pay1_at _ _ _).trans ?_
  rw [pay7_at _ _ _ _ _ (g_eq m c t), w2, w3, w4]
  exact (congrArg (fun i : S1024x1536.Idx => adD (G m c i) (A5 m c i) (A6 m c i) (A4 m c i)) e).symm

theorem arr_m : (dats m 0 c).arrAt 8 cfg0.N = fun i => adM (G m c i) (A5 m c i) := by
  refine (dats m 0 c).arrAt_eq_of_covers 8 _ (by decide +kernel) fun t hf y => ?_
  have := lt4 t
  blk_simp
  rw [after0_8, out8]
  idx_vars y
  have e : ((cfg0.win 8).blk t).view.emb (ix2 y0 y1) = ix2 (tk t y0) y1 := by
    unfold tk
    blk_ext [idxo t]
  refine (pay5_at _ _ _ _ (g_eq m c t) _).trans ?_
  rw [w3]
  exact (congrArg (fun i : S1024x1536.Idx => adM (G m c i) (A5 m c i)) e).symm

theorem arr_v : (dats m 0 c).arrAt 9 cfg0.N = fun i => adV (G m c i) (A6 m c i) := by
  refine (dats m 0 c).arrAt_eq_of_covers 9 _ (by decide +kernel) fun t hf y => ?_
  have := lt4 t
  blk_simp
  rw [after0_9, out9]
  idx_vars y
  have e : ((cfg0.win 9).blk t).view.emb (ix2 y0 y1) = ix2 (tk t y0) y1 := by
    unfold tk
    blk_ext [idxo t]
  refine (pay6_at _ _ _ _ (g_eq m c t) _).trans ?_
  rw [w4]
  exact (congrArg (fun i : S1024x1536.Idx => adV (G m c i) (A6 m c i)) e).symm

end Cert.Proof.ModOut

end
-- ==== Proof.ModRun.lean ====
/- The reference's run, its five results named by the stage that computes each. -/
module

public import proofs.«01_k».proof.Proof.Gen.Reference5Ideal.Run
public import proofs.«01_k».proof.Proof.Gen.Reference5Ideal.Read

@[expose] public section

set_option maxRecDepth 16384

noncomputable section

open Idealize.ShloMosaic Idealize.ShloMosaic.TcCoe Idealize.SL.Sem

namespace Cert.Proof.ModRun

open Cert.Reference5Ideal Cert.Reference5Ideal.Read

variable (m : (ℓ : Loc nD τ sig) → Buf (Elt Ideal) ℓ) (ρ : Dev nD → PrngReg)

theorem run : θ_run defs (onTc (τ := τ) (main (F := Ideal))) ⟨m, fun _ => 0, ρ⟩ fun r => ∀ c : Dev nD,
      r.2.mem ((c.tc : Thread nD τ).loc main_v9) = val_main_v9 (F := Ideal) (m ((c.tc : Thread nD τ).loc main_arg0)) (m ((c.tc : Thread nD τ).loc main_arg1)) (m ((c.tc : Thread nD τ).loc main_arg2)) (m ((c.tc : Thread nD τ).loc main_arg3)) ∧
      r.2.mem ((c.tc : Thread nD τ).loc main_v36) = val_main_v36 (F := Ideal) (m ((c.tc : Thread nD τ).loc main_arg2)) (m ((c.tc : Thread nD τ).loc main_arg3)) (m ((c.tc : Thread nD τ).loc main_arg4)) ∧
      r.2.mem ((c.tc : Thread nD τ).loc main_v34) = val_main_v34 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) ∧
      r.2.mem ((c.tc : Thread nD τ).loc main_v15) = val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) ∧
      r.2.mem ((c.tc : Thread nD τ).loc main_v21) = val_main_v21 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) ∧
      r.2.mem ((c.tc : Thread nD τ).loc main_arg4) = m ((c.tc : Thread nD τ).loc main_arg4) ∧
      r.2.mem ((c.tc : Thread nD τ).loc main_arg5) = m ((c.tc : Thread nD τ).loc main_arg5) ∧
      r.2.mem ((c.tc : Thread nD τ).loc main_arg6) = m ((c.tc : Thread nD τ).loc main_arg6) :=
  (θ_run _ _ _).mono (fun r h c => by
    obtain ⟨h0, h1, h2, h3, h4, hargs⟩ := h c
    exact ⟨h0.trans (val_main_v9_eq _ _ _ _), h1.trans (val_main_v36_eq _ _ _), h2.trans (val_main_v34_eq _ _ _ _ _ _ _), h3.trans (val_main_v15_eq _ _ _ _ _), h4.trans (val_main_v21_eq _ _ _ _ _), hargs⟩) (Cert.Reference5Ideal.Value.run (F := Ideal) m ρ)

end Cert.Proof.ModRun

end
-- ==== Proof.ModClaim.lean ====
/- The claims about the modulation's gradients: the reference's frame, and the equality over the ideal numbers. -/
module

public import Idealize.ShloMosaic.Adequacy
public import Idealize.ShloMosaic.Init
public import proofs.«01_k».proof.Defs
public import proofs.«01_k».proof.Proof.ModOut
public import proofs.«01_k».proof.Proof.ModRun

@[expose] public section

set_option maxRecDepth 16384

noncomputable section

open Idealize.ShloMosaic Idealize.ShloMosaic.TcCoe Idealize.SL.Sem

namespace Cert.Proof.ModClaim

open ModBlk ModRef ModOut

/-- The reference's frame: a program of host operations declares no semaphore. -/
theorem ref_frame : Cert.quiescent_Reference5Ideal (hReference5Ideal := Cert.Reference5Ideal.Gen.facts) := fun m g _ =>
  (θ_run _ _ _).mono (fun r h => ⟨fun c => (h c).2.2.2.2.2, sem_eq_zero_of_no_sems rfl r.2⟩) (ModRun.run m g)

section

open Cert.Reference5Ideal Cert.Reference5Ideal.Read

variable (x0 : FVec Ideal S16x1024 .f32) (x1 : FVec Ideal S1x1024 .f32) (x2 : FVec Ideal S16x1536 .f32) (x3 : FVec Ideal S1x1536 .f32)
  (x4 x5 x6 : FVec Ideal S1024x1536 .f32)

theorem all_gw : val_main_v9 (F := Ideal) x0 x1 x2 x3 = fun i => gw x0 x1 x2 x3 (i 0) (i 1) := by
  funext y
  idx_vars y
  exact ref_gw x0 x1 x2 x3 y0 y1

theorem all_ds : val_main_v36 (F := Ideal) x2 x3 x4 = fun i => ∑ j : Fin 1536, rows x2 x3 (i 0) j * x4 (ix2 (i 1) j) := by
  funext y
  idx_vars y
  exact ref_ds x2 x3 x4 y0 y1

theorem all_d : val_main_v34 (F := Ideal) x0 x1 x2 x3 x4 x5 x6 = fun i => adD (gw x0 x1 x2 x3 (i 0) (i 1)) (x5 i) (x6 i) (x4 i) := by
  funext y
  refine (ref_d x0 x1 x2 x3 x4 x5 x6 y).trans ?_
  rw [all_gw]

theorem all_m : val_main_v15 (F := Ideal) x0 x1 x2 x3 x5 = fun i => adM (gw x0 x1 x2 x3 (i 0) (i 1)) (x5 i) := by
  funext y
  refine (ref_m x0 x1 x2 x3 x5 y).trans ?_
  rw [all_gw]

theorem all_v : val_main_v21 (F := Ideal) x0 x1 x2 x3 x6 = fun i => adV (gw x0 x1 x2 x3 (i 0) (i 1)) (x6 i) := by
  funext y
  refine (ref_v x0 x1 x2 x3 x6 y).trans ?_
  rw [all_gw]

end

set_option maxHeartbeats 4000000 in
/-- The claim about the modulation's gradients and its optimiser step: no precondition. -/
theorem algebraic : Cert.algebraic_Kernel5Ideal_Reference5Ideal (hKernel5Ideal := Cert.Kernel5Ideal.Gen.facts)
    (hReference5Ideal := Cert.Reference5Ideal.Gen.facts) := by
  intro m g m' g' hpre hagree
  refine ⟨_, _, _, _, _, (θ_run _ _ _).mono (fun r h c => h c) (Cert.Kernel5Ideal.Value.run_blocks (F := Ideal) m g), ?_⟩
  refine (θ_run _ _ _).mono (fun r h c => ?_) (ModRun.run m' g')
  obtain ⟨h0, h1, h2, h3, h4, hargs⟩ := h c
  obtain ⟨a0, a1, a2, a3, a4, a5, a6⟩ := hagree c
  rw [a0, a1, a2, a3] at h0
  rw [a2, a3, a4] at h1
  rw [a0, a1, a2, a3, a4, a5, a6] at h2
  rw [a0, a1, a2, a3, a5] at h3
  rw [a0, a1, a2, a3, a6] at h4
  refine ⟨h0.trans ?_, h1.trans ?_, h2.trans ?_, h3.trans ?_, h4.trans ?_, hargs⟩
  · exact (all_gw _ _ _ _).trans (arr_gw m c).symm
  · exact (all_ds _ _ _).trans (arr_ds m c).symm
  · exact (all_d _ _ _ _ _ _ _).trans (arr_d m c).symm
  · exact (all_m _ _ _ _ _).trans (arr_m m c).symm
  · exact (all_v _ _ _ _ _).trans (arr_v m c).symm

end Cert.Proof.ModClaim

end
-- ==== Proof.CondStage.lean ====
/- The host lines before the modulation's kernel, one equation for each operation. -/
module

public import proofs.«01_k».proof.Proof.HostStage
public import proofs.«01_k».proof.Proof.Gen.Kernel8Ideal.Value

@[expose] public section

set_option maxRecDepth 16384

noncomputable section

open Idealize.ShloMosaic Idealize.ShloMosaic.TcCoe Idealize.SL.Sem

namespace Cert.Proof.CondStage

open Cert.Kernel8Ideal Cert.Kernel8Ideal.Gen

variable {F : FTy → Type} [FloatOps F]

abbrev hostLine : List (HloOp τ sig (Elt F)) := List.flatten [hostOps0]

/-- The buffers the line writes, in order. -/
abbrev written : List (Ref sig .tc) :=
  [main_cst, main_v0, main_v1]

theorem writes : HostStage.Writes (τ := τ) (hostLine (F := F)) written := rfl

/-- An operation of three operands. -/
theorem ternary {ops : List (HloOp τ sig (Elt F))} {W : List (Ref sig .tc)} (hW : HostStage.Writes ops W) (V) (i : ℕ) {y : Ref sig .tc}
    {xs : Fin 3 → Ref sig .tc} {f : ((k : Fin 3) → (xs k).ty.Contents (Elt F)) → y.ty.Contents (Elt F)} {hx hy}
    (h : ops[i]? = some (StableHlo.nary xs y f hx hy)) (hr : y ∉ W.drop (i + 1)) (h1 : ∀ k, xs k ∉ W.drop i) :
    StableHlo.after ops V (Proc.devRef .tc y) = f fun k => StableHlo.after ops V (Proc.devRef .tc (xs k)) := by
  rw [HostStage.at_op hW V i h hr, StableHlo.nary_result]
  exact congrArg f (funext fun k => HostStage.before hW V i (h1 k))

variable (m : (ℓ : Loc nD τ sig) → Buf (Elt F) ℓ) (c : Dev nD)

/-! What each buffer holds at the end of the line. -/

def h_arg0 : (⟨S16x1024, .f32⟩ : BufTy).Contents (Elt F) := V m c main_arg0
def h_arg1 : (⟨S1x1024, .f32⟩ : BufTy).Contents (Elt F) := V m c main_arg1
def h_cst : (⟨S_, .f32⟩ : BufTy).Contents (Elt F) := V m c main_cst
def h_v0 : (⟨S7x1024, .f32⟩ : BufTy).Contents (Elt F) := V m c main_v0
def h_v1 : (⟨S24x1024, .f32⟩ : BufTy).Contents (Elt F) := V m c main_v1

theorem s_cst : h_cst m c = (constant S_ .f32 0x00000000#32) := by
  have h := HostStage.nullary (y := main_cst) (writes (F := F)) (fun r => m (c, r)) 0 rfl (by decide +kernel)
  exact h
theorem s_v0 : h_v0 m c = ((broadcastInDim S7x1024 ![] bcast_S_S7x1024 : (⟨S_, .f32⟩ : BufTy).Contents (Elt F) → (⟨S7x1024, .f32⟩ : BufTy).Contents (Elt F))) (h_cst m c) := by
  have h := HostStage.unary (x := main_cst) (y := main_v0) (writes (F := F)) (fun r => m (c, r)) 1 rfl (by decide +kernel) (by decide +kernel)
  exact h
theorem s_v1 : h_v1 m c = (concatenate S24x1024 0 [⟨S16x1024, (h_arg0 m c : (⟨S16x1024, .f32⟩ : BufTy).Contents (Elt F))⟩, ⟨S1x1024, (h_arg1 m c : (⟨S1x1024, .f32⟩ : BufTy).Contents (Elt F))⟩, ⟨S7x1024, (h_v0 m c : (⟨S7x1024, .f32⟩ : BufTy).Contents (Elt F))⟩] concatenates_S16x1024_S1x1024_S7x1024_S24x1024_d0 : (⟨S24x1024, .f32⟩ : BufTy).Contents (Elt F)) := by
  have h := ternary (xs := ![main_arg0, main_arg1, main_v0]) (y := main_v1) (writes (F := F)) (fun r => m (c, r)) 2 rfl (by decide +kernel) (by decide +kernel)
  exact h

end Cert.Proof.CondStage
-- ==== Proof.CondBlk.lean ====
/- What the modulation's forward kernel computes from one block, entry by entry. -/
module

public import proofs.«01_k».proof.Proof.Scal
public import proofs.«01_k».proof.Proof.Gen.Kernel8Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.CondBlk

open Cert.Kernel8Ideal Cert.Kernel8Ideal.Gen

/-- The activation of the conditioning. -/
def sil (x : EReal) : EReal := Ideal.div x (1 + Ideal.exp (0 - x))

theorem one_add_exp_ne (x : EReal) : 1 + Ideal.exp x ≠ 0 := by
  induction x with
  | bot => show (1 : EReal) + 0 ≠ 0; simp
  | top => show (1 : EReal) + ⊤ ≠ 0; simp [Scal.one_add_top]
  | coe r =>
    show (1 : EReal) + ((Real.exp r : ℝ) : EReal) ≠ 0
    rw [← EReal.coe_one, ← EReal.coe_add]
    exact_mod_cast (by positivity : (1 + Real.exp r) ≠ 0)

/-- The activation as a product with the logistic function. -/
theorem sil_eq (x : EReal) : x * Ideal.div 1 (1 + Ideal.exp (-x)) = sil x := by
  have h := one_add_exp_ne (-x)
  unfold sil Ideal.div
  rw [zero_sub, if_neg h, if_neg h, one_mul]

theorem sil_zero : sil 0 = 0 := by
  have h := one_add_exp_ne (0 - 0)
  unfold sil Ideal.div
  rw [if_neg h, zero_mul]

/-- Sixteen rows, one more, and seven rows of zeros. -/
def rows {w : ℕ} (a : (⟨2, ![16, w]⟩ : Shape).Idx → EReal) (b : (⟨2, ![1, w]⟩ : Shape).Idx → EReal) (i : Fin 24) (k : Fin w) : EReal :=
  if h : i.val < 16 then a (ix2 ⟨i.val, h⟩ k) else if h : i.val - 16 < 1 then b (ix2 ⟨i.val - 16, h⟩ k) else 0

variable (x0 : FVec Ideal S24x1024 .f32) (x1 : FVec Ideal S1024x512 .f32) (x2 : FVec Ideal S1x512 .f32)

theorem pay1_at (i : Fin 24) (j : Fin 512) : @Eq EReal (k0_pay1 (F := Ideal) x0 x1 x2 (ix3 0 i j)) ((∑ k : Fin 1024, sil (x0 (ix2 i k)) * x1 (ix2 k j)) + x2 (ix2 0 j)) := by
  unfold k0_pay1
  pointwise
  unfold sil
  rfl

theorem out3 : out0_3 (F := Ideal) x0 x1 x2 = k0_pay1 (F := Ideal) x0 x1 x2 := by
  unfold out0_3
  rw [View.canon_cons_unit_lit _ _ _ (by decide), View.ld_unit_lit _ _ (by decide), View.ld_unit_lit _ _ (by decide), View.ld_unit_lit _ _ (by decide)]

end Cert.Proof.CondBlk

end
-- ==== Proof.CondRef.lean ====
/- The reference's modulation, entry by entry. -/
module

public import proofs.«01_k».proof.Proof.CondBlk
public import proofs.«01_k».proof.Proof.Gen.Reference8Ideal.Read

@[expose] public section

set_option maxRecDepth 16384

noncomputable section

open Idealize.ShloMosaic Idealize.ShloMosaic.TcCoe Idealize.SL.Sem

namespace Cert.Proof.CondRef

open Cert.Reference8Ideal Cert.Reference8Ideal.Read CondBlk

variable (x0 : FVec Ideal S16x1024 .f32) (x1 : FVec Ideal S1x1024 .f32) (x2 : FVec Ideal S1024x1536 .f32) (x3 : FVec Ideal S1x1536 .f32)

theorem s_at (q k) : @Eq EReal (val_main_v0 (F := Ideal) x0 (ix2 q k)) (sil (x0 (ix2 q k))) := by
  rw [← sil_eq]
  pointwise [val_main_v0, val_main_call0_v5, val_main_call0_v4, val_main_call0_cst_0, val_main_call0_v3, val_main_call0_v2, val_main_call0_cst, val_main_call0_v1, val_main_call0_v0]

theorem sc_at (k) : @Eq EReal (val_main_v4 (F := Ideal) x1 (ix2 0 k)) (sil (x1 (ix2 0 k))) := by
  rw [← sil_eq]
  pointwise [val_main_v4, val_main_call1_v5, val_main_call1_v4, val_main_call1_cst_0, val_main_call1_v3, val_main_call1_v2, val_main_call1_cst, val_main_call1_v1, val_main_call1_v0]

theorem v3_at (q j) : @Eq EReal (val_main_v3 (F := Ideal) x0 x2 x3 (ix2 q j)) ((∑ k : Fin 1024, sil (x0 (ix2 q k)) * x2 (ix2 k j)) + x3 (ix2 0 j)) := by
  simp only [← s_at]
  unfold val_main_v3 val_main_v1 val_main_v2
  generalize val_main_v0 (F := Ideal) x0 = s
  pointwise

theorem v6_at (j) : @Eq EReal (val_main_v6 (F := Ideal) x1 x2 x3 (ix2 0 j)) ((∑ k : Fin 1024, sil (x1 (ix2 0 k)) * x2 (ix2 k j)) + x3 (ix2 0 j)) := by
  simp only [← sc_at]
  unfold val_main_v6 val_main_v5
  generalize val_main_v4 (F := Ideal) x1 = s
  pointwise

theorem v7_at (q j) : @Eq EReal (val_main_v7 (F := Ideal) x3 (ix2 q j)) (x3 (ix2 0 j)) := by
  unfold val_main_v7
  pointwise

/-- The reference's result: a row of zeros gives the bias alone. -/
theorem ref_at (i : Fin 24) (j : Fin 1536) : @Eq EReal (val_main_v9 (F := Ideal) x0 x1 x2 x3 (ix3 0 i j))
    ((∑ k : Fin 1024, sil (rows x0 x1 i k) * x2 (ix2 k j)) + x3 (ix2 0 j)) := by
  have e : @Eq EReal (val_main_v9 (F := Ideal) x0 x1 x2 x3 (ix3 0 i j))
      (if h : i.val < 16 then val_main_v3 (F := Ideal) x0 x2 x3 (ix2 ⟨i.val, h⟩ j)
        else if h : i.val - 16 < 1 then val_main_v6 (F := Ideal) x1 x2 x3 (ix2 ⟨i.val - 16, h⟩ j)
        else val_main_v7 (F := Ideal) x3 (ix2 ⟨i.val - 16 - 1, by have := i.isLt; omega⟩ j)) := by
    unfold val_main_v9 val_main_v8
    generalize val_main_v3 (F := Ideal) x0 x2 x3 = a
    generalize val_main_v6 (F := Ideal) x1 x2 x3 = b
    generalize val_main_v7 (F := Ideal) x3 = d
    pointwise
  rw [e]
  unfold rows
  split_ifs with h h'
  · exact v3_at x0 x2 x3 _ j
  · have h0 : (⟨i.val - 16, h'⟩ : Fin 1) = 0 := Subsingleton.elim _ _
    rw [h0]
    exact v6_at x1 x2 x3 j
  · rw [v7_at]
    simp [sil_zero]

end Cert.Proof.CondRef

end
-- ==== Proof.CondOut.lean ====
/- The modulation's forward kernel: its blocks, and its result array. -/
module

public import proofs.«01_k».proof.Proof.CondStage
public import proofs.«01_k».proof.Proof.CondRef

@[expose] public section

set_option maxRecDepth 16384

noncomputable section

open Idealize.ShloMosaic Idealize.ShloMosaic.TcCoe Idealize.SL.Sem

namespace Cert.Proof.CondOut

open Cert.Kernel8Ideal Cert.Kernel8Ideal.Gen CondStage CondBlk

variable (m : (ℓ : Loc nD τ sig) → Buf (Elt Ideal) ℓ) (c : Dev nD)

/-! The four arguments. -/

abbrev A0 : FVec Ideal S16x1024 .f32 := m ((c.tc : Thread nD τ).loc main_arg0)
abbrev A1 : FVec Ideal S1x1024 .f32 := m ((c.tc : Thread nD τ).loc main_arg1)
abbrev A2 : FVec Ideal S1024x1536 .f32 := m ((c.tc : Thread nD τ).loc main_arg2)
abbrev A3 : FVec Ideal S1x1536 .f32 := m ((c.tc : Thread nD τ).loc main_arg3)

theorem v1_at (i k) : @Eq EReal (h_v1 m c (ix2 i k)) (rows (A0 m c) (A1 m c) i k) := by
  rw [s_v1, s_v0, s_cst]
  unfold h_arg0 h_arg1
  rw [V_main_arg0, V_main_arg1]
  pointwise
  rfl

theorem idx : ∀ t : Fin cfg0.N, (cfg0.win 0).index t = ![0, 0] ∧ (cfg0.win 1).index t = ![0, t.val] ∧ (cfg0.win 2).index t = ![0, t.val] := by decide +kernel

theorem idxo : ∀ t : Fin cfg0.N, (cfg0.win 3).index t = ![0, 0, t.val] := by decide +kernel

theorem lt3 (t : Fin cfg0.N) : t.val < 3 := lt_of_lt_of_eq t.isLt N_0

/-- The columns of the weight a grid point takes. -/
def tj (t : Fin cfg0.N) (j : Fin 512) : Fin 1536 := ⟨t.val * 512 + j.val, by have := lt3 t; omega⟩

variable (t : Fin cfg0.N)

theorem w0 (i k) : @Eq EReal (iblk m c 0 t (ix2 i k)) (rows (A0 m c) (A1 m c) i k) := by
  refine Eq.trans ?_ (v1_at m c i k)
  unfold h_v1
  blk_ext [iblk, idx t]

theorem w1 (k j) : @Eq EReal (iblk m c 1 t (ix2 k j)) (A2 m c (ix2 k (tj t j))) := by
  refine Eq.trans ?_ (congrFun (V_main_arg2 m c) (ix2 k (tj t j)))
  unfold tj
  blk_ext [iblk, idx t]

theorem w2 (j) : @Eq EReal (iblk m c 2 t (ix2 0 j)) (A3 m c (ix2 0 (tj t j))) := by
  refine Eq.trans ?_ (congrFun (V_main_arg3 m c) (ix2 0 (tj t j)))
  unfold tj
  blk_ext [iblk, idx t]

/-- The modulation as its whole array. -/
def M : FVec Ideal S1x24x1536 .f32 := fun i => (∑ k : Fin 1024, sil (rows (A0 m c) (A1 m c) (i 1) k) * A2 m c (ix2 k (i 2))) + A3 m c (ix2 0 (i 2))

theorem arr_mod : (dats m 0 c).arrAt 3 cfg0.N = M m c := by
  refine (dats m 0 c).arrAt_eq_of_covers 3 _ (by decide +kernel) fun t hf y => ?_
  have := lt3 t
  blk_simp
  rw [after0_3, out3]
  idx_vars y
  have h0 : y0 = 0 := Subsingleton.elim _ _
  subst h0
  have e : ((cfg0.win 3).blk t).view.emb (ix3 0 y1 y2) = ix3 0 y1 (tj t y2) := by
    unfold tj
    blk_ext [idxo t]
  refine (pay1_at _ _ _ y1 y2).trans ?_
  simp only [w0, w1, w2]
  exact (congrArg (M m c) e).symm

end Cert.Proof.CondOut

end
-- ==== Proof.CondClaim.lean ====
/- The claims about the modulation: the reference's frame, and the equality over the ideal numbers. -/
module

public import Idealize.ShloMosaic.Adequacy
public import Idealize.ShloMosaic.Init
public import proofs.«01_k».proof.Defs
public import proofs.«01_k».proof.Proof.CondOut
public import proofs.«01_k».proof.Proof.Gen.Reference8Ideal.Run

@[expose] public section

set_option maxRecDepth 16384

noncomputable section

open Idealize.ShloMosaic Idealize.ShloMosaic.TcCoe Idealize.SL.Sem

namespace Cert.Proof.CondClaim

open CondBlk CondRef CondOut

/-- The reference's frame: a program of host operations declares no semaphore. -/
theorem ref_frame : Cert.quiescent_Reference8Ideal (hReference8Ideal := Cert.Reference8Ideal.Gen.facts) := fun m g _ =>
  (θ_run _ _ _).mono (fun r h => ⟨fun c => (h c).2, sem_eq_zero_of_no_sems rfl r.2⟩) (Cert.Reference8Ideal.Value.run (F := Ideal) m g)

section

open Cert.Reference8Ideal Cert.Reference8Ideal.Read

variable (x0 : FVec Ideal S16x1024 .f32) (x1 : FVec Ideal S1x1024 .f32) (x2 : FVec Ideal S1024x1536 .f32) (x3 : FVec Ideal S1x1536 .f32)

theorem all_mod : val_main_v9 (F := Ideal) x0 x1 x2 x3 = fun i => (∑ k : Fin 1024, sil (rows x0 x1 (i 1) k) * x2 (ix2 k (i 2))) + x3 (ix2 0 (i 2)) := by
  funext y
  idx_vars y
  have h0 : y0 = 0 := Subsingleton.elim _ _
  subst h0
  exact ref_at x0 x1 x2 x3 y1 y2

end

set_option maxHeartbeats 4000000 in
/-- The claim about the modulation: no precondition. -/
theorem algebraic : Cert.algebraic_Kernel8Ideal_Reference8Ideal (hKernel8Ideal := Cert.Kernel8Ideal.Gen.facts)
    (hReference8Ideal := Cert.Reference8Ideal.Gen.facts) := by
  intro m g m' g' hpre hagree
  refine ⟨_, (θ_run _ _ _).mono (fun r h c => h c) (Cert.Kernel8Ideal.Value.run_blocks (F := Ideal) m g), ?_⟩
  refine (θ_run _ _ _).mono (fun r h c => ?_) (Cert.Reference8Ideal.Value.run (F := Ideal) m' g')
  obtain ⟨h0, hargs⟩ := h c
  obtain ⟨a0, a1, a2, a3⟩ := hagree c
  have h1 := h0.trans (Cert.Reference8Ideal.Read.val_main_v9_eq _ _ _ _)
  rw [a0, a1, a2, a3] at h1
  refine ⟨h1.trans ?_, hargs⟩
  exact (all_mod _ _ _ _).trans (arr_mod m c).symm

end Cert.Proof.CondClaim

end
-- ==== Proof.PreStage.lean ====
/- The host lines before the kernel of the norms and projections, one equation for each operation. -/
module

public import proofs.«01_k».proof.Proof.HostStage
public import proofs.«01_k».proof.Proof.Gen.Kernel9Ideal.Value

@[expose] public section

set_option maxRecDepth 16384

noncomputable section

open Idealize.ShloMosaic Idealize.ShloMosaic.TcCoe Idealize.SL.Sem

namespace Cert.Proof.PreStage

open Cert.Kernel9Ideal Cert.Kernel9Ideal.Gen

variable {F : FTy → Type} [FloatOps F]

abbrev hostLine : List (HloOp τ sig (Elt F)) := List.flatten [hostOps0, hostOps0_1, hostOps0_2, hostOps0_3, hostOps0_4, hostOps0_5, hostOps0_6]

/-- The buffers the line writes, in order. -/
abbrev written : List (Ref sig .tc) :=
  [main_v0, main_v1, main_c, main_call0_v0, main_v2, main_v3, main_c_0, main_call1_v0, main_v4, main_v5, main_v6, main_v7, main_c_1, main_call2_v0, main_v8, main_v9, main_v10, main_v11, main_v12, main_v13, main_v14, main_v15, main_cst, main_v16, main_v17, main_v18, main_v19, main_v20, main_v21, main_v22, main_cst_2, main_v23, main_v24, main_v25, main_v26]

theorem writes : HostStage.Writes (τ := τ) (hostLine (F := F)) written := rfl

variable (m : (ℓ : Loc nD τ sig) → Buf (Elt F) ℓ) (c : Dev nD)

/-! What each buffer holds at the end of the line. -/

def h_arg2 : (⟨S2x6144, .f32⟩ : BufTy).Contents (Elt F) := V m c main_arg2
def h_arg3 : (⟨S1x6144, .f32⟩ : BufTy).Contents (Elt F) := V m c main_arg3
def h_v0 : (⟨S3x6144, .f32⟩ : BufTy).Contents (Elt F) := V m c main_v0
def h_v1 : (⟨S3x6x1024, .f32⟩ : BufTy).Contents (Elt F) := V m c main_v1
def h_c : (⟨S_, .i32⟩ : BufTy).Contents (Elt F) := V m c main_c
def h_call0_v0 : (⟨S_, .f32⟩ : BufTy).Contents (Elt F) := V m c main_call0_v0
def h_v2 : (⟨S3x8x1024, .f32⟩ : BufTy).Contents (Elt F) := V m c main_v2
def h_arg5 : (⟨S1024x2240, .f32⟩ : BufTy).Contents (Elt F) := V m c main_arg5
def h_v3 : (⟨S2240x1024, .f32⟩ : BufTy).Contents (Elt F) := V m c main_v3
def h_c_0 : (⟨S_, .i32⟩ : BufTy).Contents (Elt F) := V m c main_c_0
def h_call1_v0 : (⟨S_, .f32⟩ : BufTy).Contents (Elt F) := V m c main_call1_v0
def h_v4 : (⟨S2304x1024, .f32⟩ : BufTy).Contents (Elt F) := V m c main_v4
def h_v5 : (⟨S2304x1024, .bf16⟩ : BufTy).Contents (Elt F) := V m c main_v5
def h_arg7 : (⟨S384x768, .f32⟩ : BufTy).Contents (Elt F) := V m c main_arg7
def h_v6 : (⟨S384x4x192, .f32⟩ : BufTy).Contents (Elt F) := V m c main_v6
def h_v7 : (⟨S4x192x384, .f32⟩ : BufTy).Contents (Elt F) := V m c main_v7
def h_c_1 : (⟨S_, .i32⟩ : BufTy).Contents (Elt F) := V m c main_c_1
def h_call2_v0 : (⟨S_, .f32⟩ : BufTy).Contents (Elt F) := V m c main_call2_v0
def h_v8 : (⟨S4x256x384, .f32⟩ : BufTy).Contents (Elt F) := V m c main_v8
def h_v9 : (⟨S4x256x384, .bf16⟩ : BufTy).Contents (Elt F) := V m c main_v9
def h_arg9 : (⟨S256x1024, .f32⟩ : BufTy).Contents (Elt F) := V m c main_arg9
def h_v10 : (⟨S256x4x256, .f32⟩ : BufTy).Contents (Elt F) := V m c main_v10
def h_v11 : (⟨S4x256x256, .f32⟩ : BufTy).Contents (Elt F) := V m c main_v11
def h_v12 : (⟨S4x256x256, .bf16⟩ : BufTy).Contents (Elt F) := V m c main_v12
def h_arg10 : (⟨S2048x32, .f32⟩ : BufTy).Contents (Elt F) := V m c main_arg10
def h_v13 : (⟨S1x2048x1x32, .f32⟩ : BufTy).Contents (Elt F) := V m c main_v13
def h_v14 : (⟨S1x2048x8x32, .f32⟩ : BufTy).Contents (Elt F) := V m c main_v14
def h_v15 : (⟨S2048x256, .f32⟩ : BufTy).Contents (Elt F) := V m c main_v15
def h_cst : (⟨S_, .f32⟩ : BufTy).Contents (Elt F) := V m c main_cst
def h_v16 : (⟨S512x256, .f32⟩ : BufTy).Contents (Elt F) := V m c main_v16
def h_v17 : (⟨S2560x256, .f32⟩ : BufTy).Contents (Elt F) := V m c main_v17
def h_arg11 : (⟨S2048x32, .f32⟩ : BufTy).Contents (Elt F) := V m c main_arg11
def h_v18 : (⟨S2048x32, .f32⟩ : BufTy).Contents (Elt F) := V m c main_v18
def h_v19 : (⟨S2048x64, .f32⟩ : BufTy).Contents (Elt F) := V m c main_v19
def h_v20 : (⟨S1x2048x1x64, .f32⟩ : BufTy).Contents (Elt F) := V m c main_v20
def h_v21 : (⟨S1x2048x4x64, .f32⟩ : BufTy).Contents (Elt F) := V m c main_v21
def h_v22 : (⟨S2048x256, .f32⟩ : BufTy).Contents (Elt F) := V m c main_v22
def h_cst_2 : (⟨S_, .f32⟩ : BufTy).Contents (Elt F) := V m c main_cst_2
def h_v23 : (⟨S512x256, .f32⟩ : BufTy).Contents (Elt F) := V m c main_v23
def h_v24 : (⟨S2560x256, .f32⟩ : BufTy).Contents (Elt F) := V m c main_v24
def h_arg0 : (⟨S2x2048x1024, .f32⟩ : BufTy).Contents (Elt F) := V m c main_arg0
def h_v25 : (⟨S4096x1024, .f32⟩ : BufTy).Contents (Elt F) := V m c main_v25
def h_arg1 : (⟨S2x256x1024, .f32⟩ : BufTy).Contents (Elt F) := V m c main_arg1
def h_v26 : (⟨S512x1024, .f32⟩ : BufTy).Contents (Elt F) := V m c main_v26

theorem s_v0 : h_v0 m c = (((fun a b => concatenate S3x6144 0 [⟨S2x6144, a⟩, ⟨S1x6144, b⟩] concatenates_S2x6144_S1x6144_S3x6144_d0) : (⟨S2x6144, .f32⟩ : BufTy).Contents (Elt F) → (⟨S1x6144, .f32⟩ : BufTy).Contents (Elt F) → (⟨S3x6144, .f32⟩ : BufTy).Contents (Elt F))) (h_arg2 m c) (h_arg3 m c) := by
  have h := HostStage.binary (a := main_arg2) (b := main_arg3) (y := main_v0) (writes (F := F)) (fun r => m (c, r)) 0 rfl (by decide +kernel) (by decide +kernel) (by decide +kernel)
  exact h
theorem s_v1 : h_v1 m c = shapeCast _ (h_v0 m c) shapeCasts_S3x6144_S3x6x1024 := by
  have h := HostStage.reshape (x := main_v0) (y := main_v1) (writes (F := F)) (fun r => m (c, r)) 1 rfl (by decide +kernel) (by decide +kernel)
  exact h
theorem s_c : h_c m c = (constantI S_ 32 0#32) := by
  have h := HostStage.nullary (y := main_c) (writes (F := F)) (fun r => m (c, r)) 2 rfl (by decide +kernel)
  exact h
theorem s_call0_v0 : h_call0_v0 m c = ((sitofp .f32)) (h_c m c) := by
  have h := HostStage.unary (x := main_c) (y := main_call0_v0) (writes (F := F)) (fun r => m (c, r)) 3 rfl (by decide +kernel) (by decide +kernel)
  exact h
theorem s_v2 : h_v2 m c = ((fun x v => pad S3x8x1024 ![0, 0, 0] ![0, 2, 0] ![0, 0, 0] x v pads_S3x6x1024_S3x8x1024_000_020_000 h_S_)) (h_v1 m c) (h_call0_v0 m c) := by
  have h := HostStage.binary (a := main_v1) (b := main_call0_v0) (y := main_v2) (writes (F := F)) (fun r => m (c, r)) 4 rfl (by decide +kernel) (by decide +kernel) (by decide +kernel)
  exact h
theorem s_v3 : h_v3 m c = (((transpose S2240x1024 [1, 0] · transposes_S1024x2240_S2240x1024_1_0) : (⟨S1024x2240, .f32⟩ : BufTy).Contents (Elt F) → (⟨S2240x1024, .f32⟩ : BufTy).Contents (Elt F))) (h_arg5 m c) := by
  have h := HostStage.unary (x := main_arg5) (y := main_v3) (writes (F := F)) (fun r => m (c, r)) 5 rfl (by decide +kernel) (by decide +kernel)
  exact h
theorem s_c_0 : h_c_0 m c = (constantI S_ 32 0#32) := by
  have h := HostStage.nullary (y := main_c_0) (writes (F := F)) (fun r => m (c, r)) 6 rfl (by decide +kernel)
  exact h
theorem s_call1_v0 : h_call1_v0 m c = ((sitofp .f32)) (h_c_0 m c) := by
  have h := HostStage.unary (x := main_c_0) (y := main_call1_v0) (writes (F := F)) (fun r => m (c, r)) 7 rfl (by decide +kernel) (by decide +kernel)
  exact h
theorem s_v4 : h_v4 m c = ((fun x v => pad S2304x1024 ![0, 0] ![64, 0] ![0, 0] x v pads_S2240x1024_S2304x1024_0640_000 h_S_)) (h_v3 m c) (h_call1_v0 m c) := by
  have h := HostStage.binary (a := main_v3) (b := main_call1_v0) (y := main_v4) (writes (F := F)) (fun r => m (c, r)) 8 rfl (by decide +kernel) (by decide +kernel) (by decide +kernel)
  exact h
theorem s_v5 : h_v5 m c = (((truncf .bf16 · bitsLt_bf16_f32) : (⟨S2304x1024, .f32⟩ : BufTy).Contents (Elt F) → (⟨S2304x1024, .bf16⟩ : BufTy).Contents (Elt F))) (h_v4 m c) := by
  have h := HostStage.unary (x := main_v4) (y := main_v5) (writes (F := F)) (fun r => m (c, r)) 9 rfl (by decide +kernel) (by decide +kernel)
  exact h
theorem s_v6 : h_v6 m c = shapeCast _ (h_arg7 m c) shapeCasts_S384x768_S384x4x192 := by
  have h := HostStage.reshape (x := main_arg7) (y := main_v6) (writes (F := F)) (fun r => m (c, r)) 10 rfl (by decide +kernel) (by decide +kernel)
  exact h
theorem s_v7 : h_v7 m c = (((transpose S4x192x384 [1, 2, 0] · transposes_S384x4x192_S4x192x384_1_2_0) : (⟨S384x4x192, .f32⟩ : BufTy).Contents (Elt F) → (⟨S4x192x384, .f32⟩ : BufTy).Contents (Elt F))) (h_v6 m c) := by
  have h := HostStage.unary (x := main_v6) (y := main_v7) (writes (F := F)) (fun r => m (c, r)) 11 rfl (by decide +kernel) (by decide +kernel)
  exact h
theorem s_c_1 : h_c_1 m c = (constantI S_ 32 0#32) := by
  have h := HostStage.nullary (y := main_c_1) (writes (F := F)) (fun r => m (c, r)) 12 rfl (by decide +kernel)
  exact h
theorem s_call2_v0 : h_call2_v0 m c = ((sitofp .f32)) (h_c_1 m c) := by
  have h := HostStage.unary (x := main_c_1) (y := main_call2_v0) (writes (F := F)) (fun r => m (c, r)) 13 rfl (by decide +kernel) (by decide +kernel)
  exact h
theorem s_v8 : h_v8 m c = ((fun x v => pad S4x256x384 ![0, 0, 0] ![0, 64, 0] ![0, 0, 0] x v pads_S4x192x384_S4x256x384_000_0640_000 h_S_)) (h_v7 m c) (h_call2_v0 m c) := by
  have h := HostStage.binary (a := main_v7) (b := main_call2_v0) (y := main_v8) (writes (F := F)) (fun r => m (c, r)) 14 rfl (by decide +kernel) (by decide +kernel) (by decide +kernel)
  exact h
theorem s_v9 : h_v9 m c = (((truncf .bf16 · bitsLt_bf16_f32) : (⟨S4x256x384, .f32⟩ : BufTy).Contents (Elt F) → (⟨S4x256x384, .bf16⟩ : BufTy).Contents (Elt F))) (h_v8 m c) := by
  have h := HostStage.unary (x := main_v8) (y := main_v9) (writes (F := F)) (fun r => m (c, r)) 15 rfl (by decide +kernel) (by decide +kernel)
  exact h
theorem s_v10 : h_v10 m c = shapeCast _ (h_arg9 m c) shapeCasts_S256x1024_S256x4x256 := by
  have h := HostStage.reshape (x := main_arg9) (y := main_v10) (writes (F := F)) (fun r => m (c, r)) 16 rfl (by decide +kernel) (by decide +kernel)
  exact h
theorem s_v11 : h_v11 m c = (((transpose S4x256x256 [1, 0, 2] · transposes_S256x4x256_S4x256x256_1_0_2) : (⟨S256x4x256, .f32⟩ : BufTy).Contents (Elt F) → (⟨S4x256x256, .f32⟩ : BufTy).Contents (Elt F))) (h_v10 m c) := by
  have h := HostStage.unary (x := main_v10) (y := main_v11) (writes (F := F)) (fun r => m (c, r)) 17 rfl (by decide +kernel) (by decide +kernel)
  exact h
theorem s_v12 : h_v12 m c = (((truncf .bf16 · bitsLt_bf16_f32) : (⟨S4x256x256, .f32⟩ : BufTy).Contents (Elt F) → (⟨S4x256x256, .bf16⟩ : BufTy).Contents (Elt F))) (h_v11 m c) := by
  have h := HostStage.unary (x := main_v11) (y := main_v12) (writes (F := F)) (fun r => m (c, r)) 18 rfl (by decide +kernel) (by decide +kernel)
  exact h
theorem s_v13 : h_v13 m c = shapeCast _ (h_arg10 m c) shapeCasts_S2048x32_S1x2048x1x32 := by
  have h := HostStage.reshape (x := main_arg10) (y := main_v13) (writes (F := F)) (fun r => m (c, r)) 19 rfl (by decide +kernel) (by decide +kernel)
  exact h
theorem s_v14 : h_v14 m c = ((broadcastInDim S1x2048x8x32 ![0, 1, 2, 3] bcast_S1x2048x1x32_S1x2048x8x32_0_1_2_3 : (⟨S1x2048x1x32, .f32⟩ : BufTy).Contents (Elt F) → (⟨S1x2048x8x32, .f32⟩ : BufTy).Contents (Elt F))) (h_v13 m c) := by
  have h := HostStage.unary (x := main_v13) (y := main_v14) (writes (F := F)) (fun r => m (c, r)) 20 rfl (by decide +kernel) (by decide +kernel)
  exact h
theorem s_v15 : h_v15 m c = shapeCast _ (h_v14 m c) shapeCasts_S1x2048x8x32_S2048x256 := by
  have h := HostStage.reshape (x := main_v14) (y := main_v15) (writes (F := F)) (fun r => m (c, r)) 21 rfl (by decide +kernel) (by decide +kernel)
  exact h
theorem s_cst : h_cst m c = (constant S_ .f32 0x3F800000#32) := by
  have h := HostStage.nullary (y := main_cst) (writes (F := F)) (fun r => m (c, r)) 22 rfl (by decide +kernel)
  exact h
theorem s_v16 : h_v16 m c = ((broadcastInDim S512x256 ![] bcast_S_S512x256 : (⟨S_, .f32⟩ : BufTy).Contents (Elt F) → (⟨S512x256, .f32⟩ : BufTy).Contents (Elt F))) (h_cst m c) := by
  have h := HostStage.unary (x := main_cst) (y := main_v16) (writes (F := F)) (fun r => m (c, r)) 23 rfl (by decide +kernel) (by decide +kernel)
  exact h
theorem s_v17 : h_v17 m c = (((fun a b => concatenate S2560x256 0 [⟨S2048x256, a⟩, ⟨S512x256, b⟩] concatenates_S2048x256_S512x256_S2560x256_d0) : (⟨S2048x256, .f32⟩ : BufTy).Contents (Elt F) → (⟨S512x256, .f32⟩ : BufTy).Contents (Elt F) → (⟨S2560x256, .f32⟩ : BufTy).Contents (Elt F))) (h_v15 m c) (h_v16 m c) := by
  have h := HostStage.binary (a := main_v15) (b := main_v16) (y := main_v17) (writes (F := F)) (fun r => m (c, r)) 24 rfl (by decide +kernel) (by decide +kernel) (by decide +kernel)
  exact h
theorem s_v18 : h_v18 m c = ((Host.negf : (⟨S2048x32, .f32⟩ : BufTy).Contents (Elt F) → (⟨S2048x32, .f32⟩ : BufTy).Contents (Elt F))) (h_arg11 m c) := by
  have h := HostStage.unary (x := main_arg11) (y := main_v18) (writes (F := F)) (fun r => m (c, r)) 25 rfl (by decide +kernel) (by decide +kernel)
  exact h
theorem s_v19 : h_v19 m c = (((fun a b => concatenate S2048x64 1 [⟨S2048x32, a⟩, ⟨S2048x32, b⟩] concatenates_S2048x32_S2048x32_S2048x64_d1) : (⟨S2048x32, .f32⟩ : BufTy).Contents (Elt F) → (⟨S2048x32, .f32⟩ : BufTy).Contents (Elt F) → (⟨S2048x64, .f32⟩ : BufTy).Contents (Elt F))) (h_v18 m c) (h_arg11 m c) := by
  have h := HostStage.binary (a := main_v18) (b := main_arg11) (y := main_v19) (writes (F := F)) (fun r => m (c, r)) 26 rfl (by decide +kernel) (by decide +kernel) (by decide +kernel)
  exact h
theorem s_v20 : h_v20 m c = shapeCast _ (h_v19 m c) shapeCasts_S2048x64_S1x2048x1x64 := by
  have h := HostStage.reshape (x := main_v19) (y := main_v20) (writes (F := F)) (fun r => m (c, r)) 27 rfl (by decide +kernel) (by decide +kernel)
  exact h
theorem s_v21 : h_v21 m c = ((broadcastInDim S1x2048x4x64 ![0, 1, 2, 3] bcast_S1x2048x1x64_S1x2048x4x64_0_1_2_3 : (⟨S1x2048x1x64, .f32⟩ : BufTy).Contents (Elt F) → (⟨S1x2048x4x64, .f32⟩ : BufTy).Contents (Elt F))) (h_v20 m c) := by
  have h := HostStage.unary (x := main_v20) (y := main_v21) (writes (F := F)) (fun r => m (c, r)) 28 rfl (by decide +kernel) (by decide +kernel)
  exact h
theorem s_v22 : h_v22 m c = shapeCast _ (h_v21 m c) shapeCasts_S1x2048x4x64_S2048x256 := by
  have h := HostStage.reshape (x := main_v21) (y := main_v22) (writes (F := F)) (fun r => m (c, r)) 29 rfl (by decide +kernel) (by decide +kernel)
  exact h
theorem s_cst_2 : h_cst_2 m c = (constant S_ .f32 0x00000000#32) := by
  have h := HostStage.nullary (y := main_cst_2) (writes (F := F)) (fun r => m (c, r)) 30 rfl (by decide +kernel)
  exact h
theorem s_v23 : h_v23 m c = ((broadcastInDim S512x256 ![] bcast_S_S512x256 : (⟨S_, .f32⟩ : BufTy).Contents (Elt F) → (⟨S512x256, .f32⟩ : BufTy).Contents (Elt F))) (h_cst_2 m c) := by
  have h := HostStage.unary (x := main_cst_2) (y := main_v23) (writes (F := F)) (fun r => m (c, r)) 31 rfl (by decide +kernel) (by decide +kernel)
  exact h
theorem s_v24 : h_v24 m c = (((fun a b => concatenate S2560x256 0 [⟨S2048x256, a⟩, ⟨S512x256, b⟩] concatenates_S2048x256_S512x256_S2560x256_d0) : (⟨S2048x256, .f32⟩ : BufTy).Contents (Elt F) → (⟨S512x256, .f32⟩ : BufTy).Contents (Elt F) → (⟨S2560x256, .f32⟩ : BufTy).Contents (Elt F))) (h_v22 m c) (h_v23 m c) := by
  have h := HostStage.binary (a := main_v22) (b := main_v23) (y := main_v24) (writes (F := F)) (fun r => m (c, r)) 32 rfl (by decide +kernel) (by decide +kernel) (by decide +kernel)
  exact h
theorem s_v25 : h_v25 m c = shapeCast _ (h_arg0 m c) shapeCasts_S2x2048x1024_S4096x1024 := by
  have h := HostStage.reshape (x := main_arg0) (y := main_v25) (writes (F := F)) (fun r => m (c, r)) 33 rfl (by decide +kernel) (by decide +kernel)
  exact h
theorem s_v26 : h_v26 m c = shapeCast _ (h_arg1 m c) shapeCasts_S2x256x1024_S512x1024 := by
  have h := HostStage.reshape (x := main_arg1) (y := main_v26) (writes (F := F)) (fun r => m (c, r)) 34 rfl (by decide +kernel) (by decide +kernel)
  exact h

end Cert.Proof.PreStage
-- ==== Proof.PreRot.lean ====
/- The rotation of a block's columns, entry by entry. -/
module

public import proofs.«01_k».proof.Proof.Scal
public import proofs.«01_k».proof.Proof.Gen.Kernel9Ideal.Skeleton
public import Idealize.ShloMosaic.Lib.KernelVsHost
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Proof.PreRot

open Cert.Kernel9Ideal Cert.Kernel9Ideal.Gen

/-- The rotation of column `j` by the angles of its pair, with the columns numbered by naturals. -/
def ropeE (f cc ss : ℕ → EReal) (j : ℕ) : EReal :=
  f j * cc (j % 32) + (if j % 64 < 32 then f (j + 32) * -(ss (j % 32)) else f (j - 32) * ss (j % 32))

def rem256 : IVec S1x256 32 := remsi (iota .tc S1x256 32 [1] iota_S1x256_d1_w32) (broadcast S1x256 64#32)

def mask256 : IVec S1x256 1 :=
  cmpi .slt (select (andi (xori (cmpi .slt rem256 (broadcast S1x256 0#32)) (broadcastTo S1x256 (broadcast S1x256 (Scalar.cmpi .slt 64#32 0#32)) broadcasts_S1x256_S1x256))
    (cmpi .ne rem256 (broadcast S1x256 0#32))) (addi rem256 (broadcast S1x256 64#32)) rem256) (broadcast S1x256 32#32)

theorem mask256_at : ∀ j : Fin 256, mask256 (ix2 0 j) = if j.val % 64 < 32 then 1#1 else 0#1 := by decide +kernel

def rem128 : IVec S1x128 32 := remsi (iota .tc S1x128 32 [1] iota_S1x128_d1_w32) (broadcast S1x128 64#32)

def mask128 : IVec S1x128 1 :=
  cmpi .slt (select (andi (xori (cmpi .slt rem128 (broadcast S1x128 0#32)) (broadcastTo S1x128 (broadcast S1x128 (Scalar.cmpi .slt 64#32 0#32)) broadcasts_S1x128_S1x128))
    (cmpi .ne rem128 (broadcast S1x128 0#32))) (addi rem128 (broadcast S1x128 64#32)) rem128) (broadcast S1x128 32#32)

theorem mask128_at : ∀ j : Fin 128, mask128 (ix2 0 j) = if j.val % 64 < 32 then 1#1 else 0#1 := by decide +kernel

def rope256 (x c s : FVec Ideal S512x256 .f32) : FVec Ideal S512x256 .bf16 :=
  truncf .bf16 (addf (mulf x c) (mulf (select (broadcastTo S512x256 (shapeCast S1x256 mask256 shapeCasts_S1x256_S1x256) broadcasts_S1x256_S512x256)
    (dynamicRotate 1 224#32 none x rotates_S512x256_d1) (dynamicRotate 1 32#32 none x rotates_S512x256_d1)) s)) bitsLt_bf16_f32

def rope128 (x c s : FVec Ideal S512x128 .f32) : FVec Ideal S512x128 .bf16 :=
  truncf .bf16 (addf (mulf x c) (mulf (select (broadcastTo S512x128 (shapeCast S1x128 mask128 shapeCasts_S1x128_S1x128) broadcasts_S1x128_S512x128)
    (dynamicRotate 1 96#32 none x rotates_S512x128_d1) (dynamicRotate 1 32#32 none x rotates_S512x128_d1)) s)) bitsLt_bf16_f32

theorem rope256_raw (x c s : FVec Ideal S512x256 .f32) (a : Fin 512) (j : Fin 256) : @Eq EReal (rope256 x c s (ix2 a j))
    (x (ix2 a j) * c (ix2 a j) + Scalar.select (mask256 (ix2 0 j)) (x (ix2 a ⟨(j.val + 32) % 256, by omega⟩)) (x (ix2 a ⟨(j.val + 224) % 256, by omega⟩)) * s (ix2 a j)) := by
  have e1 := dynamicRotate_apply 1 224#32 x rotates_S512x256_d1 (ix2 a j) (ix2 a ⟨(j.val + 32) % 256, by omega⟩) (by
    intro b; fin_cases b
    · rfl
    · show (j.val + 32) % 256 = (j.val + 256 - 224 % 256) % 256
      omega)
  have e2 := dynamicRotate_apply 1 32#32 x rotates_S512x256_d1 (ix2 a j) (ix2 a ⟨(j.val + 224) % 256, by omega⟩) (by
    intro b; fin_cases b
    · rfl
    · show (j.val + 224) % 256 = (j.val + 256 - 32 % 256) % 256
      omega)
  rw [← e1, ← e2]
  unfold rope256
  generalize dynamicRotate 1 224#32 none x rotates_S512x256_d1 = p
  generalize dynamicRotate 1 32#32 none x rotates_S512x256_d1 = q
  generalize mask256 = m
  pointwise

theorem rope128_raw (x c s : FVec Ideal S512x128 .f32) (a : Fin 512) (j : Fin 128) : @Eq EReal (rope128 x c s (ix2 a j))
    (x (ix2 a j) * c (ix2 a j) + Scalar.select (mask128 (ix2 0 j)) (x (ix2 a ⟨(j.val + 32) % 128, by omega⟩)) (x (ix2 a ⟨(j.val + 96) % 128, by omega⟩)) * s (ix2 a j)) := by
  have e1 := dynamicRotate_apply 1 96#32 x rotates_S512x128_d1 (ix2 a j) (ix2 a ⟨(j.val + 32) % 128, by omega⟩) (by
    intro b; fin_cases b
    · rfl
    · show (j.val + 32) % 128 = (j.val + 128 - 96 % 128) % 128
      omega)
  have e2 := dynamicRotate_apply 1 32#32 x rotates_S512x128_d1 (ix2 a j) (ix2 a ⟨(j.val + 96) % 128, by omega⟩) (by
    intro b; fin_cases b
    · rfl
    · show (j.val + 96) % 128 = (j.val + 128 - 32 % 128) % 128
      omega)
  rw [← e1, ← e2]
  unfold rope128
  generalize dynamicRotate 1 96#32 none x rotates_S512x128_d1 = p
  generalize dynamicRotate 1 32#32 none x rotates_S512x128_d1 = q
  generalize mask128 = m
  pointwise

/-- The signed sine of a column. -/
def sgn (ss : ℕ → EReal) (j : ℕ) : EReal := if j % 64 < 32 then -(ss (j % 32)) else ss (j % 32)

theorem rope256_at (x c s : FVec Ideal S512x256 .f32) (f cc ss : ℕ → EReal) (a : Fin 512) (hx : ∀ j : Fin 256, @Eq EReal (x (ix2 a j)) (f j.val))
    (hc : ∀ j : Fin 256, @Eq EReal (c (ix2 a j)) (cc (j.val % 32))) (hs : ∀ j : Fin 256, @Eq EReal (s (ix2 a j)) (sgn ss j.val)) (j : Fin 256) :
    @Eq EReal (rope256 x c s (ix2 a j)) (ropeE f cc ss j.val) := by
  rw [rope256_raw, hx, hc, hs, hx, hx, mask256_at]
  unfold ropeE sgn
  split_ifs with h
  · show f j.val * _ + f ((j.val + 32) % 256) * _ = _
    rw [show (j.val + 32) % 256 = j.val + 32 by have := j.isLt; omega]
  · show f j.val * _ + f ((j.val + 224) % 256) * _ = _
    rw [show (j.val + 224) % 256 = j.val - 32 by have := j.isLt; omega]

theorem rope128_at (x c s : FVec Ideal S512x128 .f32) (f cc ss : ℕ → EReal) (a : Fin 512) (hx : ∀ j : Fin 128, @Eq EReal (x (ix2 a j)) (f j.val))
    (hc : ∀ j : Fin 128, @Eq EReal (c (ix2 a j)) (cc (j.val % 32))) (hs : ∀ j : Fin 128, @Eq EReal (s (ix2 a j)) (sgn ss j.val)) (j : Fin 128) :
    @Eq EReal (rope128 x c s (ix2 a j)) (ropeE f cc ss j.val) := by
  rw [rope128_raw, hx, hc, hs, hx, hx, mask128_at]
  unfold ropeE sgn
  split_ifs with h
  · show f j.val * _ + f ((j.val + 32) % 128) * _ = _
    rw [show (j.val + 32) % 128 = j.val + 32 by have := j.isLt; omega]
  · show f j.val * _ + f ((j.val + 96) % 128) * _ = _
    rw [show (j.val + 96) % 128 = j.val - 32 by have := j.isLt; omega]

/-! The kernel's rotations are these. -/

section

variable (v33 : FVec Ideal S512x2304 .f32) (c s : FVec Ideal S512x256 .f32) (c' s' x : FVec Ideal S512x128 .f32)

theorem pay9 : k0_pay9 v33 c s = rope256 (extractStridedSlice S512x256 ![0, 0] v33 slices_S512x2304_o0_0_S512x256) (k0_pay7 c) (k0_pay8 s) := rfl
theorem pay12 : k0_pay12 c s (k0_pay10 v33) (Scalar.select (Scalar.cmpi .eq 64#32 0#32) 1#32 64#32) k0_pay11 = rope256 (k0_pay10 v33) c s := rfl
theorem pay24 : k0_pay24 c' s' (k0_pay21 v33) k0_pay22 k0_pay23 = rope128 (k0_pay21 v33) c' s' := rfl
theorem pay31 (v120 : FVec Ideal S512x384 .bf16) (w : FVec Ideal S1x256x384 .bf16) :
    k0_pay31 c' s' (k0_pay27 v120 w) (k0_pay28 v120 w) (k0_pay29 v120 w) k0_pay30 = rope128 (k0_pay27 v120 w) c' s' := rfl
theorem pay40 : k0_pay40 c' s' x (Scalar.select (Scalar.cmpi .eq 64#32 0#32) 1#32 64#32) k0_pay38 k0_pay39 = rope128 x c' s' := rfl
theorem pay47 (v120 : FVec Ideal S512x384 .bf16) (w : FVec Ideal S1x256x384 .bf16) :
    k0_pay47 v120 c' s' (k0_pay44 w) (constant S512x256 .f32 0x00000000#32) = rope128 (k0_pay27 v120 w) c' s' := rfl
theorem pay1 (v120 : FVec Ideal S512x384 .bf16) (w : FVec Ideal S1x256x384 .bf16) :
    k0_pay1 c' s' (k0_pay54 v120 w) k0_pay55 (k0_pay56 v120 w) = rope128 (k0_pay27 v120 w) c' s' := rfl

end

end Cert.Proof.PreRot

end
-- ==== Proof.PreBlk.lean ====
/- What the kernel of the input norms and projections computes from one block, entry by entry. -/
module

public import proofs.«01_k».proof.Proof.PreRot

@[expose] public section

set_option maxRecDepth 16384

noncomputable section

open Idealize.ShloMosaic Idealize.ShloMosaic.TcCoe Idealize.SL.Sem

namespace Cert.Proof.PreBlk

open Cert.Kernel9Ideal Cert.Kernel9Ideal.Gen PreRot

/-- The reciprocal norm of `n` entries. -/
def nrm (d : EReal) {n : ℕ} (f : Fin n → EReal) : EReal :=
  Ideal.rsqrt (Ideal.div (∑ k : Fin n, f k * f k) d + (Scalar.ofBits (F := Ideal) .f32 0x358637BD#32 : EReal))

abbrev d1024 : EReal := (Scalar.ofBits (F := Ideal) .f32 0x44800000#32 : EReal)
abbrev d384 : EReal := (Scalar.ofBits (F := Ideal) .f32 0x43C00000#32 : EReal)
abbrev d256 : EReal := (Scalar.ofBits (F := Ideal) .f32 0x43800000#32 : EReal)
/-- The scale of the retention's keys, and that of the attention's queries. -/
abbrev eighth : EReal := (Scalar.ofBits (F := Ideal) .f32 0x3E000000#32 : EReal)
abbrev qs : EReal := (Scalar.ofBits (F := Ideal) .f32 0x3D93CD3A#32 : EReal)

theorem slt8 : ∀ i : Fin 9, Scalar.cmpi .slt (BitVec.ofNat 32 i.val) 8#32 = if i.val < 8 then 1#1 else 0#1 := by decide +kernel

section
variable (i : grid0.Coords) (x0 x1 : FVec Ideal S512x1024 .f32) (sh sc : FVec Ideal S1x1x1024 .f32) (g : FVec Ideal S1x1024 .f32) (w : FVec Ideal S2304x1024 .bf16)

/-- The normed and modulated row. -/
def modn (x : Fin 1024 → EReal) (g sc sh : EReal) (k : Fin 1024) : EReal :=
  x k * nrm d1024 x * g * (1 + sc) + sh

theorem pay5_at (a : Fin 512) (k : Fin 1024) : @Eq EReal (k0_pay5 (F := Ideal) i x0 x1 sh sc g (ix2 a k))
    (modn (fun k => Scalar.select (Scalar.cmpi .slt (BitVec.ofNat 32 (i 0).val) 8#32) x0 x1 (ix2 a k)) (g (ix2 0 k)) (sc (ix3 0 0 k)) (sh (ix3 0 0 k)) k) := by
  unfold k0_pay5
  generalize Scalar.cmpi .slt (BitVec.ofNat 32 (i 0).val) 8#32 = b
  pointwise
  unfold modn nrm
  rfl

theorem pay6_at (a : Fin 512) (j : Fin 2304) : @Eq EReal (k0_pay6 (F := Ideal) i x0 x1 sh sc g w (ix2 a j))
    (∑ k : Fin 1024, (k0_pay5 (F := Ideal) i x0 x1 sh sc g (ix2 a k) : EReal) * w (ix2 j k)) := by
  unfold k0_pay6
  generalize k0_pay5 (F := Ideal) i x0 x1 sh sc g = h
  pointwise

end

section
variable (v33 : FVec Ideal S512x2304 .f32) (v120 : FVec Ideal S512x384 .bf16) (v134 : FVec Ideal S512x256 .bf16)

theorem pay13_at (a : Fin 512) (j : Fin 512) : @Eq EReal (k0_pay13 v33 (ix2 a j)) (v33 (ix2 a ⟨512 + j.val, by omega⟩)) := by
  unfold k0_pay13
  pointwise

theorem pay14_at (a : Fin 512) (j : Fin 1152) : @Eq EReal (k0_pay14 v33 (ix2 a j)) (v33 (ix2 a ⟨1024 + j.val, by omega⟩)) := by
  unfold k0_pay14
  pointwise

theorem pay17_at (g : FVec Ideal S1x384 .f32) (a : Fin 512) (j : Fin 384) : @Eq EReal (k0_pay17 (k0_pay16 v33) g (ix2 a j))
    (v33 (ix2 a ⟨1536 + j.val, by omega⟩) * nrm d384 (fun k : Fin 384 => (v33 (ix2 a ⟨1536 + k.val, by omega⟩) : EReal)) * g (ix2 0 j)) := by
  unfold k0_pay17 k0_pay16
  pointwise
  unfold nrm
  rfl

theorem pay18_at (g : FVec Ideal S1x256 .f32) (a : Fin 512) (j : Fin 256) : @Eq EReal (k0_pay18 (k0_pay15 v33) g (ix2 a j))
    (v33 (ix2 a ⟨1920 + j.val, by omega⟩) * nrm d256 (fun k : Fin 256 => (v33 (ix2 a ⟨1920 + k.val, by omega⟩) : EReal)) * g (ix2 0 j)) := by
  unfold k0_pay18 k0_pay15
  pointwise
  unfold nrm
  rfl

theorem slice0_at (a : Fin 512) (j : Fin 256) : @Eq EReal (extractStridedSlice S512x256 ![0, 0] v33 slices_S512x2304_o0_0_S512x256 (ix2 a j)) (v33 (ix2 a ⟨j.val, by omega⟩)) := by
  pointwise

theorem pay10_at (a : Fin 512) (j : Fin 256) : @Eq EReal (k0_pay10 v33 (ix2 a j)) (v33 (ix2 a ⟨256 + j.val, by omega⟩) * eighth) := by
  unfold k0_pay10
  pointwise

theorem pay21_at (a : Fin 512) (j : Fin 128) : @Eq EReal (k0_pay21 v33 (ix2 a j)) (v33 (ix2 a ⟨2176 + j.val, by omega⟩)) := by
  unfold k0_pay21
  pointwise

theorem pay19_at (c : FVec Ideal S512x256 .f32) (a : Fin 512) (j : Fin 128) : @Eq EReal (k0_pay19 c (ix2 a j)) (c (ix2 a ⟨j.val, by omega⟩)) := by
  unfold k0_pay19
  pointwise

theorem pay20_at (c : FVec Ideal S512x256 .f32) (a : Fin 512) (j : Fin 128) : @Eq EReal (k0_pay20 c (ix2 a j)) (c (ix2 a ⟨j.val, by omega⟩)) := by
  unfold k0_pay20
  pointwise

theorem pay25_at (w : FVec Ideal S1x256x384 .bf16) (a : Fin 512) (j : Fin 256) : @Eq EReal (k0_pay25 v120 w (ix2 a j))
    ((∑ k : Fin 384, v120 (ix2 a k) * w (ix3 0 j k)) * qs) := by
  unfold k0_pay25
  pointwise

theorem pay26_at (w : FVec Ideal S1x256x384 .bf16) (a : Fin 512) (j : Fin 128) : @Eq EReal (k0_pay26 v120 w (ix2 a j))
    ((∑ k : Fin 384, v120 (ix2 a k) * w (ix3 0 ⟨j.val, by omega⟩ k)) * qs) := by
  rw [← pay25_at]
  unfold k0_pay26
  generalize k0_pay25 v120 w = q
  pointwise

theorem pay27_at (w : FVec Ideal S1x256x384 .bf16) (a : Fin 512) (j : Fin 128) : @Eq EReal (k0_pay27 v120 w (ix2 a j))
    ((∑ k : Fin 384, v120 (ix2 a k) * w (ix3 0 ⟨128 + j.val, by omega⟩ k)) * qs) := by
  rw [← pay25_at]
  unfold k0_pay27
  generalize k0_pay25 v120 w = q
  pointwise

theorem pay32_at (w : FVec Ideal S1x256x256 .bf16) (a : Fin 512) (j : Fin 256) : @Eq EReal (k0_pay32 v134 w (ix2 a j))
    (∑ k : Fin 256, v134 (ix2 a k) * w (ix3 0 k j)) := by
  unfold k0_pay32
  pointwise

theorem pay33_at (w : FVec Ideal S1x256x256 .bf16) (a : Fin 512) (j : Fin 128) : @Eq EReal (k0_pay33 v134 w (ix2 a j))
    (∑ k : Fin 256, v134 (ix2 a k) * w (ix3 0 k ⟨j.val, by omega⟩)) := by
  rw [← pay32_at]
  unfold k0_pay33
  generalize k0_pay32 v134 w = q
  pointwise

theorem pay34_at (w : FVec Ideal S1x256x256 .bf16) (a : Fin 512) (j : Fin 128) : @Eq EReal (k0_pay34 v134 w (ix2 a j))
    (∑ k : Fin 256, v134 (ix2 a k) * w (ix3 0 k ⟨128 + j.val, by omega⟩)) := by
  rw [← pay32_at]
  unfold k0_pay34
  generalize k0_pay32 v134 w = q
  pointwise

/-! Every head is computed as the first. -/

theorem pay36 (w : FVec Ideal S1x256x384 .bf16) : k0_pay36 v120 w = k0_pay26 v120 w := rfl
theorem pay37 (w : FVec Ideal S1x256x384 .bf16) : k0_pay37 v120 w = k0_pay27 v120 w := rfl
theorem pay46 (w : FVec Ideal S1x256x384 .bf16) : k0_pay46 v120 (k0_pay44 w) (constant S512x256 .f32 0x00000000#32) = k0_pay26 v120 w := rfl
theorem pay53 (w : FVec Ideal S1x256x384 .bf16) : k0_pay53 v120 w = k0_pay26 v120 w := rfl
theorem pay42 (w : FVec Ideal S1x256x256 .bf16) : k0_pay42 v134 w = k0_pay33 v134 w := rfl
theorem pay50 (w : FVec Ideal S1x256x256 .bf16) : k0_pay50 (k0_pay49 v134 w) = k0_pay33 v134 w := rfl
theorem pay3 (w : FVec Ideal S1x256x256 .bf16) : k0_pay3 v134 w = k0_pay33 v134 w := rfl
theorem pay43 (w : FVec Ideal S1x256x256 .bf16) : k0_pay43 v134 w = k0_pay34 v134 w := rfl
theorem pay51 (w : FVec Ideal S1x256x256 .bf16) : k0_pay51 (k0_pay48 v134 w) = k0_pay34 v134 w := rfl
theorem pay4 (w : FVec Ideal S1x256x256 .bf16) : k0_pay4 v134 w = k0_pay34 v134 w := rfl
theorem pay7 (c : FVec Ideal S512x256 .f32) : k0_pay7 c = c := by
  funext y
  idx_vars y
  unfold k0_pay7
  pointwise
theorem pay8 (c : FVec Ideal S512x256 .f32) : k0_pay8 c = c := by
  funext y
  idx_vars y
  unfold k0_pay8
  pointwise

end

end Cert.Proof.PreBlk

end
-- ==== Proof.PreTurn.lean ====
/- The reference's rotation, entry by entry, and how the two forms of the rotation meet. -/
module

public import proofs.«01_k».proof.Proof.PreBlk
public import proofs.«01_k».proof.Proof.Gen.Reference9Ideal

@[expose] public section

set_option maxRecDepth 16384

noncomputable section

open Idealize.ShloMosaic Idealize.ShloMosaic.TcCoe Idealize.SL.Sem

namespace Cert.Proof.PreTurn

open PreRot PreBlk

/-! The rotation over naturals. -/

theorem ropeE_shift (f cc ss : ℕ → EReal) (q d : ℕ) (hd : d < 64) : ropeE f cc ss (64 * q + d) = ropeE (fun n => f (64 * q + n)) cc ss d := by
  unfold ropeE
  rw [show (64 * q + d) % 32 = d % 32 by omega, show (64 * q + d) % 64 = d % 64 by omega]
  refine congrArg (fun e : EReal => f (64 * q + d) * cc (d % 32) + e) ?_
  split_ifs with h
  · rw [Nat.add_assoc]
  · rw [show 64 * q + d - 32 = 64 * q + (d - 32) by omega]

theorem qs_val : qs = ((9686330 / 134217728 : ℝ) : EReal) := by
  show Ideal.ofBits .f32 0x3D93CD3A#32 = _
  simp [Ideal.ofBits, Ideal.ieee, -EReal.coe_mul]; norm_num

theorem ropeE_scale (f cc ss : ℕ → EReal) (d : ℕ) : ropeE (fun n => f n * qs) cc ss d = ropeE f cc ss d * qs := by
  unfold ropeE
  rw [EReal.right_distrib_of_nonneg_of_ne_top (by rw [qs_val]; exact_mod_cast (by norm_num)) (by rw [qs_val]; exact EReal.coe_ne_top _)]
  split_ifs
  · rw [mul_right_comm, mul_right_comm (f (d + 32))]
  · rw [mul_right_comm, mul_right_comm (f (d - 32))]

theorem ropeE_zero (f cc ss : ℕ → EReal) (d : ℕ) (h0 : f d = 0) (h1 : d % 64 < 32 → f (d + 32) = 0) (h2 : ¬ d % 64 < 32 → f (d - 32) = 0) : ropeE f cc ss d = 0 := by
  unfold ropeE
  rw [h0, zero_mul, zero_add]
  split_ifs with h
  · rw [h1 h, zero_mul]
  · rw [h2 h, zero_mul]

theorem ropeE_none (f cc ss : ℕ → EReal) (d : ℕ) (hc : ∀ n, cc n = 1) (hs : ∀ n, ss n = 0) : ropeE f cc ss d = f d := by
  unfold ropeE
  simp [hc, hs]

/-! The reference's rotation of four heads, and of one. -/

open Cert.Reference9Ideal Cert.Reference9Ideal.Facts₀

section

variable (a : FVec Ideal S4608x4x64 .f32) (c s : FVec Ideal S4096x1x32 .f32)

abbrev top4 : FVec Ideal S4096x4x64 .f32 := extractStridedSlice S4096x4x64 ![0, 0, 0] a slices_S4608x4x64_S4096x4x64_0_0_0
abbrev lo4 : FVec Ideal S4096x4x32 .f32 := extractStridedSlice S4096x4x32 ![0, 0, 0] (top4 a) slices_S4096x4x64_S4096x4x32_0_0_0
abbrev hi4 : FVec Ideal S4096x4x32 .f32 := extractStridedSlice S4096x4x32 ![0, 0, 32] (top4 a) slices_S4096x4x64_S4096x4x32_0_0_32
abbrev wide4 : FVec Ideal S4096x4x32 .f32 := broadcastInDim S4096x4x32 ![0, 1, 2] bcast_S4096x1x32_S4096x4x32_0_1_2 c

def pair4 : FVec Ideal S4096x4x64 .f32 :=
  concatenate S4096x4x64 2 [⟨S4096x4x32, subf (mulf (lo4 a) (wide4 c)) (mulf (hi4 a) (wide4 s))⟩,
    ⟨S4096x4x32, addf (mulf (hi4 a) (wide4 c)) (mulf (lo4 a) (wide4 s))⟩] concatenates_S4096x4x32_S4096x4x32_S4096x4x64_d2

theorem pair4_at (r : Fin 4096) (h : Fin 4) (d : Fin 64) : @Eq EReal (pair4 a c s (ix3 r h d))
    (if hd : d.val < 32 then a (ix3 ⟨r.val, by omega⟩ h d) * c (ix3 r 0 ⟨d.val, hd⟩) - a (ix3 ⟨r.val, by omega⟩ h ⟨32 + d.val, by omega⟩) * s (ix3 r 0 ⟨d.val, hd⟩)
        else a (ix3 ⟨r.val, by omega⟩ h d) * c (ix3 r 0 ⟨d.val - 32, by omega⟩) + a (ix3 ⟨r.val, by omega⟩ h ⟨d.val - 32, by omega⟩) * s (ix3 r 0 ⟨d.val - 32, by omega⟩)) := by
  unfold pair4
  by_cases hd : d.val < 32
  · rw [dif_pos hd]
    pointwise
    exact dif_pos hd
  · rw [dif_neg hd]
    pointwise
    have e : 32 + (d.val - 32) = d.val := by omega
    simp only [dif_neg hd, e]

def rot4 : FVec Ideal S4608x4x64 .f32 :=
  concatenate S4608x4x64 0 [⟨S4096x4x64, pair4 a c s⟩,
    ⟨S512x4x64, extractStridedSlice S512x4x64 ![4096, 0, 0] a slices_S4608x4x64_S512x4x64_4096_0_0⟩] concatenates_S4096x4x64_S512x4x64_S4608x4x64_d0

theorem rot4_raw (r : Fin 4608) (h : Fin 4) (d : Fin 64) : @Eq EReal (rot4 a c s (ix3 r h d))
    (if hr : r.val < 4096 then
      (if hd : d.val < 32 then a (ix3 r h d) * c (ix3 ⟨r.val, hr⟩ 0 ⟨d.val, hd⟩) - a (ix3 r h ⟨32 + d.val, by omega⟩) * s (ix3 ⟨r.val, hr⟩ 0 ⟨d.val, hd⟩)
        else a (ix3 r h d) * c (ix3 ⟨r.val, hr⟩ 0 ⟨d.val - 32, by omega⟩) + a (ix3 r h ⟨d.val - 32, by omega⟩) * s (ix3 ⟨r.val, hr⟩ 0 ⟨d.val - 32, by omega⟩))
      else a (ix3 r h d)) := by
  unfold rot4
  by_cases hr : r.val < 4096
  · rw [dif_pos hr]
    refine Eq.trans ?_ (pair4_at a c s ⟨r.val, hr⟩ h d)
    generalize pair4 a c s = b
    pointwise
    exact dif_pos hr
  · rw [dif_neg hr]
    generalize pair4 a c s = b
    pointwise
    have e : 4096 + (r.val - 4096) = r.val := by omega
    simp only [dif_neg hr, e]

end

section

variable (a : FVec Ideal S4608x1x64 .f32) (c s : FVec Ideal S4096x1x32 .f32)

abbrev top1 : FVec Ideal S4096x1x64 .f32 := extractStridedSlice S4096x1x64 ![0, 0, 0] a slices_S4608x1x64_S4096x1x64_0_0_0
abbrev lo1 : FVec Ideal S4096x1x32 .f32 := extractStridedSlice S4096x1x32 ![0, 0, 0] (top1 a) slices_S4096x1x64_S4096x1x32_0_0_0
abbrev hi1 : FVec Ideal S4096x1x32 .f32 := extractStridedSlice S4096x1x32 ![0, 0, 32] (top1 a) slices_S4096x1x64_S4096x1x32_0_0_32

def pair1 : FVec Ideal S4096x1x64 .f32 :=
  concatenate S4096x1x64 2 [⟨S4096x1x32, subf (mulf (lo1 a) c) (mulf (hi1 a) s)⟩,
    ⟨S4096x1x32, addf (mulf (hi1 a) c) (mulf (lo1 a) s)⟩] concatenates_S4096x1x32_S4096x1x32_S4096x1x64_d2

theorem pair1_at (r : Fin 4096) (d : Fin 64) : @Eq EReal (pair1 a c s (ix3 r 0 d))
    (if hd : d.val < 32 then a (ix3 ⟨r.val, by omega⟩ 0 d) * c (ix3 r 0 ⟨d.val, hd⟩) - a (ix3 ⟨r.val, by omega⟩ 0 ⟨32 + d.val, by omega⟩) * s (ix3 r 0 ⟨d.val, hd⟩)
        else a (ix3 ⟨r.val, by omega⟩ 0 d) * c (ix3 r 0 ⟨d.val - 32, by omega⟩) + a (ix3 ⟨r.val, by omega⟩ 0 ⟨d.val - 32, by omega⟩) * s (ix3 r 0 ⟨d.val - 32, by omega⟩)) := by
  unfold pair1
  by_cases hd : d.val < 32
  · rw [dif_pos hd]
    pointwise
    exact dif_pos hd
  · rw [dif_neg hd]
    pointwise
    have e : 32 + (d.val - 32) = d.val := by omega
    simp only [dif_neg hd, e]

def rot1 : FVec Ideal S4608x1x64 .f32 :=
  concatenate S4608x1x64 0 [⟨S4096x1x64, pair1 a c s⟩,
    ⟨S512x1x64, extractStridedSlice S512x1x64 ![4096, 0, 0] a slices_S4608x1x64_S512x1x64_4096_0_0⟩] concatenates_S4096x1x64_S512x1x64_S4608x1x64_d0

theorem rot1_raw (r : Fin 4608) (d : Fin 64) : @Eq EReal (rot1 a c s (ix3 r 0 d))
    (if hr : r.val < 4096 then
      (if hd : d.val < 32 then a (ix3 r 0 d) * c (ix3 ⟨r.val, hr⟩ 0 ⟨d.val, hd⟩) - a (ix3 r 0 ⟨32 + d.val, by omega⟩) * s (ix3 ⟨r.val, hr⟩ 0 ⟨d.val, hd⟩)
        else a (ix3 r 0 d) * c (ix3 ⟨r.val, hr⟩ 0 ⟨d.val - 32, by omega⟩) + a (ix3 r 0 ⟨d.val - 32, by omega⟩) * s (ix3 ⟨r.val, hr⟩ 0 ⟨d.val - 32, by omega⟩))
      else a (ix3 r 0 d)) := by
  unfold rot1
  by_cases hr : r.val < 4096
  · rw [dif_pos hr]
    refine Eq.trans ?_ (pair1_at a c s ⟨r.val, hr⟩ d)
    generalize pair1 a c s = b
    pointwise
    exact dif_pos hr
  · rw [dif_neg hr]
    generalize pair1 a c s = b
    pointwise
    have e : 4096 + (r.val - 4096) = r.val := by omega
    simp only [dif_neg hr, e]

end

/-- The cosine and the sine of a row's pair: a context row is not rotated. -/
def cosr (x : FVec Ideal S2048x32 .f32) (r : Fin 4608) (n : ℕ) : EReal :=
  if r.val < 4096 then (if h : n < 32 then x (ix2 ⟨r.val % 2048, by omega⟩ ⟨n, h⟩) else 0) else 1
def sinr (x : FVec Ideal S2048x32 .f32) (r : Fin 4608) (n : ℕ) : EReal :=
  if r.val < 4096 then (if h : n < 32 then x (ix2 ⟨r.val % 2048, by omega⟩ ⟨n, h⟩) else 0) else 0

/-- The reference's form of the rotation is the rotation over naturals. -/
theorem rope_of_raw (g : Fin 64 → EReal) (c s : FVec Ideal S4096x1x32 .f32) (x y : FVec Ideal S2048x32 .f32) (f : ℕ → EReal) (hf : ∀ d : Fin 64, g d = f d.val)
    (hc : ∀ (r : Fin 4096) (d : Fin 32), @Eq EReal (c (ix3 r 0 d)) (x (ix2 ⟨r.val % 2048, by omega⟩ d)))
    (hs : ∀ (r : Fin 4096) (d : Fin 32), @Eq EReal (s (ix3 r 0 d)) (y (ix2 ⟨r.val % 2048, by omega⟩ d)))
    (r : Fin 4608) (d : Fin 64) :
    (if hr : r.val < 4096 then
      (if hd : d.val < 32 then g d * c (ix3 ⟨r.val, hr⟩ 0 ⟨d.val, hd⟩) - g ⟨32 + d.val, by omega⟩ * s (ix3 ⟨r.val, hr⟩ 0 ⟨d.val, hd⟩)
        else g d * c (ix3 ⟨r.val, hr⟩ 0 ⟨d.val - 32, by omega⟩) + g ⟨d.val - 32, by omega⟩ * s (ix3 ⟨r.val, hr⟩ 0 ⟨d.val - 32, by omega⟩))
      else g d) = ropeE f (cosr x r) (sinr y r) d.val := by
  have hd' := d.isLt
  by_cases hr : r.val < 4096
  · rw [dif_pos hr]
    unfold ropeE cosr sinr
    simp only [if_pos hr]
    by_cases hd : d.val < 32
    · have e : d.val % 32 = d.val := by omega
      rw [dif_pos hd, if_pos (show d.val % 64 < 32 by omega), hf, hf, hc, hs]
      simp only [e, dif_pos hd]
      rw [sub_eq_add_neg, mul_neg]
      show _ + -(f (32 + d.val) * _) = _
      rw [Nat.add_comm 32]
    · have e : d.val % 32 = d.val - 32 := by omega
      have hd2 : d.val - 32 < 32 := by omega
      rw [dif_neg hd, if_neg (show ¬ d.val % 64 < 32 by omega), hf, hf, hc, hs]
      simp only [e, dif_pos hd2]
  · rw [dif_neg hr, ropeE_none f (cosr x r) (sinr y r) d.val (fun n => if_neg hr) (fun n => if_neg hr), hf]

end Cert.Proof.PreTurn

end
-- ==== Proof.PreRef.lean ====
/- The reference's projected rows, entry by entry. -/
module

public import proofs.«01_k».proof.Proof.PreTurn
public import proofs.«01_k».proof.Proof.Gen.Reference9Ideal.Read

@[expose] public section

set_option maxRecDepth 16384

noncomputable section

open Idealize.ShloMosaic Idealize.ShloMosaic.TcCoe Idealize.SL.Sem

namespace Cert.Proof.PreRef

open Cert.Reference9Ideal Cert.Reference9Ideal.Read PreRot PreBlk PreTurn

variable (x0 : FVec Ideal S2x2048x1024 .f32) (x1 : FVec Ideal S2x256x1024 .f32) (x2 : FVec Ideal S2x6144 .f32) (x3 : FVec Ideal S1x6144 .f32)
  (x4 : FVec Ideal S1x1024 .f32) (x5 : FVec Ideal S1024x2240 .f32) (x6 : FVec Ideal S1x384 .f32) (x7 : FVec Ideal S384x768 .f32)
  (x8 : FVec Ideal S1x256 .f32) (x9 : FVec Ideal S256x1024 .f32) (x10 x11 : FVec Ideal S2048x32 .f32)

/-- A row of the projection, of the queries, of the keys and values, over naturals. -/
def Pn (r : Fin 4608) (n : ℕ) : EReal := if h : n < 2240 then val_main_v49 (F := Ideal) x0 x1 x2 x3 x4 x5 (ix2 r ⟨n, h⟩) else 0
def Qn (r : Fin 4608) (h : Fin 4) (n : ℕ) : EReal := if hn : n < 192 then val_main_v81 (F := Ideal) x0 x1 x2 x3 x4 x5 x6 x7 (ix2 r ⟨h.val * 192 + n, by omega⟩) else 0

theorem v22_at (b : Fin 2) (t : Fin 2048) (k : Fin 1024) : @Eq EReal (val_main_v22 (F := Ideal) x0 x2 x4 (ix3 b t k))
    (modn (fun k => x0 (ix3 b t k)) (x4 (ix2 0 k)) (x2 (ix2 b ⟨1024 + k.val, by omega⟩)) (x2 (ix2 b ⟨k.val, by omega⟩)) k) := by
  pointwise [val_main_v22, val_main_v21, val_main_v20, val_main_v19, val_main_v18, val_main_v17, val_main_cst_2, val_main_v16, val_main_v15, val_main_v14, val_main_v13, val_main_v12, val_main_v11, val_main_v10, val_main_v9, val_main_v8, val_main_v7, val_main_v6, val_main_v5, val_main_cst_1, val_main_v4, val_main_v3, val_main_cst_0, val_main_v2, val_main_v1, val_main_cst, val_main_v0]
  unfold modn nrm
  rfl

theorem v45_at (b : Fin 2) (t : Fin 256) (k : Fin 1024) : @Eq EReal (val_main_v45 (F := Ideal) x1 x3 x4 (ix3 b t k))
    (modn (fun k => x1 (ix3 b t k)) (x4 (ix2 0 k)) (x3 (ix2 0 ⟨1024 + k.val, by omega⟩)) (x3 (ix2 0 ⟨k.val, by omega⟩)) k) := by
  pointwise [val_main_v45, val_main_v44, val_main_v43, val_main_v42, val_main_v41, val_main_v40, val_main_cst_6, val_main_v39, val_main_v38, val_main_v37, val_main_v36, val_main_v35, val_main_v34, val_main_v33, val_main_v32, val_main_v31, val_main_v30, val_main_v29, val_main_v28, val_main_cst_5, val_main_v27, val_main_v26, val_main_cst_4, val_main_v25, val_main_v24, val_main_cst_3, val_main_v23]
  unfold modn nrm
  rfl

theorem v48_x (r : Fin 4608) (hr : r.val < 4096) (k : Fin 1024) : @Eq EReal (val_main_v48 (F := Ideal) x0 x1 x2 x3 x4 (ix2 r k))
    (val_main_v22 (F := Ideal) x0 x2 x4 (ix3 ⟨r.val / 2048, by omega⟩ ⟨r.val % 2048, by omega⟩ k)) := by
  unfold val_main_v48 val_main_v46 val_main_v47
  generalize val_main_v22 (F := Ideal) x0 x2 x4 = a
  generalize val_main_v45 (F := Ideal) x1 x3 x4 = b
  pointwise
  refine (dif_pos hr).trans ?_
  pointwise

theorem v48_c (r : Fin 4608) (hr : ¬ r.val < 4096) (k : Fin 1024) : @Eq EReal (val_main_v48 (F := Ideal) x0 x1 x2 x3 x4 (ix2 r k))
    (val_main_v45 (F := Ideal) x1 x3 x4 (ix3 ⟨(r.val - 4096) / 256, by omega⟩ ⟨(r.val - 4096) % 256, by omega⟩ k)) := by
  unfold val_main_v48 val_main_v46 val_main_v47
  generalize val_main_v22 (F := Ideal) x0 x2 x4 = a
  generalize val_main_v45 (F := Ideal) x1 x3 x4 = b
  pointwise
  refine (dif_neg hr).trans ?_
  pointwise

theorem v49_at (r : Fin 4608) (j : Fin 2240) : @Eq EReal (val_main_v49 (F := Ideal) x0 x1 x2 x3 x4 x5 (ix2 r j)) (∑ k : Fin 1024, (val_main_v48 (F := Ideal) x0 x1 x2 x3 x4 (ix2 r k) : EReal) * x5 (ix2 k j)) := by
  unfold val_main_v49
  generalize val_main_v48 (F := Ideal) x0 x1 x2 x3 x4 = h
  pointwise

theorem Pn_lt (r : Fin 4608) (n : ℕ) (h : n < 2240) : Pn x0 x1 x2 x3 x4 x5 r n = val_main_v49 (F := Ideal) x0 x1 x2 x3 x4 x5 (ix2 r ⟨n, h⟩) := dif_pos h

theorem Pn_sum (r : Fin 4608) (j : Fin 2304) : Pn x0 x1 x2 x3 x4 x5 r j.val
    = ∑ k : Fin 1024, (val_main_v48 (F := Ideal) x0 x1 x2 x3 x4 (ix2 r k) : EReal) * (if h : j.val < 2240 then x5 (ix2 k ⟨j.val, h⟩) else 0 : EReal) := by
  by_cases h : j.val < 2240
  · rw [Pn_lt _ _ _ _ _ _ r j.val h, v49_at]
    simp only [dif_pos h]
  · unfold Pn
    simp only [dif_neg h, mul_zero, Finset.sum_const_zero]

theorem v68_at (r : Fin 4608) (j : Fin 384) : @Eq EReal (val_main_v68 (F := Ideal) x0 x1 x2 x3 x4 x5 x6 (ix2 r j))
    (Pn x0 x1 x2 x3 x4 x5 r (1536 + j.val) * nrm d384 (fun k : Fin 384 => Pn x0 x1 x2 x3 x4 x5 r (1536 + k.val)) * x6 (ix2 0 j)) := by
  have e : ∀ k : Fin 384, Pn x0 x1 x2 x3 x4 x5 r (1536 + k.val) = val_main_v49 (F := Ideal) x0 x1 x2 x3 x4 x5 (ix2 r ⟨1536 + k.val, by omega⟩) := fun k => Pn_lt _ _ _ _ _ _ r _ (by omega)
  simp only [e]
  unfold val_main_v68 val_main_v67 val_main_v66 val_main_v65 val_main_v64 val_main_v63 val_main_v62 val_main_cst_9 val_main_v61 val_main_v60 val_main_cst_8 val_main_v59 val_main_v58 val_main_cst_7 val_main_v57 val_main_v54
  generalize val_main_v49 (F := Ideal) x0 x1 x2 x3 x4 x5 = p
  pointwise
  unfold nrm
  rfl

theorem v80_at (r : Fin 4608) (j : Fin 256) : @Eq EReal (val_main_v80 (F := Ideal) x0 x1 x2 x3 x4 x5 x8 (ix2 r j))
    (Pn x0 x1 x2 x3 x4 x5 r (1920 + j.val) * nrm d256 (fun k : Fin 256 => Pn x0 x1 x2 x3 x4 x5 r (1920 + k.val)) * x8 (ix2 0 j)) := by
  have e : ∀ k : Fin 256, Pn x0 x1 x2 x3 x4 x5 r (1920 + k.val) = val_main_v49 (F := Ideal) x0 x1 x2 x3 x4 x5 (ix2 r ⟨1920 + k.val, by omega⟩) := fun k => Pn_lt _ _ _ _ _ _ r _ (by omega)
  simp only [e]
  unfold val_main_v80 val_main_v79 val_main_v78 val_main_v77 val_main_v76 val_main_v75 val_main_v74 val_main_cst_12 val_main_v73 val_main_v72 val_main_cst_11 val_main_v71 val_main_v70 val_main_cst_10 val_main_v69 val_main_v55
  generalize val_main_v49 (F := Ideal) x0 x1 x2 x3 x4 x5 = p
  pointwise
  unfold nrm
  rfl

theorem v81_at (r : Fin 4608) (j : Fin 768) : @Eq EReal (val_main_v81 (F := Ideal) x0 x1 x2 x3 x4 x5 x6 x7 (ix2 r j)) (∑ k : Fin 384, (val_main_v68 (F := Ideal) x0 x1 x2 x3 x4 x5 x6 (ix2 r k) : EReal) * x7 (ix2 k j)) := by
  unfold val_main_v81
  generalize val_main_v68 (F := Ideal) x0 x1 x2 x3 x4 x5 x6 = h
  pointwise

theorem Qn_sum (r : Fin 4608) (h : Fin 4) (n : Fin 256) : Qn x0 x1 x2 x3 x4 x5 x6 x7 r h n.val
    = ∑ k : Fin 384, (val_main_v68 (F := Ideal) x0 x1 x2 x3 x4 x5 x6 (ix2 r k) : EReal) * (if hn : n.val < 192 then x7 (ix2 k ⟨h.val * 192 + n.val, by omega⟩) else 0 : EReal) := by
  unfold Qn
  by_cases hn : n.val < 192
  · simp only [dif_pos hn]
    rw [v81_at]
  · simp only [dif_neg hn, mul_zero, Finset.sum_const_zero]

theorem v83_at (r : Fin 4608) (j : Fin 1024) : @Eq EReal (val_main_v83 (F := Ideal) x0 x1 x2 x3 x4 x5 x8 x9 (ix2 r j)) (∑ k : Fin 256, (val_main_v80 (F := Ideal) x0 x1 x2 x3 x4 x5 x8 (ix2 r k) : EReal) * x9 (ix2 k j)) := by
  unfold val_main_v83
  generalize val_main_v80 (F := Ideal) x0 x1 x2 x3 x4 x5 x8 = h
  pointwise

theorem cos_at (r : Fin 4096) (d : Fin 32) : @Eq EReal (val_main_v86 (F := Ideal) x10 (ix3 r 0 d)) (x10 (ix2 ⟨r.val % 2048, by omega⟩ d)) := by
  unfold val_main_v86 val_main_v85
  pointwise
  by_cases h : r.val < 2048
  · exact (dif_pos h).trans (congrArg (fun q => x10 (ix2 q d)) (Fin.ext (by show r.val = r.val % 2048; omega)))
  · exact (dif_neg h).trans (congrArg (fun q => x10 (ix2 q d)) (Fin.ext (by show r.val - 2048 = r.val % 2048; omega)))

theorem sin_at (r : Fin 4096) (d : Fin 32) : @Eq EReal (val_main_v88 (F := Ideal) x11 (ix3 r 0 d)) (x11 (ix2 ⟨r.val % 2048, by omega⟩ d)) := by
  unfold val_main_v88 val_main_v87
  pointwise
  by_cases h : r.val < 2048
  · exact (dif_pos h).trans (congrArg (fun q => x11 (ix2 q d)) (Fin.ext (by show r.val = r.val % 2048; omega)))
  · exact (dif_neg h).trans (congrArg (fun q => x11 (ix2 q d)) (Fin.ext (by show r.val - 2048 = r.val % 2048; omega)))

theorem turn4 (a : FVec Ideal S4608x4x64 .f32) (f : ℕ → EReal) (r : Fin 4608) (h : Fin 4) (hf : ∀ d : Fin 64, @Eq EReal (a (ix3 r h d)) (f d.val)) (d : Fin 64) :
    @Eq EReal (rot4 a (val_main_v86 (F := Ideal) x10) (val_main_v88 (F := Ideal) x11) (ix3 r h d)) (ropeE f (cosr x10 r) (sinr x11 r) d.val) :=
  (rot4_raw a _ _ r h d).trans (rope_of_raw (fun d => a (ix3 r h d)) _ _ x10 x11 f hf (cos_at x10) (sin_at x11) r d)

theorem turn1 (a : FVec Ideal S4608x1x64 .f32) (f : ℕ → EReal) (r : Fin 4608) (hf : ∀ d : Fin 64, @Eq EReal (a (ix3 r 0 d)) (f d.val)) (d : Fin 64) :
    @Eq EReal (rot1 a (val_main_v86 (F := Ideal) x10) (val_main_v88 (F := Ideal) x11) (ix3 r 0 d)) (ropeE f (cosr x10 r) (sinr x11 r) d.val) :=
  (rot1_raw a _ _ r d).trans (rope_of_raw (fun d => a (ix3 r 0 d)) _ _ x10 x11 f hf (cos_at x10) (sin_at x11) r d)

end Cert.Proof.PreRef

end
-- ==== Proof.PreRes.lean ====
/- The reference's results, entry by entry. -/
module

public import proofs.«01_k».proof.Proof.PreRef

@[expose] public section

set_option maxRecDepth 16384

noncomputable section

open Idealize.ShloMosaic Idealize.ShloMosaic.TcCoe Idealize.SL.Sem

namespace Cert.Proof.PreRes

open Cert.Reference9Ideal Cert.Reference9Ideal.Read PreRot PreBlk PreTurn PreRef

variable (x0 : FVec Ideal S2x2048x1024 .f32) (x1 : FVec Ideal S2x256x1024 .f32) (x2 : FVec Ideal S2x6144 .f32) (x3 : FVec Ideal S1x6144 .f32)
  (x4 : FVec Ideal S1x1024 .f32) (x5 : FVec Ideal S1024x2240 .f32) (x6 : FVec Ideal S1x384 .f32) (x7 : FVec Ideal S384x768 .f32)
  (x8 : FVec Ideal S1x256 .f32) (x9 : FVec Ideal S256x1024 .f32) (x10 x11 : FVec Ideal S2048x32 .f32)

theorem v105_eq : val_main_v105 (F := Ideal) x0 x1 x2 x3 x4 x5 x10 x11 = rot4 (val_main_v89 (F := Ideal) x0 x1 x2 x3 x4 x5) (val_main_v86 (F := Ideal) x10) (val_main_v88 (F := Ideal) x11) := rfl
theorem v124_eq : val_main_v124 (F := Ideal) x0 x1 x2 x3 x4 x5 x10 x11 = rot4 (val_main_v108 (F := Ideal) x0 x1 x2 x3 x4 x5) (val_main_v86 (F := Ideal) x10) (val_main_v88 (F := Ideal) x11) := rfl
theorem v141_eq : val_main_v141 (F := Ideal) x0 x1 x2 x3 x4 x5 x6 x7 x10 x11 = rot4 (val_main_v125 (F := Ideal) x0 x1 x2 x3 x4 x5 x6 x7) (val_main_v86 (F := Ideal) x10) (val_main_v88 (F := Ideal) x11) := rfl
theorem v154_eq : val_main_v154 (F := Ideal) x0 x1 x2 x3 x4 x5 x10 x11 = rot1 (val_main_v142 (F := Ideal) x0 x1 x2 x3 x4 x5) (val_main_v86 (F := Ideal) x10) (val_main_v88 (F := Ideal) x11) := rfl

theorem v105_at (r : Fin 4608) (h : Fin 4) (d : Fin 64) : @Eq EReal (val_main_v105 (F := Ideal) x0 x1 x2 x3 x4 x5 x10 x11 (ix3 r h d))
    (ropeE (Pn x0 x1 x2 x3 x4 x5 r) (cosr x10 r) (sinr x11 r) (64 * h.val + d.val)) := by
  rw [v105_eq, ropeE_shift _ _ _ _ _ d.isLt]
  refine turn4 x10 x11 _ _ r h (fun d => ?_) d
  rw [Pn_lt _ _ _ _ _ _ r _ (by omega)]
  unfold val_main_v89 val_main_v50
  generalize val_main_v49 (F := Ideal) x0 x1 x2 x3 x4 x5 = p
  pointwise
  first | done | (exact congrArg (fun q => p (ix2 r q)) (Fin.ext (by show h.val * 64 + d.val = 64 * h.val + d.val; omega)))

theorem v124_at (r : Fin 4608) (h : Fin 4) (d : Fin 64) : @Eq EReal (val_main_v124 (F := Ideal) x0 x1 x2 x3 x4 x5 x10 x11 (ix3 r h d))
    (ropeE (fun n => Pn x0 x1 x2 x3 x4 x5 r (256 + n) * eighth) (cosr x10 r) (sinr x11 r) (64 * h.val + d.val)) := by
  rw [v124_eq, ropeE_shift _ _ _ _ _ d.isLt]
  refine turn4 x10 x11 _ _ r h (fun d => ?_) d
  rw [Pn_lt _ _ _ _ _ _ r _ (by omega)]
  unfold val_main_v108 val_main_v107 val_main_cst_13 val_main_v106 val_main_v51
  generalize val_main_v49 (F := Ideal) x0 x1 x2 x3 x4 x5 = p
  pointwise
  first | done | (exact congrArg (fun q => (p (ix2 r q) : EReal) * eighth) (Fin.ext (by show 256 + (h.val * 64 + d.val) = 256 + (64 * h.val + d.val); omega)))

theorem v141_at (r : Fin 4608) (h : Fin 4) (d : Fin 64) : @Eq EReal (val_main_v141 (F := Ideal) x0 x1 x2 x3 x4 x5 x6 x7 x10 x11 (ix3 r h d))
    (ropeE (fun n => Qn x0 x1 x2 x3 x4 x5 x6 x7 r h (128 + n)) (cosr x10 r) (sinr x11 r) d.val) := by
  rw [v141_eq]
  refine turn4 x10 x11 _ _ r h (fun d => ?_) d
  have e : Qn x0 x1 x2 x3 x4 x5 x6 x7 r h (128 + d.val) = val_main_v81 (F := Ideal) x0 x1 x2 x3 x4 x5 x6 x7 (ix2 r ⟨h.val * 192 + (128 + d.val), by omega⟩) := dif_pos (by omega)
  rw [e]
  unfold val_main_v125 val_main_v82
  generalize val_main_v81 (F := Ideal) x0 x1 x2 x3 x4 x5 x6 x7 = q
  pointwise

theorem v154_at (r : Fin 4608) (d : Fin 64) : @Eq EReal (val_main_v154 (F := Ideal) x0 x1 x2 x3 x4 x5 x10 x11 (ix3 r 0 d))
    (ropeE (fun n => Pn x0 x1 x2 x3 x4 x5 r (2176 + n)) (cosr x10 r) (sinr x11 r) d.val) := by
  rw [v154_eq]
  refine turn1 x10 x11 _ _ r (fun d => ?_) d
  rw [Pn_lt _ _ _ _ _ _ r _ (by omega)]
  unfold val_main_v142 val_main_v56
  generalize val_main_v49 (F := Ideal) x0 x1 x2 x3 x4 x5 = p
  pointwise

/-! The results. -/

theorem out0_at (r : Fin 4608) (k : Fin 1024) : @Eq EReal (val_main_v160 (F := Ideal) x0 x1 x2 x3 x4 (ix2 r k)) (val_main_v48 (F := Ideal) x0 x1 x2 x3 x4 (ix2 r k)) := rfl

theorem out1_at (r : Fin 4608) (j : Fin 1152) : @Eq EReal (val_main_v161 (F := Ideal) x0 x1 x2 x3 x4 x5 (ix2 r j)) (Pn x0 x1 x2 x3 x4 x5 r (1024 + j.val)) := by
  have hj := j.isLt
  rw [Pn_lt _ _ _ _ _ _ r _ (by omega)]
  unfold val_main_v161 val_main_v53 val_main_v54 val_main_v55
  generalize val_main_v49 (F := Ideal) x0 x1 x2 x3 x4 x5 = p
  pointwise
  by_cases h : j.val < 512
  · exact dif_pos h
  · refine (dif_neg h).trans ?_
    by_cases h' : j.val - 512 < 384
    · exact (dif_pos h').trans (congrArg (fun q => p (ix2 r q)) (Fin.ext (by show 1536 + (j.val - 512) = 1024 + j.val; omega)))
    · exact (dif_neg h').trans (congrArg (fun q => p (ix2 r q)) (Fin.ext (by show 1920 + (j.val - 512 - 384) = 1024 + j.val; omega)))

theorem out2_at (r : Fin 4608) (j : Fin 256) : @Eq EReal (val_main_v163 (F := Ideal) x0 x1 x2 x3 x4 x5 x10 x11 (ix2 r j)) (ropeE (Pn x0 x1 x2 x3 x4 x5 r) (cosr x10 r) (sinr x11 r) j.val) := by
  have e : 64 * (j.val / 64) + j.val % 64 = j.val := by omega
  refine Eq.trans ?_ ((v105_at x0 x1 x2 x3 x4 x5 x10 x11 r ⟨j.val / 64, by omega⟩ ⟨j.val % 64, by omega⟩).trans (by show ropeE _ _ _ (64 * (j.val / 64) + j.val % 64) = _; rw [e]))
  unfold val_main_v163 val_main_v162
  generalize val_main_v105 (F := Ideal) x0 x1 x2 x3 x4 x5 x10 x11 = p
  pointwise

theorem out3_at (r : Fin 4608) (j : Fin 256) : @Eq EReal (val_main_v165 (F := Ideal) x0 x1 x2 x3 x4 x5 x10 x11 (ix2 r j)) (ropeE (fun n => Pn x0 x1 x2 x3 x4 x5 r (256 + n) * eighth) (cosr x10 r) (sinr x11 r) j.val) := by
  have e : 64 * (j.val / 64) + j.val % 64 = j.val := by omega
  refine Eq.trans ?_ ((v124_at x0 x1 x2 x3 x4 x5 x10 x11 r ⟨j.val / 64, by omega⟩ ⟨j.val % 64, by omega⟩).trans (by show ropeE _ _ _ (64 * (j.val / 64) + j.val % 64) = _; rw [e]))
  unfold val_main_v165 val_main_v164
  generalize val_main_v124 (F := Ideal) x0 x1 x2 x3 x4 x5 x10 x11 = p
  pointwise

theorem out4_at (r : Fin 4608) (j : Fin 512) : @Eq EReal (val_main_v166 (F := Ideal) x0 x1 x2 x3 x4 x5 (ix2 r j)) (Pn x0 x1 x2 x3 x4 x5 r (512 + j.val)) := by
  rw [Pn_lt _ _ _ _ _ _ r _ (by omega)]
  unfold val_main_v166 val_main_v52
  generalize val_main_v49 (F := Ideal) x0 x1 x2 x3 x4 x5 = p
  pointwise

theorem out5_at (r : Fin 4608) (j : Fin 384) : @Eq EReal (val_main_v167 (F := Ideal) x0 x1 x2 x3 x4 x5 x6 (ix2 r j)) (val_main_v68 (F := Ideal) x0 x1 x2 x3 x4 x5 x6 (ix2 r j)) := rfl

theorem out6_at (r : Fin 4608) (j : Fin 256) : @Eq EReal (val_main_v168 (F := Ideal) x0 x1 x2 x3 x4 x5 x8 (ix2 r j)) (val_main_v80 (F := Ideal) x0 x1 x2 x3 x4 x5 x8 (ix2 r j)) := rfl

theorem zero_int : @Eq EReal (FloatOps.sitofp (F := Ideal) .f32 0#32) 0 := by
  show (((0#32 : BitVec 32).toInt : ℝ) : EReal) = 0
  simp

theorem v170_at (r : Fin 4608) (h : Fin 4) (d : Fin 192) : @Eq EReal (val_main_v170 (F := Ideal) x0 x1 x2 x3 x4 x5 x6 x7 x10 x11 (ix3 r h d))
    (if hd : d.val < 128 then Qn x0 x1 x2 x3 x4 x5 x6 x7 r h d.val * qs
      else ropeE (fun n => Qn x0 x1 x2 x3 x4 x5 x6 x7 r h (128 + n) * qs) (cosr x10 r) (sinr x11 r) (d.val - 128)) := by
  have e0 : @Eq EReal (val_main_v170 (F := Ideal) x0 x1 x2 x3 x4 x5 x6 x7 x10 x11 (ix3 r h d)) ((if hd : d.val < 128 then val_main_v155 (F := Ideal) x0 x1 x2 x3 x4 x5 x6 x7 (ix3 r h ⟨d.val, hd⟩)
      else val_main_v141 (F := Ideal) x0 x1 x2 x3 x4 x5 x6 x7 x10 x11 (ix3 r h ⟨d.val - 128, by omega⟩) : EReal) * qs) := by
    unfold val_main_v170 val_main_v169 val_main_cst_14 val_main_v157
    generalize val_main_v155 (F := Ideal) x0 x1 x2 x3 x4 x5 x6 x7 = a
    generalize val_main_v141 (F := Ideal) x0 x1 x2 x3 x4 x5 x6 x7 x10 x11 = b
    pointwise
  rw [e0]
  split_ifs with hd
  · have e : Qn x0 x1 x2 x3 x4 x5 x6 x7 r h d.val = val_main_v81 (F := Ideal) x0 x1 x2 x3 x4 x5 x6 x7 (ix2 r ⟨h.val * 192 + d.val, by omega⟩) := dif_pos (by omega)
    rw [e]
    refine congrArg (fun q : EReal => q * qs) ?_
    unfold val_main_v155 val_main_v82
    generalize val_main_v81 (F := Ideal) x0 x1 x2 x3 x4 x5 x6 x7 = q
    pointwise
  · rw [v141_at, ropeE_scale]

theorem out7_at (r : Fin 4608) (j : Fin 1024) : @Eq EReal (val_main_v173 (F := Ideal) x0 x1 x2 x3 x4 x5 x6 x7 x10 x11 (ix2 r j))
    (if j.val % 256 < 128 then Qn x0 x1 x2 x3 x4 x5 x6 x7 r ⟨j.val / 256, by omega⟩ (j.val % 256) * qs
      else ropeE (fun n => Qn x0 x1 x2 x3 x4 x5 x6 x7 r ⟨j.val / 256, by omega⟩ (128 + n) * qs) (cosr x10 r) (sinr x11 r) (j.val % 256 - 128)) := by
  have e0 : @Eq EReal (val_main_v173 (F := Ideal) x0 x1 x2 x3 x4 x5 x6 x7 x10 x11 (ix2 r j)) (if hd : j.val % 256 < 192 then val_main_v170 (F := Ideal) x0 x1 x2 x3 x4 x5 x6 x7 x10 x11 (ix3 r ⟨j.val / 256, by omega⟩ ⟨j.val % 256, hd⟩) else 0 : EReal) := by
    unfold val_main_v173 val_main_v172 val_main_v171 val_main_call0_v0 val_main_c
    generalize val_main_v170 (F := Ideal) x0 x1 x2 x3 x4 x5 x6 x7 x10 x11 = a
    pointwise
    by_cases hd : j.val % 256 < 192
    · rw [dif_pos hd]
      exact dif_pos ⟨by omega, hd⟩
    · rw [dif_neg hd]
      exact (dif_neg fun h => hd h.2).trans zero_int
  rw [e0]
  by_cases hd : j.val % 256 < 192
  · rw [dif_pos hd, v170_at]
    split_ifs <;> rfl
  · rw [dif_neg hd, if_neg (by omega)]
    refine (ropeE_zero _ _ _ _ ?_ ?_ ?_).symm <;> intros <;> (refine mul_eq_zero_of_left (dif_neg (by omega)) _)

theorem v159_at (r : Fin 4608) (h : Fin 4) (d : Fin 192) : @Eq EReal (val_main_v159 (F := Ideal) x0 x1 x2 x3 x4 x5 x8 x9 x10 x11 (ix3 r h d))
    (if hd : d.val < 128 then val_main_v83 (F := Ideal) x0 x1 x2 x3 x4 x5 x8 x9 (ix2 r ⟨h.val * 256 + d.val, by omega⟩)
      else ropeE (fun n => Pn x0 x1 x2 x3 x4 x5 r (2176 + n)) (cosr x10 r) (sinr x11 r) (d.val - 128)) := by
  have e0 : @Eq EReal (val_main_v159 (F := Ideal) x0 x1 x2 x3 x4 x5 x8 x9 x10 x11 (ix3 r h d)) (if hd : d.val < 128 then val_main_v156 (F := Ideal) x0 x1 x2 x3 x4 x5 x8 x9 (ix3 r h ⟨d.val, hd⟩)
      else val_main_v154 (F := Ideal) x0 x1 x2 x3 x4 x5 x10 x11 (ix3 r 0 ⟨d.val - 128, by omega⟩) : EReal) := by
    unfold val_main_v159 val_main_v158
    generalize val_main_v156 (F := Ideal) x0 x1 x2 x3 x4 x5 x8 x9 = a
    generalize val_main_v154 (F := Ideal) x0 x1 x2 x3 x4 x5 x10 x11 = b
    pointwise
  rw [e0]
  split_ifs with hd
  · unfold val_main_v156 val_main_v84
    generalize val_main_v83 (F := Ideal) x0 x1 x2 x3 x4 x5 x8 x9 = q
    pointwise
  · rw [v154_at]

theorem out8_at (r : Fin 4608) (j : Fin 1024) : @Eq EReal (val_main_v176 (F := Ideal) x0 x1 x2 x3 x4 x5 x8 x9 x10 x11 (ix2 r j))
    (if j.val % 256 < 128 then val_main_v83 (F := Ideal) x0 x1 x2 x3 x4 x5 x8 x9 (ix2 r j)
      else ropeE (fun n => Pn x0 x1 x2 x3 x4 x5 r (2176 + n)) (cosr x10 r) (sinr x11 r) (j.val % 256 - 128)) := by
  have e0 : @Eq EReal (val_main_v176 (F := Ideal) x0 x1 x2 x3 x4 x5 x8 x9 x10 x11 (ix2 r j)) (if hd : j.val % 256 < 192 then val_main_v159 (F := Ideal) x0 x1 x2 x3 x4 x5 x8 x9 x10 x11 (ix3 r ⟨j.val / 256, by omega⟩ ⟨j.val % 256, hd⟩) else 0 : EReal) := by
    unfold val_main_v176 val_main_v175 val_main_v174 val_main_call1_v0 val_main_c_15
    generalize val_main_v159 (F := Ideal) x0 x1 x2 x3 x4 x5 x8 x9 x10 x11 = a
    pointwise
    by_cases hd : j.val % 256 < 192
    · rw [dif_pos hd]
      exact dif_pos ⟨by omega, hd⟩
    · rw [dif_neg hd]
      exact (dif_neg fun h => hd h.2).trans zero_int
  rw [e0]
  by_cases hd : j.val % 256 < 192
  · rw [dif_pos hd, v159_at]
    split_ifs with h
    · exact congrArg (fun q => val_main_v83 (F := Ideal) x0 x1 x2 x3 x4 x5 x8 x9 (ix2 r q)) (Fin.ext (by show j.val / 256 * 256 + j.val % 256 = j.val; omega))
    · rfl
  · rw [dif_neg hd, if_neg (by omega)]
    refine (ropeE_zero _ _ _ _ ?_ ?_ ?_).symm <;> intros <;> (refine dif_neg (by omega))

theorem out9_at (r : Fin 4608) (j : Fin 512) : @Eq EReal (val_main_v179 (F := Ideal) x0 x1 x2 x3 x4 x5 x8 x9 (ix2 r j)) (val_main_v83 (F := Ideal) x0 x1 x2 x3 x4 x5 x8 x9 (ix2 r ⟨j.val / 128 * 256 + (128 + j.val % 128), by omega⟩)) := by
  unfold val_main_v179 val_main_v178 val_main_v177 val_main_v84
  generalize val_main_v83 (F := Ideal) x0 x1 x2 x3 x4 x5 x8 x9 = q
  pointwise

end Cert.Proof.PreRes

end
-- ==== Proof.PreIn.lean ====
/- The kernel of the norms and projections: what its windows hold. -/
module

public import proofs.«01_k».proof.Proof.PreStage
public import proofs.«01_k».proof.Proof.PreRes

@[expose] public section

set_option maxRecDepth 16384

noncomputable section

open Idealize.ShloMosaic Idealize.ShloMosaic.TcCoe Idealize.SL.Sem

namespace Cert.Proof.PreIn

open Cert.Kernel9Ideal Cert.Kernel9Ideal.Gen PreStage PreRot PreBlk PreTurn

variable (m : (ℓ : Loc nD τ sig) → Buf (Elt Ideal) ℓ) (c : Dev nD)

/-! The twelve arguments. -/

abbrev A0 : FVec Ideal S2x2048x1024 .f32 := m ((c.tc : Thread nD τ).loc main_arg0)
abbrev A1 : FVec Ideal S2x256x1024 .f32 := m ((c.tc : Thread nD τ).loc main_arg1)
abbrev A2 : FVec Ideal S2x6144 .f32 := m ((c.tc : Thread nD τ).loc main_arg2)
abbrev A3 : FVec Ideal S1x6144 .f32 := m ((c.tc : Thread nD τ).loc main_arg3)
abbrev A4 : FVec Ideal S1x1024 .f32 := m ((c.tc : Thread nD τ).loc main_arg4)
abbrev A5 : FVec Ideal S1024x2240 .f32 := m ((c.tc : Thread nD τ).loc main_arg5)
abbrev A6 : FVec Ideal S1x384 .f32 := m ((c.tc : Thread nD τ).loc main_arg6)
abbrev A7 : FVec Ideal S384x768 .f32 := m ((c.tc : Thread nD τ).loc main_arg7)
abbrev A8 : FVec Ideal S1x256 .f32 := m ((c.tc : Thread nD τ).loc main_arg8)
abbrev A9 : FVec Ideal S256x1024 .f32 := m ((c.tc : Thread nD τ).loc main_arg9)
abbrev A10 : FVec Ideal S2048x32 .f32 := m ((c.tc : Thread nD τ).loc main_arg10)
abbrev A11 : FVec Ideal S2048x32 .f32 := m ((c.tc : Thread nD τ).loc main_arg11)

/-! The arrays the host lines prepare. -/

theorem v1_at (b : Fin 3) (q : Fin 6) (k : Fin 1024) : @Eq EReal (h_v1 m c (ix3 b q k))
    (if h : b.val < 2 then A2 m c (ix2 ⟨b.val, h⟩ ⟨q.val * 1024 + k.val, by omega⟩) else A3 m c (ix2 0 ⟨q.val * 1024 + k.val, by omega⟩)) := by
  rw [s_v1, s_v0]
  unfold h_arg2 h_arg3
  rw [V_main_arg2, V_main_arg3]
  pointwise
  by_cases h : b.val < 2
  · refine (dif_pos h).trans (Eq.trans ?_ (dif_pos h).symm)
    rfl
  · refine (dif_neg h).trans (Eq.trans ?_ (dif_neg h).symm)
    exact congrArg (fun p => A3 m c (ix2 p ⟨q.val * 1024 + k.val, by omega⟩)) (Fin.ext (by show b.val - 2 = 0; omega))

theorem v2_at (b : Fin 3) (q : Fin 8) (hq : q.val < 6) (k : Fin 1024) : @Eq EReal (h_v2 m c (ix3 b q k)) (h_v1 m c (ix3 b ⟨q.val, hq⟩ k)) := by
  rw [s_v2]
  generalize h_v1 m c = a
  generalize h_call0_v0 m c = z
  pointwise
  first | done | exact dif_pos hq

theorem zero_int (z : FVec Ideal S_ .f32) (h : z = sitofp .f32 (constantI S_ 32 0#32)) (i) : @Eq EReal (z i) 0 := by
  rw [h]
  exact PreRes.zero_int

theorem v5_at (n : Fin 2304) (k : Fin 1024) : @Eq EReal (h_v5 m c (ix2 n k)) (if h : n.val < 2240 then A5 m c (ix2 k ⟨n.val, h⟩) else 0 : EReal) := by
  have hz := zero_int (h_call1_v0 m c) (by rw [s_call1_v0, s_c_0])
  rw [s_v5, s_v4, s_v3]
  unfold h_arg5
  rw [V_main_arg5]
  generalize h_call1_v0 m c = z at hz ⊢
  pointwise
  simp only [hz]

theorem v9_at (h : Fin 4) (n : Fin 256) (k : Fin 384) : @Eq EReal (h_v9 m c (ix3 h n k))
    (if hn : n.val < 192 then A7 m c (ix2 k ⟨h.val * 192 + n.val, by omega⟩) else 0 : EReal) := by
  have hz := zero_int (h_call2_v0 m c) (by rw [s_call2_v0, s_c_1])
  rw [s_v9, s_v8, s_v7, s_v6]
  unfold h_arg7
  rw [V_main_arg7]
  generalize h_call2_v0 m c = z at hz ⊢
  pointwise
  simp only [hz]

theorem v12_at (h : Fin 4) (k n : Fin 256) : @Eq EReal (h_v12 m c (ix3 h k n)) (A9 m c (ix2 k ⟨h.val * 256 + n.val, by omega⟩)) := by
  rw [s_v12, s_v11, s_v10]
  unfold h_arg9
  rw [V_main_arg9]
  pointwise

theorem v17_at (i : Fin 2560) (j : Fin 256) : @Eq EReal (h_v17 m c (ix2 i j))
    (if h : i.val < 2048 then A10 m c (ix2 ⟨i.val, h⟩ ⟨j.val % 32, by omega⟩) else 1 : EReal) := by
  have e : ∀ z : FVec Ideal S_ .f32, z = constant S_ .f32 0x3F800000#32 → ∀ i, @Eq EReal (z i) 1 := fun z h i => by
    rw [h]
    show Ideal.ofBits .f32 0x3F800000#32 = _
    have e : Ideal.ofBits .f32 0x3F800000#32 = ((1 : ℝ) : EReal) := by
      simp [Ideal.ofBits, Ideal.ieee, -EReal.coe_mul]
      norm_num
    rw [e, EReal.coe_one]
  have hz := e (h_cst m c) (s_cst m c)
  rw [s_v17, s_v16, s_v15, s_v14, s_v13]
  unfold h_arg10
  rw [V_main_arg10]
  generalize h_cst m c = z at hz ⊢
  pointwise
  simp only [hz]

theorem v24_at (i : Fin 2560) (j : Fin 256) : @Eq EReal (h_v24 m c (ix2 i j))
    (if h : i.val < 2048 then (if j.val % 64 < 32 then -(A11 m c (ix2 ⟨i.val, h⟩ ⟨j.val % 32, by omega⟩) : EReal) else A11 m c (ix2 ⟨i.val, h⟩ ⟨j.val % 32, by omega⟩)) else 0 : EReal) := by
  have e : ∀ z : FVec Ideal S_ .f32, z = constant S_ .f32 0x00000000#32 → ∀ i, @Eq EReal (z i) 0 := fun z h i => by
    rw [h]
    show Ideal.ofBits .f32 0x00000000#32 = _
    simp [Ideal.ofBits, Ideal.ieee, -EReal.coe_mul]
  have hz := e (h_cst_2 m c) (s_cst_2 m c)
  rw [s_v24, s_v23, s_v22, s_v21, s_v20, s_v19, s_v18]
  unfold h_arg11
  rw [V_main_arg11]
  generalize h_cst_2 m c = z at hz ⊢
  pointwise
  simp only [hz]
  by_cases h : i.val < 2048
  · refine (dif_pos h).trans (Eq.trans ?_ (dif_pos h).symm)
    by_cases h1 : j.val % 64 < 32
    · refine (dif_pos h1).trans (Eq.trans ?_ (if_pos h1).symm)
      exact congrArg (fun p => (-(A11 m c (ix2 ⟨i.val, h⟩ p)) : EReal)) (Fin.ext (by show j.val % 64 = j.val % 32; omega))
    · refine (dif_neg h1).trans (Eq.trans ?_ (if_neg h1).symm)
      exact congrArg (fun p => A11 m c (ix2 ⟨i.val, h⟩ p)) (Fin.ext (by show j.val % 64 - 32 = j.val % 32; omega))
  · refine (dif_neg h).trans (Eq.trans ?_ (dif_neg h).symm)
    rfl

theorem v25_at (r : Fin 4096) (k : Fin 1024) : @Eq EReal (h_v25 m c (ix2 r k)) (A0 m c (ix3 ⟨r.val / 2048, by omega⟩ ⟨r.val % 2048, by omega⟩ k)) := by
  rw [s_v25]
  unfold h_arg0
  rw [V_main_arg0]
  pointwise

theorem v26_at (r : Fin 512) (k : Fin 1024) : @Eq EReal (h_v26 m c (ix2 r k)) (A1 m c (ix3 ⟨r.val / 256, by omega⟩ ⟨r.val % 256, by omega⟩ k)) := by
  rw [s_v26]
  unfold h_arg1
  rw [V_main_arg1]
  pointwise

/-! The windows. -/

theorem idx : ∀ t : Fin cfg0.N, (cfg0.win 0).index t = ![min t.val 7, 0] ∧ (cfg0.win 1).index t = ![t.val - 8, 0] ∧ (cfg0.win 2).index t = ![min (t.val / 4) 2, 0, 0]
    ∧ (cfg0.win 3).index t = ![0, 0] ∧ (cfg0.win 4).index t = ![0, 0] ∧ (cfg0.win 5).index t = ![0, 0] ∧ (cfg0.win 6).index t = ![0, 0]
    ∧ (cfg0.win 7).index t = ![0, 0, 0] ∧ (cfg0.win 8).index t = ![0, 0, 0]
    ∧ (cfg0.win 9).index t = ![if t.val < 8 then t.val % 4 else 4, 0] ∧ (cfg0.win 10).index t = ![if t.val < 8 then t.val % 4 else 4, 0] := by decide +kernel

theorem lt9 (t : Fin cfg0.N) : t.val < 9 := lt_of_lt_of_eq t.isLt N_0

theorem coord : ∀ t : Fin cfg0.N, (grid0.coords t 0).val = t.val := by decide +kernel

/-- The rows of the whole array a grid point takes. -/
def row (t : Fin cfg0.N) (a : Fin 512) : Fin 4608 := ⟨t.val * 512 + a.val, by have := lt9 t; omega⟩

variable (t : Fin cfg0.N)

theorem w0 (ht : t.val < 8) (a : Fin 512) (k : Fin 1024) : @Eq EReal (iblk m c 0 t (ix2 a k)) (h_v25 m c (ix2 ⟨t.val * 512 + a.val, by omega⟩ k)) := by
  have e : min t.val 7 = t.val := by omega
  unfold h_v25
  blk_ext [iblk, idx t, e]

theorem w1 (ht : ¬ t.val < 8) (a : Fin 512) (k : Fin 1024) : @Eq EReal (iblk m c 1 t (ix2 a k)) (h_v26 m c (ix2 a k)) := by
  have e : t.val - 8 = 0 := by have := lt9 t; omega
  unfold h_v26
  blk_ext [iblk, idx t, e]

theorem w2 (q : Fin 8) (k : Fin 1024) : @Eq EReal (iblk m c 2 t (ix3 0 q k)) (h_v2 m c (ix3 ⟨min (t.val / 4) 2, by omega⟩ q k)) := by
  unfold h_v2
  blk_ext [iblk, idx t]

theorem w3 (k : Fin 1024) : @Eq EReal (iblk m c 3 t (ix2 0 k)) (A4 m c (ix2 0 k)) := by
  refine Eq.trans ?_ (congrFun (V_main_arg4 m c) (ix2 0 k))
  blk_ext [iblk, idx t]

theorem w4 (n : Fin 2304) (k : Fin 1024) : @Eq EReal (iblk m c 4 t (ix2 n k)) (h_v5 m c (ix2 n k)) := by
  unfold h_v5
  blk_ext [iblk, idx t]

theorem w5 (k : Fin 384) : @Eq EReal (iblk m c 5 t (ix2 0 k)) (A6 m c (ix2 0 k)) := by
  refine Eq.trans ?_ (congrFun (V_main_arg6 m c) (ix2 0 k))
  blk_ext [iblk, idx t]

theorem w6 (k : Fin 256) : @Eq EReal (iblk m c 6 t (ix2 0 k)) (A8 m c (ix2 0 k)) := by
  refine Eq.trans ?_ (congrFun (V_main_arg8 m c) (ix2 0 k))
  blk_ext [iblk, idx t]

theorem w7 (h : Fin 4) (n : Fin 256) (k : Fin 384) : @Eq EReal (iblk m c 7 t (ix3 h n k)) (h_v9 m c (ix3 h n k)) := by
  unfold h_v9
  blk_ext [iblk, idx t]

theorem w8 (h : Fin 4) (k n : Fin 256) : @Eq EReal (iblk m c 8 t (ix3 h k n)) (h_v12 m c (ix3 h k n)) := by
  unfold h_v12
  blk_ext [iblk, idx t]

/-- The rows of the tables a grid point takes. -/
def trow (t : Fin cfg0.N) (a : Fin 512) : Fin 2560 := ⟨(if t.val < 8 then t.val % 4 else 4) * 512 + a.val, by split_ifs <;> omega⟩

theorem w9 (a : Fin 512) (j : Fin 256) : @Eq EReal (iblk m c 9 t (ix2 a j)) (h_v17 m c (ix2 (trow t a) j)) := by
  unfold h_v17 trow
  blk_ext [iblk, idx t]

theorem w10 (a : Fin 512) (j : Fin 256) : @Eq EReal (iblk m c 10 t (ix2 a j)) (h_v24 m c (ix2 (trow t a) j)) := by
  unfold h_v24 trow
  blk_ext [iblk, idx t]

theorem trow_lo (ht : t.val < 8) (a : Fin 512) : (trow t a).val = t.val % 4 * 512 + a.val := by
  show (if t.val < 8 then t.val % 4 else 4) * 512 + a.val = _
  rw [if_pos ht]

theorem trow_hi (ht : ¬ t.val < 8) (a : Fin 512) : (trow t a).val = 2048 + a.val := by
  show (if t.val < 8 then t.val % 4 else 4) * 512 + a.val = _
  rw [if_neg ht]

theorem row_val (a : Fin 512) : (row t a).val = t.val * 512 + a.val := rfl

theorem rows_eq (ht : t.val < 8) (a : Fin 512) : (trow t a).val = (row t a).val % 2048 := by
  rw [trow_lo t ht, row_val]
  have := a.isLt
  omega

/-- The tables, as the reference's rows take them. -/
theorem cos_blk (a : Fin 512) (j : Fin 256) : @Eq EReal (iblk m c 9 t (ix2 a j)) (cosr (A10 m c) (row t a) (j.val % 32)) := by
  rw [w9, v17_at]
  have ha := a.isLt
  have hj : j.val % 32 < 32 := by omega
  unfold cosr
  by_cases h : t.val < 8
  · have h1 := trow_lo t h a
    have h2 := row_val t a
    rw [dif_pos (show (trow t a).val < 2048 by omega), if_pos (show (row t a).val < 4096 by omega), dif_pos hj]
    exact congrArg (fun q => A10 m c (ix2 q ⟨j.val % 32, hj⟩)) (Fin.ext (rows_eq t h a))
  · have h1 := trow_hi t h a
    have h2 := row_val t a
    rw [dif_neg (show ¬ (trow t a).val < 2048 by omega), if_neg (show ¬ (row t a).val < 4096 by omega)]

theorem sin_blk (a : Fin 512) (j : Fin 256) : @Eq EReal (iblk m c 10 t (ix2 a j)) (sgn (sinr (A11 m c) (row t a)) j.val) := by
  rw [w10, v24_at]
  have ha := a.isLt
  have hj : j.val % 32 < 32 := by omega
  unfold sgn sinr
  by_cases h : t.val < 8
  · have h1 := trow_lo t h a
    have h2 := row_val t a
    have h3 : (row t a).val < 4096 := by omega
    rw [dif_pos (show (trow t a).val < 2048 by omega)]
    simp only [if_pos h3, dif_pos hj]
    have e : ∀ p q, (⟨(trow t a).val, p⟩ : Fin 2048) = ⟨(row t a).val % 2048, q⟩ := fun p q => Fin.ext (rows_eq t h a)
    rw [e _ (by omega)]
  · have h1 := trow_hi t h a
    have h2 := row_val t a
    have h3 : ¬ (row t a).val < 4096 := by omega
    rw [dif_neg (show ¬ (trow t a).val < 2048 by omega)]
    simp only [if_neg h3, neg_zero, ite_self]

end Cert.Proof.PreIn

end
-- ==== Proof.PreRow.lean ====
/- The kernel of the norms and projections: what a grid point computes, against the reference's rows. -/
module

public import proofs.«01_k».proof.Proof.PreIn

@[expose] public section

set_option maxRecDepth 16384

noncomputable section

open Idealize.ShloMosaic Idealize.ShloMosaic.TcCoe Idealize.SL.Sem

namespace Cert.Proof.PreRow

open Cert.Kernel9Ideal Cert.Kernel9Ideal.Gen PreRot PreBlk PreTurn PreIn

variable (m : (ℓ : Loc nD τ sig) → Buf (Elt Ideal) ℓ) (c : Dev nD) (t : Fin cfg0.N)

/-! A load of a part of a block. -/

theorem ld_sh (x : FVec Ideal S1x8x1024 .f32) (k : Fin 1024) : @Eq EReal (View.ld (Val := Elt Ideal) (e' := .f32) x r0_1 (ix3 0 0 k)) (x (ix3 0 0 k)) :=
  congrArg x (by funext a; apply Fin.ext; show (![0, 0, 0] : Fin 3 → ℕ) a + 1 * ((ix3 0 0 k : S1x1x1024.Idx) a).val = _; fin_cases a <;> simp [ix3])
theorem ld_sc (x : FVec Ideal S1x8x1024 .f32) (k : Fin 1024) : @Eq EReal (View.ld (Val := Elt Ideal) (e' := .f32) x r0_2 (ix3 0 0 k)) (x (ix3 0 1 k)) :=
  congrArg x (by funext a; apply Fin.ext; show (![0, 1, 0] : Fin 3 → ℕ) a + 1 * ((ix3 0 0 k : S1x1x1024.Idx) a).val = _; fin_cases a <;> simp [ix3])

theorem ld_q0 (x : FVec Ideal S4x256x384 .bf16) (n : Fin 256) (k : Fin 384) : @Eq EReal (View.ld (Val := Elt Ideal) (e' := .bf16) x r0_11 (ix3 0 n k)) (x (ix3 0 n k)) :=
  congrArg x (by funext a; apply Fin.ext; show (![0, 0, 0] : Fin 3 → ℕ) a + 1 * ((ix3 0 n k : S1x256x384.Idx) a).val = _; fin_cases a <;> simp [ix3])
theorem ld_k0 (x : FVec Ideal S4x256x256 .bf16) (k n : Fin 256) : @Eq EReal (View.ld (Val := Elt Ideal) (e' := .bf16) x r0_14 (ix3 0 k n)) (x (ix3 0 k n)) :=
  congrArg x (by funext a; apply Fin.ext; show (![0, 0, 0] : Fin 3 → ℕ) a + 1 * ((ix3 0 k n : S1x256x256.Idx) a).val = _; fin_cases a <;> simp [ix3])
theorem ld_q1 (x : FVec Ideal S4x256x384 .bf16) (n : Fin 256) (k : Fin 384) : @Eq EReal (View.ld (Val := Elt Ideal) (e' := .bf16) x r0_16 (ix3 0 n k)) (x (ix3 1 n k)) :=
  congrArg x (by funext a; apply Fin.ext; show (![1, 0, 0] : Fin 3 → ℕ) a + 1 * ((ix3 0 n k : S1x256x384.Idx) a).val = _; fin_cases a <;> simp [ix3])
theorem ld_k1 (x : FVec Ideal S4x256x256 .bf16) (k n : Fin 256) : @Eq EReal (View.ld (Val := Elt Ideal) (e' := .bf16) x r0_19 (ix3 0 k n)) (x (ix3 1 k n)) :=
  congrArg x (by funext a; apply Fin.ext; show (![1, 0, 0] : Fin 3 → ℕ) a + 1 * ((ix3 0 k n : S1x256x256.Idx) a).val = _; fin_cases a <;> simp [ix3])
theorem ld_q2 (x : FVec Ideal S4x256x384 .bf16) (n : Fin 256) (k : Fin 384) : @Eq EReal (View.ld (Val := Elt Ideal) (e' := .bf16) x r0_21 (ix3 0 n k)) (x (ix3 2 n k)) :=
  congrArg x (by funext a; apply Fin.ext; show (![2, 0, 0] : Fin 3 → ℕ) a + 1 * ((ix3 0 n k : S1x256x384.Idx) a).val = _; fin_cases a <;> simp [ix3])
theorem ld_k2 (x : FVec Ideal S4x256x256 .bf16) (k n : Fin 256) : @Eq EReal (View.ld (Val := Elt Ideal) (e' := .bf16) x r0_24 (ix3 0 k n)) (x (ix3 2 k n)) :=
  congrArg x (by funext a; apply Fin.ext; show (![2, 0, 0] : Fin 3 → ℕ) a + 1 * ((ix3 0 k n : S1x256x256.Idx) a).val = _; fin_cases a <;> simp [ix3])
theorem ld_q3 (x : FVec Ideal S4x256x384 .bf16) (n : Fin 256) (k : Fin 384) : @Eq EReal (View.ld (Val := Elt Ideal) (e' := .bf16) x r0_26 (ix3 0 n k)) (x (ix3 3 n k)) :=
  congrArg x (by funext a; apply Fin.ext; show (![3, 0, 0] : Fin 3 → ℕ) a + 1 * ((ix3 0 n k : S1x256x384.Idx) a).val = _; fin_cases a <;> simp [ix3])
theorem ld_k3 (x : FVec Ideal S4x256x256 .bf16) (k n : Fin 256) : @Eq EReal (View.ld (Val := Elt Ideal) (e' := .bf16) x r0_29 (ix3 0 k n)) (x (ix3 3 k n)) :=
  congrArg x (by funext a; apply Fin.ext; show (![3, 0, 0] : Fin 3 → ℕ) a + 1 * ((ix3 0 k n : S1x256x256.Idx) a).val = _; fin_cases a <;> simp [ix3])

/-! The projected rows. -/

abbrev HH : FVec Ideal S512x1024 .bf16 := k0_pay5 (F := Ideal) (grid0.coords t) (iblk m c 0 t) (iblk m c 1 t) (View.ld (Val := Elt Ideal) (e' := .f32) (iblk m c 2 t) r0_1) (View.ld (Val := Elt Ideal) (e' := .f32) (iblk m c 2 t) r0_2) (iblk m c 3 t)
abbrev PP : FVec Ideal S512x2304 .f32 := k0_pay57 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev NQ : FVec Ideal S512x384 .bf16 := k0_pay62 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev NK : FVec Ideal S512x256 .bf16 := k0_pay63 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev CC : FVec Ideal S512x128 .f32 := k0_pay64 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)
abbrev SS : FVec Ideal S512x128 .f32 := k0_pay65 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t)

theorem HH_at (a : Fin 512) (k : Fin 1024) : @Eq EReal (HH m c t (ix2 a k)) (Cert.Reference9Ideal.Read.val_main_v48 (F := Ideal) (A0 m c) (A1 m c) (A2 m c) (A3 m c) (A4 m c) (ix2 (row t a) k)) := by
  refine (pay5_at _ _ _ _ _ _ a k).trans ?_
  have ha := a.isLt
  have h9 := lt9 t
  rw [coord t, slt8 ⟨t.val, h9⟩]
  rw [ld_sh, ld_sc, w2, w2, v2_at m c _ _ (by decide), v2_at m c _ _ (by decide), v1_at, v1_at, w3]
  by_cases ht : t.val < 8
  · rw [PreRef.v48_x _ _ _ _ _ (row t a) (by rw [row_val]; omega), PreRef.v22_at]
    have hb : min (t.val / 4) 2 < 2 := by omega
    have eb : ∀ p q, (⟨min (t.val / 4) 2, p⟩ : Fin 2) = ⟨(row t a).val / 2048, q⟩ := fun p q => Fin.ext (by show min (t.val / 4) 2 = (row t a).val / 2048; rw [row_val]; omega)
    have e1 : ∀ p, (⟨1 * 1024 + k.val, p⟩ : Fin 6144) = ⟨1024 + k.val, by omega⟩ := fun p => Fin.ext (by show 1 * 1024 + k.val = 1024 + k.val; omega)
    have e0 : ∀ p, (⟨0 * 1024 + k.val, p⟩ : Fin 6144) = ⟨k.val, by omega⟩ := fun p => Fin.ext (by show 0 * 1024 + k.val = k.val; omega)
    simp only [dif_pos hb, if_pos ht]
    refine congr (congr (congr (congr (congrArg modn ?_) rfl) ?_) ?_) rfl
    · funext k
      refine (w0 m c t ht a k).trans ((v25_at m c _ k).trans ?_)
      rfl
    · exact congrArg₂ (fun p q => A2 m c (ix2 p q)) (eb _ _) (e1 _)
    · exact congrArg₂ (fun p q => A2 m c (ix2 p q)) (eb _ _) (e0 _)
  · rw [PreRef.v48_c _ _ _ _ _ (row t a) (by rw [row_val]; omega), PreRef.v45_at]
    have hb : ¬ min (t.val / 4) 2 < 2 := by omega
    have e1 : ∀ p, (⟨1 * 1024 + k.val, p⟩ : Fin 6144) = ⟨1024 + k.val, by omega⟩ := fun p => Fin.ext (by show 1 * 1024 + k.val = 1024 + k.val; omega)
    have e0 : ∀ p, (⟨0 * 1024 + k.val, p⟩ : Fin 6144) = ⟨k.val, by omega⟩ := fun p => Fin.ext (by show 0 * 1024 + k.val = k.val; omega)
    simp only [dif_neg hb, if_neg ht]
    refine congr (congr (congr (congr (congrArg modn ?_) rfl) ?_) ?_) rfl
    · funext k
      refine (w1 m c t ht a k).trans ((v26_at m c _ k).trans ?_)
      have f1 : ∀ p q, (⟨a.val / 256, p⟩ : Fin 2) = ⟨((row t a).val - 4096) / 256, q⟩ := fun p q => Fin.ext (by show a.val / 256 = ((row t a).val - 4096) / 256; rw [row_val]; omega)
      have f2 : ∀ p q, (⟨a.val % 256, p⟩ : Fin 256) = ⟨((row t a).val - 4096) % 256, q⟩ := fun p q => Fin.ext (by show a.val % 256 = ((row t a).val - 4096) % 256; rw [row_val]; omega)
      exact congrArg₂ (fun p q => A1 m c (ix3 p q k)) (f1 _ _) (f2 _ _)
    · exact congrArg (fun q => A3 m c (ix2 0 q)) (e1 _)
    · exact congrArg (fun q => A3 m c (ix2 0 q)) (e0 _)

theorem PP_at (a : Fin 512) (j : Fin 2304) : @Eq EReal (PP m c t (ix2 a j)) (PreRef.Pn (A0 m c) (A1 m c) (A2 m c) (A3 m c) (A4 m c) (A5 m c) (row t a) j.val) := by
  unfold PP k0_pay57
  rw [View.ld_unit_lit _ _ (by decide), View.ld_unit_lit _ _ (by decide), View.ld_unit_lit _ _ (by decide), View.ld_unit_lit _ _ (by decide)]
  refine (pay6_at _ _ _ _ _ _ _ a j).trans ?_
  rw [PreRef.Pn_sum]
  refine Finset.sum_congr rfl fun k _ => ?_
  exact congr (congrArg (fun p q : EReal => p * q) (HH_at m c t a k)) ((w4 m c t j k).trans (v5_at m c j k))

theorem NQ_at (a : Fin 512) (j : Fin 384) : @Eq EReal (NQ m c t (ix2 a j)) (Cert.Reference9Ideal.Read.val_main_v68 (F := Ideal) (A0 m c) (A1 m c) (A2 m c) (A3 m c) (A4 m c) (A5 m c) (A6 m c) (ix2 (row t a) j)) := by
  unfold NQ k0_pay62 k0_pay61
  rw [View.ld_unit_lit _ _ (by decide)]
  refine (pay17_at _ _ a j).trans ?_
  rw [PreRef.v68_at, w5]
  have e := fun j => PP_at m c t a j
  simp only [PP] at e
  simp only [e]

theorem NK_at (a : Fin 512) (j : Fin 256) : @Eq EReal (NK m c t (ix2 a j)) (Cert.Reference9Ideal.Read.val_main_v80 (F := Ideal) (A0 m c) (A1 m c) (A2 m c) (A3 m c) (A4 m c) (A5 m c) (A8 m c) (ix2 (row t a) j)) := by
  unfold NK k0_pay63 k0_pay60
  rw [View.ld_unit_lit _ _ (by decide)]
  refine (pay18_at _ _ a j).trans ?_
  rw [PreRef.v80_at, w6]
  have e := fun j => PP_at m c t a j
  simp only [PP] at e
  simp only [e]

theorem cc_eq : k0_pay58 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) = iblk m c 9 t := by
  unfold k0_pay58
  rw [View.ld_unit_lit _ _ (by decide)]
  exact pay7 _

theorem ss_eq : k0_pay59 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) = iblk m c 10 t := by
  unfold k0_pay59
  rw [View.ld_unit_lit _ _ (by decide)]
  exact pay8 _

theorem CC_at (a : Fin 512) (j : Fin 128) : @Eq EReal (CC m c t (ix2 a j)) (cosr (A10 m c) (row t a) (j.val % 32)) := by
  unfold CC k0_pay64
  rw [cc_eq]
  exact (pay19_at _ a j).trans (cos_blk m c t a ⟨j.val, by omega⟩)

theorem SS_at (a : Fin 512) (j : Fin 128) : @Eq EReal (SS m c t (ix2 a j)) (sgn (sinr (A11 m c) (row t a)) j.val) := by
  unfold SS k0_pay65
  rw [ss_eq]
  exact (pay20_at _ a j).trans (sin_blk m c t a ⟨j.val, by omega⟩)

/-! The rotated rows. -/

theorem o13_at (a : Fin 512) (j : Fin 256) : @Eq EReal (k0_pay9 (F := Ideal) (PP m c t) (iblk m c 9 t) (iblk m c 10 t) (ix2 a j))
    (ropeE (PreRef.Pn (A0 m c) (A1 m c) (A2 m c) (A3 m c) (A4 m c) (A5 m c) (row t a)) (cosr (A10 m c) (row t a)) (sinr (A11 m c) (row t a)) j.val) := by
  rw [pay9, pay7, pay8]
  exact rope256_at _ _ _ _ _ _ a (fun j => (slice0_at _ a j).trans (PP_at m c t a ⟨j.val, by omega⟩)) (cos_blk m c t a) (sin_blk m c t a) j

theorem o14_at (a : Fin 512) (j : Fin 256) : @Eq EReal (rope256 (k0_pay10 (F := Ideal) (PP m c t)) (iblk m c 9 t) (iblk m c 10 t) (ix2 a j))
    (ropeE (fun n => PreRef.Pn (A0 m c) (A1 m c) (A2 m c) (A3 m c) (A4 m c) (A5 m c) (row t a) (256 + n) * eighth) (cosr (A10 m c) (row t a)) (sinr (A11 m c) (row t a)) j.val) :=
  rope256_at _ _ _ _ _ _ a (fun j => (pay10_at _ a j).trans (congrArg (fun p : EReal => p * eighth) (PP_at m c t a ⟨256 + j.val, by omega⟩))) (cos_blk m c t a) (sin_blk m c t a) j

theorem kr_at (a : Fin 512) (j : Fin 128) : @Eq EReal (rope128 (k0_pay21 (F := Ideal) (PP m c t)) (CC m c t) (SS m c t) (ix2 a j))
    (ropeE (fun n => PreRef.Pn (A0 m c) (A1 m c) (A2 m c) (A3 m c) (A4 m c) (A5 m c) (row t a) (2176 + n)) (cosr (A10 m c) (row t a)) (sinr (A11 m c) (row t a)) j.val) :=
  rope128_at _ _ _ _ _ _ a (fun j => (pay21_at _ a j).trans (PP_at m c t a ⟨2176 + j.val, by omega⟩)) (CC_at m c t a) (SS_at m c t a) j

/-! One head: its queries, its keys, its values. -/

section

variable (h : Fin 4) (w : FVec Ideal S1x256x384 .bf16) (hw : ∀ (n : Fin 256) (k : Fin 384), @Eq EReal (w (ix3 0 n k)) (PreStage.h_v9 m c (ix3 h n k)))
  (u : FVec Ideal S1x256x256 .bf16) (hu : ∀ k n : Fin 256, @Eq EReal (u (ix3 0 k n)) (PreStage.h_v12 m c (ix3 h k n)))

include hw in
theorem q_sum (a : Fin 512) (n : Fin 256) : (∑ k : Fin 384, (NQ m c t (ix2 a k) : EReal) * w (ix3 0 n k)) = PreRef.Qn (A0 m c) (A1 m c) (A2 m c) (A3 m c) (A4 m c) (A5 m c) (A6 m c) (A7 m c) (row t a) h n.val := by
  rw [PreRef.Qn_sum]
  refine Finset.sum_congr rfl fun k _ => ?_
  exact congr (congrArg (fun p q : EReal => p * q) (NQ_at m c t a k)) ((hw n k).trans (v9_at m c h n k))

include hw in
theorem qn_at (a : Fin 512) (j : Fin 128) : @Eq EReal (k0_pay26 (F := Ideal) (NQ m c t) w (ix2 a j)) (PreRef.Qn (A0 m c) (A1 m c) (A2 m c) (A3 m c) (A4 m c) (A5 m c) (A6 m c) (A7 m c) (row t a) h j.val * qs) :=
  (pay26_at _ w a j).trans (congrArg (fun p : EReal => p * qs) (q_sum m c t h w hw a ⟨j.val, by omega⟩))

include hw in
theorem qr_at (a : Fin 512) (j : Fin 128) : @Eq EReal (rope128 (k0_pay27 (F := Ideal) (NQ m c t) w) (CC m c t) (SS m c t) (ix2 a j))
    (ropeE (fun n => PreRef.Qn (A0 m c) (A1 m c) (A2 m c) (A3 m c) (A4 m c) (A5 m c) (A6 m c) (A7 m c) (row t a) h (128 + n) * qs) (cosr (A10 m c) (row t a)) (sinr (A11 m c) (row t a)) j.val) :=
  rope128_at _ _ _ _ _ _ a (fun j => (pay27_at _ w a j).trans (congrArg (fun p : EReal => p * qs) (q_sum m c t h w hw a ⟨128 + j.val, by omega⟩))) (CC_at m c t a) (SS_at m c t a) j

include hu in
theorem k_sum (a : Fin 512) (n : Fin 256) : @Eq EReal (∑ k : Fin 256, (NK m c t (ix2 a k) : EReal) * u (ix3 0 k n)) (Cert.Reference9Ideal.Read.val_main_v83 (F := Ideal) (A0 m c) (A1 m c) (A2 m c) (A3 m c) (A4 m c) (A5 m c) (A8 m c) (A9 m c) (ix2 (row t a) ⟨h.val * 256 + n.val, by omega⟩)) := by
  rw [PreRef.v83_at]
  refine Finset.sum_congr rfl fun k _ => ?_
  exact congr (congrArg (fun p q : EReal => p * q) (NK_at m c t a k)) ((hu k n).trans (v12_at m c h k n))

include hu in
theorem kn_at (a : Fin 512) (j : Fin 128) : @Eq EReal (k0_pay33 (F := Ideal) (NK m c t) u (ix2 a j)) (Cert.Reference9Ideal.Read.val_main_v83 (F := Ideal) (A0 m c) (A1 m c) (A2 m c) (A3 m c) (A4 m c) (A5 m c) (A8 m c) (A9 m c) (ix2 (row t a) ⟨h.val * 256 + j.val, by omega⟩)) :=
  (pay33_at _ u a j).trans (k_sum m c t h u hu a ⟨j.val, by omega⟩)

include hu in
theorem vn_at (a : Fin 512) (j : Fin 128) : @Eq EReal (k0_pay34 (F := Ideal) (NK m c t) u (ix2 a j)) (Cert.Reference9Ideal.Read.val_main_v83 (F := Ideal) (A0 m c) (A1 m c) (A2 m c) (A3 m c) (A4 m c) (A5 m c) (A8 m c) (A9 m c) (ix2 (row t a) ⟨h.val * 256 + (128 + j.val), by omega⟩)) :=
  (pay34_at _ u a j).trans (k_sum m c t h u hu a ⟨128 + j.val, by omega⟩)

end

end Cert.Proof.PreRow

end
-- ==== Proof.PreOut.lean ====
/- The kernel of the norms and projections: what its grid points write, and its ten result arrays. -/
module

public import Idealize.ShloMosaic.Lib.Pipeline.ReadBack
public import proofs.«01_k».proof.Proof.PreRow

@[expose] public section

set_option maxRecDepth 16384

noncomputable section

open Idealize.ShloMosaic Idealize.ShloMosaic.TcCoe Idealize.SL.Sem

namespace Cert.Proof.PreOut

open Cert.Kernel9Ideal Cert.Kernel9Ideal.Gen PreRot PreBlk PreTurn PreIn PreRow

/-- Where an index of a band of `k` columns from `o` on lies in a block of `n` rows and `w` columns. -/
theorem emb_band {n k w o : ℕ} (h : ∀ a, (![0, o] : Fin 2 → ℕ) a + (![n, k] : Fin 2 → ℕ) a ≤ (![n, w] : Fin 2 → ℕ) a) (ho : o + k ≤ w) (r : Fin n) (x : Fin k) :
    (Rect.unit (s := ⟨2, ![n, w]⟩) ![0, o] ![n, k] h).emb (ix2 r x) = ix2 r ⟨o + x.val, by omega⟩ := by
  funext a
  apply Fin.ext
  show (![0, o] : Fin 2 → ℕ) a + 1 * ((ix2 r x) a).val = _
  fin_cases a <;> simp [ix2]

theorem idxo : ∀ t : Fin cfg0.N, (cfg0.win 11).index t = ![t.val, 0]
    ∧ (cfg0.win 12).index t = ![t.val, 0]
    ∧ (cfg0.win 13).index t = ![t.val, 0]
    ∧ (cfg0.win 14).index t = ![t.val, 0]
    ∧ (cfg0.win 15).index t = ![t.val, 0]
    ∧ (cfg0.win 16).index t = ![t.val, 0]
    ∧ (cfg0.win 17).index t = ![t.val, 0]
    ∧ (cfg0.win 18).index t = ![t.val, 0]
    ∧ (cfg0.win 19).index t = ![t.val, 0]
    ∧ (cfg0.win 20).index t = ![t.val, 0] := by decide +kernel

variable (m : (ℓ : Loc nD τ sig) → Buf (Elt Ideal) ℓ) (c : Dev nD) (t : Fin cfg0.N)

/-! The ten arrays, as the reference's. -/

abbrev G11 : FVec Ideal S4608x1024 .bf16 := Cert.Reference9Ideal.Read.val_main_v160 (F := Ideal) (A0 m c) (A1 m c) (A2 m c) (A3 m c) (A4 m c)
abbrev G12 : FVec Ideal S4608x1152 .f32 := Cert.Reference9Ideal.Read.val_main_v161 (F := Ideal) (A0 m c) (A1 m c) (A2 m c) (A3 m c) (A4 m c) (A5 m c)
abbrev G13 : FVec Ideal S4608x256 .bf16 := Cert.Reference9Ideal.Read.val_main_v163 (F := Ideal) (A0 m c) (A1 m c) (A2 m c) (A3 m c) (A4 m c) (A5 m c) (A10 m c) (A11 m c)
abbrev G14 : FVec Ideal S4608x256 .bf16 := Cert.Reference9Ideal.Read.val_main_v165 (F := Ideal) (A0 m c) (A1 m c) (A2 m c) (A3 m c) (A4 m c) (A5 m c) (A10 m c) (A11 m c)
abbrev G15 : FVec Ideal S4608x512 .bf16 := Cert.Reference9Ideal.Read.val_main_v166 (F := Ideal) (A0 m c) (A1 m c) (A2 m c) (A3 m c) (A4 m c) (A5 m c)
abbrev G16 : FVec Ideal S4608x384 .bf16 := Cert.Reference9Ideal.Read.val_main_v167 (F := Ideal) (A0 m c) (A1 m c) (A2 m c) (A3 m c) (A4 m c) (A5 m c) (A6 m c)
abbrev G17 : FVec Ideal S4608x256 .bf16 := Cert.Reference9Ideal.Read.val_main_v168 (F := Ideal) (A0 m c) (A1 m c) (A2 m c) (A3 m c) (A4 m c) (A5 m c) (A8 m c)
abbrev G18 : FVec Ideal S4608x1024 .bf16 := Cert.Reference9Ideal.Read.val_main_v173 (F := Ideal) (A0 m c) (A1 m c) (A2 m c) (A3 m c) (A4 m c) (A5 m c) (A6 m c) (A7 m c) (A10 m c) (A11 m c)
abbrev G19 : FVec Ideal S4608x1024 .bf16 := Cert.Reference9Ideal.Read.val_main_v176 (F := Ideal) (A0 m c) (A1 m c) (A2 m c) (A3 m c) (A4 m c) (A5 m c) (A8 m c) (A9 m c) (A10 m c) (A11 m c)
abbrev G20 : FVec Ideal S4608x512 .bf16 := Cert.Reference9Ideal.Read.val_main_v179 (F := Ideal) (A0 m c) (A1 m c) (A2 m c) (A3 m c) (A4 m c) (A5 m c) (A8 m c) (A9 m c)

/-! The bands of one head. -/

section

variable (h : Fin 4) (w : FVec Ideal S1x256x384 .bf16) (hw : ∀ (n : Fin 256) (k : Fin 384), @Eq EReal (w (ix3 0 n k)) (PreStage.h_v9 m c (ix3 h n k)))
  (u : FVec Ideal S1x256x256 .bf16) (hu : ∀ k n : Fin 256, @Eq EReal (u (ix3 0 k n)) (PreStage.h_v12 m c (ix3 h k n)))
  (a : Fin 512) (x : Fin 128) (o : ℕ)

include hw in
theorem q_lo (ho : o = h.val * 256) (p : o + x.val < 1024) : @Eq EReal (k0_pay26 (F := Ideal) (NQ m c t) w (ix2 a x)) (G18 m c (ix2 (row t a) ⟨o + x.val, p⟩)) := by
  subst ho
  have hx := x.isLt
  refine (qn_at m c t h w hw a x).trans (Eq.trans ?_ (PreRes.out7_at _ _ _ _ _ _ _ _ _ _ (row t a) ⟨h.val * 256 + x.val, p⟩).symm)
  rw [if_pos (show (h.val * 256 + x.val) % 256 < 128 by omega)]
  exact congrArg₂ (fun p q => PreRef.Qn (A0 m c) (A1 m c) (A2 m c) (A3 m c) (A4 m c) (A5 m c) (A6 m c) (A7 m c) (row t a) p q * qs) (Fin.ext (show h.val = (h.val * 256 + x.val) / 256 by omega))
    (show x.val = (h.val * 256 + x.val) % 256 by omega)

include hw in
theorem q_hi (ho : o = h.val * 256 + 128) (p : o + x.val < 1024) : @Eq EReal (rope128 (k0_pay27 (F := Ideal) (NQ m c t) w) (CC m c t) (SS m c t) (ix2 a x))
    (G18 m c (ix2 (row t a) ⟨o + x.val, p⟩)) := by
  subst ho
  have hx := x.isLt
  refine (qr_at m c t h w hw a x).trans (Eq.trans ?_ (PreRes.out7_at _ _ _ _ _ _ _ _ _ _ (row t a) ⟨h.val * 256 + 128 + x.val, p⟩).symm)
  rw [if_neg (show ¬ (h.val * 256 + 128 + x.val) % 256 < 128 by omega)]
  exact congrArg₂ (fun p q => ropeE (fun n => PreRef.Qn (A0 m c) (A1 m c) (A2 m c) (A3 m c) (A4 m c) (A5 m c) (A6 m c) (A7 m c) (row t a) p (128 + n) * qs) (cosr (A10 m c) (row t a)) (sinr (A11 m c) (row t a)) q)
    (Fin.ext (show h.val = (h.val * 256 + 128 + x.val) / 256 by omega)) (show x.val = (h.val * 256 + 128 + x.val) % 256 - 128 by omega)

include hu in
theorem k_lo (ho : o = h.val * 256) (p : o + x.val < 1024) : @Eq EReal (k0_pay33 (F := Ideal) (NK m c t) u (ix2 a x)) (G19 m c (ix2 (row t a) ⟨o + x.val, p⟩)) := by
  subst ho
  have hx := x.isLt
  refine (kn_at m c t h u hu a x).trans (Eq.trans ?_ (PreRes.out8_at _ _ _ _ _ _ _ _ _ _ (row t a) ⟨h.val * 256 + x.val, p⟩).symm)
  rw [if_pos (show (h.val * 256 + x.val) % 256 < 128 by omega)]

theorem k_hi (ho : o = h.val * 256 + 128) (p : o + x.val < 1024) : @Eq EReal (rope128 (k0_pay21 (F := Ideal) (PP m c t)) (CC m c t) (SS m c t) (ix2 a x))
    (G19 m c (ix2 (row t a) ⟨o + x.val, p⟩)) := by
  subst ho
  have hx := x.isLt
  refine (kr_at m c t a x).trans (Eq.trans ?_ (PreRes.out8_at _ _ _ _ _ _ (A8 m c) (A9 m c) _ _ (row t a) ⟨h.val * 256 + 128 + x.val, p⟩).symm)
  rw [if_neg (show ¬ (h.val * 256 + 128 + x.val) % 256 < 128 by omega)]
  exact congrArg (fun q => ropeE (fun n => PreRef.Pn (A0 m c) (A1 m c) (A2 m c) (A3 m c) (A4 m c) (A5 m c) (row t a) (2176 + n)) (cosr (A10 m c) (row t a)) (sinr (A11 m c) (row t a)) q) (show x.val = (h.val * 256 + 128 + x.val) % 256 - 128 by omega)

include hu in
theorem v_lo (ho : o = h.val * 128) (p : o + x.val < 512) : @Eq EReal (k0_pay34 (F := Ideal) (NK m c t) u (ix2 a x)) (G20 m c (ix2 (row t a) ⟨o + x.val, p⟩)) := by
  subst ho
  have hx := x.isLt
  refine (vn_at m c t h u hu a x).trans (Eq.trans ?_ (PreRes.out9_at _ _ _ _ _ _ _ _ (row t a) ⟨h.val * 128 + x.val, p⟩).symm)
  exact congrArg (fun q => Cert.Reference9Ideal.Read.val_main_v83 (F := Ideal) (A0 m c) (A1 m c) (A2 m c) (A3 m c) (A4 m c) (A5 m c) (A8 m c) (A9 m c) (ix2 (row t a) q))
    (Fin.ext (show h.val * 256 + (128 + x.val) = (h.val * 128 + x.val) / 128 * 256 + (128 + (h.val * 128 + x.val) % 128) by omega))

end

/-! The blocks a point writes. -/

theorem b11 (a : Fin 512) (j : Fin 1024) : @Eq EReal (out0_11 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G11 m c (ix2 (row t a) j)) := by
  unfold out0_11
  rw [View.canon_cons_unit_lit _ _ _ (by decide), View.ld_unit_lit _ _ (by decide), View.ld_unit_lit _ _ (by decide), View.ld_unit_lit _ _ (by decide)]
  exact HH_at m c t a j

theorem b12 (a : Fin 512) (j : Fin 1152) : @Eq EReal (out0_12 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G12 m c (ix2 (row t a) j)) := by
  unfold out0_12
  rw [View.canon_cons_unit_lit _ _ _ (by decide)]
  exact (pay14_at _ a j).trans ((PP_at m c t a ⟨1024 + j.val, by omega⟩).trans (PreRes.out1_at _ _ _ _ _ _ (row t a) j).symm)

theorem b13 (a : Fin 512) (j : Fin 256) : @Eq EReal (out0_13 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G13 m c (ix2 (row t a) j)) := by
  unfold out0_13
  rw [View.canon_cons_unit_lit _ _ _ (by decide), View.ld_unit_lit _ _ (by decide), View.ld_unit_lit _ _ (by decide)]
  exact (o13_at m c t a j).trans (PreRes.out2_at _ _ _ _ _ _ _ _ (row t a) j).symm

theorem b14 (a : Fin 512) (j : Fin 256) : @Eq EReal (out0_14 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G14 m c (ix2 (row t a) j)) := by
  unfold out0_14
  rw [View.canon_cons_unit_lit _ _ _ (by decide)]
  rw [pay12, cc_eq, ss_eq]
  exact (o14_at m c t a j).trans (PreRes.out3_at _ _ _ _ _ _ _ _ (row t a) j).symm

theorem b15 (a : Fin 512) (j : Fin 512) : @Eq EReal (out0_15 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G15 m c (ix2 (row t a) j)) := by
  unfold out0_15
  rw [View.canon_cons_unit_lit _ _ _ (by decide)]
  exact (pay13_at _ a j).trans ((PP_at m c t a ⟨512 + j.val, by omega⟩).trans (PreRes.out4_at _ _ _ _ _ _ (row t a) j).symm)

theorem b16 (a : Fin 512) (j : Fin 384) : @Eq EReal (out0_16 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G16 m c (ix2 (row t a) j)) := by
  unfold out0_16
  rw [View.canon_cons_unit_lit _ _ _ (by decide)]
  refine Eq.trans ?_ ((NQ_at m c t a j).trans (PreRes.out5_at _ _ _ _ _ _ _ (row t a) j).symm)
  unfold NQ k0_pay62
  rfl

theorem b17 (a : Fin 512) (j : Fin 256) : @Eq EReal (out0_17 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 a j)) (G17 m c (ix2 (row t a) j)) := by
  unfold out0_17
  rw [View.canon_cons_unit_lit _ _ _ (by decide)]
  refine Eq.trans ?_ ((NK_at m c t a j).trans (PreRes.out6_at _ _ _ _ _ _ _ (row t a) j).symm)
  unfold NK k0_pay63
  rfl

/-- The block of window 18. -/
def B18 : FVec Ideal S512x1024 .bf16 := fun y => G18 m c (ix2 (row t (y 0)) (y 1))

set_option maxHeartbeats 2000000 in
theorem b18 (y : S512x1024.Idx) : @Eq EReal (out0_18 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y) (B18 m c t y) := by
  unfold out0_18 k0_pay68 k0_pay67
  refine View.canon_append_of_piecesOf (Val := Elt Ideal) (e := .bf16) (B18 m c t) [] [_, _, _, _, _, _, _, _]
    ⟨fun (x : S512x128.Idx) => ?_, fun (x : S512x128.Idx) => ?_, fun (x : S512x128.Idx) => ?_, fun (x : S512x128.Idx) => ?_, fun (x : S512x128.Idx) => ?_, fun (x : S512x128.Idx) => ?_, fun (x : S512x128.Idx) => ?_, fun (x : S512x128.Idx) => ?_, trivial⟩ y (cover0_18 _ _ _ _ _ _ _ _ y)
  all_goals obtain ⟨r, f, rfl⟩ : ∃ r f, x = ix2 r f := ⟨_, _, eq_ix2 x⟩
  · refine Eq.trans ((congrFun (pay1 _ _ _ _) _).trans (q_hi m c t 3 (View.ld (Val := Elt Ideal) (e' := .bf16) (iblk m c 7 t) r0_26) (fun n k => (ld_q3 _ n k).trans (w7 m c t 3 n k)) r f 896 rfl (by omega))) (congrArg (B18 m c t) (emb_band inb_S512x1024_S512x128_0_896 (by decide) r f)).symm
  · refine Eq.trans ((congrFun (pay53 _ _) _).trans (q_lo m c t 3 (View.ld (Val := Elt Ideal) (e' := .bf16) (iblk m c 7 t) r0_26) (fun n k => (ld_q3 _ n k).trans (w7 m c t 3 n k)) r f 768 rfl (by omega))) (congrArg (B18 m c t) (emb_band inb_S512x1024_S512x128_0_768 (by decide) r f)).symm
  · refine Eq.trans ((congrFun (pay47 _ _ _ _) _).trans (q_hi m c t 2 (View.ld (Val := Elt Ideal) (e' := .bf16) (iblk m c 7 t) r0_21) (fun n k => (ld_q2 _ n k).trans (w7 m c t 2 n k)) r f 640 rfl (by omega))) (congrArg (B18 m c t) (emb_band inb_S512x1024_S512x128_0_640 (by decide) r f)).symm
  · refine Eq.trans ((congrFun (pay46 _ _) _).trans (q_lo m c t 2 (View.ld (Val := Elt Ideal) (e' := .bf16) (iblk m c 7 t) r0_21) (fun n k => (ld_q2 _ n k).trans (w7 m c t 2 n k)) r f 512 rfl (by omega))) (congrArg (B18 m c t) (emb_band inb_S512x1024_S512x128_0_512 (by decide) r f)).symm
  · refine Eq.trans ((congrFun (pay40 _ _ _) _).trans (q_hi m c t 1 (View.ld (Val := Elt Ideal) (e' := .bf16) (iblk m c 7 t) r0_16) (fun n k => (ld_q1 _ n k).trans (w7 m c t 1 n k)) r f 384 rfl (by omega))) (congrArg (B18 m c t) (emb_band inb_S512x1024_S512x128_0_384 (by decide) r f)).symm
  · refine Eq.trans ((congrFun (pay36 _ _) _).trans (q_lo m c t 1 (View.ld (Val := Elt Ideal) (e' := .bf16) (iblk m c 7 t) r0_16) (fun n k => (ld_q1 _ n k).trans (w7 m c t 1 n k)) r f 256 rfl (by omega))) (congrArg (B18 m c t) (emb_band inb_S512x1024_S512x128_0_256 (by decide) r f)).symm
  · refine Eq.trans ((congrFun (pay31 _ _ _ _) _).trans (q_hi m c t 0 (View.ld (Val := Elt Ideal) (e' := .bf16) (iblk m c 7 t) r0_11) (fun n k => (ld_q0 _ n k).trans (w7 m c t 0 n k)) r f 128 rfl (by omega))) (congrArg (B18 m c t) (emb_band inb_S512x1024_S512x128_0_128 (by decide) r f)).symm
  · refine Eq.trans (q_lo m c t 0 (View.ld (Val := Elt Ideal) (e' := .bf16) (iblk m c 7 t) r0_11) (fun n k => (ld_q0 _ n k).trans (w7 m c t 0 n k)) r f 0 rfl (by omega)) (congrArg (B18 m c t) (emb_band inb_S512x1024_S512x128_0_0 (by decide) r f)).symm

/-- The block of window 19. -/
def B19 : FVec Ideal S512x1024 .bf16 := fun y => G19 m c (ix2 (row t (y 0)) (y 1))

set_option maxHeartbeats 2000000 in
theorem b19 (y : S512x1024.Idx) : @Eq EReal (out0_19 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y) (B19 m c t y) := by
  unfold out0_19 k0_pay66
  refine View.canon_append_of_piecesOf (Val := Elt Ideal) (e := .bf16) (B19 m c t) [] [_, _, _, _, _, _, _, _]
    ⟨fun (x : S512x128.Idx) => ?_, fun (x : S512x128.Idx) => ?_, fun (x : S512x128.Idx) => ?_, fun (x : S512x128.Idx) => ?_, fun (x : S512x128.Idx) => ?_, fun (x : S512x128.Idx) => ?_, fun (x : S512x128.Idx) => ?_, fun (x : S512x128.Idx) => ?_, trivial⟩ y (cover0_19 _ _ _ _ _ _ _ _ y)
  all_goals obtain ⟨r, f, rfl⟩ : ∃ r f, x = ix2 r f := ⟨_, _, eq_ix2 x⟩
  · refine Eq.trans ((congrFun (pay24 _ _ _) _).trans (k_hi m c t 3 r f 896 rfl (by omega))) (congrArg (B19 m c t) (emb_band inb_S512x1024_S512x128_0_896 (by decide) r f)).symm
  · refine Eq.trans ((congrFun (pay3 _ _) _).trans (k_lo m c t 3 (View.ld (Val := Elt Ideal) (e' := .bf16) (iblk m c 8 t) r0_29) (fun n k => (ld_k3 _ n k).trans (w8 m c t 3 n k)) r f 768 rfl (by omega))) (congrArg (B19 m c t) (emb_band inb_S512x1024_S512x128_0_768 (by decide) r f)).symm
  · refine Eq.trans ((congrFun (pay24 _ _ _) _).trans (k_hi m c t 2 r f 640 rfl (by omega))) (congrArg (B19 m c t) (emb_band inb_S512x1024_S512x128_0_640 (by decide) r f)).symm
  · refine Eq.trans ((congrFun (pay50 _ _) _).trans (k_lo m c t 2 (View.ld (Val := Elt Ideal) (e' := .bf16) (iblk m c 8 t) r0_24) (fun n k => (ld_k2 _ n k).trans (w8 m c t 2 n k)) r f 512 rfl (by omega))) (congrArg (B19 m c t) (emb_band inb_S512x1024_S512x128_0_512 (by decide) r f)).symm
  · refine Eq.trans ((congrFun (pay24 _ _ _) _).trans (k_hi m c t 1 r f 384 rfl (by omega))) (congrArg (B19 m c t) (emb_band inb_S512x1024_S512x128_0_384 (by decide) r f)).symm
  · refine Eq.trans ((congrFun (pay42 _ _) _).trans (k_lo m c t 1 (View.ld (Val := Elt Ideal) (e' := .bf16) (iblk m c 8 t) r0_19) (fun n k => (ld_k1 _ n k).trans (w8 m c t 1 n k)) r f 256 rfl (by omega))) (congrArg (B19 m c t) (emb_band inb_S512x1024_S512x128_0_256 (by decide) r f)).symm
  · refine Eq.trans ((congrFun (pay24 _ _ _) _).trans (k_hi m c t 0 r f 128 rfl (by omega))) (congrArg (B19 m c t) (emb_band inb_S512x1024_S512x128_0_128 (by decide) r f)).symm
  · refine Eq.trans (k_lo m c t 0 (View.ld (Val := Elt Ideal) (e' := .bf16) (iblk m c 8 t) r0_14) (fun n k => (ld_k0 _ n k).trans (w8 m c t 0 n k)) r f 0 rfl (by omega)) (congrArg (B19 m c t) (emb_band inb_S512x1024_S512x128_0_0 (by decide) r f)).symm

/-- The block of window 20. -/
def B20 : FVec Ideal S512x512 .bf16 := fun y => G20 m c (ix2 (row t (y 0)) (y 1))

set_option maxHeartbeats 2000000 in
theorem b20 (y : S512x512.Idx) : @Eq EReal (out0_20 (F := Ideal) (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) y) (B20 m c t y) := by
  unfold out0_20
  refine View.canon_append_of_piecesOf (Val := Elt Ideal) (e := .bf16) (B20 m c t) [] [_, _, _, _]
    ⟨fun (x : S512x128.Idx) => ?_, fun (x : S512x128.Idx) => ?_, fun (x : S512x128.Idx) => ?_, fun (x : S512x128.Idx) => ?_, trivial⟩ y (cover0_20 _ _ _ _ y)
  all_goals obtain ⟨r, f, rfl⟩ : ∃ r f, x = ix2 r f := ⟨_, _, eq_ix2 x⟩
  · refine Eq.trans ((congrFun (pay4 _ _) _).trans (v_lo m c t 3 (View.ld (Val := Elt Ideal) (e' := .bf16) (iblk m c 8 t) r0_29) (fun n k => (ld_k3 _ n k).trans (w8 m c t 3 n k)) r f 384 rfl (by omega))) (congrArg (B20 m c t) (emb_band inb_S512x512_S512x128_0_384 (by decide) r f)).symm
  · refine Eq.trans ((congrFun (pay51 _ _) _).trans (v_lo m c t 2 (View.ld (Val := Elt Ideal) (e' := .bf16) (iblk m c 8 t) r0_24) (fun n k => (ld_k2 _ n k).trans (w8 m c t 2 n k)) r f 256 rfl (by omega))) (congrArg (B20 m c t) (emb_band inb_S512x512_S512x128_0_256 (by decide) r f)).symm
  · refine Eq.trans ((congrFun (pay43 _ _) _).trans (v_lo m c t 1 (View.ld (Val := Elt Ideal) (e' := .bf16) (iblk m c 8 t) r0_19) (fun n k => (ld_k1 _ n k).trans (w8 m c t 1 n k)) r f 128 rfl (by omega))) (congrArg (B20 m c t) (emb_band inb_S512x512_S512x128_0_128 (by decide) r f)).symm
  · refine Eq.trans (v_lo m c t 0 (View.ld (Val := Elt Ideal) (e' := .bf16) (iblk m c 8 t) r0_14) (fun n k => (ld_k0 _ n k).trans (w8 m c t 0 n k)) r f 0 rfl (by omega)) (congrArg (B20 m c t) (emb_band inb_S512x512_S512x128_0_0 (by decide) r f)).symm

/-! The ten arrays. -/

theorem arr11 : (dats m 0 c).arrAt 11 cfg0.N = G11 m c := by
  refine (dats m 0 c).arrAt_eq_of_covers 11 _ (by decide +kernel) fun t hf y => ?_
  have := lt9 t
  blk_simp
  rw [after0_11]
  idx_vars y
  have e : ((cfg0.win 11).blk t).view.emb (ix2 y0 y1) = ix2 (row t y0) y1 := by
    unfold row
    blk_ext [idxo t]
  exact (b11 m c t y0 y1).trans (congrArg (G11 m c) e).symm

theorem arr12 : (dats m 0 c).arrAt 12 cfg0.N = G12 m c := by
  refine (dats m 0 c).arrAt_eq_of_covers 12 _ (by decide +kernel) fun t hf y => ?_
  have := lt9 t
  blk_simp
  rw [after0_12]
  idx_vars y
  have e : ((cfg0.win 12).blk t).view.emb (ix2 y0 y1) = ix2 (row t y0) y1 := by
    unfold row
    blk_ext [idxo t]
  exact (b12 m c t y0 y1).trans (congrArg (G12 m c) e).symm

theorem arr13 : (dats m 0 c).arrAt 13 cfg0.N = G13 m c := by
  refine (dats m 0 c).arrAt_eq_of_covers 13 _ (by decide +kernel) fun t hf y => ?_
  have := lt9 t
  blk_simp
  rw [after0_13]
  idx_vars y
  have e : ((cfg0.win 13).blk t).view.emb (ix2 y0 y1) = ix2 (row t y0) y1 := by
    unfold row
    blk_ext [idxo t]
  exact (b13 m c t y0 y1).trans (congrArg (G13 m c) e).symm

theorem arr14 : (dats m 0 c).arrAt 14 cfg0.N = G14 m c := by
  refine (dats m 0 c).arrAt_eq_of_covers 14 _ (by decide +kernel) fun t hf y => ?_
  have := lt9 t
  blk_simp
  rw [after0_14]
  idx_vars y
  have e : ((cfg0.win 14).blk t).view.emb (ix2 y0 y1) = ix2 (row t y0) y1 := by
    unfold row
    blk_ext [idxo t]
  exact (b14 m c t y0 y1).trans (congrArg (G14 m c) e).symm

theorem arr15 : (dats m 0 c).arrAt 15 cfg0.N = G15 m c := by
  refine (dats m 0 c).arrAt_eq_of_covers 15 _ (by decide +kernel) fun t hf y => ?_
  have := lt9 t
  blk_simp
  rw [after0_15]
  idx_vars y
  have e : ((cfg0.win 15).blk t).view.emb (ix2 y0 y1) = ix2 (row t y0) y1 := by
    unfold row
    blk_ext [idxo t]
  exact (b15 m c t y0 y1).trans (congrArg (G15 m c) e).symm

theorem arr16 : (dats m 0 c).arrAt 16 cfg0.N = G16 m c := by
  refine (dats m 0 c).arrAt_eq_of_covers 16 _ (by decide +kernel) fun t hf y => ?_
  have := lt9 t
  blk_simp
  rw [after0_16]
  idx_vars y
  have e : ((cfg0.win 16).blk t).view.emb (ix2 y0 y1) = ix2 (row t y0) y1 := by
    unfold row
    blk_ext [idxo t]
  exact (b16 m c t y0 y1).trans (congrArg (G16 m c) e).symm

theorem arr17 : (dats m 0 c).arrAt 17 cfg0.N = G17 m c := by
  refine (dats m 0 c).arrAt_eq_of_covers 17 _ (by decide +kernel) fun t hf y => ?_
  have := lt9 t
  blk_simp
  rw [after0_17]
  idx_vars y
  have e : ((cfg0.win 17).blk t).view.emb (ix2 y0 y1) = ix2 (row t y0) y1 := by
    unfold row
    blk_ext [idxo t]
  exact (b17 m c t y0 y1).trans (congrArg (G17 m c) e).symm

theorem arr18 : (dats m 0 c).arrAt 18 cfg0.N = G18 m c := by
  refine (dats m 0 c).arrAt_eq_of_covers 18 _ (by decide +kernel) fun t hf y => ?_
  have := lt9 t
  blk_simp
  rw [after0_18]
  idx_vars y
  have e : ((cfg0.win 18).blk t).view.emb (ix2 y0 y1) = ix2 (row t y0) y1 := by
    unfold row
    blk_ext [idxo t]
  exact (b18 m c t (ix2 y0 y1)).trans (congrArg (G18 m c) e).symm

theorem arr19 : (dats m 0 c).arrAt 19 cfg0.N = G19 m c := by
  refine (dats m 0 c).arrAt_eq_of_covers 19 _ (by decide +kernel) fun t hf y => ?_
  have := lt9 t
  blk_simp
  rw [after0_19]
  idx_vars y
  have e : ((cfg0.win 19).blk t).view.emb (ix2 y0 y1) = ix2 (row t y0) y1 := by
    unfold row
    blk_ext [idxo t]
  exact (b19 m c t (ix2 y0 y1)).trans (congrArg (G19 m c) e).symm

theorem arr20 : (dats m 0 c).arrAt 20 cfg0.N = G20 m c := by
  refine (dats m 0 c).arrAt_eq_of_covers 20 _ (by decide +kernel) fun t hf y => ?_
  have := lt9 t
  blk_simp
  rw [after0_20]
  idx_vars y
  have e : ((cfg0.win 20).blk t).view.emb (ix2 y0 y1) = ix2 (row t y0) y1 := by
    unfold row
    blk_ext [idxo t]
  exact (b20 m c t (ix2 y0 y1)).trans (congrArg (G20 m c) e).symm

end Cert.Proof.PreOut

end
-- ==== Proof.PreClaim.lean ====
/- The claims about the norms and projections: the reference's frame, and the equality over the ideal numbers. -/
module

public import Idealize.ShloMosaic.Adequacy
public import Idealize.ShloMosaic.Init
public import proofs.«01_k».proof.Defs
public import proofs.«01_k».proof.Proof.PreOut
public import proofs.«01_k».proof.Proof.Gen.Kernel9Ideal.Value
public import proofs.«01_k».proof.Proof.Gen.Reference9Ideal.Run

@[expose] public section

set_option maxRecDepth 16384

noncomputable section

open Idealize.ShloMosaic Idealize.ShloMosaic.TcCoe Idealize.SL.Sem

namespace Cert.Proof.PreClaim

open PreIn PreOut

/-- The reference's frame: a program of host operations declares no semaphore. -/
theorem ref_frame : Cert.quiescent_Reference9Ideal (hReference9Ideal := Cert.Reference9Ideal.Gen.facts) := fun m g _ =>
  (θ_run _ _ _).mono (fun r h => ⟨fun c => (h c).2.2.2.2.2.2.2.2.2.2, sem_eq_zero_of_no_sems rfl r.2⟩) (Cert.Reference9Ideal.Value.run (F := Ideal) m g)

set_option maxHeartbeats 4000000 in
/-- The claim about the ten results: no precondition. -/
theorem algebraic : Cert.algebraic_Kernel9Ideal_Reference9Ideal (hKernel9Ideal := Cert.Kernel9Ideal.Gen.facts)
    (hReference9Ideal := Cert.Reference9Ideal.Gen.facts) := by
  intro m g m' g' hpre hagree
  refine ⟨_, _, _, _, _, _, _, _, _, _, (θ_run _ _ _).mono (fun r h c => h c) (Cert.Kernel9Ideal.Value.run_blocks (F := Ideal) m g), ?_⟩
  refine (θ_run _ _ _).mono (fun r h c => ?_) (Cert.Reference9Ideal.Value.run (F := Ideal) m' g')
  obtain ⟨h0, h1, h2, h3, h4, h5, h6, h7, h8, h9, hargs⟩ := h c
  obtain ⟨a0, a1, a2, a3, a4, a5, a6, a7, a8, a9, a10, a11⟩ := hagree c
  have e0 := h0.trans (Cert.Reference9Ideal.Read.val_main_v160_eq _)
  have e1 := h1.trans (Cert.Reference9Ideal.Read.val_main_v161_eq _)
  have e2 := h2.trans (Cert.Reference9Ideal.Read.val_main_v163_eq _)
  have e3 := h3.trans (Cert.Reference9Ideal.Read.val_main_v165_eq _)
  have e4 := h4.trans (Cert.Reference9Ideal.Read.val_main_v166_eq _)
  have e5 := h5.trans (Cert.Reference9Ideal.Read.val_main_v167_eq _)
  have e6 := h6.trans (Cert.Reference9Ideal.Read.val_main_v168_eq _)
  have e7 := h7.trans (Cert.Reference9Ideal.Read.val_main_v173_eq _)
  have e8 := h8.trans (Cert.Reference9Ideal.Read.val_main_v176_eq _)
  have e9 := h9.trans (Cert.Reference9Ideal.Read.val_main_v179_eq _)
  have f0 : Cert.Reference9Ideal.Read.val_main_v160 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) = G11 m c := by
    rw [a0, a1, a2, a3, a4]
  have f1 : Cert.Reference9Ideal.Read.val_main_v161 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) = G12 m c := by
    rw [a0, a1, a2, a3, a4, a5]
  have f2 : Cert.Reference9Ideal.Read.val_main_v163 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg10)) (m' ((c.tc : Thread Cert.Reference9Ideal.nD Cert.Reference9Ideal.τ).loc Cert.Reference9Ideal.main_arg11)) = G13 m c := by
    rw [a0, a1, a2, a3, a4, a5, a10, a11]
  have f3 : Cert.Reference9Ideal.Read.val_main_v165 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg10)) (m' ((c.tc : Thread Cert.Reference9Ideal.nD Cert.Reference9Ideal.τ).loc Cert.Reference9Ideal.main_arg11)) = G14 m c := by
    rw [a0, a1, a2, a3, a4, a5, a10, a11]
  have f4 : Cert.Reference9Ideal.Read.val_main_v166 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) = G15 m c := by
    rw [a0, a1, a2, a3, a4, a5]
  have f5 : Cert.Reference9Ideal.Read.val_main_v167 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) = G16 m c := by
    rw [a0, a1, a2, a3, a4, a5, a6]
  have f6 : Cert.Reference9Ideal.Read.val_main_v168 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg8)) = G17 m c := by
    rw [a0, a1, a2, a3, a4, a5, a8]
  have f7 : Cert.Reference9Ideal.Read.val_main_v173 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg6)) (m' ((c.tc : Thread Cert.Reference9Ideal.nD Cert.Reference9Ideal.τ).loc Cert.Reference9Ideal.main_arg7)) (m' ((c.tc : Thread Cert.Reference9Ideal.nD Cert.Reference9Ideal.τ).loc Cert.Reference9Ideal.main_arg10)) (m' ((c.tc : Thread Cert.Reference9Ideal.nD Cert.Reference9Ideal.τ).loc Cert.Reference9Ideal.main_arg11)) = G18 m c := by
    rw [a0, a1, a2, a3, a4, a5, a6, a7, a10, a11]
  have f8 : Cert.Reference9Ideal.Read.val_main_v176 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9)) (m' ((c.tc : Thread Cert.Reference9Ideal.nD Cert.Reference9Ideal.τ).loc Cert.Reference9Ideal.main_arg10)) (m' ((c.tc : Thread Cert.Reference9Ideal.nD Cert.Reference9Ideal.τ).loc Cert.Reference9Ideal.main_arg11)) = G19 m c := by
    rw [a0, a1, a2, a3, a4, a5, a8, a9, a10, a11]
  have f9 : Cert.Reference9Ideal.Read.val_main_v179 (F := Ideal) (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1)) (m' ((c.tc : Thread Cert.Reference9Ideal.nD Cert.Reference9Ideal.τ).loc Cert.Reference9Ideal.main_arg2)) (m' ((c.tc : Thread Cert.Reference9Ideal.nD Cert.Reference9Ideal.τ).loc Cert.Reference9Ideal.main_arg3)) (m' ((c.tc : Thread Cert.Reference9Ideal.nD Cert.Reference9Ideal.τ).loc Cert.Reference9Ideal.main_arg4)) (m' ((c.tc : Thread Cert.Reference9Ideal.nD Cert.Reference9Ideal.τ).loc Cert.Reference9Ideal.main_arg5)) (m' ((c.tc : Thread Cert.Reference9Ideal.nD Cert.Reference9Ideal.τ).loc Cert.Reference9Ideal.main_arg8)) (m' ((c.tc : Thread Cert.Reference9Ideal.nD Cert.Reference9Ideal.τ).loc Cert.Reference9Ideal.main_arg9)) = G20 m c := by
    rw [a0, a1, a2, a3, a4, a5, a8, a9]
  refine ⟨e0.trans (f0.trans (arr11 m c).symm), e1.trans (f1.trans (arr12 m c).symm), e2.trans (f2.trans (arr13 m c).symm), e3.trans (f3.trans (arr14 m c).symm), e4.trans (f4.trans (arr15 m c).symm), e5.trans (f5.trans (arr16 m c).symm), e6.trans (f6.trans (arr17 m c).symm), e7.trans (f7.trans (arr18 m c).symm), e8.trans (f8.trans (arr19 m c).symm), e9.trans (f9.trans (arr20 m c).symm), hargs⟩

end Cert.Proof.PreClaim

end
-- ==== Proof.MatOut.lean ====
/- The weight's gradient: its blocks, summed over the two halves of the rows, and its result array. -/
module

public import proofs.«01_k».proof.Proof.HostStage
public import proofs.«01_k».proof.Proof.Gen.Kernel11Ideal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.MatOut

open Cert.Kernel11Ideal Cert.Kernel11Ideal.Gen

abbrev hostLine : List (HloOp τ sig (Elt Ideal)) := List.flatten [hostOps0]

/-- The buffers the host line writes, in order. -/
abbrev written : List (Ref sig .tc) := [main_v0, main_v1, main_v2, main_v3]

theorem writes : HostStage.Writes (τ := τ) hostLine written := rfl

variable (m : (ℓ : Loc nD τ sig) → Buf (Elt Ideal) ℓ) (c : Dev nD)

/-! The two arguments: the activations, and the cotangents of the rows after the product. -/

abbrev A0 : FVec Ideal S2x2048x4096 .f32 := m ((c.tc : Thread nD τ).loc main_arg0)
abbrev A1 : FVec Ideal S2x2048x1024 .f32 := m ((c.tc : Thread nD τ).loc main_arg1)

def h_v1 : FVec Ideal S4096x4096 .bf16 := V m c main_v1
def h_v3 : FVec Ideal S4096x1024 .bf16 := V m c main_v3

theorem s_v1 : h_v1 m c = truncf .bf16 (shapeCast S4096x4096 (A0 m c) shapeCasts_S2x2048x4096_S4096x4096) bitsLt_bf16_f32 := by
  have h := HostStage.unary (x := main_v0) (y := main_v1) writes (fun r => m (c, r)) 1 rfl (by decide +kernel) (by decide +kernel)
  have h' := HostStage.reshape (x := main_arg0) (y := main_v0) writes (fun r => m (c, r)) 0 rfl (by decide +kernel) (by decide +kernel)
  rw [h'] at h
  exact h

theorem s_v3 : h_v3 m c = truncf .bf16 (shapeCast S4096x1024 (A1 m c) shapeCasts_S2x2048x1024_S4096x1024) bitsLt_bf16_f32 := by
  have h := HostStage.unary (x := main_v2) (y := main_v3) writes (fun r => m (c, r)) 3 rfl (by decide +kernel) (by decide +kernel)
  have h' := HostStage.reshape (x := main_arg1) (y := main_v2) writes (fun r => m (c, r)) 2 rfl (by decide +kernel) (by decide +kernel)
  rw [h'] at h
  exact h

/-- Row `k` of example `s` among the rows of both. -/
def row (s : Fin 2) (k : Fin 2048) : Fin 4096 := ⟨s.val * 2048 + k.val, by omega⟩

theorem v1_at (s k i) : @Eq EReal (h_v1 m c (ix2 (row s k) i)) (A0 m c (ix3 s k i)) := by
  rw [s_v1]
  unfold row
  pointwise

theorem v3_at (s k j) : @Eq EReal (h_v3 m c (ix2 (row s k) j)) (A1 m c (ix3 s k j)) := by
  rw [s_v3]
  unfold row
  pointwise

theorem idx : ∀ t : Fin cfg0.N, (cfg0.win 0).index t = ![t.val % 2, t.val / 2] ∧ (cfg0.win 1).index t = ![t.val % 2, 0] := by decide +kernel

theorem idxo : ∀ t : Fin cfg0.N, (cfg0.win 2).index t = ![t.val / 2, 0] := by decide +kernel

theorem lt8 (t : Fin cfg0.N) : t.val < 8 := lt_of_lt_of_eq t.isLt N_0

variable (t : Fin cfg0.N)

/-- The example and the columns that a grid point takes. -/
def ex : Fin 2 := ⟨t.val % 2, by omega⟩
def ti (i : Fin 1024) : Fin 4096 := ⟨t.val / 2 * 1024 + i.val, by have := lt8 t; omega⟩

theorem w0 (k i) : @Eq EReal (iblk m c 0 t (ix2 k i)) (A0 m c (ix3 (ex t) k (ti t i))) := by
  refine Eq.trans ?_ (v1_at m c (ex t) k (ti t i))
  unfold h_v1 ex ti row
  blk_ext [iblk, idx t]

theorem w1 (k j) : @Eq EReal (iblk m c 1 t (ix2 k j)) (A1 m c (ix3 (ex t) k j)) := by
  refine Eq.trans ?_ (v3_at m c (ex t) k j)
  unfold h_v3 ex row
  blk_ext [iblk, idx t]

/-- One example's part of the product. -/
def part (s : Fin 2) (i : Fin 4096) (j : Fin 1024) : EReal := ∑ k : Fin 2048, A0 m c (ix3 s k i) * A1 m c (ix3 s k j)

theorem pay1_at (x0 x1 : FVec Ideal S2048x1024 .bf16) (i j) : @Eq EReal (k0_pay1 (F := Ideal) x0 x1 (ix2 i j)) (∑ k : Fin 2048, x0 (ix2 k i) * x1 (ix2 k j)) := by
  unfold k0_pay1
  pointwise

theorem pay1_blk (y : S1024x1024.Idx) : @Eq EReal (k0_pay1 (F := Ideal) (iblk m c 0 t) (iblk m c 1 t) y) (part m c (ex t) (ti t (y 0)) (y 1)) := by
  idx_vars y
  refine (pay1_at _ _ y0 y1).trans ?_
  simp only [w0, w1]
  rfl

theorem first (h0 : t.val % 2 = 0) (y : S1024x1024.Idx) : @Eq EReal ((outsAt0 m c t.val t.isLt).2 y) (part m c (ex t) (ti t (y 0)) (y 1)) := by
  rw [outsAt0_A m c t h0 (by omega) (by omega), ← pay1_blk]
  dsimp only
  frame_open
  simp (disch := decide) only [↓ View.readCov_skip, ↓ View.readCov_cons_toLoadRect, ↓ View.readCov_fill]
  frame_out
  unfold_payloads
  pointwise
  try rfl

theorem last (h1 : t.val % 2 = 1) (y : S1024x1024.Idx) : @Eq EReal ((outsAt0 m c t.val t.isLt).1 y)
    ((outsAt0 m c (t.val - 1) (lt_of_le_of_lt (Nat.sub_le _ _) t.isLt)).2 y + part m c (ex t) (ti t (y 0)) (y 1)) := by
  rw [outsAt0_B m c t (by omega) h1 h1, ← pay1_blk]
  dsimp only
  frame_open
  simp (disch := decide) only [↓ View.readCov_skip, ↓ View.readCov_cons_toLoadRect, ↓ View.readCov_fill]
  frame_out
  unfold_payloads
  pointwise
  simp only [read_unread_whole]

/-- The gradient as its whole array: the sum of the two examples' parts. -/
def M : FVec Ideal S4096x1024 .bf16 := fun i => (part m c 0 (i 0) (i 1) + part m c 1 (i 0) (i 1) : EReal)

theorem arr_grad : (dats m 0 c).arrAt 2 cfg0.N = M m c := by
  refine (dats m 0 c).arrAt_eq_of_covers 2 _ (by decide +kernel) fun t hf y => ?_
  have := lt8 t
  have h1 : t.val % 2 = 1 := (flush0_2 t).mp hf
  blk_simp
  rw [after0_2]
  idx_vars y
  have e : ((cfg0.win 2).blk t).view.emb (ix2 y0 y1) = ix2 (ti t y0) y1 := by
    unfold ti
    blk_ext [idxo t]
  refine (last m c t h1 _).trans ?_
  have h := first m c ⟨t.val - 1, by omega⟩ (by show (t.val - 1) % 2 = 0; omega) (ix2 y0 y1)
  refine (congrArg (· + part m c (ex t) (ti t y0) y1) h).trans ?_
  have e0 : ex ⟨t.val - 1, by omega⟩ = 0 := Fin.ext (by show (t.val - 1) % 2 = 0; omega)
  have e1 : ex t = 1 := Fin.ext h1
  have e2 : ti ⟨t.val - 1, by omega⟩ y0 = ti t y0 := Fin.ext (by show (t.val - 1) / 2 * 1024 + _ = t.val / 2 * 1024 + _; omega)
  rw [e0, e1]
  refine Eq.trans ?_ (congrArg (M m c) e).symm
  exact congrArg (fun q => part m c 0 q y1 + part m c 1 (ti t y0) y1) e2

end Cert.Proof.MatOut

end
-- ==== Proof.MatClaim.lean ====
/- The claims about the weight's gradient: the reference's frame, and the equality over the ideal numbers. -/
module

public import Idealize.ShloMosaic.Adequacy
public import Idealize.ShloMosaic.Init
public import proofs.«01_k».proof.Defs
public import proofs.«01_k».proof.Proof.MatOut
public import proofs.«01_k».proof.Proof.Gen.Reference11Ideal.Run
public import proofs.«01_k».proof.Proof.Gen.Reference11Ideal.Read

@[expose] public section

set_option maxRecDepth 16384

noncomputable section

open Idealize.ShloMosaic Idealize.ShloMosaic.TcCoe Idealize.SL.Sem

namespace Cert.Proof.MatClaim

open MatOut

/-- The reference's frame: a program of host operations declares no semaphore. -/
theorem ref_frame : Cert.quiescent_Reference11Ideal (hReference11Ideal := Cert.Reference11Ideal.Gen.facts) := fun m g _ =>
  (θ_run _ _ _).mono (fun r h => ⟨fun c => (h c).2, sem_eq_zero_of_no_sems rfl r.2⟩) (Cert.Reference11Ideal.Value.run (F := Ideal) m g)

section

open Cert.Reference11Ideal Cert.Reference11Ideal.Read

variable (x0 : FVec Ideal S2x2048x4096 .f32) (x1 : FVec Ideal S2x2048x1024 .f32)

/-- The reference's result: one sum over the rows of both examples. -/
theorem ref_at (i : Fin 4096) (j : Fin 1024) : @Eq EReal (val_main_v4 (F := Ideal) x0 x1 (ix2 i j))
    ((∑ k : Fin 2048, x0 (ix3 0 k i) * x1 (ix3 0 k j)) + ∑ k : Fin 2048, x0 (ix3 1 k i) * x1 (ix3 1 k j)) := by
  unfold val_main_v4 val_main_v3 val_main_v2
  pointwise
  simp only [Fin.sum_univ_two, mul_comm]

end

/-- The claim about the weight's gradient: no precondition. -/
theorem algebraic : Cert.algebraic_Kernel11Ideal_Reference11Ideal (hKernel11Ideal := Cert.Kernel11Ideal.Gen.facts)
    (hReference11Ideal := Cert.Reference11Ideal.Gen.facts) := by
  intro m g m' g' hpre hagree
  refine ⟨_, (θ_run _ _ _).mono (fun r h c => h c) (Cert.Kernel11Ideal.Value.run_blocks (F := Ideal) m g), ?_⟩
  refine (θ_run _ _ _).mono (fun r h c => ?_) (Cert.Reference11Ideal.Value.run (F := Ideal) m' g')
  obtain ⟨h0, hargs⟩ := h c
  obtain ⟨a0, a1⟩ := hagree c
  have h1 := h0.trans (Cert.Reference11Ideal.Read.val_main_v4_eq _ _)
  rw [a0, a1] at h1
  refine ⟨h1.trans ?_, hargs⟩
  refine Eq.trans ?_ (arr_grad m c).symm
  funext y
  idx_vars y
  exact ref_at _ _ y0 y1

end Cert.Proof.MatClaim

end
-- ==== Proof.RetFrame.lean ====
module

public import proofs.«01_k».proof.Defs
public import proofs.«01_k».proof.Proof.Gen.Kernel7
public import proofs.«01_k».proof.Proof.Gen.Kernel7Ideal.Frame
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import Idealize.ShloMosaic.Lib.Pipeline.FrameBody
public import Idealize.ShloMosaic.Lib.Tactic
public import Idealize.ShloMosaic.Lib.WordCmp
public import Idealize.ShloMosaic.Lib.Claim

/-! The run of the retention branch's backward body, over any float values. Nothing of what it stages or
computes is named: each of the seventeen staged blocks and each of the five scratch buffers is held at some
contents before the body and at some contents after it. What is left is what a frame needs: every access in
bounds, every loop ended, the arguments untouched, the counters back at zero. -/

@[expose] public section

set_option maxRecDepth 16384

noncomputable section

namespace Cert.Proof.RetFrame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat BodyObligation)
open Cert.Kernel7Ideal Cert.Kernel7Ideal.Gen

variable {F : FTy → Type} [FloatOps F]

/-- The resources of the run. -/
abbrev Res (F : FTy → Type) [FloatOps F] : Type := MT nD τ sig Unit (Elt F) ℕ (UR sig nD τ) ℕ

/-- A block held whole, at contents nothing names. -/
def held {sp : Space} {sh : Shape} {e : EltTy} (c : Dev nD) (r : Memref sig .tc sp sh e) : sProp (Res F) :=
  iprop(∃ d, owns (c : Thread nD τ) r fullShare d)

set_option maxHeartbeats 1000000 in
/-- The body from held blocks to held blocks. -/
theorem body_run (c : Dev nD) (i : grid0.Coords)
    (arg2 : Memref sig .tc .vmem S2048x128 .bf16) (harg2 : arg2.IsWhole) (arg3 : Memref sig .tc .vmem S2048x128
    .bf16) (harg3 : arg3.IsWhole) (arg4 : Memref sig .tc .vmem S2048x256 .bf16) (harg4 : arg4.IsWhole) (arg5 :
    Memref sig .tc .vmem S256x128 .bf16) (harg5 : arg5.IsWhole) (arg6 : Memref sig .tc .vmem S256x256 .bf16)
    (harg6 : arg6.IsWhole) (arg7 : Memref sig .tc .vmem S2048x256 .f32) (harg7 : arg7.IsWhole) (arg8 : Memref sig
    .tc .vmem S2048x256 .f32) (harg8 : arg8.IsWhole) (arg9 : Memref sig .tc .vmem S2048x256 .bf16) (harg9 :
    arg9.IsWhole) (arg10 : Memref sig .tc .smem S2x4 .f32) (harg10 : arg10.IsWhole) (arg11 : Memref sig .tc .vmem
    S1x256 .f32) (harg11 : arg11.IsWhole) (arg12 : Memref sig .tc .vmem S2048x128 .bf16) (harg12 : arg12.IsWhole)
    (arg13 : Memref sig .tc .vmem S2048x128 .bf16) (harg13 : arg13.IsWhole) (arg14 : Memref sig .tc .vmem
    S2048x256 .bf16) (harg14 : arg14.IsWhole) (arg15 : Memref sig .tc .vmem S256x128 .f32) (harg15 :
    arg15.IsWhole) (arg16 : Memref sig .tc .vmem S256x256 .f32) (harg16 : arg16.IsWhole) (arg17 : Memref sig .tc
    .vmem S2048x256 .bf16) (harg17 : arg17.IsWhole) (arg18 : Memref sig .tc .vmem S1x8x256 .f32) (harg18 :
    arg18.IsWhole) (arg19 : Memref sig .tc .vmem S2048x256 .f32) (harg19 : arg19.IsWhole) (arg20 : Memref sig .tc
    .vmem S4x8x128x128 .f32) (harg20 : arg20.IsWhole) (arg21 : Memref sig .tc .vmem S2048x128 .f32) (harg21 :
    arg21.IsWhole) (arg22 : Memref sig .tc .vmem S2048x128 .f32) (harg22 : arg22.IsWhole) (arg23 : Memref sig .tc
    .vmem S2048x256 .f32) (harg23 : arg23.IsWhole)
    (E : Set ℕ) (K : PUnit → sProp (Res F)) :
    iprop(held c arg2 ∗ held c arg3 ∗ held c arg4 ∗ held c arg5 ∗ held c arg6 ∗ held c arg7 ∗ held c arg8 ∗ held c arg9
        ∗ held c arg10 ∗ held c arg11 ∗ held c arg12 ∗ held c arg13 ∗ held c arg14 ∗ held c arg15 ∗ held c arg16 ∗
        held c arg17 ∗ held c arg18 ∗ held c arg19 ∗ held c arg20 ∗ held c arg21 ∗ held c arg22 ∗ held c arg23
      ∗ (iprop(held c arg2 ∗ held c arg3 ∗ held c arg4 ∗ held c arg5 ∗ held c arg6 ∗ held c arg7 ∗ held c arg8 ∗ held c arg9
        ∗ held c arg10 ∗ held c arg11 ∗ held c arg12 ∗ held c arg13 ∗ held c arg14 ∗ held c arg15 ∗ held c arg16 ∗
        held c arg17 ∗ held c arg18 ∗ held c arg19 ∗ held c arg20 ∗ held c arg21 ∗ held c arg22 ∗ held c arg23) -∗ K ⟨⟩))
      ⊢ wp frame (wpE (defs₀ (F := F)) Variants.none c none) E
        (cc0_ret_bwd i arg2 harg2 arg3 harg3 arg4 harg4 arg5 harg5 arg6 harg6 arg7 harg7 arg8 harg8 arg9 harg9 arg10 harg10 arg11
          harg11 arg12 harg12 arg13 harg13 arg14 harg14 arg15 harg15 arg16 harg16 arg17 harg17 arg18 harg18 arg19 harg19
          arg20 harg20 arg21 harg21 arg22 harg22 arg23 harg23) K := by
  simp only [cc0_ret_bwd_eq_skeleton]; unfold cc0_ret_bwd_skel
  simp only [k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton]
  unfold held owns
  iintro ⟨⟨%d2, %f2, -, H2⟩, ⟨%d3, %f3, -, H3⟩, ⟨%d4, %f4, -, H4⟩, ⟨%d5, %f5, -, H5⟩, ⟨%d6, %f6, -, H6⟩, ⟨%d7, %f7, -,
    H7⟩, ⟨%d8, %f8, -, H8⟩, ⟨%d9, %f9, -, H9⟩, ⟨%d10, %f10, -, H10⟩, ⟨%d11, %f11, -, H11⟩, ⟨%d12, %f12, -, H12⟩,
    ⟨%d13, %f13, -, H13⟩, ⟨%d14, %f14, -, H14⟩, ⟨%d15, %f15, -, H15⟩, ⟨%d16, %f16, -, H16⟩, ⟨%d17, %f17, -, H17⟩,
    ⟨%d18, %f18, -, H18⟩, ⟨%d19, %f19, -, H19⟩, ⟨%d20, %f20, -, H20⟩, ⟨%d21, %f21, -, H21⟩, ⟨%d22, %f22, -, H22⟩,
    ⟨%d23, %f23, -, H23⟩, Hk⟩
  sl_exec
  sl_step
  iapply Hk
  isplitl [H2]; · (iexists _, _; isplitr; swap; (· iexact H2); ipureintro; rfl)
  isplitl [H3]; · (iexists _, _; isplitr; swap; (· iexact H3); ipureintro; rfl)
  isplitl [H4]; · (iexists _, _; isplitr; swap; (· iexact H4); ipureintro; rfl)
  isplitl [H5]; · (iexists _, _; isplitr; swap; (· iexact H5); ipureintro; rfl)
  isplitl [H6]; · (iexists _, _; isplitr; swap; (· iexact H6); ipureintro; rfl)
  isplitl [H7]; · (iexists _, _; isplitr; swap; (· iexact H7); ipureintro; rfl)
  isplitl [H8]; · (iexists _, _; isplitr; swap; (· iexact H8); ipureintro; rfl)
  isplitl [H9]; · (iexists _, _; isplitr; swap; (· iexact H9); ipureintro; rfl)
  isplitl [H10]; · (iexists _, _; isplitr; swap; (· iexact H10); ipureintro; rfl)
  isplitl [H11]; · (iexists _, _; isplitr; swap; (· iexact H11); ipureintro; rfl)
  isplitl [H12]; · (iexists _, _; isplitr; swap; (· iexact H12); ipureintro; rfl)
  isplitl [H13]; · (iexists _, _; isplitr; swap; (· iexact H13); ipureintro; rfl)
  isplitl [H14]; · (iexists _, _; isplitr; swap; (· iexact H14); ipureintro; rfl)
  isplitl [H15]; · (iexists _, _; isplitr; swap; (· iexact H15); ipureintro; rfl)
  isplitl [H16]; · (iexists _, _; isplitr; swap; (· iexact H16); ipureintro; rfl)
  isplitl [H17]; · (iexists _, _; isplitr; swap; (· iexact H17); ipureintro; rfl)
  isplitl [H18]; · (iexists _, _; isplitr; swap; (· iexact H18); ipureintro; rfl)
  isplitl [H19]; · (iexists _, _; isplitr; swap; (· iexact H19); ipureintro; rfl)
  isplitl [H20]; · (iexists _, _; isplitr; swap; (· iexact H20); ipureintro; rfl)
  isplitl [H21]; · (iexists _, _; isplitr; swap; (· iexact H21); ipureintro; rfl)
  isplitl [H22]; · (iexists _, _; isplitr; swap; (· iexact H22); ipureintro; rfl)
  iexists _, _; isplitr; swap; (· iexact H23)
  ipureintro; rfl

variable (m : (ℓ : Loc nD τ sig) → Buf (Elt F) ℓ) (ρ : Dev nD → PrngReg)

/-- Every window is left unnamed. -/
def unnamed : Fin 17 → Bool := fun _ => true

/-- The pipeline's data: the arrays as the region finds them, the windows' contents at no particular value. -/
def dats (_ : Fin 1) (c : Dev nD) : Dat τ (Elt F) Unit ℕ (UR sig nD τ) ℕ cfg0 c where
  A w := V m c (Pipeline.arrRef spec0 w)
  after w t := Dat.unnamed (cfg := cfg0) w t
  Φ _ := Pipeline.ΦA spec0 c
  q w := Pipeline.shareOf spec0 w
  owed _ := 0

theorem dats_A (c : Dev nD) (w : Fin cfg0.W) : (dats m 0 c).A w = V m c (Pipeline.arrRef spec0 w) := by
  dsimp only [dats]

/-- The invariant between points is the scratch, held, and the generator's register. -/
theorem inv_eq (c : Dev nD) : (Pipeline.ΦA spec0 c : sProp (Res F))
    = iprop(iprop(held c (Memref.whole cc0_scratch0) ∗ held c (Memref.whole cc0_scratch1) ∗ held c (Memref.whole cc0_scratch2)
        ∗ held c (Memref.whole cc0_scratch3) ∗ held c (Memref.whole cc0_scratch4)) ∗ (∃ r, prngReg c r)) := by
  unfold Pipeline.ΦA held; rw [scopedRest0_eq]; simp only [owns_whole]; try rfl

/-- What a point starts from and ends with. -/
def held_all (c : Dev nD) (t : Fin cfg0.N) : sProp (Res F) :=
  iprop(Pipeline.ΦA spec0 c ∗ (dats m 0 c).owesAt () t.castSucc
    ∗ held c (win0_0.stage (cfg0.slots t 0))
    ∗ held c (win0_1.stage (cfg0.slots t 1))
    ∗ held c (win0_2.stage (cfg0.slots t 2))
    ∗ held c (win0_3.stage (cfg0.slots t 3))
    ∗ held c (win0_4.stage (cfg0.slots t 4))
    ∗ held c (win0_5.stage (cfg0.slots t 5))
    ∗ held c (win0_6.stage (cfg0.slots t 6))
    ∗ held c (win0_7.stage (cfg0.slots t 7))
    ∗ held c (win0_8.stage (cfg0.slots t 8))
    ∗ held c (win0_9.stage (cfg0.slots t 9))
    ∗ held c (win0_10.stage (cfg0.slots t 10))
    ∗ held c (win0_11.stage (cfg0.slots t 11))
    ∗ held c (win0_12.stage (cfg0.slots t 12))
    ∗ held c (win0_13.stage (cfg0.slots t 13))
    ∗ held c (win0_14.stage (cfg0.slots t 14))
    ∗ held c (win0_15.stage (cfg0.slots t 15))
    ∗ held c (win0_16.stage (cfg0.slots t 16)))

set_option maxHeartbeats 2000000 in
theorem point_run (c : Dev nD) (t : Fin cfg0.N) : held_all m c t
    ⊢ wp frame (wpE (defs₀ (F := F)) Variants.none c none) Set.univ (bodyAt0 t) (fun _ => held_all m c t) := by
  unfold held_all bodyAt0
  rw [inv_eq]
  iintro ⟨⟨⟨H19, H20, H21, H22, H23⟩, Hg⟩, Ho, H2, H3, H4, H5, H6, H7, H8, H9, H10, H11, H12, H13, H14, H15, H16, H17, H18⟩
  iapply (body_run c (grid0.coords t) _ _ _ _ _ _ _ _ _ _ _ _ _ _ _ _ _ _ _ _ _ _ _ _ _ _ _ _ _ _ _ _ _ _ _ _ _ _ _ _ _ _ _ _ Set.univ _)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iintro ⟨H2, H3, H4, H5, H6, H7, H8, H9, H10, H11, H12, H13, H14, H15, H16, H17, H18, H19, H20, H21, H22, H23⟩
  isplitl [H19 H20 H21 H22 H23 Hg]
  · isplitr [Hg]; swap; · iexact Hg
    isplitl [H19]; · iexact H19
    isplitl [H20]; · iexact H20
    isplitl [H21]; · iexact H21
    isplitl [H22]; · iexact H22
    iexact H23
  isplitl [Ho]; · iexact Ho
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_table (t : Fin cfg0.N) : defs₀ (F := F) .tc cfg0.body (cfg0.bodyArgs t (cfg0.slots t)) = bodyAt0 t := by
  unfold defs₀; rw [Defs.onTc_tc]

theorem obligation (c : Dev nD) :
    BodyObligation (dats (F := F) m 0 c) (defs₀ (F := F)) Variants.none () Set.univ unnamed := fun t => by
  rw [bigSep_W0, bigSep_W0, body_table]
  dsimp only [unnamed]
  have h := point_run m c t
  unfold held_all held at h
  refine triple_restated h rfl ?_ fun _ => ?_
  · exact .rfl
  · exact .rfl

set_option backward.isDefEq.respectTransparency.types false in
/-- The launch: the arrays outside the windows keep their contents, and the counters end at zero. -/
theorem launch : θ_run defs (onTc (τ := τ) (main (F := F))) (s₀ m ρ) (fun r =>
    RDat.FramePost (cfgs 0) (fun c => (dats m 0 c).toRForget unnamed) (V m) r ∧ r.2.sem = fun _ => 0) :=
  Pipeline.θ_run_frame_forget_shared (Q' := _) cfgs (dats m) (0 : Fin 1) launch₀0 defs₀ Variants.none unnamed m ρ main
    (hbody := fun c => (obligation m c).loose) (hq := fun _ _ _ => rfl) (howed := fun _ _ => rfl) (V := V m)
    (hmain := hmain m Variants.none) (hA := dats_A m) (hΦ := fun _ _ => rfl)

/-- The frame, over any float values: no window stages an argument, so each ends as launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => by
    have kept : ∀ b : Ref sig .tc, V m c b = m ((c : Thread nD τ).loc b) → b ∈ Pipeline.restRefs sig spec0 →
        r.2.mem ((c.tc : Thread nD τ).loc b) = m ((c.tc : Thread nD τ).loc b) :=
      fun b hV hb => ((h.1 c).2 b hb).trans hV
    exact ⟨kept main_arg0 (V_main_arg0 m c) (Pipeline.mem_restRefs_of main_arg0 (by decide) (by decide)),
      kept main_arg1 (V_main_arg1 m c) (Pipeline.mem_restRefs_of main_arg1 (by decide) (by decide)),
      kept main_arg2 (V_main_arg2 m c) (Pipeline.mem_restRefs_of main_arg2 (by decide) (by decide)),
      kept main_arg3 (V_main_arg3 m c) (Pipeline.mem_restRefs_of main_arg3 (by decide) (by decide)),
      kept main_arg4 (V_main_arg4 m c) (Pipeline.mem_restRefs_of main_arg4 (by decide) (by decide)),
      kept main_arg5 (V_main_arg5 m c) (Pipeline.mem_restRefs_of main_arg5 (by decide) (by decide)),
      kept main_arg6 (V_main_arg6 m c) (Pipeline.mem_restRefs_of main_arg6 (by decide) (by decide)),
      kept main_arg7 (V_main_arg7 m c) (Pipeline.mem_restRefs_of main_arg7 (by decide) (by decide)),
      kept main_arg8 (V_main_arg8 m c) (Pipeline.mem_restRefs_of main_arg8 (by decide) (by decide)),
      kept main_arg9 (V_main_arg9 m c) (Pipeline.mem_restRefs_of main_arg9 (by decide) (by decide))⟩, h.2⟩)
    (launch m ρ)

/-- The kernel's frame: its text is its idealization's, read at the machine's values. -/
theorem frame_kernel : Cert.quiescent_Kernel7 := fun m ρ _ => by
  have h := frame (F := Bits) m ρ
  refine Eq.mp ?_ h
  sl_kernel_rfl

end Cert.Proof.RetFrame

end
-- ==== Proof.HalfClaim.lean ====
/- The sum of a gradient's half and the half received: the kernel, the reference, the claims. -/
module

public import Idealize.ShloMosaic.Adequacy
public import Idealize.ShloMosaic.Init
public import proofs.«01_k».proof.Defs
public import proofs.«01_k».proof.Proof.HostStage
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.HalfClaim

section

open Cert.Kernel12Ideal Cert.Kernel12Ideal.Gen

abbrev hostLine : List (HloOp τ sig (Elt Ideal)) := List.flatten [hostOps0]

/-- The buffers the host line writes, in order. -/
abbrev written : List (Ref sig .tc) := [main_v0, main_v1, main_v2]

theorem writes : HostStage.Writes (τ := τ) hostLine written := rfl

variable (m : (ℓ : Loc nD τ sig) → Buf (Elt Ideal) ℓ) (c : Dev nD)

/-! The two arguments: this device's gradient, and the half received. -/

abbrev A0 : FVec Ideal S4x1024x1024 .f32 := m ((c.tc : Thread nD τ).loc main_arg0)
abbrev A1 : FVec Ideal S4x512x1024 .f32 := m ((c.tc : Thread nD τ).loc main_arg1)

def h_v2 : FVec Ideal S4x2x512x1024 .bf16 := V m c main_v2
def h_v1 : FVec Ideal S4x512x1024 .bf16 := V m c main_v1

theorem s_v2 : h_v2 m c = shapeCast S4x2x512x1024 (truncf .bf16 (A0 m c) bitsLt_bf16_f32) shapeCasts_S4x1024x1024_S4x2x512x1024 := by
  have h := HostStage.reshape (x := main_v0) (y := main_v2) writes (fun r => m (c, r)) 2 rfl (by decide +kernel) (by decide +kernel)
  have h' := HostStage.unary (x := main_arg0) (y := main_v0) writes (fun r => m (c, r)) 0 rfl (by decide +kernel) (by decide +kernel)
  rw [h'] at h
  exact h

theorem s_v1 : h_v1 m c = truncf .bf16 (A1 m c) bitsLt_bf16_f32 := by
  have h := HostStage.unary (x := main_arg1) (y := main_v1) writes (fun r => m (c, r)) 1 rfl (by decide +kernel) (by decide +kernel)
  exact h

/-- A row of the first half among the rows of both. -/
def row (i : Fin 512) : Fin 1024 := ⟨i.val, by omega⟩

theorem v2_at (s i j) : @Eq EReal (h_v2 m c (ix4 s 0 i j)) (A0 m c (ix3 s (row i) j)) := by
  rw [s_v2]
  unfold row
  pointwise
  try simp

theorem idx : ∀ t : Fin cfg0.N, (cfg0.win 0).index t = ![t.val, 0, 0, 0] ∧ (cfg0.win 1).index t = ![t.val, 0, 0] ∧ (cfg0.win 2).index t = ![t.val, 0, 0] := by decide +kernel

theorem lt4 (t : Fin cfg0.N) : t.val < 4 := lt_of_lt_of_eq t.isLt N_0

variable (t : Fin cfg0.N)

/-- The part that a grid point takes. -/
def ts : Fin 4 := ⟨t.val, lt4 t⟩

theorem w0 (i j) : @Eq EReal (iblk m c 0 t (ix4 0 0 i j)) (A0 m c (ix3 (ts t) (row i) j)) := by
  refine Eq.trans ?_ (v2_at m c (ts t) i j)
  unfold h_v2 ts
  blk_ext [iblk, idx t]

theorem w1 (i j) : @Eq EReal (iblk m c 1 t (ix3 0 i j)) (A1 m c (ix3 (ts t) i j)) := by
  refine Eq.trans ?_ (congrFun (s_v1 m c) (ix3 (ts t) i j))
  unfold h_v1 ts
  blk_ext [iblk, idx t]

theorem pay_at (x0 : FVec Ideal S1x1x512x1024 .bf16) (x1 : FVec Ideal S1x512x1024 .bf16) (i j) :
    @Eq EReal (out0_2 (F := Ideal) x0 x1 (ix3 0 i j)) (x0 (ix4 0 0 i j) + x1 (ix3 0 i j)) := by
  unfold out0_2
  rw [View.canon_cons_unit_lit _ _ _ (by decide), View.ld_unit_lit _ _ (by decide), View.ld_unit_lit _ _ (by decide)]
  unfold k0_pay1
  pointwise

/-- The sum as its whole array. -/
def M : FVec Ideal S4x512x1024 .bf16 := fun i => (A0 m c (ix3 (i 0) (row (i 1)) (i 2)) + A1 m c (ix3 (i 0) (i 1) (i 2)) : EReal)

theorem arr : (dats m 0 c).arrAt 2 cfg0.N = M m c := by
  refine (dats m 0 c).arrAt_eq_of_covers 2 _ (by decide +kernel) fun t hf y => ?_
  have := lt4 t
  blk_simp
  rw [after0_2]
  idx_vars y
  have h0 : y0 = 0 := Subsingleton.elim _ _
  subst h0
  have e : ((cfg0.win 2).blk t).view.emb (ix3 0 y1 y2) = ix3 (ts t) y1 y2 := by
    unfold ts
    blk_ext [idx t]
  refine (pay_at _ _ y1 y2).trans ?_
  rw [w0, w1]
  exact (congrArg (M m c) e).symm

end

section

open Cert.Reference12Ideal Cert.Reference12Ideal.Read

theorem ref_at (x0 : FVec Ideal S4x1024x1024 .f32) (x1 : FVec Ideal S4x512x1024 .f32) (s i j) :
    @Eq EReal (val_main_v2 (F := Ideal) x0 x1 (ix3 s i j)) (x0 (ix3 s (row i) j) + x1 (ix3 s i j)) := by
  unfold val_main_v2 val_main_v1 val_main_v0 row
  pointwise

end

/-- The reference's frame: a program of host operations declares no semaphore. -/
theorem ref_frame : Cert.quiescent_Reference12Ideal (hReference12Ideal := Cert.Reference12Ideal.Gen.facts) := fun m g _ =>
  (θ_run _ _ _).mono (fun r h => ⟨fun c => (h c).2, sem_eq_zero_of_no_sems rfl r.2⟩) (Cert.Reference12Ideal.Value.run (F := Ideal) m g)

/-- The equality over the ideal numbers: no precondition. -/
theorem algebraic : Cert.algebraic_Kernel12Ideal_Reference12Ideal (hKernel12Ideal := Cert.Kernel12Ideal.Gen.facts)
    (hReference12Ideal := Cert.Reference12Ideal.Gen.facts) := by
  intro m g m' g' hpre hagree
  refine ⟨_, (θ_run _ _ _).mono (fun r h c => h c) (Cert.Kernel12Ideal.Value.run_blocks (F := Ideal) m g), ?_⟩
  refine (θ_run _ _ _).mono (fun r h c => ?_) (Cert.Reference12Ideal.Value.run (F := Ideal) m' g')
  obtain ⟨h0, hargs⟩ := h c
  obtain ⟨a0, a1⟩ := hagree c
  have h1 := h0.trans (Cert.Reference12Ideal.Read.val_main_v2_eq _ _)
  rw [a0, a1] at h1
  refine ⟨h1.trans ?_, hargs⟩
  refine Eq.trans ?_ (arr m c).symm
  funext y
  idx_vars y
  exact ref_at _ _ y0 y1 y2

end Cert.Proof.HalfClaim

end
-- ==== Proof.ChipClaim.lean ====
/- The sum over the chips' parts: the kernel, the reference, the claims. -/
module

public import Idealize.ShloMosaic.Adequacy
public import Idealize.ShloMosaic.Init
public import proofs.«01_k».proof.Defs
public import proofs.«01_k».proof.Proof.HostStage
public import proofs.«01_k».proof.Proof.Gen.Kernel13Ideal.Value
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.Proof.ChipClaim

section

open Cert.Kernel13Ideal Cert.Kernel13Ideal.Gen

abbrev hostLine : List (HloOp τ sig (Elt Ideal)) := List.flatten [hostOps0]

/-- The buffers the host line writes, in order. -/
abbrev written : List (Ref sig .tc) := [main_v0, main_v1]

theorem writes : HostStage.Writes (τ := τ) hostLine written := rfl

variable (m : (ℓ : Loc nD τ sig) → Buf (Elt Ideal) ℓ) (c : Dev nD)

/-! The two arguments: this device's parts, and the parts that landed. -/

abbrev A0 : FVec Ideal S4x512x1024 .f32 := m ((c.tc : Thread nD τ).loc main_arg0)
abbrev A1 : FVec Ideal S3x512x1024 .f32 := m ((c.tc : Thread nD τ).loc main_arg1)

def h_v0 : FVec Ideal S4x512x1024 .bf16 := V m c main_v0
def h_v1 : FVec Ideal S3x512x1024 .bf16 := V m c main_v1

theorem s_v0 : h_v0 m c = truncf .bf16 (A0 m c) bitsLt_bf16_f32 := by
  have h := HostStage.unary (x := main_arg0) (y := main_v0) writes (fun r => m (c, r)) 0 rfl (by decide +kernel) (by decide +kernel)
  exact h

theorem s_v1 : h_v1 m c = truncf .bf16 (A1 m c) bitsLt_bf16_f32 := by
  have h := HostStage.unary (x := main_arg1) (y := main_v1) writes (fun r => m (c, r)) 1 rfl (by decide +kernel) (by decide +kernel)
  exact h

theorem idx : ∀ t : Fin cfg0.N, (cfg0.win 0).index t = ![0, t.val, 0] ∧ (cfg0.win 1).index t = ![0, t.val, 0] ∧ (cfg0.win 2).index t = ![t.val, 0] := by decide +kernel

theorem lt2 (t : Fin cfg0.N) : t.val < 2 := lt_of_lt_of_eq t.isLt N_0

variable (t : Fin cfg0.N)

/-- The rows that a grid point takes. -/
def ti (i : Fin 256) : Fin 512 := ⟨t.val * 256 + i.val, by have := lt2 t; omega⟩

theorem w0 (i j) : @Eq EReal (iblk m c 0 t (ix3 0 i j)) (A0 m c (ix3 0 (ti t i) j)) := by
  refine Eq.trans ?_ (congrFun (s_v0 m c) (ix3 0 (ti t i) j))
  unfold h_v0 ti
  blk_ext [iblk, idx t]

theorem w1 (k i j) : @Eq EReal (iblk m c 1 t (ix3 k i j)) (A1 m c (ix3 k (ti t i) j)) := by
  refine Eq.trans ?_ (congrFun (s_v1 m c) (ix3 k (ti t i) j))
  unfold h_v1 ti
  blk_ext [iblk, idx t]

theorem pay_at (x0 : FVec Ideal S1x256x1024 .bf16) (x1 : FVec Ideal S3x256x1024 .bf16) (i j) :
    @Eq EReal (out0_2 (F := Ideal) x0 x1 (ix2 i j)) (x0 (ix3 0 i j) + ∑ k : Fin 3, x1 (ix3 k i j)) := by
  unfold out0_2
  rw [View.canon_cons_unit_lit _ _ _ (by decide), View.ld_unit_lit _ _ (by decide)]
  unfold k0_pay1
  pointwise
  rw [Fin.sum_univ_three, ← add_assoc, ← add_assoc]

/-- The sum as its whole array. -/
def M : FVec Ideal S512x1024 .f32 := fun i => (A0 m c (ix3 0 (i 0) (i 1)) + ∑ k : Fin 3, A1 m c (ix3 k (i 0) (i 1)) : EReal)

theorem arr : (dats m 0 c).arrAt 2 cfg0.N = M m c := by
  refine (dats m 0 c).arrAt_eq_of_covers 2 _ (by decide +kernel) fun t hf y => ?_
  have := lt2 t
  blk_simp
  rw [after0_2]
  idx_vars y
  have e : ((cfg0.win 2).blk t).view.emb (ix2 y0 y1) = ix2 (ti t y0) y1 := by
    unfold ti
    blk_ext [idx t]
  refine (pay_at _ _ y0 y1).trans ?_
  simp only [w0, w1]
  exact (congrArg (M m c) e).symm

end

section

open Cert.Reference13Ideal Cert.Reference13Ideal.Read

theorem ref_at (x0 : FVec Ideal S4x512x1024 .f32) (x1 : FVec Ideal S3x512x1024 .f32) (i j) :
    @Eq EReal (val_main_v3 (F := Ideal) x0 x1 (ix2 i j)) (x0 (ix3 0 i j) + ∑ k : Fin 3, x1 (ix3 k i j)) := by
  unfold val_main_v3 val_main_v2 val_main_v1 val_main_v0 val_main_cst
  pointwise
  try simp

end

/-- The reference's frame: a program of host operations declares no semaphore. -/
theorem ref_frame : Cert.quiescent_Reference13Ideal (hReference13Ideal := Cert.Reference13Ideal.Gen.facts) := fun m g _ =>
  (θ_run _ _ _).mono (fun r h => ⟨fun c => (h c).2, sem_eq_zero_of_no_sems rfl r.2⟩) (Cert.Reference13Ideal.Value.run (F := Ideal) m g)

/-- The equality over the ideal numbers: no precondition. -/
theorem algebraic : Cert.algebraic_Kernel13Ideal_Reference13Ideal (hKernel13Ideal := Cert.Kernel13Ideal.Gen.facts)
    (hReference13Ideal := Cert.Reference13Ideal.Gen.facts) := by
  intro m g m' g' hpre hagree
  refine ⟨_, (θ_run _ _ _).mono (fun r h c => h c) (Cert.Kernel13Ideal.Value.run_blocks (F := Ideal) m g), ?_⟩
  refine (θ_run _ _ _).mono (fun r h c => ?_) (Cert.Reference13Ideal.Value.run (F := Ideal) m' g')
  obtain ⟨h0, hargs⟩ := h c
  obtain ⟨a0, a1⟩ := hagree c
  have h1 := h0.trans (Cert.Reference13Ideal.Read.val_main_v3_eq _ _)
  rw [a0, a1] at h1
  refine ⟨h1.trans ?_, hargs⟩
  refine Eq.trans ?_ (arr m c).symm
  funext y
  idx_vars y
  exact ref_at _ _ y0 y1

end Cert.Proof.ChipClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_attention_finite
public import proofs.«01_k».proof.Proof.Gen.Pre_heads_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.DecayClaim
public import proofs.«01_k».proof.Proof.MlaClaim
public import proofs.«01_k».proof.Proof.FwdClaim
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_block_finite
public import proofs.«01_k».proof.Proof.PostClaim
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Loops
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Loops
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.ModClaim
public import proofs.«01_k».proof.Proof.CondClaim
public import proofs.«01_k».proof.Proof.PreClaim
public import proofs.«01_k».proof.Proof.MatClaim
public import proofs.«01_k».proof.Proof.RetFrame
public import proofs.«01_k».proof.Proof.HalfClaim
public import proofs.«01_k».proof.Proof.ChipClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Pre_attention_finite.Gen.facts, Cert.Pre_heads_finite.Gen.facts, Cert.Pre_block_finite.Gen.facts,
  fun m ρ _ => Cert.Kernel.Gen.frame m ρ, fun m ρ _ => Cert.KernelIdeal.Gen.frame m ρ, Decay.ref_frame,
  fun m ρ _ => Cert.Kernel2.Gen.frame m ρ, fun m ρ _ => Cert.Kernel2Ideal.Gen.frame m ρ, fun m ρ _ => Cert.Kernel2Ideal.Gen.frame m ρ,
  MlaClaim.ref_frame, fun m g _ => MlaClaim.ref_frame m g trivial,
  fun m ρ _ => Cert.Kernel3.Gen.frame m ρ, fun m ρ _ => Cert.Kernel3Ideal.Gen.frame m ρ, fun m ρ _ => Cert.Kernel3Ideal.Gen.frame m ρ,
  FwdClaim.ref_frame, fun m g _ => FwdClaim.ref_frame m g trivial,
  fun m ρ _ => Cert.Kernel4.Gen.frame m ρ, fun m ρ _ => Cert.Kernel4Ideal.Gen.frame m ρ, fun m ρ _ => Cert.Kernel4Ideal.Gen.frame m ρ,
  PostClaim.ref_frame, fun m g _ => PostClaim.ref_frame m g trivial,
  fun m ρ _ => Cert.Kernel5.Gen.frame m ρ, fun m ρ _ => Cert.Kernel5Ideal.Gen.frame m ρ, ModClaim.ref_frame,
  RetFrame.frame_kernel, fun m ρ _ => RetFrame.frame m ρ,
  fun m ρ _ => Cert.Kernel8.Gen.frame m ρ, fun m ρ _ => Cert.Kernel8Ideal.Gen.frame m ρ, CondClaim.ref_frame,
  fun m ρ _ => Cert.Kernel9.Gen.frame m ρ, fun m ρ _ => Cert.Kernel9Ideal.Gen.frame m ρ, PreClaim.ref_frame,
  fun m ρ _ => Cert.Kernel10.Gen.frame m ρ, fun m ρ _ => Cert.Kernel10Ideal.Gen.frame m ρ,
  fun m ρ _ => Cert.Kernel11.Gen.frame m ρ, fun m ρ _ => Cert.Kernel11Ideal.Gen.frame m ρ, MatClaim.ref_frame,
  fun m ρ _ => Cert.Kernel12.Gen.frame m ρ, fun m ρ _ => Cert.Kernel12Ideal.Gen.frame m ρ, HalfClaim.ref_frame,
  fun m ρ _ => Cert.Kernel13.Gen.frame m ρ, fun m ρ _ => Cert.Kernel13Ideal.Gen.frame m ρ, ChipClaim.ref_frame,
  trivial, Decay.algebraic, trivial, MlaClaim.algebraic, trivial, FwdClaim.algebraic,
  trivial, PostClaim.algebraic, trivial, ModClaim.algebraic, trivial, trivial, CondClaim.algebraic, trivial, PreClaim.algebraic, trivial, trivial, MatClaim.algebraic, trivial, HalfClaim.algebraic, trivial, ChipClaim.algebraic⟩

end Cert.Proof

end
